-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptRefIdeal (m : (ℓ : Loc Cert.PromptRefIdeal.nD Cert.PromptRefIdeal.τ Cert.PromptRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Short (m : (ℓ : Loc Cert.Short.nD Cert.Short.τ Cert.Short.sig) → Buf (Elt Bits) ℓ) : Prop :=
  True

def Pre_ShortIdeal (m : (ℓ : Loc Cert.ShortIdeal.nD Cert.ShortIdeal.τ Cert.ShortIdeal.sig) → Buf (Elt Ideal) ℓ) : Prop :=
  True

def Pre_ShortRefIdeal (m : (ℓ : Loc Cert.ShortRefIdeal.nD Cert.ShortRefIdeal.τ Cert.ShortRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11)
      ∧ r.2.mem ((c.tc : Thread Cert.TailRefIdeal.nD Cert.TailRefIdeal.τ).loc Cert.TailRefIdeal.main_arg12) = m ((c.tc : Thread Cert.TailRefIdeal.nD Cert.TailRefIdeal.τ).loc Cert.TailRefIdeal.main_arg12)
      ∧ r.2.mem ((c.tc : Thread Cert.TailRefIdeal.nD Cert.TailRefIdeal.τ).loc Cert.TailRefIdeal.main_arg13) = m ((c.tc : Thread Cert.TailRefIdeal.nD Cert.TailRefIdeal.τ).loc Cert.TailRefIdeal.main_arg13))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5)
      ∧ r.2.mem ((c.tc : Thread Cert.Prompt.nD Cert.Prompt.τ).loc Cert.Prompt.main_arg6) = m ((c.tc : Thread Cert.Prompt.nD Cert.Prompt.τ).loc Cert.Prompt.main_arg6)
      ∧ r.2.mem ((c.tc : Thread Cert.Prompt.nD Cert.Prompt.τ).loc Cert.Prompt.main_arg7) = m ((c.tc : Thread Cert.Prompt.nD Cert.Prompt.τ).loc Cert.Prompt.main_arg7)
      ∧ r.2.mem ((c.tc : Thread Cert.Prompt.nD Cert.Prompt.τ).loc Cert.Prompt.main_arg8) = m ((c.tc : Thread Cert.Prompt.nD Cert.Prompt.τ).loc Cert.Prompt.main_arg8)
      ∧ r.2.mem ((c.tc : Thread Cert.Prompt.nD Cert.Prompt.τ).loc Cert.Prompt.main_arg9) = m ((c.tc : Thread Cert.Prompt.nD Cert.Prompt.τ).loc Cert.Prompt.main_arg9)
      ∧ r.2.mem ((c.tc : Thread Cert.Prompt.nD Cert.Prompt.τ).loc Cert.Prompt.main_arg10) = m ((c.tc : Thread Cert.Prompt.nD Cert.Prompt.τ).loc Cert.Prompt.main_arg10)
      ∧ r.2.mem ((c.tc : Thread Cert.Prompt.nD Cert.Prompt.τ).loc Cert.Prompt.main_arg11) = m ((c.tc : Thread Cert.Prompt.nD Cert.Prompt.τ).loc Cert.Prompt.main_arg11)
      ∧ r.2.mem ((c.tc : Thread Cert.Prompt.nD Cert.Prompt.τ).loc Cert.Prompt.main_arg12) = m ((c.tc : Thread Cert.Prompt.nD Cert.Prompt.τ).loc Cert.Prompt.main_arg12)
      ∧ r.2.mem ((c.tc : Thread Cert.Prompt.nD Cert.Prompt.τ).loc Cert.Prompt.main_arg13) = m ((c.tc : Thread Cert.Prompt.nD Cert.Prompt.τ).loc Cert.Prompt.main_arg13))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
      ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
      ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
      ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
      ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10)
      ∧ r.2.mem ((c.tc : Thread Cert.PromptIdeal.nD Cert.PromptIdeal.τ).loc Cert.PromptIdeal.main_arg11) = m ((c.tc : Thread Cert.PromptIdeal.nD Cert.PromptIdeal.τ).loc Cert.PromptIdeal.main_arg11)
      ∧ r.2.mem ((c.tc : Thread Cert.PromptIdeal.nD Cert.PromptIdeal.τ).loc Cert.PromptIdeal.main_arg12) = m ((c.tc : Thread Cert.PromptIdeal.nD Cert.PromptIdeal.τ).loc Cert.PromptIdeal.main_arg12)
      ∧ r.2.mem ((c.tc : Thread Cert.PromptIdeal.nD Cert.PromptIdeal.τ).loc Cert.PromptIdeal.main_arg13) = m ((c.tc : Thread Cert.PromptIdeal.nD Cert.PromptIdeal.τ).loc Cert.PromptIdeal.main_arg13))
      ∧ r.2.sem = fun _ => 0)

def quiescent_PromptRefIdeal [hPromptRefIdeal : Cert.PromptRefIdeal.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0)
      ∧ r.2.mem ((c.tc : Thread Cert.PromptRefIdeal.nD Cert.PromptRefIdeal.τ).loc Cert.PromptRefIdeal.main_arg1) = m ((c.tc : Thread Cert.PromptRefIdeal.nD Cert.PromptRefIdeal.τ).loc Cert.PromptRefIdeal.main_arg1)
      ∧ r.2.mem ((c.tc : Thread Cert.PromptRefIdeal.nD Cert.PromptRefIdeal.τ).loc Cert.PromptRefIdeal.main_arg2) = m ((c.tc : Thread Cert.PromptRefIdeal.nD Cert.PromptRefIdeal.τ).loc Cert.PromptRefIdeal.main_arg2)
      ∧ r.2.mem ((c.tc : Thread Cert.PromptRefIdeal.nD Cert.PromptRefIdeal.τ).loc Cert.PromptRefIdeal.main_arg3) = m ((c.tc : Thread Cert.PromptRefIdeal.nD Cert.PromptRefIdeal.τ).loc Cert.PromptRefIdeal.main_arg3)
      ∧ r.2.mem ((c.tc : Thread Cert.PromptRefIdeal.nD Cert.PromptRefIdeal.τ).loc Cert.PromptRefIdeal.main_arg4) = m ((c.tc : Thread Cert.PromptRefIdeal.nD Cert.PromptRefIdeal.τ).loc Cert.PromptRefIdeal.main_arg4)
      ∧ r.2.mem ((c.tc : Thread Cert.PromptRefIdeal.nD Cert.PromptRefIdeal.τ).loc Cert.PromptRefIdeal.main_arg5) = m ((c.tc : Thread Cert.PromptRefIdeal.nD Cert.PromptRefIdeal.τ).loc Cert.PromptRefIdeal.main_arg5)
      ∧ r.2.mem ((c.tc : Thread Cert.PromptRefIdeal.nD Cert.PromptRefIdeal.τ).loc Cert.PromptRefIdeal.main_arg6) = m ((c.tc : Thread Cert.PromptRefIdeal.nD Cert.PromptRefIdeal.τ).loc Cert.PromptRefIdeal.main_arg6)
      ∧ r.2.mem ((c.tc : Thread Cert.PromptRefIdeal.nD Cert.PromptRefIdeal.τ).loc Cert.PromptRefIdeal.main_arg7) = m ((c.tc : Thread Cert.PromptRefIdeal.nD Cert.PromptRefIdeal.τ).loc Cert.PromptRefIdeal.main_arg7)
      ∧ r.2.mem ((c.tc : Thread Cert.PromptRefIdeal.nD Cert.PromptRefIdeal.τ).loc Cert.PromptRefIdeal.main_arg8) = m ((c.tc : Thread Cert.PromptRefIdeal.nD Cert.PromptRefIdeal.τ).loc Cert.PromptRefIdeal.main_arg8)
      ∧ r.2.mem ((c.tc : Thread Cert.PromptRefIdeal.nD Cert.PromptRefIdeal.τ).loc Cert.PromptRefIdeal.main_arg9) = m ((c.tc : Thread Cert.PromptRefIdeal.nD Cert.PromptRefIdeal.τ).loc Cert.PromptRefIdeal.main_arg9)
      ∧ r.2.mem ((c.tc : Thread Cert.PromptRefIdeal.nD Cert.PromptRefIdeal.τ).loc Cert.PromptRefIdeal.main_arg10) = m ((c.tc : Thread Cert.PromptRefIdeal.nD Cert.PromptRefIdeal.τ).loc Cert.PromptRefIdeal.main_arg10)
      ∧ r.2.mem ((c.tc : Thread Cert.PromptRefIdeal.nD Cert.PromptRefIdeal.τ).loc Cert.PromptRefIdeal.main_arg11) = m ((c.tc : Thread Cert.PromptRefIdeal.nD Cert.PromptRefIdeal.τ).loc Cert.PromptRefIdeal.main_arg11)
      ∧ r.2.mem ((c.tc : Thread Cert.PromptRefIdeal.nD Cert.PromptRefIdeal.τ).loc Cert.PromptRefIdeal.main_arg12) = m ((c.tc : Thread Cert.PromptRefIdeal.nD Cert.PromptRefIdeal.τ).loc Cert.PromptRefIdeal.main_arg12)
      ∧ r.2.mem ((c.tc : Thread Cert.PromptRefIdeal.nD Cert.PromptRefIdeal.τ).loc Cert.PromptRefIdeal.main_arg13) = m ((c.tc : Thread Cert.PromptRefIdeal.nD Cert.PromptRefIdeal.τ).loc Cert.PromptRefIdeal.main_arg13))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2)
      ∧ r.2.mem ((c.tc : Thread Cert.Rope.nD Cert.Rope.τ).loc Cert.Rope.main_arg3) = m ((c.tc : Thread Cert.Rope.nD Cert.Rope.τ).loc Cert.Rope.main_arg3))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
      ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m ((c.tc : Thread Cert.RopeRefIdeal.nD Cert.RopeRefIdeal.τ).loc Cert.RopeRefIdeal.main_arg2)
      ∧ r.2.mem ((c.tc : Thread Cert.RopeRefIdeal.nD Cert.RopeRefIdeal.τ).loc Cert.RopeRefIdeal.main_arg3) = m ((c.tc : Thread Cert.RopeRefIdeal.nD Cert.RopeRefIdeal.τ).loc Cert.RopeRefIdeal.main_arg3))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_Short [hShort : Cert.Short.Facts] : Prop :=
  ∀ (m : (ℓ : Loc Cert.Short.nD Cert.Short.τ Cert.Short.sig) → Buf (Elt Bits) ℓ) (g : Dev Cert.Short.nD → PrngReg), Pre_Short m →
    θ_run (Cert.Short.defs (F := Bits)) (onTc (τ := Cert.Short.τ) (Cert.Short.main (F := Bits))) ⟨m, fun _ => 0, g⟩ (fun r => (∀ c : Dev Cert.Short.nD,
      r.2.mem ((c.tc : Thread Cert.Short.nD Cert.Short.τ).loc Cert.Short.main_arg0) = m ((c.tc : Thread Cert.Short.nD Cert.Short.τ).loc Cert.Short.main_arg0)
      ∧ r.2.mem ((c.tc : Thread Cert.Short.nD Cert.Short.τ).loc Cert.Short.main_arg1) = m ((c.tc : Thread Cert.Short.nD Cert.Short.τ).loc Cert.Short.main_arg1)
      ∧ r.2.mem ((c.tc : Thread Cert.Short.nD Cert.Short.τ).loc Cert.Short.main_arg2) = m ((c.tc : Thread Cert.Short.nD Cert.Short.τ).loc Cert.Short.main_arg2))
      ∧ r.2.sem = fun _ => 0)

def quiescent_ShortIdeal [hShortIdeal : Cert.ShortIdeal.Facts] : Prop :=
  ∀ (m : (ℓ : Loc Cert.ShortIdeal.nD Cert.ShortIdeal.τ Cert.ShortIdeal.sig) → Buf (Elt Ideal) ℓ) (g : Dev Cert.ShortIdeal.nD → PrngReg), Pre_ShortIdeal m →
    θ_run (Cert.ShortIdeal.defs (F := Ideal)) (onTc (τ := Cert.ShortIdeal.τ) (Cert.ShortIdeal.main (F := Ideal))) ⟨m, fun _ => 0, g⟩ (fun r => (∀ c : Dev Cert.ShortIdeal.nD,
      r.2.mem ((c.tc : Thread Cert.ShortIdeal.nD Cert.ShortIdeal.τ).loc Cert.ShortIdeal.main_arg0) = m ((c.tc : Thread Cert.ShortIdeal.nD Cert.ShortIdeal.τ).loc Cert.ShortIdeal.main_arg0)
      ∧ r.2.mem ((c.tc : Thread Cert.ShortIdeal.nD Cert.ShortIdeal.τ).loc Cert.ShortIdeal.main_arg1) = m ((c.tc : Thread Cert.ShortIdeal.nD Cert.ShortIdeal.τ).loc Cert.ShortIdeal.main_arg1)
      ∧ r.2.mem ((c.tc : Thread Cert.ShortIdeal.nD Cert.ShortIdeal.τ).loc Cert.ShortIdeal.main_arg2) = m ((c.tc : Thread Cert.ShortIdeal.nD Cert.ShortIdeal.τ).loc Cert.ShortIdeal.main_arg2))
      ∧ r.2.sem = fun _ => 0)

def quiescent_ShortRefIdeal [hShortRefIdeal : Cert.ShortRefIdeal.Facts] : Prop :=
  ∀ (m : (ℓ : Loc Cert.ShortRefIdeal.nD Cert.ShortRefIdeal.τ Cert.ShortRefIdeal.sig) → Buf (Elt Ideal) ℓ) (g : Dev Cert.ShortRefIdeal.nD → PrngReg), Pre_ShortRefIdeal m →
    θ_run (Cert.ShortRefIdeal.defs (F := Ideal)) (onTc (τ := Cert.ShortRefIdeal.τ) (Cert.ShortRefIdeal.main (F := Ideal))) ⟨m, fun _ => 0, g⟩ (fun r => (∀ c : Dev Cert.ShortRefIdeal.nD,
      r.2.mem ((c.tc : Thread Cert.ShortRefIdeal.nD Cert.ShortRefIdeal.τ).loc Cert.ShortRefIdeal.main_arg0) = m ((c.tc : Thread Cert.ShortRefIdeal.nD Cert.ShortRefIdeal.τ).loc Cert.ShortRefIdeal.main_arg0)
      ∧ r.2.mem ((c.tc : Thread Cert.ShortRefIdeal.nD Cert.ShortRefIdeal.τ).loc Cert.ShortRefIdeal.main_arg1) = m ((c.tc : Thread Cert.ShortRefIdeal.nD Cert.ShortRefIdeal.τ).loc Cert.ShortRefIdeal.main_arg1)
      ∧ r.2.mem ((c.tc : Thread Cert.ShortRefIdeal.nD Cert.ShortRefIdeal.τ).loc Cert.ShortRefIdeal.main_arg2) = m ((c.tc : Thread Cert.ShortRefIdeal.nD Cert.ShortRefIdeal.τ).loc Cert.ShortRefIdeal.main_arg2))
      ∧ r.2.sem = fun _ => 0)

def preserves_Kernel_KernelIdeal : Prop :=
  IdealRules.named_const.Statement Cert.KernelIdeal.κ "scale2" .f32 0x3E8293EE#32 (((11863283 / 67108864) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)
      ∧ m' ((c.tc : Thread Cert.TailRefIdeal.nD Cert.TailRefIdeal.τ).loc Cert.TailRefIdeal.main_arg12) = m ((c.tc : Thread Cert.TailIdeal.nD Cert.TailIdeal.τ).loc Cert.TailIdeal.main_arg12)
      ∧ m' ((c.tc : Thread Cert.TailRefIdeal.nD Cert.TailRefIdeal.τ).loc Cert.TailRefIdeal.main_arg13) = m ((c.tc : Thread Cert.TailIdeal.nD Cert.TailIdeal.τ).loc Cert.TailIdeal.main_arg13)) →
    ∃ (v0 : (c : Dev Cert.TailIdeal.nD) → Buf (Elt Ideal) ((c.tc : Thread Cert.TailIdeal.nD Cert.TailIdeal.τ).loc Cert.TailIdeal.main_v25)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v25) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v107) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11)
          ∧ r.2.mem ((c.tc : Thread Cert.TailRefIdeal.nD Cert.TailRefIdeal.τ).loc Cert.TailRefIdeal.main_arg12) = m' ((c.tc : Thread Cert.TailRefIdeal.nD Cert.TailRefIdeal.τ).loc Cert.TailRefIdeal.main_arg12)
          ∧ r.2.mem ((c.tc : Thread Cert.TailRefIdeal.nD Cert.TailRefIdeal.τ).loc Cert.TailRefIdeal.main_arg13) = m' ((c.tc : Thread Cert.TailRefIdeal.nD Cert.TailRefIdeal.τ).loc Cert.TailRefIdeal.main_arg13))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v6)) (v1 : (c : Dev Cert.ProjIdeal.nD) → Buf (Elt Ideal) ((c.tc : Thread Cert.ProjIdeal.nD Cert.ProjIdeal.τ).loc Cert.ProjIdeal.main_v13)) (v2 : (c : Dev Cert.ProjIdeal.nD) → Buf (Elt Ideal) ((c.tc : Thread Cert.ProjIdeal.nD Cert.ProjIdeal.τ).loc Cert.ProjIdeal.main_v16)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v6) = v0 c
          ∧ r.2.mem ((c.tc : Thread Cert.ProjIdeal.nD Cert.ProjIdeal.τ).loc Cert.ProjIdeal.main_v13) = v1 c
          ∧ r.2.mem ((c.tc : Thread Cert.ProjIdeal.nD Cert.ProjIdeal.τ).loc Cert.ProjIdeal.main_v16) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v67) = v0 c
          ∧ r.2.mem ((c.tc : Thread Cert.ProjRefIdeal.nD Cert.ProjRefIdeal.τ).loc Cert.ProjRefIdeal.main_v84) = v1 c
          ∧ r.2.mem ((c.tc : Thread Cert.ProjRefIdeal.nD Cert.ProjRefIdeal.τ).loc Cert.ProjRefIdeal.main_v87) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def preserves_Prompt_PromptIdeal : Prop :=
  True

def algebraic_PromptIdeal_PromptRefIdeal [hPromptIdeal : Cert.PromptIdeal.Facts] [hPromptRefIdeal : Cert.PromptRefIdeal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptRefIdeal.nD Cert.PromptRefIdeal.τ Cert.PromptRefIdeal.sig) → Buf (Elt Ideal) ℓ) (g' : Dev Cert.PromptRefIdeal.nD → PrngReg), Pre_PromptIdeal m →
    (∀ c : Dev Cert.PromptIdeal.nD,
      m' ((c.tc : Thread Cert.PromptRefIdeal.nD Cert.PromptRefIdeal.τ).loc Cert.PromptRefIdeal.main_arg0) = m ((c.tc : Thread Cert.PromptIdeal.nD Cert.PromptIdeal.τ).loc Cert.PromptIdeal.main_arg0)
      ∧ m' ((c.tc : Thread Cert.PromptRefIdeal.nD Cert.PromptRefIdeal.τ).loc Cert.PromptRefIdeal.main_arg1) = m ((c.tc : Thread Cert.PromptIdeal.nD Cert.PromptIdeal.τ).loc Cert.PromptIdeal.main_arg1)
      ∧ m' ((c.tc : Thread Cert.PromptRefIdeal.nD Cert.PromptRefIdeal.τ).loc Cert.PromptRefIdeal.main_arg2) = m ((c.tc : Thread Cert.PromptIdeal.nD Cert.PromptIdeal.τ).loc Cert.PromptIdeal.main_arg2)
      ∧ m' ((c.tc : Thread Cert.PromptRefIdeal.nD Cert.PromptRefIdeal.τ).loc Cert.PromptRefIdeal.main_arg3) = m ((c.tc : Thread Cert.PromptIdeal.nD Cert.PromptIdeal.τ).loc Cert.PromptIdeal.main_arg3)
      ∧ m' ((c.tc : Thread Cert.PromptRefIdeal.nD Cert.PromptRefIdeal.τ).loc Cert.PromptRefIdeal.main_arg4) = m ((c.tc : Thread Cert.PromptIdeal.nD Cert.PromptIdeal.τ).loc Cert.PromptIdeal.main_arg4)
      ∧ m' ((c.tc : Thread Cert.PromptRefIdeal.nD Cert.PromptRefIdeal.τ).loc Cert.PromptRefIdeal.main_arg5) = m ((c.tc : Thread Cert.PromptIdeal.nD Cert.PromptIdeal.τ).loc Cert.PromptIdeal.main_arg5)
      ∧ m' ((c.tc : Thread Cert.PromptRefIdeal.nD Cert.PromptRefIdeal.τ).loc Cert.PromptRefIdeal.main_arg6) = m ((c.tc : Thread Cert.PromptIdeal.nD Cert.PromptIdeal.τ).loc Cert.PromptIdeal.main_arg6)
      ∧ m' ((c.tc : Thread Cert.PromptRefIdeal.nD Cert.PromptRefIdeal.τ).loc Cert.PromptRefIdeal.main_arg7) = m ((c.tc : Thread Cert.PromptIdeal.nD Cert.PromptIdeal.τ).loc Cert.PromptIdeal.main_arg7)
      ∧ m' ((c.tc : Thread Cert.PromptRefIdeal.nD Cert.PromptRefIdeal.τ).loc Cert.PromptRefIdeal.main_arg8) = m ((c.tc : Thread Cert.PromptIdeal.nD Cert.PromptIdeal.τ).loc Cert.PromptIdeal.main_arg8)
      ∧ m' ((c.tc : Thread Cert.PromptRefIdeal.nD Cert.PromptRefIdeal.τ).loc Cert.PromptRefIdeal.main_arg9) = m ((c.tc : Thread Cert.PromptIdeal.nD Cert.PromptIdeal.τ).loc Cert.PromptIdeal.main_arg9)
      ∧ m' ((c.tc : Thread Cert.PromptRefIdeal.nD Cert.PromptRefIdeal.τ).loc Cert.PromptRefIdeal.main_arg10) = m ((c.tc : Thread Cert.PromptIdeal.nD Cert.PromptIdeal.τ).loc Cert.PromptIdeal.main_arg10)
      ∧ m' ((c.tc : Thread Cert.PromptRefIdeal.nD Cert.PromptRefIdeal.τ).loc Cert.PromptRefIdeal.main_arg11) = m ((c.tc : Thread Cert.PromptIdeal.nD Cert.PromptIdeal.τ).loc Cert.PromptIdeal.main_arg11)
      ∧ m' ((c.tc : Thread Cert.PromptRefIdeal.nD Cert.PromptRefIdeal.τ).loc Cert.PromptRefIdeal.main_arg12) = m ((c.tc : Thread Cert.PromptIdeal.nD Cert.PromptIdeal.τ).loc Cert.PromptIdeal.main_arg12)
      ∧ m' ((c.tc : Thread Cert.PromptRefIdeal.nD Cert.PromptRefIdeal.τ).loc Cert.PromptRefIdeal.main_arg13) = m ((c.tc : Thread Cert.PromptIdeal.nD Cert.PromptIdeal.τ).loc Cert.PromptIdeal.main_arg13)) →
    ∃ (v0 : (c : Dev Cert.PromptIdeal.nD) → Buf (Elt Ideal) ((c.tc : Thread Cert.PromptIdeal.nD Cert.PromptIdeal.τ).loc Cert.PromptIdeal.main_v25)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v25) = v0 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
          ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
          ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
          ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
          ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
          ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
          ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10)
          ∧ r.2.mem ((c.tc : Thread Cert.PromptIdeal.nD Cert.PromptIdeal.τ).loc Cert.PromptIdeal.main_arg11) = m ((c.tc : Thread Cert.PromptIdeal.nD Cert.PromptIdeal.τ).loc Cert.PromptIdeal.main_arg11)
          ∧ r.2.mem ((c.tc : Thread Cert.PromptIdeal.nD Cert.PromptIdeal.τ).loc Cert.PromptIdeal.main_arg12) = m ((c.tc : Thread Cert.PromptIdeal.nD Cert.PromptIdeal.τ).loc Cert.PromptIdeal.main_arg12)
          ∧ r.2.mem ((c.tc : Thread Cert.PromptIdeal.nD Cert.PromptIdeal.τ).loc Cert.PromptIdeal.main_arg13) = m ((c.tc : Thread Cert.PromptIdeal.nD Cert.PromptIdeal.τ).loc Cert.PromptIdeal.main_arg13))
      ∧ θ_run (Cert.PromptRefIdeal.defs (F := Ideal)) (onTc (τ := Cert.PromptRefIdeal.τ) (Cert.PromptRefIdeal.main (F := Ideal))) ⟨m', fun _ => 0, g'⟩ (fun r => ∀ c : Dev Cert.PromptRefIdeal.nD,
          r.2.mem ((c.tc : Thread Cert.PromptRefIdeal.nD Cert.PromptRefIdeal.τ).loc Cert.PromptRefIdeal.main_v107) = v0 c
          ∧ r.2.mem ((c.tc : Thread Cert.PromptRefIdeal.nD Cert.PromptRefIdeal.τ).loc Cert.PromptRefIdeal.main_arg0) = m' ((c.tc : Thread Cert.PromptRefIdeal.nD Cert.PromptRefIdeal.τ).loc Cert.PromptRefIdeal.main_arg0)
          ∧ r.2.mem ((c.tc : Thread Cert.PromptRefIdeal.nD Cert.PromptRefIdeal.τ).loc Cert.PromptRefIdeal.main_arg1) = m' ((c.tc : Thread Cert.PromptRefIdeal.nD Cert.PromptRefIdeal.τ).loc Cert.PromptRefIdeal.main_arg1)
          ∧ r.2.mem ((c.tc : Thread Cert.PromptRefIdeal.nD Cert.PromptRefIdeal.τ).loc Cert.PromptRefIdeal.main_arg2) = m' ((c.tc : Thread Cert.PromptRefIdeal.nD Cert.PromptRefIdeal.τ).loc Cert.PromptRefIdeal.main_arg2)
          ∧ r.2.mem ((c.tc : Thread Cert.PromptRefIdeal.nD Cert.PromptRefIdeal.τ).loc Cert.PromptRefIdeal.main_arg3) = m' ((c.tc : Thread Cert.PromptRefIdeal.nD Cert.PromptRefIdeal.τ).loc Cert.PromptRefIdeal.main_arg3)
          ∧ r.2.mem ((c.tc : Thread Cert.PromptRefIdeal.nD Cert.PromptRefIdeal.τ).loc Cert.PromptRefIdeal.main_arg4) = m' ((c.tc : Thread Cert.PromptRefIdeal.nD Cert.PromptRefIdeal.τ).loc Cert.PromptRefIdeal.main_arg4)
          ∧ r.2.mem ((c.tc : Thread Cert.PromptRefIdeal.nD Cert.PromptRefIdeal.τ).loc Cert.PromptRefIdeal.main_arg5) = m' ((c.tc : Thread Cert.PromptRefIdeal.nD Cert.PromptRefIdeal.τ).loc Cert.PromptRefIdeal.main_arg5)
          ∧ r.2.mem ((c.tc : Thread Cert.PromptRefIdeal.nD Cert.PromptRefIdeal.τ).loc Cert.PromptRefIdeal.main_arg6) = m' ((c.tc : Thread Cert.PromptRefIdeal.nD Cert.PromptRefIdeal.τ).loc Cert.PromptRefIdeal.main_arg6)
          ∧ r.2.mem ((c.tc : Thread Cert.PromptRefIdeal.nD Cert.PromptRefIdeal.τ).loc Cert.PromptRefIdeal.main_arg7) = m' ((c.tc : Thread Cert.PromptRefIdeal.nD Cert.PromptRefIdeal.τ).loc Cert.PromptRefIdeal.main_arg7)
          ∧ r.2.mem ((c.tc : Thread Cert.PromptRefIdeal.nD Cert.PromptRefIdeal.τ).loc Cert.PromptRefIdeal.main_arg8) = m' ((c.tc : Thread Cert.PromptRefIdeal.nD Cert.PromptRefIdeal.τ).loc Cert.PromptRefIdeal.main_arg8)
          ∧ r.2.mem ((c.tc : Thread Cert.PromptRefIdeal.nD Cert.PromptRefIdeal.τ).loc Cert.PromptRefIdeal.main_arg9) = m' ((c.tc : Thread Cert.PromptRefIdeal.nD Cert.PromptRefIdeal.τ).loc Cert.PromptRefIdeal.main_arg9)
          ∧ r.2.mem ((c.tc : Thread Cert.PromptRefIdeal.nD Cert.PromptRefIdeal.τ).loc Cert.PromptRefIdeal.main_arg10) = m' ((c.tc : Thread Cert.PromptRefIdeal.nD Cert.PromptRefIdeal.τ).loc Cert.PromptRefIdeal.main_arg10)
          ∧ r.2.mem ((c.tc : Thread Cert.PromptRefIdeal.nD Cert.PromptRefIdeal.τ).loc Cert.PromptRefIdeal.main_arg11) = m' ((c.tc : Thread Cert.PromptRefIdeal.nD Cert.PromptRefIdeal.τ).loc Cert.PromptRefIdeal.main_arg11)
          ∧ r.2.mem ((c.tc : Thread Cert.PromptRefIdeal.nD Cert.PromptRefIdeal.τ).loc Cert.PromptRefIdeal.main_arg12) = m' ((c.tc : Thread Cert.PromptRefIdeal.nD Cert.PromptRefIdeal.τ).loc Cert.PromptRefIdeal.main_arg12)
          ∧ r.2.mem ((c.tc : Thread Cert.PromptRefIdeal.nD Cert.PromptRefIdeal.τ).loc Cert.PromptRefIdeal.main_arg13) = m' ((c.tc : Thread Cert.PromptRefIdeal.nD Cert.PromptRefIdeal.τ).loc Cert.PromptRefIdeal.main_arg13))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)
      ∧ m' ((c.tc : Thread Cert.RopeRefIdeal.nD Cert.RopeRefIdeal.τ).loc Cert.RopeRefIdeal.main_arg2) = m ((c.tc : Thread Cert.RopeIdeal.nD Cert.RopeIdeal.τ).loc Cert.RopeIdeal.main_arg2)
      ∧ m' ((c.tc : Thread Cert.RopeRefIdeal.nD Cert.RopeRefIdeal.τ).loc Cert.RopeRefIdeal.main_arg3) = m ((c.tc : Thread Cert.RopeIdeal.nD Cert.RopeIdeal.τ).loc Cert.RopeIdeal.main_arg3)) →
    ∃ (v0 : (c : Dev Cert.RopeIdeal.nD) → Buf (Elt Ideal) ((c.tc : Thread Cert.RopeIdeal.nD Cert.RopeIdeal.τ).loc Cert.RopeIdeal.main_v53)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v53) = v0 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
          ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v117) = v0 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1)
          ∧ r.2.mem ((c.tc : Thread Cert.RopeRefIdeal.nD Cert.RopeRefIdeal.τ).loc Cert.RopeRefIdeal.main_arg2) = m' ((c.tc : Thread Cert.RopeRefIdeal.nD Cert.RopeRefIdeal.τ).loc Cert.RopeRefIdeal.main_arg2)
          ∧ r.2.mem ((c.tc : Thread Cert.RopeRefIdeal.nD Cert.RopeRefIdeal.τ).loc Cert.RopeRefIdeal.main_arg3) = m' ((c.tc : Thread Cert.RopeRefIdeal.nD Cert.RopeRefIdeal.τ).loc Cert.RopeRefIdeal.main_arg3))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v8)) (v1 : (c : Dev Cert.ModIdeal.nD) → Buf (Elt Ideal) ((c.tc : Thread Cert.ModIdeal.nD Cert.ModIdeal.τ).loc Cert.ModIdeal.main_v9)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v8) = v0 c
          ∧ r.2.mem ((c.tc : Thread Cert.ModIdeal.nD Cert.ModIdeal.τ).loc Cert.ModIdeal.main_v9) = v1 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v42) = v0 c
          ∧ r.2.mem ((c.tc : Thread Cert.ModRefIdeal.nD Cert.ModRefIdeal.τ).loc Cert.ModRefIdeal.main_v45) = v1 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_Short_ShortIdeal : Prop :=
  True

def algebraic_ShortIdeal_ShortRefIdeal [hShortIdeal : Cert.ShortIdeal.Facts] [hShortRefIdeal : Cert.ShortRefIdeal.Facts] : Prop :=
  ∀ (m : (ℓ : Loc Cert.ShortIdeal.nD Cert.ShortIdeal.τ Cert.ShortIdeal.sig) → Buf (Elt Ideal) ℓ) (g : Dev Cert.ShortIdeal.nD → PrngReg)
    (m' : (ℓ : Loc Cert.ShortRefIdeal.nD Cert.ShortRefIdeal.τ Cert.ShortRefIdeal.sig) → Buf (Elt Ideal) ℓ) (g' : Dev Cert.ShortRefIdeal.nD → PrngReg), Pre_ShortIdeal m →
    (∀ c : Dev Cert.ShortIdeal.nD,
      m' ((c.tc : Thread Cert.ShortRefIdeal.nD Cert.ShortRefIdeal.τ).loc Cert.ShortRefIdeal.main_arg0) = m ((c.tc : Thread Cert.ShortIdeal.nD Cert.ShortIdeal.τ).loc Cert.ShortIdeal.main_arg0)
      ∧ m' ((c.tc : Thread Cert.ShortRefIdeal.nD Cert.ShortRefIdeal.τ).loc Cert.ShortRefIdeal.main_arg1) = m ((c.tc : Thread Cert.ShortIdeal.nD Cert.ShortIdeal.τ).loc Cert.ShortIdeal.main_arg1)
      ∧ m' ((c.tc : Thread Cert.ShortRefIdeal.nD Cert.ShortRefIdeal.τ).loc Cert.ShortRefIdeal.main_arg2) = m ((c.tc : Thread Cert.ShortIdeal.nD Cert.ShortIdeal.τ).loc Cert.ShortIdeal.main_arg2)) →
    ∃ (v0 : (c : Dev Cert.ShortIdeal.nD) → Buf (Elt Ideal) ((c.tc : Thread Cert.ShortIdeal.nD Cert.ShortIdeal.τ).loc Cert.ShortIdeal.main_v1_0)) (v1 : (c : Dev Cert.ShortIdeal.nD) → Buf (Elt Ideal) ((c.tc : Thread Cert.ShortIdeal.nD Cert.ShortIdeal.τ).loc Cert.ShortIdeal.main_v1_1)) (v2 : (c : Dev Cert.ShortIdeal.nD) → Buf (Elt Ideal) ((c.tc : Thread Cert.ShortIdeal.nD Cert.ShortIdeal.τ).loc Cert.ShortIdeal.main_v1_2)),
      θ_run (Cert.ShortIdeal.defs (F := Ideal)) (onTc (τ := Cert.ShortIdeal.τ) (Cert.ShortIdeal.main (F := Ideal))) ⟨m, fun _ => 0, g⟩ (fun r => ∀ c : Dev Cert.ShortIdeal.nD,
          r.2.mem ((c.tc : Thread Cert.ShortIdeal.nD Cert.ShortIdeal.τ).loc Cert.ShortIdeal.main_v1_0) = v0 c
          ∧ r.2.mem ((c.tc : Thread Cert.ShortIdeal.nD Cert.ShortIdeal.τ).loc Cert.ShortIdeal.main_v1_1) = v1 c
          ∧ r.2.mem ((c.tc : Thread Cert.ShortIdeal.nD Cert.ShortIdeal.τ).loc Cert.ShortIdeal.main_v1_2) = v2 c
          ∧ r.2.mem ((c.tc : Thread Cert.ShortIdeal.nD Cert.ShortIdeal.τ).loc Cert.ShortIdeal.main_arg0) = m ((c.tc : Thread Cert.ShortIdeal.nD Cert.ShortIdeal.τ).loc Cert.ShortIdeal.main_arg0)
          ∧ r.2.mem ((c.tc : Thread Cert.ShortIdeal.nD Cert.ShortIdeal.τ).loc Cert.ShortIdeal.main_arg1) = m ((c.tc : Thread Cert.ShortIdeal.nD Cert.ShortIdeal.τ).loc Cert.ShortIdeal.main_arg1)
          ∧ r.2.mem ((c.tc : Thread Cert.ShortIdeal.nD Cert.ShortIdeal.τ).loc Cert.ShortIdeal.main_arg2) = m ((c.tc : Thread Cert.ShortIdeal.nD Cert.ShortIdeal.τ).loc Cert.ShortIdeal.main_arg2))
      ∧ θ_run (Cert.ShortRefIdeal.defs (F := Ideal)) (onTc (τ := Cert.ShortRefIdeal.τ) (Cert.ShortRefIdeal.main (F := Ideal))) ⟨m', fun _ => 0, g'⟩ (fun r => ∀ c : Dev Cert.ShortRefIdeal.nD,
          r.2.mem ((c.tc : Thread Cert.ShortRefIdeal.nD Cert.ShortRefIdeal.τ).loc Cert.ShortRefIdeal.main_v27) = v0 c
          ∧ r.2.mem ((c.tc : Thread Cert.ShortRefIdeal.nD Cert.ShortRefIdeal.τ).loc Cert.ShortRefIdeal.main_v28) = v1 c
          ∧ r.2.mem ((c.tc : Thread Cert.ShortRefIdeal.nD Cert.ShortRefIdeal.τ).loc Cert.ShortRefIdeal.main_v29) = v2 c
          ∧ r.2.mem ((c.tc : Thread Cert.ShortRefIdeal.nD Cert.ShortRefIdeal.τ).loc Cert.ShortRefIdeal.main_arg0) = m' ((c.tc : Thread Cert.ShortRefIdeal.nD Cert.ShortRefIdeal.τ).loc Cert.ShortRefIdeal.main_arg0)
          ∧ r.2.mem ((c.tc : Thread Cert.ShortRefIdeal.nD Cert.ShortRefIdeal.τ).loc Cert.ShortRefIdeal.main_arg1) = m' ((c.tc : Thread Cert.ShortRefIdeal.nD Cert.ShortRefIdeal.τ).loc Cert.ShortRefIdeal.main_arg1)
          ∧ r.2.mem ((c.tc : Thread Cert.ShortRefIdeal.nD Cert.ShortRefIdeal.τ).loc Cert.ShortRefIdeal.main_arg2) = m' ((c.tc : Thread Cert.ShortRefIdeal.nD Cert.ShortRefIdeal.τ).loc Cert.ShortRefIdeal.main_arg2))

def Claim : Prop :=
  ∃ (hKernel : Cert.Kernel.Facts) (hKernelIdeal : Cert.KernelIdeal.Facts) (hReferenceIdeal : Cert.ReferenceIdeal.Facts) (hTail : Cert.Tail.Facts) (hTailIdeal : Cert.TailIdeal.Facts) (hTailRefIdeal : Cert.TailRefIdeal.Facts) (hProj : Cert.Proj.Facts) (hProjIdeal : Cert.ProjIdeal.Facts) (hProjRefIdeal : Cert.ProjRefIdeal.Facts) (hPrompt : Cert.Prompt.Facts) (hPromptIdeal : Cert.PromptIdeal.Facts) (hPromptRefIdeal : Cert.PromptRefIdeal.Facts) (hRope : Cert.Rope.Facts) (hRopeIdeal : Cert.RopeIdeal.Facts) (hRopeRefIdeal : Cert.RopeRefIdeal.Facts) (hMod : Cert.Mod.Facts) (hModIdeal : Cert.ModIdeal.Facts) (hModRefIdeal : Cert.ModRefIdeal.Facts) (hShort : Cert.Short.Facts) (hShortIdeal : Cert.ShortIdeal.Facts) (hShortRefIdeal : Cert.ShortRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Tail (hTail := hTail)
    ∧ quiescent_TailIdeal (hTailIdeal := hTailIdeal)
    ∧ quiescent_TailRefIdeal (hTailRefIdeal := hTailRefIdeal)
    ∧ quiescent_Proj (hProj := hProj)
    ∧ quiescent_ProjIdeal (hProjIdeal := hProjIdeal)
    ∧ quiescent_ProjRefIdeal (hProjRefIdeal := hProjRefIdeal)
    ∧ quiescent_Prompt (hPrompt := hPrompt)
    ∧ quiescent_PromptIdeal (hPromptIdeal := hPromptIdeal)
    ∧ quiescent_PromptRefIdeal (hPromptRefIdeal := hPromptRefIdeal)
    ∧ quiescent_Rope (hRope := hRope)
    ∧ quiescent_RopeIdeal (hRopeIdeal := hRopeIdeal)
    ∧ quiescent_RopeRefIdeal (hRopeRefIdeal := hRopeRefIdeal)
    ∧ quiescent_Mod (hMod := hMod)
    ∧ quiescent_ModIdeal (hModIdeal := hModIdeal)
    ∧ quiescent_ModRefIdeal (hModRefIdeal := hModRefIdeal)
    ∧ quiescent_Short (hShort := hShort)
    ∧ quiescent_ShortIdeal (hShortIdeal := hShortIdeal)
    ∧ quiescent_ShortRefIdeal (hShortRefIdeal := hShortRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Tail_TailIdeal
    ∧ algebraic_TailIdeal_TailRefIdeal (hTailIdeal := hTailIdeal) (hTailRefIdeal := hTailRefIdeal)
    ∧ preserves_Proj_ProjIdeal
    ∧ algebraic_ProjIdeal_ProjRefIdeal (hProjIdeal := hProjIdeal) (hProjRefIdeal := hProjRefIdeal)
    ∧ preserves_Prompt_PromptIdeal
    ∧ algebraic_PromptIdeal_PromptRefIdeal (hPromptIdeal := hPromptIdeal) (hPromptRefIdeal := hPromptRefIdeal)
    ∧ preserves_Rope_RopeIdeal
    ∧ algebraic_RopeIdeal_RopeRefIdeal (hRopeIdeal := hRopeIdeal) (hRopeRefIdeal := hRopeRefIdeal)
    ∧ preserves_Mod_ModIdeal
    ∧ algebraic_ModIdeal_ModRefIdeal (hModIdeal := hModIdeal) (hModRefIdeal := hModRefIdeal)
    ∧ preserves_Short_ShortIdeal
    ∧ algebraic_ShortIdeal_ShortRefIdeal (hShortIdeal := hShortIdeal) (hShortRefIdeal := hShortRefIdeal)
-- ==== Pre_finite.lean ====
abbrev S4x4096x3072 : Shape := ⟨3, ![4, 4096, 3072]⟩
abbrev S4x32 : Shape := ⟨2, ![4, 32]⟩
abbrev S64 : Shape := ⟨1, ![64]⟩
abbrev S4x2x512x4x64 : Shape := ⟨5, ![4, 2, 512, 4, 64]⟩
abbrev S_ : Shape := ⟨0, ![]⟩

class Facts : Prop where
  bcast_S_S4x4096x3072 : S_.BroadcastsInDim S4x4096x3072 (![] : Fin 0 → Fin S4x4096x3072.rank)
  bcast_S_S4x32 : S_.BroadcastsInDim S4x32 (![] : Fin 0 → Fin S4x32.rank)
  bcast_S_S4x2x512x4x64 : S_.BroadcastsInDim S4x2x512x4x64 (![] : Fin 0 → Fin S4x2x512x4x64.rank)

variable [Facts]

def fn {F : FTy → Type} [FloatOps F] (main_arg0 : FVec F S4x4096x3072 .f32) (main_arg1 : FVec F S4x32 .f32) (main_arg2 : FVec F S64 .f32) (main_arg3 : FVec F S4x2x512x4x64 .f32) (main_arg4 : FVec F S4x2x512x4x64 .f32) : IVec S4x4096x3072 1 × IVec S4x32 1 × IVec S4x2x512x4x64 1 × IVec S4x2x512x4x64 1 :=
  let main_v0 : FVec F S4x4096x3072 .f32 := Host.absf main_arg0
  let main_cst : FVec F S_ .f32 := constant S_ .f32 0x7F800000#32
  let main_v1 : FVec F S4x4096x3072 .f32 := broadcastInDim S4x4096x3072 ![] bcast_S_S4x4096x3072 main_cst
  let main_v2 : IVec S4x4096x3072 1 := cmpf .olt main_v0 main_v1
  let main_v3 : FVec F S4x32 .f32 := Host.absf main_arg1
  let main_cst_0 : FVec F S_ .f32 := constant S_ .f32 0x7F800000#32
  let main_v4 : FVec F S4x32 .f32 := broadcastInDim S4x32 ![] bcast_S_S4x32 main_cst_0
  let main_v5 : IVec S4x32 1 := cmpf .olt main_v3 main_v4
  let main_v6 : FVec F S4x2x512x4x64 .f32 := Host.absf main_arg3
  let main_cst_1 : FVec F S_ .f32 := constant S_ .f32 0x7F800000#32
  let main_v7 : FVec F S4x2x512x4x64 .f32 := broadcastInDim S4x2x512x4x64 ![] bcast_S_S4x2x512x4x64 main_cst_1
  let main_v8 : IVec S4x2x512x4x64 1 := cmpf .olt main_v6 main_v7
  let main_v9 : FVec F S4x2x512x4x64 .f32 := Host.absf main_arg4
  let main_cst_2 : FVec F S_ .f32 := constant S_ .f32 0x7F800000#32
  let main_v10 : FVec F S4x2x512x4x64 .f32 := broadcastInDim S4x2x512x4x64 ![] bcast_S_S4x2x512x4x64 main_cst_2
  let main_v11 : IVec S4x2x512x4x64 1 := cmpf .olt main_v9 main_v10
  (main_v2, main_v5, main_v8, main_v11)
-- ==== Kernel.lean ====
abbrev S4x4096x3072 : Shape := ⟨3, ![4, 4096, 3072]⟩
abbrev S4x32 : Shape := ⟨2, ![4, 32]⟩
abbrev S64 : Shape := ⟨1, ![64]⟩
abbrev S4x2x512x4x64 : Shape := ⟨5, ![4, 2, 512, 4, 64]⟩
abbrev S4x2x512x256 : Shape := ⟨4, ![4, 2, 512, 256]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S4x4096x256 : Shape := ⟨3, ![4, 4096, 256]⟩
abbrev S1x256x256 : Shape := ⟨3, ![1, 256, 256]⟩
abbrev S1x4096x256 : Shape := ⟨3, ![1, 4096, 256]⟩
abbrev S1x1x512x256 : Shape := ⟨4, ![1, 1, 512, 256]⟩
abbrev S4608x256 : Shape := ⟨2, ![4608, 256]⟩
abbrev S4x80x4608 : Shape := ⟨3, ![4, 80, 4608]⟩
abbrev S8x256x256 : Shape := ⟨3, ![8, 256, 256]⟩
abbrev S1x512x256 : Shape := ⟨3, ![1, 512, 256]⟩
abbrev S512x256 : Shape := ⟨2, ![512, 256]⟩
abbrev S256x512 : Shape := ⟨2, ![256, 512]⟩
abbrev S64x512 : Shape := ⟨2, ![64, 512]⟩
abbrev S1x64x512 : Shape := ⟨3, ![1, 64, 512]⟩
abbrev S4x16x4608 : Shape := ⟨3, ![4, 16, 4608]⟩
abbrev S1x32 : Shape := ⟨2, ![1, 32]⟩
abbrev S1 : Shape := ⟨1, ![1]⟩
abbrev S1x1 : Shape := ⟨2, ![1, 1]⟩
abbrev S256x256 : Shape := ⟨2, ![256, 256]⟩
abbrev S80x256 : Shape := ⟨2, ![80, 256]⟩
abbrev S768x256 : Shape := ⟨2, ![768, 256]⟩
abbrev S128x256 : Shape := ⟨2, ![128, 256]⟩
abbrev S64x256 : Shape := ⟨2, ![64, 256]⟩
abbrev S32x256 : Shape := ⟨2, ![32, 256]⟩
abbrev S16x256 : Shape := ⟨2, ![16, 256]⟩
abbrev S8x256 : Shape := ⟨2, ![8, 256]⟩
abbrev S1x80x768 : Shape := ⟨3, ![1, 80, 768]⟩
abbrev S80x768 : Shape := ⟨2, ![80, 768]⟩

abbrev nBuf : Space → Nat
  | .hbm => 12
  | .vmem => 17
  | .smem => 0
  | _ => 0

abbrev bufTy : (tb : Table) → Fin (tcTables nBuf tb) → BufTy
  | .hbm, ⟨0, _⟩ => ⟨S4x4096x3072, .f32⟩
  | .hbm, ⟨1, _⟩ => ⟨S4x32, .f32⟩
  | .hbm, ⟨2, _⟩ => ⟨S64, .f32⟩
  | .hbm, ⟨3, _⟩ => ⟨S4x2x512x4x64, .f32⟩
  | .hbm, ⟨4, _⟩ => ⟨S4x2x512x4x64, .f32⟩
  | .hbm, ⟨5, _⟩ => ⟨S4x2x512x256, .f32⟩
  | .hbm, ⟨6, _⟩ => ⟨S4x2x512x256, .f32⟩
  | .hbm, ⟨7, _⟩ => ⟨S1x64, .f32⟩
  | .hbm, ⟨8, _⟩ => ⟨S4x64, .f32⟩
  | .hbm, ⟨9, _⟩ => ⟨S256, .f32⟩
  | .hbm, ⟨10, _⟩ => ⟨S1x256, .f32⟩
  | .hbm, ⟨11, _⟩ => ⟨S4x4096x256, .bf16⟩
  | .local _ .vmem, ⟨0, _⟩ => ⟨S1x256x256, .f32⟩
  | .local _ .vmem, ⟨1, _⟩ => ⟨S1x256x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x1x512x256, .f32⟩
  | .local _ .vmem, ⟨7, _⟩ => ⟨S1x1x512x256, .f32⟩
  | .local _ .vmem, ⟨8, _⟩ => ⟨S1x1x512x256, .f32⟩
  | .local _ .vmem, ⟨9, _⟩ => ⟨S1x1x512x256, .f32⟩
  | .local _ .vmem, ⟨10, _⟩ => ⟨S4x32, .f32⟩
  | .local _ .vmem, ⟨11, _⟩ => ⟨S1x256, .f32⟩
  | .local _ .vmem, ⟨12, _⟩ => ⟨S1x256x256, .bf16⟩
  | .local _ .vmem, ⟨13, _⟩ => ⟨S1x256x256, .bf16⟩
  | .local _ .vmem, ⟨14, _⟩ => ⟨S4608x256, .bf16⟩
  | .local _ .vmem, ⟨15, _⟩ => ⟨S4x80x4608, .bf16⟩
  | .local _ .vmem, ⟨16, _⟩ => ⟨S8x256x256, .bf16⟩
  | _, _ => ⟨S4x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_479 : BitVec 32 := 0#32
  let c8_i32 : BitVec 32 := 8#32
  let v2137 : BitVec 32 := Scalar.addi c0_i32_479 c8_i32
  let c1_i32_480 : BitVec 32 := 1#32
  ⟨c0_i32_479, v2137, c1_i32_480⟩
def k0_mult1 (k0_t1 : Fin k0_t1_loop.trips) : BitVec 32 :=
  let c0_i32_479 : BitVec 32 := 0#32
  let c1_i32_480 : BitVec 32 := 1#32
  let arg13 : BitVec 32 := Scf.iv c0_i32_479 c1_i32_480 k0_t1
  let c512_i32 : BitVec 32 := 512#32
  let v2168 : BitVec 32 := Scalar.muli arg13 c512_i32
  v2168
def k0_off1 (k0_t1 : Fin k0_t1_loop.trips) : Fin 3 → Nat :=
  let c0_506 : Index := 0#32
  let c0_i32_479 : BitVec 32 := 0#32
  let c1_i32_480 : BitVec 32 := 1#32
  let arg13 : BitVec 32 := Scf.iv c0_i32_479 c1_i32_480 k0_t1
  let c512_i32 : BitVec 32 := 512#32
  let v2168 : BitVec 32 := Scalar.muli arg13 c512_i32
  let v2169 : BitVec 32 := v2168
  let v2170 : Index := Scalar.indexCast v2169
  let c0_507 : Index := 0#32
  ![0, v2170.toNat, 0]
def k0_off2 (k0_t1 : Fin k0_t1_loop.trips) : Fin 2 → Nat :=
  let c0_i32_479 : BitVec 32 := 0#32
  let c1_i32_480 : BitVec 32 := 1#32
  let arg13 : BitVec 32 := Scf.iv c0_i32_479 c1_i32_480 k0_t1
  let c512_i32 : BitVec 32 := 512#32
  let v2168 : BitVec 32 := Scalar.muli arg13 c512_i32
  let v2169 : BitVec 32 := v2168
  let v2174 : Index := Scalar.indexCast v2169
  let c0_508 : Index := 0#32
  ![v2174.toNat, 0]
def k0_off3 (k0_t1 : Fin k0_t1_loop.trips) : Fin 3 → Nat :=
  let c0_511 : Index := 0#32
  let c0_512 : Index := 0#32
  let c0_i32_479 : BitVec 32 := 0#32
  let c1_i32_480 : BitVec 32 := 1#32
  let arg13 : BitVec 32 := Scf.iv c0_i32_479 c1_i32_480 k0_t1
  let c512_i32 : BitVec 32 := 512#32
  let v2168 : BitVec 32 := Scalar.muli arg13 c512_i32
  let v2169 : BitVec 32 := v2168
  let v2184 : Index := Scalar.indexCast v2169
  ![0, 0, v2184.toNat]
def k0_off4 (k0_t1 : Fin k0_t1_loop.trips) : Fin 3 → Nat :=
  let c1_513 : Index := 1#32
  let c0_514 : Index := 0#32
  let c0_i32_479 : BitVec 32 := 0#32
  let c1_i32_480 : BitVec 32 := 1#32
  let arg13 : BitVec 32 := Scf.iv c0_i32_479 c1_i32_480 k0_t1
  let c512_i32 : BitVec 32 := 512#32
  let v2168 : BitVec 32 := Scalar.muli arg13 c512_i32
  let v2169 : BitVec 32 := v2168
  let v2189 : Index := Scalar.indexCast v2169
  ![1, 0, v2189.toNat]
def k0_off5 (k0_t1 : Fin k0_t1_loop.trips) : Fin 3 → Nat :=
  let c2_515 : Index := 2#32
  let c0_516 : Index := 0#32
  let c0_i32_479 : BitVec 32 := 0#32
  let c1_i32_480 : BitVec 32 := 1#32
  let arg13 : BitVec 32 := Scf.iv c0_i32_479 c1_i32_480 k0_t1
  let c512_i32 : BitVec 32 := 512#32
  let v2168 : BitVec 32 := Scalar.muli arg13 c512_i32
  let v2169 : BitVec 32 := v2168
  let v2194 : Index := Scalar.indexCast v2169
  ![2, 0, v2194.toNat]
def k0_off6 (k0_t1 : Fin k0_t1_loop.trips) : Fin 3 → Nat :=
  let c3_517 : Index := 3#32
  let c0_518 : Index := 0#32
  let c0_i32_479 : BitVec 32 := 0#32
  let c1_i32_480 : BitVec 32 := 1#32
  let arg13 : BitVec 32 := Scf.iv c0_i32_479 c1_i32_480 k0_t1
  let c512_i32 : BitVec 32 := 512#32
  let v2168 : BitVec 32 := Scalar.muli arg13 c512_i32
  let v2169 : BitVec 32 := v2168
  let v2199 : Index := Scalar.indexCast v2169
  ![3, 0, v2199.toNat]
def k0_mult2 : BitVec 32 :=
  let c0_i32_57 : BitVec 32 := 0#32
  let c768_i32 : BitVec 32 := 768#32
  let v129 : BitVec 32 := Scalar.muli c0_i32_57 c768_i32
  v129
def k0_off7 (c0_i32_57 : BitVec 32) : Fin 2 → Nat :=
  let c768_i32 : BitVec 32 := 768#32
  let v129 : BitVec 32 := Scalar.muli c0_i32_57 c768_i32
  let v130 : BitVec 32 := v129
  let v131 : Index := Scalar.indexCast v130
  let c0_58 : Index := 0#32
  ![v131.toNat, 0]
def k0_off8 (c0_i32_57 : BitVec 32) : Fin 3 → Nat :=
  let c0_80 : Index := 0#32
  let c0_81 : Index := 0#32
  let c768_i32 : BitVec 32 := 768#32
  let v129 : BitVec 32 := Scalar.muli c0_i32_57 c768_i32
  let v130 : BitVec 32 := v129
  let v178 : Index := Scalar.indexCast v130
  ![0, 0, v178.toNat]
def k0_off9 (c0_i32_57 : BitVec 32) : Fin 3 → Nat :=
  let c1_96 : Index := 1#32
  let c0_97 : Index := 0#32
  let c768_i32 : BitVec 32 := 768#32
  let v129 : BitVec 32 := Scalar.muli c0_i32_57 c768_i32
  let v130 : BitVec 32 := v129
  let v256 : Index := Scalar.indexCast v130
  ![1, 0, v256.toNat]
def k0_off10 (c0_i32_57 : BitVec 32) : Fin 3 → Nat :=
  let c2_108 : Index := 2#32
  let c0_109 : Index := 0#32
  let c768_i32 : BitVec 32 := 768#32
  let v129 : BitVec 32 := Scalar.muli c0_i32_57 c768_i32
  let v130 : BitVec 32 := v129
  let v331 : Index := Scalar.indexCast v130
  ![2, 0, v331.toNat]
def k0_off11 (c0_i32_57 : BitVec 32) : Fin 3 → Nat :=
  let c3_116 : Index := 3#32
  let c0_117 : Index := 0#32
  let c768_i32 : BitVec 32 := 768#32
  let v129 : BitVec 32 := Scalar.muli c0_i32_57 c768_i32
  let v130 : BitVec 32 := v129
  let v403 : Index := Scalar.indexCast v130
  ![3, 0, v403.toNat]
def k0_mult3 : BitVec 32 :=
  let c1_i32 : BitVec 32 := 1#32
  let c768_i32_123 : BitVec 32 := 768#32
  let v445 : BitVec 32 := Scalar.muli c1_i32 c768_i32_123
  v445
def k0_mult4 : BitVec 32 :=
  let c2_i32 : BitVec 32 := 2#32
  let c768_i32_189 : BitVec 32 := 768#32
  let v761 : BitVec 32 := Scalar.muli c2_i32 c768_i32_189
  v761
def k0_mult5 : BitVec 32 :=
  let c3_i32 : BitVec 32 := 3#32
  let c768_i32_255 : BitVec 32 := 768#32
  let v1077 : BitVec 32 := Scalar.muli c3_i32 c768_i32_255
  v1077
def k0_mult6 : BitVec 32 :=
  let c4_i32 : BitVec 32 := 4#32
  let c768_i32_321 : BitVec 32 := 768#32
  let v1393 : BitVec 32 := Scalar.muli c4_i32 c768_i32_321
  v1393
def k0_mult7 : BitVec 32 :=
  let c5_i32 : BitVec 32 := 5#32
  let c768_i32_387 : BitVec 32 := 768#32
  let v1709 : BitVec 32 := Scalar.muli c5_i32 c768_i32_387
  v1709
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "scale2" => some (((11863283 / 67108864) * (Real.log 2)⁻¹ : ℝ) : EReal)
  | _ => none
-- ==== ReferenceIdeal.lean ====
abbrev S4x4096x3072 : Shape := ⟨3, ![4, 4096, 3072]⟩
abbrev S4x32 : Shape := ⟨2, ![4, 32]⟩
abbrev S64 : Shape := ⟨1, ![64]⟩
abbrev S4x2x512x4x64 : Shape := ⟨5, ![4, 2, 512, 4, 64]⟩
abbrev S4x4096x256 : Shape := ⟨3, ![4, 4096, 256]⟩
abbrev S4x4096x4x2x32 : Shape := ⟨5, ![4, 4096, 4, 2, 32]⟩
abbrev S4x4096x4x64 : Shape := ⟨4, ![4, 4096, 4, 64]⟩
abbrev S4x1x512x4x64 : Shape := ⟨5, ![4, 1, 512, 4, 64]⟩
abbrev S4x512x4x64 : Shape := ⟨4, ![4, 512, 4, 64]⟩
abbrev S1x32 : Shape := ⟨2, ![1, 32]⟩
abbrev S32 : Shape := ⟨1, ![32]⟩
abbrev S_ : Shape := ⟨0, ![]⟩
abbrev S4x512x4x2x32 : Shape := ⟨5, ![4, 512, 4, 2, 32]⟩
abbrev S4x4608x4x2x32 : Shape := ⟨5, ![4, 4608, 4, 2, 32]⟩
abbrev S4x4608x4x64 : Shape := ⟨4, ![4, 4608, 4, 64]⟩
abbrev S4x4x2x4096x4608 : Shape := ⟨5, ![4, 4, 2, 4096, 4608]⟩
abbrev S4x4x2x4096 : Shape := ⟨4, ![4, 4, 2, 4096]⟩
abbrev S4x4x2x4096x1 : Shape := ⟨5, ![4, 4, 2, 4096, 1]⟩
abbrev S4x4x1x4096x4608 : Shape := ⟨5, ![4, 4, 1, 4096, 4608]⟩
abbrev S4x4x4096x4608 : Shape := ⟨4, ![4, 4, 4096, 4608]⟩
abbrev S4x4x64x4096 : Shape := ⟨4, ![4, 4, 64, 4096]⟩
abbrev S4x4096x4 : Shape := ⟨3, ![4, 4096, 4]⟩
abbrev S4x4096x4x1 : Shape := ⟨4, ![4, 4096, 4, 1]⟩
abbrev S1x1x1x64 : Shape := ⟨4, ![1, 1, 1, 64]⟩

abbrev nBuf : Space → Nat
  | .hbm => 85
  | .vmem => 0
  | .smem => 0
  | _ => 0

abbrev bufTy : (tb : Table) → Fin (tcTables nBuf tb) → BufTy
  | .hbm, ⟨0, _⟩ => ⟨S4x4096x3072, .f32⟩
  | .hbm, ⟨1, _⟩ => ⟨S4x32, .f32⟩
  | .hbm, ⟨2, _⟩ => ⟨S64, .f32⟩
  | .hbm, ⟨3, _⟩ => ⟨S4x2x512x4x64, .f32⟩
  | .hbm, ⟨4, _⟩ => ⟨S4x2x512x4x64, .f32⟩
  | .hbm, ⟨5, _⟩ => ⟨S4x4096x256, .f32⟩
  | .hbm, ⟨6, _⟩ => ⟨S4x4096x4x2x32, .f32⟩
  | .hbm, ⟨7, _⟩ => ⟨S4x4096x256, .f32⟩
  | .hbm, ⟨8, _⟩ => ⟨S4x4096x4x2x32, .f32⟩
  | .hbm, ⟨9, _⟩ => ⟨S4x4096x256, .f32⟩
  | .hbm, ⟨10, _⟩ => ⟨S4x4096x4x64, .f32⟩
  | .hbm, ⟨11, _⟩ => ⟨S4x1x512x4x64, .f32⟩
  | .hbm, ⟨12, _⟩ => ⟨S4x512x4x64, .f32⟩
  | .hbm, ⟨13, _⟩ => ⟨S4x1x512x4x64, .f32⟩
  | .hbm, ⟨14, _⟩ => ⟨S4x512x4x64, .f32⟩
  | .hbm, ⟨15, _⟩ => ⟨S1x32, .f32⟩
  | .hbm, ⟨16, _⟩ => ⟨S32, .f32⟩
  | .hbm, ⟨17, _⟩ => ⟨S1x32, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x32, .f32⟩
  | .hbm, ⟨24, _⟩ => ⟨S32, .f32⟩
  | .hbm, ⟨25, _⟩ => ⟨S1x32, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4x512x4x2x32, .f32⟩
  | .hbm, ⟨35, _⟩ => ⟨S4x4608x4x2x32, .f32⟩
  | .hbm, ⟨36, _⟩ => ⟨S4x4608x4x64, .f32⟩
  | .hbm, ⟨37, _⟩ => ⟨S4x4x2x4096x4608, .f32⟩
  | .hbm, ⟨38, _⟩ => ⟨S_, .f32⟩
  | .hbm, ⟨39, _⟩ => ⟨S4x4x2x4096x4608, .f32⟩
  | .hbm, ⟨40, _⟩ => ⟨S4x4x2x4096x4608, .f32⟩
  | .hbm, ⟨41, _⟩ => ⟨S_, .f32⟩
  | .hbm, ⟨42, _⟩ => ⟨S4x4x2x4096, .f32⟩
  | .hbm, ⟨43, _⟩ => ⟨S_, .f32⟩
  | .hbm, ⟨44, _⟩ => ⟨S4x4x2x4096, .f32⟩
  | .hbm, ⟨45, _⟩ => ⟨S4x4x2x4096, .f32⟩
  | .hbm, ⟨46, _⟩ => ⟨S4x4x2x4096x1, .f32⟩
  | .hbm, ⟨47, _⟩ => ⟨S4x4x2x4096x4608, .f32⟩
  | .hbm, ⟨48, _⟩ => ⟨S4x4x2x4096x4608, .f32⟩
  | .hbm, ⟨49, _⟩ => ⟨S4x4x2x4096x4608, .f32⟩
  | .hbm, ⟨50, _⟩ => ⟨S_, .f32⟩
  | .hbm, ⟨51, _⟩ => ⟨S4x4x2x4096, .f32⟩
  | .hbm, ⟨52, _⟩ => ⟨S4x4x2x4096x1, .f32⟩
  | .hbm, ⟨53, _⟩ => ⟨S4x4x2x4096x4608, .f32⟩
  | .hbm, ⟨54, _⟩ => ⟨S4x4x2x4096x4608, .f32⟩
  | .hbm, ⟨55, _⟩ => ⟨S4x4x1x4096x4608, .f32⟩
  | .hbm, ⟨56, _⟩ => ⟨S4x4x4096x4608, .f32⟩
  | .hbm, ⟨57, _⟩ => ⟨S4x4x1x4096x4608, .f32⟩
  | .hbm, ⟨58, _⟩ => ⟨S4x4x4096x4608, .f32⟩
  | .hbm, ⟨59, _⟩ => ⟨S4x4x4096x4608, .f32⟩
  | .hbm, ⟨60, _⟩ => ⟨S4x4x4096x4608, .f32⟩
  | .hbm, ⟨61, _⟩ => ⟨S4x4x4096x4608, .f32⟩
  | .hbm, ⟨62, _⟩ => ⟨S4x4x64x4096, .f32⟩
  | .hbm, ⟨63, _⟩ => ⟨S4x4096x4x64, .f32⟩
  | .hbm, ⟨64, _⟩ => ⟨S4x4096x4x64, .f32⟩
  | .hbm, ⟨65, _⟩ => ⟨S_, .f32⟩
  | .hbm, ⟨66, _⟩ => ⟨S4x4096x4, .f32⟩
  | .hbm, ⟨67, _⟩ => ⟨S4x4096x4x1, .f32⟩
  | .hbm, ⟨68, _⟩ => ⟨S_, .f32⟩
  | .hbm, ⟨69, _⟩ => ⟨S4x4096x4x1, .f32⟩
  | .hbm, ⟨70, _⟩ => ⟨S4x4096x4x1, .f32⟩
  | .hbm, ⟨71, _⟩ => ⟨S_, .f32⟩
  | .hbm, ⟨72, _⟩ => ⟨S4x4096x4x1, .f32⟩
  | .hbm, ⟨73, _⟩ => ⟨S4x4096x4x1, .f32⟩
  | .hbm, ⟨74, _⟩ => ⟨S4x4096x4x1, .f32⟩
  | .hbm, ⟨75, _⟩ => ⟨S4x4096x4x64, .f32⟩
  | .hbm, ⟨76, _⟩ => ⟨S4x4096x4x64, .f32⟩
  | .hbm, ⟨77, _⟩ => ⟨S1x1x1x64, .f32⟩
  | .hbm, ⟨78, _⟩ => ⟨S4x4096x4x64, .f32⟩
  | .hbm, ⟨79, _⟩ => ⟨S4x4096x4x64, .f32⟩
  | .hbm, ⟨80, _⟩ => ⟨S_, .f32⟩
  | .hbm, ⟨81, _⟩ => ⟨S4x4096x4x64, .f32⟩
  | .hbm, ⟨82, _⟩ => ⟨S4x4096x4x64, .f32⟩
  | .hbm, ⟨83, _⟩ => ⟨S4x4096x256, .f32⟩
  | .hbm, ⟨84, _⟩ => ⟨S4x4096x256, .bf16⟩
  | _, _ => ⟨S4x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_6 : Ref sig .tc := ⟨.hbm, 65, rfl⟩
abbrev main_v53 : Ref sig .tc := ⟨.hbm, 66, rfl⟩
abbrev main_v54 : Ref sig .tc := ⟨.hbm, 67, rfl⟩
abbrev main_cst_7 : Ref sig .tc := ⟨.hbm, 68, rfl⟩
abbrev main_v55 : Ref sig .tc := ⟨.hbm, 69, rfl⟩
abbrev main_v56 : Ref sig .tc := ⟨.hbm, 70, rfl⟩
abbrev main_cst_8 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_9 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩

abbrev nD : Nat := 1
abbrev τ : Topo := Topo.v7x

variable {F : FTy → Type} [FloatOps F]
-- ==== Tail.lean ====
abbrev S4x4096x1024 : Shape := ⟨3, ![4, 4096, 1024]⟩
abbrev S4x4096x256 : Shape := ⟨3, ![4, 4096, 256]⟩
abbrev S4x1x1024 : Shape := ⟨3, ![4, 1, 1024]⟩
abbrev S2x1024x1024 : Shape := ⟨3, ![2, 1024, 1024]⟩
abbrev S2x2x1024 : Shape := ⟨3, ![2, 2, 1024]⟩
abbrev S2x1024x5632 : Shape := ⟨3, ![2, 1024, 5632]⟩
abbrev S2x2816x1024 : Shape := ⟨3, ![2, 2816, 1024]⟩
abbrev S1x2x1024 : Shape := ⟨3, ![1, 2, 1024]⟩
abbrev S2x1024 : Shape := ⟨2, ![2, 1024]⟩
abbrev S1x1024 : Shape := ⟨2, ![1, 1024]⟩
abbrev S1024 : Shape := ⟨1, ![1024]⟩
abbrev S1x1024x256 : Shape := ⟨3, ![1, 1024, 256]⟩
abbrev S1x1024x1024 : Shape := ⟨3, ![1, 1024, 1024]⟩
abbrev S1x1x1024 : Shape := ⟨3, ![1, 1, 1024]⟩
abbrev S1024x256 : Shape := ⟨2, ![1024, 256]⟩
abbrev S1024x1024 : Shape := ⟨2, ![1024, 1024]⟩
abbrev S1024x1 : Shape := ⟨2, ![1024, 1]⟩
abbrev S4x4096x2816 : Shape := ⟨3, ![4, 4096, 2816]⟩
abbrev S1x1024x1408 : Shape := ⟨3, ![1, 1024, 1408]⟩
abbrev S1024x1408 : Shape := ⟨2, ![1024, 1408]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩

abbrev nBuf : Space → Nat
  | .hbm => 40
  | .vmem => 40
  | .smem => 0
  | _ => 0

abbrev bufTy : (tb : Table) → Fin (tcTables nBuf tb) → BufTy
  | .hbm, ⟨0, _⟩ => ⟨S4x4096x1024, .f32⟩
  | .hbm, ⟨1, _⟩ => ⟨S4x4096x256, .bf16⟩
  | .hbm, ⟨2, _⟩ => ⟨S4x4096x256, .bf16⟩
  | .hbm, ⟨3, _⟩ => ⟨S4x4096x256, .bf16⟩
  | .hbm, ⟨4, _⟩ => ⟨S4x4096x256, .bf16⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S2x1024x1024, .f32⟩
  | .hbm, ⟨10, _⟩ => ⟨S2x2x1024, .f32⟩
  | .hbm, ⟨11, _⟩ => ⟨S2x2x1024, .f32⟩
  | .hbm, ⟨12, _⟩ => ⟨S2x1024x5632, .f32⟩
  | .hbm, ⟨13, _⟩ => ⟨S2x2816x1024, .f32⟩
  | .hbm, ⟨14, _⟩ => ⟨S2x1024x1024, .bf16⟩
  | .hbm, ⟨15, _⟩ => ⟨S1x2x1024, .f32⟩
  | .hbm, ⟨16, _⟩ => ⟨S2x1024, .f32⟩
  | .hbm, ⟨17, _⟩ => ⟨S1x1024, .f32⟩
  | .hbm, ⟨18, _⟩ => ⟨S1024, .f32⟩
  | .hbm, ⟨19, _⟩ => ⟨S1x2x1024, .f32⟩
  | .hbm, ⟨20, _⟩ => ⟨S2x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1x1024, .f32⟩
  | .hbm, ⟨25, _⟩ => ⟨S4x4096x1024, .f32⟩
  | .hbm, ⟨26, _⟩ => ⟨S2x1024x5632, .bf16⟩
  | .hbm, ⟨27, _⟩ => ⟨S4x4096x2816, .bf16⟩
  | .hbm, ⟨28, _⟩ => ⟨S2x2816x1024, .bf16⟩
  | .hbm, ⟨29, _⟩ => ⟨S1x2x1024, .f32⟩
  | .hbm, ⟨30, _⟩ => ⟨S2x1024, .f32⟩
  | .hbm, ⟨31, _⟩ => ⟨S1x1024, .f32⟩
  | .hbm, ⟨32, _⟩ => ⟨S1024, .f32⟩
  | .hbm, ⟨33, _⟩ => ⟨S1x2x1024, .f32⟩
  | .hbm, ⟨34, _⟩ => ⟨S2x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S4x4096x1024, .f32⟩
  | .local _ .vmem, ⟨0, _⟩ => ⟨S1x1024x256, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x1024, .bf16⟩
  | .local _ .vmem, ⟨9, _⟩ => ⟨S1x1024x1024, .f32⟩
  | .local _ .vmem, ⟨10, _⟩ => ⟨S1x1024x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | .local _ .vmem, ⟨14, _⟩ => ⟨S1x1024, .f32⟩
  | .local _ .vmem, ⟨15, _⟩ => ⟨S1x1024x1024, .f32⟩
  | .local _ .vmem, ⟨16, _⟩ => ⟨S1x1024x1024, .f32⟩
  | .local _ .vmem, ⟨17, _⟩ => ⟨S1x1024x1024, .f32⟩
  | .local _ .vmem, ⟨18, _⟩ => ⟨S1x1024x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1024x1408, .bf16⟩
  | .local _ .vmem, ⟨24, _⟩ => ⟨S1x1024x1408, .bf16⟩
  | .local _ .vmem, ⟨25, _⟩ => ⟨S1x1024x1408, .bf16⟩
  | .local _ .vmem, ⟨26, _⟩ => ⟨S1x1024x1408, .bf16⟩
  | .local _ .vmem, ⟨27, _⟩ => ⟨S1x1024x1408, .bf16⟩
  | .local _ .vmem, ⟨28, _⟩ => ⟨S1x1024x1408, .bf16⟩
  | .local _ .vmem, ⟨29, _⟩ => ⟨S1x1024x2816, .bf16⟩
  | .local _ .vmem, ⟨30, _⟩ => ⟨S1x1024x2816, .bf16⟩
  | .local _ .vmem, ⟨31, _⟩ => ⟨S1x2816x1024, .bf16⟩
  | .local _ .vmem, ⟨32, _⟩ => ⟨S1x1024x1024, .f32⟩
  | .local _ .vmem, ⟨33, _⟩ => ⟨S1x1024x1024, .f32⟩
  | .local _ .vmem, ⟨34, _⟩ => ⟨S1x1x1024, .f32⟩
  | .local _ .vmem, ⟨35, _⟩ => ⟨S1x1x1024, .f32⟩
  | .local _ .vmem, ⟨36, _⟩ => ⟨S1x1024, .f32⟩
  | .local _ .vmem, ⟨37, _⟩ => ⟨S1x1024, .f32⟩
  | .local _ .vmem, ⟨38, _⟩ => ⟨S1x1024x1024, .f32⟩
  | .local _ .vmem, ⟨39, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg6_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc1_sem4_1 : DmaSem sig := 26
abbrev cc1_sem5_0 : DmaSem sig := 27
abbrev cc1_sem5_1 : DmaSem sig := 28
abbrev cc2_sem0_0 : DmaSem sig := 29
abbrev cc2_sem0_1 : DmaSem sig := 30
abbrev cc2_sem1_0 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem5_0 : DmaSem sig := 37
abbrev cc2_sem6_0 : DmaSem sig := 38
abbrev cc2_sem6_1 : DmaSem sig := 39

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨3, ![2, 4, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c1_i32 : BitVec 32 := 1#32
  let c0_i32 : BitVec 32 := 0#32
  let c0_i32_0 : BitVec 32 := 0#32
  ![c1_i32.toNat, c0_i32.toNat, v0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1x1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, false]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1x1024x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S1x1024x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev stage1_5 : Fin 2 → Memref sig .tc .vmem S1x1024x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev grid2 : Pipeline.Grid := ⟨2, ![4, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1024x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x1024x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]
-- ==== TailIdeal.lean ====
abbrev S4x4096x1024 : Shape := ⟨3, ![4, 4096, 1024]⟩
abbrev S4x4096x256 : Shape := ⟨3, ![4, 4096, 256]⟩
abbrev S4x1x1024 : Shape := ⟨3, ![4, 1, 1024]⟩
abbrev S2x1024x1024 : Shape := ⟨3, ![2, 1024, 1024]⟩
abbrev S2x2x1024 : Shape := ⟨3, ![2, 2, 1024]⟩
abbrev S2x1024x5632 : Shape := ⟨3, ![2, 1024, 5632]⟩
abbrev S2x2816x1024 : Shape := ⟨3, ![2, 2816, 1024]⟩
abbrev S1x2x1024 : Shape := ⟨3, ![1, 2, 1024]⟩
abbrev S2x1024 : Shape := ⟨2, ![2, 1024]⟩
abbrev S1x1024 : Shape := ⟨2, ![1, 1024]⟩
abbrev S1024 : Shape := ⟨1, ![1024]⟩
abbrev S1x1024x256 : Shape := ⟨3, ![1, 1024, 256]⟩
abbrev S1x1024x1024 : Shape := ⟨3, ![1, 1024, 1024]⟩
abbrev S1x1x1024 : Shape := ⟨3, ![1, 1, 1024]⟩
abbrev S1024x256 : Shape := ⟨2, ![1024, 256]⟩
abbrev S1024x1024 : Shape := ⟨2, ![1024, 1024]⟩
abbrev S1024x1 : Shape := ⟨2, ![1024, 1]⟩
abbrev S4x4096x2816 : Shape := ⟨3, ![4, 4096, 2816]⟩
abbrev S1x1024x1408 : Shape := ⟨3, ![1, 1024, 1408]⟩
abbrev S1024x1408 : Shape := ⟨2, ![1024, 1408]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩

abbrev nBuf : Space → Nat
  | .hbm => 40
  | .vmem => 40
  | .smem => 0
  | _ => 0

abbrev bufTy : (tb : Table) → Fin (tcTables nBuf tb) → BufTy
  | .hbm, ⟨0, _⟩ => ⟨S4x4096x1024, .f32⟩
  | .hbm, ⟨1, _⟩ => ⟨S4x4096x256, .bf16⟩
  | .hbm, ⟨2, _⟩ => ⟨S4x4096x256, .bf16⟩
  | .hbm, ⟨3, _⟩ => ⟨S4x4096x256, .bf16⟩
  | .hbm, ⟨4, _⟩ => ⟨S4x4096x256, .bf16⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S2x1024x1024, .f32⟩
  | .hbm, ⟨10, _⟩ => ⟨S2x2x1024, .f32⟩
  | .hbm, ⟨11, _⟩ => ⟨S2x2x1024, .f32⟩
  | .hbm, ⟨12, _⟩ => ⟨S2x1024x5632, .f32⟩
  | .hbm, ⟨13, _⟩ => ⟨S2x2816x1024, .f32⟩
  | .hbm, ⟨14, _⟩ => ⟨S2x1024x1024, .bf16⟩
  | .hbm, ⟨15, _⟩ => ⟨S1x2x1024, .f32⟩
  | .hbm, ⟨16, _⟩ => ⟨S2x1024, .f32⟩
  | .hbm, ⟨17, _⟩ => ⟨S1x1024, .f32⟩
  | .hbm, ⟨18, _⟩ => ⟨S1024, .f32⟩
  | .hbm, ⟨19, _⟩ => ⟨S1x2x1024, .f32⟩
  | .hbm, ⟨20, _⟩ => ⟨S2x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1x1024, .f32⟩
  | .hbm, ⟨25, _⟩ => ⟨S4x4096x1024, .f32⟩
  | .hbm, ⟨26, _⟩ => ⟨S2x1024x5632, .bf16⟩
  | .hbm, ⟨27, _⟩ => ⟨S4x4096x2816, .bf16⟩
  | .hbm, ⟨28, _⟩ => ⟨S2x2816x1024, .bf16⟩
  | .hbm, ⟨29, _⟩ => ⟨S1x2x1024, .f32⟩
  | .hbm, ⟨30, _⟩ => ⟨S2x1024, .f32⟩
  | .hbm, ⟨31, _⟩ => ⟨S1x1024, .f32⟩
  | .hbm, ⟨32, _⟩ => ⟨S1024, .f32⟩
  | .hbm, ⟨33, _⟩ => ⟨S1x2x1024, .f32⟩
  | .hbm, ⟨34, _⟩ => ⟨S2x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S4x4096x1024, .f32⟩
  | .local _ .vmem, ⟨0, _⟩ => ⟨S1x1024x256, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x1024, .bf16⟩
  | .local _ .vmem, ⟨9, _⟩ => ⟨S1x1024x1024, .f32⟩
  | .local _ .vmem, ⟨10, _⟩ => ⟨S1x1024x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | .local _ .vmem, ⟨14, _⟩ => ⟨S1x1024, .f32⟩
  | .local _ .vmem, ⟨15, _⟩ => ⟨S1x1024x1024, .f32⟩
  | .local _ .vmem, ⟨16, _⟩ => ⟨S1x1024x1024, .f32⟩
  | .local _ .vmem, ⟨17, _⟩ => ⟨S1x1024x1024, .f32⟩
  | .local _ .vmem, ⟨18, _⟩ => ⟨S1x1024x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1024x1408, .bf16⟩
  | .local _ .vmem, ⟨24, _⟩ => ⟨S1x1024x1408, .bf16⟩
  | .local _ .vmem, ⟨25, _⟩ => ⟨S1x1024x1408, .bf16⟩
  | .local _ .vmem, ⟨26, _⟩ => ⟨S1x1024x1408, .bf16⟩
  | .local _ .vmem, ⟨27, _⟩ => ⟨S1x1024x1408, .bf16⟩
  | .local _ .vmem, ⟨28, _⟩ => ⟨S1x1024x1408, .bf16⟩
  | .local _ .vmem, ⟨29, _⟩ => ⟨S1x1024x2816, .bf16⟩
  | .local _ .vmem, ⟨30, _⟩ => ⟨S1x1024x2816, .bf16⟩
  | .local _ .vmem, ⟨31, _⟩ => ⟨S1x2816x1024, .bf16⟩
  | .local _ .vmem, ⟨32, _⟩ => ⟨S1x1024x1024, .f32⟩
  | .local _ .vmem, ⟨33, _⟩ => ⟨S1x1024x1024, .f32⟩
  | .local _ .vmem, ⟨34, _⟩ => ⟨S1x1x1024, .f32⟩
  | .local _ .vmem, ⟨35, _⟩ => ⟨S1x1x1024, .f32⟩
  | .local _ .vmem, ⟨36, _⟩ => ⟨S1x1024, .f32⟩
  | .local _ .vmem, ⟨37, _⟩ => ⟨S1x1024, .f32⟩
  | .local _ .vmem, ⟨38, _⟩ => ⟨S1x1024x1024, .f32⟩
  | .local _ .vmem, ⟨39, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg6_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc1_sem4_1 : DmaSem sig := 26
abbrev cc1_sem5_0 : DmaSem sig := 27
abbrev cc1_sem5_1 : DmaSem sig := 28
abbrev cc2_sem0_0 : DmaSem sig := 29
abbrev cc2_sem0_1 : DmaSem sig := 30
abbrev cc2_sem1_0 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem5_0 : DmaSem sig := 37
abbrev cc2_sem6_0 : DmaSem sig := 38
abbrev cc2_sem6_1 : DmaSem sig := 39

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨3, ![2, 4, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c1_i32 : BitVec 32 := 1#32
  let c0_i32 : BitVec 32 := 0#32
  let c0_i32_0 : BitVec 32 := 0#32
  ![c1_i32.toNat, c0_i32.toNat, v0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1x1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, false]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1x1024x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S1x1024x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev stage1_5 : Fin 2 → Memref sig .tc .vmem S1x1024x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev grid2 : Pipeline.Grid := ⟨2, ![4, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1024x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x1024x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]
-- ==== TailRefIdeal.lean ====
abbrev S4x4096x1024 : Shape := ⟨3, ![4, 4096, 1024]⟩
abbrev S4x4096x256 : Shape := ⟨3, ![4, 4096, 256]⟩
abbrev S4x1x1024 : Shape := ⟨3, ![4, 1, 1024]⟩
abbrev S2x1024x1024 : Shape := ⟨3, ![2, 1024, 1024]⟩
abbrev S2x2x1024 : Shape := ⟨3, ![2, 2, 1024]⟩
abbrev S2x1024x5632 : Shape := ⟨3, ![2, 1024, 5632]⟩
abbrev S2x2816x1024 : Shape := ⟨3, ![2, 2816, 1024]⟩
abbrev S1x1024x1024 : Shape := ⟨3, ![1, 1024, 1024]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024 : Shape := ⟨1, ![1024]⟩
abbrev S1x1024x5632 : Shape := ⟨3, ![1, 1024, 5632]⟩
abbrev S1024x5632 : Shape := ⟨2, ![1024, 5632]⟩
abbrev S4x4096x5632 : Shape := ⟨3, ![4, 4096, 5632]⟩
abbrev S4x4096x2816 : Shape := ⟨3, ![4, 4096, 2816]⟩
abbrev S1x2816x1024 : Shape := ⟨3, ![1, 2816, 1024]⟩
abbrev S2816x1024 : Shape := ⟨2, ![2816, 1024]⟩

abbrev nBuf : Space → Nat
  | .hbm => 148
  | .vmem => 0
  | .smem => 0
  | _ => 0

abbrev hbmTy0_0 (i : Nat) : BufTy := match i % 128 with
  | 0 => ⟨S4x4096x1024, .f32⟩
  | 1 => ⟨S4x4096x256, .bf16⟩
  | 2 => ⟨S4x4096x256, .bf16⟩
  | 3 => ⟨S4x4096x256, .bf16⟩
  | 4 => ⟨S4x4096x256, .bf16⟩
  | 5 => ⟨S4x1x1024, .f32⟩
  | 6 => ⟨S4x1x1024, .f32⟩
  | 7 => ⟨S4x1x1024, .f32⟩
  | 8 => ⟨S4x1x1024, .f32⟩
  | 9 => ⟨S2x1024x1024, .f32⟩
  | 10 => ⟨S2x2x1024, .f32⟩
  | 11 => ⟨S2x2x1024, .f32⟩
  | 12 => ⟨S2x1024x5632, .f32⟩
  | 13 => ⟨S2x2816x1024, .f32⟩
  | 14 => ⟨S4x4096x256, .f32⟩
  | 15 => ⟨S4x4096x256, .f32⟩
  | 16 => ⟨S4x4096x256, .f32⟩
  | 17 => ⟨S4x4096x256, .f32⟩
  | 18 => ⟨S4x4096x1024, .f32⟩
  | 19 => ⟨S1x1024x1024, .f32⟩
  | 20 => ⟨S1024x1024, .f32⟩
  | 21 => ⟨S4x4096x1024, .f32⟩
  | 22 => ⟨S_, .f32⟩
  | 23 => ⟨S4x4096x1024, .f32⟩
  | 24 => ⟨S4x4096x1024, .f32⟩
  | 25 => ⟨S4x4096x1024, .f32⟩
  | 26 => ⟨S4x4096x1024, .f32⟩
  | 27 => ⟨S4x4096x1024, .f32⟩
  | 28 => ⟨S_, .f32⟩
  | 29 => ⟨S4x4096, .f32⟩
  | 30 => ⟨S4x4096x1, .f32⟩
  | 31 => ⟨S_, .f32⟩
  | 32 => ⟨S4x4096x1, .f32⟩
  | 33 => ⟨S4x4096x1, .f32⟩
  | 34 => ⟨S4x4096x1024, .f32⟩
  | 35 => ⟨S4x4096x1024, .f32⟩
  | 36 => ⟨S4x4096x1024, .f32⟩
  | 37 => ⟨S_, .f32⟩
  | 38 => ⟨S4x4096, .f32⟩
  | 39 => ⟨S4x4096x1, .f32⟩
  | 40 => ⟨S_, .f32⟩
  | 41 => ⟨S4x4096x1, .f32⟩
  | 42 => ⟨S4x4096x1, .f32⟩
  | 43 => ⟨S4x4096x1024, .f32⟩
  | 44 => ⟨S4x4096x1024, .f32⟩
  | 45 => ⟨S_, .f32⟩
  | 46 => ⟨S4x4096x1, .f32⟩
  | 47 => ⟨S4x4096x1, .f32⟩
  | 48 => ⟨S4x4096x1, .f32⟩
  | 49 => ⟨S4x4096x1024, .f32⟩
  | 50 => ⟨S4x4096x1024, .f32⟩
  | 51 => ⟨S1x1x1024, .f32⟩
  | 52 => ⟨S1024, .f32⟩
  | 53 => ⟨S1x1x1024, .f32⟩
  | 54 => ⟨S4x4096x1024, .f32⟩
  | 55 => ⟨S4x4096x1024, .f32⟩
  | 56 => ⟨S1x1x1024, .f32⟩
  | 57 => ⟨S1024, .f32⟩
  | 58 => ⟨S1x1x1024, .f32⟩
  | 59 => ⟨S4x4096x1024, .f32⟩
  | 60 => ⟨S4x4096x1024, .f32⟩
  | 61 => ⟨S_, .f32⟩
  | 62 => ⟨S4x4096, .f32⟩
  | 63 => ⟨S4x4096x1, .f32⟩
  | 64 => ⟨S_, .f32⟩
  | 65 => ⟨S4x4096x1, .f32⟩
  | 66 => ⟨S4x4096x1, .f32⟩
  | 67 => ⟨S4x4096x1024, .f32⟩
  | 68 => ⟨S4x4096x1024, .f32⟩
  | 69 => ⟨S4x4096x1024, .f32⟩
  | 70 => ⟨S_, .f32⟩
  | 71 => ⟨S4x4096, .f32⟩
  | 72 => ⟨S4x4096x1, .f32⟩
  | 73 => ⟨S_, .f32⟩
  | 74 => ⟨S4x4096x1, .f32⟩
  | 75 => ⟨S4x4096x1, .f32⟩
  | 76 => ⟨S4x4096x1024, .f32⟩
  | 77 => ⟨S4x4096x1024, .f32⟩
  | 78 => ⟨S_, .f32⟩
  | 79 => ⟨S4x4096x1, .f32⟩
  | 80 => ⟨S4x4096x1, .f32⟩
  | 81 => ⟨S4x4096x1, .f32⟩
  | 82 => ⟨S4x4096x1024, .f32⟩
  | 83 => ⟨S4x4096x1024, .f32⟩
  | 84 => ⟨S_, .f32⟩
  | 85 => ⟨S4x1x1024, .f32⟩
  | 86 => ⟨S4x1x1024, .f32⟩
  | 87 => ⟨S4x4096x1024, .f32⟩
  | 88 => ⟨S4x4096x1024, .f32⟩
  | 89 => ⟨S4x4096x1024, .f32⟩
  | 90 => ⟨S4x4096x1024, .f32⟩
  | 91 => ⟨S1x1024x5632, .f32⟩
  | 92 => ⟨S1024x5632, .f32⟩
  | 93 => ⟨S4x4096x5632, .f32⟩
  | 94 => ⟨S4x4096x2816, .f32⟩
  | 95 => ⟨S4x4096x2816, .f32⟩
  | 96 => ⟨S4x4096x2816, .f32⟩
  | 97 => ⟨S4x4096x2816, .f32⟩
  | 98 => ⟨S_, .f32⟩
  | 99 => ⟨S4x4096x2816, .f32⟩
  | 100 => ⟨S4x4096x2816, .f32⟩
  | 101 => ⟨S_, .f32⟩
  | 102 => ⟨S4x4096x2816, .f32⟩
  | 103 => ⟨S4x4096x2816, .f32⟩
  | 104 => ⟨S4x4096x2816, .f32⟩
  | 105 => ⟨S4x4096x2816, .f32⟩
  | 106 => ⟨S1x2816x1024, .f32⟩
  | 107 => ⟨S2816x1024, .f32⟩
  | 108 => ⟨S4x4096x1024, .f32⟩
  | 109 => ⟨S_, .f32⟩
  | 110 => ⟨S4x4096x1024, .f32⟩
  | 111 => ⟨S4x4096x1024, .f32⟩
  | 112 => ⟨S4x4096x1024, .f32⟩
  | 113 => ⟨S4x4096x1024, .f32⟩
  | 114 => ⟨S4x4096x1024, .f32⟩
  | 115 => ⟨S_, .f32⟩
  | 116 => ⟨S4x4096, .f32⟩
  | 117 => ⟨S4x4096x1, .f32⟩
  | 118 => ⟨S_, .f32⟩
  | 119 => ⟨S4x4096x1, .f32⟩
  | 120 => ⟨S4x4096x1, .f32⟩
  | 121 => ⟨S4x4096x1024, .f32⟩
  | 122 => ⟨S4x4096x1024, .f32⟩
  | 123 => ⟨S4x4096x1024, .f32⟩
  | 124 => ⟨S_, .f32⟩
  | 125 => ⟨S4x4096, .f32⟩
  | 126 => ⟨S4x4096x1, .f32⟩
  | 127 => ⟨S_, .f32⟩
  | _ => ⟨S4x4096x1024, .f32⟩

abbrev hbmTy0_1 (i : Nat) : BufTy := match i % 128 with
  | 0 => ⟨S4x4096x1, .f32⟩
  | 1 => ⟨S4x4096x1, .f32⟩
  | 2 => ⟨S4x4096x1024, .f32⟩
  | 3 => ⟨S4x4096x1024, .f32⟩
  | 4 => ⟨S_, .f32⟩
  | 5 => ⟨S4x4096x1, .f32⟩
  | 6 => ⟨S4x4096x1, .f32⟩
  | 7 => ⟨S4x4096x1, .f32⟩
  | 8 => ⟨S4x4096x1024, .f32⟩
  | 9 => ⟨S4x4096x1024, .f32⟩
  | 10 => ⟨S1x1x1024, .f32⟩
  | 11 => ⟨S1024, .f32⟩
  | 12 => ⟨S1x1x1024, .f32⟩
  | 13 => ⟨S4x4096x1024, .f32⟩
  | 14 => ⟨S4x4096x1024, .f32⟩
  | 15 => ⟨S1x1x1024, .f32⟩
  | 16 => ⟨S1024, .f32⟩
  | 17 => ⟨S1x1x1024, .f32⟩
  | 18 => ⟨S4x4096x1024, .f32⟩
  | 19 => ⟨S4x4096x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_call0_v0 : Ref sig .tc := ⟨.hbm, 96, rfl⟩
abbrev main_call0_v1 : Ref sig .tc := ⟨.hbm, 97, rfl⟩
abbrev main_call0_cst : Ref sig .tc := ⟨.hbm, 98, rfl⟩
abbrev main_call0_v2 : Ref sig .tc := ⟨.hbm, 99, rfl⟩
abbrev main_call0_v3 : Ref sig .tc := ⟨.hbm, 100, rfl⟩
abbrev main_call0_cst_0 : Ref sig .tc := ⟨.hbm, 101, rfl⟩
abbrev main_call0_v4 : Ref sig .tc := ⟨.hbm, 102, rfl⟩
abbrev main_call0_v5 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_11 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_12 : Ref sig .tc := ⟨.hbm, 115, rfl⟩
abbrev main_v80 : Ref sig .tc := ⟨.hbm, 116, rfl⟩
abbrev main_v81 : Ref sig .tc := ⟨.hbm, 117, rfl⟩
abbrev main_cst_13 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_14 : Ref sig .tc := ⟨.hbm, 124, rfl⟩
abbrev main_v87 : Ref sig .tc := ⟨.hbm, 125, rfl⟩
abbrev main_v88 : Ref sig .tc := ⟨.hbm, 126, rfl⟩
abbrev main_cst_15 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_16 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩

abbrev nD : Nat := 1
abbrev τ : Topo := Topo.v7x

variable {F : FTy → Type} [FloatOps F]
-- ==== Proj.lean ====
abbrev S16x256x1024 : Shape := ⟨3, ![16, 256, 1024]⟩
abbrev S1x1x1024 : Shape := ⟨3, ![1, 1, 1024]⟩
abbrev S2x1024x3072 : Shape := ⟨3, ![2, 1024, 3072]⟩
abbrev S16x256x3072 : Shape := ⟨3, ![16, 256, 3072]⟩
abbrev S2x256x1024 : Shape := ⟨3, ![2, 256, 1024]⟩
abbrev S1x1024x3072 : Shape := ⟨3, ![1, 1024, 3072]⟩
abbrev S2x256x3072 : Shape := ⟨3, ![2, 256, 3072]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S1024x3072 : Shape := ⟨2, ![1024, 3072]⟩
abbrev S512x3072 : Shape := ⟨2, ![512, 3072]⟩
abbrev S16x256x256 : Shape := ⟨3, ![16, 256, 256]⟩
abbrev S16x256x4x64 : Shape := ⟨4, ![16, 256, 4, 64]⟩
abbrev S16x1x256x4x64 : Shape := ⟨5, ![16, 1, 256, 4, 64]⟩
abbrev S16x2x256x4x64 : Shape := ⟨5, ![16, 2, 256, 4, 64]⟩

abbrev nBuf : Space → Nat
  | .hbm => 24
  | .vmem => 14
  | .smem => 0
  | _ => 0

abbrev bufTy : (tb : Table) → Fin (tcTables nBuf tb) → BufTy
  | .hbm, ⟨0, _⟩ => ⟨S16x256x1024, .f32⟩
  | .hbm, ⟨1, _⟩ => ⟨S16x256x1024, .f32⟩
  | .hbm, ⟨2, _⟩ => ⟨S1x1x1024, .f32⟩
  | .hbm, ⟨3, _⟩ => ⟨S1x1x1024, .f32⟩
  | .hbm, ⟨4, _⟩ => ⟨S1x1x1024, .f32⟩
  | .hbm, ⟨5, _⟩ => ⟨S1x1x1024, .f32⟩
  | .hbm, ⟨6, _⟩ => ⟨S2x1024x3072, .f32⟩
  | .hbm, ⟨7, _⟩ => ⟨S2x1024x3072, .bf16⟩
  | .hbm, ⟨8, _⟩ => ⟨S16x256x3072, .f32⟩
  | .hbm, ⟨9, _⟩ => ⟨S16x256x256, .f32⟩
  | .hbm, ⟨10, _⟩ => ⟨S16x256x4x64, .f32⟩
  | .hbm, ⟨11, _⟩ => ⟨S16x256x256, .f32⟩
  | .hbm, ⟨12, _⟩ => ⟨S16x256x4x64, .f32⟩
  | .hbm, ⟨13, _⟩ => ⟨S16x256x3072, .f32⟩
  | .hbm, ⟨14, _⟩ => ⟨S16x256x256, .f32⟩
  | .hbm, ⟨15, _⟩ => ⟨S16x256x4x64, .f32⟩
  | .hbm, ⟨16, _⟩ => ⟨S16x256x256, .f32⟩
  | .hbm, ⟨17, _⟩ => ⟨S16x256x4x64, .f32⟩
  | .hbm, ⟨18, _⟩ => ⟨S16x1x256x4x64, .f32⟩
  | .hbm, ⟨19, _⟩ => ⟨S16x1x256x4x64, .f32⟩
  | .hbm, ⟨20, _⟩ => ⟨S16x2x256x4x64, .f32⟩
  | .hbm, ⟨21, _⟩ => ⟨S16x1x256x4x64, .f32⟩
  | .hbm, ⟨22, _⟩ => ⟨S16x1x256x4x64, .f32⟩
  | .hbm, ⟨23, _⟩ => ⟨S16x2x256x4x64, .f32⟩
  | .local _ .vmem, ⟨0, _⟩ => ⟨S2x256x1024, .f32⟩
  | .local _ .vmem, ⟨1, _⟩ => ⟨S2x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024x3072, .bf16⟩
  | .local _ .vmem, ⟨5, _⟩ => ⟨S2x256x3072, .f32⟩
  | .local _ .vmem, ⟨6, _⟩ => ⟨S2x256x3072, .f32⟩
  | .local _ .vmem, ⟨7, _⟩ => ⟨S2x256x1024, .f32⟩
  | .local _ .vmem, ⟨8, _⟩ => ⟨S2x256x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1024x3072, .bf16⟩
  | .local _ .vmem, ⟨12, _⟩ => ⟨S2x256x3072, .f32⟩
  | .local _ .vmem, ⟨13, _⟩ => ⟨S2x256x3072, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2x256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S2x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1024x3072 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2x256x3072 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ProjRefIdeal.lean ====
abbrev S16x256x1024 : Shape := ⟨3, ![16, 256, 1024]⟩
abbrev S1x1x1024 : Shape := ⟨3, ![1, 1, 1024]⟩
abbrev S2x1024x3072 : Shape := ⟨3, ![2, 1024, 3072]⟩
abbrev S_ : Shape := ⟨0, ![]⟩
abbrev S16x256 : Shape := ⟨2, ![16, 256]⟩
abbrev S16x256x1 : Shape := ⟨3, ![16, 256, 1]⟩
abbrev S1x1024x3072 : Shape := ⟨3, ![1, 1024, 3072]⟩
abbrev S1024x3072 : Shape := ⟨2, ![1024, 3072]⟩
abbrev S16x256x3072 : Shape := ⟨3, ![16, 256, 3072]⟩
abbrev S16x256x256 : Shape := ⟨3, ![16, 256, 256]⟩
abbrev S16x256x4x64 : Shape := ⟨4, ![16, 256, 4, 64]⟩
abbrev S16x1x256x4x64 : Shape := ⟨5, ![16, 1, 256, 4, 64]⟩
abbrev S16x2x256x4x64 : Shape := ⟨5, ![16, 2, 256, 4, 64]⟩

abbrev nBuf : Space → Nat
  | .hbm => 107
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S16x256x1024, .f32⟩
  | .hbm, ⟨2, _⟩ => ⟨S1x1x1024, .f32⟩
  | .hbm, ⟨3, _⟩ => ⟨S1x1x1024, .f32⟩
  | .hbm, ⟨4, _⟩ => ⟨S1x1x1024, .f32⟩
  | .hbm, ⟨5, _⟩ => ⟨S1x1x1024, .f32⟩
  | .hbm, ⟨6, _⟩ => ⟨S2x1024x3072, .f32⟩
  | .hbm, ⟨7, _⟩ => ⟨S_, .f32⟩
  | .hbm, ⟨8, _⟩ => ⟨S16x256, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S16x256x1024, .f32⟩
  | .hbm, ⟨14, _⟩ => ⟨S16x256x1024, .f32⟩
  | .hbm, ⟨15, _⟩ => ⟨S16x256x1024, .f32⟩
  | .hbm, ⟨16, _⟩ => ⟨S_, .f32⟩
  | .hbm, ⟨17, _⟩ => ⟨S16x256, .f32⟩
  | .hbm, ⟨18, _⟩ => ⟨S16x256x1, .f32⟩
  | .hbm, ⟨19, _⟩ => ⟨S_, .f32⟩
  | .hbm, ⟨20, _⟩ => ⟨S16x256x1, .f32⟩
  | .hbm, ⟨21, _⟩ => ⟨S16x256x1, .f32⟩
  | .hbm, ⟨22, _⟩ => ⟨S16x256x1024, .f32⟩
  | .hbm, ⟨23, _⟩ => ⟨S16x256x1024, .f32⟩
  | .hbm, ⟨24, _⟩ => ⟨S_, .f32⟩
  | .hbm, ⟨25, _⟩ => ⟨S16x256x1, .f32⟩
  | .hbm, ⟨26, _⟩ => ⟨S16x256x1, .f32⟩
  | .hbm, ⟨27, _⟩ => ⟨S16x256x1, .f32⟩
  | .hbm, ⟨28, _⟩ => ⟨S16x256x1024, .f32⟩
  | .hbm, ⟨29, _⟩ => ⟨S16x256x1024, .f32⟩
  | .hbm, ⟨30, _⟩ => ⟨S_, .f32⟩
  | .hbm, ⟨31, _⟩ => ⟨S1x1x1024, .f32⟩
  | .hbm, ⟨32, _⟩ => ⟨S1x1x1024, .f32⟩
  | .hbm, ⟨33, _⟩ => ⟨S16x256x1024, .f32⟩
  | .hbm, ⟨34, _⟩ => ⟨S16x256x1024, .f32⟩
  | .hbm, ⟨35, _⟩ => ⟨S16x256x1024, .f32⟩
  | .hbm, ⟨36, _⟩ => ⟨S16x256x1024, .f32⟩
  | .hbm, ⟨37, _⟩ => ⟨S1x1024x3072, .f32⟩
  | .hbm, ⟨38, _⟩ => ⟨S1024x3072, .f32⟩
  | .hbm, ⟨39, _⟩ => ⟨S16x256x3072, .f32⟩
  | .hbm, ⟨40, _⟩ => ⟨S16x256x256, .f32⟩
  | .hbm, ⟨41, _⟩ => ⟨S16x256x256, .f32⟩
  | .hbm, ⟨42, _⟩ => ⟨S16x256x256, .f32⟩
  | .hbm, ⟨43, _⟩ => ⟨S16x256x256, .f32⟩
  | .hbm, ⟨44, _⟩ => ⟨S16x256x256, .f32⟩
  | .hbm, ⟨45, _⟩ => ⟨S16x256x256, .f32⟩
  | .hbm, ⟨46, _⟩ => ⟨S16x256x256, .f32⟩
  | .hbm, ⟨47, _⟩ => ⟨S16x256x256, .f32⟩
  | .hbm, ⟨48, _⟩ => ⟨S16x256x256, .f32⟩
  | .hbm, ⟨49, _⟩ => ⟨S16x256x256, .f32⟩
  | .hbm, ⟨50, _⟩ => ⟨S16x256x256, .f32⟩
  | .hbm, ⟨51, _⟩ => ⟨S16x256x256, .f32⟩
  | .hbm, ⟨52, _⟩ => ⟨S16x256x4x64, .f32⟩
  | .hbm, ⟨53, _⟩ => ⟨S16x256x4x64, .f32⟩
  | .hbm, ⟨54, _⟩ => ⟨S_, .f32⟩
  | .hbm, ⟨55, _⟩ => ⟨S16x256, .f32⟩
  | .hbm, ⟨56, _⟩ => ⟨S16x256x1, .f32⟩
  | .hbm, ⟨57, _⟩ => ⟨S_, .f32⟩
  | .hbm, ⟨58, _⟩ => ⟨S16x256x1, .f32⟩
  | .hbm, ⟨59, _⟩ => ⟨S16x256x1, .f32⟩
  | .hbm, ⟨60, _⟩ => ⟨S16x256x1024, .f32⟩
  | .hbm, ⟨61, _⟩ => ⟨S16x256x1024, .f32⟩
  | .hbm, ⟨62, _⟩ => ⟨S16x256x1024, .f32⟩
  | .hbm, ⟨63, _⟩ => ⟨S_, .f32⟩
  | .hbm, ⟨64, _⟩ => ⟨S16x256, .f32⟩
  | .hbm, ⟨65, _⟩ => ⟨S16x256x1, .f32⟩
  | .hbm, ⟨66, _⟩ => ⟨S_, .f32⟩
  | .hbm, ⟨67, _⟩ => ⟨S16x256x1, .f32⟩
  | .hbm, ⟨68, _⟩ => ⟨S16x256x1, .f32⟩
  | .hbm, ⟨69, _⟩ => ⟨S16x256x1024, .f32⟩
  | .hbm, ⟨70, _⟩ => ⟨S16x256x1024, .f32⟩
  | .hbm, ⟨71, _⟩ => ⟨S_, .f32⟩
  | .hbm, ⟨72, _⟩ => ⟨S16x256x1, .f32⟩
  | .hbm, ⟨73, _⟩ => ⟨S16x256x1, .f32⟩
  | .hbm, ⟨74, _⟩ => ⟨S16x256x1, .f32⟩
  | .hbm, ⟨75, _⟩ => ⟨S16x256x1024, .f32⟩
  | .hbm, ⟨76, _⟩ => ⟨S16x256x1024, .f32⟩
  | .hbm, ⟨77, _⟩ => ⟨S_, .f32⟩
  | .hbm, ⟨78, _⟩ => ⟨S1x1x1024, .f32⟩
  | .hbm, ⟨79, _⟩ => ⟨S1x1x1024, .f32⟩
  | .hbm, ⟨80, _⟩ => ⟨S16x256x1024, .f32⟩
  | .hbm, ⟨81, _⟩ => ⟨S16x256x1024, .f32⟩
  | .hbm, ⟨82, _⟩ => ⟨S16x256x1024, .f32⟩
  | .hbm, ⟨83, _⟩ => ⟨S16x256x1024, .f32⟩
  | .hbm, ⟨84, _⟩ => ⟨S1x1024x3072, .f32⟩
  | .hbm, ⟨85, _⟩ => ⟨S1024x3072, .f32⟩
  | .hbm, ⟨86, _⟩ => ⟨S16x256x3072, .f32⟩
  | .hbm, ⟨87, _⟩ => ⟨S16x256x256, .f32⟩
  | .hbm, ⟨88, _⟩ => ⟨S16x256x256, .f32⟩
  | .hbm, ⟨89, _⟩ => ⟨S16x256x256, .f32⟩
  | .hbm, ⟨90, _⟩ => ⟨S16x256x256, .f32⟩
  | .hbm, ⟨91, _⟩ => ⟨S16x256x256, .f32⟩
  | .hbm, ⟨92, _⟩ => ⟨S16x256x256, .f32⟩
  | .hbm, ⟨93, _⟩ => ⟨S16x256x256, .f32⟩
  | .hbm, ⟨94, _⟩ => ⟨S16x256x256, .f32⟩
  | .hbm, ⟨95, _⟩ => ⟨S16x256x256, .f32⟩
  | .hbm, ⟨96, _⟩ => ⟨S16x256x256, .f32⟩
  | .hbm, ⟨97, _⟩ => ⟨S16x256x256, .f32⟩
  | .hbm, ⟨98, _⟩ => ⟨S16x256x256, .f32⟩
  | .hbm, ⟨99, _⟩ => ⟨S16x256x4x64, .f32⟩
  | .hbm, ⟨100, _⟩ => ⟨S16x256x4x64, .f32⟩
  | .hbm, ⟨101, _⟩ => ⟨S16x1x256x4x64, .f32⟩
  | .hbm, ⟨102, _⟩ => ⟨S16x1x256x4x64, .f32⟩
  | .hbm, ⟨103, _⟩ => ⟨S16x2x256x4x64, .f32⟩
  | .hbm, ⟨104, _⟩ => ⟨S16x1x256x4x64, .f32⟩
  | .hbm, ⟨105, _⟩ => ⟨S16x1x256x4x64, .f32⟩
  | .hbm, ⟨106, _⟩ => ⟨S16x2x256x4x64, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩

abbrev nD : Nat := 1
abbrev τ : Topo := Topo.v7x

variable {F : FTy → Type} [FloatOps F]
-- ==== Prompt.lean ====
abbrev S16x256x1024 : Shape := ⟨3, ![16, 256, 1024]⟩
abbrev S16x256x256 : Shape := ⟨3, ![16, 256, 256]⟩
abbrev S1x1x1024 : Shape := ⟨3, ![1, 1, 1024]⟩
abbrev S2x1024x1024 : Shape := ⟨3, ![2, 1024, 1024]⟩
abbrev S2x2x1024 : Shape := ⟨3, ![2, 2, 1024]⟩
abbrev S2x1024x5632 : Shape := ⟨3, ![2, 1024, 5632]⟩
abbrev S2x2816x1024 : Shape := ⟨3, ![2, 2816, 1024]⟩
abbrev S1x2x1024 : Shape := ⟨3, ![1, 2, 1024]⟩
abbrev S2x1024 : Shape := ⟨2, ![2, 1024]⟩
abbrev S1x1024 : Shape := ⟨2, ![1, 1024]⟩
abbrev S1024 : Shape := ⟨1, ![1024]⟩
abbrev S4x256x256 : Shape := ⟨3, ![4, 256, 256]⟩
abbrev S1x1024x1024 : Shape := ⟨3, ![1, 1024, 1024]⟩
abbrev S4x256x1024 : Shape := ⟨3, ![4, 256, 1024]⟩
abbrev S1024x256 : Shape := ⟨2, ![1024, 256]⟩
abbrev S1024x1024 : Shape := ⟨2, ![1024, 1024]⟩
abbrev S1024x1 : Shape := ⟨2, ![1024, 1]⟩
abbrev S16x256x2816 : Shape := ⟨3, ![16, 256, 2816]⟩
abbrev S1x1024x1408 : Shape := ⟨3, ![1, 1024, 1408]⟩
abbrev S4x256x1408 : Shape := ⟨3, ![4, 256, 1408]⟩
abbrev S1024x1408 : Shape := ⟨2, ![1024, 1408]⟩
abbrev S4x256x2816 : Shape := ⟨3, ![4, 256, 2816]⟩
abbrev S1x2816x1024 : Shape := ⟨3, ![1, 2816, 1024]⟩
abbrev S1024x2816 : Shape := ⟨2, ![1024, 2816]⟩
abbrev S2816x1024 : Shape := ⟨2, ![2816, 1024]⟩

abbrev nBuf : Space → Nat
  | .hbm => 40
  | .vmem => 36
  | .smem => 0
  | _ => 0

abbrev bufTy : (tb : Table) → Fin (tcTables nBuf tb) → BufTy
  | .hbm, ⟨0, _⟩ => ⟨S16x256x1024, .f32⟩
  | .hbm, ⟨1, _⟩ => ⟨S16x256x256, .bf16⟩
  | .hbm, ⟨2, _⟩ => ⟨S16x256x256, .bf16⟩
  | .hbm, ⟨3, _⟩ => ⟨S16x256x256, .bf16⟩
  | .hbm, ⟨4, _⟩ => ⟨S16x256x256, .bf16⟩
  | .hbm, ⟨5, _⟩ => ⟨S1x1x1024, .f32⟩
  | .hbm, ⟨6, _⟩ => ⟨S1x1x1024, .f32⟩
  | .hbm, ⟨7, _⟩ => ⟨S1x1x1024, .f32⟩
  | .hbm, ⟨8, _⟩ => ⟨S1x1x1024, .f32⟩
  | .hbm, ⟨9, _⟩ => ⟨S2x1024x1024, .f32⟩
  | .hbm, ⟨10, _⟩ => ⟨S2x2x1024, .f32⟩
  | .hbm, ⟨11, _⟩ => ⟨S2x2x1024, .f32⟩
  | .hbm, ⟨12, _⟩ => ⟨S2x1024x5632, .f32⟩
  | .hbm, ⟨13, _⟩ => ⟨S2x2816x1024, .f32⟩
  | .hbm, ⟨14, _⟩ => ⟨S2x1024x1024, .bf16⟩
  | .hbm, ⟨15, _⟩ => ⟨S1x2x1024, .f32⟩
  | .hbm, ⟨16, _⟩ => ⟨S2x1024, .f32⟩
  | .hbm, ⟨17, _⟩ => ⟨S1x1024, .f32⟩
  | .hbm, ⟨18, _⟩ => ⟨S1024, .f32⟩
  | .hbm, ⟨19, _⟩ => ⟨S1x2x1024, .f32⟩
  | .hbm, ⟨20, _⟩ => ⟨S2x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1x1024, .f32⟩
  | .hbm, ⟨25, _⟩ => ⟨S16x256x1024, .f32⟩
  | .hbm, ⟨26, _⟩ => ⟨S2x1024x5632, .bf16⟩
  | .hbm, ⟨27, _⟩ => ⟨S16x256x2816, .bf16⟩
  | .hbm, ⟨28, _⟩ => ⟨S2x2816x1024, .bf16⟩
  | .hbm, ⟨29, _⟩ => ⟨S1x2x1024, .f32⟩
  | .hbm, ⟨30, _⟩ => ⟨S2x1024, .f32⟩
  | .hbm, ⟨31, _⟩ => ⟨S1x1024, .f32⟩
  | .hbm, ⟨32, _⟩ => ⟨S1024, .f32⟩
  | .hbm, ⟨33, _⟩ => ⟨S1x2x1024, .f32⟩
  | .hbm, ⟨34, _⟩ => ⟨S2x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S16x256x1024, .f32⟩
  | .local _ .vmem, ⟨0, _⟩ => ⟨S4x256x256, .bf16⟩
  | .local _ .vmem, ⟨1, _⟩ => ⟨S4x256x256, .bf16⟩
  | .local _ .vmem, ⟨2, _⟩ => ⟨S4x256x256, .bf16⟩
  | .local _ .vmem, ⟨3, _⟩ => ⟨S4x256x256, .bf16⟩
  | .local _ .vmem, ⟨4, _⟩ => ⟨S4x256x256, .bf16⟩
  | .local _ .vmem, ⟨5, _⟩ => ⟨S4x256x256, .bf16⟩
  | .local _ .vmem, ⟨6, _⟩ => ⟨S4x256x256, .bf16⟩
  | .local _ .vmem, ⟨7, _⟩ => ⟨S4x256x256, .bf16⟩
  | .local _ .vmem, ⟨8, _⟩ => ⟨S1x1024x1024, .bf16⟩
  | .local _ .vmem, ⟨9, _⟩ => ⟨S4x256x1024, .f32⟩
  | .local _ .vmem, ⟨10, _⟩ => ⟨S4x256x1024, .f32⟩
  | .local _ .vmem, ⟨11, _⟩ => ⟨S1x1x1024, .f32⟩
  | .local _ .vmem, ⟨12, _⟩ => ⟨S1x1024, .f32⟩
  | .local _ .vmem, ⟨13, _⟩ => ⟨S1x1024, .f32⟩
  | .local _ .vmem, ⟨14, _⟩ => ⟨S4x256x1024, .f32⟩
  | .local _ .vmem, ⟨15, _⟩ => ⟨S4x256x1024, .f32⟩
  | .local _ .vmem, ⟨16, _⟩ => ⟨S4x256x1024, .f32⟩
  | .local _ .vmem, ⟨17, _⟩ => ⟨S4x256x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1024x1408, .bf16⟩
  | .local _ .vmem, ⟨21, _⟩ => ⟨S1x1024x1408, .bf16⟩
  | .local _ .vmem, ⟨22, _⟩ => ⟨S1x1024x1408, .bf16⟩
  | .local _ .vmem, ⟨23, _⟩ => ⟨S1x1024x1408, .bf16⟩
  | .local _ .vmem, ⟨24, _⟩ => ⟨S4x256x1408, .bf16⟩
  | .local _ .vmem, ⟨25, _⟩ => ⟨S4x256x1408, .bf16⟩
  | .local _ .vmem, ⟨26, _⟩ => ⟨S4x256x2816, .bf16⟩
  | .local _ .vmem, ⟨27, _⟩ => ⟨S4x256x2816, .bf16⟩
  | .local _ .vmem, ⟨28, _⟩ => ⟨S1x2816x1024, .bf16⟩
  | .local _ .vmem, ⟨29, _⟩ => ⟨S4x256x1024, .f32⟩
  | .local _ .vmem, ⟨30, _⟩ => ⟨S4x256x1024, .f32⟩
  | .local _ .vmem, ⟨31, _⟩ => ⟨S1x1x1024, .f32⟩
  | .local _ .vmem, ⟨32, _⟩ => ⟨S1x1024, .f32⟩
  | .local _ .vmem, ⟨33, _⟩ => ⟨S1x1024, .f32⟩
  | .local _ .vmem, ⟨34, _⟩ => ⟨S4x256x1024, .f32⟩
  | .local _ .vmem, ⟨35, _⟩ => ⟨S4x256x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg6_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem2_1 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem6_1 : DmaSem sig := 35

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S4x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨3, ![2, 4, 1], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c1_i32 : BitVec 32 := 1#32
  let c0_i32 : BitVec 32 := 0#32
  let c0_i32_0 : BitVec 32 := 0#32
  ![c1_i32.toNat, c0_i32.toNat, v0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage1_0 : Fin 2 → Memref sig .tc .vmem S4x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 1 → Memref sig .tc .vmem S1x1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 1 → Memref sig .tc .vmem S1x1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 2 → Memref sig .tc .vmem S1x1024x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S1x1024x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev stage1_5 : Fin 2 → Memref sig .tc .vmem S4x256x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev grid2 : Pipeline.Grid := ⟨2, ![4, 1], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S4x256x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S4x256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S1x1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S4x256x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]
-- ==== PromptRefIdeal.lean ====
abbrev S16x256x1024 : Shape := ⟨3, ![16, 256, 1024]⟩
abbrev S16x256x256 : Shape := ⟨3, ![16, 256, 256]⟩
abbrev S1x1x1024 : Shape := ⟨3, ![1, 1, 1024]⟩
abbrev S2x1024x1024 : Shape := ⟨3, ![2, 1024, 1024]⟩
abbrev S2x2x1024 : Shape := ⟨3, ![2, 2, 1024]⟩
abbrev S2x1024x5632 : Shape := ⟨3, ![2, 1024, 5632]⟩
abbrev S2x2816x1024 : Shape := ⟨3, ![2, 2816, 1024]⟩
abbrev S1x1024x1024 : Shape := ⟨3, ![1, 1024, 1024]⟩
abbrev S1024x1024 : Shape := ⟨2, ![1024, 1024]⟩
abbrev S_ : Shape := ⟨0, ![]⟩
abbrev S16x256 : Shape := ⟨2, ![16, 256]⟩
abbrev S16x256x1 : Shape := ⟨3, ![16, 256, 1]⟩
abbrev S1024 : Shape := ⟨1, ![1024]⟩
abbrev S1x1024x5632 : Shape := ⟨3, ![1, 1024, 5632]⟩
abbrev S1024x5632 : Shape := ⟨2, ![1024, 5632]⟩
abbrev S16x256x5632 : Shape := ⟨3, ![16, 256, 5632]⟩
abbrev S16x256x2816 : Shape := ⟨3, ![16, 256, 2816]⟩
abbrev S1x2816x1024 : Shape := ⟨3, ![1, 2816, 1024]⟩
abbrev S2816x1024 : Shape := ⟨2, ![2816, 1024]⟩

abbrev nBuf : Space → Nat
  | .hbm => 148
  | .vmem => 0
  | .smem => 0
  | _ => 0

abbrev hbmTy0_0 (i : Nat) : BufTy := match i % 128 with
  | 0 => ⟨S16x256x1024, .f32⟩
  | 1 => ⟨S16x256x256, .bf16⟩
  | 2 => ⟨S16x256x256, .bf16⟩
  | 3 => ⟨S16x256x256, .bf16⟩
  | 4 => ⟨S16x256x256, .bf16⟩
  | 5 => ⟨S1x1x1024, .f32⟩
  | 6 => ⟨S1x1x1024, .f32⟩
  | 7 => ⟨S1x1x1024, .f32⟩
  | 8 => ⟨S1x1x1024, .f32⟩
  | 9 => ⟨S2x1024x1024, .f32⟩
  | 10 => ⟨S2x2x1024, .f32⟩
  | 11 => ⟨S2x2x1024, .f32⟩
  | 12 => ⟨S2x1024x5632, .f32⟩
  | 13 => ⟨S2x2816x1024, .f32⟩
  | 14 => ⟨S16x256x256, .f32⟩
  | 15 => ⟨S16x256x256, .f32⟩
  | 16 => ⟨S16x256x256, .f32⟩
  | 17 => ⟨S16x256x256, .f32⟩
  | 18 => ⟨S16x256x1024, .f32⟩
  | 19 => ⟨S1x1024x1024, .f32⟩
  | 20 => ⟨S1024x1024, .f32⟩
  | 21 => ⟨S16x256x1024, .f32⟩
  | 22 => ⟨S_, .f32⟩
  | 23 => ⟨S16x256x1024, .f32⟩
  | 24 => ⟨S16x256x1024, .f32⟩
  | 25 => ⟨S16x256x1024, .f32⟩
  | 26 => ⟨S16x256x1024, .f32⟩
  | 27 => ⟨S16x256x1024, .f32⟩
  | 28 => ⟨S_, .f32⟩
  | 29 => ⟨S16x256, .f32⟩
  | 30 => ⟨S16x256x1, .f32⟩
  | 31 => ⟨S_, .f32⟩
  | 32 => ⟨S16x256x1, .f32⟩
  | 33 => ⟨S16x256x1, .f32⟩
  | 34 => ⟨S16x256x1024, .f32⟩
  | 35 => ⟨S16x256x1024, .f32⟩
  | 36 => ⟨S16x256x1024, .f32⟩
  | 37 => ⟨S_, .f32⟩
  | 38 => ⟨S16x256, .f32⟩
  | 39 => ⟨S16x256x1, .f32⟩
  | 40 => ⟨S_, .f32⟩
  | 41 => ⟨S16x256x1, .f32⟩
  | 42 => ⟨S16x256x1, .f32⟩
  | 43 => ⟨S16x256x1024, .f32⟩
  | 44 => ⟨S16x256x1024, .f32⟩
  | 45 => ⟨S_, .f32⟩
  | 46 => ⟨S16x256x1, .f32⟩
  | 47 => ⟨S16x256x1, .f32⟩
  | 48 => ⟨S16x256x1, .f32⟩
  | 49 => ⟨S16x256x1024, .f32⟩
  | 50 => ⟨S16x256x1024, .f32⟩
  | 51 => ⟨S1x1x1024, .f32⟩
  | 52 => ⟨S1024, .f32⟩
  | 53 => ⟨S1x1x1024, .f32⟩
  | 54 => ⟨S16x256x1024, .f32⟩
  | 55 => ⟨S16x256x1024, .f32⟩
  | 56 => ⟨S1x1x1024, .f32⟩
  | 57 => ⟨S1024, .f32⟩
  | 58 => ⟨S1x1x1024, .f32⟩
  | 59 => ⟨S16x256x1024, .f32⟩
  | 60 => ⟨S16x256x1024, .f32⟩
  | 61 => ⟨S_, .f32⟩
  | 62 => ⟨S16x256, .f32⟩
  | 63 => ⟨S16x256x1, .f32⟩
  | 64 => ⟨S_, .f32⟩
  | 65 => ⟨S16x256x1, .f32⟩
  | 66 => ⟨S16x256x1, .f32⟩
  | 67 => ⟨S16x256x1024, .f32⟩
  | 68 => ⟨S16x256x1024, .f32⟩
  | 69 => ⟨S16x256x1024, .f32⟩
  | 70 => ⟨S_, .f32⟩
  | 71 => ⟨S16x256, .f32⟩
  | 72 => ⟨S16x256x1, .f32⟩
  | 73 => ⟨S_, .f32⟩
  | 74 => ⟨S16x256x1, .f32⟩
  | 75 => ⟨S16x256x1, .f32⟩
  | 76 => ⟨S16x256x1024, .f32⟩
  | 77 => ⟨S16x256x1024, .f32⟩
  | 78 => ⟨S_, .f32⟩
  | 79 => ⟨S16x256x1, .f32⟩
  | 80 => ⟨S16x256x1, .f32⟩
  | 81 => ⟨S16x256x1, .f32⟩
  | 82 => ⟨S16x256x1024, .f32⟩
  | 83 => ⟨S16x256x1024, .f32⟩
  | 84 => ⟨S_, .f32⟩
  | 85 => ⟨S1x1x1024, .f32⟩
  | 86 => ⟨S1x1x1024, .f32⟩
  | 87 => ⟨S16x256x1024, .f32⟩
  | 88 => ⟨S16x256x1024, .f32⟩
  | 89 => ⟨S16x256x1024, .f32⟩
  | 90 => ⟨S16x256x1024, .f32⟩
  | 91 => ⟨S1x1024x5632, .f32⟩
  | 92 => ⟨S1024x5632, .f32⟩
  | 93 => ⟨S16x256x5632, .f32⟩
  | 94 => ⟨S16x256x2816, .f32⟩
  | 95 => ⟨S16x256x2816, .f32⟩
  | 96 => ⟨S16x256x2816, .f32⟩
  | 97 => ⟨S16x256x2816, .f32⟩
  | 98 => ⟨S_, .f32⟩
  | 99 => ⟨S16x256x2816, .f32⟩
  | 100 => ⟨S16x256x2816, .f32⟩
  | 101 => ⟨S_, .f32⟩
  | 102 => ⟨S16x256x2816, .f32⟩
  | 103 => ⟨S16x256x2816, .f32⟩
  | 104 => ⟨S16x256x2816, .f32⟩
  | 105 => ⟨S16x256x2816, .f32⟩
  | 106 => ⟨S1x2816x1024, .f32⟩
  | 107 => ⟨S2816x1024, .f32⟩
  | 108 => ⟨S16x256x1024, .f32⟩
  | 109 => ⟨S_, .f32⟩
  | 110 => ⟨S16x256x1024, .f32⟩
  | 111 => ⟨S16x256x1024, .f32⟩
  | 112 => ⟨S16x256x1024, .f32⟩
  | 113 => ⟨S16x256x1024, .f32⟩
  | 114 => ⟨S16x256x1024, .f32⟩
  | 115 => ⟨S_, .f32⟩
  | 116 => ⟨S16x256, .f32⟩
  | 117 => ⟨S16x256x1, .f32⟩
  | 118 => ⟨S_, .f32⟩
  | 119 => ⟨S16x256x1, .f32⟩
  | 120 => ⟨S16x256x1, .f32⟩
  | 121 => ⟨S16x256x1024, .f32⟩
  | 122 => ⟨S16x256x1024, .f32⟩
  | 123 => ⟨S16x256x1024, .f32⟩
  | 124 => ⟨S_, .f32⟩
  | 125 => ⟨S16x256, .f32⟩
  | 126 => ⟨S16x256x1, .f32⟩
  | 127 => ⟨S_, .f32⟩
  | _ => ⟨S16x256x1024, .f32⟩

abbrev hbmTy0_1 (i : Nat) : BufTy := match i % 128 with
  | 0 => ⟨S16x256x1, .f32⟩
  | 1 => ⟨S16x256x1, .f32⟩
  | 2 => ⟨S16x256x1024, .f32⟩
  | 3 => ⟨S16x256x1024, .f32⟩
  | 4 => ⟨S_, .f32⟩
  | 5 => ⟨S16x256x1, .f32⟩
  | 6 => ⟨S16x256x1, .f32⟩
  | 7 => ⟨S16x256x1, .f32⟩
  | 8 => ⟨S16x256x1024, .f32⟩
  | 9 => ⟨S16x256x1024, .f32⟩
  | 10 => ⟨S1x1x1024, .f32⟩
  | 11 => ⟨S1024, .f32⟩
  | 12 => ⟨S1x1x1024, .f32⟩
  | 13 => ⟨S16x256x1024, .f32⟩
  | 14 => ⟨S16x256x1024, .f32⟩
  | 15 => ⟨S1x1x1024, .f32⟩
  | 16 => ⟨S1024, .f32⟩
  | 17 => ⟨S1x1x1024, .f32⟩
  | 18 => ⟨S16x256x1024, .f32⟩
  | 19 => ⟨S16x256x1024, .f32⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_call0_v0 : Ref sig .tc := ⟨.hbm, 96, rfl⟩
abbrev main_call0_v1 : Ref sig .tc := ⟨.hbm, 97, rfl⟩
abbrev main_call0_cst : Ref sig .tc := ⟨.hbm, 98, rfl⟩
abbrev main_call0_v2 : Ref sig .tc := ⟨.hbm, 99, rfl⟩
abbrev main_call0_v3 : Ref sig .tc := ⟨.hbm, 100, rfl⟩
abbrev main_call0_cst_0 : Ref sig .tc := ⟨.hbm, 101, rfl⟩
abbrev main_call0_v4 : Ref sig .tc := ⟨.hbm, 102, rfl⟩
abbrev main_call0_v5 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_11 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_12 : Ref sig .tc := ⟨.hbm, 115, rfl⟩
abbrev main_v80 : Ref sig .tc := ⟨.hbm, 116, rfl⟩
abbrev main_v81 : Ref sig .tc := ⟨.hbm, 117, rfl⟩
abbrev main_cst_13 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_14 : Ref sig .tc := ⟨.hbm, 124, rfl⟩
abbrev main_v87 : Ref sig .tc := ⟨.hbm, 125, rfl⟩
abbrev main_v88 : Ref sig .tc := ⟨.hbm, 126, rfl⟩
abbrev main_cst_15 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_16 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩

abbrev nD : Nat := 1
abbrev τ : Topo := Topo.v7x

variable {F : FTy → Type} [FloatOps F]
-- ==== Rope.lean ====
abbrev S4x4096x1024 : Shape := ⟨3, ![4, 4096, 1024]⟩
abbrev S4x1x1024 : Shape := ⟨3, ![4, 1, 1024]⟩
abbrev S2x1024x3072 : Shape := ⟨3, ![2, 1024, 3072]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x32 : Shape := ⟨2, ![4096, 32]⟩
abbrev S1x4096x1x32 : Shape := ⟨4, ![1, 4096, 1, 32]⟩
abbrev S1x4096x16x32 : Shape := ⟨4, ![1, 4096, 16, 32]⟩
abbrev S4096x512 : Shape := ⟨2, ![4096, 512]⟩
abbrev S4x4096x3072 : Shape := ⟨3, ![4, 4096, 3072]⟩
abbrev S1x512x1024 : Shape := ⟨3, ![1, 512, 1024]⟩
abbrev S1x1x1024 : Shape := ⟨3, ![1, 1, 1024]⟩
abbrev S1x1024x3072 : Shape := ⟨3, ![1, 1024, 3072]⟩
abbrev S512x512 : Shape := ⟨2, ![512, 512]⟩
abbrev S1x512x3072 : Shape := ⟨3, ![1, 512, 3072]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S1024x3072 : Shape := ⟨2, ![1024, 3072]⟩
abbrev S512x3072 : Shape := ⟨2, ![512, 3072]⟩
abbrev S1x512x512 : Shape := ⟨3, ![1, 512, 512]⟩
abbrev S512x2560 : Shape := ⟨2, ![512, 2560]⟩
abbrev S1x512x2560 : Shape := ⟨3, ![1, 512, 2560]⟩

abbrev nBuf : Space → Nat
  | .hbm => 63
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S2x1024x3072, .f32⟩
  | .hbm, ⟨4, _⟩ => ⟨S2x1024x3072, .bf16⟩
  | .hbm, ⟨5, _⟩ => ⟨S64, .i32⟩
  | .hbm, ⟨6, _⟩ => ⟨S64x64, .i32⟩
  | .hbm, ⟨7, _⟩ => ⟨S4096, .i32⟩
  | .hbm, ⟨8, _⟩ => ⟨S4096, .f32⟩
  | .hbm, ⟨9, _⟩ => ⟨S64, .i32⟩
  | .hbm, ⟨10, _⟩ => ⟨S1x64, .i32⟩
  | .hbm, ⟨11, _⟩ => ⟨S64x64, .i32⟩
  | .hbm, ⟨12, _⟩ => ⟨S4096, .i32⟩
  | .hbm, ⟨13, _⟩ => ⟨S4096, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S4096x1, .f32⟩
  | .hbm, ⟨29, _⟩ => ⟨S1x8, .f32⟩
  | .hbm, ⟨30, _⟩ => ⟨S4096x8, .f32⟩
  | .hbm, ⟨31, _⟩ => ⟨S4096x8, .f32⟩
  | .hbm, ⟨32, _⟩ => ⟨S4096x8, .f32⟩
  | .hbm, ⟨33, _⟩ => ⟨S4096x1, .f32⟩
  | .hbm, ⟨34, _⟩ => ⟨S1x8, .f32⟩
  | .hbm, ⟨35, _⟩ => ⟨S4096x8, .f32⟩
  | .hbm, ⟨36, _⟩ => ⟨S4096x8, .f32⟩
  | .hbm, ⟨37, _⟩ => ⟨S4096x8, .f32⟩
  | .hbm, ⟨38, _⟩ => ⟨S_, .f32⟩
  | .hbm, ⟨39, _⟩ => ⟨S4096x8, .f32⟩
  | .hbm, ⟨40, _⟩ => ⟨S4096x8, .f32⟩
  | .hbm, ⟨41, _⟩ => ⟨S4096x8, .f32⟩
  | .hbm, ⟨42, _⟩ => ⟨S4096x8, .f32⟩
  | .hbm, ⟨43, _⟩ => ⟨S4096x8, .f32⟩
  | .hbm, ⟨44, _⟩ => ⟨S4096x32, .f32⟩
  | .hbm, ⟨45, _⟩ => ⟨S1x4096x1x32, .f32⟩
  | .hbm, ⟨46, _⟩ => ⟨S1x4096x16x32, .f32⟩
  | .hbm, ⟨47, _⟩ => ⟨S4096x512, .f32⟩
  | .hbm, ⟨48, _⟩ => ⟨S4096x8, .f32⟩
  | .hbm, ⟨49, _⟩ => ⟨S4096x8, .f32⟩
  | .hbm, ⟨50, _⟩ => ⟨S4096x8, .f32⟩
  | .hbm, ⟨51, _⟩ => ⟨S4096x8, .f32⟩
  | .hbm, ⟨52, _⟩ => ⟨S4096x32, .f32⟩
  | .hbm, ⟨53, _⟩ => ⟨S1x4096x1x32, .f32⟩
  | .hbm, ⟨54, _⟩ => ⟨S1x4096x16x32, .f32⟩
  | .hbm, ⟨55, _⟩ => ⟨S4096x512, .f32⟩
  | .hbm, ⟨56, _⟩ => ⟨S4096x8, .f32⟩
  | .hbm, ⟨57, _⟩ => ⟨S4096x8, .f32⟩
  | .hbm, ⟨58, _⟩ => ⟨S4096x32, .f32⟩
  | .hbm, ⟨59, _⟩ => ⟨S1x4096x1x32, .f32⟩
  | .hbm, ⟨60, _⟩ => ⟨S1x4096x16x32, .f32⟩
  | .hbm, ⟨61, _⟩ => ⟨S4096x512, .f32⟩
  | .hbm, ⟨62, _⟩ => ⟨S4x4096x3072, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x3072, .bf16⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S1x512x3072, .f32⟩
  | .local _ .vmem, ⟨14, _⟩ => ⟨S1x512x3072, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RopeRefIdeal.lean ====
abbrev S4x4096x1024 : Shape := ⟨3, ![4, 4096, 1024]⟩
abbrev S4x1x1024 : Shape := ⟨3, ![4, 1, 1024]⟩
abbrev S2x1024x3072 : Shape := ⟨3, ![2, 1024, 3072]⟩
abbrev S_ : Shape := ⟨0, ![]⟩
abbrev S4x4096 : Shape := ⟨2, ![4, 4096]⟩
abbrev S4x4096x1 : Shape := ⟨3, ![4, 4096, 1]⟩
abbrev S1x1024x3072 : Shape := ⟨3, ![1, 1024, 3072]⟩
abbrev S1024x3072 : Shape := ⟨2, ![1024, 3072]⟩
abbrev S4x4096x3072 : Shape := ⟨3, ![4, 4096, 3072]⟩
abbrev S64 : Shape := ⟨1, ![64]⟩
abbrev S64x64 : Shape := ⟨2, ![64, 64]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4096x2x8 : Shape := ⟨3, ![4096, 2, 8]⟩
abbrev S4x4096x256 : Shape := ⟨3, ![4, 4096, 256]⟩
abbrev S4x4096x4x2x32 : Shape := ⟨5, ![4, 4096, 4, 2, 32]⟩
abbrev S4x4096x4x2x2x2x8 : Shape := ⟨7, ![4, 4096, 4, 2, 2, 2, 8]⟩
abbrev S4x4096x4x2x2x1x8 : Shape := ⟨7, ![4, 4096, 4, 2, 2, 1, 8]⟩
abbrev S4x4096x4x2x2x8 : Shape := ⟨6, ![4, 4096, 4, 2, 2, 8]⟩
abbrev S4096x1x1x2x8 : Shape := ⟨5, ![4096, 1, 1, 2, 8]⟩
abbrev S1x4096x1x1x2x8 : Shape := ⟨6, ![1, 4096, 1, 1, 2, 8]⟩
abbrev S4x4096x2560 : Shape := ⟨3, ![4, 4096, 2560]⟩

abbrev nBuf : Space → Nat
  | .hbm => 132
  | .vmem => 0
  | .smem => 0
  | _ => 0

abbrev hbmTy0_0 (i : Nat) : BufTy := match i % 128 with
  | 0 => ⟨S4x4096x1024, .f32⟩
  | 1 => ⟨S4x1x1024, .f32⟩
  | 2 => ⟨S4x1x1024, .f32⟩
  | 3 => ⟨S2x1024x3072, .f32⟩
  | 4 => ⟨S_, .f32⟩
  | 5 => ⟨S4x4096, .f32⟩
  | 6 => ⟨S4x4096x1, .f32⟩
  | 7 => ⟨S_, .f32⟩
  | 8 => ⟨S4x4096x1, .f32⟩
  | 9 => ⟨S4x4096x1, .f32⟩
  | 10 => ⟨S4x4096x1024, .f32⟩
  | 11 => ⟨S4x4096x1024, .f32⟩
  | 12 => ⟨S4x4096x1024, .f32⟩
  | 13 => ⟨S_, .f32⟩
  | 14 => ⟨S4x4096, .f32⟩
  | 15 => ⟨S4x4096x1, .f32⟩
  | 16 => ⟨S_, .f32⟩
  | 17 => ⟨S4x4096x1, .f32⟩
  | 18 => ⟨S4x4096x1, .f32⟩
  | 19 => ⟨S4x4096x1024, .f32⟩
  | 20 => ⟨S4x4096x1024, .f32⟩
  | 21 => ⟨S_, .f32⟩
  | 22 => ⟨S4x4096x1, .f32⟩
  | 23 => ⟨S4x4096x1, .f32⟩
  | 24 => ⟨S4x4096x1, .f32⟩
  | 25 => ⟨S4x4096x1024, .f32⟩
  | 26 => ⟨S4x4096x1024, .f32⟩
  | 27 => ⟨S_, .f32⟩
  | 28 => ⟨S4x1x1024, .f32⟩
  | 29 => ⟨S4x1x1024, .f32⟩
  | 30 => ⟨S4x4096x1024, .f32⟩
  | 31 => ⟨S4x4096x1024, .f32⟩
  | 32 => ⟨S4x4096x1024, .f32⟩
  | 33 => ⟨S4x4096x1024, .f32⟩
  | 34 => ⟨S1x1024x3072, .f32⟩
  | 35 => ⟨S1024x3072, .f32⟩
  | 36 => ⟨S4x4096x3072, .f32⟩
  | 37 => ⟨S64, .i32⟩
  | 38 => ⟨S64, .i32⟩
  | 39 => ⟨S64x64, .i32⟩
  | 40 => ⟨S64x64, .i32⟩
  | 41 => ⟨S4096, .i32⟩
  | 42 => ⟨S4096, .f32⟩
  | 43 => ⟨S4096, .i32⟩
  | 44 => ⟨S4096, .f32⟩
  | 45 => ⟨S8, .f32⟩
  | 46 => ⟨S_, .f32⟩
  | 47 => ⟨S8, .f32⟩
  | 48 => ⟨S8, .f32⟩
  | 49 => ⟨S_, .f32⟩
  | 50 => ⟨S8, .f32⟩
  | 51 => ⟨S8, .f32⟩
  | 52 => ⟨S8, .f32⟩
  | 53 => ⟨S_, .f32⟩
  | 54 => ⟨S8, .f32⟩
  | 55 => ⟨S8, .f32⟩
  | 56 => ⟨S_, .f32⟩
  | 57 => ⟨S8, .f32⟩
  | 58 => ⟨S8, .f32⟩
  | 59 => ⟨S4096x1, .f32⟩
  | 60 => ⟨S1x8, .f32⟩
  | 61 => ⟨S4096x8, .f32⟩
  | 62 => ⟨S4096x8, .f32⟩
  | 63 => ⟨S4096x8, .f32⟩
  | 64 => ⟨S4096x1, .f32⟩
  | 65 => ⟨S1x8, .f32⟩
  | 66 => ⟨S4096x8, .f32⟩
  | 67 => ⟨S4096x8, .f32⟩
  | 68 => ⟨S4096x8, .f32⟩
  | 69 => ⟨S4096x1x8, .f32⟩
  | 70 => ⟨S4096x1x8, .f32⟩
  | 71 => ⟨S4096x2x8, .f32⟩
  | 72 => ⟨S4096x2x8, .f32⟩
  | 73 => ⟨S4096x2x8, .f32⟩
  | 74 => ⟨S4x4096x256, .f32⟩
  | 75 => ⟨S4x4096x4x2x32, .f32⟩
  | 76 => ⟨S4x4096x4x2x2x2x8, .f32⟩
  | 77 => ⟨S4x4096x4x2x2x1x8, .f32⟩
  | 78 => ⟨S4x4096x4x2x2x8, .f32⟩
  | 79 => ⟨S4x4096x4x2x2x1x8, .f32⟩
  | 80 => ⟨S4x4096x4x2x2x8, .f32⟩
  | 81 => ⟨S4096x1x1x2x8, .f32⟩
  | 82 => ⟨S4096x1x1x2x8, .f32⟩
  | 83 => ⟨S1x4096x1x1x2x8, .f32⟩
  | 84 => ⟨S4x4096x4x2x2x8, .f32⟩
  | 85 => ⟨S4x4096x4x2x2x8, .f32⟩
  | 86 => ⟨S1x4096x1x1x2x8, .f32⟩
  | 87 => ⟨S4x4096x4x2x2x8, .f32⟩
  | 88 => ⟨S4x4096x4x2x2x8, .f32⟩
  | 89 => ⟨S4x4096x4x2x2x8, .f32⟩
  | 90 => ⟨S1x4096x1x1x2x8, .f32⟩
  | 91 => ⟨S4x4096x4x2x2x8, .f32⟩
  | 92 => ⟨S4x4096x4x2x2x8, .f32⟩
  | 93 => ⟨S1x4096x1x1x2x8, .f32⟩
  | 94 => ⟨S4x4096x4x2x2x8, .f32⟩
  | 95 => ⟨S4x4096x4x2x2x8, .f32⟩
  | 96 => ⟨S4x4096x4x2x2x8, .f32⟩
  | 97 => ⟨S4x4096x4x2x2x1x8, .f32⟩
  | 98 => ⟨S4x4096x4x2x2x1x8, .f32⟩
  | 99 => ⟨S4x4096x4x2x2x2x8, .f32⟩
  | 100 => ⟨S4x4096x4x2x32, .f32⟩
  | 101 => ⟨S4x4096x256, .f32⟩
  | 102 => ⟨S4x4096x4x2x32, .f32⟩
  | 103 => ⟨S4x4096x4x2x2x2x8, .f32⟩
  | 104 => ⟨S4x4096x4x2x2x1x8, .f32⟩
  | 105 => ⟨S4x4096x4x2x2x8, .f32⟩
  | 106 => ⟨S4x4096x4x2x2x1x8, .f32⟩
  | 107 => ⟨S4x4096x4x2x2x8, .f32⟩
  | 108 => ⟨S4096x1x1x2x8, .f32⟩
  | 109 => ⟨S4096x1x1x2x8, .f32⟩
  | 110 => ⟨S1x4096x1x1x2x8, .f32⟩
  | 111 => ⟨S4x4096x4x2x2x8, .f32⟩
  | 112 => ⟨S4x4096x4x2x2x8, .f32⟩
  | 113 => ⟨S1x4096x1x1x2x8, .f32⟩
  | 114 => ⟨S4x4096x4x2x2x8, .f32⟩
  | 115 => ⟨S4x4096x4x2x2x8, .f32⟩
  | 116 => ⟨S4x4096x4x2x2x8, .f32⟩
  | 117 => ⟨S1x4096x1x1x2x8, .f32⟩
  | 118 => ⟨S4x4096x4x2x2x8, .f32⟩
  | 119 => ⟨S4x4096x4x2x2x8, .f32⟩
  | 120 => ⟨S1x4096x1x1x2x8, .f32⟩
  | 121 => ⟨S4x4096x4x2x2x8, .f32⟩
  | 122 => ⟨S4x4096x4x2x2x8, .f32⟩
  | 123 => ⟨S4x4096x4x2x2x8, .f32⟩
  | 124 => ⟨S4x4096x4x2x2x1x8, .f32⟩
  | 125 => ⟨S4x4096x4x2x2x1x8, .f32⟩
  | 126 => ⟨S4x4096x4x2x2x2x8, .f32⟩
  | 127 => ⟨S4x4096x4x2x32, .f32⟩
  | _ => ⟨S4x4096x1024, .f32⟩

abbrev hbmTy0_1 (i : Nat) : BufTy := match i % 128 with
  | 0 => ⟨S4x4096x256, .f32⟩
  | 1 => ⟨S4x4096x256, .f32⟩
  | 2 => ⟨S4x4096x2560, .f32⟩
  | 3 => ⟨S4x4096x3072, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_cst_8 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩

abbrev nD : Nat := 1
abbrev τ : Topo := Topo.v7x

variable {F : FTy → Type} [FloatOps F]
-- ==== Mod.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S8x1024 : Shape := ⟨2, ![8, 1024]⟩
abbrev S1 : Shape := ⟨1, ![1]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩
abbrev S2x8x6x1024 : Shape := ⟨4, ![2, 8, 6, 1024]⟩
abbrev S2x1x6x1024 : Shape := ⟨4, ![2, 1, 6, 1024]⟩
abbrev S2x4x6x1024 : Shape := ⟨4, ![2, 4, 6, 1024]⟩

abbrev nBuf : Space → Nat
  | .hbm => 17
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S_, .f32⟩
  | .hbm, ⟨5, _⟩ => ⟨S8x1024, .f32⟩
  | .hbm, ⟨6, _⟩ => ⟨S_, .i32⟩
  | .hbm, ⟨7, _⟩ => ⟨S1, .i32⟩
  | .hbm, ⟨8, _⟩ => ⟨S8x1024, .f32⟩
  | .hbm, ⟨9, _⟩ => ⟨S_, .i32⟩
  | .hbm, ⟨10, _⟩ => ⟨S1, .i32⟩
  | .hbm, ⟨11, _⟩ => ⟨S8x1024, .f32⟩
  | .hbm, ⟨12, _⟩ => ⟨S2x1x6144, .f32⟩
  | .hbm, ⟨13, _⟩ => ⟨S2x8x6144, .f32⟩
  | .hbm, ⟨14, _⟩ => ⟨S2x8x6x1024, .f32⟩
  | .hbm, ⟨15, _⟩ => ⟨S2x1x6x1024, .f32⟩
  | .hbm, ⟨16, _⟩ => ⟨S2x4x6x1024, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S1x1024x6144 : Shape := ⟨3, ![1, 1024, 6144]⟩
abbrev S1024x6144 : Shape := ⟨2, ![1024, 6144]⟩
abbrev S1x6144 : Shape := ⟨2, ![1, 6144]⟩
abbrev S6144 : Shape := ⟨1, ![6144]⟩
abbrev S_ : Shape := ⟨0, ![]⟩
abbrev S1x6x1024 : Shape := ⟨3, ![1, 6, 1024]⟩
abbrev S4x6144 : Shape := ⟨2, ![4, 6144]⟩
abbrev S4x6x1024 : Shape := ⟨3, ![4, 6, 1024]⟩
abbrev S1x1x6x1024 : Shape := ⟨4, ![1, 1, 6, 1024]⟩
abbrev S2x1x6x1024 : Shape := ⟨4, ![2, 1, 6, 1024]⟩
abbrev S1x4x6x1024 : Shape := ⟨4, ![1, 4, 6, 1024]⟩
abbrev S2x4x6x1024 : Shape := ⟨4, ![2, 4, 6, 1024]⟩

abbrev nBuf : Space → Nat
  | .hbm => 82
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S1x1024x6144, .f32⟩
  | .hbm, ⟨6, _⟩ => ⟨S1024x6144, .f32⟩
  | .hbm, ⟨7, _⟩ => ⟨S1x6144, .f32⟩
  | .hbm, ⟨8, _⟩ => ⟨S6144, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x6144, .f32⟩
  | .hbm, ⟨19, _⟩ => ⟨S1x6144, .f32⟩
  | .hbm, ⟨20, _⟩ => ⟨S1x6144, .f32⟩
  | .hbm, ⟨21, _⟩ => ⟨S1x6x1024, .f32⟩
  | .hbm, ⟨22, _⟩ => ⟨S1x1024x6144, .f32⟩
  | .hbm, ⟨23, _⟩ => ⟨S1024x6144, .f32⟩
  | .hbm, ⟨24, _⟩ => ⟨S1x6144, .f32⟩
  | .hbm, ⟨25, _⟩ => ⟨S6144, .f32⟩
  | .hbm, ⟨26, _⟩ => ⟨S4x1024, .f32⟩
  | .hbm, ⟨27, _⟩ => ⟨S4x1024, .f32⟩
  | .hbm, ⟨28, _⟩ => ⟨S_, .f32⟩
  | .hbm, ⟨29, _⟩ => ⟨S4x1024, .f32⟩
  | .hbm, ⟨30, _⟩ => ⟨S4x1024, .f32⟩
  | .hbm, ⟨31, _⟩ => ⟨S_, .f32⟩
  | .hbm, ⟨32, _⟩ => ⟨S4x1024, .f32⟩
  | .hbm, ⟨33, _⟩ => ⟨S4x1024, .f32⟩
  | .hbm, ⟨34, _⟩ => ⟨S4x1024, .f32⟩
  | .hbm, ⟨35, _⟩ => ⟨S4x6144, .f32⟩
  | .hbm, ⟨36, _⟩ => ⟨S1x6144, .f32⟩
  | .hbm, ⟨37, _⟩ => ⟨S4x6144, .f32⟩
  | .hbm, ⟨38, _⟩ => ⟨S4x6144, .f32⟩
  | .hbm, ⟨39, _⟩ => ⟨S4x6x1024, .f32⟩
  | .hbm, ⟨40, _⟩ => ⟨S1x1024, .f32⟩
  | .hbm, ⟨41, _⟩ => ⟨S1x1024x6144, .f32⟩
  | .hbm, ⟨42, _⟩ => ⟨S1024x6144, .f32⟩
  | .hbm, ⟨43, _⟩ => ⟨S1x6144, .f32⟩
  | .hbm, ⟨44, _⟩ => ⟨S6144, .f32⟩
  | .hbm, ⟨45, _⟩ => ⟨S1x1024, .f32⟩
  | .hbm, ⟨46, _⟩ => ⟨S1x1024, .f32⟩
  | .hbm, ⟨47, _⟩ => ⟨S_, .f32⟩
  | .hbm, ⟨48, _⟩ => ⟨S1x1024, .f32⟩
  | .hbm, ⟨49, _⟩ => ⟨S1x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x6144, .f32⟩
  | .hbm, ⟨55, _⟩ => ⟨S1x6144, .f32⟩
  | .hbm, ⟨56, _⟩ => ⟨S1x6144, .f32⟩
  | .hbm, ⟨57, _⟩ => ⟨S1x6x1024, .f32⟩
  | .hbm, ⟨58, _⟩ => ⟨S1x1024x6144, .f32⟩
  | .hbm, ⟨59, _⟩ => ⟨S1024x6144, .f32⟩
  | .hbm, ⟨60, _⟩ => ⟨S1x6144, .f32⟩
  | .hbm, ⟨61, _⟩ => ⟨S6144, .f32⟩
  | .hbm, ⟨62, _⟩ => ⟨S4x1024, .f32⟩
  | .hbm, ⟨63, _⟩ => ⟨S4x1024, .f32⟩
  | .hbm, ⟨64, _⟩ => ⟨S_, .f32⟩
  | .hbm, ⟨65, _⟩ => ⟨S4x1024, .f32⟩
  | .hbm, ⟨66, _⟩ => ⟨S4x1024, .f32⟩
  | .hbm, ⟨67, _⟩ => ⟨S_, .f32⟩
  | .hbm, ⟨68, _⟩ => ⟨S4x1024, .f32⟩
  | .hbm, ⟨69, _⟩ => ⟨S4x1024, .f32⟩
  | .hbm, ⟨70, _⟩ => ⟨S4x1024, .f32⟩
  | .hbm, ⟨71, _⟩ => ⟨S4x6144, .f32⟩
  | .hbm, ⟨72, _⟩ => ⟨S1x6144, .f32⟩
  | .hbm, ⟨73, _⟩ => ⟨S4x6144, .f32⟩
  | .hbm, ⟨74, _⟩ => ⟨S4x6144, .f32⟩
  | .hbm, ⟨75, _⟩ => ⟨S4x6x1024, .f32⟩
  | .hbm, ⟨76, _⟩ => ⟨S1x1x6x1024, .f32⟩
  | .hbm, ⟨77, _⟩ => ⟨S1x1x6x1024, .f32⟩
  | .hbm, ⟨78, _⟩ => ⟨S2x1x6x1024, .f32⟩
  | .hbm, ⟨79, _⟩ => ⟨S1x4x6x1024, .f32⟩
  | .hbm, ⟨80, _⟩ => ⟨S1x4x6x1024, .f32⟩
  | .hbm, ⟨81, _⟩ => ⟨S2x4x6x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call2_v0 : Ref sig .tc := ⟨.hbm, 45, rfl⟩
abbrev main_call2_v1 : Ref sig .tc := ⟨.hbm, 46, rfl⟩
abbrev main_call2_cst : Ref sig .tc := ⟨.hbm, 47, rfl⟩
abbrev main_call2_v2 : Ref sig .tc := ⟨.hbm, 48, rfl⟩
abbrev main_call2_v3 : Ref sig .tc := ⟨.hbm, 49, rfl⟩
abbrev main_call2_cst_0 : Ref sig .tc := ⟨.hbm, 50, rfl⟩
abbrev main_call2_v4 : Ref sig .tc := ⟨.hbm, 51, rfl⟩
abbrev main_call2_v5 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_call3_v0 : Ref sig .tc := ⟨.hbm, 62, rfl⟩
abbrev main_call3_v1 : Ref sig .tc := ⟨.hbm, 63, rfl⟩
abbrev main_call3_cst : Ref sig .tc := ⟨.hbm, 64, rfl⟩
abbrev main_call3_v2 : Ref sig .tc := ⟨.hbm, 65, rfl⟩
abbrev main_call3_v3 : Ref sig .tc := ⟨.hbm, 66, rfl⟩
abbrev main_call3_cst_0 : Ref sig .tc := ⟨.hbm, 67, rfl⟩
abbrev main_call3_v4 : Ref sig .tc := ⟨.hbm, 68, rfl⟩
abbrev main_call3_v5 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩

abbrev nD : Nat := 1
abbrev τ : Topo := Topo.v7x

variable {F : FTy → Type} [FloatOps F]
-- ==== Short.lean ====
abbrev S4x4096x3072 : Shape := ⟨3, ![4, 4096, 3072]⟩
abbrev S3x768 : Shape := ⟨2, ![3, 768]⟩
abbrev S768 : Shape := ⟨1, ![768]⟩
abbrev S1x768 : Shape := ⟨2, ![1, 768]⟩
abbrev S4x4096x256 : Shape := ⟨3, ![4, 4096, 256]⟩
abbrev S1x1024x768 : Shape := ⟨3, ![1, 1024, 768]⟩
abbrev S1x8x768 : Shape := ⟨3, ![1, 8, 768]⟩
abbrev S1x1024x256 : Shape := ⟨3, ![1, 1024, 256]⟩
abbrev S1024x768 : Shape := ⟨2, ![1024, 768]⟩
abbrev S1x1x768 : Shape := ⟨3, ![1, 1, 768]⟩
abbrev S1024x256 : Shape := ⟨2, ![1024, 256]⟩

abbrev nBuf : Space → Nat
  | .hbm => 7
  | .vmem => 14
  | .smem => 0
  | _ => 0

abbrev bufTy : (tb : Table) → Fin (tcTables nBuf tb) → BufTy
  | .hbm, ⟨0, _⟩ => ⟨S4x4096x3072, .f32⟩
  | .hbm, ⟨1, _⟩ => ⟨S3x768, .f32⟩
  | .hbm, ⟨2, _⟩ => ⟨S768, .f32⟩
  | .hbm, ⟨3, _⟩ => ⟨S1x768, .f32⟩
  | .hbm, ⟨4, _⟩ => ⟨S4x4096x256, .f32⟩
  | .hbm, ⟨5, _⟩ => ⟨S4x4096x256, .f32⟩
  | .hbm, ⟨6, _⟩ => ⟨S4x4096x256, .f32⟩
  | .local _ .vmem, ⟨0, _⟩ => ⟨S1x1024x768, .f32⟩
  | .local _ .vmem, ⟨1, _⟩ => ⟨S1x1024x768, .f32⟩
  | .local _ .vmem, ⟨2, _⟩ => ⟨S1x8x768, .f32⟩
  | .local _ .vmem, ⟨3, _⟩ => ⟨S1x8x768, .f32⟩
  | .local _ .vmem, ⟨4, _⟩ => ⟨S1x8x768, .f32⟩
  | .local _ .vmem, ⟨5, _⟩ => ⟨S1x8x768, .f32⟩
  | .local _ .vmem, ⟨6, _⟩ => ⟨S3x768, .f32⟩
  | .local _ .vmem, ⟨7, _⟩ => ⟨S1x768, .f32⟩
  | .local _ .vmem, ⟨8, _⟩ => ⟨S1x1024x256, .f32⟩
  | .local _ .vmem, ⟨9, _⟩ => ⟨S1x1024x256, .f32⟩
  | .local _ .vmem, ⟨10, _⟩ => ⟨S1x1024x256, .f32⟩
  | .local _ .vmem, ⟨11, _⟩ => ⟨S1x1024x256, .f32⟩
  | .local _ .vmem, ⟨12, _⟩ => ⟨S1x1024x256, .f32⟩
  | .local _ .vmem, ⟨13, _⟩ => ⟨S1x1024x256, .f32⟩
  | _, _ => ⟨S4x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c1_i32_0 : BitVec 32 := 1#32
  let c0_i32 : BitVec 32 := 0#32
  ![arg0.toNat, v2.toNat, c1_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ShortRefIdeal.lean ====
abbrev S4x4096x3072 : Shape := ⟨3, ![4, 4096, 3072]⟩
abbrev S3x768 : Shape := ⟨2, ![3, 768]⟩
abbrev S768 : Shape := ⟨1, ![768]⟩
abbrev S4x4096x768 : Shape := ⟨3, ![4, 4096, 768]⟩
abbrev S_ : Shape := ⟨0, ![]⟩
abbrev S4x4098x768 : Shape := ⟨3, ![4, 4098, 768]⟩
abbrev S1x768 : Shape := ⟨2, ![1, 768]⟩
abbrev S1x1x768 : Shape := ⟨3, ![1, 1, 768]⟩
abbrev S4x4096x256 : Shape := ⟨3, ![4, 4096, 256]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x3072, .f32⟩
  | .hbm, ⟨1, _⟩ => ⟨S3x768, .f32⟩
  | .hbm, ⟨2, _⟩ => ⟨S768, .f32⟩
  | .hbm, ⟨3, _⟩ => ⟨S4x4096x768, .f32⟩
  | .hbm, ⟨4, _⟩ => ⟨S_, .i32⟩
  | .hbm, ⟨5, _⟩ => ⟨S_, .f32⟩
  | .hbm, ⟨6, _⟩ => ⟨S4x4098x768, .f32⟩
  | .hbm, ⟨7, _⟩ => ⟨S4x4096x768, .f32⟩
  | .hbm, ⟨8, _⟩ => ⟨S1x768, .f32⟩
  | .hbm, ⟨9, _⟩ => ⟨S768, .f32⟩
  | .hbm, ⟨10, _⟩ => ⟨S1x1x768, .f32⟩
  | .hbm, ⟨11, _⟩ => ⟨S4x4096x768, .f32⟩
  | .hbm, ⟨12, _⟩ => ⟨S4x4096x768, .f32⟩
  | .hbm, ⟨13, _⟩ => ⟨S_, .f32⟩
  | .hbm, ⟨14, _⟩ => ⟨S4x4096x768, .f32⟩
  | .hbm, ⟨15, _⟩ => ⟨S4x4096x768, .f32⟩
  | .hbm, ⟨16, _⟩ => ⟨S4x4096x768, .f32⟩
  | .hbm, ⟨17, _⟩ => ⟨S1x768, .f32⟩
  | .hbm, ⟨18, _⟩ => ⟨S768, .f32⟩
  | .hbm, ⟨19, _⟩ => ⟨S1x1x768, .f32⟩
  | .hbm, ⟨20, _⟩ => ⟨S4x4096x768, .f32⟩
  | .hbm, ⟨21, _⟩ => ⟨S4x4096x768, .f32⟩
  | .hbm, ⟨22, _⟩ => ⟨S4x4096x768, .f32⟩
  | .hbm, ⟨23, _⟩ => ⟨S4x4096x768, .f32⟩
  | .hbm, ⟨24, _⟩ => ⟨S1x768, .f32⟩
  | .hbm, ⟨25, _⟩ => ⟨S768, .f32⟩
  | .hbm, ⟨26, _⟩ => ⟨S1x1x768, .f32⟩
  | .hbm, ⟨27, _⟩ => ⟨S4x4096x768, .f32⟩
  | .hbm, ⟨28, _⟩ => ⟨S4x4096x768, .f32⟩
  | .hbm, ⟨29, _⟩ => ⟨S4x4096x768, .f32⟩
  | .hbm, ⟨30, _⟩ => ⟨S1x1x768, .f32⟩
  | .hbm, ⟨31, _⟩ => ⟨S4x4096x768, .f32⟩
  | .hbm, ⟨32, _⟩ => ⟨S4x4096x768, .f32⟩
  | .hbm, ⟨33, _⟩ => ⟨S4x4096x256, .f32⟩
  | .hbm, ⟨34, _⟩ => ⟨S4x4096x256, .f32⟩
  | .hbm, ⟨35, _⟩ => ⟨S4x4096x256, .f32⟩
  | _, _ => ⟨S4x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Proof.RunB.lean ====
/- The run of the kernel's body at a grid point that does not refill the scratch: with the scratch holding any keys and
   any transposed values, the body runs to the end, and the block it stores is the term the run finds. The values the
   run passes through are named by the run; Words.lean says what they are. -/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1400000 in
/-- The body's triple where the scratch is not refilled (`k0_cond1` false), with what it stores as a witness: it reads
    the queries (arg2), the lambda parameters (arg7), the gain (arg8), the keys (arg10) and the values (arg11), and
    leaves them as they were. -/
def runB (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x1x512x256 .f32) (harg5 : arg5.IsWhole) (arg6 : Memref sig .tc .vmem S1x1x512x256 .f32) (harg6 : arg6.IsWhole) (arg7 : Memref sig .tc .vmem S4x32 .f32) (harg7 : arg7.IsWhole) (arg8 : Memref sig .tc .vmem S1x256 .f32) (harg8 : arg8.IsWhole) (arg9 : Memref sig .tc .vmem S1x256x256 .bf16) (harg9 : arg9.IsWhole) (arg10 : Memref sig .tc .vmem S4608x256 .bf16) (harg10 : arg10.IsWhole) (arg11 : Memref sig .tc .vmem S4x80x4608 .bf16) (harg11 : arg11.IsWhole) (arg12 : Memref sig .tc .vmem S8x256x256 .bf16) (harg12 : arg12.IsWhole) (hc0 : ¬ (k0_cond1 i = 1#1))
    (x0 : Vec F S1x256x256 .f32) (x5 : Vec F S4x32 .f32) (x6 : Vec F S1x256 .f32) (KS : Vec F S4608x256 .bf16) (VS : Vec F S4x80x4608 .bf16) :
      { out : BufTy.Contents (Elt F) arg9.view.ty // ∀ (E : Set ℕ) (K : PUnit → sProp 𝕄),
        iprop(owns (c : Thread nD τ) arg2 fullShare x0 ∗ owns (c : Thread nD τ) arg7 fullShare x5 ∗ owns (c : Thread nD τ) arg8 fullShare x6 ∗ (∃ d, owns (c : Thread nD τ) arg9 fullShare d) ∗ owns (c : Thread nD τ) arg10 fullShare KS ∗ owns (c : Thread nD τ) arg11 fullShare VS ∗ (∃ d, owns (c : Thread nD τ) arg12 fullShare d)
            ∗ (iprop(owns (c : Thread nD τ) arg2 fullShare x0 ∗ owns (c : Thread nD τ) arg7 fullShare x5 ∗ owns (c : Thread nD τ) arg8 fullShare x6 ∗ (arg9.view.loc (c : Thread nD τ) ↦[arg9.view.set]{fullShare} out) ∗ owns (c : Thread nD τ) arg10 fullShare KS ∗ owns (c : Thread nD τ) arg11 fullShare VS ∗ (∃ d, owns (c : Thread nD τ) arg12 fullShare d)) -∗ K ⟨⟩))
          ⊢ wp frame (wpE (defs₀ (F := F)) Variants.none c none) E (cc0_diff_attention i arg2 harg2 arg3 harg3 arg4 harg4 arg5 harg5 arg6 harg6 arg7 harg7 arg8 harg8 arg9 harg9 arg10 harg10 arg11 harg11 arg12 harg12) K } := by
    refine ⟨?_, fun E K => ?run⟩
    case run =>
    simp only [cc0_diff_attention_eq_skeleton]; unfold cc0_diff_attention_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f0, %hf0, H0⟩, ⟨%f5, %hf5, H5⟩, ⟨%f6, %hf6, H6⟩, ⟨%d7, %f7, -, H7⟩, ⟨%fs0, %hs0, HS0⟩, ⟨%fs1, %hs1, HS1⟩, ⟨%ds2, %fs2, -, HS2⟩, Hk⟩
    obtain rfl := harg2.eq_unread hf0; obtain rfl := harg7.eq_unread hf5; obtain rfl := harg8.eq_unread hf6; obtain rfl := harg10.eq_unread hs0; obtain rfl := harg11.eq_unread hs1
    sl_exec! (disch := first | sl_exact hc0)
    sl_step
    iapply Hk
    isplitl [H0]
    · iexists _; isplitr; · ipureintro; exact harg2.read_unread _
      iexact H0
    isplitl [H5]
    · iexists _; isplitr; · ipureintro; exact harg7.read_unread _
      iexact H5
    isplitl [H6]
    · iexists _; isplitr; · ipureintro; exact harg8.read_unread _
      iexact H6
    isplitl [H7]
    · iexact H7
    isplitl [HS0]
    · iexists _; isplitr; · ipureintro; exact harg10.read_unread _
      iexact HS0
    isplitl [HS1]
    · iexists _; isplitr; · ipureintro; exact harg11.read_unread _
      iexact HS1
    iexists _, _; isplitr; swap; · iexact HS2
    ipureintro; rfl

end Cert.KernelIdeal.Attn
-- ==== Proof.Model.lean ====
/- What one grid point of the attention kernel computes, as a function of the arrays it reads: the keys and the
   transposed values held in scratch (all 4608 positions of one batch element), one block of 256 queries, the lambda
   parameters and the tiled gain. The eight streams are the two halves of each of the four heads; each walks the six
   blocks of 768 keys carrying a running maximum and a running sum. Everything is spelt with the pure operations of
   the printed program, over any float values. -/
module

public import proofs.«01_k».proof.Proof.Gen.KernelIdeal.Skeleton
public import Idealize.ShloMosaic.Lib.Pipeline.FrameBody
public import Idealize.ShloMosaic.Lib.ValueIdx

@[expose] public section

set_option maxRecDepth 16384

noncomputable section

namespace Cert.KernelIdeal.Attn

open Cert.KernelIdeal.Gen
open Idealize.ShloMosaic Idealize.ShloMosaic.TcCoe Idealize.ShloMosaic.ValueIdx

variable {F : FTy → Type} [FloatOps F] [Named F]

theorem kb_inb (j : Fin 6) : ∀ a, ![768 * j.val, 0] a + S768x256.size a ≤ S4608x256.size a := by
  have := j.isLt
  intro a; fin_cases a <;> simp <;> omega

theorem vb_inb (h : Fin 4) (j : Fin 6) : ∀ a, ![h.val, 0, 768 * j.val] a + S1x80x768.size a ≤ S4x80x4608.size a := by
  have := j.isLt; have := h.isLt
  intro a; fin_cases a <;> simp <;> omega

/-- Block `j` of 768 keys. -/
def kb (KS : Vec F S4608x256 .bf16) (j : Fin 6) : Vec F S768x256 .bf16 :=
  View.ld (Val := Elt F) KS (Rect.unit (s := S4608x256) ![768 * j.val, 0] S768x256.size (kb_inb j))

/-- Block `j` of the transposed values of head `h`, with its rows of ones. -/
def vb (VS : Vec F S4x80x4608 .bf16) (h : Fin 4) (j : Fin 6) : Vec F S1x80x768 .bf16 :=
  View.ld (Val := Elt F) VS (Rect.unit (s := S4x80x4608) ![h.val, 0, 768 * j.val] S1x80x768.size (vb_inb h j))

/-- The carry of a stream: the running maximum of its scores and the running sum of its weighted values. -/
abbrev St (F : FTy → Type) [FloatOps F] := FVec F S1x256 .f32 × FVec F S80x256 .f32

/-- One block of one stream. -/
def step (k : Vec F S768x256 .bf16) (v : Vec F S1x80x768 .bf16) (q : Vec F S1x256x256 .bf16) (st : St F) : St F :=
  (k0_pay50 st.1 (k0_pay45 k q), k0_pay51 st.1 st.2 (k0_pay45 k q) v)

/-- The carry of the stream of queries `q` of head `h` after the first `j` blocks. -/
def stAt (KS : Vec F S4608x256 .bf16) (VS : Vec F S4x80x4608 .bf16) (h : Fin 4) (q : Vec F S1x256x256 .bf16) :
    (j : ℕ) → j ≤ 6 → St F
  | 0, _ => (k0_pay29, k0_pay30)
  | j + 1, hj => step (kb KS ⟨j, hj⟩) (vb VS h ⟨j, hj⟩) q (stAt KS VS h q j (Nat.le_of_succ_le hj))

/-- The sum a stream ends with. -/
def accF (KS : Vec F S4608x256 .bf16) (VS : Vec F S4x80x4608 .bf16) (h : Fin 4) (q : Vec F S1x256x256 .bf16) :
    FVec F S80x256 .f32 := (stAt KS VS h q 6 le_rfl).2

/-- The four heads' outputs stacked and transposed back: queries by columns. -/
def heads (lam : FVec F S1x1 .f32) (a : Fin 8 → FVec F S80x256 .f32) : FVec F S256x256 .f32 :=
  transpose S256x256 [1, 0]
    (concatenate S256x256 0
      [⟨S64x256, k0_pay249 lam (a 0) (a 1)⟩, ⟨S64x256, k0_pay249 lam (a 2) (a 3)⟩, ⟨S64x256, k0_pay249 lam (a 4) (a 5)⟩,
        ⟨S64x256, k0_pay249 lam (a 6) (a 7)⟩] concatenates_S64x256_S64x256_S64x256_S64x256_S256x256_d0)
    transposes_S256x256_p1_0_S256x256

/-- The head of stream `i`. -/
def hd (i : Fin 8) : Fin 4 := ⟨i.val / 2, by omega⟩

/-- The block of results of one grid point. -/
def outM (q : Fin 8 → Vec F S1x256x256 .bf16) (lam : Vec F S4x32 .f32) (g : Vec F S1x256 .f32)
    (KS : Vec F S4608x256 .bf16) (VS : Vec F S4x80x4608 .bf16) : Vec F S1x256x256 .bf16 :=
  k0_pay1 (heads (k0_pay15 lam) (fun i => accF KS VS (hd i) (q i))) (k0_pay254 g)

end Cert.KernelIdeal.Attn
-- ==== Proof.Words.lean ====
/- The values the run of one grid point passes through are the model's: block by block, each stream's scores, running
   maximum and running sum are the carry `stAt` of Model.lean, and the stored block is `outM`. -/
module

public import proofs.«01_k».proof.Proof.RunB
public import proofs.«01_k».proof.Proof.Model
public import Idealize.ShloMosaic.Lib.Pipeline.Value

@[expose] public section

set_option maxRecDepth 16384

noncomputable section

namespace Cert.KernelIdeal.Attn

open Cert.KernelIdeal.Gen
open Idealize.ShloMosaic Idealize.ShloMosaic.TcCoe Idealize.ShloMosaic.ValueIdx

variable {F : FTy → Type} [FloatOps F] [Named F]
variable (c : Dev nD)
variable (arg2 : Memref sig .tc .vmem S1x256x256 .f32) (harg2 : arg2.IsWhole)
variable (arg7 : Memref sig .tc .vmem S4x32 .f32) (harg7 : arg7.IsWhole)
variable (arg8 : Memref sig .tc .vmem S1x256 .f32) (harg8 : arg8.IsWhole)
variable (arg10 : Memref sig .tc .vmem S4608x256 .bf16) (harg10 : arg10.IsWhole)
variable (arg11 : Memref sig .tc .vmem S4x80x4608 .bf16) (harg11 : arg11.IsWhole)
variable (arg12 : Memref sig .tc .vmem S8x256x256 .bf16)
variable (x0 : Vec F S1x256x256 .f32) (x5 : Vec F S4x32 .f32) (x6 : Vec F S1x256 .f32) (KS : Vec F S4608x256 .bf16) (VS : Vec F S4x80x4608 .bf16)

theorem zero2 : (![0, 0] : Fin 2 → ℕ) = fun _ => 0 := by funext a; fin_cases a <;> rfl

/-- The masked queries of stream `i`, as the run loads them back. -/
def qs : Fin 8 → Vec F S1x256x256 .bf16
  | 0 => (runB.sl.v133 (F := F) c arg2 harg2 arg12 x0)
  | 1 => (runB.sl.v136 (F := F) c arg2 harg2 arg12 x0)
  | 2 => (runB.sl.v139 (F := F) c arg2 harg2 arg12 x0)
  | 3 => (runB.sl.v142 (F := F) c arg2 harg2 arg12 x0)
  | 4 => (runB.sl.v145 (F := F) c arg2 harg2 arg12 x0)
  | 5 => (runB.sl.v184 (F := F) c arg2 harg2 arg12 x0)
  | 6 => (runB.sl.v223 (F := F) c arg2 harg2 arg12 x0)
  | 7 => (runB.sl.v262 (F := F) c arg2 harg2 arg12 x0)

/-- Stream `i`'s carry after `j` blocks, at the contents the run reads. -/
abbrev ST (i : Fin 8) (j : ℕ) (hj : j ≤ 6) : St F :=
  stAt (View.read (Elt F) arg10.view (harg10.unread KS)) (View.read (Elt F) arg11.view (harg11.unread VS)) (hd i) (qs (F := F) c arg2 harg2 arg12 x0 i) j hj

/-! ### The scores -/

theorem s0_0 : (runB.sl.r_4 (F := F) c arg2 harg2 arg10 harg10 arg12 x0 KS) = k0_pay45 (kb (View.read (Elt F) arg10.view (harg10.unread KS)) 0) (qs (F := F) c arg2 harg2 arg12 x0 0) := rfl
theorem s0_1 : (runB.sl.r_5 (F := F) c arg2 harg2 arg10 harg10 arg12 x0 KS) = k0_pay45 (kb (View.read (Elt F) arg10.view (harg10.unread KS)) 0) (qs (F := F) c arg2 harg2 arg12 x0 1) := rfl
theorem s0_2 : (runB.sl.r_6 (F := F) c arg2 harg2 arg10 harg10 arg12 x0 KS) = k0_pay45 (kb (View.read (Elt F) arg10.view (harg10.unread KS)) 0) (qs (F := F) c arg2 harg2 arg12 x0 2) := rfl
theorem s0_3 : (runB.sl.r_7 (F := F) c arg2 harg2 arg10 harg10 arg12 x0 KS) = k0_pay45 (kb (View.read (Elt F) arg10.view (harg10.unread KS)) 0) (qs (F := F) c arg2 harg2 arg12 x0 3) := rfl
theorem s0_4 : (runB.sl.r_8 (F := F) c arg2 harg2 arg10 harg10 arg12 x0 KS) = k0_pay45 (kb (View.read (Elt F) arg10.view (harg10.unread KS)) 0) (qs (F := F) c arg2 harg2 arg12 x0 4) := rfl
theorem s0_5 : (runB.sl.r_11 (F := F) c arg2 harg2 arg10 harg10 arg12 x0 KS) = k0_pay45 (kb (View.read (Elt F) arg10.view (harg10.unread KS)) 0) (qs (F := F) c arg2 harg2 arg12 x0 5) := rfl
theorem s0_6 : (runB.sl.r_14 (F := F) c arg2 harg2 arg10 harg10 arg12 x0 KS) = k0_pay45 (kb (View.read (Elt F) arg10.view (harg10.unread KS)) 0) (qs (F := F) c arg2 harg2 arg12 x0 6) := rfl
theorem s0_7 : (runB.sl.r_19 (F := F) c arg2 harg2 arg10 harg10 arg12 x0 KS) = k0_pay45 (kb (View.read (Elt F) arg10.view (harg10.unread KS)) 0) (qs (F := F) c arg2 harg2 arg12 x0 7) := rfl
theorem s1_0 : (runB.sl.r_35 (F := F) c arg2 harg2 arg10 harg10 arg12 x0 KS) = k0_pay45 (kb (View.read (Elt F) arg10.view (harg10.unread KS)) 1) (qs (F := F) c arg2 harg2 arg12 x0 0) := rfl
theorem s1_1 : (runB.sl.r_36 (F := F) c arg2 harg2 arg10 harg10 arg12 x0 KS) = k0_pay45 (kb (View.read (Elt F) arg10.view (harg10.unread KS)) 1) (qs (F := F) c arg2 harg2 arg12 x0 1) := rfl
theorem s1_2 : (runB.sl.r_37 (F := F) c arg2 harg2 arg10 harg10 arg12 x0 KS) = k0_pay45 (kb (View.read (Elt F) arg10.view (harg10.unread KS)) 1) (qs (F := F) c arg2 harg2 arg12 x0 2) := rfl
theorem s1_3 : (runB.sl.r_38 (F := F) c arg2 harg2 arg10 harg10 arg12 x0 KS) = k0_pay45 (kb (View.read (Elt F) arg10.view (harg10.unread KS)) 1) (qs (F := F) c arg2 harg2 arg12 x0 3) := rfl
theorem s1_4 : (runB.sl.r_39 (F := F) c arg2 harg2 arg10 harg10 arg12 x0 KS) = k0_pay45 (kb (View.read (Elt F) arg10.view (harg10.unread KS)) 1) (qs (F := F) c arg2 harg2 arg12 x0 4) := rfl
theorem s1_5 : (runB.sl.r_43 (F := F) c arg2 harg2 arg10 harg10 arg12 x0 KS) = k0_pay45 (kb (View.read (Elt F) arg10.view (harg10.unread KS)) 1) (qs (F := F) c arg2 harg2 arg12 x0 5) := rfl
theorem s1_6 : (runB.sl.r_48 (F := F) c arg2 harg2 arg10 harg10 arg12 x0 KS) = k0_pay45 (kb (View.read (Elt F) arg10.view (harg10.unread KS)) 1) (qs (F := F) c arg2 harg2 arg12 x0 6) := rfl
theorem s1_7 : (runB.sl.r_52 (F := F) c arg2 harg2 arg10 harg10 arg12 x0 KS) = k0_pay45 (kb (View.read (Elt F) arg10.view (harg10.unread KS)) 1) (qs (F := F) c arg2 harg2 arg12 x0 7) := rfl
theorem s2_0 : (runB.sl.r_70 (F := F) c arg2 harg2 arg10 harg10 arg12 x0 KS) = k0_pay45 (kb (View.read (Elt F) arg10.view (harg10.unread KS)) 2) (qs (F := F) c arg2 harg2 arg12 x0 0) := rfl
theorem s2_1 : (runB.sl.r_71 (F := F) c arg2 harg2 arg10 harg10 arg12 x0 KS) = k0_pay45 (kb (View.read (Elt F) arg10.view (harg10.unread KS)) 2) (qs (F := F) c arg2 harg2 arg12 x0 1) := rfl
theorem s2_2 : (runB.sl.r_72 (F := F) c arg2 harg2 arg10 harg10 arg12 x0 KS) = k0_pay45 (kb (View.read (Elt F) arg10.view (harg10.unread KS)) 2) (qs (F := F) c arg2 harg2 arg12 x0 2) := rfl
theorem s2_3 : (runB.sl.r_73 (F := F) c arg2 harg2 arg10 harg10 arg12 x0 KS) = k0_pay45 (kb (View.read (Elt F) arg10.view (harg10.unread KS)) 2) (qs (F := F) c arg2 harg2 arg12 x0 3) := rfl
theorem s2_4 : (runB.sl.r_74 (F := F) c arg2 harg2 arg10 harg10 arg12 x0 KS) = k0_pay45 (kb (View.read (Elt F) arg10.view (harg10.unread KS)) 2) (qs (F := F) c arg2 harg2 arg12 x0 4) := rfl
theorem s2_5 : (runB.sl.r_77 (F := F) c arg2 harg2 arg10 harg10 arg12 x0 KS) = k0_pay45 (kb (View.read (Elt F) arg10.view (harg10.unread KS)) 2) (qs (F := F) c arg2 harg2 arg12 x0 5) := rfl
theorem s2_6 : (runB.sl.r_82 (F := F) c arg2 harg2 arg10 harg10 arg12 x0 KS) = k0_pay45 (kb (View.read (Elt F) arg10.view (harg10.unread KS)) 2) (qs (F := F) c arg2 harg2 arg12 x0 6) := rfl
theorem s2_7 : (runB.sl.r_86 (F := F) c arg2 harg2 arg10 harg10 arg12 x0 KS) = k0_pay45 (kb (View.read (Elt F) arg10.view (harg10.unread KS)) 2) (qs (F := F) c arg2 harg2 arg12 x0 7) := rfl
theorem s3_0 : (runB.sl.r_106 (F := F) c arg2 harg2 arg10 harg10 arg12 x0 KS) = k0_pay45 (kb (View.read (Elt F) arg10.view (harg10.unread KS)) 3) (qs (F := F) c arg2 harg2 arg12 x0 0) := rfl
theorem s3_1 : (runB.sl.r_107 (F := F) c arg2 harg2 arg10 harg10 arg12 x0 KS) = k0_pay45 (kb (View.read (Elt F) arg10.view (harg10.unread KS)) 3) (qs (F := F) c arg2 harg2 arg12 x0 1) := rfl
theorem s3_2 : (runB.sl.r_108 (F := F) c arg2 harg2 arg10 harg10 arg12 x0 KS) = k0_pay45 (kb (View.read (Elt F) arg10.view (harg10.unread KS)) 3) (qs (F := F) c arg2 harg2 arg12 x0 2) := rfl
theorem s3_3 : (runB.sl.r_109 (F := F) c arg2 harg2 arg10 harg10 arg12 x0 KS) = k0_pay45 (kb (View.read (Elt F) arg10.view (harg10.unread KS)) 3) (qs (F := F) c arg2 harg2 arg12 x0 3) := rfl
theorem s3_4 : (runB.sl.r_110 (F := F) c arg2 harg2 arg10 harg10 arg12 x0 KS) = k0_pay45 (kb (View.read (Elt F) arg10.view (harg10.unread KS)) 3) (qs (F := F) c arg2 harg2 arg12 x0 4) := rfl
theorem s3_5 : (runB.sl.r_115 (F := F) c arg2 harg2 arg10 harg10 arg12 x0 KS) = k0_pay45 (kb (View.read (Elt F) arg10.view (harg10.unread KS)) 3) (qs (F := F) c arg2 harg2 arg12 x0 5) := rfl
theorem s3_6 : (runB.sl.r_118 (F := F) c arg2 harg2 arg10 harg10 arg12 x0 KS) = k0_pay45 (kb (View.read (Elt F) arg10.view (harg10.unread KS)) 3) (qs (F := F) c arg2 harg2 arg12 x0 6) := rfl
theorem s3_7 : (runB.sl.r_121 (F := F) c arg2 harg2 arg10 harg10 arg12 x0 KS) = k0_pay45 (kb (View.read (Elt F) arg10.view (harg10.unread KS)) 3) (qs (F := F) c arg2 harg2 arg12 x0 7) := rfl
theorem s4_0 : (runB.sl.r_141 (F := F) c arg2 harg2 arg10 harg10 arg12 x0 KS) = k0_pay45 (kb (View.read (Elt F) arg10.view (harg10.unread KS)) 4) (qs (F := F) c arg2 harg2 arg12 x0 0) := rfl
theorem s4_1 : (runB.sl.r_142 (F := F) c arg2 harg2 arg10 harg10 arg12 x0 KS) = k0_pay45 (kb (View.read (Elt F) arg10.view (harg10.unread KS)) 4) (qs (F := F) c arg2 harg2 arg12 x0 1) := rfl
theorem s4_2 : (runB.sl.r_143 (F := F) c arg2 harg2 arg10 harg10 arg12 x0 KS) = k0_pay45 (kb (View.read (Elt F) arg10.view (harg10.unread KS)) 4) (qs (F := F) c arg2 harg2 arg12 x0 2) := rfl
theorem s4_3 : (runB.sl.r_144 (F := F) c arg2 harg2 arg10 harg10 arg12 x0 KS) = k0_pay45 (kb (View.read (Elt F) arg10.view (harg10.unread KS)) 4) (qs (F := F) c arg2 harg2 arg12 x0 3) := rfl
theorem s4_4 : (runB.sl.r_145 (F := F) c arg2 harg2 arg10 harg10 arg12 x0 KS) = k0_pay45 (kb (View.read (Elt F) arg10.view (harg10.unread KS)) 4) (qs (F := F) c arg2 harg2 arg12 x0 4) := rfl
theorem s4_5 : (runB.sl.r_149 (F := F) c arg2 harg2 arg10 harg10 arg12 x0 KS) = k0_pay45 (kb (View.read (Elt F) arg10.view (harg10.unread KS)) 4) (qs (F := F) c arg2 harg2 arg12 x0 5) := rfl
theorem s4_6 : (runB.sl.r_152 (F := F) c arg2 harg2 arg10 harg10 arg12 x0 KS) = k0_pay45 (kb (View.read (Elt F) arg10.view (harg10.unread KS)) 4) (qs (F := F) c arg2 harg2 arg12 x0 6) := rfl
theorem s4_7 : (runB.sl.r_158 (F := F) c arg2 harg2 arg10 harg10 arg12 x0 KS) = k0_pay45 (kb (View.read (Elt F) arg10.view (harg10.unread KS)) 4) (qs (F := F) c arg2 harg2 arg12 x0 7) := rfl
theorem s5_0 : (runB.sl.r_176 (F := F) c arg2 harg2 arg10 harg10 arg12 x0 KS) = k0_pay45 (kb (View.read (Elt F) arg10.view (harg10.unread KS)) 5) (qs (F := F) c arg2 harg2 arg12 x0 0) := rfl
theorem s5_1 : (runB.sl.r_177 (F := F) c arg2 harg2 arg10 harg10 arg12 x0 KS) = k0_pay45 (kb (View.read (Elt F) arg10.view (harg10.unread KS)) 5) (qs (F := F) c arg2 harg2 arg12 x0 1) := rfl
theorem s5_2 : (runB.sl.r_178 (F := F) c arg2 harg2 arg10 harg10 arg12 x0 KS) = k0_pay45 (kb (View.read (Elt F) arg10.view (harg10.unread KS)) 5) (qs (F := F) c arg2 harg2 arg12 x0 2) := rfl
theorem s5_3 : (runB.sl.r_179 (F := F) c arg2 harg2 arg10 harg10 arg12 x0 KS) = k0_pay45 (kb (View.read (Elt F) arg10.view (harg10.unread KS)) 5) (qs (F := F) c arg2 harg2 arg12 x0 3) := rfl
theorem s5_4 : (runB.sl.r_180 (F := F) c arg2 harg2 arg10 harg10 arg12 x0 KS) = k0_pay45 (kb (View.read (Elt F) arg10.view (harg10.unread KS)) 5) (qs (F := F) c arg2 harg2 arg12 x0 4) := rfl
theorem s5_5 : (runB.sl.r_182 (F := F) c arg2 harg2 arg10 harg10 arg12 x0 KS) = k0_pay45 (kb (View.read (Elt F) arg10.view (harg10.unread KS)) 5) (qs (F := F) c arg2 harg2 arg12 x0 5) := rfl
theorem s5_6 : (runB.sl.r_185 (F := F) c arg2 harg2 arg10 harg10 arg12 x0 KS) = k0_pay45 (kb (View.read (Elt F) arg10.view (harg10.unread KS)) 5) (qs (F := F) c arg2 harg2 arg12 x0 6) := rfl
theorem s5_7 : (runB.sl.r_188 (F := F) c arg2 harg2 arg10 harg10 arg12 x0 KS) = k0_pay45 (kb (View.read (Elt F) arg10.view (harg10.unread KS)) 5) (qs (F := F) c arg2 harg2 arg12 x0 7) := rfl

/-! ### Stream 0 -/

theorem m1_0 : (runB.sl.r_9 (F := F) c arg2 harg2 arg10 harg10 arg12 x0 KS) = (ST (F := F) c arg2 harg2 arg10 harg10 arg11 harg11 arg12 x0 KS VS 0 1 (by omega)).1 :=
  (show _ = k0_pay50 k0_pay29 (runB.sl.r_4 (F := F) c arg2 harg2 arg10 harg10 arg12 x0 KS) from rfl).trans (by rw [s0_0]; rfl)
theorem a1_0 : (runB.sl.r_10 (F := F) c arg2 harg2 arg10 harg10 arg11 harg11 arg12 x0 KS VS) = (ST (F := F) c arg2 harg2 arg10 harg10 arg11 harg11 arg12 x0 KS VS 0 1 (by omega)).2 :=
  (show _ = k0_pay51 k0_pay29 k0_pay30 (runB.sl.r_4 (F := F) c arg2 harg2 arg10 harg10 arg12 x0 KS) (vb (View.read (Elt F) arg11.view (harg11.unread VS)) 0 0) from rfl).trans (by rw [s0_0]; rfl)
theorem m2_0 : (runB.sl.r_41 (F := F) c arg2 harg2 arg10 harg10 arg12 x0 KS) = (ST (F := F) c arg2 harg2 arg10 harg10 arg11 harg11 arg12 x0 KS VS 0 2 (by omega)).1 :=
  (show _ = k0_pay50 (runB.sl.r_9 (F := F) c arg2 harg2 arg10 harg10 arg12 x0 KS) (runB.sl.r_35 (F := F) c arg2 harg2 arg10 harg10 arg12 x0 KS) from rfl).trans (by rw [m1_0, s1_0]; rfl)
theorem a2_0 : (runB.sl.r_42 (F := F) c arg2 harg2 arg10 harg10 arg11 harg11 arg12 x0 KS VS) = (ST (F := F) c arg2 harg2 arg10 harg10 arg11 harg11 arg12 x0 KS VS 0 2 (by omega)).2 :=
  (show _ = k0_pay51 (runB.sl.r_9 (F := F) c arg2 harg2 arg10 harg10 arg12 x0 KS) (runB.sl.r_10 (F := F) c arg2 harg2 arg10 harg10 arg11 harg11 arg12 x0 KS VS) (runB.sl.r_35 (F := F) c arg2 harg2 arg10 harg10 arg12 x0 KS) (vb (View.read (Elt F) arg11.view (harg11.unread VS)) 0 1) from rfl).trans (by rw [m1_0, a1_0, s1_0]; rfl)
theorem m3_0 : (runB.sl.r_75 (F := F) c arg2 harg2 arg10 harg10 arg12 x0 KS) = (ST (F := F) c arg2 harg2 arg10 harg10 arg11 harg11 arg12 x0 KS VS 0 3 (by omega)).1 :=
  (show _ = k0_pay50 (runB.sl.r_41 (F := F) c arg2 harg2 arg10 harg10 arg12 x0 KS) (runB.sl.r_70 (F := F) c arg2 harg2 arg10 harg10 arg12 x0 KS) from rfl).trans (by rw [m2_0, s2_0]; rfl)
theorem a3_0 : (runB.sl.r_76 (F := F) c arg2 harg2 arg10 harg10 arg11 harg11 arg12 x0 KS VS) = (ST (F := F) c arg2 harg2 arg10 harg10 arg11 harg11 arg12 x0 KS VS 0 3 (by omega)).2 :=
  (show _ = k0_pay51 (runB.sl.r_41 (F := F) c arg2 harg2 arg10 harg10 arg12 x0 KS) (runB.sl.r_42 (F := F) c arg2 harg2 arg10 harg10 arg11 harg11 arg12 x0 KS VS) (runB.sl.r_70 (F := F) c arg2 harg2 arg10 harg10 arg12 x0 KS) (vb (View.read (Elt F) arg11.view (harg11.unread VS)) 0 2) from rfl).trans (by rw [m2_0, a2_0, s2_0]; rfl)
theorem m4_0 : (runB.sl.r_111 (F := F) c arg2 harg2 arg10 harg10 arg12 x0 KS) = (ST (F := F) c arg2 harg2 arg10 harg10 arg11 harg11 arg12 x0 KS VS 0 4 (by omega)).1 :=
  (show _ = k0_pay50 (runB.sl.r_75 (F := F) c arg2 harg2 arg10 harg10 arg12 x0 KS) (runB.sl.r_106 (F := F) c arg2 harg2 arg10 harg10 arg12 x0 KS) from rfl).trans (by rw [m3_0, s3_0]; rfl)
theorem a4_0 : (runB.sl.r_114 (F := F) c arg2 harg2 arg10 harg10 arg11 harg11 arg12 x0 KS VS) = (ST (F := F) c arg2 harg2 arg10 harg10 arg11 harg11 arg12 x0 KS VS 0 4 (by omega)).2 :=
  (show _ = k0_pay51 (runB.sl.r_75 (F := F) c arg2 harg2 arg10 harg10 arg12 x0 KS) (runB.sl.r_76 (F := F) c arg2 harg2 arg10 harg10 arg11 harg11 arg12 x0 KS VS) (runB.sl.r_106 (F := F) c arg2 harg2 arg10 harg10 arg12 x0 KS) (vb (View.read (Elt F) arg11.view (harg11.unread VS)) 0 3) from rfl).trans (by rw [m3_0, a3_0, s3_0]; rfl)
theorem m5_0 : (runB.sl.r_147 (F := F) c arg2 harg2 arg10 harg10 arg12 x0 KS) = (ST (F := F) c arg2 harg2 arg10 harg10 arg11 harg11 arg12 x0 KS VS 0 5 (by omega)).1 :=
  (show _ = k0_pay50 (runB.sl.r_111 (F := F) c arg2 harg2 arg10 harg10 arg12 x0 KS) (runB.sl.r_141 (F := F) c arg2 harg2 arg10 harg10 arg12 x0 KS) from rfl).trans (by rw [m4_0, s4_0]; rfl)
theorem a5_0 : (runB.sl.r_148 (F := F) c arg2 harg2 arg10 harg10 arg11 harg11 arg12 x0 KS VS) = (ST (F := F) c arg2 harg2 arg10 harg10 arg11 harg11 arg12 x0 KS VS 0 5 (by omega)).2 :=
  (show _ = k0_pay51 (runB.sl.r_111 (F := F) c arg2 harg2 arg10 harg10 arg12 x0 KS) (runB.sl.r_114 (F := F) c arg2 harg2 arg10 harg10 arg11 harg11 arg12 x0 KS VS) (runB.sl.r_141 (F := F) c arg2 harg2 arg10 harg10 arg12 x0 KS) (vb (View.read (Elt F) arg11.view (harg11.unread VS)) 0 4) from rfl).trans (by rw [m4_0, a4_0, s4_0]; rfl)
theorem a6_0 : (runB.sl.r_181 (F := F) c arg2 harg2 arg10 harg10 arg11 harg11 arg12 x0 KS VS) = (ST (F := F) c arg2 harg2 arg10 harg10 arg11 harg11 arg12 x0 KS VS 0 6 (by omega)).2 :=
  (show _ = k0_pay51 (runB.sl.r_147 (F := F) c arg2 harg2 arg10 harg10 arg12 x0 KS) (runB.sl.r_148 (F := F) c arg2 harg2 arg10 harg10 arg11 harg11 arg12 x0 KS VS) (runB.sl.r_176 (F := F) c arg2 harg2 arg10 harg10 arg12 x0 KS) (vb (View.read (Elt F) arg11.view (harg11.unread VS)) 0 5) from rfl).trans (by rw [m5_0, a5_0, s5_0]; rfl)

/-! ### Stream 1 -/

theorem m1_1 : (runB.sl.r_12 (F := F) c arg2 harg2 arg10 harg10 arg12 x0 KS) = (ST (F := F) c arg2 harg2 arg10 harg10 arg11 harg11 arg12 x0 KS VS 1 1 (by omega)).1 :=
  (show _ = k0_pay50 k0_pay29 (runB.sl.r_5 (F := F) c arg2 harg2 arg10 harg10 arg12 x0 KS) from rfl).trans (by rw [s0_1]; rfl)
theorem a1_1 : (runB.sl.r_13 (F := F) c arg2 harg2 arg10 harg10 arg11 harg11 arg12 x0 KS VS) = (ST (F := F) c arg2 harg2 arg10 harg10 arg11 harg11 arg12 x0 KS VS 1 1 (by omega)).2 :=
  (show _ = k0_pay51 k0_pay29 k0_pay30 (runB.sl.r_5 (F := F) c arg2 harg2 arg10 harg10 arg12 x0 KS) (vb (View.read (Elt F) arg11.view (harg11.unread VS)) 0 0) from rfl).trans (by rw [s0_1]; rfl)
theorem m2_1 : (runB.sl.r_44 (F := F) c arg2 harg2 arg10 harg10 arg12 x0 KS) = (ST (F := F) c arg2 harg2 arg10 harg10 arg11 harg11 arg12 x0 KS VS 1 2 (by omega)).1 :=
  (show _ = k0_pay50 (runB.sl.r_12 (F := F) c arg2 harg2 arg10 harg10 arg12 x0 KS) (runB.sl.r_36 (F := F) c arg2 harg2 arg10 harg10 arg12 x0 KS) from rfl).trans (by rw [m1_1, s1_1]; rfl)
theorem a2_1 : (runB.sl.r_47 (F := F) c arg2 harg2 arg10 harg10 arg11 harg11 arg12 x0 KS VS) = (ST (F := F) c arg2 harg2 arg10 harg10 arg11 harg11 arg12 x0 KS VS 1 2 (by omega)).2 :=
  (show _ = k0_pay51 (runB.sl.r_12 (F := F) c arg2 harg2 arg10 harg10 arg12 x0 KS) (runB.sl.r_13 (F := F) c arg2 harg2 arg10 harg10 arg11 harg11 arg12 x0 KS VS) (runB.sl.r_36 (F := F) c arg2 harg2 arg10 harg10 arg12 x0 KS) (vb (View.read (Elt F) arg11.view (harg11.unread VS)) 0 1) from rfl).trans (by rw [m1_1, a1_1, s1_1]; rfl)
theorem m3_1 : (runB.sl.r_80 (F := F) c arg2 harg2 arg10 harg10 arg12 x0 KS) = (ST (F := F) c arg2 harg2 arg10 harg10 arg11 harg11 arg12 x0 KS VS 1 3 (by omega)).1 :=
  (show _ = k0_pay50 (runB.sl.r_44 (F := F) c arg2 harg2 arg10 harg10 arg12 x0 KS) (runB.sl.r_71 (F := F) c arg2 harg2 arg10 harg10 arg12 x0 KS) from rfl).trans (by rw [m2_1, s2_1]; rfl)
theorem a3_1 : (runB.sl.r_81 (F := F) c arg2 harg2 arg10 harg10 arg11 harg11 arg12 x0 KS VS) = (ST (F := F) c arg2 harg2 arg10 harg10 arg11 harg11 arg12 x0 KS VS 1 3 (by omega)).2 :=
  (show _ = k0_pay51 (runB.sl.r_44 (F := F) c arg2 harg2 arg10 harg10 arg12 x0 KS) (runB.sl.r_47 (F := F) c arg2 harg2 arg10 harg10 arg11 harg11 arg12 x0 KS VS) (runB.sl.r_71 (F := F) c arg2 harg2 arg10 harg10 arg12 x0 KS) (vb (View.read (Elt F) arg11.view (harg11.unread VS)) 0 2) from rfl).trans (by rw [m2_1, a2_1, s2_1]; rfl)
theorem m4_1 : (runB.sl.r_116 (F := F) c arg2 harg2 arg10 harg10 arg12 x0 KS) = (ST (F := F) c arg2 harg2 arg10 harg10 arg11 harg11 arg12 x0 KS VS 1 4 (by omega)).1 :=
  (show _ = k0_pay50 (runB.sl.r_80 (F := F) c arg2 harg2 arg10 harg10 arg12 x0 KS) (runB.sl.r_107 (F := F) c arg2 harg2 arg10 harg10 arg12 x0 KS) from rfl).trans (by rw [m3_1, s3_1]; rfl)
theorem a4_1 : (runB.sl.r_117 (F := F) c arg2 harg2 arg10 harg10 arg11 harg11 arg12 x0 KS VS) = (ST (F := F) c arg2 harg2 arg10 harg10 arg11 harg11 arg12 x0 KS VS 1 4 (by omega)).2 :=
  (show _ = k0_pay51 (runB.sl.r_80 (F := F) c arg2 harg2 arg10 harg10 arg12 x0 KS) (runB.sl.r_81 (F := F) c arg2 harg2 arg10 harg10 arg11 harg11 arg12 x0 KS VS) (runB.sl.r_107 (F := F) c arg2 harg2 arg10 harg10 arg12 x0 KS) (vb (View.read (Elt F) arg11.view (harg11.unread VS)) 0 3) from rfl).trans (by rw [m3_1, a3_1, s3_1]; rfl)
theorem m5_1 : (runB.sl.r_150 (F := F) c arg2 harg2 arg10 harg10 arg12 x0 KS) = (ST (F := F) c arg2 harg2 arg10 harg10 arg11 harg11 arg12 x0 KS VS 1 5 (by omega)).1 :=
  (show _ = k0_pay50 (runB.sl.r_116 (F := F) c arg2 harg2 arg10 harg10 arg12 x0 KS) (runB.sl.r_142 (F := F) c arg2 harg2 arg10 harg10 arg12 x0 KS) from rfl).trans (by rw [m4_1, s4_1]; rfl)
theorem a5_1 : (runB.sl.r_151 (F := F) c arg2 harg2 arg10 harg10 arg11 harg11 arg12 x0 KS VS) = (ST (F := F) c arg2 harg2 arg10 harg10 arg11 harg11 arg12 x0 KS VS 1 5 (by omega)).2 :=
  (show _ = k0_pay51 (runB.sl.r_116 (F := F) c arg2 harg2 arg10 harg10 arg12 x0 KS) (runB.sl.r_117 (F := F) c arg2 harg2 arg10 harg10 arg11 harg11 arg12 x0 KS VS) (runB.sl.r_142 (F := F) c arg2 harg2 arg10 harg10 arg12 x0 KS) (vb (View.read (Elt F) arg11.view (harg11.unread VS)) 0 4) from rfl).trans (by rw [m4_1, a4_1, s4_1]; rfl)
theorem a6_1 : (runB.sl.r_184 (F := F) c arg2 harg2 arg10 harg10 arg11 harg11 arg12 x0 KS VS) = (ST (F := F) c arg2 harg2 arg10 harg10 arg11 harg11 arg12 x0 KS VS 1 6 (by omega)).2 :=
  (show _ = k0_pay51 (runB.sl.r_150 (F := F) c arg2 harg2 arg10 harg10 arg12 x0 KS) (runB.sl.r_151 (F := F) c arg2 harg2 arg10 harg10 arg11 harg11 arg12 x0 KS VS) (runB.sl.r_177 (F := F) c arg2 harg2 arg10 harg10 arg12 x0 KS) (vb (View.read (Elt F) arg11.view (harg11.unread VS)) 0 5) from rfl).trans (by rw [m5_1, a5_1, s5_1]; rfl)

/-! ### Stream 2 -/

theorem m1_2 : (runB.sl.r_17 (F := F) c arg2 harg2 arg10 harg10 arg12 x0 KS) = (ST (F := F) c arg2 harg2 arg10 harg10 arg11 harg11 arg12 x0 KS VS 2 1 (by omega)).1 :=
  (show _ = k0_pay50 k0_pay29 (runB.sl.r_6 (F := F) c arg2 harg2 arg10 harg10 arg12 x0 KS) from rfl).trans (by rw [s0_2]; rfl)
theorem a1_2 : (runB.sl.r_18 (F := F) c arg2 harg2 arg10 harg10 arg11 harg11 arg12 x0 KS VS) = (ST (F := F) c arg2 harg2 arg10 harg10 arg11 harg11 arg12 x0 KS VS 2 1 (by omega)).2 :=
  (show _ = k0_pay51 k0_pay29 k0_pay30 (runB.sl.r_6 (F := F) c arg2 harg2 arg10 harg10 arg12 x0 KS) (vb (View.read (Elt F) arg11.view (harg11.unread VS)) 1 0) from rfl).trans (by rw [s0_2]; rfl)
theorem m2_2 : (runB.sl.r_49 (F := F) c arg2 harg2 arg10 harg10 arg12 x0 KS) = (ST (F := F) c arg2 harg2 arg10 harg10 arg11 harg11 arg12 x0 KS VS 2 2 (by omega)).1 :=
  (show _ = k0_pay50 (runB.sl.r_17 (F := F) c arg2 harg2 arg10 harg10 arg12 x0 KS) (runB.sl.r_37 (F := F) c arg2 harg2 arg10 harg10 arg12 x0 KS) from rfl).trans (by rw [m1_2, s1_2]; rfl)
theorem a2_2 : (runB.sl.r_50 (F := F) c arg2 harg2 arg10 harg10 arg11 harg11 arg12 x0 KS VS) = (ST (F := F) c arg2 harg2 arg10 harg10 arg11 harg11 arg12 x0 KS VS 2 2 (by omega)).2 :=
  (show _ = k0_pay51 (runB.sl.r_17 (F := F) c arg2 harg2 arg10 harg10 arg12 x0 KS) (runB.sl.r_18 (F := F) c arg2 harg2 arg10 harg10 arg11 harg11 arg12 x0 KS VS) (runB.sl.r_37 (F := F) c arg2 harg2 arg10 harg10 arg12 x0 KS) (vb (View.read (Elt F) arg11.view (harg11.unread VS)) 1 1) from rfl).trans (by rw [m1_2, a1_2, s1_2]; rfl)
theorem m3_2 : (runB.sl.r_84 (F := F) c arg2 harg2 arg10 harg10 arg12 x0 KS) = (ST (F := F) c arg2 harg2 arg10 harg10 arg11 harg11 arg12 x0 KS VS 2 3 (by omega)).1 :=
  (show _ = k0_pay50 (runB.sl.r_49 (F := F) c arg2 harg2 arg10 harg10 arg12 x0 KS) (runB.sl.r_72 (F := F) c arg2 harg2 arg10 harg10 arg12 x0 KS) from rfl).trans (by rw [m2_2, s2_2]; rfl)
theorem a3_2 : (runB.sl.r_85 (F := F) c arg2 harg2 arg10 harg10 arg11 harg11 arg12 x0 KS VS) = (ST (F := F) c arg2 harg2 arg10 harg10 arg11 harg11 arg12 x0 KS VS 2 3 (by omega)).2 :=
  (show _ = k0_pay51 (runB.sl.r_49 (F := F) c arg2 harg2 arg10 harg10 arg12 x0 KS) (runB.sl.r_50 (F := F) c arg2 harg2 arg10 harg10 arg11 harg11 arg12 x0 KS VS) (runB.sl.r_72 (F := F) c arg2 harg2 arg10 harg10 arg12 x0 KS) (vb (View.read (Elt F) arg11.view (harg11.unread VS)) 1 2) from rfl).trans (by rw [m2_2, a2_2, s2_2]; rfl)
theorem m4_2 : (runB.sl.r_119 (F := F) c arg2 harg2 arg10 harg10 arg12 x0 KS) = (ST (F := F) c arg2 harg2 arg10 harg10 arg11 harg11 arg12 x0 KS VS 2 4 (by omega)).1 :=
  (show _ = k0_pay50 (runB.sl.r_84 (F := F) c arg2 harg2 arg10 harg10 arg12 x0 KS) (runB.sl.r_108 (F := F) c arg2 harg2 arg10 harg10 arg12 x0 KS) from rfl).trans (by rw [m3_2, s3_2]; rfl)
theorem a4_2 : (runB.sl.r_120 (F := F) c arg2 harg2 arg10 harg10 arg11 harg11 arg12 x0 KS VS) = (ST (F := F) c arg2 harg2 arg10 harg10 arg11 harg11 arg12 x0 KS VS 2 4 (by omega)).2 :=
  (show _ = k0_pay51 (runB.sl.r_84 (F := F) c arg2 harg2 arg10 harg10 arg12 x0 KS) (runB.sl.r_85 (F := F) c arg2 harg2 arg10 harg10 arg11 harg11 arg12 x0 KS VS) (runB.sl.r_108 (F := F) c arg2 harg2 arg10 harg10 arg12 x0 KS) (vb (View.read (Elt F) arg11.view (harg11.unread VS)) 1 3) from rfl).trans (by rw [m3_2, a3_2, s3_2]; rfl)
theorem m5_2 : (runB.sl.r_153 (F := F) c arg2 harg2 arg10 harg10 arg12 x0 KS) = (ST (F := F) c arg2 harg2 arg10 harg10 arg11 harg11 arg12 x0 KS VS 2 5 (by omega)).1 :=
  (show _ = k0_pay50 (runB.sl.r_119 (F := F) c arg2 harg2 arg10 harg10 arg12 x0 KS) (runB.sl.r_143 (F := F) c arg2 harg2 arg10 harg10 arg12 x0 KS) from rfl).trans (by rw [m4_2, s4_2]; rfl)
theorem a5_2 : (runB.sl.r_157 (F := F) c arg2 harg2 arg10 harg10 arg11 harg11 arg12 x0 KS VS) = (ST (F := F) c arg2 harg2 arg10 harg10 arg11 harg11 arg12 x0 KS VS 2 5 (by omega)).2 :=
  (show _ = k0_pay51 (runB.sl.r_119 (F := F) c arg2 harg2 arg10 harg10 arg12 x0 KS) (runB.sl.r_120 (F := F) c arg2 harg2 arg10 harg10 arg11 harg11 arg12 x0 KS VS) (runB.sl.r_143 (F := F) c arg2 harg2 arg10 harg10 arg12 x0 KS) (vb (View.read (Elt F) arg11.view (harg11.unread VS)) 1 4) from rfl).trans (by rw [m4_2, a4_2, s4_2]; rfl)
theorem a6_2 : (runB.sl.r_187 (F := F) c arg2 harg2 arg10 harg10 arg11 harg11 arg12 x0 KS VS) = (ST (F := F) c arg2 harg2 arg10 harg10 arg11 harg11 arg12 x0 KS VS 2 6 (by omega)).2 :=
  (show _ = k0_pay51 (runB.sl.r_153 (F := F) c arg2 harg2 arg10 harg10 arg12 x0 KS) (runB.sl.r_157 (F := F) c arg2 harg2 arg10 harg10 arg11 harg11 arg12 x0 KS VS) (runB.sl.r_178 (F := F) c arg2 harg2 arg10 harg10 arg12 x0 KS) (vb (View.read (Elt F) arg11.view (harg11.unread VS)) 1 5) from rfl).trans (by rw [m5_2, a5_2, s5_2]; rfl)

/-! ### Stream 3 -/

theorem m1_3 : (runB.sl.r_21 (F := F) c arg2 harg2 arg10 harg10 arg12 x0 KS) = (ST (F := F) c arg2 harg2 arg10 harg10 arg11 harg11 arg12 x0 KS VS 3 1 (by omega)).1 :=
  (show _ = k0_pay50 k0_pay29 (runB.sl.r_7 (F := F) c arg2 harg2 arg10 harg10 arg12 x0 KS) from rfl).trans (by rw [s0_3]; rfl)
theorem a1_3 : (runB.sl.r_22 (F := F) c arg2 harg2 arg10 harg10 arg11 harg11 arg12 x0 KS VS) = (ST (F := F) c arg2 harg2 arg10 harg10 arg11 harg11 arg12 x0 KS VS 3 1 (by omega)).2 :=
  (show _ = k0_pay51 k0_pay29 k0_pay30 (runB.sl.r_7 (F := F) c arg2 harg2 arg10 harg10 arg12 x0 KS) (vb (View.read (Elt F) arg11.view (harg11.unread VS)) 1 0) from rfl).trans (by rw [s0_3]; rfl)
theorem m2_3 : (runB.sl.r_53 (F := F) c arg2 harg2 arg10 harg10 arg12 x0 KS) = (ST (F := F) c arg2 harg2 arg10 harg10 arg11 harg11 arg12 x0 KS VS 3 2 (by omega)).1 :=
  (show _ = k0_pay50 (runB.sl.r_21 (F := F) c arg2 harg2 arg10 harg10 arg12 x0 KS) (runB.sl.r_38 (F := F) c arg2 harg2 arg10 harg10 arg12 x0 KS) from rfl).trans (by rw [m1_3, s1_3]; rfl)
theorem a2_3 : (runB.sl.r_54 (F := F) c arg2 harg2 arg10 harg10 arg11 harg11 arg12 x0 KS VS) = (ST (F := F) c arg2 harg2 arg10 harg10 arg11 harg11 arg12 x0 KS VS 3 2 (by omega)).2 :=
  (show _ = k0_pay51 (runB.sl.r_21 (F := F) c arg2 harg2 arg10 harg10 arg12 x0 KS) (runB.sl.r_22 (F := F) c arg2 harg2 arg10 harg10 arg11 harg11 arg12 x0 KS VS) (runB.sl.r_38 (F := F) c arg2 harg2 arg10 harg10 arg12 x0 KS) (vb (View.read (Elt F) arg11.view (harg11.unread VS)) 1 1) from rfl).trans (by rw [m1_3, a1_3, s1_3]; rfl)
theorem m3_3 : (runB.sl.r_87 (F := F) c arg2 harg2 arg10 harg10 arg12 x0 KS) = (ST (F := F) c arg2 harg2 arg10 harg10 arg11 harg11 arg12 x0 KS VS 3 3 (by omega)).1 :=
  (show _ = k0_pay50 (runB.sl.r_53 (F := F) c arg2 harg2 arg10 harg10 arg12 x0 KS) (runB.sl.r_73 (F := F) c arg2 harg2 arg10 harg10 arg12 x0 KS) from rfl).trans (by rw [m2_3, s2_3]; rfl)
theorem a3_3 : (runB.sl.r_91 (F := F) c arg2 harg2 arg10 harg10 arg11 harg11 arg12 x0 KS VS) = (ST (F := F) c arg2 harg2 arg10 harg10 arg11 harg11 arg12 x0 KS VS 3 3 (by omega)).2 :=
  (show _ = k0_pay51 (runB.sl.r_53 (F := F) c arg2 harg2 arg10 harg10 arg12 x0 KS) (runB.sl.r_54 (F := F) c arg2 harg2 arg10 harg10 arg11 harg11 arg12 x0 KS VS) (runB.sl.r_73 (F := F) c arg2 harg2 arg10 harg10 arg12 x0 KS) (vb (View.read (Elt F) arg11.view (harg11.unread VS)) 1 2) from rfl).trans (by rw [m2_3, a2_3, s2_3]; rfl)
theorem m4_3 : (runB.sl.r_124 (F := F) c arg2 harg2 arg10 harg10 arg12 x0 KS) = (ST (F := F) c arg2 harg2 arg10 harg10 arg11 harg11 arg12 x0 KS VS 3 4 (by omega)).1 :=
  (show _ = k0_pay50 (runB.sl.r_87 (F := F) c arg2 harg2 arg10 harg10 arg12 x0 KS) (runB.sl.r_109 (F := F) c arg2 harg2 arg10 harg10 arg12 x0 KS) from rfl).trans (by rw [m3_3, s3_3]; rfl)
theorem a4_3 : (runB.sl.r_125 (F := F) c arg2 harg2 arg10 harg10 arg11 harg11 arg12 x0 KS VS) = (ST (F := F) c arg2 harg2 arg10 harg10 arg11 harg11 arg12 x0 KS VS 3 4 (by omega)).2 :=
  (show _ = k0_pay51 (runB.sl.r_87 (F := F) c arg2 harg2 arg10 harg10 arg12 x0 KS) (runB.sl.r_91 (F := F) c arg2 harg2 arg10 harg10 arg11 harg11 arg12 x0 KS VS) (runB.sl.r_109 (F := F) c arg2 harg2 arg10 harg10 arg12 x0 KS) (vb (View.read (Elt F) arg11.view (harg11.unread VS)) 1 3) from rfl).trans (by rw [m3_3, a3_3, s3_3]; rfl)
theorem m5_3 : (runB.sl.r_159 (F := F) c arg2 harg2 arg10 harg10 arg12 x0 KS) = (ST (F := F) c arg2 harg2 arg10 harg10 arg11 harg11 arg12 x0 KS VS 3 5 (by omega)).1 :=
  (show _ = k0_pay50 (runB.sl.r_124 (F := F) c arg2 harg2 arg10 harg10 arg12 x0 KS) (runB.sl.r_144 (F := F) c arg2 harg2 arg10 harg10 arg12 x0 KS) from rfl).trans (by rw [m4_3, s4_3]; rfl)
theorem a5_3 : (runB.sl.r_160 (F := F) c arg2 harg2 arg10 harg10 arg11 harg11 arg12 x0 KS VS) = (ST (F := F) c arg2 harg2 arg10 harg10 arg11 harg11 arg12 x0 KS VS 3 5 (by omega)).2 :=
  (show _ = k0_pay51 (runB.sl.r_124 (F := F) c arg2 harg2 arg10 harg10 arg12 x0 KS) (runB.sl.r_125 (F := F) c arg2 harg2 arg10 harg10 arg11 harg11 arg12 x0 KS VS) (runB.sl.r_144 (F := F) c arg2 harg2 arg10 harg10 arg12 x0 KS) (vb (View.read (Elt F) arg11.view (harg11.unread VS)) 1 4) from rfl).trans (by rw [m4_3, a4_3, s4_3]; rfl)
theorem m6_3 : (runB.sl.r_189 (F := F) c arg2 harg2 arg10 harg10 arg12 x0 KS) = (ST (F := F) c arg2 harg2 arg10 harg10 arg11 harg11 arg12 x0 KS VS 3 6 (by omega)).1 :=
  (show _ = k0_pay50 (runB.sl.r_159 (F := F) c arg2 harg2 arg10 harg10 arg12 x0 KS) (runB.sl.r_179 (F := F) c arg2 harg2 arg10 harg10 arg12 x0 KS) from rfl).trans (by rw [m5_3, s5_3]; rfl)
theorem a6_3 : (runB.sl.r_191 (F := F) c arg2 harg2 arg10 harg10 arg11 harg11 arg12 x0 KS VS) = (ST (F := F) c arg2 harg2 arg10 harg10 arg11 harg11 arg12 x0 KS VS 3 6 (by omega)).2 :=
  (show _ = k0_pay51 (runB.sl.r_159 (F := F) c arg2 harg2 arg10 harg10 arg12 x0 KS) (runB.sl.r_160 (F := F) c arg2 harg2 arg10 harg10 arg11 harg11 arg12 x0 KS VS) (runB.sl.r_179 (F := F) c arg2 harg2 arg10 harg10 arg12 x0 KS) (vb (View.read (Elt F) arg11.view (harg11.unread VS)) 1 5) from rfl).trans (by rw [m5_3, a5_3, s5_3]; rfl)

/-! ### Stream 4 -/

theorem m1_4 : (runB.sl.r_23 (F := F) c arg2 harg2 arg10 harg10 arg12 x0 KS) = (ST (F := F) c arg2 harg2 arg10 harg10 arg11 harg11 arg12 x0 KS VS 4 1 (by omega)).1 :=
  (show _ = k0_pay50 k0_pay29 (runB.sl.r_8 (F := F) c arg2 harg2 arg10 harg10 arg12 x0 KS) from rfl).trans (by rw [s0_4]; rfl)
theorem a1_4 : (runB.sl.r_24 (F := F) c arg2 harg2 arg10 harg10 arg11 harg11 arg12 x0 KS VS) = (ST (F := F) c arg2 harg2 arg10 harg10 arg11 harg11 arg12 x0 KS VS 4 1 (by omega)).2 :=
  (show _ = k0_pay51 k0_pay29 k0_pay30 (runB.sl.r_8 (F := F) c arg2 harg2 arg10 harg10 arg12 x0 KS) (vb (View.read (Elt F) arg11.view (harg11.unread VS)) 2 0) from rfl).trans (by rw [s0_4]; rfl)
theorem m2_4 : (runB.sl.r_57 (F := F) c arg2 harg2 arg10 harg10 arg12 x0 KS) = (ST (F := F) c arg2 harg2 arg10 harg10 arg11 harg11 arg12 x0 KS VS 4 2 (by omega)).1 :=
  (show _ = k0_pay50 (runB.sl.r_23 (F := F) c arg2 harg2 arg10 harg10 arg12 x0 KS) (runB.sl.r_39 (F := F) c arg2 harg2 arg10 harg10 arg12 x0 KS) from rfl).trans (by rw [m1_4, s1_4]; rfl)
theorem a2_4 : (runB.sl.r_58 (F := F) c arg2 harg2 arg10 harg10 arg11 harg11 arg12 x0 KS VS) = (ST (F := F) c arg2 harg2 arg10 harg10 arg11 harg11 arg12 x0 KS VS 4 2 (by omega)).2 :=
  (show _ = k0_pay51 (runB.sl.r_23 (F := F) c arg2 harg2 arg10 harg10 arg12 x0 KS) (runB.sl.r_24 (F := F) c arg2 harg2 arg10 harg10 arg11 harg11 arg12 x0 KS VS) (runB.sl.r_39 (F := F) c arg2 harg2 arg10 harg10 arg12 x0 KS) (vb (View.read (Elt F) arg11.view (harg11.unread VS)) 2 1) from rfl).trans (by rw [m1_4, a1_4, s1_4]; rfl)
theorem m3_4 : (runB.sl.r_92 (F := F) c arg2 harg2 arg10 harg10 arg12 x0 KS) = (ST (F := F) c arg2 harg2 arg10 harg10 arg11 harg11 arg12 x0 KS VS 4 3 (by omega)).1 :=
  (show _ = k0_pay50 (runB.sl.r_57 (F := F) c arg2 harg2 arg10 harg10 arg12 x0 KS) (runB.sl.r_74 (F := F) c arg2 harg2 arg10 harg10 arg12 x0 KS) from rfl).trans (by rw [m2_4, s2_4]; rfl)
theorem a3_4 : (runB.sl.r_93 (F := F) c arg2 harg2 arg10 harg10 arg11 harg11 arg12 x0 KS VS) = (ST (F := F) c arg2 harg2 arg10 harg10 arg11 harg11 arg12 x0 KS VS 4 3 (by omega)).2 :=
  (show _ = k0_pay51 (runB.sl.r_57 (F := F) c arg2 harg2 arg10 harg10 arg12 x0 KS) (runB.sl.r_58 (F := F) c arg2 harg2 arg10 harg10 arg11 harg11 arg12 x0 KS VS) (runB.sl.r_74 (F := F) c arg2 harg2 arg10 harg10 arg12 x0 KS) (vb (View.read (Elt F) arg11.view (harg11.unread VS)) 2 2) from rfl).trans (by rw [m2_4, a2_4, s2_4]; rfl)
theorem m4_4 : (runB.sl.r_126 (F := F) c arg2 harg2 arg10 harg10 arg12 x0 KS) = (ST (F := F) c arg2 harg2 arg10 harg10 arg11 harg11 arg12 x0 KS VS 4 4 (by omega)).1 :=
  (show _ = k0_pay50 (runB.sl.r_92 (F := F) c arg2 harg2 arg10 harg10 arg12 x0 KS) (runB.sl.r_110 (F := F) c arg2 harg2 arg10 harg10 arg12 x0 KS) from rfl).trans (by rw [m3_4, s3_4]; rfl)
theorem a4_4 : (runB.sl.r_129 (F := F) c arg2 harg2 arg10 harg10 arg11 harg11 arg12 x0 KS VS) = (ST (F := F) c arg2 harg2 arg10 harg10 arg11 harg11 arg12 x0 KS VS 4 4 (by omega)).2 :=
  (show _ = k0_pay51 (runB.sl.r_92 (F := F) c arg2 harg2 arg10 harg10 arg12 x0 KS) (runB.sl.r_93 (F := F) c arg2 harg2 arg10 harg10 arg11 harg11 arg12 x0 KS VS) (runB.sl.r_110 (F := F) c arg2 harg2 arg10 harg10 arg12 x0 KS) (vb (View.read (Elt F) arg11.view (harg11.unread VS)) 2 3) from rfl).trans (by rw [m3_4, a3_4, s3_4]; rfl)
theorem m5_4 : (runB.sl.r_163 (F := F) c arg2 harg2 arg10 harg10 arg12 x0 KS) = (ST (F := F) c arg2 harg2 arg10 harg10 arg11 harg11 arg12 x0 KS VS 4 5 (by omega)).1 :=
  (show _ = k0_pay50 (runB.sl.r_126 (F := F) c arg2 harg2 arg10 harg10 arg12 x0 KS) (runB.sl.r_145 (F := F) c arg2 harg2 arg10 harg10 arg12 x0 KS) from rfl).trans (by rw [m4_4, s4_4]; rfl)
theorem a5_4 : (runB.sl.r_164 (F := F) c arg2 harg2 arg10 harg10 arg11 harg11 arg12 x0 KS VS) = (ST (F := F) c arg2 harg2 arg10 harg10 arg11 harg11 arg12 x0 KS VS 4 5 (by omega)).2 :=
  (show _ = k0_pay51 (runB.sl.r_126 (F := F) c arg2 harg2 arg10 harg10 arg12 x0 KS) (runB.sl.r_129 (F := F) c arg2 harg2 arg10 harg10 arg11 harg11 arg12 x0 KS VS) (runB.sl.r_145 (F := F) c arg2 harg2 arg10 harg10 arg12 x0 KS) (vb (View.read (Elt F) arg11.view (harg11.unread VS)) 2 4) from rfl).trans (by rw [m4_4, a4_4, s4_4]; rfl)
theorem a6_4 : (runB.sl.r_192 (F := F) c arg2 harg2 arg10 harg10 arg11 harg11 arg12 x0 KS VS) = (ST (F := F) c arg2 harg2 arg10 harg10 arg11 harg11 arg12 x0 KS VS 4 6 (by omega)).2 :=
  (show _ = k0_pay51 (runB.sl.r_163 (F := F) c arg2 harg2 arg10 harg10 arg12 x0 KS) (runB.sl.r_164 (F := F) c arg2 harg2 arg10 harg10 arg11 harg11 arg12 x0 KS VS) (runB.sl.r_180 (F := F) c arg2 harg2 arg10 harg10 arg12 x0 KS) (vb (View.read (Elt F) arg11.view (harg11.unread VS)) 2 5) from rfl).trans (by rw [m5_4, a5_4, s5_4]; rfl)

/-! ### Stream 5 -/

theorem m1_5 : (runB.sl.r_27 (F := F) c arg2 harg2 arg10 harg10 arg12 x0 KS) = (ST (F := F) c arg2 harg2 arg10 harg10 arg11 harg11 arg12 x0 KS VS 5 1 (by omega)).1 :=
  (show _ = k0_pay50 k0_pay29 (runB.sl.r_11 (F := F) c arg2 harg2 arg10 harg10 arg12 x0 KS) from rfl).trans (by rw [s0_5]; rfl)
theorem a1_5 : (runB.sl.r_28 (F := F) c arg2 harg2 arg10 harg10 arg11 harg11 arg12 x0 KS VS) = (ST (F := F) c arg2 harg2 arg10 harg10 arg11 harg11 arg12 x0 KS VS 5 1 (by omega)).2 :=
  (show _ = k0_pay51 k0_pay29 k0_pay30 (runB.sl.r_11 (F := F) c arg2 harg2 arg10 harg10 arg12 x0 KS) (vb (View.read (Elt F) arg11.view (harg11.unread VS)) 2 0) from rfl).trans (by rw [s0_5]; rfl)
theorem m2_5 : (runB.sl.r_59 (F := F) c arg2 harg2 arg10 harg10 arg12 x0 KS) = (ST (F := F) c arg2 harg2 arg10 harg10 arg11 harg11 arg12 x0 KS VS 5 2 (by omega)).1 :=
  (show _ = k0_pay50 (runB.sl.r_27 (F := F) c arg2 harg2 arg10 harg10 arg12 x0 KS) (runB.sl.r_43 (F := F) c arg2 harg2 arg10 harg10 arg12 x0 KS) from rfl).trans (by rw [m1_5, s1_5]; rfl)
theorem a2_5 : (runB.sl.r_62 (F := F) c arg2 harg2 arg10 harg10 arg11 harg11 arg12 x0 KS VS) = (ST (F := F) c arg2 harg2 arg10 harg10 arg11 harg11 arg12 x0 KS VS 5 2 (by omega)).2 :=
  (show _ = k0_pay51 (runB.sl.r_27 (F := F) c arg2 harg2 arg10 harg10 arg12 x0 KS) (runB.sl.r_28 (F := F) c arg2 harg2 arg10 harg10 arg11 harg11 arg12 x0 KS VS) (runB.sl.r_43 (F := F) c arg2 harg2 arg10 harg10 arg12 x0 KS) (vb (View.read (Elt F) arg11.view (harg11.unread VS)) 2 1) from rfl).trans (by rw [m1_5, a1_5, s1_5]; rfl)
theorem m3_5 : (runB.sl.r_96 (F := F) c arg2 harg2 arg10 harg10 arg12 x0 KS) = (ST (F := F) c arg2 harg2 arg10 harg10 arg11 harg11 arg12 x0 KS VS 5 3 (by omega)).1 :=
  (show _ = k0_pay50 (runB.sl.r_59 (F := F) c arg2 harg2 arg10 harg10 arg12 x0 KS) (runB.sl.r_77 (F := F) c arg2 harg2 arg10 harg10 arg12 x0 KS) from rfl).trans (by rw [m2_5, s2_5]; rfl)
theorem a3_5 : (runB.sl.r_97 (F := F) c arg2 harg2 arg10 harg10 arg11 harg11 arg12 x0 KS VS) = (ST (F := F) c arg2 harg2 arg10 harg10 arg11 harg11 arg12 x0 KS VS 5 3 (by omega)).2 :=
  (show _ = k0_pay51 (runB.sl.r_59 (F := F) c arg2 harg2 arg10 harg10 arg12 x0 KS) (runB.sl.r_62 (F := F) c arg2 harg2 arg10 harg10 arg11 harg11 arg12 x0 KS VS) (runB.sl.r_77 (F := F) c arg2 harg2 arg10 harg10 arg12 x0 KS) (vb (View.read (Elt F) arg11.view (harg11.unread VS)) 2 2) from rfl).trans (by rw [m2_5, a2_5, s2_5]; rfl)
theorem m4_5 : (runB.sl.r_130 (F := F) c arg2 harg2 arg10 harg10 arg12 x0 KS) = (ST (F := F) c arg2 harg2 arg10 harg10 arg11 harg11 arg12 x0 KS VS 5 4 (by omega)).1 :=
  (show _ = k0_pay50 (runB.sl.r_96 (F := F) c arg2 harg2 arg10 harg10 arg12 x0 KS) (runB.sl.r_115 (F := F) c arg2 harg2 arg10 harg10 arg12 x0 KS) from rfl).trans (by rw [m3_5, s3_5]; rfl)
theorem a4_5 : (runB.sl.r_131 (F := F) c arg2 harg2 arg10 harg10 arg11 harg11 arg12 x0 KS VS) = (ST (F := F) c arg2 harg2 arg10 harg10 arg11 harg11 arg12 x0 KS VS 5 4 (by omega)).2 :=
  (show _ = k0_pay51 (runB.sl.r_96 (F := F) c arg2 harg2 arg10 harg10 arg12 x0 KS) (runB.sl.r_97 (F := F) c arg2 harg2 arg10 harg10 arg11 harg11 arg12 x0 KS VS) (runB.sl.r_115 (F := F) c arg2 harg2 arg10 harg10 arg12 x0 KS) (vb (View.read (Elt F) arg11.view (harg11.unread VS)) 2 3) from rfl).trans (by rw [m3_5, a3_5, s3_5]; rfl)
theorem m5_5 : (runB.sl.r_165 (F := F) c arg2 harg2 arg10 harg10 arg12 x0 KS) = (ST (F := F) c arg2 harg2 arg10 harg10 arg11 harg11 arg12 x0 KS VS 5 5 (by omega)).1 :=
  (show _ = k0_pay50 (runB.sl.r_130 (F := F) c arg2 harg2 arg10 harg10 arg12 x0 KS) (runB.sl.r_149 (F := F) c arg2 harg2 arg10 harg10 arg12 x0 KS) from rfl).trans (by rw [m4_5, s4_5]; rfl)
theorem a5_5 : (runB.sl.r_168 (F := F) c arg2 harg2 arg10 harg10 arg11 harg11 arg12 x0 KS VS) = (ST (F := F) c arg2 harg2 arg10 harg10 arg11 harg11 arg12 x0 KS VS 5 5 (by omega)).2 :=
  (show _ = k0_pay51 (runB.sl.r_130 (F := F) c arg2 harg2 arg10 harg10 arg12 x0 KS) (runB.sl.r_131 (F := F) c arg2 harg2 arg10 harg10 arg11 harg11 arg12 x0 KS VS) (runB.sl.r_149 (F := F) c arg2 harg2 arg10 harg10 arg12 x0 KS) (vb (View.read (Elt F) arg11.view (harg11.unread VS)) 2 4) from rfl).trans (by rw [m4_5, a4_5, s4_5]; rfl)
theorem a6_5 : (runB.sl.r_195 (F := F) c arg2 harg2 arg10 harg10 arg11 harg11 arg12 x0 KS VS) = (ST (F := F) c arg2 harg2 arg10 harg10 arg11 harg11 arg12 x0 KS VS 5 6 (by omega)).2 :=
  (show _ = k0_pay51 (runB.sl.r_165 (F := F) c arg2 harg2 arg10 harg10 arg12 x0 KS) (runB.sl.r_168 (F := F) c arg2 harg2 arg10 harg10 arg11 harg11 arg12 x0 KS VS) (runB.sl.r_182 (F := F) c arg2 harg2 arg10 harg10 arg12 x0 KS) (vb (View.read (Elt F) arg11.view (harg11.unread VS)) 2 5) from rfl).trans (by rw [m5_5, a5_5, s5_5]; rfl)

/-! ### Stream 6 -/

theorem m1_6 : (runB.sl.r_30 (F := F) c arg2 harg2 arg10 harg10 arg12 x0 KS) = (ST (F := F) c arg2 harg2 arg10 harg10 arg11 harg11 arg12 x0 KS VS 6 1 (by omega)).1 :=
  (show _ = k0_pay50 k0_pay29 (runB.sl.r_14 (F := F) c arg2 harg2 arg10 harg10 arg12 x0 KS) from rfl).trans (by rw [s0_6]; rfl)
theorem a1_6 : (runB.sl.r_31 (F := F) c arg2 harg2 arg10 harg10 arg11 harg11 arg12 x0 KS VS) = (ST (F := F) c arg2 harg2 arg10 harg10 arg11 harg11 arg12 x0 KS VS 6 1 (by omega)).2 :=
  (show _ = k0_pay51 k0_pay29 k0_pay30 (runB.sl.r_14 (F := F) c arg2 harg2 arg10 harg10 arg12 x0 KS) (vb (View.read (Elt F) arg11.view (harg11.unread VS)) 3 0) from rfl).trans (by rw [s0_6]; rfl)
theorem m2_6 : (runB.sl.r_63 (F := F) c arg2 harg2 arg10 harg10 arg12 x0 KS) = (ST (F := F) c arg2 harg2 arg10 harg10 arg11 harg11 arg12 x0 KS VS 6 2 (by omega)).1 :=
  (show _ = k0_pay50 (runB.sl.r_30 (F := F) c arg2 harg2 arg10 harg10 arg12 x0 KS) (runB.sl.r_48 (F := F) c arg2 harg2 arg10 harg10 arg12 x0 KS) from rfl).trans (by rw [m1_6, s1_6]; rfl)
theorem a2_6 : (runB.sl.r_64 (F := F) c arg2 harg2 arg10 harg10 arg11 harg11 arg12 x0 KS VS) = (ST (F := F) c arg2 harg2 arg10 harg10 arg11 harg11 arg12 x0 KS VS 6 2 (by omega)).2 :=
  (show _ = k0_pay51 (runB.sl.r_30 (F := F) c arg2 harg2 arg10 harg10 arg12 x0 KS) (runB.sl.r_31 (F := F) c arg2 harg2 arg10 harg10 arg11 harg11 arg12 x0 KS VS) (runB.sl.r_48 (F := F) c arg2 harg2 arg10 harg10 arg12 x0 KS) (vb (View.read (Elt F) arg11.view (harg11.unread VS)) 3 1) from rfl).trans (by rw [m1_6, a1_6, s1_6]; rfl)
theorem m3_6 : (runB.sl.r_98 (F := F) c arg2 harg2 arg10 harg10 arg12 x0 KS) = (ST (F := F) c arg2 harg2 arg10 harg10 arg11 harg11 arg12 x0 KS VS 6 3 (by omega)).1 :=
  (show _ = k0_pay50 (runB.sl.r_63 (F := F) c arg2 harg2 arg10 harg10 arg12 x0 KS) (runB.sl.r_82 (F := F) c arg2 harg2 arg10 harg10 arg12 x0 KS) from rfl).trans (by rw [m2_6, s2_6]; rfl)
theorem a3_6 : (runB.sl.r_102 (F := F) c arg2 harg2 arg10 harg10 arg11 harg11 arg12 x0 KS VS) = (ST (F := F) c arg2 harg2 arg10 harg10 arg11 harg11 arg12 x0 KS VS 6 3 (by omega)).2 :=
  (show _ = k0_pay51 (runB.sl.r_63 (F := F) c arg2 harg2 arg10 harg10 arg12 x0 KS) (runB.sl.r_64 (F := F) c arg2 harg2 arg10 harg10 arg11 harg11 arg12 x0 KS VS) (runB.sl.r_82 (F := F) c arg2 harg2 arg10 harg10 arg12 x0 KS) (vb (View.read (Elt F) arg11.view (harg11.unread VS)) 3 2) from rfl).trans (by rw [m2_6, a2_6, s2_6]; rfl)
theorem m4_6 : (runB.sl.r_134 (F := F) c arg2 harg2 arg10 harg10 arg12 x0 KS) = (ST (F := F) c arg2 harg2 arg10 harg10 arg11 harg11 arg12 x0 KS VS 6 4 (by omega)).1 :=
  (show _ = k0_pay50 (runB.sl.r_98 (F := F) c arg2 harg2 arg10 harg10 arg12 x0 KS) (runB.sl.r_118 (F := F) c arg2 harg2 arg10 harg10 arg12 x0 KS) from rfl).trans (by rw [m3_6, s3_6]; rfl)
theorem a4_6 : (runB.sl.r_135 (F := F) c arg2 harg2 arg10 harg10 arg11 harg11 arg12 x0 KS VS) = (ST (F := F) c arg2 harg2 arg10 harg10 arg11 harg11 arg12 x0 KS VS 6 4 (by omega)).2 :=
  (show _ = k0_pay51 (runB.sl.r_98 (F := F) c arg2 harg2 arg10 harg10 arg12 x0 KS) (runB.sl.r_102 (F := F) c arg2 harg2 arg10 harg10 arg11 harg11 arg12 x0 KS VS) (runB.sl.r_118 (F := F) c arg2 harg2 arg10 harg10 arg12 x0 KS) (vb (View.read (Elt F) arg11.view (harg11.unread VS)) 3 3) from rfl).trans (by rw [m3_6, a3_6, s3_6]; rfl)
theorem m5_6 : (runB.sl.r_169 (F := F) c arg2 harg2 arg10 harg10 arg12 x0 KS) = (ST (F := F) c arg2 harg2 arg10 harg10 arg11 harg11 arg12 x0 KS VS 6 5 (by omega)).1 :=
  (show _ = k0_pay50 (runB.sl.r_134 (F := F) c arg2 harg2 arg10 harg10 arg12 x0 KS) (runB.sl.r_152 (F := F) c arg2 harg2 arg10 harg10 arg12 x0 KS) from rfl).trans (by rw [m4_6, s4_6]; rfl)
theorem a5_6 : (runB.sl.r_170 (F := F) c arg2 harg2 arg10 harg10 arg11 harg11 arg12 x0 KS VS) = (ST (F := F) c arg2 harg2 arg10 harg10 arg11 harg11 arg12 x0 KS VS 6 5 (by omega)).2 :=
  (show _ = k0_pay51 (runB.sl.r_134 (F := F) c arg2 harg2 arg10 harg10 arg12 x0 KS) (runB.sl.r_135 (F := F) c arg2 harg2 arg10 harg10 arg11 harg11 arg12 x0 KS VS) (runB.sl.r_152 (F := F) c arg2 harg2 arg10 harg10 arg12 x0 KS) (vb (View.read (Elt F) arg11.view (harg11.unread VS)) 3 4) from rfl).trans (by rw [m4_6, a4_6, s4_6]; rfl)
theorem m6_6 : (runB.sl.r_196 (F := F) c arg2 harg2 arg10 harg10 arg12 x0 KS) = (ST (F := F) c arg2 harg2 arg10 harg10 arg11 harg11 arg12 x0 KS VS 6 6 (by omega)).1 :=
  (show _ = k0_pay50 (runB.sl.r_169 (F := F) c arg2 harg2 arg10 harg10 arg12 x0 KS) (runB.sl.r_185 (F := F) c arg2 harg2 arg10 harg10 arg12 x0 KS) from rfl).trans (by rw [m5_6, s5_6]; rfl)
theorem a6_6 : (runB.sl.r_198 (F := F) c arg2 harg2 arg10 harg10 arg11 harg11 arg12 x0 KS VS) = (ST (F := F) c arg2 harg2 arg10 harg10 arg11 harg11 arg12 x0 KS VS 6 6 (by omega)).2 :=
  (show _ = k0_pay51 (runB.sl.r_169 (F := F) c arg2 harg2 arg10 harg10 arg12 x0 KS) (runB.sl.r_170 (F := F) c arg2 harg2 arg10 harg10 arg11 harg11 arg12 x0 KS VS) (runB.sl.r_185 (F := F) c arg2 harg2 arg10 harg10 arg12 x0 KS) (vb (View.read (Elt F) arg11.view (harg11.unread VS)) 3 5) from rfl).trans (by rw [m5_6, a5_6, s5_6]; rfl)

/-! ### Stream 7 -/

theorem m1_7 : (runB.sl.r_32 (F := F) c arg2 harg2 arg10 harg10 arg12 x0 KS) = (ST (F := F) c arg2 harg2 arg10 harg10 arg11 harg11 arg12 x0 KS VS 7 1 (by omega)).1 :=
  (show _ = k0_pay50 k0_pay29 (runB.sl.r_19 (F := F) c arg2 harg2 arg10 harg10 arg12 x0 KS) from rfl).trans (by rw [s0_7]; rfl)
theorem a1_7 : (runB.sl.r_33 (F := F) c arg2 harg2 arg10 harg10 arg11 harg11 arg12 x0 KS VS) = (ST (F := F) c arg2 harg2 arg10 harg10 arg11 harg11 arg12 x0 KS VS 7 1 (by omega)).2 :=
  (show _ = k0_pay51 k0_pay29 k0_pay30 (runB.sl.r_19 (F := F) c arg2 harg2 arg10 harg10 arg12 x0 KS) (vb (View.read (Elt F) arg11.view (harg11.unread VS)) 3 0) from rfl).trans (by rw [s0_7]; rfl)
theorem m2_7 : (runB.sl.r_67 (F := F) c arg2 harg2 arg10 harg10 arg12 x0 KS) = (ST (F := F) c arg2 harg2 arg10 harg10 arg11 harg11 arg12 x0 KS VS 7 2 (by omega)).1 :=
  (show _ = k0_pay50 (runB.sl.r_32 (F := F) c arg2 harg2 arg10 harg10 arg12 x0 KS) (runB.sl.r_52 (F := F) c arg2 harg2 arg10 harg10 arg12 x0 KS) from rfl).trans (by rw [m1_7, s1_7]; rfl)
theorem a2_7 : (runB.sl.r_68 (F := F) c arg2 harg2 arg10 harg10 arg11 harg11 arg12 x0 KS VS) = (ST (F := F) c arg2 harg2 arg10 harg10 arg11 harg11 arg12 x0 KS VS 7 2 (by omega)).2 :=
  (show _ = k0_pay51 (runB.sl.r_32 (F := F) c arg2 harg2 arg10 harg10 arg12 x0 KS) (runB.sl.r_33 (F := F) c arg2 harg2 arg10 harg10 arg11 harg11 arg12 x0 KS VS) (runB.sl.r_52 (F := F) c arg2 harg2 arg10 harg10 arg12 x0 KS) (vb (View.read (Elt F) arg11.view (harg11.unread VS)) 3 1) from rfl).trans (by rw [m1_7, a1_7, s1_7]; rfl)
theorem m3_7 : (runB.sl.r_103 (F := F) c arg2 harg2 arg10 harg10 arg12 x0 KS) = (ST (F := F) c arg2 harg2 arg10 harg10 arg11 harg11 arg12 x0 KS VS 7 3 (by omega)).1 :=
  (show _ = k0_pay50 (runB.sl.r_67 (F := F) c arg2 harg2 arg10 harg10 arg12 x0 KS) (runB.sl.r_86 (F := F) c arg2 harg2 arg10 harg10 arg12 x0 KS) from rfl).trans (by rw [m2_7, s2_7]; rfl)
theorem a3_7 : (runB.sl.r_104 (F := F) c arg2 harg2 arg10 harg10 arg11 harg11 arg12 x0 KS VS) = (ST (F := F) c arg2 harg2 arg10 harg10 arg11 harg11 arg12 x0 KS VS 7 3 (by omega)).2 :=
  (show _ = k0_pay51 (runB.sl.r_67 (F := F) c arg2 harg2 arg10 harg10 arg12 x0 KS) (runB.sl.r_68 (F := F) c arg2 harg2 arg10 harg10 arg11 harg11 arg12 x0 KS VS) (runB.sl.r_86 (F := F) c arg2 harg2 arg10 harg10 arg12 x0 KS) (vb (View.read (Elt F) arg11.view (harg11.unread VS)) 3 2) from rfl).trans (by rw [m2_7, a2_7, s2_7]; rfl)
theorem m4_7 : (runB.sl.r_136 (F := F) c arg2 harg2 arg10 harg10 arg12 x0 KS) = (ST (F := F) c arg2 harg2 arg10 harg10 arg11 harg11 arg12 x0 KS VS 7 4 (by omega)).1 :=
  (show _ = k0_pay50 (runB.sl.r_103 (F := F) c arg2 harg2 arg10 harg10 arg12 x0 KS) (runB.sl.r_121 (F := F) c arg2 harg2 arg10 harg10 arg12 x0 KS) from rfl).trans (by rw [m3_7, s3_7]; rfl)
theorem a4_7 : (runB.sl.r_139 (F := F) c arg2 harg2 arg10 harg10 arg11 harg11 arg12 x0 KS VS) = (ST (F := F) c arg2 harg2 arg10 harg10 arg11 harg11 arg12 x0 KS VS 7 4 (by omega)).2 :=
  (show _ = k0_pay51 (runB.sl.r_103 (F := F) c arg2 harg2 arg10 harg10 arg12 x0 KS) (runB.sl.r_104 (F := F) c arg2 harg2 arg10 harg10 arg11 harg11 arg12 x0 KS VS) (runB.sl.r_121 (F := F) c arg2 harg2 arg10 harg10 arg12 x0 KS) (vb (View.read (Elt F) arg11.view (harg11.unread VS)) 3 3) from rfl).trans (by rw [m3_7, a3_7, s3_7]; rfl)
theorem m5_7 : (runB.sl.r_173 (F := F) c arg2 harg2 arg10 harg10 arg12 x0 KS) = (ST (F := F) c arg2 harg2 arg10 harg10 arg11 harg11 arg12 x0 KS VS 7 5 (by omega)).1 :=
  (show _ = k0_pay50 (runB.sl.r_136 (F := F) c arg2 harg2 arg10 harg10 arg12 x0 KS) (runB.sl.r_158 (F := F) c arg2 harg2 arg10 harg10 arg12 x0 KS) from rfl).trans (by rw [m4_7, s4_7]; rfl)
theorem a5_7 : (runB.sl.r_174 (F := F) c arg2 harg2 arg10 harg10 arg11 harg11 arg12 x0 KS VS) = (ST (F := F) c arg2 harg2 arg10 harg10 arg11 harg11 arg12 x0 KS VS 7 5 (by omega)).2 :=
  (show _ = k0_pay51 (runB.sl.r_136 (F := F) c arg2 harg2 arg10 harg10 arg12 x0 KS) (runB.sl.r_139 (F := F) c arg2 harg2 arg10 harg10 arg11 harg11 arg12 x0 KS VS) (runB.sl.r_158 (F := F) c arg2 harg2 arg10 harg10 arg12 x0 KS) (vb (View.read (Elt F) arg11.view (harg11.unread VS)) 3 4) from rfl).trans (by rw [m4_7, a4_7, s4_7]; rfl)
theorem a6_7 : (runB.sl.r_199 (F := F) c arg2 harg2 arg10 harg10 arg11 harg11 arg12 x0 KS VS) = (ST (F := F) c arg2 harg2 arg10 harg10 arg11 harg11 arg12 x0 KS VS 7 6 (by omega)).2 :=
  (show _ = k0_pay51 (runB.sl.r_173 (F := F) c arg2 harg2 arg10 harg10 arg12 x0 KS) (runB.sl.r_174 (F := F) c arg2 harg2 arg10 harg10 arg11 harg11 arg12 x0 KS VS) (runB.sl.r_188 (F := F) c arg2 harg2 arg10 harg10 arg12 x0 KS) (vb (View.read (Elt F) arg11.view (harg11.unread VS)) 3 5) from rfl).trans (by rw [m5_7, a5_7, s5_7]; rfl)

/-! ### The block -/

theorem block_eq : k0_pay1 (runB.sl.r_208 (F := F) c arg2 harg2 arg7 harg7 arg10 harg10 arg11 harg11 arg12 x0 x5 KS VS) (runB.sl.r_209 (F := F) c arg8 harg8 x6)
    = outM (qs (F := F) c arg2 harg2 arg12 x0) (View.read (Elt F) arg7.view (harg7.unread x5)) (View.read (Elt F) arg8.view (harg8.unread x6)) (View.read (Elt F) arg10.view (harg10.unread KS)) (View.read (Elt F) arg11.view (harg11.unread VS)) :=
  (show _ = k0_pay1 (heads (k0_pay15 (View.readAt (Elt F) arg7.view (Rect.unit (s := S4x32) ![0, 0] S4x32.size inb_S4x32_S4x32_0_0).toLoadRect (harg7.unread x5)))
      (fun i => match i with
        | 0 => (runB.sl.r_181 (F := F) c arg2 harg2 arg10 harg10 arg11 harg11 arg12 x0 KS VS)
        | 1 => (runB.sl.r_184 (F := F) c arg2 harg2 arg10 harg10 arg11 harg11 arg12 x0 KS VS)
        | 2 => (runB.sl.r_187 (F := F) c arg2 harg2 arg10 harg10 arg11 harg11 arg12 x0 KS VS)
        | 3 => (runB.sl.r_191 (F := F) c arg2 harg2 arg10 harg10 arg11 harg11 arg12 x0 KS VS)
        | 4 => (runB.sl.r_192 (F := F) c arg2 harg2 arg10 harg10 arg11 harg11 arg12 x0 KS VS)
        | 5 => (runB.sl.r_195 (F := F) c arg2 harg2 arg10 harg10 arg11 harg11 arg12 x0 KS VS)
        | 6 => (runB.sl.r_198 (F := F) c arg2 harg2 arg10 harg10 arg11 harg11 arg12 x0 KS VS)
        | 7 => (runB.sl.r_199 (F := F) c arg2 harg2 arg10 harg10 arg11 harg11 arg12 x0 KS VS)
      )) (k0_pay254 (View.readAt (Elt F) arg8.view (Rect.unit (s := S1x256) ![0, 0] S1x256.size inb_S1x256_S1x256_0_0).toLoadRect (harg8.unread x6))) from rfl).trans (by
    rw [a6_0, a6_1, a6_2, a6_3, a6_4, a6_5, a6_6, a6_7, View.readAt_eq_ld, View.ld_unit_zero zero2, View.readAt_eq_ld, View.ld_unit_zero zero2]
    unfold outM
    congr 2
    · congr 1
      funext i; fin_cases i <;> rfl)

end Cert.KernelIdeal.Attn
-- ==== Proof.Masked.lean ====
/- The eight masked copies of the queries: stream `i` keeps rows 32·i … 32·i+31 of the scaled, transposed block and is
   zero elsewhere. What the run loads back from the scratch that holds them is the copy stored there. -/
module

public import proofs.«01_k».proof.Proof.Words

@[expose] public section

set_option maxRecDepth 16384

noncomputable section

namespace Cert.KernelIdeal.Attn

open Cert.KernelIdeal.Gen
open Idealize.ShloMosaic Idealize.ShloMosaic.TcCoe Idealize.ShloMosaic.ValueIdx

variable {F : FTy → Type} [FloatOps F] [Named F]

/-- The copy of stream `i` from the transposed queries `qt`. -/
def masked (qt : FVec F S256x256 .f32) (i : Fin 8) : Vec F S1x256x256 .bf16 :=
  shapeCast S1x256x256
    (truncf .bf16
      (select
        (andi (cmpi .sge (iota .tc S256x256 32 [0] iota_S256x256_d0_w32) (broadcast S256x256 (BitVec.ofNat 32 (32 * i.val))))
          (cmpi .slt (iota .tc S256x256 32 [0] iota_S256x256_d0_w32) (broadcast S256x256 (BitVec.ofNat 32 (32 * i.val + 32)))))
        qt (broadcast S256x256 (Scalar.ofBits .f32 0x00000000#32))) bitsLt_bf16_f32)
    shapeCasts_S256x256_S1x256x256

/-- All of them, as the scratch holds them. -/
def maskedAll (qt : FVec F S256x256 .f32) : Vec F S8x256x256 .bf16 := fun y =>
  masked qt (y 0) (ix3 (0 : Fin 1) (y 1) (y 2))

theorem mk_inb (i : Fin 8) : ∀ a, ![i.val, 0, 0] a + S1x256x256.size a ≤ S8x256x256.size a := by
  have := i.isLt
  intro a; fin_cases a <;> simp <;> omega

/-- A copy at its own index is the stack at the index under it. -/
theorem masked_idx (qt : FVec F S256x256 .f32) (i : Fin 8) (x : S1x256x256.Idx) :
    masked qt i x = maskedAll qt ((Rect.unit (s := S8x256x256) ![i.val, 0, 0] S1x256x256.size (mk_inb i)).idx x) := by
  unfold maskedAll
  have h0 : (x 0).val = 0 := by have : (x 0).val < 1 := (x 0).isLt; omega
  have e0 : ((Rect.unit (s := S8x256x256) ![i.val, 0, 0] S1x256x256.size (mk_inb i)).idx x 0) = i := Fin.ext (by
    show i.val + 1 * (x 0).val = i.val; omega)
  rw [e0]; congr 1
  funext a; apply Fin.ext; fin_cases a
  · exact h0
  · show (x 1).val = 0 + 1 * (x 1).val; omega
  · show (x 2).val = 0 + 1 * (x 2).val; omega

variable (c : Dev nD)
variable (arg2 : Memref sig .tc .vmem S1x256x256 .f32) (harg2 : arg2.IsWhole)
variable (arg12 : Memref sig .tc .vmem S8x256x256 .bf16)
variable (x0 : Vec F S1x256x256 .f32)

/-- The stores into the scratch, last first: the eight copies. -/
theorem stores_eq : runB.sl.HS2_8 (F := F) c arg2 harg2 x0
    = [⟨Rect.unit (s := S8x256x256) ![7, 0, 0] S1x256x256.size (mk_inb 7), masked (runB.sl.r_1 (F := F) c arg2 harg2 x0) 7⟩,
       ⟨Rect.unit (s := S8x256x256) ![6, 0, 0] S1x256x256.size (mk_inb 6), masked (runB.sl.r_1 (F := F) c arg2 harg2 x0) 6⟩,
       ⟨Rect.unit (s := S8x256x256) ![5, 0, 0] S1x256x256.size (mk_inb 5), masked (runB.sl.r_1 (F := F) c arg2 harg2 x0) 5⟩,
       ⟨Rect.unit (s := S8x256x256) ![4, 0, 0] S1x256x256.size (mk_inb 4), masked (runB.sl.r_1 (F := F) c arg2 harg2 x0) 4⟩,
       ⟨Rect.unit (s := S8x256x256) ![3, 0, 0] S1x256x256.size (mk_inb 3), masked (runB.sl.r_1 (F := F) c arg2 harg2 x0) 3⟩,
       ⟨Rect.unit (s := S8x256x256) ![2, 0, 0] S1x256x256.size (mk_inb 2), masked (runB.sl.r_1 (F := F) c arg2 harg2 x0) 2⟩,
       ⟨Rect.unit (s := S8x256x256) ![1, 0, 0] S1x256x256.size (mk_inb 1), masked (runB.sl.r_1 (F := F) c arg2 harg2 x0) 1⟩,
       ⟨Rect.unit (s := S8x256x256) ![0, 0, 0] S1x256x256.size (mk_inb 0), masked (runB.sl.r_1 (F := F) c arg2 harg2 x0) 0⟩] := rfl

/-- The stack, written as the list of its planes. -/
theorem canon_stores (qt : FVec F S256x256 .f32) (L : List (View.Piece (Elt F) S8x256x256 .bf16))
    (hL : L = [⟨Rect.unit (s := S8x256x256) ![7, 0, 0] S1x256x256.size (mk_inb 7), masked qt 7⟩,
       ⟨Rect.unit (s := S8x256x256) ![6, 0, 0] S1x256x256.size (mk_inb 6), masked qt 6⟩,
       ⟨Rect.unit (s := S8x256x256) ![5, 0, 0] S1x256x256.size (mk_inb 5), masked qt 5⟩,
       ⟨Rect.unit (s := S8x256x256) ![4, 0, 0] S1x256x256.size (mk_inb 4), masked qt 4⟩,
       ⟨Rect.unit (s := S8x256x256) ![3, 0, 0] S1x256x256.size (mk_inb 3), masked qt 3⟩,
       ⟨Rect.unit (s := S8x256x256) ![2, 0, 0] S1x256x256.size (mk_inb 2), masked qt 2⟩,
       ⟨Rect.unit (s := S8x256x256) ![1, 0, 0] S1x256x256.size (mk_inb 1), masked qt 1⟩,
       ⟨Rect.unit (s := S8x256x256) ![0, 0, 0] S1x256x256.size (mk_inb 0), masked qt 0⟩])
    (i : Fin 8) (x : S1x256x256.Idx) :
    View.canon L ((Rect.unit (s := S8x256x256) ![i.val, 0, 0] S1x256x256.size (mk_inb i)).idx x) = masked qt i x := by
  rw [masked_idx]
  refine View.canon_apply_of_pieces (maskedAll qt) L ?_ _ ?_
  · intro p hp y
    rw [hL] at hp
    simp only [List.mem_cons, List.not_mem_nil, or_false] at hp
    rcases hp with rfl | rfl | rfl | rfl | rfl | rfl | rfl | rfl <;> exact masked_idx qt _ y
  · have hm : ∀ i : Fin 8, (⟨Rect.unit (s := S8x256x256) ![i.val, 0, 0] S1x256x256.size (mk_inb i), masked qt i⟩ : View.Piece (Elt F) S8x256x256 .bf16) ∈ L := by
      intro i; rw [hL]; fin_cases i <;> simp
    exact ⟨_, hm i, (Rect.unit (s := S8x256x256) ![i.val, 0, 0] S1x256x256.size (mk_inb i)).idx_mem x⟩

theorem qs_eq (i : Fin 8) : qs (F := F) c arg2 harg2 arg12 x0 i = masked (k0_pay16 (View.read (Elt F) arg2.view (harg2.unread x0))) i := by
  have key : ∀ i : Fin 8, arg12.view.readCov (runB.sl.HS2_8 (F := F) c arg2 harg2 x0)
      (Rect.unit (s := S8x256x256) ![i.val, 0, 0] S1x256x256.size (mk_inb i)).toLoadRect
      = masked (runB.sl.r_1 (F := F) c arg2 harg2 x0) i := by
    intro i
    rw [View.readCov_eq_canon']
    funext x
    exact canon_stores _ _ (stores_eq c arg2 harg2 x0) i x
  have hr : runB.sl.r_1 (F := F) c arg2 harg2 x0 = k0_pay16 (View.read (Elt F) arg2.view (harg2.unread x0)) := by
    show k0_pay16 (View.readAt (Elt F) arg2.view (Rect.unit (s := S1x256x256) ![0, 0, 0] S1x256x256.size inb_S1x256x256_S1x256x256_0_0_0).toLoadRect (harg2.unread x0)) = _
    rw [View.readAt_eq_ld, View.ld_unit_zero (by funext a; fin_cases a <;> rfl)]
  rw [← hr, ← key i]
  fin_cases i <;> rfl

end Cert.KernelIdeal.Attn
-- ==== Proof.CaseA.lean ====
/- At a grid point that refills the scratch the body is the fill followed by the body of a point that does not. -/
module

public import proofs.«01_k».proof.Proof.Gen.KernelIdeal.Skeleton

@[expose] public section

set_option maxRecDepth 65536

noncomputable section

namespace Cert.KernelIdeal.Attn

open Cert.KernelIdeal.Gen
open Idealize.ShloMosaic Idealize.ShloMosaic.TcCoe
open Idealize.SL Idealize.SL.Sem

variable {F : FTy → Type} [FloatOps F] [Named F]

/-- The fill of the key and value scratch: the keys and values of the batch, those of the cache behind them, and
the rows of ones that make the denominators. -/
def fillP (i : grid0.Coords) (arg2 : Memref sig .tc .vmem S1x256x256 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x1x512x256 .f32) (harg5 : arg5.IsWhole) (arg6 : Memref sig .tc .vmem S1x1x512x256 .f32) (harg6 : arg6.IsWhole) (arg7 : Memref sig .tc .vmem S4x32 .f32) (harg7 : arg7.IsWhole) (arg8 : Memref sig .tc .vmem S1x256 .f32) (harg8 : arg8.IsWhole) (arg9 : Memref sig .tc .vmem S1x256x256 .bf16) (harg9 : arg9.IsWhole) (arg10 : Memref sig .tc .vmem S4608x256 .bf16) (harg10 : arg10.IsWhole) (arg11 : Memref sig .tc .vmem S4x80x4608 .bf16) (harg11 : arg11.IsWhole) (arg12 : Memref sig .tc .vmem S8x256x256 .bf16) (harg12 : arg12.IsWhole) (h1 : k0_cond1 i = 1#1) : Prog (TpuEff nD τ sig (Elt F) Λ₀ .tc) PUnit := do
  let cst ← k0_part1 (F := F) i arg2 harg2 arg3 harg3 arg4 harg4 arg5 harg5 arg6 harg6 arg7 harg7 arg8 harg8 arg9 harg9 arg10 harg10 arg11 harg11 arg12 harg12 h1
  let _ : Vec F S4x16x4608 .bf16 ← Prog.lift (.load arg11 (Rect.unit (s := S4x80x4608) ![0, 64, 0] S4x16x4608.size inb_S4x80x4608_S4x16x4608_0_64_0).toLoadRect (View.loadsAt_vmem h_S4x16x4608))
  Prog.lift (.store arg11 (Rect.unit (s := S4x80x4608) ![0, 64, 0] S4x16x4608.size inb_S4x80x4608_S4x16x4608_0_64_0) (k0_pay14 cst) Finset.univ (View.stores_vmem h_S4x16x4608 (harg11.storeExact_slice rfl _ packedbf16_S4x80x4608_S4x16x4608_0_64_0) (fun _ => rfl)) (.inl rfl))

theorem part2_eq (i i0 : grid0.Coords) (arg2 : Memref sig .tc .vmem S1x256x256 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x1x512x256 .f32) (harg5 : arg5.IsWhole) (arg6 : Memref sig .tc .vmem S1x1x512x256 .f32) (harg6 : arg6.IsWhole) (arg7 : Memref sig .tc .vmem S4x32 .f32) (harg7 : arg7.IsWhole) (arg8 : Memref sig .tc .vmem S1x256 .f32) (harg8 : arg8.IsWhole) (arg9 : Memref sig .tc .vmem S1x256x256 .bf16) (harg9 : arg9.IsWhole) (arg10 : Memref sig .tc .vmem S4608x256 .bf16) (harg10 : arg10.IsWhole) (arg11 : Memref sig .tc .vmem S4x80x4608 .bf16) (harg11 : arg11.IsWhole) (arg12 : Memref sig .tc .vmem S8x256x256 .bf16) (harg12 : arg12.IsWhole)
    (h1 : k0_cond1 i = 1#1) (h0 : ¬ k0_cond1 i0 = 1#1) :
    k0_part2 (F := F) i arg2 harg2 arg3 harg3 arg4 harg4 arg5 harg5 arg6 harg6 arg7 harg7 arg8 harg8 arg9 harg9 arg10 harg10 arg11 harg11 arg12 harg12
      = fillP (F := F) i arg2 harg2 arg3 harg3 arg4 harg4 arg5 harg5 arg6 harg6 arg7 harg7 arg8 harg8 arg9 harg9 arg10 harg10 arg11 harg11 arg12 harg12 h1 >>= fun _ => k0_part2 (F := F) i0 arg2 harg2 arg3 harg3 arg4 harg4 arg5 harg5 arg6 harg6 arg7 harg7 arg8 harg8 arg9 harg9 arg10 harg10 arg11 harg11 arg12 harg12 := by
  simp only [k0_part2_eq_skeleton]
  unfold k0_part2_skel fillP
  rw [dif_pos h1, dif_neg h0]
  simp only [bind_assoc, pure_bind]

set_option maxHeartbeats 1000000 in
theorem caseA_eq (i i0 : grid0.Coords) (arg2 : Memref sig .tc .vmem S1x256x256 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x1x512x256 .f32) (harg5 : arg5.IsWhole) (arg6 : Memref sig .tc .vmem S1x1x512x256 .f32) (harg6 : arg6.IsWhole) (arg7 : Memref sig .tc .vmem S4x32 .f32) (harg7 : arg7.IsWhole) (arg8 : Memref sig .tc .vmem S1x256 .f32) (harg8 : arg8.IsWhole) (arg9 : Memref sig .tc .vmem S1x256x256 .bf16) (harg9 : arg9.IsWhole) (arg10 : Memref sig .tc .vmem S4608x256 .bf16) (harg10 : arg10.IsWhole) (arg11 : Memref sig .tc .vmem S4x80x4608 .bf16) (harg11 : arg11.IsWhole) (arg12 : Memref sig .tc .vmem S8x256x256 .bf16) (harg12 : arg12.IsWhole)
    (h1 : k0_cond1 i = 1#1) (h0 : ¬ k0_cond1 i0 = 1#1) :
    cc0_diff_attention (F := F) i arg2 harg2 arg3 harg3 arg4 harg4 arg5 harg5 arg6 harg6 arg7 harg7 arg8 harg8 arg9 harg9 arg10 harg10 arg11 harg11 arg12 harg12
      = fillP (F := F) i arg2 harg2 arg3 harg3 arg4 harg4 arg5 harg5 arg6 harg6 arg7 harg7 arg8 harg8 arg9 harg9 arg10 harg10 arg11 harg11 arg12 harg12 h1 >>= fun _ => cc0_diff_attention (F := F) i0 arg2 harg2 arg3 harg3 arg4 harg4 arg5 harg5 arg6 harg6 arg7 harg7 arg8 harg8 arg9 harg9 arg10 harg10 arg11 harg11 arg12 harg12 := by
  simp only [cc0_diff_attention_eq_skeleton]
  unfold cc0_diff_attention_skel
  rw [part2_eq i i0 arg2 harg2 arg3 harg3 arg4 harg4 arg5 harg5 arg6 harg6 arg7 harg7 arg8 harg8 arg9 harg9 arg10 harg10 arg11 harg11 arg12 harg12 h1 h0, bind_assoc]
  rfl

end Cert.KernelIdeal.Attn
-- ==== Proof.FillRun.lean ====
/- The run of the fill of the scratch: from the blocks of keys and values and any contents of the scratch, what the
   two scratch arrays hold afterwards is a list of stores, found by the run. -/
module

public import proofs.«01_k».proof.Proof.CaseA
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The fill's triple, with the two lists of stores as witnesses. -/
def fillRun (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x1x512x256 .f32) (harg5 : arg5.IsWhole) (arg6 : Memref sig .tc .vmem S1x1x512x256 .f32) (harg6 : arg6.IsWhole) (arg7 : Memref sig .tc .vmem S4x32 .f32) (harg7 : arg7.IsWhole) (arg8 : Memref sig .tc .vmem S1x256 .f32) (harg8 : arg8.IsWhole) (arg9 : Memref sig .tc .vmem S1x256x256 .bf16) (harg9 : arg9.IsWhole) (arg10 : Memref sig .tc .vmem S4608x256 .bf16) (harg10 : arg10.IsWhole) (arg11 : Memref sig .tc .vmem S4x80x4608 .bf16) (harg11 : arg11.IsWhole) (arg12 : Memref sig .tc .vmem S8x256x256 .bf16) (harg12 : arg12.IsWhole) (h1 : k0_cond1 i = 1#1)
    (x1 x2 : Vec F S1x4096x256 .f32) (x3 x4 : Vec F S1x1x512x256 .f32) :
      Σ' (L10 : List (View.Piece (Elt F) S4608x256 .bf16)), { L11 : List (View.Piece (Elt F) S4x80x4608 .bf16) // ∀ (f10 : BufTy.Contents (Elt F) arg10.view.ty) (f11 : BufTy.Contents (Elt F) arg11.view.ty) (E : Set ℕ) (K : PUnit → sProp 𝕄),
        iprop(owns (c : Thread nD τ) arg3 fullShare x1 ∗ owns (c : Thread nD τ) arg4 fullShare x2 ∗ owns (c : Thread nD τ) arg5 fullShare x3 ∗ owns (c : Thread nD τ) arg6 fullShare x4 ∗ (arg10.view.loc (c : Thread nD τ) ↦[arg10.view.set]{fullShare} f10) ∗ (arg11.view.loc (c : Thread nD τ) ↦[arg11.view.set]{fullShare} f11)
            ∗ (iprop(owns (c : Thread nD τ) arg3 fullShare x1 ∗ owns (c : Thread nD τ) arg4 fullShare x2 ∗ owns (c : Thread nD τ) arg5 fullShare x3 ∗ owns (c : Thread nD τ) arg6 fullShare x4 ∗ (arg10.view.loc (c : Thread nD τ) ↦[arg10.view.set]{fullShare} arg10.view.writes (Elt F) f10 L10) ∗ (arg11.view.loc (c : Thread nD τ) ↦[arg11.view.set]{fullShare} arg11.view.writes (Elt F) f11 L11)) -∗ K ⟨⟩))
          ⊢ wp frame (wpE (defs₀ (F := F)) Variants.none c none) E (fillP (F := F) i arg2 harg2 arg3 harg3 arg4 harg4 arg5 harg5 arg6 harg6 arg7 harg7 arg8 harg8 arg9 harg9 arg10 harg10 arg11 harg11 arg12 harg12 h1) K } := by
    refine ⟨?_, ?_, fun f10 f11 E K => ?run⟩
    case run =>
    unfold fillP
    simp only [k0_part1_eq_skeleton]; unfold k0_part1_skel
    simp only [bind_assoc, pure_bind]
    unfold owns
    iintro ⟨⟨%f1, %hf1, H1⟩, ⟨%f2, %hf2, H2⟩, ⟨%f3, %hf3, H3⟩, ⟨%f4, %hf4, H4⟩, HS0, HS1, Hk⟩
    obtain rfl := harg3.eq_unread hf1; obtain rfl := harg4.eq_unread hf2; obtain rfl := harg5.eq_unread hf3; obtain rfl := harg6.eq_unread hf4
    sl_exec
    sl_step
    iapply Hk
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexact HS0
    iexact HS1

end Cert.KernelIdeal.Attn
-- ==== Proof.FillPay.lean ====
/- What the fill's stores are worth, element by element. -/
module

public import proofs.«01_k».proof.Proof.Gen.KernelIdeal.Skeleton
public import Idealize.ShloMosaic.Lib.PointwiseCore
public import Idealize.ShloMosaic.Lib.ValueIdxCore
public import Idealize.ShloMosaic.Lib.Pipeline.Value

@[expose] public section

set_option maxRecDepth 16384

noncomputable section

namespace Cert.KernelIdeal.Attn

open Cert.KernelIdeal.Gen
open Idealize.ShloMosaic Idealize.ShloMosaic.TcCoe

variable {F : FTy → Type} [FloatOps F] [Named F]

/-- The cast of one element to bf16. -/
abbrev tr (x : F .f32) : F .bf16 := FloatOps.truncf .bf16 bitsLt_bf16_f32 x

theorem pay2_at (v : Vec F S1x512x256 .f32) (a : Fin 512) (b : Fin 256) :
    k0_pay2 (F := F) v (ix2 a b) = tr (v (ix3 (0 : Fin 1) a b)) := by
  unfold k0_pay2; pointwise; try rfl

theorem pay8_at (v : Vec F S1x1x512x256 .f32) (a : Fin 512) (b : Fin 256) :
    k0_pay8 (F := F) v (ix2 a b) = tr (v (ix4 (0 : Fin 1) (0 : Fin 1) a b)) := by
  unfold k0_pay8; pointwise; try rfl

theorem pay4_at (v : Vec F S1x512x256 .f32) (a : Fin 64) (b : Fin 512) :
    k0_pay4 (F := F) v (ix3 (0 : Fin 1) a b) = tr (v (ix3 (0 : Fin 1) b ⟨64 * 0 + a.val, by omega⟩)) := by
  unfold k0_pay4 k0_pay3; pointwise; try rfl

theorem pay10_at (v : Vec F S1x1x512x256 .f32) (a : Fin 64) (b : Fin 512) :
    k0_pay10 (F := F) v (ix3 (0 : Fin 1) a b) = tr (v (ix4 (0 : Fin 1) (0 : Fin 1) b ⟨64 * 0 + a.val, by omega⟩)) := by
  unfold k0_pay10 k0_pay9; pointwise; try rfl

theorem pay5_at (v : Vec F S1x512x256 .f32) (a : Fin 64) (b : Fin 512) :
    k0_pay5 (F := F) v (ix3 (0 : Fin 1) a b) = tr (v (ix3 (0 : Fin 1) b ⟨64 * 1 + a.val, by omega⟩)) := by
  unfold k0_pay5 k0_pay3; pointwise; try rfl

theorem pay11_at (v : Vec F S1x1x512x256 .f32) (a : Fin 64) (b : Fin 512) :
    k0_pay11 (F := F) v (ix3 (0 : Fin 1) a b) = tr (v (ix4 (0 : Fin 1) (0 : Fin 1) b ⟨64 * 1 + a.val, by omega⟩)) := by
  unfold k0_pay11 k0_pay9; pointwise; try rfl

theorem pay6_at (v : Vec F S1x512x256 .f32) (a : Fin 64) (b : Fin 512) :
    k0_pay6 (F := F) v (ix3 (0 : Fin 1) a b) = tr (v (ix3 (0 : Fin 1) b ⟨64 * 2 + a.val, by omega⟩)) := by
  unfold k0_pay6 k0_pay3; pointwise; try rfl

theorem pay12_at (v : Vec F S1x1x512x256 .f32) (a : Fin 64) (b : Fin 512) :
    k0_pay12 (F := F) v (ix3 (0 : Fin 1) a b) = tr (v (ix4 (0 : Fin 1) (0 : Fin 1) b ⟨64 * 2 + a.val, by omega⟩)) := by
  unfold k0_pay12 k0_pay9; pointwise; try rfl

theorem pay7_at (v : Vec F S1x512x256 .f32) (a : Fin 64) (b : Fin 512) :
    k0_pay7 (F := F) v (ix3 (0 : Fin 1) a b) = tr (v (ix3 (0 : Fin 1) b ⟨64 * 3 + a.val, by omega⟩)) := by
  unfold k0_pay7 k0_pay3; pointwise; try rfl

theorem pay13_at (v : Vec F S1x1x512x256 .f32) (a : Fin 64) (b : Fin 512) :
    k0_pay13 (F := F) v (ix3 (0 : Fin 1) a b) = tr (v (ix4 (0 : Fin 1) (0 : Fin 1) b ⟨64 * 3 + a.val, by omega⟩)) := by
  unfold k0_pay13 k0_pay9; pointwise; try rfl

theorem pay14_at (cst : F .bf16) (y : S4x16x4608.Idx) : k0_pay14 (F := F) cst y = cst := by
  unfold k0_pay14; pointwise; try rfl

theorem off1_eq : ∀ k : Fin k0_t1_loop.trips, k0_off1 k = ![0, 512 * k.val, 0] := by decide +kernel
theorem off2_eq : ∀ k : Fin k0_t1_loop.trips, k0_off2 k = ![512 * k.val, 0] := by decide +kernel
theorem off3_eq : ∀ k : Fin k0_t1_loop.trips, k0_off3 k = ![0, 0, 512 * k.val] := by decide +kernel
theorem off4_eq : ∀ k : Fin k0_t1_loop.trips, k0_off4 k = ![1, 0, 512 * k.val] := by decide +kernel
theorem off5_eq : ∀ k : Fin k0_t1_loop.trips, k0_off5 k = ![2, 0, 512 * k.val] := by decide +kernel
theorem off6_eq : ∀ k : Fin k0_t1_loop.trips, k0_off6 k = ![3, 0, 512 * k.val] := by decide +kernel
theorem trips_eq : k0_t1_loop.trips = 8 := by decide +kernel

end Cert.KernelIdeal.Attn
-- ==== Proof.Fill.lean ====
/- What the fill leaves in the scratch: the keys of the batch followed by those of the cache; the values of both,
   transposed head by head, over sixteen rows of ones. -/
module

public import proofs.«01_k».proof.Proof.FillRun
public import proofs.«01_k».proof.Proof.FillPay
public import Idealize.ShloMosaic.Lib.Writes

@[expose] public section

set_option maxRecDepth 16384

noncomputable section

namespace Cert.KernelIdeal.Attn

open Cert.KernelIdeal.Gen
open Idealize.ShloMosaic Idealize.ShloMosaic.TcCoe Idealize.ShloMosaic.Tactic

variable {F : FTy → Type} [FloatOps F] [Named F]

/-- The keys: rows below 4096 are the batch's, the others the cache's. -/
def KS (x1 : Vec F S1x4096x256 .f32) (x3 : Vec F S1x1x512x256 .f32) : Vec F S4608x256 .bf16 := fun y =>
  if h : (y 0).val < 4096 then tr (x1 (ix3 (0 : Fin 1) (⟨(y 0).val, h⟩ : Fin 4096) (y 1)))
  else tr (x3 (ix4 (0 : Fin 1) (0 : Fin 1) (⟨(y 0).val - 4096, by have : (y 0).val < 4608 := (y 0).isLt; omega⟩ : Fin 512) (y 1)))

/-- The transposed values: row `d < 64` of head `h` is column `64 h + d` of the values, the rows from 64 on are ones. -/
def VS (x2 : Vec F S1x4096x256 .f32) (x4 : Vec F S1x1x512x256 .f32) : Vec F S4x80x4608 .bf16 := fun y =>
  if h1 : (y 1).val < 64 then
    if h : (y 2).val < 4096 then tr (x2 (ix3 (0 : Fin 1) (⟨(y 2).val, h⟩ : Fin 4096)
      (⟨64 * (y 0).val + (y 1).val, by have : (y 0).val < 4 := (y 0).isLt; omega⟩ : Fin 256)))
    else tr (x4 (ix4 (0 : Fin 1) (0 : Fin 1) (⟨(y 2).val - 4096, by have : (y 2).val < 4608 := (y 2).isLt; omega⟩ : Fin 512)
      (⟨64 * (y 0).val + (y 1).val, by have : (y 0).val < 4 := (y 0).isLt; omega⟩ : Fin 256)))
  else Scalar.ofBits .bf16 0x3F80#16

theorem KS_lo (x1 : Vec F S1x4096x256 .f32) (x3 : Vec F S1x1x512x256 .f32) (y : S4608x256.Idx) (z : S1x4096x256.Idx)
    (h1 : (z 1).val = (y 0).val) (h2 : (z 2).val = (y 1).val) : tr (x1 z) = KS x1 x3 y := by
  have hz : (z 1).val < 4096 := (z 1).isLt
  have h0 : (z 0).val < 1 := (z 0).isLt
  unfold KS
  rw [dif_pos (by omega)]
  congr 2; funext a; apply Fin.ext; fin_cases a
  · show (z 0).val = 0; omega
  · exact h1
  · exact h2

theorem KS_hi (x1 : Vec F S1x4096x256 .f32) (x3 : Vec F S1x1x512x256 .f32) (y : S4608x256.Idx) (z : S1x1x512x256.Idx)
    (h1 : 4096 + (z 2).val = (y 0).val) (h2 : (z 3).val = (y 1).val) : tr (x3 z) = KS x1 x3 y := by
  have h0 : (z 0).val < 1 := (z 0).isLt
  have h0' : (z 1).val < 1 := (z 1).isLt
  unfold KS
  rw [dif_neg (by omega)]
  congr 2; funext a; apply Fin.ext; fin_cases a
  · show (z 0).val = 0; omega
  · show (z 1).val = 0; omega
  · show (z 2).val = (y 0).val - 4096; omega
  · exact h2

theorem VS_lo (x2 : Vec F S1x4096x256 .f32) (x4 : Vec F S1x1x512x256 .f32) (y : S4x80x4608.Idx) (z : S1x4096x256.Idx)
    (hy : (y 1).val < 64) (h1 : (z 1).val = (y 2).val) (h2 : (z 2).val = 64 * (y 0).val + (y 1).val) : tr (x2 z) = VS x2 x4 y := by
  have hz : (z 1).val < 4096 := (z 1).isLt
  have h0 : (z 0).val < 1 := (z 0).isLt
  unfold VS
  rw [dif_pos hy, dif_pos (by omega)]
  congr 2; funext a; apply Fin.ext; fin_cases a
  · show (z 0).val = 0; omega
  · exact h1
  · exact h2

theorem VS_hi (x2 : Vec F S1x4096x256 .f32) (x4 : Vec F S1x1x512x256 .f32) (y : S4x80x4608.Idx) (z : S1x1x512x256.Idx)
    (hy : (y 1).val < 64) (h1 : 4096 + (z 2).val = (y 2).val) (h2 : (z 3).val = 64 * (y 0).val + (y 1).val) : tr (x4 z) = VS x2 x4 y := by
  have h0 : (z 0).val < 1 := (z 0).isLt
  have h0' : (z 1).val < 1 := (z 1).isLt
  unfold VS
  rw [dif_pos hy, dif_neg (by omega)]
  congr 2; funext a; apply Fin.ext; fin_cases a
  · show (z 0).val = 0; omega
  · show (z 1).val = 0; omega
  · show (z 2).val = (y 2).val - 4096; omega
  · exact h2

theorem VS_ones (x2 : Vec F S1x4096x256 .f32) (x4 : Vec F S1x1x512x256 .f32) (y : S4x80x4608.Idx) (hy : ¬ (y 1).val < 64) :
    Scalar.ofBits .bf16 0x3F80#16 = VS x2 x4 y := by
  unfold VS; rw [dif_neg hy]

/-! ### The stores, one at a time -/

theorem keys_piece (x1 : Vec F S1x4096x256 .f32) (x3 : Vec F S1x1x512x256 .f32) (n : ℕ) {off : Fin 2 → ℕ} {lo : Fin 3 → ℕ}
    (ho : off = ![n, 0]) (hl : lo = ![0, n, 0]) (inb : ∀ a, off a + S512x256.size a ≤ S4608x256.size a)
    (inl : ∀ a, lo a + S1x512x256.size a ≤ S1x4096x256.size a) (x : S512x256.Idx) :
    k0_pay2 (View.ld (Val := Elt F) x1 (Rect.unit (s := S1x4096x256) lo S1x512x256.size inl)) x
      = KS x1 x3 ((Rect.unit (s := S4608x256) off S512x256.size inb).emb x) := by
  subst ho hl
  obtain ⟨a, b, rfl⟩ : ∃ a b, x = ix2 (n0 := 512) (n1 := 256) a b := ⟨_, _, eq_ix2 x⟩
  rw [pay2_at]
  refine KS_lo x1 x3 _ _ ?_ ?_
  · rfl
  · rfl

theorem cache_keys_piece (x1 : Vec F S1x4096x256 .f32) (x3 : Vec F S1x1x512x256 .f32) (inb : ∀ a, ![4096, 0] a + S512x256.size a ≤ S4608x256.size a) (x : S512x256.Idx) :
    k0_pay8 x3 x = KS x1 x3 ((Rect.unit (s := S4608x256) ![4096, 0] S512x256.size inb).emb x) := by
  obtain ⟨a, b, rfl⟩ : ∃ a b, x = ix2 (n0 := 512) (n1 := 256) a b := ⟨_, _, eq_ix2 x⟩
  rw [pay8_at]
  refine KS_hi x1 x3 _ _ ?_ ?_
  · show 4096 + a.val = 4096 + 1 * a.val; omega
  · show b.val = 0 + 1 * b.val; omega

theorem values_piece0 (x2 : Vec F S1x4096x256 .f32) (x4 : Vec F S1x1x512x256 .f32) (n : ℕ) {off : Fin 3 → ℕ} {lo : Fin 3 → ℕ}
    (ho : off = ![0, 0, n]) (hl : lo = ![0, n, 0]) (inb : ∀ a, off a + S1x64x512.size a ≤ S4x80x4608.size a)
    (inl : ∀ a, lo a + S1x512x256.size a ≤ S1x4096x256.size a) (x : S1x64x512.Idx) :
    k0_pay4 (View.ld (Val := Elt F) x2 (Rect.unit (s := S1x4096x256) lo S1x512x256.size inl)) x
      = VS x2 x4 ((Rect.unit (s := S4x80x4608) off S1x64x512.size inb).emb x) := by
  subst ho hl
  obtain ⟨o, a, b, rfl⟩ : ∃ o a b, x = ix3 (n0 := 1) (n1 := 64) (n2 := 512) o a b := ⟨_, _, _, eq_ix3 x⟩
  obtain rfl : o = 0 := Fin.ext (by omega)
  rw [pay4_at]
  refine VS_lo x2 x4 _ _ ?_ ?_ ?_
  · show 0 + 1 * a.val < 64; omega
  · rfl
  · show 0 + 1 * (64 * 0 + a.val) = 64 * (0 + 1 * 0) + (0 + 1 * a.val); omega

theorem cache_values_piece0 (x2 : Vec F S1x4096x256 .f32) (x4 : Vec F S1x1x512x256 .f32)
    (inb : ∀ a, ![0, 0, 4096] a + S1x64x512.size a ≤ S4x80x4608.size a) (x : S1x64x512.Idx) :
    k0_pay10 x4 x = VS x2 x4 ((Rect.unit (s := S4x80x4608) ![0, 0, 4096] S1x64x512.size inb).emb x) := by
  obtain ⟨o, a, b, rfl⟩ : ∃ o a b, x = ix3 (n0 := 1) (n1 := 64) (n2 := 512) o a b := ⟨_, _, _, eq_ix3 x⟩
  obtain rfl : o = 0 := Fin.ext (by omega)
  rw [pay10_at]
  refine VS_hi x2 x4 _ _ ?_ ?_ ?_
  · show 0 + 1 * a.val < 64; omega
  · show 4096 + b.val = 4096 + 1 * b.val; omega
  · show 64 * 0 + a.val = 64 * (0 + 1 * 0) + (0 + 1 * a.val); omega

theorem values_piece1 (x2 : Vec F S1x4096x256 .f32) (x4 : Vec F S1x1x512x256 .f32) (n : ℕ) {off : Fin 3 → ℕ} {lo : Fin 3 → ℕ}
    (ho : off = ![1, 0, n]) (hl : lo = ![0, n, 0]) (inb : ∀ a, off a + S1x64x512.size a ≤ S4x80x4608.size a)
    (inl : ∀ a, lo a + S1x512x256.size a ≤ S1x4096x256.size a) (x : S1x64x512.Idx) :
    k0_pay5 (View.ld (Val := Elt F) x2 (Rect.unit (s := S1x4096x256) lo S1x512x256.size inl)) x
      = VS x2 x4 ((Rect.unit (s := S4x80x4608) off S1x64x512.size inb).emb x) := by
  subst ho hl
  obtain ⟨o, a, b, rfl⟩ : ∃ o a b, x = ix3 (n0 := 1) (n1 := 64) (n2 := 512) o a b := ⟨_, _, _, eq_ix3 x⟩
  obtain rfl : o = 0 := Fin.ext (by omega)
  rw [pay5_at]
  refine VS_lo x2 x4 _ _ ?_ ?_ ?_
  · show 0 + 1 * a.val < 64; omega
  · rfl
  · show 0 + 1 * (64 * 1 + a.val) = 64 * (1 + 1 * 0) + (0 + 1 * a.val); omega

theorem cache_values_piece1 (x2 : Vec F S1x4096x256 .f32) (x4 : Vec F S1x1x512x256 .f32)
    (inb : ∀ a, ![1, 0, 4096] a + S1x64x512.size a ≤ S4x80x4608.size a) (x : S1x64x512.Idx) :
    k0_pay11 x4 x = VS x2 x4 ((Rect.unit (s := S4x80x4608) ![1, 0, 4096] S1x64x512.size inb).emb x) := by
  obtain ⟨o, a, b, rfl⟩ : ∃ o a b, x = ix3 (n0 := 1) (n1 := 64) (n2 := 512) o a b := ⟨_, _, _, eq_ix3 x⟩
  obtain rfl : o = 0 := Fin.ext (by omega)
  rw [pay11_at]
  refine VS_hi x2 x4 _ _ ?_ ?_ ?_
  · show 0 + 1 * a.val < 64; omega
  · show 4096 + b.val = 4096 + 1 * b.val; omega
  · show 64 * 1 + a.val = 64 * (1 + 1 * 0) + (0 + 1 * a.val); omega

theorem values_piece2 (x2 : Vec F S1x4096x256 .f32) (x4 : Vec F S1x1x512x256 .f32) (n : ℕ) {off : Fin 3 → ℕ} {lo : Fin 3 → ℕ}
    (ho : off = ![2, 0, n]) (hl : lo = ![0, n, 0]) (inb : ∀ a, off a + S1x64x512.size a ≤ S4x80x4608.size a)
    (inl : ∀ a, lo a + S1x512x256.size a ≤ S1x4096x256.size a) (x : S1x64x512.Idx) :
    k0_pay6 (View.ld (Val := Elt F) x2 (Rect.unit (s := S1x4096x256) lo S1x512x256.size inl)) x
      = VS x2 x4 ((Rect.unit (s := S4x80x4608) off S1x64x512.size inb).emb x) := by
  subst ho hl
  obtain ⟨o, a, b, rfl⟩ : ∃ o a b, x = ix3 (n0 := 1) (n1 := 64) (n2 := 512) o a b := ⟨_, _, _, eq_ix3 x⟩
  obtain rfl : o = 0 := Fin.ext (by omega)
  rw [pay6_at]
  refine VS_lo x2 x4 _ _ ?_ ?_ ?_
  · show 0 + 1 * a.val < 64; omega
  · rfl
  · show 0 + 1 * (64 * 2 + a.val) = 64 * (2 + 1 * 0) + (0 + 1 * a.val); omega

theorem cache_values_piece2 (x2 : Vec F S1x4096x256 .f32) (x4 : Vec F S1x1x512x256 .f32)
    (inb : ∀ a, ![2, 0, 4096] a + S1x64x512.size a ≤ S4x80x4608.size a) (x : S1x64x512.Idx) :
    k0_pay12 x4 x = VS x2 x4 ((Rect.unit (s := S4x80x4608) ![2, 0, 4096] S1x64x512.size inb).emb x) := by
  obtain ⟨o, a, b, rfl⟩ : ∃ o a b, x = ix3 (n0 := 1) (n1 := 64) (n2 := 512) o a b := ⟨_, _, _, eq_ix3 x⟩
  obtain rfl : o = 0 := Fin.ext (by omega)
  rw [pay12_at]
  refine VS_hi x2 x4 _ _ ?_ ?_ ?_
  · show 0 + 1 * a.val < 64; omega
  · show 4096 + b.val = 4096 + 1 * b.val; omega
  · show 64 * 2 + a.val = 64 * (2 + 1 * 0) + (0 + 1 * a.val); omega

theorem values_piece3 (x2 : Vec F S1x4096x256 .f32) (x4 : Vec F S1x1x512x256 .f32) (n : ℕ) {off : Fin 3 → ℕ} {lo : Fin 3 → ℕ}
    (ho : off = ![3, 0, n]) (hl : lo = ![0, n, 0]) (inb : ∀ a, off a + S1x64x512.size a ≤ S4x80x4608.size a)
    (inl : ∀ a, lo a + S1x512x256.size a ≤ S1x4096x256.size a) (x : S1x64x512.Idx) :
    k0_pay7 (View.ld (Val := Elt F) x2 (Rect.unit (s := S1x4096x256) lo S1x512x256.size inl)) x
      = VS x2 x4 ((Rect.unit (s := S4x80x4608) off S1x64x512.size inb).emb x) := by
  subst ho hl
  obtain ⟨o, a, b, rfl⟩ : ∃ o a b, x = ix3 (n0 := 1) (n1 := 64) (n2 := 512) o a b := ⟨_, _, _, eq_ix3 x⟩
  obtain rfl : o = 0 := Fin.ext (by omega)
  rw [pay7_at]
  refine VS_lo x2 x4 _ _ ?_ ?_ ?_
  · show 0 + 1 * a.val < 64; omega
  · rfl
  · show 0 + 1 * (64 * 3 + a.val) = 64 * (3 + 1 * 0) + (0 + 1 * a.val); omega

theorem cache_values_piece3 (x2 : Vec F S1x4096x256 .f32) (x4 : Vec F S1x1x512x256 .f32)
    (inb : ∀ a, ![3, 0, 4096] a + S1x64x512.size a ≤ S4x80x4608.size a) (x : S1x64x512.Idx) :
    k0_pay13 x4 x = VS x2 x4 ((Rect.unit (s := S4x80x4608) ![3, 0, 4096] S1x64x512.size inb).emb x) := by
  obtain ⟨o, a, b, rfl⟩ : ∃ o a b, x = ix3 (n0 := 1) (n1 := 64) (n2 := 512) o a b := ⟨_, _, _, eq_ix3 x⟩
  obtain rfl : o = 0 := Fin.ext (by omega)
  rw [pay13_at]
  refine VS_hi x2 x4 _ _ ?_ ?_ ?_
  · show 0 + 1 * a.val < 64; omega
  · show 4096 + b.val = 4096 + 1 * b.val; omega
  · show 64 * 3 + a.val = 64 * (3 + 1 * 0) + (0 + 1 * a.val); omega

theorem ones_piece (x2 : Vec F S1x4096x256 .f32) (x4 : Vec F S1x1x512x256 .f32)
    (inb : ∀ a, ![0, 64, 0] a + S4x16x4608.size a ≤ S4x80x4608.size a) (x : S4x16x4608.Idx) :
    k0_pay14 (F := F) (FloatOps.ofBits .bf16 0x3F80#16) x = VS x2 x4 ((Rect.unit (s := S4x80x4608) ![0, 64, 0] S4x16x4608.size inb).emb x) := by
  rw [pay14_at]
  refine VS_ones x2 x4 _ ?_
  show ¬ (64 + 1 * (x 1).val < 64); omega

/-! ### All the stores -/

section
variable (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x1x512x256 .f32) (harg5 : arg5.IsWhole) (arg6 : Memref sig .tc .vmem S1x1x512x256 .f32) (harg6 : arg6.IsWhole) (arg7 : Memref sig .tc .vmem S4x32 .f32) (harg7 : arg7.IsWhole) (arg8 : Memref sig .tc .vmem S1x256 .f32) (harg8 : arg8.IsWhole) (arg9 : Memref sig .tc .vmem S1x256x256 .bf16) (harg9 : arg9.IsWhole) (arg10 : Memref sig .tc .vmem S4608x256 .bf16) (harg10 : arg10.IsWhole) (arg11 : Memref sig .tc .vmem S4x80x4608 .bf16) (harg11 : arg11.IsWhole) (arg12 : Memref sig .tc .vmem S8x256x256 .bf16) (harg12 : arg12.IsWhole) (h1 : k0_cond1 i = 1#1)

/-- The stores of the loop's first `n` trips are those of the trips one by one. -/
theorem mem_pb (X3 : BufTy.Contents (Elt F) arg3.view.ty) (X4 : BufTy.Contents (Elt F) arg4.view.ty) (n : ℕ) (hn : n ≤ k0_t1_loop.trips) :
    (∀ p, p ∈ (pb_k0_t1 (F := F) Variants.none c none i arg2 harg2 arg3 harg3 arg4 harg4 arg5 harg5 arg6 harg6 arg7 harg7 arg8 harg8 arg9 harg9 arg10 harg10 arg11 harg11 arg12 harg12 h1 X3 X4 n).1
      ↔ ∃ k : Fin k0_t1_loop.trips, k.val < n ∧ p ∈ (tripL_k0_t1 (F := F) Variants.none c none i arg2 harg2 arg3 harg3 arg4 harg4 arg5 harg5 arg6 harg6 arg7 harg7 arg8 harg8 arg9 harg9 arg10 harg10 arg11 harg11 arg12 harg12 h1 X3 X4 k).1)
    ∧ ∀ p, p ∈ (pb_k0_t1 (F := F) Variants.none c none i arg2 harg2 arg3 harg3 arg4 harg4 arg5 harg5 arg6 harg6 arg7 harg7 arg8 harg8 arg9 harg9 arg10 harg10 arg11 harg11 arg12 harg12 h1 X3 X4 n).2
      ↔ ∃ k : Fin k0_t1_loop.trips, k.val < n ∧ p ∈ (tripL_k0_t1 (F := F) Variants.none c none i arg2 harg2 arg3 harg3 arg4 harg4 arg5 harg5 arg6 harg6 arg7 harg7 arg8 harg8 arg9 harg9 arg10 harg10 arg11 harg11 arg12 harg12 h1 X3 X4 k).2 := by
  induction n with
  | zero => exact ⟨fun p => ⟨fun h => absurd h (by rw [pb_k0_t1.eq_1]; exact List.not_mem_nil), fun ⟨k, hk, _⟩ => absurd hk (Nat.not_lt_zero _)⟩,
      fun p => ⟨fun h => absurd h (by rw [pb_k0_t1.eq_1]; exact List.not_mem_nil), fun ⟨k, hk, _⟩ => absurd hk (Nat.not_lt_zero _)⟩⟩
  | succ n ih =>
    obtain ⟨ih1, ih2⟩ := ih (Nat.le_of_succ_le hn)
    have e := pb_k0_t1_succ (F := F) Variants.none c none i arg2 harg2 arg3 harg3 arg4 harg4 arg5 harg5 arg6 harg6 arg7 harg7 arg8 harg8 arg9 harg9 arg10 harg10 arg11 harg11 arg12 harg12 h1 X3 X4 ⟨n, hn⟩
    have lt : ∀ k : Fin k0_t1_loop.trips, k.val < n + 1 ↔ k = ⟨n, hn⟩ ∨ k.val < n := fun k => by
      rw [Fin.ext_iff]; show k.val < n + 1 ↔ k.val = n ∨ k.val < n; omega
    constructor <;> intro p
    · rw [show (pb_k0_t1 (F := F) Variants.none c none i arg2 harg2 arg3 harg3 arg4 harg4 arg5 harg5 arg6 harg6 arg7 harg7 arg8 harg8 arg9 harg9 arg10 harg10 arg11 harg11 arg12 harg12 h1 X3 X4 (n + 1)) = _ from e]
      simp only [List.mem_append, ih1, lt, or_and_right, exists_or, exists_eq_left]
    · rw [show (pb_k0_t1 (F := F) Variants.none c none i arg2 harg2 arg3 harg3 arg4 harg4 arg5 harg5 arg6 harg6 arg7 harg7 arg8 harg8 arg9 harg9 arg10 harg10 arg11 harg11 arg12 harg12 h1 X3 X4 (n + 1)) = _ from e]
      simp only [List.mem_append, ih2, lt, or_and_right, exists_or, exists_eq_left]

theorem trip_keys (X3 : BufTy.Contents (Elt F) arg3.view.ty) (X4 : BufTy.Contents (Elt F) arg4.view.ty) (k : Fin k0_t1_loop.trips) :
    (tripL_k0_t1 (F := F) Variants.none c none i arg2 harg2 arg3 harg3 arg4 harg4 arg5 harg5 arg6 harg6 arg7 harg7 arg8 harg8 arg9 harg9 arg10 harg10 arg11 harg11 arg12 harg12 h1 X3 X4 k).1
      = [⟨Rect.unit (s := S4608x256) (k0_off2 k) S512x256.size (k0_off2_inb i k h1),
          k0_pay2 (View.ld (View.read (Elt F) arg3.view X3) (Rect.unit (s := S1x4096x256) (k0_off1 k) S1x512x256.size (k0_off1_inb i k h1)))⟩] := by
  unfold tripL_k0_t1 trip_k0_t1; rfl

theorem trip_values (X3 : BufTy.Contents (Elt F) arg3.view.ty) (X4 : BufTy.Contents (Elt F) arg4.view.ty) (k : Fin k0_t1_loop.trips) :
    (tripL_k0_t1 (F := F) Variants.none c none i arg2 harg2 arg3 harg3 arg4 harg4 arg5 harg5 arg6 harg6 arg7 harg7 arg8 harg8 arg9 harg9 arg10 harg10 arg11 harg11 arg12 harg12 h1 X3 X4 k).2
      = [⟨Rect.unit (s := S4x80x4608) (k0_off6 k) S1x64x512.size (k0_off6_inb i k h1),
          k0_pay7 (View.ld (View.read (Elt F) arg4.view X4) (Rect.unit (s := S1x4096x256) (k0_off1 k) S1x512x256.size (k0_off1_inb i k h1)))⟩,
         ⟨Rect.unit (s := S4x80x4608) (k0_off5 k) S1x64x512.size (k0_off5_inb i k h1),
          k0_pay6 (View.ld (View.read (Elt F) arg4.view X4) (Rect.unit (s := S1x4096x256) (k0_off1 k) S1x512x256.size (k0_off1_inb i k h1)))⟩,
         ⟨Rect.unit (s := S4x80x4608) (k0_off4 k) S1x64x512.size (k0_off4_inb i k h1),
          k0_pay5 (View.ld (View.read (Elt F) arg4.view X4) (Rect.unit (s := S1x4096x256) (k0_off1 k) S1x512x256.size (k0_off1_inb i k h1)))⟩,
         ⟨Rect.unit (s := S4x80x4608) (k0_off3 k) S1x64x512.size (k0_off3_inb i k h1),
          k0_pay4 (View.ld (View.read (Elt F) arg4.view X4) (Rect.unit (s := S1x4096x256) (k0_off1 k) S1x512x256.size (k0_off1_inb i k h1)))⟩] := by
  unfold tripL_k0_t1 trip_k0_t1; rfl

variable (x1 x2 : Vec F S1x4096x256 .f32) (x3 x4 : Vec F S1x1x512x256 .f32)

/-- The stores into the keys. -/
theorem fill_keys_eq : (fillRun (F := F) c i arg2 harg2 arg3 harg3 arg4 harg4 arg5 harg5 arg6 harg6 arg7 harg7 arg8 harg8 arg9 harg9 arg10 harg10 arg11 harg11 arg12 harg12 h1 x1 x2 x3 x4).1
    = ⟨Rect.unit (s := S4608x256) ![4096, 0] S512x256.size inb_S4608x256_S512x256_4096_0, k0_pay8 (View.ld (View.read (Elt F) arg5.view (harg5.unread x3)) (Rect.unit (s := S1x1x512x256) ![0, 0, 0, 0] S1x1x512x256.size inb_S1x1x512x256_S1x1x512x256_0_0_0_0))⟩
      :: (pb_k0_t1 (F := F) Variants.none c none i arg2 harg2 arg3 harg3 arg4 harg4 arg5 harg5 arg6 harg6 arg7 harg7 arg8 harg8 arg9 harg9 arg10 harg10 arg11 harg11 arg12 harg12 h1 (harg3.unread x1) (harg4.unread x2) k0_t1_loop.trips).1 := rfl

/-- The stores into the values. -/
theorem fill_values_eq : (fillRun (F := F) c i arg2 harg2 arg3 harg3 arg4 harg4 arg5 harg5 arg6 harg6 arg7 harg7 arg8 harg8 arg9 harg9 arg10 harg10 arg11 harg11 arg12 harg12 h1 x1 x2 x3 x4).2.1
    = ⟨Rect.unit (s := S4x80x4608) ![0, 64, 0] S4x16x4608.size inb_S4x80x4608_S4x16x4608_0_64_0, k0_pay14 (FloatOps.ofBits .bf16 0x3F80#16)⟩
      :: ⟨Rect.unit (s := S4x80x4608) ![3, 0, 4096] S1x64x512.size inb_S4x80x4608_S1x64x512_3_0_4096, k0_pay13 (View.ld (View.read (Elt F) arg6.view (harg6.unread x4)) (Rect.unit (s := S1x1x512x256) ![0, 0, 0, 0] S1x1x512x256.size inb_S1x1x512x256_S1x1x512x256_0_0_0_0))⟩
      :: ⟨Rect.unit (s := S4x80x4608) ![2, 0, 4096] S1x64x512.size inb_S4x80x4608_S1x64x512_2_0_4096, k0_pay12 (View.ld (View.read (Elt F) arg6.view (harg6.unread x4)) (Rect.unit (s := S1x1x512x256) ![0, 0, 0, 0] S1x1x512x256.size inb_S1x1x512x256_S1x1x512x256_0_0_0_0))⟩
      :: ⟨Rect.unit (s := S4x80x4608) ![1, 0, 4096] S1x64x512.size inb_S4x80x4608_S1x64x512_1_0_4096, k0_pay11 (View.ld (View.read (Elt F) arg6.view (harg6.unread x4)) (Rect.unit (s := S1x1x512x256) ![0, 0, 0, 0] S1x1x512x256.size inb_S1x1x512x256_S1x1x512x256_0_0_0_0))⟩
      :: ⟨Rect.unit (s := S4x80x4608) ![0, 0, 4096] S1x64x512.size inb_S4x80x4608_S1x64x512_0_0_4096, k0_pay10 (View.ld (View.read (Elt F) arg6.view (harg6.unread x4)) (Rect.unit (s := S1x1x512x256) ![0, 0, 0, 0] S1x1x512x256.size inb_S1x1x512x256_S1x1x512x256_0_0_0_0))⟩
      :: (pb_k0_t1 (F := F) Variants.none c none i arg2 harg2 arg3 harg3 arg4 harg4 arg5 harg5 arg6 harg6 arg7 harg7 arg8 harg8 arg9 harg9 arg10 harg10 arg11 harg11 arg12 harg12 h1 (harg3.unread x1) (harg4.unread x2) k0_t1_loop.trips).2 := rfl

theorem zero4 : (![0, 0, 0, 0] : Fin 4 → ℕ) = fun _ => 0 := by funext a; fin_cases a <;> rfl

/-- After the fill the key scratch holds the keys. -/
theorem fill_keys (f : BufTy.Contents (Elt F) arg10.view.ty) :
    View.read (Elt F) arg10.view (arg10.view.writes (Elt F) f (fillRun (F := F) c i arg2 harg2 arg3 harg3 arg4 harg4 arg5 harg5 arg6 harg6 arg7 harg7 arg8 harg8 arg9 harg9 arg10 harg10 arg11 harg11 arg12 harg12 h1 x1 x2 x3 x4).1) = KS x1 x3 := by
  have hmem := (mem_pb c i arg2 harg2 arg3 harg3 arg4 harg4 arg5 harg5 arg6 harg6 arg7 harg7 arg8 harg8 arg9 harg9 arg10 harg10 arg11 harg11 arg12 harg12 h1 (harg3.unread x1) (harg4.unread x2) k0_t1_loop.trips le_rfl).1
  rw [fill_keys_eq]
  funext y
  refine View.read_writes_apply_of_pieces arg10.view f (KS x1 x3) _ ?_ y ?_
  · intro p hp x
    rcases List.mem_cons.1 hp with rfl | hp
    · rw [harg5.read_unread, View.ld_unit_zero zero4]
      exact cache_keys_piece x1 x3 inb_S4608x256_S512x256_4096_0 x
    · obtain ⟨k, -, hk⟩ := (hmem p).1 hp
      rw [trip_keys, harg3.read_unread, List.mem_singleton] at hk
      subst hk
      exact keys_piece x1 x3 (512 * k.val) (off2_eq k) (off1_eq k) (k0_off2_inb i k h1) (k0_off1_inb i k h1) x
  · have hy : (y 0).val < 4608 := (y 0).isLt
    have hy1 : (y 1).val < 256 := (y 1).isLt
    by_cases h : (y 0).val < 4096
    · have hk : (y 0).val / 512 < k0_t1_loop.trips := by rw [trips_eq]; omega
      refine ⟨_, List.mem_cons_of_mem _ ((hmem _).2 ⟨⟨_, hk⟩, hk, by rw [trip_keys]; exact List.mem_singleton.2 rfl⟩), ?_⟩
      rw [Rect.mem_set_unit, off2_eq]
      intro a; fin_cases a
      · show 512 * ((y 0).val / 512) ≤ (y 0).val ∧ (y 0).val < 512 * ((y 0).val / 512) + 512; omega
      · show 0 ≤ (y 1).val ∧ (y 1).val < 0 + 256; omega
    · refine ⟨_, List.mem_cons_self, ?_⟩
      rw [Rect.mem_set_unit]
      intro a; fin_cases a
      · show 4096 ≤ (y 0).val ∧ (y 0).val < 4096 + 512; omega
      · show 0 ≤ (y 1).val ∧ (y 1).val < 0 + 256; omega

/-- After the fill the value scratch holds the transposed values over the rows of ones. -/
theorem fill_values (f : BufTy.Contents (Elt F) arg11.view.ty) :
    View.read (Elt F) arg11.view (arg11.view.writes (Elt F) f (fillRun (F := F) c i arg2 harg2 arg3 harg3 arg4 harg4 arg5 harg5 arg6 harg6 arg7 harg7 arg8 harg8 arg9 harg9 arg10 harg10 arg11 harg11 arg12 harg12 h1 x1 x2 x3 x4).2.1) = VS x2 x4 := by
  have hmem := (mem_pb c i arg2 harg2 arg3 harg3 arg4 harg4 arg5 harg5 arg6 harg6 arg7 harg7 arg8 harg8 arg9 harg9 arg10 harg10 arg11 harg11 arg12 harg12 h1 (harg3.unread x1) (harg4.unread x2) k0_t1_loop.trips le_rfl).2
  rw [fill_values_eq]
  funext y
  refine View.read_writes_apply_of_pieces arg11.view f (VS x2 x4) _ ?_ y ?_
  · intro p hp x
    rw [harg6.read_unread, View.ld_unit_zero zero4] at hp
    rcases List.mem_cons.1 hp with rfl | hp
    · exact ones_piece x2 x4 inb_S4x80x4608_S4x16x4608_0_64_0 x
    rcases List.mem_cons.1 hp with rfl | hp
    · exact cache_values_piece3 x2 x4 inb_S4x80x4608_S1x64x512_3_0_4096 x
    rcases List.mem_cons.1 hp with rfl | hp
    · exact cache_values_piece2 x2 x4 inb_S4x80x4608_S1x64x512_2_0_4096 x
    rcases List.mem_cons.1 hp with rfl | hp
    · exact cache_values_piece1 x2 x4 inb_S4x80x4608_S1x64x512_1_0_4096 x
    rcases List.mem_cons.1 hp with rfl | hp
    · exact cache_values_piece0 x2 x4 inb_S4x80x4608_S1x64x512_0_0_4096 x
    obtain ⟨k, -, hk⟩ := (hmem p).1 hp
    rw [trip_values, harg4.read_unread] at hk
    simp only [List.mem_cons, List.not_mem_nil, or_false] at hk
    rcases hk with rfl | rfl | rfl | rfl
    · exact values_piece3 x2 x4 (512 * k.val) (off6_eq k) (off1_eq k) (k0_off6_inb i k h1) (k0_off1_inb i k h1) x
    · exact values_piece2 x2 x4 (512 * k.val) (off5_eq k) (off1_eq k) (k0_off5_inb i k h1) (k0_off1_inb i k h1) x
    · exact values_piece1 x2 x4 (512 * k.val) (off4_eq k) (off1_eq k) (k0_off4_inb i k h1) (k0_off1_inb i k h1) x
    · exact values_piece0 x2 x4 (512 * k.val) (off3_eq k) (off1_eq k) (k0_off3_inb i k h1) (k0_off1_inb i k h1) x
  · have hy0 : (y 0).val < 4 := (y 0).isLt
    have hy1 : (y 1).val < 80 := (y 1).isLt
    have hy2 : (y 2).val < 4608 := (y 2).isLt
    by_cases h64 : (y 1).val < 64
    · by_cases h : (y 2).val < 4096
      · have hk : (y 2).val / 512 < k0_t1_loop.trips := by rw [trips_eq]; omega
        have hin := trip_values (F := F) c i arg2 harg2 arg3 harg3 arg4 harg4 arg5 harg5 arg6 harg6 arg7 harg7 arg8 harg8 arg9 harg9 arg10 harg10 arg11 harg11 arg12 harg12 h1 (harg3.unread x1) (harg4.unread x2) ⟨_, hk⟩
        have hb : ∀ p ∈ (tripL_k0_t1 (F := F) Variants.none c none i arg2 harg2 arg3 harg3 arg4 harg4 arg5 harg5 arg6 harg6 arg7 harg7 arg8 harg8 arg9 harg9 arg10 harg10 arg11 harg11 arg12 harg12 h1 (harg3.unread x1) (harg4.unread x2) ⟨_, hk⟩).2,
            p ∈ (pb_k0_t1 (F := F) Variants.none c none i arg2 harg2 arg3 harg3 arg4 harg4 arg5 harg5 arg6 harg6 arg7 harg7 arg8 harg8 arg9 harg9 arg10 harg10 arg11 harg11 arg12 harg12 h1 (harg3.unread x1) (harg4.unread x2) k0_t1_loop.trips).2 :=
          fun p hp => (hmem p).2 ⟨⟨_, hk⟩, hk, hp⟩
        rw [hin] at hb
        have hc : (y 0).val = 0 ∨ (y 0).val = 1 ∨ (y 0).val = 2 ∨ (y 0).val = 3 := by omega
        rcases hc with hc | hc | hc | hc
        · refine ⟨_, List.mem_cons_of_mem _ (List.mem_cons_of_mem _ (List.mem_cons_of_mem _ (List.mem_cons_of_mem _ (List.mem_cons_of_mem _ (hb _ (List.mem_cons_of_mem _ (List.mem_cons_of_mem _ (List.mem_cons_of_mem _ List.mem_cons_self)))))))), ?_⟩
          rw [Rect.mem_set_unit, off3_eq]
          intro a; fin_cases a
          · show 0 ≤ (y 0).val ∧ (y 0).val < 0 + 1; omega
          · show 0 ≤ (y 1).val ∧ (y 1).val < 0 + 64; omega
          · show 512 * ((y 2).val / 512) ≤ (y 2).val ∧ (y 2).val < 512 * ((y 2).val / 512) + 512; omega
        · refine ⟨_, List.mem_cons_of_mem _ (List.mem_cons_of_mem _ (List.mem_cons_of_mem _ (List.mem_cons_of_mem _ (List.mem_cons_of_mem _ (hb _ (List.mem_cons_of_mem _ (List.mem_cons_of_mem _ List.mem_cons_self))))))), ?_⟩
          rw [Rect.mem_set_unit, off4_eq]
          intro a; fin_cases a
          · show 1 ≤ (y 0).val ∧ (y 0).val < 1 + 1; omega
          · show 0 ≤ (y 1).val ∧ (y 1).val < 0 + 64; omega
          · show 512 * ((y 2).val / 512) ≤ (y 2).val ∧ (y 2).val < 512 * ((y 2).val / 512) + 512; omega
        · refine ⟨_, List.mem_cons_of_mem _ (List.mem_cons_of_mem _ (List.mem_cons_of_mem _ (List.mem_cons_of_mem _ (List.mem_cons_of_mem _ (hb _ (List.mem_cons_of_mem _ List.mem_cons_self)))))), ?_⟩
          rw [Rect.mem_set_unit, off5_eq]
          intro a; fin_cases a
          · show 2 ≤ (y 0).val ∧ (y 0).val < 2 + 1; omega
          · show 0 ≤ (y 1).val ∧ (y 1).val < 0 + 64; omega
          · show 512 * ((y 2).val / 512) ≤ (y 2).val ∧ (y 2).val < 512 * ((y 2).val / 512) + 512; omega
        · refine ⟨_, List.mem_cons_of_mem _ (List.mem_cons_of_mem _ (List.mem_cons_of_mem _ (List.mem_cons_of_mem _ (List.mem_cons_of_mem _ (hb _ (List.mem_cons_self)))))), ?_⟩
          rw [Rect.mem_set_unit, off6_eq]
          intro a; fin_cases a
          · show 3 ≤ (y 0).val ∧ (y 0).val < 3 + 1; omega
          · show 0 ≤ (y 1).val ∧ (y 1).val < 0 + 64; omega
          · show 512 * ((y 2).val / 512) ≤ (y 2).val ∧ (y 2).val < 512 * ((y 2).val / 512) + 512; omega
      · have hc : (y 0).val = 0 ∨ (y 0).val = 1 ∨ (y 0).val = 2 ∨ (y 0).val = 3 := by omega
        rcases hc with hc | hc | hc | hc
        · refine ⟨_, List.mem_cons_of_mem _ (List.mem_cons_of_mem _ (List.mem_cons_of_mem _ (List.mem_cons_of_mem _ (List.mem_cons_self)))), ?_⟩
          rw [Rect.mem_set_unit]
          intro a; fin_cases a
          · show 0 ≤ (y 0).val ∧ (y 0).val < 0 + 1; omega
          · show 0 ≤ (y 1).val ∧ (y 1).val < 0 + 64; omega
          · show 4096 ≤ (y 2).val ∧ (y 2).val < 4096 + 512; omega
        · refine ⟨_, List.mem_cons_of_mem _ (List.mem_cons_of_mem _ (List.mem_cons_of_mem _ (List.mem_cons_self))), ?_⟩
          rw [Rect.mem_set_unit]
          intro a; fin_cases a
          · show 1 ≤ (y 0).val ∧ (y 0).val < 1 + 1; omega
          · show 0 ≤ (y 1).val ∧ (y 1).val < 0 + 64; omega
          · show 4096 ≤ (y 2).val ∧ (y 2).val < 4096 + 512; omega
        · refine ⟨_, List.mem_cons_of_mem _ (List.mem_cons_of_mem _ (List.mem_cons_self)), ?_⟩
          rw [Rect.mem_set_unit]
          intro a; fin_cases a
          · show 2 ≤ (y 0).val ∧ (y 0).val < 2 + 1; omega
          · show 0 ≤ (y 1).val ∧ (y 1).val < 0 + 64; omega
          · show 4096 ≤ (y 2).val ∧ (y 2).val < 4096 + 512; omega
        · refine ⟨_, List.mem_cons_of_mem _ (List.mem_cons_self), ?_⟩
          rw [Rect.mem_set_unit]
          intro a; fin_cases a
          · show 3 ≤ (y 0).val ∧ (y 0).val < 3 + 1; omega
          · show 0 ≤ (y 1).val ∧ (y 1).val < 0 + 64; omega
          · show 4096 ≤ (y 2).val ∧ (y 2).val < 4096 + 512; omega
    · refine ⟨_, List.mem_cons_self, ?_⟩
      rw [Rect.mem_set_unit]
      intro a; fin_cases a
      · show 0 ≤ (y 0).val ∧ (y 0).val < 0 + 4; omega
      · show 64 ≤ (y 1).val ∧ (y 1).val < 64 + 16; omega
      · show 0 ≤ (y 2).val ∧ (y 2).val < 0 + 4608; omega

end

end Cert.KernelIdeal.Attn
-- ==== Proof.Body.lean ====
/- The body at every grid point, with what it stores: where the scratch is refilled, and where it is not. -/
module

public import proofs.«01_k».proof.Proof.Words
public import proofs.«01_k».proof.Proof.Masked
public import proofs.«01_k».proof.Proof.Fill
public import Idealize.ShloMosaic.Lib.VecWindow

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The block of results from the block of queries, the parameters and the scratch. -/
def outB (x0 : Vec F S1x256x256 .f32) (x5 : Vec F S4x32 .f32) (x6 : Vec F S1x256 .f32) (K : Vec F S4608x256 .bf16)
    (V : Vec F S4x80x4608 .bf16) : Vec F S1x256x256 .bf16 :=
  outM (fun j => masked (k0_pay16 x0) j) x5 x6 K V

theorem runB_read (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x1x512x256 .f32) (harg5 : arg5.IsWhole) (arg6 : Memref sig .tc .vmem S1x1x512x256 .f32) (harg6 : arg6.IsWhole) (arg7 : Memref sig .tc .vmem S4x32 .f32) (harg7 : arg7.IsWhole) (arg8 : Memref sig .tc .vmem S1x256 .f32) (harg8 : arg8.IsWhole) (arg9 : Memref sig .tc .vmem S1x256x256 .bf16) (harg9 : arg9.IsWhole) (arg10 : Memref sig .tc .vmem S4608x256 .bf16) (harg10 : arg10.IsWhole) (arg11 : Memref sig .tc .vmem S4x80x4608 .bf16) (harg11 : arg11.IsWhole) (arg12 : Memref sig .tc .vmem S8x256x256 .bf16) (harg12 : arg12.IsWhole) (hc0 : ¬ (k0_cond1 i = 1#1))
    (x0 : Vec F S1x256x256 .f32) (x5 : Vec F S4x32 .f32) (x6 : Vec F S1x256 .f32) (K : Vec F S4608x256 .bf16) (V : Vec F S4x80x4608 .bf16) :
    View.read (Elt F) arg9.view (runB (F := F) c i arg2 harg2 arg3 harg3 arg4 harg4 arg5 harg5 arg6 harg6 arg7 harg7 arg8 harg8 arg9 harg9 arg10 harg10 arg11 harg11 arg12 harg12 hc0 x0 x5 x6 K V).1 = outB x0 x5 x6 K V := by
  have e : (runB (F := F) c i arg2 harg2 arg3 harg3 arg4 harg4 arg5 harg5 arg6 harg6 arg7 harg7 arg8 harg8 arg9 harg9 arg10 harg10 arg11 harg11 arg12 harg12 hc0 x0 x5 x6 K V).1
      = arg9.view.writes (Elt F) arg9.view.junk (runB.sl.H7_1 (F := F) c arg2 harg2 arg7 harg7 arg8 harg8 arg10 harg10 arg11 harg11 arg12 x0 x5 x6 K V) := by
    unfold runB; with_reducible rfl
  rw [e]; unfold runB.sl.H7_1
  refine (View.read_writes_full (Val := Elt F) arg9.view _ inb_S1x256x256_S1x256x256_0_0_0 _ []).trans ?_
  rw [block_eq, harg7.read_unread, harg8.read_unread, harg10.read_unread, harg11.read_unread]
  unfold outB
  congr 1
  funext j
  rw [qs_eq, harg2.read_unread]

/-- Where the scratch is kept. -/
theorem body_keep (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x1x512x256 .f32) (harg5 : arg5.IsWhole) (arg6 : Memref sig .tc .vmem S1x1x512x256 .f32) (harg6 : arg6.IsWhole) (arg7 : Memref sig .tc .vmem S4x32 .f32) (harg7 : arg7.IsWhole) (arg8 : Memref sig .tc .vmem S1x256 .f32) (harg8 : arg8.IsWhole) (arg9 : Memref sig .tc .vmem S1x256x256 .bf16) (harg9 : arg9.IsWhole) (arg10 : Memref sig .tc .vmem S4608x256 .bf16) (harg10 : arg10.IsWhole) (arg11 : Memref sig .tc .vmem S4x80x4608 .bf16) (harg11 : arg11.IsWhole) (arg12 : Memref sig .tc .vmem S8x256x256 .bf16) (harg12 : arg12.IsWhole) (hc0 : ¬ (k0_cond1 i = 1#1))
    (x0 : Vec F S1x256x256 .f32) (x5 : Vec F S4x32 .f32) (x6 : Vec F S1x256 .f32) (KK : Vec F S4608x256 .bf16) (VV : Vec F S4x80x4608 .bf16)
    (E : Set ℕ) (K : PUnit → sProp 𝕄) :
    iprop(owns (c : Thread nD τ) arg2 fullShare x0 ∗ owns (c : Thread nD τ) arg7 fullShare x5 ∗ owns (c : Thread nD τ) arg8 fullShare x6 ∗ (∃ d, owns (c : Thread nD τ) arg9 fullShare d) ∗ owns (c : Thread nD τ) arg10 fullShare KK ∗ owns (c : Thread nD τ) arg11 fullShare VV ∗ (∃ d, owns (c : Thread nD τ) arg12 fullShare d)
        ∗ (iprop(owns (c : Thread nD τ) arg2 fullShare x0 ∗ owns (c : Thread nD τ) arg7 fullShare x5 ∗ owns (c : Thread nD τ) arg8 fullShare x6 ∗ owns (c : Thread nD τ) arg9 fullShare (outB x0 x5 x6 KK VV) ∗ owns (c : Thread nD τ) arg10 fullShare KK ∗ owns (c : Thread nD τ) arg11 fullShare VV ∗ (∃ d, owns (c : Thread nD τ) arg12 fullShare d)) -∗ K ⟨⟩))
      ⊢ wp frame (wpE (defs₀ (F := F)) Variants.none c none) E (cc0_diff_attention (F := F) i arg2 harg2 arg3 harg3 arg4 harg4 arg5 harg5 arg6 harg6 arg7 harg7 arg8 harg8 arg9 harg9 arg10 harg10 arg11 harg11 arg12 harg12) K := by
  iintro ⟨H0, H5, H6, H7, HS0, HS1, HS2, Hk⟩
  iapply ((runB (F := F) c i arg2 harg2 arg3 harg3 arg4 harg4 arg5 harg5 arg6 harg6 arg7 harg7 arg8 harg8 arg9 harg9 arg10 harg10 arg11 harg11 arg12 harg12 hc0 x0 x5 x6 KK VV).2 E K)
  isplitl [H0]; · iexact H0
  isplitl [H5]; · iexact H5
  isplitl [H6]; · iexact H6
  isplitl [H7]; · iexact H7
  isplitl [HS0]; · iexact HS0
  isplitl [HS1]; · iexact HS1
  isplitl [HS2]; · iexact HS2
  iintro ⟨H0, H5, H6, H7, HS0, HS1, HS2⟩
  iapply Hk
  isplitl [H0]; · iexact H0
  isplitl [H5]; · iexact H5
  isplitl [H6]; · iexact H6
  isplitl [H7]
  · unfold owns; iexists _; isplitr; · ipureintro; exact runB_read c i arg2 harg2 arg3 harg3 arg4 harg4 arg5 harg5 arg6 harg6 arg7 harg7 arg8 harg8 arg9 harg9 arg10 harg10 arg11 harg11 arg12 harg12 hc0 x0 x5 x6 KK VV
    iexact H7
  isplitl [HS0]; · iexact HS0
  isplitl [HS1]; · iexact HS1
  iexact HS2

/-- Where the scratch is refilled. `i0` is any point that keeps it. -/
theorem body_fill (c : Dev nD) (i i0 : grid0.Coords) (arg2 : Memref sig .tc .vmem S1x256x256 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x1x512x256 .f32) (harg5 : arg5.IsWhole) (arg6 : Memref sig .tc .vmem S1x1x512x256 .f32) (harg6 : arg6.IsWhole) (arg7 : Memref sig .tc .vmem S4x32 .f32) (harg7 : arg7.IsWhole) (arg8 : Memref sig .tc .vmem S1x256 .f32) (harg8 : arg8.IsWhole) (arg9 : Memref sig .tc .vmem S1x256x256 .bf16) (harg9 : arg9.IsWhole) (arg10 : Memref sig .tc .vmem S4608x256 .bf16) (harg10 : arg10.IsWhole) (arg11 : Memref sig .tc .vmem S4x80x4608 .bf16) (harg11 : arg11.IsWhole) (arg12 : Memref sig .tc .vmem S8x256x256 .bf16) (harg12 : arg12.IsWhole) (h1 : k0_cond1 i = 1#1) (h0 : ¬ (k0_cond1 i0 = 1#1))
    (x0 : Vec F S1x256x256 .f32) (x1 x2 : Vec F S1x4096x256 .f32) (x3 x4 : Vec F S1x1x512x256 .f32) (x5 : Vec F S4x32 .f32) (x6 : Vec F S1x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (outB x0 x5 x6 (KS x1 x3) (VS x2 x4)) ∗ owns (c : Thread nD τ) arg10 fullShare (KS x1 x3) ∗ owns (c : Thread nD τ) arg11 fullShare (VS x2 x4) ∗ (∃ d, owns (c : Thread nD τ) arg12 fullShare d)) -∗ K ⟨⟩))
      ⊢ wp frame (wpE (defs₀ (F := F)) Variants.none c none) E (cc0_diff_attention (F := F) i arg2 harg2 arg3 harg3 arg4 harg4 arg5 harg5 arg6 harg6 arg7 harg7 arg8 harg8 arg9 harg9 arg10 harg10 arg11 harg11 arg12 harg12) K := by
  rw [caseA_eq i i0 arg2 harg2 arg3 harg3 arg4 harg4 arg5 harg5 arg6 harg6 arg7 harg7 arg8 harg8 arg9 harg9 arg10 harg10 arg11 harg11 arg12 harg12 h1 h0, wp_bind]
  unfold owns
  iintro ⟨H0, H1, H2, H3, H4, H5, H6, H7, ⟨%d10, %f10, -, HS0⟩, ⟨%d11, %f11, -, HS1⟩, HS2, Hk⟩
  iapply ((fillRun (F := F) c i arg2 harg2 arg3 harg3 arg4 harg4 arg5 harg5 arg6 harg6 arg7 harg7 arg8 harg8 arg9 harg9 arg10 harg10 arg11 harg11 arg12 harg12 h1 x1 x2 x3 x4).2.2 f10 f11 E _)
  unfold owns
  isplitl [H1]; · iexact H1
  isplitl [H2]; · iexact H2
  isplitl [H3]; · iexact H3
  isplitl [H4]; · iexact H4
  isplitl [HS0]; · iexact HS0
  isplitl [HS1]; · iexact HS1
  iintro ⟨H1, H2, H3, H4, HS0, HS1⟩
  iapply (body_keep (F := F) c i0 arg2 harg2 arg3 harg3 arg4 harg4 arg5 harg5 arg6 harg6 arg7 harg7 arg8 harg8 arg9 harg9 arg10 harg10 arg11 harg11 arg12 harg12 h0 x0 x5 x6 (KS x1 x3) (VS x2 x4) E K)
  unfold owns
  isplitl [H0]; · iexact H0
  isplitl [H5]; · iexact H5
  isplitl [H6]; · iexact H6
  isplitl [H7]; · iexact H7
  isplitl [HS0]
  · iexists _; isplitr; · ipureintro; exact fill_keys c i arg2 harg2 arg3 harg3 arg4 harg4 arg5 harg5 arg6 harg6 arg7 harg7 arg8 harg8 arg9 harg9 arg10 harg10 arg11 harg11 arg12 harg12 h1 x1 x2 x3 x4 f10
    iexact HS0
  isplitl [HS1]
  · iexists _; isplitr; · ipureintro; exact fill_values c i arg2 harg2 arg3 harg3 arg4 harg4 arg5 harg5 arg6 harg6 arg7 harg7 arg8 harg8 arg9 harg9 arg10 harg10 arg11 harg11 arg12 harg12 h1 x1 x2 x3 x4 f11
    iexact HS1
  isplitl [HS2]; · iexact HS2
  iintro ⟨H0, H5, H6, H7, HS0, HS1, HS2⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iexact HS2

end Cert.KernelIdeal.Attn
-- ==== Proof.Launch.lean ====
/- The launch: what the scratch holds between grid points, the body at each point, and the whole run. -/
module

public import proofs.«01_k».proof.Proof.Body
public import proofs.«01_k».proof.Proof.Gen.KernelIdeal.Frame
public import proofs.«01_k».proof.Proof.Gen.KernelIdeal.Points
public import proofs.«01_k».proof.Proof.Gen.KernelIdeal.Launch
public import Idealize.ShloMosaic.Lib.Pipeline.Frame
public import Idealize.ShloMosaic.Lib.Pipeline.FrameBody
public import Idealize.ShloMosaic.Lib.Pipeline.Value
public import Idealize.ShloMosaic.Lib.Claim

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The scratch is refilled at the first query block of each batch. -/
theorem refill_iff : ∀ t : Fin cfg0.N, k0_cond1 (grid0.coords t) = 1#1 ↔ t.val % 16 = 0 :=
  (fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 1 % 16 := Pipeline.Grid.coords_val t 1 (by decide) rfl
    simp only [k0_cond1, e0, e1]
    word_cmp
   : ∀ t : Fin grid0.N, k0_cond1 (grid0.coords t) = 1#1 ↔ t.val % 16 = 0)

/-- The three scratch buffers, whole. -/
abbrev sK : Memref sig .tc .vmem S4608x256 .bf16 := Memref.whole cc0_scratch0
abbrev sV : Memref sig .tc .vmem S4x80x4608 .bf16 := Memref.whole cc0_scratch1
abbrev sQ : Memref sig .tc .vmem S8x256x256 .bf16 := Memref.whole cc0_scratch2

/-- Each window's staging memref at a point. -/
abbrev ms0 (t : Fin cfg0.N) : Memref sig .tc .vmem S1x256x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x4096x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x512x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x512x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4x32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x256x256 .bf16 := win0_7.stage (cfg0.slots t 7)
abbrev hs7 (t : Fin cfg0.N) : (ms7 t).IsWhole := hstage0_7 ((cfg0.slots t 7).cast nbuf0_7)

/-- The launch's invariant with the scratch buffers spelled as memrefs. -/
theorem phi_eq (c : Dev nD) :
    (Pipeline.ΦA spec0 c : sProp 𝕄)
      = iprop(iprop((∃ d, owns (c : Thread nD τ) sK fullShare d) ∗ (∃ d, owns (c : Thread nD τ) sV fullShare d) ∗ (∃ d, owns (c : Thread nD τ) sQ fullShare d)) ∗ (∃ r, prngReg c r)) := by
  unfold Pipeline.ΦA; rw [scopedRest0_eq]; simp only [sK, sV, sQ, owns_whole]; try rfl

/-- The keys and the values the scratch holds after point `t`: those of the point's batch. -/
def keysAt (c : Dev nD) (t : Fin cfg0.N) : Vec F S4608x256 .bf16 := KS (iblk m c 1 t) (iblk m c 3 t)
def valsAt (c : Dev nD) (t : Fin cfg0.N) : Vec F S4x80x4608 .bf16 := VS (iblk m c 2 t) (iblk m c 4 t)

/-- The block of results stored at point `t`. -/
def outAt (c : Dev nD) (t : Fin cfg0.N) : Vec F S1x256x256 .bf16 :=
  outB (iblk m c 0 t) (iblk m c 5 t) (iblk m c 6 t) (keysAt m c t) (valsAt m c t)

/-- The invariant after point `t`: the scratch holds the batch's keys and values. -/
def held (c : Dev nD) (t : Fin cfg0.N) : sProp 𝕄 :=
  iprop(iprop(owns (c : Thread nD τ) sK fullShare (keysAt m c t) ∗ owns (c : Thread nD τ) sV fullShare (valsAt m c t) ∗ (∃ d, owns (c : Thread nD τ) sQ fullShare d)) ∗ (∃ r, prngReg c r))

/-- The invariant before point number `n`. -/
def track (c : Dev nD) : (n : Nat) → n < cfg0.N + 1 → sProp 𝕄
  | 0, _ => Pipeline.ΦA spec0 c
  | n + 1, h => held m c ⟨n, Nat.lt_of_succ_lt_succ h⟩

theorem held_phi (c : Dev nD) (t : Fin cfg0.N) : held m c t ⊢ (Pipeline.ΦA spec0 c : sProp 𝕄) := by
  rw [phi_eq]; unfold held
  iintro ⟨⟨H0, H1, H2⟩, Hg⟩
  isplitl [H0 H1 H2]
  · isplitl [H0]; · iexists _; iexact H0
    isplitl [H1]; · iexists _; iexact H1
    iexact H2
  iexact Hg

theorem track_phi (c : Dev nD) (n : Nat) (h : n < cfg0.N + 1) : track m c n h ⊢ (Pipeline.ΦA spec0 c : sProp 𝕄) := by
  cases n with
  | zero => exact .rfl
  | succ n => exact held_phi m c _

/-- The proof data: every input keeps its block, the result's block is `outAt`, the invariant is `track`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := track m c t.val t.isLt
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- Where a window is not fetched its block is the one of the point before. -/
theorem iblk1_prev (c : Dev nD) (t : Fin cfg0.N) (h : ¬ t.val % 16 = 0) :
    iblk m c 1 ⟨t.val - 1, Nat.lt_of_le_of_lt (Nat.sub_le _ _) t.isLt⟩ = iblk m c 1 t := by
  have hf : (cfg0.win 1).fetch t = false := by
    rw [← Bool.not_eq_true]; exact fun e => h ((fetch0_1 t).mp e)
  obtain ⟨_, hix⟩ := (cfg0.win 1).index_eq_of_fetch rfl t hf
  have e := (dats m 0 c).fetched_congr 1 hix.symm rfl (fun _ => Nonempty.some inferInstance)
  have k : ∀ s d, (dats m 0 c).fetched 1 s d = iblk m c 1 s := fun s d => by
    unfold Dat.fetched Dat.blockOf iblk; rw [A_eq]; try rfl
  rw [k, k] at e
  exact e

theorem iblk2_prev (c : Dev nD) (t : Fin cfg0.N) (h : ¬ t.val % 16 = 0) :
    iblk m c 2 ⟨t.val - 1, Nat.lt_of_le_of_lt (Nat.sub_le _ _) t.isLt⟩ = iblk m c 2 t := by
  have hf : (cfg0.win 2).fetch t = false := by
    rw [← Bool.not_eq_true]; exact fun e => h ((fetch0_2 t).mp e)
  obtain ⟨_, hix⟩ := (cfg0.win 2).index_eq_of_fetch rfl t hf
  have e := (dats m 0 c).fetched_congr 2 hix.symm rfl (fun _ => Nonempty.some inferInstance)
  have k : ∀ s d, (dats m 0 c).fetched 2 s d = iblk m c 2 s := fun s d => by
    unfold Dat.fetched Dat.blockOf iblk; rw [A_eq]; try rfl
  rw [k, k] at e
  exact e

theorem iblk3_prev (c : Dev nD) (t : Fin cfg0.N) (h : ¬ t.val % 16 = 0) :
    iblk m c 3 ⟨t.val - 1, Nat.lt_of_le_of_lt (Nat.sub_le _ _) t.isLt⟩ = iblk m c 3 t := by
  have hf : (cfg0.win 3).fetch t = false := by
    rw [← Bool.not_eq_true]; exact fun e => h ((fetch0_3 t).mp e)
  obtain ⟨_, hix⟩ := (cfg0.win 3).index_eq_of_fetch rfl t hf
  have e := (dats m 0 c).fetched_congr 3 hix.symm rfl (fun _ => Nonempty.some inferInstance)
  have k : ∀ s d, (dats m 0 c).fetched 3 s d = iblk m c 3 s := fun s d => by
    unfold Dat.fetched Dat.blockOf iblk; rw [A_eq]; try rfl
  rw [k, k] at e
  exact e

theorem iblk4_prev (c : Dev nD) (t : Fin cfg0.N) (h : ¬ t.val % 16 = 0) :
    iblk m c 4 ⟨t.val - 1, Nat.lt_of_le_of_lt (Nat.sub_le _ _) t.isLt⟩ = iblk m c 4 t := by
  have hf : (cfg0.win 4).fetch t = false := by
    rw [← Bool.not_eq_true]; exact fun e => h ((fetch0_4 t).mp e)
  obtain ⟨_, hix⟩ := (cfg0.win 4).index_eq_of_fetch rfl t hf
  have e := (dats m 0 c).fetched_congr 4 hix.symm rfl (fun _ => Nonempty.some inferInstance)
  have k : ∀ s d, (dats m 0 c).fetched 4 s d = iblk m c 4 s := fun s d => by
    unfold Dat.fetched Dat.blockOf iblk; rw [A_eq]; try rfl
  rw [k, k] at e
  exact e

theorem keysAt_prev (c : Dev nD) (t : Fin cfg0.N) (h : ¬ t.val % 16 = 0) :
    keysAt m c ⟨t.val - 1, Nat.lt_of_le_of_lt (Nat.sub_le _ _) t.isLt⟩ = keysAt m c t := by
  unfold keysAt; rw [iblk1_prev m c t h, iblk3_prev m c t h]

theorem valsAt_prev (c : Dev nD) (t : Fin cfg0.N) (h : ¬ t.val % 16 = 0) :
    valsAt m c ⟨t.val - 1, Nat.lt_of_le_of_lt (Nat.sub_le _ _) t.isLt⟩ = valsAt m c t := by
  unfold valsAt; rw [iblk2_prev m c t h, iblk4_prev m c t h]

/-- Between two points of one batch the scratch holds that batch's keys and values. -/
theorem track_mid (c : Dev nD) (t : Fin cfg0.N) (h : ¬ t.val % 16 = 0) (hlt : t.val < cfg0.N + 1) :
    track m c t.val hlt = held m c t := by
  obtain ⟨n, hn⟩ := t
  cases n with
  | zero => exact absurd rfl h
  | succ n =>
    show held m c ⟨n, _⟩ = _
    unfold held
    have e1 := keysAt_prev m c ⟨n + 1, hn⟩ h
    have e2 := valsAt_prev m c ⟨n + 1, hn⟩ h
    simp only [Nat.add_sub_cancel] at e1 e2
    rw [e1, e2]

/-! ## The body at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = held m c t from rfl,
    show (dats m 0 c).owesAt () t.succ = (dats m 0 c).owesAt () t.castSucc from rfl,
    after0, after1, after2, after3, after4, after5, after6, after7]
  have hN : t.val < 64 := lt_of_lt_of_eq t.isLt (show cfg0.N = 64 from N_0)
  by_cases h0 : t.val % 16 = 0
  · refine (sep_mono_left (track_phi m c t.castSucc.val t.castSucc.isLt)).trans ?_
    rw [phi_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_fill c (grid0.coords t) (grid0.coords ⟨1, by decide⟩) _ _ _ _ _ _ _ _ _ _ _ _ _ _ _ _ _ _ _ _ _ _ ((refill_iff t).mpr h0) (fun h => absurd ((refill_iff ⟨1, by decide⟩).mp h) (by decide)) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · unfold held keysAt valsAt
      isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold outAt keysAt valsAt
    iexact H7
  · rw [show (dats m 0 c).Φ t.castSucc = held m c t from track_mid m c t h0 _]
    unfold held outAt
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_keep c (grid0.coords t) _ _ _ _ _ _ _ _ _ _ _ _ _ _ _ _ _ _ _ _ _ _ (fun h => h0 ((refill_iff t).mp h)) (iblk m c 0 t) (iblk m c 5 t) (iblk m c 6 t) (keysAt m c t) (valsAt m c t) Set.univ _)
    isplitl [H0]; · iexact H0
    isplitl [H5]; · iexact H5
    isplitl [H6]; · iexact H6
    isplitl [H7]; · iexists _; iexact H7
    isplitl [HS0]; · iexact HS0
    isplitl [HS1]; · iexact HS1
    isplitl [HS2]; · iexact HS2
    iintro ⟨H0, H5, H6, H7, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The whole run: every array as the proof data says, every counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun _ => .rfl) (hout := fun c => track_phi m c cfg0.N (Nat.lt_succ_self _))

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.KernelIdeal.Attn

end
-- ==== Proof.FrameBits.lean ====
/- The frame of the printed kernel: the run of `Launch.lean` at the bit-exact floats, the named constant read as its own word. -/
module

public import proofs.«01_k».proof.Defs
public import proofs.«01_k».proof.Proof.Gen.Kernel
public import proofs.«01_k».proof.Proof.Launch

@[expose] public section

set_option maxRecDepth 16384

noncomputable section

namespace Cert.Attn

open Idealize.ShloMosaic Idealize.SL.Sem Idealize.ShloMosaic.TcCoe

/-- A named constant at the bit-exact floats: its word. -/
@[reducible] def words : Named Bits := ⟨fun _ _ φ w => Scalar.ofBits φ w⟩

local instance : Named Bits := words

/-- The printed kernel's body table is the idealized one's at the bit-exact floats. -/
theorem bodies : @Cert.Kernel.defs₀ Bits _ _ = @Cert.KernelIdeal.defs₀ Bits _ _ _ := by
  unfold Cert.Kernel.defs₀ Cert.KernelIdeal.defs₀
  refine congrArg Defs.onTc ?_
  funext l a
  match l, a with
  | ⟨0, _⟩, (t, s) => rfl

theorem table : @Cert.Kernel.defs Bits _ _ = @Cert.KernelIdeal.defs Bits _ _ _ :=
  congrArg (Pipeline.defs Cert.KernelIdeal.pcfgs) bodies

theorem frame_kernel : Cert.quiescent_Kernel := fun m ρ h => by
  have e := Cert.KernelIdeal.Attn.frame (F := Bits) m ρ
  rw [← table] at e
  exact e

end Cert.Attn
-- ==== Proof.PayAt.lean ====
/- The printed values of the attention kernel's body at an index, over the extended reals. -/
module

public import proofs.«01_k».proof.Proof.Model
public import proofs.«01_k».proof.Proof.Masked
public import Idealize.ShloMosaic.PureOps.Ideal
public import Idealize.ShloMosaic.Lib.Pointwise

@[expose] public section

set_option maxRecDepth 16384

noncomputable section

namespace Cert.KernelIdeal.Attn

open Cert.KernelIdeal.Gen
open Idealize.ShloMosaic Idealize.ShloMosaic.TcCoe

theorem pay45_at (k : Vec Ideal S768x256 .bf16) (q : Vec Ideal S1x256x256 .bf16) (a : Fin 768) (b : Fin 256) :
    k0_pay45 (F := Ideal) k q (ix2 a b) = ∑ x : Fin 256, k (ix2 a x) * q (ix3 (0 : Fin 1) x b) := by
  unfold k0_pay45; pointwise; try rfl

theorem pay51_at (m : FVec Ideal S1x256 .f32) (acc : FVec Ideal S80x256 .f32) (s : FVec Ideal S768x256 .f32) (v : Vec Ideal S1x80x768 .bf16) (a : Fin 80) (b : Fin 256) :
    k0_pay51 (F := Ideal) m acc s v (ix2 a b)
      = Ideal.exp2 (m (ix2 (0 : Fin 1) b) - k0_pay50 m s (ix2 (0 : Fin 1) b)) * acc (ix2 a b)
        + ∑ x : Fin 768, v (ix3 (0 : Fin 1) a x) * Ideal.exp2 (s (ix2 x b) - k0_pay50 m s (ix2 (0 : Fin 1) b)) := by
  unfold k0_pay51; pointwise; try rfl

/-- A head's difference of the two streams at a row, before the norm. -/
def diffE (lam : EReal) (x y : FVec Ideal S80x256 .f32) (b : Fin 256) (a : Fin 64) : EReal :=
  x (ix2 (⟨a.val, by omega⟩ : Fin 80) b) * Ideal.div 1 (x (ix2 (64 : Fin 80) b))
    + y (ix2 (⟨a.val, by omega⟩ : Fin 80) b) * Ideal.div (0 - lam) (y (ix2 (64 : Fin 80) b))

/-- The norm over a head's 64 rows. -/
def normE (o : Fin 64 → EReal) (a : Fin 64) : EReal :=
  o a * Ideal.rsqrt (Ideal.div (∑ x, o x * o x) (Ideal.ofBits FTy.f32 0x42800000#32) + Ideal.ofBits FTy.f32 0x3727C5AC#32)

theorem pay249_at (lam : FVec Ideal S1x1 .f32) (x y : FVec Ideal S80x256 .f32) (a : Fin 64) (b : Fin 256) :
    k0_pay249 (F := Ideal) lam x y (ix2 a b) = normE (diffE (lam (ix2 (0 : Fin 1) (0 : Fin 1))) x y b) a := by
  unfold k0_pay249; pointwise; try rfl

/-- The scalar that weighs the second stream. -/
def lamE (l : Fin 4 → Fin 32 → EReal) : EReal :=
  Ideal.exp (∑ x, l 0 x * l 1 x) - Ideal.exp (∑ x, l 2 x * l 3 x) + Ideal.ofBits FTy.f32 0x3E4CCCCD#32

theorem pay15_at (l : Vec Ideal S4x32 .f32) (a b : Fin 1) :
    k0_pay15 (F := Ideal) l (ix2 a b) = lamE (fun i j => l (ix2 i j)) := by
  unfold k0_pay15; pointwise; try rfl

/-- The scale of the scores, with the change of base of the exponential. -/
theorem scale2_eq : Named.named (F := Ideal) (φ := .f32) κ "scale2" (0x3E8293EE#32) = (((11863283 / 67108864) * (Real.log 2)⁻¹ : ℝ) : EReal) :=
  IdealRules.named_const.ideal_named_scalar _ _ _ _ rfl

theorem pay16_at (l : Vec Ideal S1x256x256 .f32) (a b : Fin 256) :
    k0_pay16 (F := Ideal) l (ix2 a b) = l (ix3 (0 : Fin 1) b a) * (((11863283 / 67108864) * (Real.log 2)⁻¹ : ℝ) : EReal) := by
  rw [← scale2_eq]
  unfold k0_pay16; pointwise; try rfl

theorem pay1_at (l : FVec Ideal S256x256 .f32) (g : FVec Ideal S1x256 .f32) (o : Fin 1) (a b : Fin 256) :
    k0_pay1 (F := Ideal) l g (ix3 o a b) = l (ix2 a b) * g (ix2 (0 : Fin 1) b) * Ideal.ofBits FTy.f32 0x3F4CCCCD#32 := by
  unfold k0_pay1; pointwise; try rfl

theorem pay254_at (g : Vec Ideal S1x256 .f32) (o : Fin 1) (b : Fin 256) :
    k0_pay254 (F := Ideal) g (ix2 o b) = g (ix2 o b) := by
  unfold k0_pay254; pointwise; try rfl

theorem masked_at (l : FVec Ideal S256x256 .f32) (i : Fin 8) (o : Fin 1) (a b : Fin 256) :
    masked (F := Ideal) l i (ix3 o a b) = if a.val / 32 = i.val then l (ix2 a b) else 0 := by
  have e : masked (F := Ideal) l i (ix3 o a b) = Scalar.select
      (IntOp.andi (IntOp.cmpi CmpIPredicate.sge (BitVec.ofNat 32 a.val) (BitVec.ofNat 32 (32 * i.val)))
        (IntOp.cmpi CmpIPredicate.slt (BitVec.ofNat 32 a.val) (BitVec.ofNat 32 (32 * i.val + 32))))
      (l (ix2 a b)) (0 : EReal) := by
    unfold masked; pointwise; try rfl
  rw [e]
  have key : ∀ (i : Fin 8) (a : Fin 256), (IntOp.andi (IntOp.cmpi CmpIPredicate.sge (BitVec.ofNat 32 a.val) (BitVec.ofNat 32 (32 * i.val)))
        (IntOp.cmpi CmpIPredicate.slt (BitVec.ofNat 32 a.val) (BitVec.ofNat 32 (32 * i.val + 32)))) = if a.val / 32 = i.val then 1#1 else 0#1 := by
    decide +kernel
  rw [key]
  split <;> rfl

/-! ### A block of the running maximum stays real -/

/-- Every entry is a real number. -/
def AllReal {ι : Type} (x : ι → EReal) : Prop := ∀ i, ∃ r : ℝ, x i = r

theorem allReal_slice {s t : Shape} (off : Fin s.rank → ℕ) (x : s.Idx → EReal) (h : s.Slices off t) (hx : AllReal x) :
    AllReal (extractStridedSlice t off x h) := fun j => hx _

theorem allReal_max {s : Shape} {φ : FTy} (x y : FVec Ideal s φ) (hx : AllReal x) (hy : AllReal y) :
    AllReal (maximumf x y) := fun j => by
  obtain ⟨a, ha⟩ := hx j; obtain ⟨b, hb⟩ := hy j
  rcases le_total a b with h | h
  · exact ⟨b, by show max (x j) (y j) = _; rw [ha, hb, max_eq_right (EReal.coe_le_coe_iff.mpr h)]⟩
  · exact ⟨a, by show max (x j) (y j) = _; rw [ha, hb, max_eq_left (EReal.coe_le_coe_iff.mpr h)]⟩

theorem allReal_cast {s t : Shape} (x : s.Idx → EReal) (h : s.ShapeCasts t) (hx : AllReal x) :
    AllReal (shapeCast t x h) := fun j => hx _

theorem negInf : Ideal.ofBits FTy.f32 0xFF800000#32 = (⊥ : EReal) := by
  simp [Ideal.ofBits, Ideal.ieee]

/-- The largest of finitely many real numbers, at least one, is real. -/
theorem fold_real {ι : Type} (f : ι → EReal) (hf : AllReal f) (s : Finset ι) (hs : s.Nonempty) :
    ∃ r : ℝ, s.fold max ⊥ f = r := by
  classical
  induction hs using Finset.Nonempty.cons_induction with
  | singleton a => obtain ⟨r, hr⟩ := hf a; exact ⟨r, by rw [Finset.fold_singleton, max_bot_right]; exact hr⟩
  | cons a s h hs ih =>
    obtain ⟨r, hr⟩ := hf a; obtain ⟨q, hq⟩ := ih
    rw [Finset.fold_cons, hr, hq]
    rcases le_total r q with h | h
    · exact ⟨q, max_eq_right (EReal.coe_le_coe_iff.mpr h)⟩
    · exact ⟨r, max_eq_left (EReal.coe_le_coe_iff.mpr h)⟩

theorem allReal_redmax (x : FVec Ideal S8x256 .f32) (hx : AllReal x) :
    AllReal (multiReduction .maximumf [0] S256 x 0xFF800000#32 reduces_S8x256_S256 (.inl rfl) rfl) := fun j => by
  obtain ⟨b, rfl⟩ : ∃ b : Fin 256, j = ix1 b := ⟨j 0, by funext a; fin_cases a; rfl⟩
  have e : multiReduction .maximumf [0] S256 x 0xFF800000#32 reduces_S8x256_S256 (.inl rfl) rfl (ix1 b)
      = Finset.fold max (Ideal.ofBits FTy.f32 0xFF800000#32) (fun y : Fin 8 => x (ix2 y b)) Finset.univ := by
    pointwise; try rfl
  rw [e, negInf]
  exact fold_real _ (fun y => hx _) _ ⟨0, Finset.mem_univ _⟩

/-- The larger of two slices of a real vector is real. -/
theorem allReal_half {s t : Shape} (o1 o2 : Fin s.rank → ℕ) (x : FVec Ideal s .f32) (h1 : s.Slices o1 t) (h2 : s.Slices o2 t)
    (hx : AllReal x) : AllReal (maximumf (extractStridedSlice t o1 x h1 : FVec Ideal t .f32) (extractStridedSlice t o2 x h2 : FVec Ideal t .f32)) :=
  allReal_max _ _ (allReal_slice o1 x h1 hx) (allReal_slice o2 x h2 hx)

/-- The running maximum of real scores from a real value is real. -/
theorem pay50_real (m : FVec Ideal S1x256 .f32) (s : FVec Ideal S768x256 .f32) (hm : AllReal m) (hs : AllReal s) :
    AllReal (k0_pay50 (F := Ideal) m s) := by
  unfold k0_pay50
  refine allReal_max _ _ hm (allReal_cast _ _ (allReal_redmax _ ?_))
  refine allReal_half _ _ _ slices_S16x256_o0_0_S8x256 slices_S16x256_o8_0_S8x256 ?_
  refine allReal_half _ _ _ slices_S32x256_o0_0_S16x256 slices_S32x256_o16_0_S16x256 ?_
  refine allReal_half _ _ _ slices_S64x256_o0_0_S32x256 slices_S64x256_o32_0_S32x256 ?_
  refine allReal_half _ _ _ slices_S128x256_o0_0_S64x256 slices_S128x256_o64_0_S64x256 ?_
  refine allReal_half _ _ _ slices_S256x256_o0_0_S128x256 slices_S256x256_o128_0_S128x256 ?_
  exact allReal_max _ _ (allReal_half _ _ _ slices_S768x256_o0_0_S256x256 slices_S768x256_o256_0_S256x256 hs)
    (allReal_slice _ s slices_S768x256_o512_0_S256x256 hs)

/-- The running maximum starts at a real number, the running sum at zero. -/
theorem pay29_real : AllReal (k0_pay29 (F := Ideal)) := fun j => by
  refine ⟨-1000000015047466219876688855040, ?_⟩
  show Ideal.ofBits FTy.f32 0xF149F2CA#32 = _
  simp [Ideal.ofBits, Ideal.ieee, -EReal.coe_mul]; norm_num

theorem pay30_zero (j : S80x256.Idx) : k0_pay30 (F := Ideal) j = 0 := by
  show Ideal.ofBits FTy.f32 0x00000000#32 = _
  simp [Ideal.ofBits, Ideal.ieee]

end Cert.KernelIdeal.Attn
-- ==== Proof.Stream.lean ====
/- One stream of the attention over the extended reals: after any number of key blocks the carry is some real shift of
   the scores, and the sums of the values weighted by two to the shifted scores. -/
module

public import proofs.«01_k».proof.Proof.PayAt

@[expose] public section

set_option maxRecDepth 16384

noncomputable section

namespace Cert.KernelIdeal.Attn

open Cert.KernelIdeal.Gen
open Idealize.ShloMosaic Idealize.ShloMosaic.TcCoe

/-- A finite sum of reals, as an extended real. -/
theorem sum_real {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

theorem kb_at (KS : Vec Ideal S4608x256 .bf16) (j : Fin 6) (a : Fin 768) (x : Fin 256) :
    kb KS j (ix2 a x) = KS (ix2 (⟨768 * j.val + a.val, by omega⟩ : Fin 4608) x) := by
  unfold kb View.ld
  congr 1; funext i; apply Fin.ext; fin_cases i
  · show 768 * j.val + 1 * a.val = 768 * j.val + a.val; omega
  · show 0 + 1 * x.val = x.val; omega

theorem vb_at (VS : Vec Ideal S4x80x4608 .bf16) (h : Fin 4) (j : Fin 6) (d : Fin 80) (a : Fin 768) :
    vb VS h j (ix3 (0 : Fin 1) d a) = VS (ix3 h d (⟨768 * j.val + a.val, by omega⟩ : Fin 4608)) := by
  unfold vb View.ld
  congr 1; funext i; apply Fin.ext; fin_cases i
  · show h.val + 1 * 0 = h.val; omega
  · show 0 + 1 * d.val = d.val; omega
  · show 768 * j.val + 1 * a.val = 768 * j.val + a.val; omega

section
variable (KS : Vec Ideal S4608x256 .bf16) (VS : Vec Ideal S4x80x4608 .bf16) (h : Fin 4) (q : Vec Ideal S1x256x256 .bf16)
variable (z : ℕ → Fin 256 → ℝ) (v : ℕ → Fin 80 → ℝ)

/-- The carry is `M` and the weighted sums over the first `n` positions. -/
def Carry (n : ℕ) (M : Fin 256 → ℝ) (st : St Ideal) : Prop :=
  (∀ b, st.1 (ix2 (0 : Fin 1) b) = (M b : EReal)) ∧
  ∀ d b, st.2 (ix2 d b) = ((∑ k ∈ Finset.range n, (2 : ℝ) ^ (z k b - M b) * v k d : ℝ) : EReal)

theorem stAt_carry (hz : ∀ (k : Fin 4608) b, ∑ x : Fin 256, KS (ix2 k x) * q (ix3 (0 : Fin 1) x b) = (z k.val b : EReal))
    (hv : ∀ d (k : Fin 4608), VS (ix3 h d k) = (v k.val d : EReal)) :
    ∀ (j : ℕ) (hj : j ≤ 6), ∃ M, Carry z v (768 * j) M (stAt KS VS h q j hj) := by
  intro j
  induction j with
  | zero =>
    intro _
    choose M hM using fun b : Fin 256 => pay29_real (ix2 (0 : Fin 1) b)
    refine ⟨M, hM, fun d b => ?_⟩
    show k0_pay30 (F := Ideal) (ix2 d b) = _
    rw [pay30_zero]; simp
  | succ j ih =>
    intro hj
    obtain ⟨M, h1, h2⟩ := ih (Nat.le_of_succ_le hj)
    show ∃ M, Carry z v (768 * (j + 1)) M (step (kb KS ⟨j, hj⟩) (vb VS h ⟨j, hj⟩) q (stAt KS VS h q j _))
    generalize stAt KS VS h q j _ = st at h1 h2
    have hs : ∀ (a : Fin 768) b, k0_pay45 (F := Ideal) (kb KS ⟨j, hj⟩) q (ix2 a b) = (z (768 * j + a.val) b : EReal) := fun a b => by
      rw [pay45_at, ← hz (⟨768 * j + a.val, by omega⟩ : Fin 4608) b]
      exact Finset.sum_congr rfl fun x _ => by rw [kb_at]
    have hsr : AllReal (k0_pay45 (F := Ideal) (kb KS ⟨j, hj⟩) q) := fun i => by
      obtain ⟨a, b, rfl⟩ : ∃ a b, i = ix2 (n0 := 768) (n1 := 256) a b := ⟨_, _, eq_ix2 i⟩
      exact ⟨_, hs a b⟩
    have hmr : AllReal st.1 := fun i => by
      obtain ⟨a, b, rfl⟩ : ∃ a b, i = ix2 (n0 := 1) (n1 := 256) a b := ⟨_, _, eq_ix2 i⟩
      obtain rfl : a = 0 := Fin.ext (by omega)
      exact ⟨_, h1 b⟩
    choose M' hM' using fun b : Fin 256 => pay50_real st.1 _ hmr hsr (ix2 (0 : Fin 1) b)
    refine ⟨M', hM', fun d b => ?_⟩
    show k0_pay51 (F := Ideal) st.1 st.2 (k0_pay45 (kb KS ⟨j, hj⟩) q) (vb VS h ⟨j, hj⟩) (ix2 d b) = _
    rw [pay51_at, hM', h1, h2, ← EReal.coe_sub, Ideal.exp2_coe]
    have e : ∀ a : Fin 768, vb VS h ⟨j, hj⟩ (ix3 (0 : Fin 1) d a) * Ideal.exp2 (k0_pay45 (kb KS ⟨j, hj⟩) q (ix2 a b) - (M' b : EReal))
        = (((2 : ℝ) ^ (z (768 * j + a.val) b - M' b) * v (768 * j + a.val) d : ℝ) : EReal) := fun a => by
      rw [vb_at, hv, hs, ← EReal.coe_sub, Ideal.exp2_coe, mul_comm, ← EReal.coe_mul]; rfl
    rw [Finset.sum_congr rfl fun a _ => e a, sum_real, ← EReal.coe_mul, ← EReal.coe_add]
    congr 1
    rw [Nat.mul_succ, Finset.sum_range_add, Finset.mul_sum, ← Finset.sum_range (fun a => (2 : ℝ) ^ (z (768 * j + a) b - M' b) * v (768 * j + a) d)]
    congr 1
    refine Finset.sum_congr rfl fun k _ => ?_
    rw [← mul_assoc]; congr 1
    show (2 : ℝ) ^ (M b - M' b) * (2 : ℝ) ^ (z k b - M b) = _
    rw [← Real.rpow_add two_pos]; congr 1; ring

/-- What a stream ends with: some positive multiple of the sums weighted by two to the scores. -/
theorem accF_eq (hz : ∀ (k : Fin 4608) b, ∑ x : Fin 256, KS (ix2 k x) * q (ix3 (0 : Fin 1) x b) = (z k.val b : EReal))
    (hv : ∀ d (k : Fin 4608), VS (ix3 h d k) = (v k.val d : EReal)) :
    ∃ C : Fin 256 → ℝ, (∀ b, 0 < C b) ∧
      ∀ d b, accF KS VS h q (ix2 d b) = ((C b * ∑ k : Fin 4608, (2 : ℝ) ^ (z k.val b) * v k.val d : ℝ) : EReal) := by
  obtain ⟨M, _, h2⟩ := stAt_carry KS VS h q z v hz hv 6 le_rfl
  refine ⟨fun b => (2 : ℝ) ^ (- M b), fun b => Real.rpow_pos_of_pos two_pos _, fun d b => ?_⟩
  unfold accF; rw [h2, show 768 * 6 = 4608 from rfl, Finset.sum_range]; congr 1
  rw [Finset.mul_sum]
  refine Finset.sum_congr rfl fun k _ => ?_
  rw [← mul_assoc]; congr 1
  rw [← Real.rpow_add two_pos]; congr 1; ring

end

end Cert.KernelIdeal.Attn
-- ==== Proof.Spec.lean ====
/- The attention in the real numbers: the scaled scores of a stream, its softmax average of the values, the difference
   of a head's two streams. -/
module

public import Idealize.ShloMosaic.PureOps.Ideal

@[expose] public section

noncomputable section

namespace Cert.Attn

/-- The score of stream `i` at position `k`: a 32-term product of the query and the key, scaled. -/
def score (Q : ℕ → ℝ) (K : ℕ → ℕ → ℝ) (i k : ℕ) : ℝ :=
  (∑ e : Fin 32, Q (32 * i + e.val) * K k (32 * i + e.val)) * (11863283 / 67108864)

/-- The average of `v` under the softmax of `x` over the 4608 positions. -/
def soft (x v : ℕ → ℝ) : ℝ := (∑ k : Fin 4608, Real.exp (x k.val) * v k.val) / ∑ k : Fin 4608, Real.exp (x k.val)

/-- Row `d` of head `h`: the first stream's average less `lam` of the second's. -/
def diff (lam : ℝ) (Q : ℕ → ℝ) (K V : ℕ → ℕ → ℝ) (h d : ℕ) : ℝ :=
  soft (score Q K (2 * h)) (fun k => V k (64 * h + d)) - lam * soft (score Q K (2 * h + 1)) (fun k => V k (64 * h + d))

/-- The sum of weights of a softmax is positive. -/
theorem den_pos (x : ℕ → ℝ) : 0 < ∑ k : Fin 4608, Real.exp (x k.val) :=
  Finset.sum_pos (fun _ _ => Real.exp_pos _) ⟨0, Finset.mem_univ _⟩

/-- A sum over 256 columns that keeps 32 of them. -/
theorem sum_band (f : ℕ → ℝ) (i : Fin 8) :
    (∑ x : Fin 256, if x.val / 32 = i.val then f x.val else 0) = ∑ e : Fin 32, f (32 * i.val + e.val) := by
  rw [← Equiv.sum_comp (finProdFinEquiv (m := 8) (n := 32)), Fintype.sum_prod_type, Finset.sum_eq_single i]
  · refine Finset.sum_congr rfl fun e _ => ?_
    have h : (finProdFinEquiv (m := 8) (n := 32) (i, e)).val = e.val + 32 * i.val := rfl
    rw [h, if_pos (by omega), Nat.add_comm]
  · intro b _ hb
    refine Finset.sum_eq_zero fun e _ => ?_
    have h : (finProdFinEquiv (m := 8) (n := 32) (b, e)).val = e.val + 32 * b.val := rfl
    rw [h, if_neg (fun hh => hb (Fin.ext (by omega)))]
  · intro h; exact absurd (Finset.mem_univ _) h

/-- Two to a score divided by the logarithm of two is the exponential of the score. -/
theorem two_pow (x : ℝ) : (2 : ℝ) ^ (x * (Real.log 2)⁻¹) = Real.exp x := by
  rw [Real.rpow_def_of_pos two_pos]; congr 1
  have : Real.log 2 ≠ 0 := (Real.log_pos one_lt_two).ne'
  field_simp

end Cert.Attn
-- ==== Proof.Block.lean ====
/- The block of results of one grid point over the extended reals, from real inputs: the norm of the differences of the
   softmax averages. -/
module

public import proofs.«01_k».proof.Proof.Stream
public import proofs.«01_k».proof.Proof.Spec
public import proofs.«01_k».proof.Proof.Body

@[expose] public section

set_option maxRecDepth 16384

noncomputable section

namespace Cert.KernelIdeal.Attn

open Cert.KernelIdeal.Gen Cert.Attn
open Idealize.ShloMosaic Idealize.ShloMosaic.TcCoe

/-- Four stacked pieces at row `64 h + d`. -/
theorem stack_at0 (p0 p1 p2 p3 : FVec Ideal S64x256 .f32) (d : Fin 64) (b : Fin 256) (r : Fin 256) (hr : r.val = 64 * 0 + d.val) :
    concatenate S256x256 0 [⟨S64x256, p0⟩, ⟨S64x256, p1⟩, ⟨S64x256, p2⟩, ⟨S64x256, p3⟩] concatenates_S64x256_S64x256_S64x256_S64x256_S256x256_d0 (ix2 r b)
      = p0 (ix2 d b) :=
  concatenate_apply_piece (t := S256x256) 0 [⟨S64x256, p0⟩, ⟨S64x256, p1⟩, ⟨S64x256, p2⟩, ⟨S64x256, p3⟩]
    concatenates_S64x256_S64x256_S64x256_S64x256_S256x256_d0 (ix2 r b) 0 (by show 0 < 4; omega) S64x256 p0 rfl rfl 0 rfl
    (ix2 d b) (fun k hk => by fin_cases k; exact absurd rfl hk; rfl) (by show 0 + d.val = r.val; omega)

theorem stack_at1 (p0 p1 p2 p3 : FVec Ideal S64x256 .f32) (d : Fin 64) (b : Fin 256) (r : Fin 256) (hr : r.val = 64 * 1 + d.val) :
    concatenate S256x256 0 [⟨S64x256, p0⟩, ⟨S64x256, p1⟩, ⟨S64x256, p2⟩, ⟨S64x256, p3⟩] concatenates_S64x256_S64x256_S64x256_S64x256_S256x256_d0 (ix2 r b)
      = p1 (ix2 d b) :=
  concatenate_apply_piece (t := S256x256) 0 [⟨S64x256, p0⟩, ⟨S64x256, p1⟩, ⟨S64x256, p2⟩, ⟨S64x256, p3⟩]
    concatenates_S64x256_S64x256_S64x256_S64x256_S256x256_d0 (ix2 r b) 1 (by show 1 < 4; omega) S64x256 p1 rfl rfl 64 rfl
    (ix2 d b) (fun k hk => by fin_cases k; exact absurd rfl hk; rfl) (by show 64 + d.val = r.val; omega)

theorem stack_at2 (p0 p1 p2 p3 : FVec Ideal S64x256 .f32) (d : Fin 64) (b : Fin 256) (r : Fin 256) (hr : r.val = 64 * 2 + d.val) :
    concatenate S256x256 0 [⟨S64x256, p0⟩, ⟨S64x256, p1⟩, ⟨S64x256, p2⟩, ⟨S64x256, p3⟩] concatenates_S64x256_S64x256_S64x256_S64x256_S256x256_d0 (ix2 r b)
      = p2 (ix2 d b) :=
  concatenate_apply_piece (t := S256x256) 0 [⟨S64x256, p0⟩, ⟨S64x256, p1⟩, ⟨S64x256, p2⟩, ⟨S64x256, p3⟩]
    concatenates_S64x256_S64x256_S64x256_S64x256_S256x256_d0 (ix2 r b) 2 (by show 2 < 4; omega) S64x256 p2 rfl rfl 128 rfl
    (ix2 d b) (fun k hk => by fin_cases k; exact absurd rfl hk; rfl) (by show 128 + d.val = r.val; omega)

theorem stack_at3 (p0 p1 p2 p3 : FVec Ideal S64x256 .f32) (d : Fin 64) (b : Fin 256) (r : Fin 256) (hr : r.val = 64 * 3 + d.val) :
    concatenate S256x256 0 [⟨S64x256, p0⟩, ⟨S64x256, p1⟩, ⟨S64x256, p2⟩, ⟨S64x256, p3⟩] concatenates_S64x256_S64x256_S64x256_S64x256_S256x256_d0 (ix2 r b)
      = p3 (ix2 d b) :=
  concatenate_apply_piece (t := S256x256) 0 [⟨S64x256, p0⟩, ⟨S64x256, p1⟩, ⟨S64x256, p2⟩, ⟨S64x256, p3⟩]
    concatenates_S64x256_S64x256_S64x256_S64x256_S256x256_d0 (ix2 r b) 3 (by show 3 < 4; omega) S64x256 p3 rfl rfl 192 rfl
    (ix2 d b) (fun k hk => by fin_cases k; exact absurd rfl hk; rfl) (by show 192 + d.val = r.val; omega)

/-- The stacked heads at column `64 h + d`: head `h`'s row `d`. -/
theorem heads_at (lam : FVec Ideal S1x1 .f32) (a : Fin 8 → FVec Ideal S80x256 .f32) (b : Fin 256) (h : Fin 4) (d : Fin 64) :
    heads (F := Ideal) lam a (ix2 b (⟨64 * h.val + d.val, by omega⟩ : Fin 256))
      = k0_pay249 lam (a ⟨2 * h.val, by omega⟩) (a ⟨2 * h.val + 1, by omega⟩) (ix2 d b) := by
  unfold heads
  rw [transpose_apply [1, 0] _ transposes_S256x256_p1_0_S256x256 _ (ix2 (⟨64 * h.val + d.val, by omega⟩ : Fin 256) b)
    (fun k => by fin_cases k <;> rfl)]
  fin_cases h
  · exact stack_at0 _ _ _ _ d b _ rfl
  · exact stack_at1 _ _ _ _ d b _ rfl
  · exact stack_at2 _ _ _ _ d b _ rfl
  · exact stack_at3 _ _ _ _ d b _ rfl

/-- Two streams ending with positive multiples of their weighted sums: the common factors cancel. -/
theorem diffE_eq (lam : ℝ) (x y : FVec Ideal S80x256 .f32) (b : Fin 256) (s t : ℕ → ℝ) (v : ℕ → Fin 80 → ℝ) (C D : ℝ) (hC : 0 < C) (hD : 0 < D)
    (h1 : ∀ k : Fin 4608, v k.val 64 = 1)
    (hx : ∀ d, x (ix2 d b) = ((C * ∑ k : Fin 4608, Real.exp (s k.val) * v k.val d : ℝ) : EReal))
    (hy : ∀ d, y (ix2 d b) = ((D * ∑ k : Fin 4608, Real.exp (t k.val) * v k.val d : ℝ) : EReal)) (a : Fin 64) :
    diffE lam x y b a = ((soft s (fun k => v k ⟨a.val, by omega⟩) - lam * soft t (fun k => v k ⟨a.val, by omega⟩) : ℝ) : EReal) := by
  have hs := den_pos s
  have ht := den_pos t
  have e1 : ∀ u : ℕ → ℝ, (∑ k : Fin 4608, Real.exp (u k.val) * v k.val 64) = ∑ k : Fin 4608, Real.exp (u k.val) := fun u =>
    Finset.sum_congr rfl fun k _ => by rw [h1, mul_one]
  unfold diffE soft
  rw [hx, hx, hy, hy, e1, e1, Ideal.div_coe (mul_pos hC hs).ne', Ideal.div_coe (mul_pos hD ht).ne', one_mul, zero_sub,
    ← EReal.coe_neg, ← EReal.coe_mul, ← EReal.coe_mul, ← EReal.coe_mul, ← EReal.coe_add]
  congr 1
  generalize (∑ k : Fin 4608, Real.exp (s k.val)) = S at hs
  generalize (∑ k : Fin 4608, Real.exp (t k.val)) = T at ht
  have := hC.ne'; have := hD.ne'; have := hs.ne'; have := ht.ne'
  field_simp
  ring

/-- A block of results from real inputs. -/
theorem outB_eq (x0 : Vec Ideal S1x256x256 .f32) (x5 : Vec Ideal S4x32 .f32) (x6 : Vec Ideal S1x256 .f32)
    (KK : Vec Ideal S4608x256 .bf16) (VV : Vec Ideal S4x80x4608 .bf16) (lam : ℝ) (Q : Fin 256 → ℕ → ℝ) (K V : ℕ → ℕ → ℝ)
    (hq : ∀ b x : Fin 256, x0 (ix3 (0 : Fin 1) b x) = (Q b x.val : EReal))
    (hl : lamE (fun i j => x5 (ix2 i j)) = (lam : EReal))
    (hk : ∀ (k : Fin 4608) (x : Fin 256), KK (ix2 k x) = (K k.val x.val : EReal))
    (hv : ∀ (h : Fin 4) (d : Fin 80) (k : Fin 4608), VV (ix3 h d k) = ((if d.val < 64 then V k.val (64 * h.val + d.val) else 1 : ℝ) : EReal))
    (b : Fin 256) (h : Fin 4) (d : Fin 64) :
    outB (F := Ideal) x0 x5 x6 KK VV (ix3 (0 : Fin 1) b (⟨64 * h.val + d.val, by omega⟩ : Fin 256))
      = normE (fun d => (diff lam (Q b) K V h.val d.val : EReal)) d * x6 (ix2 (0 : Fin 1) (⟨64 * h.val + d.val, by omega⟩ : Fin 256))
        * Ideal.ofBits FTy.f32 0x3F4CCCCD#32 := by
  unfold outB outM
  rw [pay1_at, pay254_at, heads_at, pay249_at, pay15_at, hl]
  congr 3
  funext d
  have hz : ∀ (i : Fin 8) (k : Fin 4608) (b : Fin 256), ∑ x : Fin 256, KK (ix2 k x) * masked (k0_pay16 x0) i (ix3 (0 : Fin 1) x b)
      = ((score (Q b) K i.val k.val * (Real.log 2)⁻¹ : ℝ) : EReal) := fun i k b => by
    have e : ∀ x : Fin 256, KK (ix2 k x) * masked (k0_pay16 x0) i (ix3 (0 : Fin 1) x b)
        = (((fun n => if n / 32 = i.val then K k.val n * (Q b n * ((11863283 / 67108864) * (Real.log 2)⁻¹)) else 0) x.val : ℝ) : EReal) := fun x => by
      rw [masked_at, pay16_at, hk, hq]
      show _ = ((if x.val / 32 = i.val then K k.val x.val * (Q b x.val * ((11863283 / 67108864) * (Real.log 2)⁻¹)) else 0 : ℝ) : EReal)
      split
      · rw [← EReal.coe_mul, ← EReal.coe_mul]
      · rw [mul_zero, EReal.coe_zero]
    rw [Finset.sum_congr rfl fun x _ => e x, sum_real]
    congr 1
    rw [sum_band (fun n => K k.val n * (Q b n * ((11863283 / 67108864) * (Real.log 2)⁻¹))) i]
    unfold score
    rw [Finset.sum_mul, Finset.sum_mul]
    exact Finset.sum_congr rfl fun e _ => by ring
  obtain ⟨C, hC, hx⟩ := accF_eq KK VV h (masked (k0_pay16 x0) ⟨2 * h.val, by omega⟩) (fun k b => score (Q b) K (2 * h.val) k * (Real.log 2)⁻¹)
    (fun k d => if d.val < 64 then V k (64 * h.val + d.val) else 1) (hz _) (fun d k => hv h d k)
  obtain ⟨D, hD, hy⟩ := accF_eq KK VV h (masked (k0_pay16 x0) ⟨2 * h.val + 1, by omega⟩) (fun k b => score (Q b) K (2 * h.val + 1) k * (Real.log 2)⁻¹)
    (fun k d => if d.val < 64 then V k (64 * h.val + d.val) else 1) (hz _) (fun d k => hv h d k)
  simp only [two_pow] at hx hy
  have e0 : hd ⟨2 * h.val, by omega⟩ = h := Fin.ext (by show 2 * h.val / 2 = h.val; omega)
  have e1 : hd ⟨2 * h.val + 1, by omega⟩ = h := Fin.ext (by show (2 * h.val + 1) / 2 = h.val; omega)
  rw [e0, e1]
  refine (diffE_eq lam _ _ b (score (Q b) K (2 * h.val)) (score (Q b) K (2 * h.val + 1)) (fun k d => if d.val < 64 then V k (64 * h.val + d.val) else 1)
    (C b) (D b) (hC b) (hD b) (fun k => if_neg (by decide)) (fun d => hx d b) (fun d => hy d b) d).trans ?_
  unfold diff
  simp only [d.isLt, if_true]

end Cert.KernelIdeal.Attn
-- ==== Proof.Windows.lean ====
/- What each window's block holds of the arrays the launch finds. -/
module

public import proofs.«01_k».proof.Proof.Launch
public import proofs.«01_k».proof.Proof.Block
public import Idealize.ShloMosaic.Lib.StableHlo.RunClose

@[expose] public section

set_option maxRecDepth 16384

noncomputable section

namespace Cert.KernelIdeal.Attn

open Cert.KernelIdeal.Gen
open Idealize.ShloMosaic Idealize.ShloMosaic.TcCoe Idealize.ShloMosaic.Tactic
open Idealize.ShloMosaic.Pipeline (Dat Cfg Window)

variable {F : FTy → Type} [FloatOps F] [Named F]
variable (m : (ℓ : Loc nD τ sig) → Buf (Elt F) ℓ)

theorem coord0 (t : Fin grid0.N) : (grid0.coords t 0).val = t.val / 16 := by
  have ht : t.val < 64 := Nat.lt_of_lt_of_eq t.isLt N_0
  have e : (grid0.coords t 0).val = t.val / 16 % 4 := Pipeline.Grid.coords_val t 0 (by decide) rfl
  omega

theorem coord1 (t : Fin grid0.N) : (grid0.coords t 1).val = t.val % 16 := by
  have e : (grid0.coords t 1).val = t.val / 1 % 16 := Pipeline.Grid.coords_val t 1 (by decide) rfl
  omega

theorem word0 (t : Fin grid0.N) : (BitVec.ofNat 32 (grid0.coords t 0).val).toNat = t.val / 16 := by
  have ht : t.val < 64 := Nat.lt_of_lt_of_eq t.isLt N_0
  rw [coord0, BitVec.toNat_ofNat]; omega

theorem word1 (t : Fin grid0.N) : (BitVec.ofNat 32 (grid0.coords t 1).val).toNat = t.val % 16 := by
  have ht : t.val < 64 := Nat.lt_of_lt_of_eq t.isLt N_0
  rw [coord1, BitVec.toNat_ofNat]; omega

/-- The queries' block: 256 points of the batch. -/
theorem iblk0_at (c : Dev nD) (t : Fin cfg0.N) (b x : Fin 256) (n : Fin 4) (r : Fin 4096) (hn : n.val = t.val / 16) (hr : r.val = 256 * (t.val % 16) + b.val) :
    (iblk m c 0 t : Vec F S1x256x256 .f32) (ix3 (0 : Fin 1) b x) = (m ((c : Thread nD τ).loc main_arg0) : Vec F S4x4096x3072 .f32) (ix3 n r (⟨x.val, by omega⟩ : Fin 3072)) := by
  have e : (iblk m c 0 t : Vec F S1x256x256 .f32) (ix3 (0 : Fin 1) b x) = (V m c main_arg0 : Vec F S4x4096x3072 .f32) ((win0_0.rect t).emb (ix3 (0 : Fin 1) b x)) := rfl
  rw [e, V_main_arg0]
  congr 1; funext a; apply Fin.ext; rw [win0_0.rect_emb_val t (ix3 (0 : Fin 1) b x) a]
  fin_cases a
  · show (BitVec.ofNat 32 (grid0.coords t 0).val).toNat * 1 + 0 = n.val; rw [word0]; omega
  · show (BitVec.ofNat 32 (grid0.coords t 1).val).toNat * 256 + b.val = r.val; rw [word1]; omega
  · show 0 * 256 + x.val = x.val; omega

/-- The keys' block: all points of the batch, columns 256 to 511. -/
theorem iblk1_at (c : Dev nD) (t : Fin cfg0.N) (k : Fin 4096) (x : Fin 256) (n : Fin 4) (hn : n.val = t.val / 16) :
    (iblk m c 1 t : Vec F S1x4096x256 .f32) (ix3 (0 : Fin 1) k x) = (m ((c : Thread nD τ).loc main_arg0) : Vec F S4x4096x3072 .f32) (ix3 n k (⟨256 + x.val, by omega⟩ : Fin 3072)) := by
  have e : (iblk m c 1 t : Vec F S1x4096x256 .f32) (ix3 (0 : Fin 1) k x) = (V m c main_arg0 : Vec F S4x4096x3072 .f32) ((win0_1.rect t).emb (ix3 (0 : Fin 1) k x)) := rfl
  rw [e, V_main_arg0]
  congr 1; funext a; apply Fin.ext; rw [win0_1.rect_emb_val t (ix3 (0 : Fin 1) k x) a]
  fin_cases a
  · show (BitVec.ofNat 32 (grid0.coords t 0).val).toNat * 1 + 0 = n.val; rw [word0]; omega
  · show 0 * 4096 + k.val = k.val; omega
  · show 1 * 256 + x.val = 256 + x.val; omega

/-- The values' block: all points of the batch, columns 512 to 767. -/
theorem iblk2_at (c : Dev nD) (t : Fin cfg0.N) (k : Fin 4096) (x : Fin 256) (n : Fin 4) (hn : n.val = t.val / 16) :
    (iblk m c 2 t : Vec F S1x4096x256 .f32) (ix3 (0 : Fin 1) k x) = (m ((c : Thread nD τ).loc main_arg0) : Vec F S4x4096x3072 .f32) (ix3 n k (⟨512 + x.val, by omega⟩ : Fin 3072)) := by
  have e : (iblk m c 2 t : Vec F S1x4096x256 .f32) (ix3 (0 : Fin 1) k x) = (V m c main_arg0 : Vec F S4x4096x3072 .f32) ((win0_2.rect t).emb (ix3 (0 : Fin 1) k x)) := rfl
  rw [e, V_main_arg0]
  congr 1; funext a; apply Fin.ext; rw [win0_2.rect_emb_val t (ix3 (0 : Fin 1) k x) a]
  fin_cases a
  · show (BitVec.ofNat 32 (grid0.coords t 0).val).toNat * 1 + 0 = n.val; rw [word0]; omega
  · show 0 * 4096 + k.val = k.val; omega
  · show 2 * 256 + x.val = 512 + x.val; omega

/-- The host reads the caches with the heads' columns side by side, -/
theorem V_keys (c : Dev nD) : (V m c main_v0 : Vec F S4x2x512x256 .f32)
    = shapeCast S4x2x512x256 (m ((c : Thread nD τ).loc main_arg3) : Vec F S4x2x512x4x64 .f32) shapeCasts_S4x2x512x4x64_S4x2x512x256 := by
  dsimp only [V, hostOps0]
  after_results_simp <;> rfl
theorem V_values (c : Dev nD) : (V m c main_v1 : Vec F S4x2x512x256 .f32)
    = shapeCast S4x2x512x256 (m ((c : Thread nD τ).loc main_arg4) : Vec F S4x2x512x4x64 .f32) shapeCasts_S4x2x512x4x64_S4x2x512x256 := by
  dsimp only [V, hostOps0]
  after_results_simp <;> rfl
/-- and repeats the gain for each head. -/
theorem V_gain (c : Dev nD) : (V m c main_v5 : Vec F S1x256 .f32)
    = shapeCast S1x256 (shapeCast S256 (broadcastInDim S4x64 ![0, 1] bcast_S1x64_S4x64_0_1
        (shapeCast S1x64 (m ((c : Thread nD τ).loc main_arg2) : Vec F S64 .f32) shapeCasts_S64_S1x64)) shapeCasts_S4x64_S256) shapeCasts_S256_S1x256 := by
  dsimp only [V, hostOps0]
  after_results_simp <;> rfl

theorem iblk3_at (c : Dev nD) (t : Fin cfg0.N) (l : Fin 512) (h : Fin 4) (d : Fin 64) (n : Fin 4) (hn : n.val = t.val / 16) :
    (iblk m c 3 t : Vec F S1x1x512x256 .f32) (ix4 (0 : Fin 1) (0 : Fin 1) l (⟨64 * h.val + d.val, by omega⟩ : Fin 256))
      = (m ((c : Thread nD τ).loc main_arg3) : Vec F S4x2x512x4x64 .f32) (ix5 n (0 : Fin 2) l h d) := by
  have e : (iblk m c 3 t : Vec F S1x1x512x256 .f32) (ix4 (0 : Fin 1) (0 : Fin 1) l (⟨64 * h.val + d.val, by omega⟩ : Fin 256))
    = (V m c main_v0 : Vec F S4x2x512x256 .f32) ((win0_3.rect t).emb (ix4 (0 : Fin 1) (0 : Fin 1) l (⟨64 * h.val + d.val, by omega⟩ : Fin 256))) := rfl
  have ei : (win0_3.rect t).emb (ix4 (0 : Fin 1) (0 : Fin 1) l (⟨64 * h.val + d.val, by omega⟩ : Fin 256)) = ix4 n (0 : Fin 2) l (⟨64 * h.val + d.val, by omega⟩ : Fin 256) := by
    funext a; apply Fin.ext; rw [win0_3.rect_emb_val t (ix4 (0 : Fin 1) (0 : Fin 1) l (⟨64 * h.val + d.val, by omega⟩ : Fin 256)) a]
    fin_cases a
    · show (BitVec.ofNat 32 (grid0.coords t 0).val).toNat * 1 + 0 = n.val; rw [word0]; omega
    · rfl
    · show 0 * 512 + l.val = l.val; omega
    · show 0 * 256 + (64 * h.val + d.val) = 64 * h.val + d.val; omega
  rw [e, ei, V_keys]
  pointwise

theorem iblk4_at (c : Dev nD) (t : Fin cfg0.N) (l : Fin 512) (h : Fin 4) (d : Fin 64) (n : Fin 4) (hn : n.val = t.val / 16) :
    (iblk m c 4 t : Vec F S1x1x512x256 .f32) (ix4 (0 : Fin 1) (0 : Fin 1) l (⟨64 * h.val + d.val, by omega⟩ : Fin 256))
      = (m ((c : Thread nD τ).loc main_arg4) : Vec F S4x2x512x4x64 .f32) (ix5 n (0 : Fin 2) l h d) := by
  have e : (iblk m c 4 t : Vec F S1x1x512x256 .f32) (ix4 (0 : Fin 1) (0 : Fin 1) l (⟨64 * h.val + d.val, by omega⟩ : Fin 256))
    = (V m c main_v1 : Vec F S4x2x512x256 .f32) ((win0_4.rect t).emb (ix4 (0 : Fin 1) (0 : Fin 1) l (⟨64 * h.val + d.val, by omega⟩ : Fin 256))) := rfl
  have ei : (win0_4.rect t).emb (ix4 (0 : Fin 1) (0 : Fin 1) l (⟨64 * h.val + d.val, by omega⟩ : Fin 256)) = ix4 n (0 : Fin 2) l (⟨64 * h.val + d.val, by omega⟩ : Fin 256) := by
    funext a; apply Fin.ext; rw [win0_4.rect_emb_val t (ix4 (0 : Fin 1) (0 : Fin 1) l (⟨64 * h.val + d.val, by omega⟩ : Fin 256)) a]
    fin_cases a
    · show (BitVec.ofNat 32 (grid0.coords t 0).val).toNat * 1 + 0 = n.val; rw [word0]; omega
    · rfl
    · show 0 * 512 + l.val = l.val; omega
    · show 0 * 256 + (64 * h.val + d.val) = 64 * h.val + d.val; omega
  rw [e, ei, V_values]
  pointwise

/-- The parameters of the second stream's weight come whole. -/
theorem iblk5_at (c : Dev nD) (t : Fin cfg0.N) (i : Fin 4) (j : Fin 32) :
    (iblk m c 5 t : Vec F S4x32 .f32) (ix2 i j) = (m ((c : Thread nD τ).loc main_arg1) : Vec F S4x32 .f32) (ix2 i j) := by
  have e : (iblk m c 5 t : Vec F S4x32 .f32) (ix2 i j) = (V m c main_arg1 : Vec F S4x32 .f32) ((win0_5.rect t).emb (ix2 i j)) := rfl
  rw [e, V_main_arg1]
  congr 1; funext a; apply Fin.ext; rw [win0_5.rect_emb_val t (ix2 i j) a]
  fin_cases a
  · show 0 * 4 + i.val = i.val; omega
  · show 0 * 32 + j.val = j.val; omega

theorem iblk6_at (c : Dev nD) (t : Fin cfg0.N) (h : Fin 4) (d : Fin 64) :
    (iblk m c 6 t : Vec F S1x256 .f32) (ix2 (0 : Fin 1) (⟨64 * h.val + d.val, by omega⟩ : Fin 256)) = (m ((c : Thread nD τ).loc main_arg2) : Vec F S64 .f32) (ix1 d) := by
  have e : (iblk m c 6 t : Vec F S1x256 .f32) (ix2 (0 : Fin 1) (⟨64 * h.val + d.val, by omega⟩ : Fin 256))
    = (V m c main_v5 : Vec F S1x256 .f32) ((win0_6.rect t).emb (ix2 (0 : Fin 1) (⟨64 * h.val + d.val, by omega⟩ : Fin 256))) := rfl
  have ei : (win0_6.rect t).emb (ix2 (0 : Fin 1) (⟨64 * h.val + d.val, by omega⟩ : Fin 256)) = ix2 (0 : Fin 1) (⟨64 * h.val + d.val, by omega⟩ : Fin 256) := by
    funext a; apply Fin.ext; rw [win0_6.rect_emb_val t (ix2 (0 : Fin 1) (⟨64 * h.val + d.val, by omega⟩ : Fin 256)) a]
    fin_cases a
    · rfl
    · show 0 * 256 + (64 * h.val + d.val) = 64 * h.val + d.val; omega
  rw [e, ei, V_gain]
  pointwise

end Cert.KernelIdeal.Attn
-- ==== Proof.RefAt.lean ====
/- The reference at an index, over the extended reals. -/
module

public import proofs.«01_k».proof.Proof.Gen.ReferenceIdeal.Read
public import proofs.«01_k».proof.Proof.Spec
public import proofs.«01_k».proof.Proof.Stream
public import Idealize.ShloMosaic.Lib.Pointwise

@[expose] public section

set_option maxRecDepth 16384

noncomputable section

namespace Cert.ReferenceIdeal.Attn

open Cert.ReferenceIdeal Cert.ReferenceIdeal.Read Cert.Attn
open Cert.KernelIdeal.Attn (AllReal fold_real negInf normE lamE sum_real)
open Idealize.ShloMosaic Idealize.ShloMosaic.TcCoe

variable (x0 : (⟨S4x4096x3072, .f32⟩ : BufTy).Contents (Elt Ideal)) (x1 : (⟨S4x32, .f32⟩ : BufTy).Contents (Elt Ideal))
  (x2 : (⟨S64, .f32⟩ : BufTy).Contents (Elt Ideal)) (x3 x4 : (⟨S4x2x512x4x64, .f32⟩ : BufTy).Contents (Elt Ideal))

theorem zeroWord : Ideal.ofBits FTy.f32 0x00000000#32 = (0 : EReal) := by simp [Ideal.ofBits, Ideal.ieee]

theorem scaleWord : Ideal.ofBits FTy.f32 0x3E3504F3#32 = ((11863283 / 67108864 : ℝ) : EReal) := by
  simp [Ideal.ofBits, Ideal.ieee, -EReal.coe_mul]; norm_num

/-- The queries, split by head and stream. -/
theorem v1_at (n : Fin 4) (r : Fin 4096) (h : Fin 4) (s : Fin 2) (e : Fin 32) :
    val_main_v1 (F := Ideal) x0 (ix5 n r h s e) = x0 (ix3 n r (⟨64 * h.val + 32 * s.val + e.val, by omega⟩ : Fin 3072)) := by
  unfold val_main_v1 val_main_v0; pointwise
  congr 2; apply Fin.ext; simp only []; omega

/-- The keys of the points. -/
theorem v3_at (n : Fin 4) (r : Fin 4096) (h : Fin 4) (s : Fin 2) (e : Fin 32) :
    val_main_v3 (F := Ideal) x0 (ix5 n r h s e) = x0 (ix3 n r (⟨256 + (64 * h.val + 32 * s.val + e.val), by omega⟩ : Fin 3072)) := by
  unfold val_main_v3 val_main_v2; pointwise
  congr 2; apply Fin.ext; simp only []; omega

/-- The values of the points. -/
theorem v5_at (n : Fin 4) (r : Fin 4096) (h : Fin 4) (d : Fin 64) :
    val_main_v5 (F := Ideal) x0 (ix4 n r h d) = x0 (ix3 n r (⟨512 + (64 * h.val + d.val), by omega⟩ : Fin 3072)) := by
  unfold val_main_v5 val_main_v4; pointwise
  congr 2; apply Fin.ext; simp only []; omega

/-- The cached keys. -/
theorem v26_at (n : Fin 4) (l : Fin 512) (h : Fin 4) (s : Fin 2) (e : Fin 32) :
    val_main_v26 (F := Ideal) x3 (ix5 n l h s e) = x3 (ix5 n 0 l h (⟨32 * s.val + e.val, by omega⟩ : Fin 64)) := by
  unfold val_main_v26 val_main_v7 val_main_v6; pointwise
  congr 2; apply Fin.ext; simp only []; omega

/-- The cached values. -/
theorem v9_at (n : Fin 4) (l : Fin 512) (h : Fin 4) (d : Fin 64) :
    val_main_v9 (F := Ideal) x4 (ix4 n l h d) = x4 (ix5 n 0 l h d) := by
  unfold val_main_v9 val_main_v8; pointwise

/-- The weight of the second stream. -/
theorem v25_at (o) : val_main_v25 (F := Ideal) x1 o = lamE (fun i j => x1 (ix2 i j)) := by
  unfold val_main_v25 val_main_v24 val_main_v23 val_main_v22 val_main_v21 val_main_v20 val_main_v19 val_main_v18 val_main_v17 val_main_v16 val_main_v15 val_main_v14 val_main_v13 val_main_v12 val_main_v11 val_main_v10
  pointwise
  simp only [val_main_cst_apply, val_main_cst_0_apply, val_main_cst_1_apply, Scalar.ofBits, FloatOps.ofBits, lamE]
  rw [zeroWord, zero_add, zero_add]

/-- All keys: those of the points, then the cached ones. -/
theorem v27_at (P : Fin 4 → Fin 4096 → ℕ → ℝ) (CK : Fin 4 → ℕ → ℕ → ℝ)
    (h0 : ∀ n r (c : Fin 3072), x0 (ix3 n r c) = ((P n r c.val : ℝ) : EReal))
    (h3 : ∀ n (l : Fin 512) (h : Fin 4) (d : Fin 64), x3 (ix5 n 0 l h d) = ((CK n l.val (64 * h.val + d.val) : ℝ) : EReal))
    (K : Fin 4 → ℕ → ℕ → ℝ) (hlo : ∀ n (k : Fin 4096) x, K n k.val x = P n k (256 + x)) (hhi : ∀ n (l : Fin 512) x, K n (4096 + l.val) x = CK n l.val x)
    (n : Fin 4) (k : Fin 4608) (h : Fin 4) (s : Fin 2) (e : Fin 32) :
    val_main_v27 (F := Ideal) x0 x3 (ix5 n k h s e) = ((K n k.val (64 * h.val + 32 * s.val + e.val) : ℝ) : EReal) := by
  unfold val_main_v27
  by_cases hk : k.val < 4096
  · refine (concatenate_pair_apply_left (t := S4x4608x4x2x32) (s₁ := S4x4096x4x2x32) (s₂ := S4x512x4x2x32) 1 (val_main_v3 (F := Ideal) x0) (val_main_v26 (F := Ideal) x3) _ _ rfl
      (ix5 n (⟨k.val, hk⟩ : Fin 4096) h s e) ?_).trans ?_
    · intro b; fin_cases b <;> rfl
    · rw [v3_at, h0]; exact congrArg _ (hlo n ⟨k.val, hk⟩ _).symm
  · have hk2 : k.val - 4096 < 512 := by omega
    refine (concatenate_pair_apply_right (t := S4x4608x4x2x32) (s₁ := S4x4096x4x2x32) (s₂ := S4x512x4x2x32) 1 (val_main_v3 (F := Ideal) x0) (val_main_v26 (F := Ideal) x3) _ _ rfl rfl
      (ix5 n (⟨k.val - 4096, hk2⟩ : Fin 512) h s e) ?_ ?_).trans ?_
    · intro b hb; fin_cases b <;> first | exact absurd rfl hb | rfl
    · show k.val - 4096 + 4096 = k.val; omega
    · rw [v26_at, h3]
      have := hhi n ⟨k.val - 4096, hk2⟩ (64 * h.val + 32 * s.val + e.val)
      rw [show 4096 + (k.val - 4096) = k.val by omega] at this
      rw [this]; exact congrArg (fun z => ((CK n (k.val - 4096) z : ℝ) : EReal)) (by show 64 * h.val + (32 * s.val + e.val) = _; omega)

/-- All values: those of the points, then the cached ones. -/
theorem v28_at (P : Fin 4 → Fin 4096 → ℕ → ℝ) (CV : Fin 4 → ℕ → ℕ → ℝ)
    (h0 : ∀ n r (c : Fin 3072), x0 (ix3 n r c) = ((P n r c.val : ℝ) : EReal))
    (h4 : ∀ n (l : Fin 512) (h : Fin 4) (d : Fin 64), x4 (ix5 n 0 l h d) = ((CV n l.val (64 * h.val + d.val) : ℝ) : EReal))
    (V : Fin 4 → ℕ → ℕ → ℝ) (hlo : ∀ n (k : Fin 4096) x, V n k.val x = P n k (512 + x)) (hhi : ∀ n (l : Fin 512) x, V n (4096 + l.val) x = CV n l.val x)
    (n : Fin 4) (k : Fin 4608) (h : Fin 4) (d : Fin 64) :
    val_main_v28 (F := Ideal) x0 x4 (ix4 n k h d) = ((V n k.val (64 * h.val + d.val) : ℝ) : EReal) := by
  unfold val_main_v28
  by_cases hk : k.val < 4096
  · refine (concatenate_pair_apply_left (t := S4x4608x4x64) (s₁ := S4x4096x4x64) (s₂ := S4x512x4x64) 1 (val_main_v5 (F := Ideal) x0) (val_main_v9 (F := Ideal) x4) _ _ rfl
      (ix4 n (⟨k.val, hk⟩ : Fin 4096) h d) ?_).trans ?_
    · intro b; fin_cases b <;> rfl
    · rw [v5_at, h0]; exact congrArg _ (hlo n ⟨k.val, hk⟩ _).symm
  · have hk2 : k.val - 4096 < 512 := by omega
    refine (concatenate_pair_apply_right (t := S4x4608x4x64) (s₁ := S4x4096x4x64) (s₂ := S4x512x4x64) 1 (val_main_v5 (F := Ideal) x0) (val_main_v9 (F := Ideal) x4) _ _ rfl rfl
      (ix4 n (⟨k.val - 4096, hk2⟩ : Fin 512) h d) ?_ ?_).trans ?_
    · intro b hb; fin_cases b <;> first | exact absurd rfl hb | rfl
    · show k.val - 4096 + 4096 = k.val; omega
    · rw [v9_at, h4]
      have := hhi n ⟨k.val - 4096, hk2⟩ (64 * h.val + d.val)
      rw [show 4096 + (k.val - 4096) = k.val by omega] at this
      rw [this]

/-- A score. -/
theorem v31_at (P : Fin 4 → Fin 4096 → ℕ → ℝ) (K : Fin 4 → ℕ → ℕ → ℝ)
    (h0 : ∀ n r (c : Fin 3072), x0 (ix3 n r c) = ((P n r c.val : ℝ) : EReal))
    (hK : ∀ n (k : Fin 4608) (h : Fin 4) (s : Fin 2) (e : Fin 32), val_main_v27 (F := Ideal) x0 x3 (ix5 n k h s e) = ((K n k.val (64 * h.val + 32 * s.val + e.val) : ℝ) : EReal))
    (n h : Fin 4) (s : Fin 2) (r : Fin 4096) (k : Fin 4608) :
    val_main_v31 (F := Ideal) x0 x3 (ix5 n h s r k) = ((score (P n r) (K n) (2 * h.val + s.val) k.val : ℝ) : EReal) := by
  rw [val_main_v31_apply, val_main_v29_apply, val_main_v30_apply, val_main_cst_2_apply]
  have hl : ∀ e : Fin 32, lidx_main_v29 (ix5 n h s r k) e = ix5 n r h s e := by
    intro e; funext a; fin_cases a <;> rfl
  have hr : ∀ e : Fin 32, ridx_main_v29 (ix5 n h s r k) e = ix5 n k h s e := by
    intro e; funext a; fin_cases a <;> rfl
  rw [Finset.sum_congr rfl (fun e _ => by rw [hl, hr, v1_at, hK, h0, ← EReal.coe_mul])]
  rw [sum_real]
  show (_ : EReal) * Ideal.ofBits FTy.f32 0x3E3504F3#32 = _
  rw [scaleWord, ← EReal.coe_mul]
  refine congrArg _ (congrArg (· * _) (Finset.sum_congr rfl fun e _ => ?_))
  show P n r (64 * h.val + 32 * s.val + e.val) * K n k.val (64 * h.val + 32 * s.val + e.val) = _
  rw [show 64 * h.val + 32 * s.val + e.val = 32 * (2 * h.val + s.val) + e.val by omega]

/-- The largest score of a row is real, so long as the scores are. -/
theorem v34_real (hy : AllReal (val_main_v31 (F := Ideal) x0 x3)) (j) : ∃ M : ℝ, val_main_v34 (F := Ideal) x0 x3 j = ((M : ℝ) : EReal) := by
  rw [val_main_v34_apply, val_main_v33_apply, val_main_cst_4_apply]
  unfold val_main_v32
  rw [Host.reduce_eq_fold_single FloatOps.maximumf _ _ _ (by decide) _ j, val_main_cst_3_apply]
  obtain ⟨M, hM⟩ := fold_real (val_main_v31 (F := Ideal) x0 x3 ∘ (show S4x4x2x4096x4608.Reduces [4] S4x4x2x4096 by decide).lift j)
    (fun i => hy _) Finset.univ ⟨(⟨0, by decide⟩ : Fin 4608), Finset.mem_univ _⟩
  refine ⟨M, ?_⟩
  show max (Ideal.ofBits FTy.f32 0xFF800000#32) (Finset.fold max (Ideal.ofBits FTy.f32 0xFF800000#32) _ _) = _
  rw [negInf, max_bot_left]; exact hM

/-- A weight of the softmax: the largest score cancels. -/
theorem v42_at (P : Fin 4 → Fin 4096 → ℕ → ℝ) (K : Fin 4 → ℕ → ℕ → ℝ)
    (hS : ∀ (n h : Fin 4) (s : Fin 2) (r : Fin 4096) (k : Fin 4608), val_main_v31 (F := Ideal) x0 x3 (ix5 n h s r k) = ((score (P n r) (K n) (2 * h.val + s.val) k.val : ℝ) : EReal))
    (n h : Fin 4) (s : Fin 2) (r : Fin 4096) (k : Fin 4608) :
    val_main_v42 (F := Ideal) x0 x3 (ix5 n h s r k)
      = ((Real.exp (score (P n r) (K n) (2 * h.val + s.val) k.val) / ∑ k : Fin 4608, Real.exp (score (P n r) (K n) (2 * h.val + s.val) k.val) : ℝ) : EReal) := by
  have hreal : AllReal (val_main_v31 (F := Ideal) x0 x3) := by
    intro i; rw [eq_ix5 i]; exact ⟨_, hS _ _ _ _ _⟩
  obtain ⟨M, hM⟩ := v34_real x0 x3 hreal (ix4 n h s r)
  have h38 : ∀ k : Fin 4608, val_main_v38 (F := Ideal) x0 x3 (ix5 n h s r k)
      = ((Real.exp (score (P n r) (K n) (2 * h.val + s.val) k.val - M) : ℝ) : EReal) := by
    intro k
    rw [val_main_v38_apply, val_main_v37_apply, val_main_v36_apply, val_main_v35_apply, hS]
    have hi : idx_main_v35 (idx_main_v36 (ix5 n h s r k)) = ix4 n h s r := by
      funext a; fin_cases a <;> rfl
    rw [hi, hM]
    rw [Ideal.hostUnary_exp_def]
    show Ideal.exp ((_ : EReal) - _) = _
    rw [← EReal.coe_sub, Ideal.exp_coe]
  rw [val_main_v42_apply, val_main_v41_apply, val_main_v40_apply, val_main_v39_apply, val_main_cst_5_apply, h38]
  have hi : ∀ k : Fin 4608, idx_main_v39 (idx_main_v40 (idx_main_v41 (ix5 n h s r k))) = fun j => ix5 n h s r j := by
    intro k; funext j a; fin_cases a <;> rfl
  rw [hi, Finset.sum_congr rfl (fun j _ => h38 j), sum_real]
  show Ideal.div _ (Ideal.ofBits FTy.f32 0x00000000#32 + (_ : EReal)) = _
  have hpos : 0 < ∑ j : Fin 4608, Real.exp (score (P n r) (K n) (2 * h.val + s.val) j.val - M) :=
    Finset.sum_pos (fun _ _ => Real.exp_pos _) ⟨0, Finset.mem_univ _⟩
  rw [zeroWord, zero_add, Ideal.div_coe hpos.ne', ← EReal.coe_mul]
  refine congrArg _ ?_
  have hs : ∑ j : Fin 4608, Real.exp (score (P n r) (K n) (2 * h.val + s.val) j.val - M)
      = (∑ j : Fin 4608, Real.exp (score (P n r) (K n) (2 * h.val + s.val) j.val)) * Real.exp (-M) := by
    rw [Finset.sum_mul]; exact Finset.sum_congr rfl fun j _ => by rw [sub_eq_add_neg, Real.exp_add]
  rw [hs, sub_eq_add_neg, Real.exp_add]
  have := (den_pos (score (P n r) (K n) (2 * h.val + s.val))).ne'
  have := (Real.exp_pos (-M)).ne'
  field_simp

/-- The difference of the two streams' weighted sums. -/
theorem v51_at (P : Fin 4 → Fin 4096 → ℕ → ℝ) (K V : Fin 4 → ℕ → ℕ → ℝ) (lam : ℝ) (hl : lamE (fun i j => x1 (ix2 i j)) = ((lam : ℝ) : EReal))
    (hS : ∀ (n h : Fin 4) (s : Fin 2) (r : Fin 4096) (k : Fin 4608), val_main_v31 (F := Ideal) x0 x3 (ix5 n h s r k) = ((score (P n r) (K n) (2 * h.val + s.val) k.val : ℝ) : EReal))
    (hV : ∀ n (k : Fin 4608) (h : Fin 4) (d : Fin 64), val_main_v28 (F := Ideal) x0 x4 (ix4 n k h d) = ((V n k.val (64 * h.val + d.val) : ℝ) : EReal))
    (n : Fin 4) (r : Fin 4096) (h : Fin 4) (d : Fin 64) :
    val_main_v51 (F := Ideal) x0 x1 x3 x4 (ix4 n r h d) = ((diff lam (P n r) (K n) (V n) h.val d.val : ℝ) : EReal) := by
  have hi : idx_main_v51 (ix4 n r h d) = ix4 n h d r := by funext a; fin_cases a <;> rfl
  rw [val_main_v51_apply, hi, val_main_v50_apply]
  have hli : ∀ k : Fin 4608, lidx_main_v50 (ix4 n h d r) k = ix4 n k h d := by intro k; funext a; fin_cases a <;> rfl
  have hri : ∀ k : Fin 4608, ridx_main_v50 (ix4 n h d r) k = ix4 n h r k := by intro k; funext a; fin_cases a <;> rfl
  have h0 : ∀ k : Fin 4608, val_main_v44 (F := Ideal) x0 x3 (ix4 n h r k) = val_main_v42 (F := Ideal) x0 x3 (ix5 n h 0 r k) := by
    intro k; unfold val_main_v44 val_main_v43; generalize val_main_v42 (F := Ideal) x0 x3 = y; pointwise
  have h1 : ∀ k : Fin 4608, val_main_v46 (F := Ideal) x0 x3 (ix4 n h r k) = val_main_v42 (F := Ideal) x0 x3 (ix5 n h 1 r k) := by
    intro k; unfold val_main_v46 val_main_v45; generalize val_main_v42 (F := Ideal) x0 x3 = y; pointwise
  have hv := v42_at x0 x3 P K hS n h
  have ht : ∀ k : Fin 4608, val_main_v28 (F := Ideal) x0 x4 (lidx_main_v50 (ix4 n h d r) k) * val_main_v49 (F := Ideal) x0 x1 x3 (ridx_main_v50 (ix4 n h d r) k)
      = ((V n k.val (64 * h.val + d.val) * (Real.exp (score (P n r) (K n) (2 * h.val) k.val) / (∑ k : Fin 4608, Real.exp (score (P n r) (K n) (2 * h.val) k.val))
          - lam * (Real.exp (score (P n r) (K n) (2 * h.val + 1) k.val) / (∑ k : Fin 4608, Real.exp (score (P n r) (K n) (2 * h.val + 1) k.val)))) : ℝ) : EReal) := by
    intro k
    rw [hli, hri, hV, val_main_v49_apply, val_main_v48_apply, val_main_v47_apply, v25_at, hl, h0, h1, hv 0 r k, hv 1 r k]
    show ((_ : ℝ) : EReal) * (((_ : ℝ) : EReal) - ((_ : ℝ) : EReal) * ((_ : ℝ) : EReal)) = _
    rw [← EReal.coe_mul, ← EReal.coe_sub, ← EReal.coe_mul]; rfl
  rw [Finset.sum_congr rfl (fun k _ => ht k), sum_real]
  refine congrArg _ ?_
  simp only [diff, soft, mul_sub, Finset.sum_sub_distrib, Finset.sum_div, Finset.mul_sum]
  refine congrArg₂ (· - ·) (Finset.sum_congr rfl fun k _ => ?_) (Finset.sum_congr rfl fun k _ => ?_) <;> ring

/-- The result of the reference. -/
theorem v68_at (P : Fin 4 → Fin 4096 → ℕ → ℝ) (CK CV K V : Fin 4 → ℕ → ℕ → ℝ) (lam : ℝ) (hl : lamE (fun i j => x1 (ix2 i j)) = ((lam : ℝ) : EReal))
    (h0 : ∀ n r (c : Fin 3072), x0 (ix3 n r c) = ((P n r c.val : ℝ) : EReal))
    (h3 : ∀ n (l : Fin 512) (h : Fin 4) (d : Fin 64), x3 (ix5 n 0 l h d) = ((CK n l.val (64 * h.val + d.val) : ℝ) : EReal))
    (h4 : ∀ n (l : Fin 512) (h : Fin 4) (d : Fin 64), x4 (ix5 n 0 l h d) = ((CV n l.val (64 * h.val + d.val) : ℝ) : EReal))
    (hKlo : ∀ n (k : Fin 4096) x, K n k.val x = P n k (256 + x)) (hKhi : ∀ n (l : Fin 512) x, K n (4096 + l.val) x = CK n l.val x)
    (hVlo : ∀ n (k : Fin 4096) x, V n k.val x = P n k (512 + x)) (hVhi : ∀ n (l : Fin 512) x, V n (4096 + l.val) x = CV n l.val x)
    (n : Fin 4) (r : Fin 4096) (h : Fin 4) (d : Fin 64) :
    val_main_v68 (F := Ideal) x0 x1 x2 x3 x4 (ix3 n r (⟨64 * h.val + d.val, by omega⟩ : Fin 256))
      = normE (fun d => ((diff lam (P n r) (K n) (V n) h.val d.val : ℝ) : EReal)) d * x2 (ix1 d) * Ideal.ofBits FTy.f32 0x3F4CCCCD#32 := by
  have h51 := v51_at x0 x1 x3 x4 P K V lam hl
    (v31_at x0 x3 P K h0 (v27_at x0 x3 P CK h0 h3 K hKlo hKhi)) (v28_at x0 x4 P CV h0 h4 V hVlo hVhi) n r h
  have key : ∀ y : (⟨S4x4096x4x64, .f32⟩ : BufTy).Contents (Elt Ideal), val_main_v51 (F := Ideal) x0 x1 x3 x4 = y →
      val_main_v68 (F := Ideal) x0 x1 x2 x3 x4 (ix3 n r (⟨64 * h.val + d.val, by omega⟩ : Fin 256))
      = normE (fun d => y (ix4 n r h d)) d * x2 (ix1 d) * Ideal.ofBits FTy.f32 0x3F4CCCCD#32 := by
    intro y hy
    unfold val_main_v68 val_main_v67 val_main_v66 val_main_v65 val_main_v64 val_main_v63 val_main_v62 val_main_v61 val_main_v60 val_main_v59 val_main_v58 val_main_v57 val_main_v56 val_main_v55 val_main_v54 val_main_v53 val_main_v52
    rw [hy]
    pointwise
    simp only [val_main_cst_6_apply, val_main_cst_7_apply, val_main_cst_8_apply, val_main_cst_9_apply, Scalar.ofBits, FloatOps.ofBits, normE]
    rw [zeroWord, zero_add]
  rw [key _ rfl]
  simp only [h51]

end Cert.ReferenceIdeal.Attn
-- ==== Proof.Result.lean ====
/- The array of results, for arguments of real numbers. -/
module

public import proofs.«01_k».proof.Proof.Windows
public import proofs.«01_k».proof.Proof.RefAt

@[expose] public section

set_option maxRecDepth 16384

noncomputable section

namespace Cert.KernelIdeal.Attn

open Cert.KernelIdeal.Gen Cert.Attn
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)
  (P : Fin 4 → Fin 4096 → ℕ → ℝ) (CK CV K V : Fin 4 → ℕ → ℕ → ℝ) (lam : ℝ)
  (h0 : ∀ n r (x : Fin 3072), (m ((c : Thread nD τ).loc main_arg0) : Vec Ideal S4x4096x3072 .f32) (ix3 n r x) = ((P n r x.val : ℝ) : EReal))
  (hl : lamE (fun i j => (m ((c : Thread nD τ).loc main_arg1) : Vec Ideal S4x32 .f32) (ix2 i j)) = ((lam : ℝ) : EReal))
  (h3 : ∀ n (l : Fin 512) (h : Fin 4) (d : Fin 64), (m ((c : Thread nD τ).loc main_arg3) : Vec Ideal S4x2x512x4x64 .f32) (ix5 n 0 l h d) = ((CK n l.val (64 * h.val + d.val) : ℝ) : EReal))
  (h4 : ∀ n (l : Fin 512) (h : Fin 4) (d : Fin 64), (m ((c : Thread nD τ).loc main_arg4) : Vec Ideal S4x2x512x4x64 .f32) (ix5 n 0 l h d) = ((CV n l.val (64 * h.val + d.val) : ℝ) : EReal))
  (hKlo : ∀ n (k : Fin 4096) x, K n k.val x = P n k (256 + x)) (hKhi : ∀ n (l : Fin 512) x, K n (4096 + l.val) x = CK n l.val x)
  (hVlo : ∀ n (k : Fin 4096) x, V n k.val x = P n k (512 + x)) (hVhi : ∀ n (l : Fin 512) x, V n (4096 + l.val) x = CV n l.val x)

theorem oneWord : (Scalar.ofBits .bf16 0x3F80#16 : Ideal .bf16) = ((1 : ℝ) : EReal) := by
  show Ideal.ofBits FTy.bf16 0x3F80#16 = _
  simp [Ideal.ofBits, Ideal.ieee, -EReal.coe_mul]; norm_num

include h0 h3 hKlo hKhi in
/-- The keys held at a point are those of its batch. -/
theorem keysAt_at (t : Fin cfg0.N) (n : Fin 4) (hn : n.val = t.val / 16) (k : Fin 4608) (x : Fin 256) :
    keysAt m c t (ix2 k x) = ((K n k.val x.val : ℝ) : EReal) := by
  by_cases hk : k.val < 4096
  · have e := KS_lo (iblk m c 1 t) (iblk m c 3 t) (ix2 k x) (ix3 (0 : Fin 1) (⟨k.val, hk⟩ : Fin 4096) x) rfl rfl
    refine e.symm.trans ?_
    refine (iblk1_at m c t (⟨k.val, hk⟩ : Fin 4096) x n hn).trans ((h0 _ _ _).trans ?_)
    exact congrArg _ (hKlo n ⟨k.val, hk⟩ x.val).symm
  · have hk2 : k.val - 4096 < 512 := by omega
    have e := KS_hi (iblk m c 1 t) (iblk m c 3 t) (ix2 k x) (ix4 (0 : Fin 1) (0 : Fin 1) (⟨k.val - 4096, hk2⟩ : Fin 512) x)
      (by show 4096 + (k.val - 4096) = k.val; omega) rfl
    have hx : x = (⟨64 * (x.val / 64) + x.val % 64, by omega⟩ : Fin 256) := Fin.ext (by show x.val = 64 * (x.val / 64) + x.val % 64; omega)
    refine e.symm.trans ?_
    have e3 := iblk3_at m c t (⟨k.val - 4096, hk2⟩ : Fin 512) (⟨x.val / 64, by omega⟩ : Fin 4) (⟨x.val % 64, by omega⟩ : Fin 64) n hn
    rw [← hx] at e3
    refine e3.trans ((h3 _ _ _ _).trans ?_)
    have e5 := hKhi n ⟨k.val - 4096, hk2⟩ x.val
    rw [show 4096 + (k.val - 4096) = k.val by omega] at e5
    rw [e5]
    exact congrArg (fun z => ((CK n (k.val - 4096) z : ℝ) : EReal)) (by show 64 * (x.val / 64) + x.val % 64 = x.val; omega)

include h0 h4 hVlo hVhi in
/-- The values held at a point are those of its batch, with rows of ones below each head's. -/
theorem valsAt_at (t : Fin cfg0.N) (n : Fin 4) (hn : n.val = t.val / 16) (h : Fin 4) (d : Fin 80) (k : Fin 4608) :
    valsAt m c t (ix3 h d k) = ((if d.val < 64 then V n k.val (64 * h.val + d.val) else 1 : ℝ) : EReal) := by
  by_cases hd : d.val < 64
  · rw [if_pos hd]
    by_cases hk : k.val < 4096
    · have e := VS_lo (iblk m c 2 t) (iblk m c 4 t) (ix3 h d k) (ix3 (0 : Fin 1) (⟨k.val, hk⟩ : Fin 4096) (⟨64 * h.val + d.val, by omega⟩ : Fin 256)) hd rfl rfl
      refine e.symm.trans ?_
      refine (iblk2_at m c t (⟨k.val, hk⟩ : Fin 4096) _ n hn).trans ((h0 _ _ _).trans ?_)
      exact congrArg _ (hVlo n ⟨k.val, hk⟩ _).symm
    · have hk2 : k.val - 4096 < 512 := by omega
      have e := VS_hi (iblk m c 2 t) (iblk m c 4 t) (ix3 h d k) (ix4 (0 : Fin 1) (0 : Fin 1) (⟨k.val - 4096, hk2⟩ : Fin 512) (⟨64 * h.val + d.val, by omega⟩ : Fin 256)) hd
        (by show 4096 + (k.val - 4096) = k.val; omega) rfl
      refine e.symm.trans ?_
      refine (iblk4_at m c t (⟨k.val - 4096, hk2⟩ : Fin 512) h (⟨d.val, hd⟩ : Fin 64) n hn).trans ((h4 _ _ _ _).trans ?_)
      have e5 := hVhi n ⟨k.val - 4096, hk2⟩ (64 * h.val + d.val)
      rw [show 4096 + (k.val - 4096) = k.val by omega] at e5
      rw [e5]
  · rw [if_neg hd]
    exact (VS_ones (iblk m c 2 t) (iblk m c 4 t) (ix3 h d k) hd).symm.trans oneWord

/-- Every element of the result lies in the block of some point. -/
theorem cover (i : S4x4096x256.Idx) : ∃ t : Fin cfg0.N, (cfg0.win 7).flush t = true ∧ i ∈ ((cfg0.win 7).blk t).view.set := by
  have b0 : (i 0).val < 4 := (i 0).isLt
  have b1 : (i 1).val < 4096 := (i 1).isLt
  have b2 : (i 2).val < 256 := (i 2).isLt
  have ht : 16 * (i 0).val + (i 1).val / 256 < cfg0.N := by rw [show cfg0.N = 64 from N_0]; omega
  refine ⟨⟨16 * (i 0).val + (i 1).val / 256, ht⟩, flush0_7 _, ?_⟩
  show i ∈ ((View.whole main_v6).slice (win0_7.rect ⟨16 * (i 0).val + (i 1).val / 256, ht⟩)).set
  rw [View.set_slice_whole, Rect.mem_set_unit]
  have w0 := word0 ⟨16 * (i 0).val + (i 1).val / 256, ht⟩
  have w1 := word1 ⟨16 * (i 0).val + (i 1).val / 256, ht⟩
  intro a
  fin_cases a
  · show (BitVec.ofNat 32 (grid0.coords _ 0).val).toNat * 1 ≤ (i 0).val ∧ (i 0).val < (BitVec.ofNat 32 (grid0.coords _ 0).val).toNat * 1 + 1
    rw [w0]; simp only []; omega
  · show (BitVec.ofNat 32 (grid0.coords _ 1).val).toNat * 256 ≤ (i 1).val ∧ (i 1).val < (BitVec.ofNat 32 (grid0.coords _ 1).val).toNat * 256 + 256
    rw [w1]; simp only []; omega
  · show 0 * 256 ≤ (i 2).val ∧ (i 2).val < 0 * 256 + 256
    omega

include h0 h3 h4 hl hKlo hKhi hVlo hVhi in
/-- The result array ends holding any array that agrees with the layer's formula everywhere. -/
theorem result (G : Vec Ideal S4x4096x256 .bf16)
    (hG : ∀ (n : Fin 4) (r : Fin 4096) (h : Fin 4) (d : Fin 64), G (ix3 n r (⟨64 * h.val + d.val, by omega⟩ : Fin 256))
      = normE (fun d => ((diff lam (P n r) (K n) (V n) h.val d.val : ℝ) : EReal)) d * (m ((c : Thread nD τ).loc main_arg2) : Vec Ideal S64 .f32) (ix1 d) * Ideal.ofBits FTy.f32 0x3F4CCCCD#32) :
    (dats m 0 c).arrAt 7 cfg0.N = G := by
  refine (dats m 0 c).arrAt_eq_of_cover 7 G (fun t _ => ?_) cover
  have ht : t.val < 64 := Nat.lt_of_lt_of_eq t.isLt N_0
  funext y
  obtain ⟨o, b, x, rfl⟩ : ∃ o b x, y = ix3 (n0 := 1) (n1 := 256) (n2 := 256) o b x := ⟨_, _, _, eq_ix3 y⟩
  obtain rfl : o = 0 := Fin.ext (by omega)
  have el : (dats m 0 c).flushed 7 t (ix3 (0 : Fin 1) b x) = outAt m c t (ix3 (0 : Fin 1) b x) := by
    show (dats m 0 c).after 7 t _ = _
    rw [after7]; rfl
  have ei : (win0_7.rect t).emb (ix3 (0 : Fin 1) b x) = ix3 (⟨t.val / 16, by omega⟩ : Fin 4) (⟨256 * (t.val % 16) + b.val, by omega⟩ : Fin 4096) x := by
    funext a; apply Fin.ext; rw [win0_7.rect_emb_val t (ix3 (0 : Fin 1) b x) a]
    fin_cases a
    · show (BitVec.ofNat 32 (grid0.coords t 0).val).toNat * 1 + 0 = t.val / 16; rw [word0]; omega
    · show (BitVec.ofNat 32 (grid0.coords t 1).val).toNat * 256 + b.val = 256 * (t.val % 16) + b.val; rw [word1]; omega
    · show 0 * 256 + x.val = x.val; omega
  have er : ((cfg0.win 7).blk t).view.read (Elt Ideal) G (ix3 (0 : Fin 1) b x) = G ((win0_7.rect t).emb (ix3 (0 : Fin 1) b x)) := rfl
  refine el.trans (Eq.trans ?_ er.symm)
  rw [ei]
  have hx : x = (⟨64 * (x.val / 64) + x.val % 64, by omega⟩ : Fin 256) := Fin.ext (by show x.val = 64 * (x.val / 64) + x.val % 64; omega)
  have key := outB_eq (iblk m c 0 t) (iblk m c 5 t) (iblk m c 6 t) (keysAt m c t) (valsAt m c t) lam
    (fun b => P (⟨t.val / 16, by omega⟩ : Fin 4) (⟨256 * (t.val % 16) + b.val, by omega⟩ : Fin 4096)) (K (⟨t.val / 16, by omega⟩ : Fin 4)) (V (⟨t.val / 16, by omega⟩ : Fin 4))
    (fun b x => (iblk0_at m c t b x _ _ rfl rfl).trans (h0 _ _ _))
    ((congrArg lamE (funext fun i => funext fun j => iblk5_at m c t i j)).trans hl)
    (fun k x => keysAt_at m c P CK K h0 h3 hKlo hKhi t _ rfl k x)
    (fun h d k => valsAt_at m c P CV V h0 h4 hVlo hVhi t _ rfl h d k)
    b (⟨x.val / 64, by omega⟩ : Fin 4) (⟨x.val % 64, by omega⟩ : Fin 64)
  have e6 := iblk6_at m c t (⟨x.val / 64, by omega⟩ : Fin 4) (⟨x.val % 64, by omega⟩ : Fin 64)
  have hg := hG (⟨t.val / 16, by omega⟩ : Fin 4) (⟨256 * (t.val % 16) + b.val, by omega⟩ : Fin 4096) (⟨x.val / 64, by omega⟩ : Fin 4) (⟨x.val % 64, by omega⟩ : Fin 64)
  rw [e6] at key
  rw [← hx] at key hg
  exact key.trans hg.symm

end Cert.KernelIdeal.Attn
-- ==== Proof.Reals.lean ====
/- Arguments below infinity in size are real numbers, and so is the weight of the second stream. -/
module

public import proofs.«01_k».proof.Defs
public import proofs.«01_k».proof.Proof.Gen.Pre_finite
public import proofs.«01_k».proof.Proof.Stream

@[expose] public section

set_option maxRecDepth 16384

noncomputable section

namespace Cert.Attn

open Idealize.ShloMosaic Idealize.ShloMosaic.TcCoe
open Cert.KernelIdeal.Attn (AllReal lamE sum_real)

theorem posInf : Ideal.ofBits FTy.f32 0x7F800000#32 = (⊤ : EReal) := by
  simp [Ideal.ofBits, Ideal.ieee]

/-- A number whose size is below infinity is real. -/
theorem real_of_lt (x : EReal) (h : Ideal.cmp .olt (max x (-x)) (Ideal.ofBits FTy.f32 0x7F800000#32) = 1#1) : ∃ r : ℝ, x = (r : EReal) := by
  rw [posInf] at h
  induction x with
  | bot => simp [Ideal.cmp] at h
  | top => simp [Ideal.cmp] at h
  | coe r => exact ⟨r, rfl⟩

theorem fifth : ∃ r : ℝ, Ideal.ofBits FTy.f32 0x3E4CCCCD#32 = (r : EReal) := by
  refine ⟨13421773 / 67108864, ?_⟩
  simp [Ideal.ofBits, Ideal.ieee, -EReal.coe_mul]; norm_num

theorem lam_real (l : Fin 4 → Fin 32 → EReal) (hl : ∀ i j, ∃ r : ℝ, l i j = (r : EReal)) : ∃ r : ℝ, lamE l = (r : EReal) := by
  choose f hf using hl
  obtain ⟨w, hw⟩ := fifth
  unfold lamE
  simp only [hf, hw, ← EReal.coe_mul, sum_real, Ideal.exp_coe, ← EReal.coe_sub, ← EReal.coe_add]
  exact ⟨_, rfl⟩

open Cert.Pre_finite in
/-- What the precondition says. -/
theorem reals (x0 : FVec Ideal S4x4096x3072 .f32) (x1 : FVec Ideal S4x32 .f32) (x2 : FVec Ideal S64 .f32) (x3 x4 : FVec Ideal S4x2x512x4x64 .f32)
    (h : (fn (F := Ideal) x0 x1 x2 x3 x4).1 = (fun _ => 1#1) ∧ (fn (F := Ideal) x0 x1 x2 x3 x4).2.1 = (fun _ => 1#1)
      ∧ (fn (F := Ideal) x0 x1 x2 x3 x4).2.2.1 = (fun _ => 1#1) ∧ (fn (F := Ideal) x0 x1 x2 x3 x4).2.2.2 = (fun _ => 1#1)) :
    (∀ i, ∃ r : ℝ, x0 i = (r : EReal)) ∧ (∀ i, ∃ r : ℝ, x1 i = (r : EReal)) ∧ (∀ i, ∃ r : ℝ, x3 i = (r : EReal)) ∧ (∀ i, ∃ r : ℝ, x4 i = (r : EReal)) :=
  ⟨fun i => real_of_lt _ (congrFun h.1 i), fun i => real_of_lt _ (congrFun h.2.1 i), fun i => real_of_lt _ (congrFun h.2.2.1 i),
    fun i => real_of_lt _ (congrFun h.2.2.2 i)⟩

end Cert.Attn
-- ==== Proof.Attention.lean ====
/- The claims about the attention, assembled. -/
module

public import proofs.«01_k».proof.Defs
public import proofs.«01_k».proof.Proof.FrameBits
public import proofs.«01_k».proof.Proof.Result
public import proofs.«01_k».proof.Proof.Reals
public import Idealize.ShloMosaic.Lib.Quiescent

@[expose] public section

set_option maxRecDepth 16384

noncomputable section

namespace Cert.Attn

open Idealize.ShloMosaic Idealize.SL.Sem Idealize.ShloMosaic.TcCoe
open Cert.KernelIdeal.Attn (lamE normE)

theorem frame_ideal : Cert.quiescent_KernelIdeal := fun m ρ _ => Cert.KernelIdeal.Attn.frame m ρ

theorem frame_ideal_pre : Cert.quiescent_KernelIdeal_pre_finite := fun m ρ _ => Cert.KernelIdeal.Attn.frame m ρ

theorem frame_ref : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

theorem frame_ref_pre : Cert.quiescent_ReferenceIdeal_pre_finite := fun m ρ _ =>
  (θ_run Cert.ReferenceIdeal.defs _ _).mono (fun r h => ⟨fun c => (h c).2, sem_eq_zero_of_no_sems (by decide) r.2⟩) (Cert.ReferenceIdeal.Value.run m ρ)

theorem preserves : Cert.preserves_Kernel_KernelIdeal :=
  IdealRules.named_const.statement Cert.KernelIdeal.κ "scale2" .f32 0x3E8293EE#32 (((11863283 / 67108864) * (Real.log 2)⁻¹ : ℝ) : EReal) rfl

/-- The reference's array of results is the kernel's, for arguments of real numbers. -/
theorem arrays (m : (ℓ : Loc Cert.KernelIdeal.nD Cert.KernelIdeal.τ Cert.KernelIdeal.sig) → Buf (Elt Ideal) ℓ) (hpre : Cert.Pre_KernelIdeal_finite m)
    (c : Dev Cert.KernelIdeal.nD) :
    (Cert.KernelIdeal.Attn.dats m 0 c).arrAt 7 Cert.KernelIdeal.cfg0.N
      = Cert.ReferenceIdeal.Read.val_main_v68 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  obtain ⟨r0, r1, r3, r4⟩ := reals _ _ _ _ _ (hpre c)
  choose f0 e0 using r0
  choose f3 e3 using r3
  choose f4 e4 using r4
  obtain ⟨lam, hl⟩ := lam_real (fun i j => (m ((c.tc : Thread Cert.KernelIdeal.nD Cert.KernelIdeal.τ).loc Cert.KernelIdeal.main_arg1) : FVec Ideal Cert.KernelIdeal.S4x32 .f32) (ix2 i j)) (fun i j => r1 _)
  let P : Fin 4 → Fin 4096 → ℕ → ℝ := fun n r x => if h : x < 3072 then f0 (ix3 n r (⟨x, h⟩ : Fin 3072)) else 0
  let C (f : Cert.KernelIdeal.S4x2x512x4x64.Idx → ℝ) : Fin 4 → ℕ → ℕ → ℝ := fun n l x =>
    if h : l < 512 ∧ x < 256 then f (ix5 n (0 : Fin 2) (⟨l, h.1⟩ : Fin 512) (⟨x / 64, by omega⟩ : Fin 4) (⟨x % 64, by omega⟩ : Fin 64)) else 0
  let J (o : ℕ) (D : Fin 4 → ℕ → ℕ → ℝ) : Fin 4 → ℕ → ℕ → ℝ := fun n k x => if h : k < 4096 then P n ⟨k, h⟩ (o + x) else D n (k - 4096) x
  have hP : ∀ n r (x : Fin 3072), P n r x.val = f0 (ix3 n r x) := fun n r x => dif_pos x.isLt
  have hC : ∀ f n (l : Fin 512) (h : Fin 4) (d : Fin 64), C f n l.val (64 * h.val + d.val) = f (ix5 n 0 l h d) := by
    intro f n l h d
    refine (dif_pos ⟨l.isLt, by omega⟩).trans ?_
    congr 2
    · apply Fin.ext; show (64 * h.val + d.val) / 64 = h.val; omega
    · apply Fin.ext; show (64 * h.val + d.val) % 64 = d.val; omega
  have hlo : ∀ o D n (k : Fin 4096) x, J o D n k.val x = P n k (o + x) := fun o D n k x => dif_pos k.isLt
  have hhi : ∀ o D n (l : Fin 512) x, J o D n (4096 + l.val) x = D n l.val x := by
    intro o D n l x
    refine (dif_neg (by omega)).trans ?_
    rw [show 4096 + l.val - 4096 = l.val by omega]
  have h0 : ∀ n r (x : Fin 3072), (m ((c.tc : Thread Cert.KernelIdeal.nD Cert.KernelIdeal.τ).loc Cert.KernelIdeal.main_arg0) : FVec Ideal Cert.KernelIdeal.S4x4096x3072 .f32) (ix3 n r x) = ((P n r x.val : ℝ) : EReal) :=
    fun n r x => (e0 _).trans (by rw [hP])
  have h3 : ∀ n (l : Fin 512) (h : Fin 4) (d : Fin 64), (m ((c.tc : Thread Cert.KernelIdeal.nD Cert.KernelIdeal.τ).loc Cert.KernelIdeal.main_arg3) : FVec Ideal Cert.KernelIdeal.S4x2x512x4x64 .f32) (ix5 n 0 l h d) = ((C f3 n l.val (64 * h.val + d.val) : ℝ) : EReal) :=
    fun n l h d => (e3 _).trans (by rw [hC])
  have h4 : ∀ n (l : Fin 512) (h : Fin 4) (d : Fin 64), (m ((c.tc : Thread Cert.KernelIdeal.nD Cert.KernelIdeal.τ).loc Cert.KernelIdeal.main_arg4) : FVec Ideal Cert.KernelIdeal.S4x2x512x4x64 .f32) (ix5 n 0 l h d) = ((C f4 n l.val (64 * h.val + d.val) : ℝ) : EReal) :=
    fun n l h d => (e4 _).trans (by rw [hC])
  exact Cert.KernelIdeal.Attn.result m c P (C f3) (C f4) (J 256 (C f3)) (J 512 (C f4)) lam h0 hl h3 h4 (hlo 256 _) (hhi 256 _) (hlo 512 _) (hhi 512 _) _
    (fun n r h d => Cert.ReferenceIdeal.Attn.v68_at _ _ _ _ _ P (C f3) (C f4) (J 256 (C f3)) (J 512 (C f4)) lam hl h0 h3 h4
      (hlo 256 _) (hhi 256 _) (hlo 512 _) (hhi 512 _) n r h d)

theorem algebraic : Cert.algebraic_KernelIdeal_ReferenceIdeal_pre_finite := by
  intro m g m' g' hpre hargs
  refine ⟨fun c => (Cert.KernelIdeal.Attn.dats m 0 c).arrAt 7 Cert.KernelIdeal.cfg0.N, ?_, ?_⟩
  · exact (θ_run Cert.KernelIdeal.defs _ _).mono (fun _ h c => ⟨(h.1.1 c).1 7, h.2.1 c⟩)
      (θ_run_and (Cert.KernelIdeal.Attn.run_main_quiescent m g) (Cert.KernelIdeal.Attn.frame m g))
  · refine (θ_run Cert.ReferenceIdeal.defs _ _).mono (fun _ h c => ⟨(h c).1.trans ?_, (h c).2⟩) (Cert.ReferenceIdeal.Value.run m' g')
    rw [Cert.ReferenceIdeal.Read.val_main_v68_eq]
    obtain ⟨a0, a1, a2, a3, a4⟩ := hargs c
    rw [a0, a1, a2, a3, a4]
    exact (arrays m hpre c).symm

end Cert.Attn
-- ==== Proof.TailRun.lean ====
/- The run of the layer's last three calls, with what its result array ends holding. -/
module

public import proofs.«01_k».proof.Proof.Gen.TailIdeal.Frame

@[expose] public section

set_option maxRecDepth 16384

noncomputable section

namespace Cert.TailIdeal.Tail

open Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run ends with the result array at what the last region leaves: the launch is the frame's, over the same segments. -/
theorem run_result : θ_run defs (onTc (τ := τ) (main (F := F))) ⟨m, fun _ => 0, ρ⟩ (fun r => ∀ c : Dev nD,
      r.2.mem ((c.tc : Thread nD τ).loc main_v25) = W6 m ρ c (Proc.devRef .tc main_v25)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => fun c => h c _ (mem_uc main_v25 (by decide)))

end Cert.TailIdeal.Tail
-- ==== Proof.LayerRows.lean ====
/- The last steps of a layer at one point of the sequence, as formulas over the extended reals: the output projection
   with its residual and layer norm, the modulated layer norm, the gated feed-forward network, and its own residual
   and layer norm. -/
module

public import Idealize.ShloMosaic.PureOps.Ideal
public import Idealize.ShloMosaic.Lib.ValueIdx

@[expose] public section

noncomputable section

namespace Cert.Layer

open Idealize.ShloMosaic

/-- The width of the residual stream, 1024, the layer norm's epsilon and the residual's scale, as the words the program holds. -/
abbrev wWidth : EReal := Ideal.ofBits FTy.f32 0x44800000#32
abbrev wEps : EReal := Ideal.ofBits FTy.f32 0x3727C5AC#32
abbrev wAlpha : EReal := Ideal.ofBits FTy.f32 0x3FB504F3#32

/-- A row less its mean, -/
def centre (z : Fin 1024 → EReal) (d : Fin 1024) : EReal := z d - Ideal.div (∑ k, z k) wWidth
/-- and over its standard deviation: the layer norm without its gain and bias. -/
def norm (z : Fin 1024 → EReal) (d : Fin 1024) : EReal :=
  centre z d * Ideal.rsqrt (Ideal.div (∑ k, centre z k * centre z k) wWidth + wEps)

/-- The residual stream and what a layer adds to it, before the norm. -/
def resid {N : ℕ} (x g : Fin 1024 → EReal) (o : Fin N → EReal) (w : Fin N → Fin 1024 → EReal) (d : Fin 1024) : EReal :=
  wAlpha * x d + g d * ∑ k, o k * w k d

/-- The residual, its layer norm, gain and bias. -/
def residNorm {N : ℕ} (x g : Fin 1024 → EReal) (o : Fin N → EReal) (w : Fin N → Fin 1024 → EReal) (lg lb : Fin 1024 → EReal) (d : Fin 1024) : EReal :=
  norm (resid x g o w) d * lg d + lb d

/-- The four mixers' outputs side by side. -/
def cat (a b c e : Fin 256 → EReal) (k : Fin 1024) : EReal :=
  if h : k.val < 256 then a ⟨k.val, h⟩ else if h : k.val - 256 < 256 then b ⟨k.val - 256, h⟩
    else if h : k.val - 256 - 256 < 256 then c ⟨k.val - 256 - 256, h⟩ else e ⟨k.val - 256 - 256 - 256, by omega⟩

/-- The modulated layer norm. -/
def modNorm (x sc sh : Fin 1024 → EReal) (d : Fin 1024) : EReal := norm x d * (1 + sc d) + sh d

/-- The feed-forward network's hidden unit: the gate's SiLU times the other half. -/
def gated (h wg wu : Fin 1024 → EReal) : EReal :=
  (∑ k, h k * wg k) * Ideal.div 1 (1 + Ideal.exp (0 - ∑ k, h k * wg k)) * ∑ k, h k * wu k

/-- A column of the input projection: the modulated layer norm of the row against the weight's column. -/
def projected (x sc sh w : Fin 1024 → EReal) : EReal := ∑ k, modNorm x sc sh k * w k

end Cert.Layer
-- ==== Proof.TailPay.lean ====
/- What each of the layer's last three kernels stores, at an index. -/
module

public import proofs.«01_k».proof.Proof.Gen.TailIdeal.Frame
public import proofs.«01_k».proof.Proof.LayerRows
public import Idealize.ShloMosaic.PureOps.Ideal
public import Idealize.ShloMosaic.Lib.Pointwise
public import Idealize.ShloMosaic.Lib.ValueIdx
public import Idealize.ShloMosaic.Lib.Pipeline.ValueKit.Basic

@[expose] public section

set_option maxRecDepth 16384

noncomputable section

namespace Cert.TailIdeal.Tail

open Cert.TailIdeal.Gen Cert.Layer
open Idealize.ShloMosaic Idealize.ShloMosaic.TcCoe Idealize.ShloMosaic.Tactic

/-- The row a block of one batch holds. -/
abbrev row {n : ℕ} (x : (⟨3, ![1, 1024, n]⟩ : Shape).Idx → EReal) (r : Fin 1024) : Fin n → EReal := fun k => x (ix3 (0 : Fin 1) r k)

/-- The mixers' outputs side by side, at an index. -/
theorem cat_at (x1 x2 x3 x4 : FVec Ideal S1024x256 .bf16) (r k : Fin 1024) :
    concatenate S1024x1024 1 [⟨S1024x256, x1⟩, ⟨S1024x256, x2⟩, ⟨S1024x256, x3⟩, ⟨S1024x256, x4⟩]
      concatenates_S1024x256_S1024x256_S1024x256_S1024x256_S1024x1024_d1 (ix2 r k)
      = cat (fun x => x1 (ix2 r x)) (fun x => x2 (ix2 r x)) (fun x => x3 (ix2 r x)) (fun x => x4 (ix2 r x)) k := by
  unfold cat
  pointwise

/-- The first kernel's centred residual. -/
theorem centre_at (v0 v2 v4 v6 : Vec Ideal S1x1024x256 .bf16) (v9 : Vec Ideal S1x1024x1024 .bf16) (v12 : Vec Ideal S1x1024x1024 .f32) (v16 : Vec Ideal S1x1x1024 .f32) (r d : Fin 1024) :
    k0_pay2 v0 v2 v4 v6 v9 v12 v16 (ix2 r d)
      = centre (resid (row v12 r) (fun d => v16 (ix3 0 0 d)) (cat (row v0 r) (row v2 r) (row v4 r) (row v6 r)) (fun k d => v9 (ix3 0 k d))) d := by
  have hc := fun k => cat_at (shapeCast S1024x256 v0 shapeCasts_S1x1024x256_S1024x256) (shapeCast S1024x256 v2 shapeCasts_S1x1024x256_S1024x256)
    (shapeCast S1024x256 v4 shapeCasts_S1x1024x256_S1024x256) (shapeCast S1024x256 v6 shapeCasts_S1x1024x256_S1024x256) r k
  unfold k0_pay2; dsimp only
  revert hc
  generalize concatenate S1024x1024 1 _ _ = y
  intro hc
  pointwise
  simp only [hc]
  unfold centre resid
  pointwise

/-- The first kernel's store. -/
theorem pay0_at (v0 v2 v4 v6 : Vec Ideal S1x1024x256 .bf16) (v9 : Vec Ideal S1x1024x1024 .bf16) (v12 : Vec Ideal S1x1024x1024 .f32) (v16 : Vec Ideal S1x1x1024 .f32)
    (v37 v41 : Vec Ideal S1x1024 .f32) (n : Fin 1) (r d : Fin 1024) :
    k0_pay1 (k0_pay2 v0 v2 v4 v6 v9 v12 v16) (k0_pay3 v0 v2 v4 v6 v9 v12 v16) k0_pay4 v37 v41 (ix3 n r d)
      = residNorm (row v12 r) (fun d => v16 (ix3 0 0 d)) (cat (row v0 r) (row v2 r) (row v4 r) (row v6 r)) (fun k d => v9 (ix3 0 k d))
          (fun d => v37 (ix2 0 d)) (fun d => v41 (ix2 0 d)) d := by
  have hc := centre_at v0 v2 v4 v6 v9 v12 v16 r
  unfold k0_pay1 k0_pay3 k0_pay4
  generalize k0_pay2 v0 v2 v4 v6 v9 v12 v16 = y at hc ⊢
  pointwise
  simp only [hc]
  rfl

/-- The second kernel's modulated layer norm, -/
theorem mod_at (v0 : Vec Ideal S1x1024x1024 .f32) (v19 v25 : Vec Ideal S1x1x1024 .f32) (r d : Fin 1024) :
    k1_pay2 v0 v19 v25 (ix2 r d) = modNorm (row v0 r) (fun d => v19 (ix3 0 0 d)) (fun d => v25 (ix3 0 0 d)) d := by
  unfold k1_pay2; pointwise
  rfl

/-- and its store. -/
theorem pay1_at (v0 : Vec Ideal S1x1024x1024 .f32) (v19 v25 : Vec Ideal S1x1x1024 .f32) (v30 v33 : Vec Ideal S1x1024x1408 .bf16) (n : Fin 1) (r : Fin 1024) (d : Fin 1408) :
    k1_pay1 (k1_pay2 v0 v19 v25) (k1_pay3 v0 v19 v25 v30) (k1_pay4 v33) (ix3 n r d)
      = gated (modNorm (row v0 r) (fun d => v19 (ix3 0 0 d)) (fun d => v25 (ix3 0 0 d))) (fun k => v30 (ix3 0 k d)) (fun k => v33 (ix3 0 k d)) := by
  have hc := mod_at v0 v19 v25 r
  unfold k1_pay1 k1_pay3 k1_pay4
  generalize k1_pay2 v0 v19 v25 = y at hc ⊢
  pointwise
  simp only [hc]
  rfl

/-- The third kernel's store. -/
theorem pay2_at (v0 : Vec Ideal S1x1024x2816 .bf16) (v3 : Vec Ideal S1x2816x1024 .bf16) (v6 : Vec Ideal S1x1024x1024 .f32) (v11 : Vec Ideal S1x1x1024 .f32)
    (v32 v36 : Vec Ideal S1x1024 .f32) (n : Fin 1) (r d : Fin 1024) :
    k2_pay1 (k2_pay2 v0 v3 v6 v11 v32) v36 (ix3 n r d)
      = residNorm (row v6 r) (fun d => v11 (ix3 0 0 d)) (row v0 r) (fun k d => v3 (ix3 0 k d)) (fun d => v32 (ix2 0 d)) (fun d => v36 (ix2 0 d)) d := by
  unfold k2_pay1 k2_pay2; pointwise
  rfl

end Cert.TailIdeal.Tail
-- ==== Proof.TailWin.lean ====
/- What each window of the layer's last three kernels reads of its array. -/
module

public import proofs.«01_k».proof.Proof.TailPay
public import Idealize.ShloMosaic.Lib.Pipeline.Value

@[expose] public section

set_option maxRecDepth 16384

noncomputable section

namespace Cert.TailIdeal.Tail

open Cert.TailIdeal.Gen
open Idealize.ShloMosaic Idealize.ShloMosaic.TcCoe Idealize.ShloMosaic.Tactic
open Idealize.ShloMosaic.Pipeline (Dat Cfg Window)

variable (V : (c : Dev nD) → (b : Ref sig .tc) → Buf (Elt Ideal) ((c : Thread nD τ).loc b)) (c : Dev nD)

theorem word0_0 (t : Fin grid0.N) : (BitVec.ofNat 32 (grid0.coords t 0).val).toNat = t.val / 4 := by
  have ht : t.val < 16 := Nat.lt_of_lt_of_eq t.isLt N_0
  have e : (grid0.coords t 0).val = t.val / 4 % 4 := Pipeline.Grid.coords_val t 0 (by decide) rfl
  rw [e, BitVec.toNat_ofNat]; omega

theorem word0_1 (t : Fin grid0.N) : (BitVec.ofNat 32 (grid0.coords t 1).val).toNat = t.val % 4 := by
  have ht : t.val < 16 := Nat.lt_of_lt_of_eq t.isLt N_0
  have e : (grid0.coords t 1).val = t.val / 1 % 4 := Pipeline.Grid.coords_val t 1 (by decide) rfl
  rw [e, BitVec.toNat_ofNat]; omega

theorem word2_0 (t : Fin grid2.N) : (BitVec.ofNat 32 (grid2.coords t 0).val).toNat = t.val / 4 := by
  have ht : t.val < 16 := Nat.lt_of_lt_of_eq t.isLt N_2
  have e : (grid2.coords t 0).val = t.val / 4 % 4 := Pipeline.Grid.coords_val t 0 (by decide) rfl
  rw [e, BitVec.toNat_ofNat]; omega

theorem word2_1 (t : Fin grid2.N) : (BitVec.ofNat 32 (grid2.coords t 1).val).toNat = t.val % 4 := by
  have ht : t.val < 16 := Nat.lt_of_lt_of_eq t.isLt N_2
  have e : (grid2.coords t 1).val = t.val / 1 % 4 := Pipeline.Grid.coords_val t 1 (by decide) rfl
  rw [e, BitVec.toNat_ofNat]; omega

theorem word1_0 (t : Fin grid1.N) : (BitVec.ofNat 32 (grid1.coords t 0).val).toNat = t.val / 16 := by
  have ht : t.val < 32 := Nat.lt_of_lt_of_eq t.isLt N_1
  have e : (grid1.coords t 0).val = t.val / 16 % 2 := Pipeline.Grid.coords_val t 0 (by decide) rfl
  rw [e, BitVec.toNat_ofNat]; omega

theorem word1_1 (t : Fin grid1.N) : (BitVec.ofNat 32 (grid1.coords t 1).val).toNat = t.val / 4 % 4 := by
  have ht : t.val < 32 := Nat.lt_of_lt_of_eq t.isLt N_1
  have e : (grid1.coords t 1).val = t.val / 4 % 4 := Pipeline.Grid.coords_val t 1 (by decide) rfl
  rw [e, BitVec.toNat_ofNat]; omega

theorem word1_2 (t : Fin grid1.N) : (BitVec.ofNat 32 (grid1.coords t 2).val).toNat = t.val % 4 := by
  have ht : t.val < 32 := Nat.lt_of_lt_of_eq t.isLt N_1
  have e : (grid1.coords t 2).val = t.val / 1 % 4 := Pipeline.Grid.coords_val t 2 (by decide) rfl
  rw [e, BitVec.toNat_ofNat]; omega

theorem word1_up (t : Fin grid1.N) : (Scalar.addi (BitVec.ofNat 32 (grid1.coords t 0).val) 2#32).toNat = t.val / 16 + 2 := by
  have ht : t.val < 32 := Nat.lt_of_lt_of_eq t.isLt N_1
  have e := word1_0 t
  show (BitVec.ofNat 32 (grid1.coords t 0).val + 2#32).toNat = _
  rw [BitVec.toNat_add, e, BitVec.toNat_ofNat]; omega

theorem blk0_0 (t : Fin cfg0.N) (a : Fin 1) (r : Fin 1024) (d : Fin 256) (n : Fin 4) (q : Fin 4096) (g : Fin 256)
    (h0 : n.val = 1 * (t.val / 4) + a.val) (h1 : q.val = 1024 * (t.val % 4) + r.val) (h2 : g.val = 256 * 0 + d.val) :
    (iblk0 V c 0 t : Vec Ideal S1x1024x256 .bf16) (ix3 a r d) = (V c main_arg1 : Vec Ideal S4x4096x256 .bf16) (ix3 n q g) := by
  have e : (iblk0 V c 0 t : Vec Ideal S1x1024x256 .bf16) (ix3 a r d) = (V c main_arg1 : Vec Ideal S4x4096x256 .bf16) ((win0_0.rect t).emb (ix3 a r d)) := rfl
  rw [e]
  congr 1; funext x; apply Fin.ext; rw [win0_0.rect_emb_val t (ix3 a r d) x]
  fin_cases x
  · show (BitVec.ofNat 32 (grid0.coords t 0).val).toNat * 1 + a.val = n.val; rw [word0_0]; omega
  · show (BitVec.ofNat 32 (grid0.coords t 1).val).toNat * 1024 + r.val = q.val; rw [word0_1]; omega
  · show 0 * 256 + d.val = g.val; omega

theorem blk0_1 (t : Fin cfg0.N) (a : Fin 1) (r : Fin 1024) (d : Fin 256) (n : Fin 4) (q : Fin 4096) (g : Fin 256)
    (h0 : n.val = 1 * (t.val / 4) + a.val) (h1 : q.val = 1024 * (t.val % 4) + r.val) (h2 : g.val = 256 * 0 + d.val) :
    (iblk0 V c 1 t : Vec Ideal S1x1024x256 .bf16) (ix3 a r d) = (V c main_arg2 : Vec Ideal S4x4096x256 .bf16) (ix3 n q g) := by
  have e : (iblk0 V c 1 t : Vec Ideal S1x1024x256 .bf16) (ix3 a r d) = (V c main_arg2 : Vec Ideal S4x4096x256 .bf16) ((win0_1.rect t).emb (ix3 a r d)) := rfl
  rw [e]
  congr 1; funext x; apply Fin.ext; rw [win0_1.rect_emb_val t (ix3 a r d) x]
  fin_cases x
  · show (BitVec.ofNat 32 (grid0.coords t 0).val).toNat * 1 + a.val = n.val; rw [word0_0]; omega
  · show (BitVec.ofNat 32 (grid0.coords t 1).val).toNat * 1024 + r.val = q.val; rw [word0_1]; omega
  · show 0 * 256 + d.val = g.val; omega

theorem blk0_2 (t : Fin cfg0.N) (a : Fin 1) (r : Fin 1024) (d : Fin 256) (n : Fin 4) (q : Fin 4096) (g : Fin 256)
    (h0 : n.val = 1 * (t.val / 4) + a.val) (h1 : q.val = 1024 * (t.val % 4) + r.val) (h2 : g.val = 256 * 0 + d.val) :
    (iblk0 V c 2 t : Vec Ideal S1x1024x256 .bf16) (ix3 a r d) = (V c main_arg3 : Vec Ideal S4x4096x256 .bf16) (ix3 n q g) := by
  have e : (iblk0 V c 2 t : Vec Ideal S1x1024x256 .bf16) (ix3 a r d) = (V c main_arg3 : Vec Ideal S4x4096x256 .bf16) ((win0_2.rect t).emb (ix3 a r d)) := rfl
  rw [e]
  congr 1; funext x; apply Fin.ext; rw [win0_2.rect_emb_val t (ix3 a r d) x]
  fin_cases x
  · show (BitVec.ofNat 32 (grid0.coords t 0).val).toNat * 1 + a.val = n.val; rw [word0_0]; omega
  · show (BitVec.ofNat 32 (grid0.coords t 1).val).toNat * 1024 + r.val = q.val; rw [word0_1]; omega
  · show 0 * 256 + d.val = g.val; omega

theorem blk0_3 (t : Fin cfg0.N) (a : Fin 1) (r : Fin 1024) (d : Fin 256) (n : Fin 4) (q : Fin 4096) (g : Fin 256)
    (h0 : n.val = 1 * (t.val / 4) + a.val) (h1 : q.val = 1024 * (t.val % 4) + r.val) (h2 : g.val = 256 * 0 + d.val) :
    (iblk0 V c 3 t : Vec Ideal S1x1024x256 .bf16) (ix3 a r d) = (V c main_arg4 : Vec Ideal S4x4096x256 .bf16) (ix3 n q g) := by
  have e : (iblk0 V c 3 t : Vec Ideal S1x1024x256 .bf16) (ix3 a r d) = (V c main_arg4 : Vec Ideal S4x4096x256 .bf16) ((win0_3.rect t).emb (ix3 a r d)) := rfl
  rw [e]
  congr 1; funext x; apply Fin.ext; rw [win0_3.rect_emb_val t (ix3 a r d) x]
  fin_cases x
  · show (BitVec.ofNat 32 (grid0.coords t 0).val).toNat * 1 + a.val = n.val; rw [word0_0]; omega
  · show (BitVec.ofNat 32 (grid0.coords t 1).val).toNat * 1024 + r.val = q.val; rw [word0_1]; omega
  · show 0 * 256 + d.val = g.val; omega

theorem blk0_4 (t : Fin cfg0.N) (a : Fin 1) (r : Fin 1024) (d : Fin 1024) (n : Fin 2) (q : Fin 1024) (g : Fin 1024)
    (h0 : n.val = 1 * 1 + a.val) (h1 : q.val = 1024 * 0 + r.val) (h2 : g.val = 1024 * 0 + d.val) :
    (iblk0 V c 4 t : Vec Ideal S1x1024x1024 .bf16) (ix3 a r d) = (V c main_v0 : Vec Ideal S2x1024x1024 .bf16) (ix3 n q g) := by
  have e : (iblk0 V c 4 t : Vec Ideal S1x1024x1024 .bf16) (ix3 a r d) = (V c main_v0 : Vec Ideal S2x1024x1024 .bf16) ((win0_4.rect t).emb (ix3 a r d)) := rfl
  rw [e]
  congr 1; funext x; apply Fin.ext; rw [win0_4.rect_emb_val t (ix3 a r d) x]
  fin_cases x
  · show 1 * 1 + a.val = n.val; omega
  · show 0 * 1024 + r.val = q.val; omega
  · show 0 * 1024 + d.val = g.val; omega

theorem blk0_5 (t : Fin cfg0.N) (a : Fin 1) (r : Fin 1024) (d : Fin 1024) (n : Fin 4) (q : Fin 4096) (g : Fin 1024)
    (h0 : n.val = 1 * (t.val / 4) + a.val) (h1 : q.val = 1024 * (t.val % 4) + r.val) (h2 : g.val = 1024 * 0 + d.val) :
    (iblk0 V c 5 t : Vec Ideal S1x1024x1024 .f32) (ix3 a r d) = (V c main_arg0 : Vec Ideal S4x4096x1024 .f32) (ix3 n q g) := by
  have e : (iblk0 V c 5 t : Vec Ideal S1x1024x1024 .f32) (ix3 a r d) = (V c main_arg0 : Vec Ideal S4x4096x1024 .f32) ((win0_5.rect t).emb (ix3 a r d)) := rfl
  rw [e]
  congr 1; funext x; apply Fin.ext; rw [win0_5.rect_emb_val t (ix3 a r d) x]
  fin_cases x
  · show (BitVec.ofNat 32 (grid0.coords t 0).val).toNat * 1 + a.val = n.val; rw [word0_0]; omega
  · show (BitVec.ofNat 32 (grid0.coords t 1).val).toNat * 1024 + r.val = q.val; rw [word0_1]; omega
  · show 0 * 1024 + d.val = g.val; omega

theorem blk0_6 (t : Fin cfg0.N) (a : Fin 1) (r : Fin 1) (d : Fin 1024) (n : Fin 4) (q : Fin 1) (g : Fin 1024)
    (h0 : n.val = 1 * (t.val / 4) + a.val) (h1 : q.val = 1 * 0 + r.val) (h2 : g.val = 1024 * 0 + d.val) :
    (iblk0 V c 6 t : Vec Ideal S1x1x1024 .f32) (ix3 a r d) = (V c main_arg5 : Vec Ideal S4x1x1024 .f32) (ix3 n q g) := by
  have e : (iblk0 V c 6 t : Vec Ideal S1x1x1024 .f32) (ix3 a r d) = (V c main_arg5 : Vec Ideal S4x1x1024 .f32) ((win0_6.rect t).emb (ix3 a r d)) := rfl
  rw [e]
  congr 1; funext x; apply Fin.ext; rw [win0_6.rect_emb_val t (ix3 a r d) x]
  fin_cases x
  · show (BitVec.ofNat 32 (grid0.coords t 0).val).toNat * 1 + a.val = n.val; rw [word0_0]; omega
  · show 0 * 1 + r.val = q.val; omega
  · show 0 * 1024 + d.val = g.val; omega

theorem blk0_7 (t : Fin cfg0.N) (a : Fin 1) (d : Fin 1024) (n : Fin 1) (g : Fin 1024)
    (h0 : n.val = 1 * 0 + a.val) (h1 : g.val = 1024 * 0 + d.val) :
    (iblk0 V c 7 t : Vec Ideal S1x1024 .f32) (ix2 a d) = (V c main_v9 : Vec Ideal S1x1024 .f32) (ix2 n g) := by
  have e : (iblk0 V c 7 t : Vec Ideal S1x1024 .f32) (ix2 a d) = (V c main_v9 : Vec Ideal S1x1024 .f32) ((win0_7.rect t).emb (ix2 a d)) := rfl
  rw [e]
  congr 1; funext x; apply Fin.ext; rw [win0_7.rect_emb_val t (ix2 a d) x]
  fin_cases x
  · show 0 * 1 + a.val = n.val; omega
  · show 0 * 1024 + d.val = g.val; omega

theorem blk0_8 (t : Fin cfg0.N) (a : Fin 1) (d : Fin 1024) (n : Fin 1) (g : Fin 1024)
    (h0 : n.val = 1 * 0 + a.val) (h1 : g.val = 1024 * 0 + d.val) :
    (iblk0 V c 8 t : Vec Ideal S1x1024 .f32) (ix2 a d) = (V c main_v10 : Vec Ideal S1x1024 .f32) (ix2 n g) := by
  have e : (iblk0 V c 8 t : Vec Ideal S1x1024 .f32) (ix2 a d) = (V c main_v10 : Vec Ideal S1x1024 .f32) ((win0_8.rect t).emb (ix2 a d)) := rfl
  rw [e]
  congr 1; funext x; apply Fin.ext; rw [win0_8.rect_emb_val t (ix2 a d) x]
  fin_cases x
  · show 0 * 1 + a.val = n.val; omega
  · show 0 * 1024 + d.val = g.val; omega

theorem blk1_0 (t : Fin cfg1.N) (a : Fin 1) (r : Fin 1024) (d : Fin 1024) (n : Fin 4) (q : Fin 4096) (g : Fin 1024)
    (h0 : n.val = 1 * (t.val / 4 % 4) + a.val) (h1 : q.val = 1024 * (t.val % 4) + r.val) (h2 : g.val = 1024 * 0 + d.val) :
    (iblk1 V c 0 t : Vec Ideal S1x1024x1024 .f32) (ix3 a r d) = (V c main_v11 : Vec Ideal S4x4096x1024 .f32) (ix3 n q g) := by
  have e : (iblk1 V c 0 t : Vec Ideal S1x1024x1024 .f32) (ix3 a r d) = (V c main_v11 : Vec Ideal S4x4096x1024 .f32) ((win1_0.rect t).emb (ix3 a r d)) := rfl
  rw [e]
  congr 1; funext x; apply Fin.ext; rw [win1_0.rect_emb_val t (ix3 a r d) x]
  fin_cases x
  · show (BitVec.ofNat 32 (grid1.coords t 1).val).toNat * 1 + a.val = n.val; rw [word1_1]; omega
  · show (BitVec.ofNat 32 (grid1.coords t 2).val).toNat * 1024 + r.val = q.val; rw [word1_2]; omega
  · show 0 * 1024 + d.val = g.val; omega

theorem blk1_1 (t : Fin cfg1.N) (a : Fin 1) (r : Fin 1) (d : Fin 1024) (n : Fin 4) (q : Fin 1) (g : Fin 1024)
    (h0 : n.val = 1 * (t.val / 4 % 4) + a.val) (h1 : q.val = 1 * 0 + r.val) (h2 : g.val = 1024 * 0 + d.val) :
    (iblk1 V c 1 t : Vec Ideal S1x1x1024 .f32) (ix3 a r d) = (V c main_arg7 : Vec Ideal S4x1x1024 .f32) (ix3 n q g) := by
  have e : (iblk1 V c 1 t : Vec Ideal S1x1x1024 .f32) (ix3 a r d) = (V c main_arg7 : Vec Ideal S4x1x1024 .f32) ((win1_1.rect t).emb (ix3 a r d)) := rfl
  rw [e]
  congr 1; funext x; apply Fin.ext; rw [win1_1.rect_emb_val t (ix3 a r d) x]
  fin_cases x
  · show (BitVec.ofNat 32 (grid1.coords t 1).val).toNat * 1 + a.val = n.val; rw [word1_1]; omega
  · show 0 * 1 + r.val = q.val; omega
  · show 0 * 1024 + d.val = g.val; omega

theorem blk1_2 (t : Fin cfg1.N) (a : Fin 1) (r : Fin 1) (d : Fin 1024) (n : Fin 4) (q : Fin 1) (g : Fin 1024)
    (h0 : n.val = 1 * (t.val / 4 % 4) + a.val) (h1 : q.val = 1 * 0 + r.val) (h2 : g.val = 1024 * 0 + d.val) :
    (iblk1 V c 2 t : Vec Ideal S1x1x1024 .f32) (ix3 a r d) = (V c main_arg6 : Vec Ideal S4x1x1024 .f32) (ix3 n q g) := by
  have e : (iblk1 V c 2 t : Vec Ideal S1x1x1024 .f32) (ix3 a r d) = (V c main_arg6 : Vec Ideal S4x1x1024 .f32) ((win1_2.rect t).emb (ix3 a r d)) := rfl
  rw [e]
  congr 1; funext x; apply Fin.ext; rw [win1_2.rect_emb_val t (ix3 a r d) x]
  fin_cases x
  · show (BitVec.ofNat 32 (grid1.coords t 1).val).toNat * 1 + a.val = n.val; rw [word1_1]; omega
  · show 0 * 1 + r.val = q.val; omega
  · show 0 * 1024 + d.val = g.val; omega

theorem blk1_3 (t : Fin cfg1.N) (a : Fin 1) (r : Fin 1024) (d : Fin 1408) (n : Fin 2) (q : Fin 1024) (g : Fin 5632)
    (h0 : n.val = 1 * 1 + a.val) (h1 : q.val = 1024 * 0 + r.val) (h2 : g.val = 1408 * (t.val / 16) + d.val) :
    (iblk1 V c 3 t : Vec Ideal S1x1024x1408 .bf16) (ix3 a r d) = (V c main_v12 : Vec Ideal S2x1024x5632 .bf16) (ix3 n q g) := by
  have e : (iblk1 V c 3 t : Vec Ideal S1x1024x1408 .bf16) (ix3 a r d) = (V c main_v12 : Vec Ideal S2x1024x5632 .bf16) ((win1_3.rect t).emb (ix3 a r d)) := rfl
  rw [e]
  congr 1; funext x; apply Fin.ext; rw [win1_3.rect_emb_val t (ix3 a r d) x]
  fin_cases x
  · show 1 * 1 + a.val = n.val; omega
  · show 0 * 1024 + r.val = q.val; omega
  · show (BitVec.ofNat 32 (grid1.coords t 0).val).toNat * 1408 + d.val = g.val; rw [word1_0]; omega

theorem blk1_4 (t : Fin cfg1.N) (a : Fin 1) (r : Fin 1024) (d : Fin 1408) (n : Fin 2) (q : Fin 1024) (g : Fin 5632)
    (h0 : n.val = 1 * 1 + a.val) (h1 : q.val = 1024 * 0 + r.val) (h2 : g.val = 1408 * (t.val / 16 + 2) + d.val) :
    (iblk1 V c 4 t : Vec Ideal S1x1024x1408 .bf16) (ix3 a r d) = (V c main_v12 : Vec Ideal S2x1024x5632 .bf16) (ix3 n q g) := by
  have e : (iblk1 V c 4 t : Vec Ideal S1x1024x1408 .bf16) (ix3 a r d) = (V c main_v12 : Vec Ideal S2x1024x5632 .bf16) ((win1_4.rect t).emb (ix3 a r d)) := rfl
  rw [e]
  congr 1; funext x; apply Fin.ext; rw [win1_4.rect_emb_val t (ix3 a r d) x]
  fin_cases x
  · show 1 * 1 + a.val = n.val; omega
  · show 0 * 1024 + r.val = q.val; omega
  · show (Scalar.addi (BitVec.ofNat 32 (grid1.coords t 0).val) 2#32).toNat * 1408 + d.val = g.val; rw [word1_up]; omega

theorem blk2_0 (t : Fin cfg2.N) (a : Fin 1) (r : Fin 1024) (d : Fin 2816) (n : Fin 4) (q : Fin 4096) (g : Fin 2816)
    (h0 : n.val = 1 * (t.val / 4) + a.val) (h1 : q.val = 1024 * (t.val % 4) + r.val) (h2 : g.val = 2816 * 0 + d.val) :
    (iblk2 V c 0 t : Vec Ideal S1x1024x2816 .bf16) (ix3 a r d) = (V c main_v13 : Vec Ideal S4x4096x2816 .bf16) (ix3 n q g) := by
  have e : (iblk2 V c 0 t : Vec Ideal S1x1024x2816 .bf16) (ix3 a r d) = (V c main_v13 : Vec Ideal S4x4096x2816 .bf16) ((win2_0.rect t).emb (ix3 a r d)) := rfl
  rw [e]
  congr 1; funext x; apply Fin.ext; rw [win2_0.rect_emb_val t (ix3 a r d) x]
  fin_cases x
  · show (BitVec.ofNat 32 (grid2.coords t 0).val).toNat * 1 + a.val = n.val; rw [word2_0]; omega
  · show (BitVec.ofNat 32 (grid2.coords t 1).val).toNat * 1024 + r.val = q.val; rw [word2_1]; omega
  · show 0 * 2816 + d.val = g.val; omega

theorem blk2_1 (t : Fin cfg2.N) (a : Fin 1) (r : Fin 2816) (d : Fin 1024) (n : Fin 2) (q : Fin 2816) (g : Fin 1024)
    (h0 : n.val = 1 * 1 + a.val) (h1 : q.val = 2816 * 0 + r.val) (h2 : g.val = 1024 * 0 + d.val) :
    (iblk2 V c 1 t : Vec Ideal S1x2816x1024 .bf16) (ix3 a r d) = (V c main_v14 : Vec Ideal S2x2816x1024 .bf16) (ix3 n q g) := by
  have e : (iblk2 V c 1 t : Vec Ideal S1x2816x1024 .bf16) (ix3 a r d) = (V c main_v14 : Vec Ideal S2x2816x1024 .bf16) ((win2_1.rect t).emb (ix3 a r d)) := rfl
  rw [e]
  congr 1; funext x; apply Fin.ext; rw [win2_1.rect_emb_val t (ix3 a r d) x]
  fin_cases x
  · show 1 * 1 + a.val = n.val; omega
  · show 0 * 2816 + r.val = q.val; omega
  · show 0 * 1024 + d.val = g.val; omega

theorem blk2_2 (t : Fin cfg2.N) (a : Fin 1) (r : Fin 1024) (d : Fin 1024) (n : Fin 4) (q : Fin 4096) (g : Fin 1024)
    (h0 : n.val = 1 * (t.val / 4) + a.val) (h1 : q.val = 1024 * (t.val % 4) + r.val) (h2 : g.val = 1024 * 0 + d.val) :
    (iblk2 V c 2 t : Vec Ideal S1x1024x1024 .f32) (ix3 a r d) = (V c main_v11 : Vec Ideal S4x4096x1024 .f32) (ix3 n q g) := by
  have e : (iblk2 V c 2 t : Vec Ideal S1x1024x1024 .f32) (ix3 a r d) = (V c main_v11 : Vec Ideal S4x4096x1024 .f32) ((win2_2.rect t).emb (ix3 a r d)) := rfl
  rw [e]
  congr 1; funext x; apply Fin.ext; rw [win2_2.rect_emb_val t (ix3 a r d) x]
  fin_cases x
  · show (BitVec.ofNat 32 (grid2.coords t 0).val).toNat * 1 + a.val = n.val; rw [word2_0]; omega
  · show (BitVec.ofNat 32 (grid2.coords t 1).val).toNat * 1024 + r.val = q.val; rw [word2_1]; omega
  · show 0 * 1024 + d.val = g.val; omega

theorem blk2_3 (t : Fin cfg2.N) (a : Fin 1) (r : Fin 1) (d : Fin 1024) (n : Fin 4) (q : Fin 1) (g : Fin 1024)
    (h0 : n.val = 1 * (t.val / 4) + a.val) (h1 : q.val = 1 * 0 + r.val) (h2 : g.val = 1024 * 0 + d.val) :
    (iblk2 V c 3 t : Vec Ideal S1x1x1024 .f32) (ix3 a r d) = (V c main_arg8 : Vec Ideal S4x1x1024 .f32) (ix3 n q g) := by
  have e : (iblk2 V c 3 t : Vec Ideal S1x1x1024 .f32) (ix3 a r d) = (V c main_arg8 : Vec Ideal S4x1x1024 .f32) ((win2_3.rect t).emb (ix3 a r d)) := rfl
  rw [e]
  congr 1; funext x; apply Fin.ext; rw [win2_3.rect_emb_val t (ix3 a r d) x]
  fin_cases x
  · show (BitVec.ofNat 32 (grid2.coords t 0).val).toNat * 1 + a.val = n.val; rw [word2_0]; omega
  · show 0 * 1 + r.val = q.val; omega
  · show 0 * 1024 + d.val = g.val; omega

theorem blk2_4 (t : Fin cfg2.N) (a : Fin 1) (d : Fin 1024) (n : Fin 1) (g : Fin 1024)
    (h0 : n.val = 1 * 0 + a.val) (h1 : g.val = 1024 * 0 + d.val) :
    (iblk2 V c 4 t : Vec Ideal S1x1024 .f32) (ix2 a d) = (V c main_v23 : Vec Ideal S1x1024 .f32) (ix2 n g) := by
  have e : (iblk2 V c 4 t : Vec Ideal S1x1024 .f32) (ix2 a d) = (V c main_v23 : Vec Ideal S1x1024 .f32) ((win2_4.rect t).emb (ix2 a d)) := rfl
  rw [e]
  congr 1; funext x; apply Fin.ext; rw [win2_4.rect_emb_val t (ix2 a d) x]
  fin_cases x
  · show 0 * 1 + a.val = n.val; omega
  · show 0 * 1024 + d.val = g.val; omega

theorem blk2_5 (t : Fin cfg2.N) (a : Fin 1) (d : Fin 1024) (n : Fin 1) (g : Fin 1024)
    (h0 : n.val = 1 * 0 + a.val) (h1 : g.val = 1024 * 0 + d.val) :
    (iblk2 V c 5 t : Vec Ideal S1x1024 .f32) (ix2 a d) = (V c main_v24 : Vec Ideal S1x1024 .f32) (ix2 n g) := by
  have e : (iblk2 V c 5 t : Vec Ideal S1x1024 .f32) (ix2 a d) = (V c main_v24 : Vec Ideal S1x1024 .f32) ((win2_5.rect t).emb (ix2 a d)) := rfl
  rw [e]
  congr 1; funext x; apply Fin.ext; rw [win2_5.rect_emb_val t (ix2 a d) x]
  fin_cases x
  · show 0 * 1 + a.val = n.val; omega
  · show 0 * 1024 + d.val = g.val; omega

end Cert.TailIdeal.Tail
-- ==== Proof.TailArr.lean ====
/- What each of the layer's last three kernels leaves in its output array, for any contents of its inputs. -/
module

public import proofs.«01_k».proof.Proof.TailWin
public import proofs.«01_k».proof.Proof.Gen.TailIdeal.Points

@[expose] public section

set_option maxRecDepth 16384

noncomputable section

namespace Cert.TailIdeal.Tail

open Cert.TailIdeal.Gen Cert.Layer
open Idealize.ShloMosaic Idealize.ShloMosaic.TcCoe Idealize.ShloMosaic.Tactic
open Idealize.ShloMosaic.Pipeline (Dat Cfg Window)

variable (V : (c : Dev nD) → (b : Ref sig .tc) → Buf (Elt Ideal) ((c : Thread nD τ).loc b)) (c : Dev nD)

theorem out0_at (x0 x1 x2 x3 : Vec Ideal S1x1024x256 .bf16) (x4 : Vec Ideal S1x1024x1024 .bf16) (x5 : Vec Ideal S1x1024x1024 .f32) (x6 : Vec Ideal S1x1x1024 .f32)
    (x7 x8 : Vec Ideal S1x1024 .f32) (n : Fin 1) (r d : Fin 1024) :
    out0_9 x0 x1 x2 x3 x4 x5 x6 x7 x8 (ix3 n r d)
      = residNorm (row x5 r) (fun d => x6 (ix3 0 0 d)) (cat (row x0 r) (row x1 r) (row x2 r) (row x3 r)) (fun k d => x4 (ix3 0 k d))
          (fun d => x7 (ix2 0 d)) (fun d => x8 (ix2 0 d)) d := by
  unfold out0_9
  rw [View.canon_cons_unit_lit _ _ _ (by decide)]
  rw [View.ld_unit_lit _ x0 (by decide), View.ld_unit_lit _ x1 (by decide), View.ld_unit_lit _ x2 (by decide), View.ld_unit_lit _ x3 (by decide),
    View.ld_unit_lit _ x4 (by decide), View.ld_unit_lit _ x5 (by decide), View.ld_unit_lit _ x6 (by decide), View.ld_unit_lit _ x7 (by decide), View.ld_unit_lit _ x8 (by decide)]
  exact pay0_at x0 x1 x2 x3 x4 x5 x6 x7 x8 n r d

theorem out1_at (x0 : Vec Ideal S1x1024x1024 .f32) (x1 x2 : Vec Ideal S1x1x1024 .f32) (x3 x4 : Vec Ideal S1x1024x1408 .bf16) (n : Fin 1) (r : Fin 1024) (d : Fin 1408) :
    out1_5 x0 x1 x2 x3 x4 (ix3 n r d)
      = gated (modNorm (row x0 r) (fun d => x1 (ix3 0 0 d)) (fun d => x2 (ix3 0 0 d))) (fun k => x3 (ix3 0 k d)) (fun k => x4 (ix3 0 k d)) := by
  unfold out1_5
  rw [View.canon_cons_unit_lit _ _ _ (by decide)]
  rw [View.ld_unit_lit _ x0 (by decide), View.ld_unit_lit _ x1 (by decide), View.ld_unit_lit _ x2 (by decide), View.ld_unit_lit _ x3 (by decide), View.ld_unit_lit _ x4 (by decide)]
  exact pay1_at x0 x1 x2 x3 x4 n r d

theorem out2_at (x0 : Vec Ideal S1x1024x2816 .bf16) (x1 : Vec Ideal S1x2816x1024 .bf16) (x2 : Vec Ideal S1x1024x1024 .f32) (x3 : Vec Ideal S1x1x1024 .f32)
    (x4 x5 : Vec Ideal S1x1024 .f32) (n : Fin 1) (r d : Fin 1024) :
    out2_6 x0 x1 x2 x3 x4 x5 (ix3 n r d)
      = residNorm (row x2 r) (fun d => x3 (ix3 0 0 d)) (row x0 r) (fun k d => x1 (ix3 0 k d)) (fun d => x4 (ix2 0 d)) (fun d => x5 (ix2 0 d)) d := by
  unfold out2_6
  rw [View.canon_cons_unit_lit _ _ _ (by decide)]
  rw [View.ld_unit_lit _ x0 (by decide), View.ld_unit_lit _ x1 (by decide), View.ld_unit_lit _ x2 (by decide), View.ld_unit_lit _ x3 (by decide), View.ld_unit_lit _ x4 (by decide), View.ld_unit_lit _ x5 (by decide)]
  exact pay2_at x0 x1 x2 x3 x4 x5 n r d

/-- Every element of each output lies in the block of some point. -/
theorem cover0 (i : S4x4096x1024.Idx) : ∃ t : Fin cfg0.N, (cfg0.win 9).flush t = true ∧ i ∈ ((cfg0.win 9).blk t).view.set := by
  have b0 : (i 0).val < 4 := (i 0).isLt
  have b1 : (i 1).val < 4096 := (i 1).isLt
  have b2 : (i 2).val < 1024 := (i 2).isLt
  have ht : 4 * (i 0).val + (i 1).val / 1024 < cfg0.N := by rw [show cfg0.N = 16 from N_0]; omega
  refine ⟨⟨4 * (i 0).val + (i 1).val / 1024, ht⟩, flush0_9 _, ?_⟩
  show i ∈ ((View.whole main_v11).slice (win0_9.rect ⟨4 * (i 0).val + (i 1).val / 1024, ht⟩)).set
  rw [View.set_slice_whole, Rect.mem_set_unit]
  have w0 := word0_0 ⟨4 * (i 0).val + (i 1).val / 1024, ht⟩
  have w1 := word0_1 ⟨4 * (i 0).val + (i 1).val / 1024, ht⟩
  intro a
  fin_cases a
  · show (BitVec.ofNat 32 (grid0.coords _ 0).val).toNat * 1 ≤ (i 0).val ∧ (i 0).val < (BitVec.ofNat 32 (grid0.coords _ 0).val).toNat * 1 + 1
    rw [w0]; simp only []; omega
  · show (BitVec.ofNat 32 (grid0.coords _ 1).val).toNat * 1024 ≤ (i 1).val ∧ (i 1).val < (BitVec.ofNat 32 (grid0.coords _ 1).val).toNat * 1024 + 1024
    rw [w1]; simp only []; omega
  · show 0 * 1024 ≤ (i 2).val ∧ (i 2).val < 0 * 1024 + 1024
    omega

theorem cover2 (i : S4x4096x1024.Idx) : ∃ t : Fin cfg2.N, (cfg2.win 6).flush t = true ∧ i ∈ ((cfg2.win 6).blk t).view.set := by
  have b0 : (i 0).val < 4 := (i 0).isLt
  have b1 : (i 1).val < 4096 := (i 1).isLt
  have b2 : (i 2).val < 1024 := (i 2).isLt
  have ht : 4 * (i 0).val + (i 1).val / 1024 < cfg2.N := by rw [show cfg2.N = 16 from N_2]; omega
  refine ⟨⟨4 * (i 0).val + (i 1).val / 1024, ht⟩, flush2_6 _, ?_⟩
  show i ∈ ((View.whole main_v25).slice (win2_6.rect ⟨4 * (i 0).val + (i 1).val / 1024, ht⟩)).set
  rw [View.set_slice_whole, Rect.mem_set_unit]
  have w0 := word2_0 ⟨4 * (i 0).val + (i 1).val / 1024, ht⟩
  have w1 := word2_1 ⟨4 * (i 0).val + (i 1).val / 1024, ht⟩
  intro a
  fin_cases a
  · show (BitVec.ofNat 32 (grid2.coords _ 0).val).toNat * 1 ≤ (i 0).val ∧ (i 0).val < (BitVec.ofNat 32 (grid2.coords _ 0).val).toNat * 1 + 1
    rw [w0]; simp only []; omega
  · show (BitVec.ofNat 32 (grid2.coords _ 1).val).toNat * 1024 ≤ (i 1).val ∧ (i 1).val < (BitVec.ofNat 32 (grid2.coords _ 1).val).toNat * 1024 + 1024
    rw [w1]; simp only []; omega
  · show 0 * 1024 ≤ (i 2).val ∧ (i 2).val < 0 * 1024 + 1024
    omega

theorem cover1 (i : S4x4096x2816.Idx) : ∃ t : Fin cfg1.N, (cfg1.win 5).flush t = true ∧ i ∈ ((cfg1.win 5).blk t).view.set := by
  have b0 : (i 0).val < 4 := (i 0).isLt
  have b1 : (i 1).val < 4096 := (i 1).isLt
  have b2 : (i 2).val < 2816 := (i 2).isLt
  have ht : 16 * ((i 2).val / 1408) + 4 * (i 0).val + (i 1).val / 1024 < cfg1.N := by rw [show cfg1.N = 32 from N_1]; omega
  refine ⟨⟨16 * ((i 2).val / 1408) + 4 * (i 0).val + (i 1).val / 1024, ht⟩, flush1_5 _, ?_⟩
  show i ∈ ((View.whole main_v13).slice (win1_5.rect ⟨16 * ((i 2).val / 1408) + 4 * (i 0).val + (i 1).val / 1024, ht⟩)).set
  rw [View.set_slice_whole, Rect.mem_set_unit]
  have w0 := word1_0 ⟨16 * ((i 2).val / 1408) + 4 * (i 0).val + (i 1).val / 1024, ht⟩
  have w1 := word1_1 ⟨16 * ((i 2).val / 1408) + 4 * (i 0).val + (i 1).val / 1024, ht⟩
  have w2 := word1_2 ⟨16 * ((i 2).val / 1408) + 4 * (i 0).val + (i 1).val / 1024, ht⟩
  intro a
  fin_cases a
  · show (BitVec.ofNat 32 (grid1.coords _ 1).val).toNat * 1 ≤ (i 0).val ∧ (i 0).val < (BitVec.ofNat 32 (grid1.coords _ 1).val).toNat * 1 + 1
    rw [w1]; simp only []; omega
  · show (BitVec.ofNat 32 (grid1.coords _ 2).val).toNat * 1024 ≤ (i 1).val ∧ (i 1).val < (BitVec.ofNat 32 (grid1.coords _ 2).val).toNat * 1024 + 1024
    rw [w2]; simp only []; omega
  · show (BitVec.ofNat 32 (grid1.coords _ 0).val).toNat * 1408 ≤ (i 2).val ∧ (i 2).val < (BitVec.ofNat 32 (grid1.coords _ 0).val).toNat * 1408 + 1408
    rw [w0]; simp only []; omega

/-- The row of one point of one batch, in an array. -/
abbrev at3 {a b n : ℕ} (x : (⟨3, ![a, b, n]⟩ : Shape).Idx → EReal) (i : Fin a) (r : Fin b) : Fin n → EReal := fun k => x (ix3 i r k)

/-- The residual after the mixers: any array that agrees with the formula everywhere is what the first kernel leaves. -/
theorem arr0 (G : Vec Ideal S4x4096x1024 .f32)
    (hG : ∀ (n : Fin 4) (r : Fin 4096) (d : Fin 1024), G (ix3 n r d)
      = residNorm (at3 (V c main_arg0 : Vec Ideal S4x4096x1024 .f32) n r) (at3 (V c main_arg5 : Vec Ideal S4x1x1024 .f32) n 0)
          (cat (at3 (V c main_arg1 : Vec Ideal S4x4096x256 .bf16) n r) (at3 (V c main_arg2 : Vec Ideal S4x4096x256 .bf16) n r)
            (at3 (V c main_arg3 : Vec Ideal S4x4096x256 .bf16) n r) (at3 (V c main_arg4 : Vec Ideal S4x4096x256 .bf16) n r))
          (at3 (V c main_v0 : Vec Ideal S2x1024x1024 .bf16) 1) (fun d => (V c main_v9 : Vec Ideal S1x1024 .f32) (ix2 0 d)) (fun d => (V c main_v10 : Vec Ideal S1x1024 .f32) (ix2 0 d)) d) :
    (dat0 V c).arrAt 9 cfg0.N = G := by
  refine (dat0 V c).arrAt_eq_of_cover 9 G (fun t _ => ?_) cover0
  have ht : t.val < 16 := Nat.lt_of_lt_of_eq t.isLt N_0
  funext y
  obtain ⟨o, b, x, rfl⟩ : ∃ o b x, y = ix3 (n0 := 1) (n1 := 1024) (n2 := 1024) o b x := ⟨_, _, _, eq_ix3 y⟩
  obtain rfl : o = 0 := Fin.ext (by omega)
  have el : (dat0 V c).flushed 9 t (ix3 (0 : Fin 1) b x) = out0_9 (iblk0 V c 0 t) (iblk0 V c 1 t) (iblk0 V c 2 t) (iblk0 V c 3 t) (iblk0 V c 4 t) (iblk0 V c 5 t) (iblk0 V c 6 t) (iblk0 V c 7 t) (iblk0 V c 8 t) (ix3 (0 : Fin 1) b x) := by
    show (dat0 V c).after 9 t _ = _
    rw [after0_9]; rfl
  have ei : (win0_9.rect t).emb (ix3 (0 : Fin 1) b x) = ix3 (⟨t.val / 4, by omega⟩ : Fin 4) (⟨1024 * (t.val % 4) + b.val, by omega⟩ : Fin 4096) x := by
    funext a; apply Fin.ext; rw [win0_9.rect_emb_val t (ix3 (0 : Fin 1) b x) a]
    fin_cases a
    · show (BitVec.ofNat 32 (grid0.coords t 0).val).toNat * 1 + 0 = t.val / 4; rw [word0_0]; omega
    · show (BitVec.ofNat 32 (grid0.coords t 1).val).toNat * 1024 + b.val = 1024 * (t.val % 4) + b.val; rw [word0_1]; omega
    · show 0 * 1024 + x.val = x.val; omega
  have er : ((cfg0.win 9).blk t).view.read (Elt Ideal) G (ix3 (0 : Fin 1) b x) = G ((win0_9.rect t).emb (ix3 (0 : Fin 1) b x)) := rfl
  refine el.trans (Eq.trans ?_ er.symm)
  rw [ei, hG, out0_at]
  have e0 : row (iblk0 V c 0 t : Vec Ideal S1x1024x256 .bf16) b = at3 (V c main_arg1 : Vec Ideal S4x4096x256 .bf16) (⟨t.val / 4, by omega⟩ : Fin 4) (⟨1024 * (t.val % 4) + b.val, by omega⟩ : Fin 4096) :=
    funext fun d => blk0_0 V c t 0 b d _ _ _ (by show t.val / 4 = 1 * (t.val / 4) + 0; omega) rfl (by omega)
  have e1 : row (iblk0 V c 1 t : Vec Ideal S1x1024x256 .bf16) b = at3 (V c main_arg2 : Vec Ideal S4x4096x256 .bf16) (⟨t.val / 4, by omega⟩ : Fin 4) (⟨1024 * (t.val % 4) + b.val, by omega⟩ : Fin 4096) :=
    funext fun d => blk0_1 V c t 0 b d _ _ _ (by show t.val / 4 = 1 * (t.val / 4) + 0; omega) rfl (by omega)
  have e2 : row (iblk0 V c 2 t : Vec Ideal S1x1024x256 .bf16) b = at3 (V c main_arg3 : Vec Ideal S4x4096x256 .bf16) (⟨t.val / 4, by omega⟩ : Fin 4) (⟨1024 * (t.val % 4) + b.val, by omega⟩ : Fin 4096) :=
    funext fun d => blk0_2 V c t 0 b d _ _ _ (by show t.val / 4 = 1 * (t.val / 4) + 0; omega) rfl (by omega)
  have e3 : row (iblk0 V c 3 t : Vec Ideal S1x1024x256 .bf16) b = at3 (V c main_arg4 : Vec Ideal S4x4096x256 .bf16) (⟨t.val / 4, by omega⟩ : Fin 4) (⟨1024 * (t.val % 4) + b.val, by omega⟩ : Fin 4096) :=
    funext fun d => blk0_3 V c t 0 b d _ _ _ (by show t.val / 4 = 1 * (t.val / 4) + 0; omega) rfl (by omega)
  have e4 : (fun k d => (iblk0 V c 4 t : Vec Ideal S1x1024x1024 .bf16) (ix3 0 k d)) = at3 (V c main_v0 : Vec Ideal S2x1024x1024 .bf16) 1 :=
    funext fun k => funext fun d => blk0_4 V c t 0 k d _ _ _ (by decide) (by omega) (by omega)
  have e5 : row (iblk0 V c 5 t : Vec Ideal S1x1024x1024 .f32) b = at3 (V c main_arg0 : Vec Ideal S4x4096x1024 .f32) (⟨t.val / 4, by omega⟩ : Fin 4) (⟨1024 * (t.val % 4) + b.val, by omega⟩ : Fin 4096) :=
    funext fun d => blk0_5 V c t 0 b d _ _ _ (by show t.val / 4 = 1 * (t.val / 4) + 0; omega) rfl (by omega)
  have e6 : (fun d => (iblk0 V c 6 t : Vec Ideal S1x1x1024 .f32) (ix3 0 0 d)) = at3 (V c main_arg5 : Vec Ideal S4x1x1024 .f32) (⟨t.val / 4, by omega⟩ : Fin 4) 0 :=
    funext fun d => blk0_6 V c t 0 0 d _ _ _ (by show t.val / 4 = 1 * (t.val / 4) + 0; omega) (by decide) (by omega)
  have e7 : (fun d => (iblk0 V c 7 t : Vec Ideal S1x1024 .f32) (ix2 0 d)) = fun d => (V c main_v9 : Vec Ideal S1x1024 .f32) (ix2 0 d) :=
    funext fun d => blk0_7 V c t 0 d _ _ (by decide) (by omega)
  have e8 : (fun d => (iblk0 V c 8 t : Vec Ideal S1x1024 .f32) (ix2 0 d)) = fun d => (V c main_v10 : Vec Ideal S1x1024 .f32) (ix2 0 d) :=
    funext fun d => blk0_8 V c t 0 d _ _ (by decide) (by omega)
  rw [e0, e1, e2, e3, e4, e5, e6, e7, e8]

/-- The feed-forward network's hidden units. -/
theorem arr1 (G : Vec Ideal S4x4096x2816 .bf16)
    (hG : ∀ (n : Fin 4) (r : Fin 4096) (j : Fin 2816), G (ix3 n r j)
      = gated (modNorm (at3 (V c main_v11 : Vec Ideal S4x4096x1024 .f32) n r) (at3 (V c main_arg7 : Vec Ideal S4x1x1024 .f32) n 0) (at3 (V c main_arg6 : Vec Ideal S4x1x1024 .f32) n 0))
          (fun k => (V c main_v12 : Vec Ideal S2x1024x5632 .bf16) (ix3 1 k (⟨j.val, by omega⟩ : Fin 5632)))
          (fun k => (V c main_v12 : Vec Ideal S2x1024x5632 .bf16) (ix3 1 k (⟨2816 + j.val, by omega⟩ : Fin 5632)))) :
    (dat1 V c).arrAt 5 cfg1.N = G := by
  refine (dat1 V c).arrAt_eq_of_cover 5 G (fun t _ => ?_) cover1
  have ht : t.val < 32 := Nat.lt_of_lt_of_eq t.isLt N_1
  funext y
  obtain ⟨o, b, x, rfl⟩ : ∃ o b x, y = ix3 (n0 := 1) (n1 := 1024) (n2 := 1408) o b x := ⟨_, _, _, eq_ix3 y⟩
  obtain rfl : o = 0 := Fin.ext (by omega)
  have el : (dat1 V c).flushed 5 t (ix3 (0 : Fin 1) b x) = out1_5 (iblk1 V c 0 t) (iblk1 V c 1 t) (iblk1 V c 2 t) (iblk1 V c 3 t) (iblk1 V c 4 t) (ix3 (0 : Fin 1) b x) := by
    show (dat1 V c).after 5 t _ = _
    rw [after1_5]; rfl
  have ei : (win1_5.rect t).emb (ix3 (0 : Fin 1) b x) = ix3 (⟨t.val / 4 % 4, by omega⟩ : Fin 4) (⟨1024 * (t.val % 4) + b.val, by omega⟩ : Fin 4096) (⟨1408 * (t.val / 16) + x.val, by omega⟩ : Fin 2816) := by
    funext a; apply Fin.ext; rw [win1_5.rect_emb_val t (ix3 (0 : Fin 1) b x) a]
    fin_cases a
    · show (BitVec.ofNat 32 (grid1.coords t 1).val).toNat * 1 + 0 = t.val / 4 % 4; rw [word1_1]; omega
    · show (BitVec.ofNat 32 (grid1.coords t 2).val).toNat * 1024 + b.val = 1024 * (t.val % 4) + b.val; rw [word1_2]; omega
    · show (BitVec.ofNat 32 (grid1.coords t 0).val).toNat * 1408 + x.val = 1408 * (t.val / 16) + x.val; rw [word1_0]; omega
  have er : ((cfg1.win 5).blk t).view.read (Elt Ideal) G (ix3 (0 : Fin 1) b x) = G ((win1_5.rect t).emb (ix3 (0 : Fin 1) b x)) := rfl
  refine el.trans (Eq.trans ?_ er.symm)
  rw [ei, hG, out1_at]
  have e0 : row (iblk1 V c 0 t : Vec Ideal S1x1024x1024 .f32) b = at3 (V c main_v11 : Vec Ideal S4x4096x1024 .f32) (⟨t.val / 4 % 4, by omega⟩ : Fin 4) (⟨1024 * (t.val % 4) + b.val, by omega⟩ : Fin 4096) :=
    funext fun d => blk1_0 V c t 0 b d _ _ _ (by show t.val / 4 % 4 = 1 * (t.val / 4 % 4) + 0; omega) rfl (by omega)
  have e1 : (fun d => (iblk1 V c 1 t : Vec Ideal S1x1x1024 .f32) (ix3 0 0 d)) = at3 (V c main_arg7 : Vec Ideal S4x1x1024 .f32) (⟨t.val / 4 % 4, by omega⟩ : Fin 4) 0 :=
    funext fun d => blk1_1 V c t 0 0 d _ _ _ (by show t.val / 4 % 4 = 1 * (t.val / 4 % 4) + 0; omega) (by decide) (by omega)
  have e2 : (fun d => (iblk1 V c 2 t : Vec Ideal S1x1x1024 .f32) (ix3 0 0 d)) = at3 (V c main_arg6 : Vec Ideal S4x1x1024 .f32) (⟨t.val / 4 % 4, by omega⟩ : Fin 4) 0 :=
    funext fun d => blk1_2 V c t 0 0 d _ _ _ (by show t.val / 4 % 4 = 1 * (t.val / 4 % 4) + 0; omega) (by decide) (by omega)
  have e3 : (fun k => (iblk1 V c 3 t : Vec Ideal S1x1024x1408 .bf16) (ix3 0 k x)) = fun k => (V c main_v12 : Vec Ideal S2x1024x5632 .bf16) (ix3 1 k (⟨1408 * (t.val / 16) + x.val, by omega⟩ : Fin 5632)) :=
    funext fun k => blk1_3 V c t 0 k x _ _ _ (by decide) (by omega) rfl
  have e4 : (fun k => (iblk1 V c 4 t : Vec Ideal S1x1024x1408 .bf16) (ix3 0 k x)) = fun k => (V c main_v12 : Vec Ideal S2x1024x5632 .bf16) (ix3 1 k (⟨2816 + (1408 * (t.val / 16) + x.val), by omega⟩ : Fin 5632)) :=
    funext fun k => blk1_4 V c t 0 k x _ _ _ (by decide) (by omega) (by show 2816 + (1408 * (t.val / 16) + x.val) = _; omega)
  rw [e0, e1, e2, e3, e4]

/-- The layer's result. -/
theorem arr2 (G : Vec Ideal S4x4096x1024 .f32)
    (hG : ∀ (n : Fin 4) (r : Fin 4096) (d : Fin 1024), G (ix3 n r d)
      = residNorm (at3 (V c main_v11 : Vec Ideal S4x4096x1024 .f32) n r) (at3 (V c main_arg8 : Vec Ideal S4x1x1024 .f32) n 0)
          (at3 (V c main_v13 : Vec Ideal S4x4096x2816 .bf16) n r)
          (at3 (V c main_v14 : Vec Ideal S2x2816x1024 .bf16) 1) (fun d => (V c main_v23 : Vec Ideal S1x1024 .f32) (ix2 0 d)) (fun d => (V c main_v24 : Vec Ideal S1x1024 .f32) (ix2 0 d)) d) :
    (dat2 V c).arrAt 6 cfg2.N = G := by
  refine (dat2 V c).arrAt_eq_of_cover 6 G (fun t _ => ?_) cover2
  have ht : t.val < 16 := Nat.lt_of_lt_of_eq t.isLt N_2
  funext y
  obtain ⟨o, b, x, rfl⟩ : ∃ o b x, y = ix3 (n0 := 1) (n1 := 1024) (n2 := 1024) o b x := ⟨_, _, _, eq_ix3 y⟩
  obtain rfl : o = 0 := Fin.ext (by omega)
  have el : (dat2 V c).flushed 6 t (ix3 (0 : Fin 1) b x) = out2_6 (iblk2 V c 0 t) (iblk2 V c 1 t) (iblk2 V c 2 t) (iblk2 V c 3 t) (iblk2 V c 4 t) (iblk2 V c 5 t) (ix3 (0 : Fin 1) b x) := by
    show (dat2 V c).after 6 t _ = _
    rw [after2_6]; rfl
  have ei : (win2_6.rect t).emb (ix3 (0 : Fin 1) b x) = ix3 (⟨t.val / 4, by omega⟩ : Fin 4) (⟨1024 * (t.val % 4) + b.val, by omega⟩ : Fin 4096) x := by
    funext a; apply Fin.ext; rw [win2_6.rect_emb_val t (ix3 (0 : Fin 1) b x) a]
    fin_cases a
    · show (BitVec.ofNat 32 (grid2.coords t 0).val).toNat * 1 + 0 = t.val / 4; rw [word2_0]; omega
    · show (BitVec.ofNat 32 (grid2.coords t 1).val).toNat * 1024 + b.val = 1024 * (t.val % 4) + b.val; rw [word2_1]; omega
    · show 0 * 1024 + x.val = x.val; omega
  have er : ((cfg2.win 6).blk t).view.read (Elt Ideal) G (ix3 (0 : Fin 1) b x) = G ((win2_6.rect t).emb (ix3 (0 : Fin 1) b x)) := rfl
  refine el.trans (Eq.trans ?_ er.symm)
  rw [ei, hG, out2_at]
  have e0 : row (iblk2 V c 0 t : Vec Ideal S1x1024x2816 .bf16) b = at3 (V c main_v13 : Vec Ideal S4x4096x2816 .bf16) (⟨t.val / 4, by omega⟩ : Fin 4) (⟨1024 * (t.val % 4) + b.val, by omega⟩ : Fin 4096) :=
    funext fun d => blk2_0 V c t 0 b d _ _ _ (by show t.val / 4 = 1 * (t.val / 4) + 0; omega) rfl (by omega)
  have e1 : (fun k d => (iblk2 V c 1 t : Vec Ideal S1x2816x1024 .bf16) (ix3 0 k d)) = at3 (V c main_v14 : Vec Ideal S2x2816x1024 .bf16) 1 :=
    funext fun k => funext fun d => blk2_1 V c t 0 k d _ _ _ (by decide) (by omega) (by omega)
  have e2 : row (iblk2 V c 2 t : Vec Ideal S1x1024x1024 .f32) b = at3 (V c main_v11 : Vec Ideal S4x4096x1024 .f32) (⟨t.val / 4, by omega⟩ : Fin 4) (⟨1024 * (t.val % 4) + b.val, by omega⟩ : Fin 4096) :=
    funext fun d => blk2_2 V c t 0 b d _ _ _ (by show t.val / 4 = 1 * (t.val / 4) + 0; omega) rfl (by omega)
  have e3 : (fun d => (iblk2 V c 3 t : Vec Ideal S1x1x1024 .f32) (ix3 0 0 d)) = at3 (V c main_arg8 : Vec Ideal S4x1x1024 .f32) (⟨t.val / 4, by omega⟩ : Fin 4) 0 :=
    funext fun d => blk2_3 V c t 0 0 d _ _ _ (by show t.val / 4 = 1 * (t.val / 4) + 0; omega) (by decide) (by omega)
  have e4 : (fun d => (iblk2 V c 4 t : Vec Ideal S1x1024 .f32) (ix2 0 d)) = fun d => (V c main_v23 : Vec Ideal S1x1024 .f32) (ix2 0 d) :=
    funext fun d => blk2_4 V c t 0 d _ _ (by decide) (by omega)
  have e5 : (fun d => (iblk2 V c 5 t : Vec Ideal S1x1024 .f32) (ix2 0 d)) = fun d => (V c main_v24 : Vec Ideal S1x1024 .f32) (ix2 0 d) :=
    funext fun d => blk2_5 V c t 0 d _ _ (by decide) (by omega)
  rw [e0, e1, e2, e3, e4, e5]

end Cert.TailIdeal.Tail
-- ==== Proof.TailRef.lean ====
/- The plain reference of a layer's last steps, at an index. -/
module

public import proofs.«01_k».proof.Proof.Gen.TailRefIdeal.Read
public import proofs.«01_k».proof.Proof.LayerRows
public import Idealize.ShloMosaic.PureOps.Ideal
public import Idealize.ShloMosaic.Lib.Pointwise
public import Idealize.ShloMosaic.Lib.ValueIdx

@[expose] public section

set_option maxRecDepth 16384

noncomputable section

namespace Cert.TailRefIdeal.Tail

open Cert.TailRefIdeal.Read Cert.Layer
open Idealize.ShloMosaic Idealize.ShloMosaic.TcCoe Idealize.ShloMosaic.Tactic

variable (x0 : FVec Ideal S4x4096x1024 .f32) (x1 x2 x3 x4 : FVec Ideal S4x4096x256 .bf16) (x5 x6 x7 x8 : FVec Ideal S4x1x1024 .f32)
  (x9 : FVec Ideal S2x1024x1024 .f32) (x10 x11 : FVec Ideal S2x2x1024 .f32) (x12 : FVec Ideal S2x1024x5632 .f32) (x13 : FVec Ideal S2x2816x1024 .f32)

theorem zeroWord : Ideal.ofBits FTy.f32 0x00000000#32 = 0 := by simp [Ideal.ofBits, Ideal.ieee]
theorem oneWord : Ideal.ofBits FTy.f32 0x3F800000#32 = 1 := by
  simp [Ideal.ofBits, Ideal.ieee, -EReal.coe_mul]; norm_num

/-- The row of one point of one batch. -/
abbrev at3 {a b n : ℕ} (x : (⟨3, ![a, b, n]⟩ : Shape).Idx → EReal) (i : Fin a) (r : Fin b) : Fin n → EReal := fun k => x (ix3 i r k)

/-- The mixers' outputs side by side. -/
theorem v4_at (n : Fin 4) (r : Fin 4096) (k : Fin 1024) :
    val_main_v4 (F := Ideal) x1 x2 x3 x4 (ix3 n r k) = cat (at3 x1 n r) (at3 x2 n r) (at3 x3 n r) (at3 x4 n r) k := by
  unfold val_main_v4 val_main_v3 val_main_v2 val_main_v1 val_main_v0 cat; pointwise

/-- The residual before its norm. -/
theorem v12_at (n : Fin 4) (r : Fin 4096) (d : Fin 1024) :
    val_main_v12 (F := Ideal) x0 x1 x2 x3 x4 x5 x9 (ix3 n r d)
      = resid (at3 x0 n r) (at3 x5 n 0) (cat (at3 x1 n r) (at3 x2 n r) (at3 x3 n r) (at3 x4 n r)) (at3 x9 1) d := by
  have hc := v4_at x1 x2 x3 x4 n r
  unfold val_main_v12 val_main_v11 val_main_v10 val_main_v9 val_main_v8 val_main_v7 val_main_v6 val_main_v5
  generalize val_main_v4 (F := Ideal) x1 x2 x3 x4 = y at hc ⊢
  pointwise
  simp only [hc, val_main_cst_apply, Scalar.ofBits, FloatOps.ofBits]
  rfl

/-- The layer norm of any row, as the reference takes it. -/
theorem v30_at (n : Fin 4) (r : Fin 4096) (d : Fin 1024) (z : Fin 1024 → EReal) (hc : ∀ d, val_main_v12 (F := Ideal) x0 x1 x2 x3 x4 x5 x9 (ix3 n r d) = z d) :
    val_main_v30 (F := Ideal) x0 x1 x2 x3 x4 x5 x9 (ix3 n r d) = norm z d := by
  unfold val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13
  generalize val_main_v12 (F := Ideal) x0 x1 x2 x3 x4 x5 x9 = y at hc ⊢
  pointwise
  simp only [hc, val_main_cst_0_apply, val_main_cst_1_apply, val_main_cst_2_apply, val_main_cst_3_apply, val_main_cst_4_apply, Scalar.ofBits, FloatOps.ofBits, zeroWord, zero_add]
  rfl

theorem v40_at (n : Fin 4) (r : Fin 4096) (d : Fin 1024) :
    val_main_v40 (F := Ideal) x0 x1 x2 x3 x4 x5 x9 x10 x11 (ix3 n r d)
      = residNorm (at3 x0 n r) (at3 x5 n 0) (cat (at3 x1 n r) (at3 x2 n r) (at3 x3 n r) (at3 x4 n r)) (at3 x9 1) (at3 x10 1 0) (at3 x11 1 0) d := by
  have hc := v30_at x0 x1 x2 x3 x4 x5 x9 n r d _ (v12_at x0 x1 x2 x3 x4 x5 x9 n r)
  unfold val_main_v40 val_main_v39 val_main_v38 val_main_v37 val_main_v36 val_main_v35 val_main_v34 val_main_v33 val_main_v32 val_main_v31
  generalize val_main_v30 (F := Ideal) x0 x1 x2 x3 x4 x5 x9 = y at hc ⊢
  pointwise
  simp only [hc]
  rfl

/-- The modulated norm of any row. -/
theorem v64_at (n : Fin 4) (r : Fin 4096) (d : Fin 1024) (z : Fin 1024 → EReal) (hc : ∀ d, val_main_v40 (F := Ideal) x0 x1 x2 x3 x4 x5 x9 x10 x11 (ix3 n r d) = z d) :
    val_main_v64 (F := Ideal) x0 x1 x2 x3 x4 x5 x6 x7 x9 x10 x11 (ix3 n r d) = modNorm z (at3 x7 n 0) (at3 x6 n 0) d := by
  unfold val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41
  generalize val_main_v40 (F := Ideal) x0 x1 x2 x3 x4 x5 x9 x10 x11 = y at hc ⊢
  pointwise
  simp only [hc, val_main_cst_5_apply, val_main_cst_6_apply, val_main_cst_7_apply, val_main_cst_8_apply, val_main_cst_9_apply, val_main_cst_10_apply, Scalar.ofBits, FloatOps.ofBits, zeroWord, oneWord, zero_add]
  rfl

/-- The hidden units. -/
theorem v71_at (n : Fin 4) (r : Fin 4096) (j : Fin 2816) (h : Fin 1024 → EReal)
    (hc : ∀ d, val_main_v64 (F := Ideal) x0 x1 x2 x3 x4 x5 x6 x7 x9 x10 x11 (ix3 n r d) = h d) :
    val_main_v71 (F := Ideal) x0 x1 x2 x3 x4 x5 x6 x7 x9 x10 x11 x12 (ix3 n r j)
      = gated h (fun k => x12 (ix3 1 k (⟨j.val, by omega⟩ : Fin 5632))) (fun k => x12 (ix3 1 k (⟨2816 + j.val, by omega⟩ : Fin 5632))) := by
  unfold val_main_v71 val_main_v70 val_main_call0_v5 val_main_call0_v4 val_main_call0_v3 val_main_call0_v2 val_main_call0_v1 val_main_call0_v0 val_main_v69 val_main_v68 val_main_v67 val_main_v66 val_main_v65
  generalize val_main_v64 (F := Ideal) x0 x1 x2 x3 x4 x5 x6 x7 x9 x10 x11 = y at hc ⊢
  pointwise
  have hn : ∀ x : EReal, -x = 0 - x := fun x => by rw [sub_eq_add_neg, zero_add]
  simp only [hc, hn, val_main_call0_cst_apply, val_main_call0_cst_0_apply, Scalar.ofBits, FloatOps.ofBits, oneWord]
  rfl

/-- The second residual before its norm. -/
theorem v79_at (n : Fin 4) (r : Fin 4096) (d : Fin 1024) (z : Fin 1024 → EReal) (o : Fin 2816 → EReal)
    (hc : ∀ d, val_main_v40 (F := Ideal) x0 x1 x2 x3 x4 x5 x9 x10 x11 (ix3 n r d) = z d)
    (ho : ∀ j, val_main_v71 (F := Ideal) x0 x1 x2 x3 x4 x5 x6 x7 x9 x10 x11 x12 (ix3 n r j) = o j) :
    val_main_v79 (F := Ideal) x0 x1 x2 x3 x4 x5 x6 x7 x8 x9 x10 x11 x12 x13 (ix3 n r d)
      = resid z (at3 x8 n 0) o (at3 x13 1) d := by
  unfold val_main_v79 val_main_v78 val_main_v77 val_main_v76 val_main_v75 val_main_v74 val_main_v73 val_main_v72
  generalize val_main_v40 (F := Ideal) x0 x1 x2 x3 x4 x5 x9 x10 x11 = y at hc ⊢
  generalize val_main_v71 (F := Ideal) x0 x1 x2 x3 x4 x5 x6 x7 x9 x10 x11 x12 = w at ho ⊢
  pointwise
  simp only [hc, ho, val_main_cst_11_apply, Scalar.ofBits, FloatOps.ofBits]
  rfl

theorem v107_at (n : Fin 4) (r : Fin 4096) (d : Fin 1024) (z : Fin 1024 → EReal)
    (hc : ∀ d, val_main_v79 (F := Ideal) x0 x1 x2 x3 x4 x5 x6 x7 x8 x9 x10 x11 x12 x13 (ix3 n r d) = z d) :
    val_main_v107 (F := Ideal) x0 x1 x2 x3 x4 x5 x6 x7 x8 x9 x10 x11 x12 x13 (ix3 n r d) = norm z d * x10 (ix3 1 1 d) + x11 (ix3 1 1 d) := by
  unfold val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80
  generalize val_main_v79 (F := Ideal) x0 x1 x2 x3 x4 x5 x6 x7 x8 x9 x10 x11 x12 x13 = y at hc ⊢
  pointwise
  simp only [hc, val_main_cst_12_apply, val_main_cst_13_apply, val_main_cst_14_apply, val_main_cst_15_apply, val_main_cst_16_apply, Scalar.ofBits, FloatOps.ofBits, zeroWord, zero_add]
  rfl

end Cert.TailRefIdeal.Tail
-- ==== Proof.TailVal.lean ====
/- The layer's last three calls together: the result array is the plain reference's. -/
module

public import proofs.«01_k».proof.Proof.TailArr
public import proofs.«01_k».proof.Proof.TailRef
public import Idealize.ShloMosaic.Lib.StableHlo.RunClose

@[expose] public section

set_option maxRecDepth 16384

noncomputable section

namespace Cert.TailIdeal.Tail

open Cert.TailIdeal.Gen Cert.Layer
open Cert.TailRefIdeal.Read (val_main_v40 val_main_v64 val_main_v71 val_main_v79 val_main_v107)
open Idealize.ShloMosaic Idealize.ShloMosaic.TcCoe Idealize.ShloMosaic.Tactic
open Idealize.ShloMosaic.Pipeline (Dat Cfg Window)

variable (m : (ℓ : Loc nD τ sig) → Buf (Elt Ideal) ℓ) (ρ : Dev nD → PrngReg) (c : Dev nD)

/-- The argument arrays. -/
abbrev a0 : Vec Ideal S4x4096x1024 .f32 := m ((c : Thread nD τ).loc main_arg0)
abbrev a1 : Vec Ideal S4x4096x256 .bf16 := m ((c : Thread nD τ).loc main_arg1)
abbrev a2 : Vec Ideal S4x4096x256 .bf16 := m ((c : Thread nD τ).loc main_arg2)
abbrev a3 : Vec Ideal S4x4096x256 .bf16 := m ((c : Thread nD τ).loc main_arg3)
abbrev a4 : Vec Ideal S4x4096x256 .bf16 := m ((c : Thread nD τ).loc main_arg4)
abbrev a5 : Vec Ideal S4x1x1024 .f32 := m ((c : Thread nD τ).loc main_arg5)
abbrev a6 : Vec Ideal S4x1x1024 .f32 := m ((c : Thread nD τ).loc main_arg6)
abbrev a7 : Vec Ideal S4x1x1024 .f32 := m ((c : Thread nD τ).loc main_arg7)
abbrev a8 : Vec Ideal S4x1x1024 .f32 := m ((c : Thread nD τ).loc main_arg8)
abbrev a9 : Vec Ideal S2x1024x1024 .f32 := m ((c : Thread nD τ).loc main_arg9)
abbrev a10 : Vec Ideal S2x2x1024 .f32 := m ((c : Thread nD τ).loc main_arg10)
abbrev a11 : Vec Ideal S2x2x1024 .f32 := m ((c : Thread nD τ).loc main_arg11)
abbrev a12 : Vec Ideal S2x1024x5632 .f32 := m ((c : Thread nD τ).loc main_arg12)
abbrev a13 : Vec Ideal S2x2816x1024 .f32 := m ((c : Thread nD τ).loc main_arg13)

/-! ## The host's arrays -/

variable (W : Valuation τ sig (Elt Ideal))

theorem after_main_v0 : (StableHlo.after hostOps0 W (Proc.devRef .tc main_v0) : Vec Ideal S2x1024x1024 .bf16) = (truncf .bf16 (W (Proc.devRef .tc main_arg9) : FVec Ideal S2x1024x1024 .f32) bitsLt_bf16_f32 : FVec Ideal S2x1024x1024 .bf16) := by
  dsimp only [hostOps0]; after_results_simp <;> rfl

theorem after_main_v12 : (StableHlo.after hostOps1 W (Proc.devRef .tc main_v12) : Vec Ideal S2x1024x5632 .bf16) = (truncf .bf16 (W (Proc.devRef .tc main_arg12) : FVec Ideal S2x1024x5632 .f32) bitsLt_bf16_f32 : FVec Ideal S2x1024x5632 .bf16) := by
  dsimp only [hostOps1]; after_results_simp <;> rfl

theorem after_main_v14 : (StableHlo.after hostOps2 W (Proc.devRef .tc main_v14) : Vec Ideal S2x2816x1024 .bf16) = (truncf .bf16 (W (Proc.devRef .tc main_arg13) : FVec Ideal S2x2816x1024 .f32) bitsLt_bf16_f32 : FVec Ideal S2x2816x1024 .bf16) := by
  dsimp only [hostOps2]; after_results_simp <;> rfl

theorem after_main_v9 : (StableHlo.after hostOps0 W (Proc.devRef .tc main_v9) : Vec Ideal S1x1024 .f32)
    = shapeCast S1x1024 (shapeCast S1024 (extractStridedSlice S1x1024 ![0, 0] (shapeCast S2x1024 (extractStridedSlice S1x2x1024 ![1, 0, 0]
        (W (Proc.devRef .tc main_arg10) : Vec Ideal S2x2x1024 .f32) slices_S2x2x1024_S1x2x1024_1_0_0) shapeCasts_S1x2x1024_S2x1024) slices_S2x1024_S1x1024_0_0) shapeCasts_S1x1024_S1024) shapeCasts_S1024_S1x1024 := by
  dsimp only [hostOps0]; after_results_simp <;> rfl

theorem at_main_v9 (d : Fin 1024) : (StableHlo.after hostOps0 W (Proc.devRef .tc main_v9) : Vec Ideal S1x1024 .f32) (ix2 0 d) = (W (Proc.devRef .tc main_arg10) : Vec Ideal S2x2x1024 .f32) (ix3 1 0 d) := by
  rw [after_main_v9]; generalize (W (Proc.devRef .tc main_arg10) : Vec Ideal S2x2x1024 .f32) = y
  pointwise

theorem after_main_v10 : (StableHlo.after hostOps0 W (Proc.devRef .tc main_v10) : Vec Ideal S1x1024 .f32)
    = shapeCast S1x1024 (shapeCast S1024 (extractStridedSlice S1x1024 ![0, 0] (shapeCast S2x1024 (extractStridedSlice S1x2x1024 ![1, 0, 0]
        (W (Proc.devRef .tc main_arg11) : Vec Ideal S2x2x1024 .f32) slices_S2x2x1024_S1x2x1024_1_0_0) shapeCasts_S1x2x1024_S2x1024) slices_S2x1024_S1x1024_0_0) shapeCasts_S1x1024_S1024) shapeCasts_S1024_S1x1024 := by
  dsimp only [hostOps0]; after_results_simp <;> rfl

theorem at_main_v10 (d : Fin 1024) : (StableHlo.after hostOps0 W (Proc.devRef .tc main_v10) : Vec Ideal S1x1024 .f32) (ix2 0 d) = (W (Proc.devRef .tc main_arg11) : Vec Ideal S2x2x1024 .f32) (ix3 1 0 d) := by
  rw [after_main_v10]; generalize (W (Proc.devRef .tc main_arg11) : Vec Ideal S2x2x1024 .f32) = y
  pointwise

theorem after_main_v23 : (StableHlo.after hostOps2 W (Proc.devRef .tc main_v23) : Vec Ideal S1x1024 .f32)
    = shapeCast S1x1024 (shapeCast S1024 (extractStridedSlice S1x1024 ![1, 0] (shapeCast S2x1024 (extractStridedSlice S1x2x1024 ![1, 0, 0]
        (W (Proc.devRef .tc main_arg10) : Vec Ideal S2x2x1024 .f32) slices_S2x2x1024_S1x2x1024_1_0_0) shapeCasts_S1x2x1024_S2x1024) slices_S2x1024_S1x1024_1_0) shapeCasts_S1x1024_S1024) shapeCasts_S1024_S1x1024 := by
  dsimp only [hostOps2]; after_results_simp <;> rfl

theorem at_main_v23 (d : Fin 1024) : (StableHlo.after hostOps2 W (Proc.devRef .tc main_v23) : Vec Ideal S1x1024 .f32) (ix2 0 d) = (W (Proc.devRef .tc main_arg10) : Vec Ideal S2x2x1024 .f32) (ix3 1 1 d) := by
  rw [after_main_v23]; generalize (W (Proc.devRef .tc main_arg10) : Vec Ideal S2x2x1024 .f32) = y
  pointwise

theorem after_main_v24 : (StableHlo.after hostOps2 W (Proc.devRef .tc main_v24) : Vec Ideal S1x1024 .f32)
    = shapeCast S1x1024 (shapeCast S1024 (extractStridedSlice S1x1024 ![1, 0] (shapeCast S2x1024 (extractStridedSlice S1x2x1024 ![1, 0, 0]
        (W (Proc.devRef .tc main_arg11) : Vec Ideal S2x2x1024 .f32) slices_S2x2x1024_S1x2x1024_1_0_0) shapeCasts_S1x2x1024_S2x1024) slices_S2x1024_S1x1024_1_0) shapeCasts_S1x1024_S1024) shapeCasts_S1024_S1x1024 := by
  dsimp only [hostOps2]; after_results_simp <;> rfl

theorem at_main_v24 (d : Fin 1024) : (StableHlo.after hostOps2 W (Proc.devRef .tc main_v24) : Vec Ideal S1x1024 .f32) (ix2 0 d) = (W (Proc.devRef .tc main_arg11) : Vec Ideal S2x2x1024 .f32) (ix3 1 1 d) := by
  rw [after_main_v24]; generalize (W (Proc.devRef .tc main_arg11) : Vec Ideal S2x2x1024 .f32) = y
  pointwise

/-! ## What each region finds -/

theorem V1_arg (r : Ref sig .tc) (h : r ∈ argRefs) : V1 m ρ c r = m ((c : Thread nD τ).loc r) := W1_args m ρ c r h
theorem V3_arg (r : Ref sig .tc) (h : r ∈ argRefs) : V3 m ρ c r = m ((c : Thread nD τ).loc r) := W3_args m ρ c r h
theorem V5_arg (r : Ref sig .tc) (h : r ∈ argRefs) : V5 m ρ c r = m ((c : Thread nD τ).loc r) := W5_args m ρ c r h

/-- The first kernel leaves the reference's residual stream, -/
theorem resid_eq : V3 m ρ c main_v11 = val_main_v40 (F := Ideal) (a0 m c) (a1 m c) (a2 m c) (a3 m c) (a4 m c) (a5 m c) (a9 m c) (a10 m c) (a11 m c) := by
  refine ((W3_of m ρ c main_v11 (by decide)).trans (W2_arr m ρ c 9)).trans ?_
  refine arr0 (V1 m ρ) c _ fun n r d => ?_
  have e9 : (fun d => (V1 m ρ c main_v9 : Vec Ideal S1x1024 .f32) (ix2 0 d)) = at3 (a10 m c) 1 0 := funext fun d => at_main_v9 (W0 m ρ c) d
  have e10 : (fun d => (V1 m ρ c main_v10 : Vec Ideal S1x1024 .f32) (ix2 0 d)) = at3 (a11 m c) 1 0 := funext fun d => at_main_v10 (W0 m ρ c) d
  have e0 : at3 (V1 m ρ c main_v0 : Vec Ideal S2x1024x1024 .bf16) 1 = at3 (a9 m c) 1 :=
    funext fun k => funext fun d => congrFun (after_main_v0 (W0 m ρ c)) (ix3 1 k d)
  rw [e9, e10, e0, V1_arg m ρ c main_arg0 (by decide), V1_arg m ρ c main_arg1 (by decide), V1_arg m ρ c main_arg2 (by decide), V1_arg m ρ c main_arg3 (by decide),
    V1_arg m ρ c main_arg4 (by decide), V1_arg m ρ c main_arg5 (by decide)]
  exact Cert.TailRefIdeal.Tail.v40_at (a0 m c) (a1 m c) (a2 m c) (a3 m c) (a4 m c) (a5 m c) (a9 m c) (a10 m c) (a11 m c) n r d

/-- the second its hidden units, -/
theorem hidden_eq : V5 m ρ c main_v13 = val_main_v71 (F := Ideal) (a0 m c) (a1 m c) (a2 m c) (a3 m c) (a4 m c) (a5 m c) (a6 m c) (a7 m c) (a9 m c) (a10 m c) (a11 m c) (a12 m c) := by
  refine ((W5_of m ρ c main_v13 (by decide)).trans (W4_arr m ρ c 5)).trans ?_
  refine arr1 (V3 m ρ) c _ fun n r j => ?_
  have e12 : (V3 m ρ c main_v12 : Vec Ideal S2x1024x5632 .bf16) = a12 m c :=
    (after_main_v12 (W2 m ρ c)).trans (congrArg (fun y : FVec Ideal S2x1024x5632 .f32 => (truncf .bf16 y bitsLt_bf16_f32 : FVec Ideal S2x1024x5632 .bf16)) (W2_args m ρ c main_arg12 (by decide)))
  rw [e12, resid_eq, V3_arg m ρ c main_arg6 (by decide), V3_arg m ρ c main_arg7 (by decide)]
  exact Cert.TailRefIdeal.Tail.v71_at (a0 m c) (a1 m c) (a2 m c) (a3 m c) (a4 m c) (a5 m c) (a6 m c) (a7 m c) (a9 m c) (a10 m c) (a11 m c) (a12 m c) n r j _
    (fun d => Cert.TailRefIdeal.Tail.v64_at (a0 m c) (a1 m c) (a2 m c) (a3 m c) (a4 m c) (a5 m c) (a6 m c) (a7 m c) (a9 m c) (a10 m c) (a11 m c) n r d _ fun _ => rfl)

theorem resid_eq' : V5 m ρ c main_v11 = V3 m ρ c main_v11 :=
  (W5_of m ρ c main_v11 (by decide)).trans (W4_of m ρ c main_v11 (by decide))

/-- and the third its result. -/
theorem result_eq : W6 m ρ c (Proc.devRef .tc main_v25) = val_main_v107 (F := Ideal) (a0 m c) (a1 m c) (a2 m c) (a3 m c) (a4 m c) (a5 m c) (a6 m c) (a7 m c) (a8 m c) (a9 m c) (a10 m c) (a11 m c) (a12 m c) (a13 m c) := by
  refine (W6_arr m ρ c 6).trans ?_
  refine arr2 (V5 m ρ) c _ fun n r d => ?_
  have e23 : (fun d => (V5 m ρ c main_v23 : Vec Ideal S1x1024 .f32) (ix2 0 d)) = at3 (a10 m c) 1 1 :=
    funext fun d => (at_main_v23 (W4 m ρ c) d).trans (congrFun (W4_args m ρ c main_arg10 (by decide)) _)
  have e24 : (fun d => (V5 m ρ c main_v24 : Vec Ideal S1x1024 .f32) (ix2 0 d)) = at3 (a11 m c) 1 1 :=
    funext fun d => (at_main_v24 (W4 m ρ c) d).trans (congrFun (W4_args m ρ c main_arg11 (by decide)) _)
  have e14 : (V5 m ρ c main_v14 : Vec Ideal S2x2816x1024 .bf16) = a13 m c :=
    (after_main_v14 (W4 m ρ c)).trans (congrArg (fun y : FVec Ideal S2x2816x1024 .f32 => (truncf .bf16 y bitsLt_bf16_f32 : FVec Ideal S2x2816x1024 .bf16)) (W4_args m ρ c main_arg13 (by decide)))
  rw [e23, e24, e14, hidden_eq, resid_eq', resid_eq, V5_arg m ρ c main_arg8 (by decide)]
  exact Cert.TailRefIdeal.Tail.v107_at (a0 m c) (a1 m c) (a2 m c) (a3 m c) (a4 m c) (a5 m c) (a6 m c) (a7 m c) (a8 m c) (a9 m c) (a10 m c) (a11 m c) (a12 m c) (a13 m c) n r d _
    (fun d => Cert.TailRefIdeal.Tail.v79_at (a0 m c) (a1 m c) (a2 m c) (a3 m c) (a4 m c) (a5 m c) (a6 m c) (a7 m c) (a8 m c) (a9 m c) (a10 m c) (a11 m c) (a12 m c) (a13 m c) n r d _ _ (fun _ => rfl) (fun _ => rfl))

end Cert.TailIdeal.Tail
-- ==== Proof.TailClaims.lean ====
/- The claims about the layer's last three calls, assembled. -/
module

public import proofs.«01_k».proof.Defs
public import proofs.«01_k».proof.Proof.Gen.Tail.Frame
public import proofs.«01_k».proof.Proof.Gen.TailRefIdeal.Run
public import proofs.«01_k».proof.Proof.TailRun
public import proofs.«01_k».proof.Proof.TailVal
public import Idealize.ShloMosaic.Lib.Quiescent
public import Idealize.ShloMosaic.Lib.Claim

@[expose] public section

set_option maxRecDepth 16384

noncomputable section

namespace Cert.Tail.Claims

open Idealize.ShloMosaic Idealize.SL.Sem Idealize.ShloMosaic.TcCoe

theorem frame_kernel : Cert.quiescent_Tail := fun m ρ _ => Cert.Tail.Gen.frame m ρ

theorem frame_ideal : Cert.quiescent_TailIdeal := fun m ρ _ => Cert.TailIdeal.Gen.frame m ρ

theorem frame_ref : Cert.quiescent_TailRefIdeal := fun m ρ _ =>
  (θ_run Cert.TailRefIdeal.defs _ _).mono (fun r h => ⟨fun c => (h c).2, sem_eq_zero_of_no_sems (by decide) r.2⟩) (Cert.TailRefIdeal.Value.run m ρ)

theorem preserves : Cert.preserves_Tail_TailIdeal := trivial

theorem algebraic : Cert.algebraic_TailIdeal_TailRefIdeal := by
  intro m g m' g' _ hargs
  refine ⟨fun c => Cert.TailIdeal.Gen.W6 m g c (Proc.devRef .tc Cert.TailIdeal.main_v25), ?_, ?_⟩
  · exact (θ_run Cert.TailIdeal.defs _ _).mono (fun _ h c => ⟨h.1 c, h.2.1 c⟩)
      (θ_run_and (Cert.TailIdeal.Tail.run_result m g) (Cert.TailIdeal.Gen.frame m g))
  · refine (θ_run Cert.TailRefIdeal.defs _ _).mono (fun _ h c => ⟨(h c).1.trans ?_, (h c).2⟩) (Cert.TailRefIdeal.Value.run m' g')
    rw [Cert.TailRefIdeal.Read.val_main_v107_eq]
    obtain ⟨e0, e1, e2, e3, e4, e5, e6, e7, e8, e9, e10, e11, e12, e13⟩ := hargs c
    have f0 : StableHlo.launchContents m' c (Proc.devRef .tc Cert.TailRefIdeal.main_arg0) = Cert.TailIdeal.Tail.a0 m c := e0
    have f1 : StableHlo.launchContents m' c (Proc.devRef .tc Cert.TailRefIdeal.main_arg1) = Cert.TailIdeal.Tail.a1 m c := e1
    have f2 : StableHlo.launchContents m' c (Proc.devRef .tc Cert.TailRefIdeal.main_arg2) = Cert.TailIdeal.Tail.a2 m c := e2
    have f3 : StableHlo.launchContents m' c (Proc.devRef .tc Cert.TailRefIdeal.main_arg3) = Cert.TailIdeal.Tail.a3 m c := e3
    have f4 : StableHlo.launchContents m' c (Proc.devRef .tc Cert.TailRefIdeal.main_arg4) = Cert.TailIdeal.Tail.a4 m c := e4
    have f5 : StableHlo.launchContents m' c (Proc.devRef .tc Cert.TailRefIdeal.main_arg5) = Cert.TailIdeal.Tail.a5 m c := e5
    have f6 : StableHlo.launchContents m' c (Proc.devRef .tc Cert.TailRefIdeal.main_arg6) = Cert.TailIdeal.Tail.a6 m c := e6
    have f7 : StableHlo.launchContents m' c (Proc.devRef .tc Cert.TailRefIdeal.main_arg7) = Cert.TailIdeal.Tail.a7 m c := e7
    have f8 : StableHlo.launchContents m' c (Proc.devRef .tc Cert.TailRefIdeal.main_arg8) = Cert.TailIdeal.Tail.a8 m c := e8
    have f9 : StableHlo.launchContents m' c (Proc.devRef .tc Cert.TailRefIdeal.main_arg9) = Cert.TailIdeal.Tail.a9 m c := e9
    have f10 : StableHlo.launchContents m' c (Proc.devRef .tc Cert.TailRefIdeal.main_arg10) = Cert.TailIdeal.Tail.a10 m c := e10
    have f11 : StableHlo.launchContents m' c (Proc.devRef .tc Cert.TailRefIdeal.main_arg11) = Cert.TailIdeal.Tail.a11 m c := e11
    have f12 : StableHlo.launchContents m' c (Proc.devRef .tc Cert.TailRefIdeal.main_arg12) = Cert.TailIdeal.Tail.a12 m c := e12
    have f13 : StableHlo.launchContents m' c (Proc.devRef .tc Cert.TailRefIdeal.main_arg13) = Cert.TailIdeal.Tail.a13 m c := e13
    rw [f0, f1, f2, f3, f4, f5, f6, f7, f8, f9, f10, f11, f12, f13]
    exact (Cert.TailIdeal.Tail.result_eq m g c).symm

end Cert.Tail.Claims
-- ==== Proof.ProjRun.lean ====
/- The run of the two input projections, with what their result arrays end holding. -/
module

public import proofs.«01_k».proof.Proof.Gen.ProjIdeal.Frame

@[expose] public section

set_option maxRecDepth 16384

noncomputable section

namespace Cert.ProjIdeal.Rows

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run ends with the result arrays at what the last host operations leave: the launch is the frame's, over the same segments. -/
theorem run_result : θ_run defs (onTc (τ := τ) (main (F := F))) ⟨m, fun _ => 0, ρ⟩ (fun r => ∀ c : Dev nD,
      r.2.mem ((c.tc : Thread nD τ).loc main_v6) = W5 m ρ c (Proc.devRef .tc main_v6)
      ∧ r.2.mem ((c.tc : Thread nD τ).loc main_v13) = W5 m ρ c (Proc.devRef .tc main_v13)
      ∧ r.2.mem ((c.tc : Thread nD τ).loc main_v16) = W5 m ρ c (Proc.devRef .tc main_v16)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c => ⟨h c _ (mem_uc main_v6 (by decide)), h c _ (mem_uc main_v13 (by decide)), h c _ (mem_uc main_v16 (by decide))⟩)

end Cert.ProjIdeal.Rows
-- ==== Proof.ProjPay.lean ====
/- What each of the two input projections stores, at an index. -/
module

public import proofs.«01_k».proof.Proof.Gen.ProjIdeal.Frame
public import proofs.«01_k».proof.Proof.LayerRows
public import Idealize.ShloMosaic.PureOps.Ideal
public import Idealize.ShloMosaic.Lib.Pointwise
public import Idealize.ShloMosaic.Lib.ValueIdx
public import Idealize.ShloMosaic.Lib.Pipeline.ValueKit.Basic

@[expose] public section

set_option maxRecDepth 16384

noncomputable section

namespace Cert.ProjIdeal.Rows

open Cert.ProjIdeal.Gen Cert.Layer
open Idealize.ShloMosaic Idealize.ShloMosaic.TcCoe Idealize.ShloMosaic.Tactic

/-- The row a block of two batch elements holds. -/
abbrev row {n : ℕ} (x : (⟨3, ![2, 256, n]⟩ : Shape).Idx → EReal) (b : Fin 2) (r : Fin 256) : Fin n → EReal := fun k => x (ix3 b r k)

theorem pay0_at (v0 : Vec Ideal S2x256x1024 .f32) (v18 v24 : Vec Ideal S1x1x1024 .f32) (v29 : Vec Ideal S1x1024x3072 .bf16) (b : Fin 2) (r : Fin 256) (j : Fin 3072) :
    k0_pay1 v0 v18 v24 v29 (ix3 b r j)
      = projected (row v0 b r) (fun d => v18 (ix3 0 0 d)) (fun d => v24 (ix3 0 0 d)) (fun k => v29 (ix3 0 k j)) := by
  unfold k0_pay1; pointwise
  rfl

theorem pay1_at (v0 : Vec Ideal S2x256x1024 .f32) (v18 v24 : Vec Ideal S1x1x1024 .f32) (v29 : Vec Ideal S1x1024x3072 .bf16) (b : Fin 2) (r : Fin 256) (j : Fin 3072) :
    k1_pay1 v0 v18 v24 v29 (ix3 b r j)
      = projected (row v0 b r) (fun d => v18 (ix3 0 0 d)) (fun d => v24 (ix3 0 0 d)) (fun k => v29 (ix3 0 k j)) := by
  unfold k1_pay1; pointwise
  rfl

end Cert.ProjIdeal.Rows
-- ==== Proof.ProjArr.lean ====
/- What each window of the two input projections reads of its array, and what the projections leave in their output arrays. -/
module

public import proofs.«01_k».proof.Proof.ProjPay
public import proofs.«01_k».proof.Proof.Gen.ProjIdeal.Points
public import Idealize.ShloMosaic.Lib.Pipeline.Value

@[expose] public section

set_option maxRecDepth 16384

noncomputable section

namespace Cert.ProjIdeal.Rows

open Cert.ProjIdeal.Gen Cert.Layer
open Idealize.ShloMosaic Idealize.ShloMosaic.TcCoe Idealize.ShloMosaic.Tactic
open Idealize.ShloMosaic.Pipeline (Dat Cfg Window)

variable (V : (c : Dev nD) → (b : Ref sig .tc) → Buf (Elt Ideal) ((c : Thread nD τ).loc b)) (c : Dev nD)

/-- The row of one point of one batch element, in an array. -/
abbrev at3 {a b n : ℕ} (x : (⟨3, ![a, b, n]⟩ : Shape).Idx → EReal) (i : Fin a) (r : Fin b) : Fin n → EReal := fun k => x (ix3 i r k)

/-! ## Layer 0 -/

theorem word0_0 (t : Fin grid0.N) : (BitVec.ofNat 32 (grid0.coords t 0).val).toNat = t.val := by
  have ht : t.val < 8 := Nat.lt_of_lt_of_eq t.isLt N_0
  have e : (grid0.coords t 0).val = t.val / 1 % 8 := Pipeline.Grid.coords_val t 0 (by decide) rfl
  rw [e, BitVec.toNat_ofNat]; omega

theorem word0_1 (t : Fin grid0.N) : (BitVec.ofNat 32 (grid0.coords t 1).val).toNat = 0 := by
  have e : (grid0.coords t 1).val = t.val / 1 % 1 := Pipeline.Grid.coords_val t 1 (by decide) rfl
  rw [e, BitVec.toNat_ofNat]; omega

theorem blk0_0 (t : Fin cfg0.N) (a : Fin 2) (r : Fin 256) (d : Fin 1024) (n : Fin 16) (q : Fin 256) (g : Fin 1024)
    (h0 : n.val = 2 * t.val + a.val) (h1 : q.val = 256 * 0 + r.val) (h2 : g.val = 1024 * 0 + d.val) :
    (iblk0 V c 0 t : Vec Ideal S2x256x1024 .f32) (ix3 a r d) = (V c main_arg0 : Vec Ideal S16x256x1024 .f32) (ix3 n q g) := by
  have e : (iblk0 V c 0 t : Vec Ideal S2x256x1024 .f32) (ix3 a r d) = (V c main_arg0 : Vec Ideal S16x256x1024 .f32) ((win0_0.rect t).emb (ix3 a r d)) := rfl
  rw [e]
  congr 1; funext x; apply Fin.ext; rw [win0_0.rect_emb_val t (ix3 a r d) x]
  fin_cases x
  · show (BitVec.ofNat 32 (grid0.coords t 0).val).toNat * 2 + a.val = n.val; rw [word0_0]; omega
  · show (BitVec.ofNat 32 (grid0.coords t 1).val).toNat * 256 + r.val = q.val; rw [word0_1]; omega
  · show 0 * 1024 + d.val = g.val; omega

theorem blk0_1 (t : Fin cfg0.N) (a : Fin 1) (r : Fin 1) (d : Fin 1024) (n : Fin 1) (q : Fin 1) (g : Fin 1024)
    (h0 : n.val = 1 * 0 + a.val) (h1 : q.val = 1 * 0 + r.val) (h2 : g.val = 1024 * 0 + d.val) :
    (iblk0 V c 1 t : Vec Ideal S1x1x1024 .f32) (ix3 a r d) = (V c main_arg2 : Vec Ideal S1x1x1024 .f32) (ix3 n q g) := by
  have e : (iblk0 V c 1 t : Vec Ideal S1x1x1024 .f32) (ix3 a r d) = (V c main_arg2 : Vec Ideal S1x1x1024 .f32) ((win0_1.rect t).emb (ix3 a r d)) := rfl
  rw [e]
  congr 1; funext x; apply Fin.ext; rw [win0_1.rect_emb_val t (ix3 a r d) x]
  fin_cases x
  · show 0 * 1 + a.val = n.val; omega
  · show 0 * 1 + r.val = q.val; omega
  · show 0 * 1024 + d.val = g.val; omega

theorem blk0_2 (t : Fin cfg0.N) (a : Fin 1) (r : Fin 1) (d : Fin 1024) (n : Fin 1) (q : Fin 1) (g : Fin 1024)
    (h0 : n.val = 1 * 0 + a.val) (h1 : q.val = 1 * 0 + r.val) (h2 : g.val = 1024 * 0 + d.val) :
    (iblk0 V c 2 t : Vec Ideal S1x1x1024 .f32) (ix3 a r d) = (V c main_arg3 : Vec Ideal S1x1x1024 .f32) (ix3 n q g) := by
  have e : (iblk0 V c 2 t : Vec Ideal S1x1x1024 .f32) (ix3 a r d) = (V c main_arg3 : Vec Ideal S1x1x1024 .f32) ((win0_2.rect t).emb (ix3 a r d)) := rfl
  rw [e]
  congr 1; funext x; apply Fin.ext; rw [win0_2.rect_emb_val t (ix3 a r d) x]
  fin_cases x
  · show 0 * 1 + a.val = n.val; omega
  · show 0 * 1 + r.val = q.val; omega
  · show 0 * 1024 + d.val = g.val; omega

theorem blk0_3 (t : Fin cfg0.N) (a : Fin 1) (r : Fin 1024) (d : Fin 3072) (n : Fin 2) (q : Fin 1024) (g : Fin 3072)
    (h0 : n.val = 1 * 0 + a.val) (h1 : q.val = 1024 * 0 + r.val) (h2 : g.val = 3072 * 0 + d.val) :
    (iblk0 V c 3 t : Vec Ideal S1x1024x3072 .bf16) (ix3 a r d) = (V c main_v0 : Vec Ideal S2x1024x3072 .bf16) (ix3 n q g) := by
  have e : (iblk0 V c 3 t : Vec Ideal S1x1024x3072 .bf16) (ix3 a r d) = (V c main_v0 : Vec Ideal S2x1024x3072 .bf16) ((win0_3.rect t).emb (ix3 a r d)) := rfl
  rw [e]
  congr 1; funext x; apply Fin.ext; rw [win0_3.rect_emb_val t (ix3 a r d) x]
  fin_cases x
  · show 0 * 1 + a.val = n.val; omega
  · show 0 * 1024 + r.val = q.val; omega
  · show 0 * 3072 + d.val = g.val; omega

theorem out0_at (x0 : Vec Ideal S2x256x1024 .f32) (x1 x2 : Vec Ideal S1x1x1024 .f32) (x3 : Vec Ideal S1x1024x3072 .bf16) (b : Fin 2) (r : Fin 256) (j : Fin 3072) :
    out0_4 x0 x1 x2 x3 (ix3 b r j)
      = projected (row x0 b r) (fun d => x1 (ix3 0 0 d)) (fun d => x2 (ix3 0 0 d)) (fun k => x3 (ix3 0 k j)) := by
  unfold out0_4
  rw [View.canon_cons_unit_lit _ _ _ (by decide)]
  rw [View.ld_unit_lit _ x0 (by decide), View.ld_unit_lit _ x1 (by decide), View.ld_unit_lit _ x2 (by decide), View.ld_unit_lit _ x3 (by decide)]
  exact pay0_at x0 x1 x2 x3 b r j

/-- Every element of the output lies in the block of some point. -/
theorem covered0 (i : S16x256x3072.Idx) : ∃ t : Fin cfg0.N, (cfg0.win 4).flush t = true ∧ i ∈ ((cfg0.win 4).blk t).view.set := by
  have b0 : (i 0).val < 16 := (i 0).isLt
  have b1 : (i 1).val < 256 := (i 1).isLt
  have b2 : (i 2).val < 3072 := (i 2).isLt
  have ht : (i 0).val / 2 < cfg0.N := by rw [show cfg0.N = 8 from N_0]; omega
  refine ⟨⟨(i 0).val / 2, ht⟩, flush0_4 _, ?_⟩
  show i ∈ ((View.whole main_v1).slice (win0_4.rect ⟨(i 0).val / 2, ht⟩)).set
  rw [View.set_slice_whole, Rect.mem_set_unit]
  have w0 := word0_0 ⟨(i 0).val / 2, ht⟩
  have w1 := word0_1 ⟨(i 0).val / 2, ht⟩
  intro a
  fin_cases a
  · show (BitVec.ofNat 32 (grid0.coords _ 0).val).toNat * 2 ≤ (i 0).val ∧ (i 0).val < (BitVec.ofNat 32 (grid0.coords _ 0).val).toNat * 2 + 2
    rw [w0]; simp only []; omega
  · show (BitVec.ofNat 32 (grid0.coords _ 1).val).toNat * 256 ≤ (i 1).val ∧ (i 1).val < (BitVec.ofNat 32 (grid0.coords _ 1).val).toNat * 256 + 256
    rw [w1]; simp only []; omega
  · show 0 * 3072 ≤ (i 2).val ∧ (i 2).val < 0 * 3072 + 3072
    omega

/-- Any array that agrees with the formula everywhere is what the call leaves. -/
theorem arr0 (G : Vec Ideal S16x256x3072 .f32)
    (hG : ∀ (n : Fin 16) (r : Fin 256) (j : Fin 3072), G (ix3 n r j)
      = projected (at3 (V c main_arg0 : Vec Ideal S16x256x1024 .f32) n r) (at3 (V c main_arg2 : Vec Ideal S1x1x1024 .f32) 0 0) (at3 (V c main_arg3 : Vec Ideal S1x1x1024 .f32) 0 0)
          (fun k => (V c main_v0 : Vec Ideal S2x1024x3072 .bf16) (ix3 0 k j))) :
    (dat0 V c).arrAt 4 cfg0.N = G := by
  refine (dat0 V c).arrAt_eq_of_cover 4 G (fun t _ => ?_) covered0
  have ht : t.val < 8 := Nat.lt_of_lt_of_eq t.isLt N_0
  funext y
  obtain ⟨o, b, x, rfl⟩ : ∃ o b x, y = ix3 (n0 := 2) (n1 := 256) (n2 := 3072) o b x := ⟨_, _, _, eq_ix3 y⟩
  have el : (dat0 V c).flushed 4 t (ix3 o b x) = out0_4 (iblk0 V c 0 t) (iblk0 V c 1 t) (iblk0 V c 2 t) (iblk0 V c 3 t) (ix3 o b x) := by
    show (dat0 V c).after 4 t _ = _
    rw [after0_4]; rfl
  have ei : (win0_4.rect t).emb (ix3 o b x) = ix3 (⟨2 * t.val + o.val, by omega⟩ : Fin 16) b x := by
    funext a; apply Fin.ext; rw [win0_4.rect_emb_val t (ix3 o b x) a]
    fin_cases a
    · show (BitVec.ofNat 32 (grid0.coords t 0).val).toNat * 2 + o.val = 2 * t.val + o.val; rw [word0_0]; omega
    · show (BitVec.ofNat 32 (grid0.coords t 1).val).toNat * 256 + b.val = b.val; rw [word0_1]; omega
    · show 0 * 3072 + x.val = x.val; omega
  have er : ((cfg0.win 4).blk t).view.read (Elt Ideal) G (ix3 o b x) = G ((win0_4.rect t).emb (ix3 o b x)) := rfl
  refine el.trans (Eq.trans ?_ er.symm)
  rw [ei, hG, out0_at]
  have e0 : row (iblk0 V c 0 t : Vec Ideal S2x256x1024 .f32) o b = at3 (V c main_arg0 : Vec Ideal S16x256x1024 .f32) (⟨2 * t.val + o.val, by omega⟩ : Fin 16) b :=
    funext fun d => blk0_0 V c t o b d _ _ _ rfl (by omega) (by omega)
  have e1 : (fun d => (iblk0 V c 1 t : Vec Ideal S1x1x1024 .f32) (ix3 0 0 d)) = at3 (V c main_arg2 : Vec Ideal S1x1x1024 .f32) 0 0 :=
    funext fun d => blk0_1 V c t 0 0 d _ _ _ (by decide) (by decide) (by omega)
  have e2 : (fun d => (iblk0 V c 2 t : Vec Ideal S1x1x1024 .f32) (ix3 0 0 d)) = at3 (V c main_arg3 : Vec Ideal S1x1x1024 .f32) 0 0 :=
    funext fun d => blk0_2 V c t 0 0 d _ _ _ (by decide) (by decide) (by omega)
  have e3 : (fun k => (iblk0 V c 3 t : Vec Ideal S1x1024x3072 .bf16) (ix3 0 k x)) = fun k => (V c main_v0 : Vec Ideal S2x1024x3072 .bf16) (ix3 0 k x) :=
    funext fun k => blk0_3 V c t 0 k x _ _ _ (by decide) (by omega) (by omega)
  rw [e0, e1, e2, e3]

/-! ## Layer 1 -/

theorem word1_0 (t : Fin grid1.N) : (BitVec.ofNat 32 (grid1.coords t 0).val).toNat = t.val := by
  have ht : t.val < 8 := Nat.lt_of_lt_of_eq t.isLt N_1
  have e : (grid1.coords t 0).val = t.val / 1 % 8 := Pipeline.Grid.coords_val t 0 (by decide) rfl
  rw [e, BitVec.toNat_ofNat]; omega

theorem word1_1 (t : Fin grid1.N) : (BitVec.ofNat 32 (grid1.coords t 1).val).toNat = 0 := by
  have e : (grid1.coords t 1).val = t.val / 1 % 1 := Pipeline.Grid.coords_val t 1 (by decide) rfl
  rw [e, BitVec.toNat_ofNat]; omega

theorem blk1_0 (t : Fin cfg1.N) (a : Fin 2) (r : Fin 256) (d : Fin 1024) (n : Fin 16) (q : Fin 256) (g : Fin 1024)
    (h0 : n.val = 2 * t.val + a.val) (h1 : q.val = 256 * 0 + r.val) (h2 : g.val = 1024 * 0 + d.val) :
    (iblk1 V c 0 t : Vec Ideal S2x256x1024 .f32) (ix3 a r d) = (V c main_arg1 : Vec Ideal S16x256x1024 .f32) (ix3 n q g) := by
  have e : (iblk1 V c 0 t : Vec Ideal S2x256x1024 .f32) (ix3 a r d) = (V c main_arg1 : Vec Ideal S16x256x1024 .f32) ((win1_0.rect t).emb (ix3 a r d)) := rfl
  rw [e]
  congr 1; funext x; apply Fin.ext; rw [win1_0.rect_emb_val t (ix3 a r d) x]
  fin_cases x
  · show (BitVec.ofNat 32 (grid1.coords t 0).val).toNat * 2 + a.val = n.val; rw [word1_0]; omega
  · show (BitVec.ofNat 32 (grid1.coords t 1).val).toNat * 256 + r.val = q.val; rw [word1_1]; omega
  · show 0 * 1024 + d.val = g.val; omega

theorem blk1_1 (t : Fin cfg1.N) (a : Fin 1) (r : Fin 1) (d : Fin 1024) (n : Fin 1) (q : Fin 1) (g : Fin 1024)
    (h0 : n.val = 1 * 0 + a.val) (h1 : q.val = 1 * 0 + r.val) (h2 : g.val = 1024 * 0 + d.val) :
    (iblk1 V c 1 t : Vec Ideal S1x1x1024 .f32) (ix3 a r d) = (V c main_arg4 : Vec Ideal S1x1x1024 .f32) (ix3 n q g) := by
  have e : (iblk1 V c 1 t : Vec Ideal S1x1x1024 .f32) (ix3 a r d) = (V c main_arg4 : Vec Ideal S1x1x1024 .f32) ((win1_1.rect t).emb (ix3 a r d)) := rfl
  rw [e]
  congr 1; funext x; apply Fin.ext; rw [win1_1.rect_emb_val t (ix3 a r d) x]
  fin_cases x
  · show 0 * 1 + a.val = n.val; omega
  · show 0 * 1 + r.val = q.val; omega
  · show 0 * 1024 + d.val = g.val; omega

theorem blk1_2 (t : Fin cfg1.N) (a : Fin 1) (r : Fin 1) (d : Fin 1024) (n : Fin 1) (q : Fin 1) (g : Fin 1024)
    (h0 : n.val = 1 * 0 + a.val) (h1 : q.val = 1 * 0 + r.val) (h2 : g.val = 1024 * 0 + d.val) :
    (iblk1 V c 2 t : Vec Ideal S1x1x1024 .f32) (ix3 a r d) = (V c main_arg5 : Vec Ideal S1x1x1024 .f32) (ix3 n q g) := by
  have e : (iblk1 V c 2 t : Vec Ideal S1x1x1024 .f32) (ix3 a r d) = (V c main_arg5 : Vec Ideal S1x1x1024 .f32) ((win1_2.rect t).emb (ix3 a r d)) := rfl
  rw [e]
  congr 1; funext x; apply Fin.ext; rw [win1_2.rect_emb_val t (ix3 a r d) x]
  fin_cases x
  · show 0 * 1 + a.val = n.val; omega
  · show 0 * 1 + r.val = q.val; omega
  · show 0 * 1024 + d.val = g.val; omega

theorem blk1_3 (t : Fin cfg1.N) (a : Fin 1) (r : Fin 1024) (d : Fin 3072) (n : Fin 2) (q : Fin 1024) (g : Fin 3072)
    (h0 : n.val = 1 * 1 + a.val) (h1 : q.val = 1024 * 0 + r.val) (h2 : g.val = 3072 * 0 + d.val) :
    (iblk1 V c 3 t : Vec Ideal S1x1024x3072 .bf16) (ix3 a r d) = (V c main_v0 : Vec Ideal S2x1024x3072 .bf16) (ix3 n q g) := by
  have e : (iblk1 V c 3 t : Vec Ideal S1x1024x3072 .bf16) (ix3 a r d) = (V c main_v0 : Vec Ideal S2x1024x3072 .bf16) ((win1_3.rect t).emb (ix3 a r d)) := rfl
  rw [e]
  congr 1; funext x; apply Fin.ext; rw [win1_3.rect_emb_val t (ix3 a r d) x]
  fin_cases x
  · show 1 * 1 + a.val = n.val; omega
  · show 0 * 1024 + r.val = q.val; omega
  · show 0 * 3072 + d.val = g.val; omega

theorem out1_at (x0 : Vec Ideal S2x256x1024 .f32) (x1 x2 : Vec Ideal S1x1x1024 .f32) (x3 : Vec Ideal S1x1024x3072 .bf16) (b : Fin 2) (r : Fin 256) (j : Fin 3072) :
    out1_4 x0 x1 x2 x3 (ix3 b r j)
      = projected (row x0 b r) (fun d => x1 (ix3 0 0 d)) (fun d => x2 (ix3 0 0 d)) (fun k => x3 (ix3 0 k j)) := by
  unfold out1_4
  rw [View.canon_cons_unit_lit _ _ _ (by decide)]
  rw [View.ld_unit_lit _ x0 (by decide), View.ld_unit_lit _ x1 (by decide), View.ld_unit_lit _ x2 (by decide), View.ld_unit_lit _ x3 (by decide)]
  exact pay1_at x0 x1 x2 x3 b r j

/-- Every element of the output lies in the block of some point. -/
theorem covered1 (i : S16x256x3072.Idx) : ∃ t : Fin cfg1.N, (cfg1.win 4).flush t = true ∧ i ∈ ((cfg1.win 4).blk t).view.set := by
  have b0 : (i 0).val < 16 := (i 0).isLt
  have b1 : (i 1).val < 256 := (i 1).isLt
  have b2 : (i 2).val < 3072 := (i 2).isLt
  have ht : (i 0).val / 2 < cfg1.N := by rw [show cfg1.N = 8 from N_1]; omega
  refine ⟨⟨(i 0).val / 2, ht⟩, flush1_4 _, ?_⟩
  show i ∈ ((View.whole main_v6).slice (win1_4.rect ⟨(i 0).val / 2, ht⟩)).set
  rw [View.set_slice_whole, Rect.mem_set_unit]
  have w0 := word1_0 ⟨(i 0).val / 2, ht⟩
  have w1 := word1_1 ⟨(i 0).val / 2, ht⟩
  intro a
  fin_cases a
  · show (BitVec.ofNat 32 (grid1.coords _ 0).val).toNat * 2 ≤ (i 0).val ∧ (i 0).val < (BitVec.ofNat 32 (grid1.coords _ 0).val).toNat * 2 + 2
    rw [w0]; simp only []; omega
  · show (BitVec.ofNat 32 (grid1.coords _ 1).val).toNat * 256 ≤ (i 1).val ∧ (i 1).val < (BitVec.ofNat 32 (grid1.coords _ 1).val).toNat * 256 + 256
    rw [w1]; simp only []; omega
  · show 0 * 3072 ≤ (i 2).val ∧ (i 2).val < 0 * 3072 + 3072
    omega

/-- Any array that agrees with the formula everywhere is what the call leaves. -/
theorem arr1 (G : Vec Ideal S16x256x3072 .f32)
    (hG : ∀ (n : Fin 16) (r : Fin 256) (j : Fin 3072), G (ix3 n r j)
      = projected (at3 (V c main_arg1 : Vec Ideal S16x256x1024 .f32) n r) (at3 (V c main_arg4 : Vec Ideal S1x1x1024 .f32) 0 0) (at3 (V c main_arg5 : Vec Ideal S1x1x1024 .f32) 0 0)
          (fun k => (V c main_v0 : Vec Ideal S2x1024x3072 .bf16) (ix3 1 k j))) :
    (dat1 V c).arrAt 4 cfg1.N = G := by
  refine (dat1 V c).arrAt_eq_of_cover 4 G (fun t _ => ?_) covered1
  have ht : t.val < 8 := Nat.lt_of_lt_of_eq t.isLt N_1
  funext y
  obtain ⟨o, b, x, rfl⟩ : ∃ o b x, y = ix3 (n0 := 2) (n1 := 256) (n2 := 3072) o b x := ⟨_, _, _, eq_ix3 y⟩
  have el : (dat1 V c).flushed 4 t (ix3 o b x) = out1_4 (iblk1 V c 0 t) (iblk1 V c 1 t) (iblk1 V c 2 t) (iblk1 V c 3 t) (ix3 o b x) := by
    show (dat1 V c).after 4 t _ = _
    rw [after1_4]; rfl
  have ei : (win1_4.rect t).emb (ix3 o b x) = ix3 (⟨2 * t.val + o.val, by omega⟩ : Fin 16) b x := by
    funext a; apply Fin.ext; rw [win1_4.rect_emb_val t (ix3 o b x) a]
    fin_cases a
    · show (BitVec.ofNat 32 (grid1.coords t 0).val).toNat * 2 + o.val = 2 * t.val + o.val; rw [word1_0]; omega
    · show (BitVec.ofNat 32 (grid1.coords t 1).val).toNat * 256 + b.val = b.val; rw [word1_1]; omega
    · show 0 * 3072 + x.val = x.val; omega
  have er : ((cfg1.win 4).blk t).view.read (Elt Ideal) G (ix3 o b x) = G ((win1_4.rect t).emb (ix3 o b x)) := rfl
  refine el.trans (Eq.trans ?_ er.symm)
  rw [ei, hG, out1_at]
  have e0 : row (iblk1 V c 0 t : Vec Ideal S2x256x1024 .f32) o b = at3 (V c main_arg1 : Vec Ideal S16x256x1024 .f32) (⟨2 * t.val + o.val, by omega⟩ : Fin 16) b :=
    funext fun d => blk1_0 V c t o b d _ _ _ rfl (by omega) (by omega)
  have e1 : (fun d => (iblk1 V c 1 t : Vec Ideal S1x1x1024 .f32) (ix3 0 0 d)) = at3 (V c main_arg4 : Vec Ideal S1x1x1024 .f32) 0 0 :=
    funext fun d => blk1_1 V c t 0 0 d _ _ _ (by decide) (by decide) (by omega)
  have e2 : (fun d => (iblk1 V c 2 t : Vec Ideal S1x1x1024 .f32) (ix3 0 0 d)) = at3 (V c main_arg5 : Vec Ideal S1x1x1024 .f32) 0 0 :=
    funext fun d => blk1_2 V c t 0 0 d _ _ _ (by decide) (by decide) (by omega)
  have e3 : (fun k => (iblk1 V c 3 t : Vec Ideal S1x1024x3072 .bf16) (ix3 0 k x)) = fun k => (V c main_v0 : Vec Ideal S2x1024x3072 .bf16) (ix3 1 k x) :=
    funext fun k => blk1_3 V c t 0 k x _ _ _ (by decide) (by omega) (by omega)
  rw [e0, e1, e2, e3]

end Cert.ProjIdeal.Rows
-- ==== Proof.ProjRef.lean ====
/- The plain reference of the two input projections, at an index. -/
module

public import proofs.«01_k».proof.Proof.Gen.ProjRefIdeal.Read
public import proofs.«01_k».proof.Proof.LayerRows
public import Idealize.ShloMosaic.PureOps.Ideal
public import Idealize.ShloMosaic.Lib.Pointwise
public import Idealize.ShloMosaic.Lib.ValueIdx

@[expose] public section

set_option maxRecDepth 16384

noncomputable section

namespace Cert.ProjRefIdeal.Rows

open Cert.ProjRefIdeal.Read Cert.Layer
open Idealize.ShloMosaic Idealize.ShloMosaic.TcCoe Idealize.ShloMosaic.Tactic

variable (x0 x1 : FVec Ideal S16x256x1024 .f32) (x2 x3 x4 x5 : FVec Ideal S1x1x1024 .f32) (x6 : FVec Ideal S2x1024x3072 .f32)

theorem zeroWord : Ideal.ofBits FTy.f32 0x00000000#32 = 0 := by simp [Ideal.ofBits, Ideal.ieee]
theorem oneWord : Ideal.ofBits FTy.f32 0x3F800000#32 = 1 := by
  simp [Ideal.ofBits, Ideal.ieee, -EReal.coe_mul]; norm_num

/-- The row of one point of one batch element. -/
abbrev at3 {a b n : ℕ} (x : (⟨3, ![a, b, n]⟩ : Shape).Idx → EReal) (i : Fin a) (r : Fin b) : Fin n → EReal := fun k => x (ix3 i r k)

/-- The modulated norm of layer 0's row, -/
theorem v23_at (n : Fin 16) (r : Fin 256) (d : Fin 1024) :
    val_main_v23 (F := Ideal) x0 x2 x3 (ix3 n r d) = modNorm (at3 x0 n r) (at3 x2 0 0) (at3 x3 0 0) d := by
  unfold val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0
  pointwise
  simp only [val_main_cst_apply, val_main_cst_1_apply, val_main_cst_2_apply, val_main_cst_3_apply, val_main_cst_4_apply, Scalar.ofBits, FloatOps.ofBits, zeroWord, oneWord, zero_add]
  rfl

/-- and its projection. -/
theorem v26_at (n : Fin 16) (r : Fin 256) (j : Fin 3072) :
    val_main_v26 (F := Ideal) x0 x2 x3 x6 (ix3 n r j) = projected (at3 x0 n r) (at3 x2 0 0) (at3 x3 0 0) (fun k => x6 (ix3 0 k j)) := by
  have hc := v23_at x0 x2 x3 n r
  unfold val_main_v26 val_main_v25 val_main_v24
  generalize val_main_v23 (F := Ideal) x0 x2 x3 = y at hc ⊢
  pointwise
  simp only [hc]
  rfl

/-- The modulated norm of layer 1's row, -/
theorem v64_at (n : Fin 16) (r : Fin 256) (d : Fin 1024) :
    val_main_v64 (F := Ideal) x1 x4 x5 (ix3 n r d) = modNorm (at3 x1 n r) (at3 x4 0 0) (at3 x5 0 0) d := by
  unfold val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41
  pointwise
  simp only [val_main_cst_5_apply, val_main_cst_6_apply, val_main_cst_7_apply, val_main_cst_8_apply, val_main_cst_9_apply, val_main_cst_10_apply, Scalar.ofBits, FloatOps.ofBits, zeroWord, oneWord, zero_add]
  rfl

/-- and its projection. -/
theorem v67_at (n : Fin 16) (r : Fin 256) (j : Fin 3072) :
    val_main_v67 (F := Ideal) x1 x4 x5 x6 (ix3 n r j) = projected (at3 x1 n r) (at3 x4 0 0) (at3 x5 0 0) (fun k => x6 (ix3 1 k j)) := by
  have hc := v64_at x1 x4 x5 n r
  unfold val_main_v67 val_main_v66 val_main_v65
  generalize val_main_v64 (F := Ideal) x1 x4 x5 = y at hc ⊢
  pointwise
  simp only [hc]
  rfl

end Cert.ProjRefIdeal.Rows
-- ==== Proof.ProjVal.lean ====
/- The two input projections together: the result arrays are the plain reference's. -/
module

public import proofs.«01_k».proof.Proof.ProjArr
public import proofs.«01_k».proof.Proof.ProjRef
public import Idealize.ShloMosaic.Lib.StableHlo.RunClose

@[expose] public section

set_option maxRecDepth 16384

noncomputable section

namespace Cert.ProjIdeal.Rows

open Cert.ProjIdeal.Gen Cert.Layer
open Idealize.ShloMosaic Idealize.ShloMosaic.TcCoe Idealize.ShloMosaic.Tactic
open Idealize.ShloMosaic.Pipeline (Dat Cfg Window)

open Cert.ProjRefIdeal.Read (val_main_v26 val_main_v67 val_main_v84 val_main_v87)

variable (m : (ℓ : Loc nD τ sig) → Buf (Elt Ideal) ℓ) (ρ : Dev nD → PrngReg) (c : Dev nD)

/-- The argument arrays. -/
abbrev a0 : Vec Ideal S16x256x1024 .f32 := m ((c : Thread nD τ).loc main_arg0)
abbrev a1 : Vec Ideal S16x256x1024 .f32 := m ((c : Thread nD τ).loc main_arg1)
abbrev a2 : Vec Ideal S1x1x1024 .f32 := m ((c : Thread nD τ).loc main_arg2)
abbrev a3 : Vec Ideal S1x1x1024 .f32 := m ((c : Thread nD τ).loc main_arg3)
abbrev a4 : Vec Ideal S1x1x1024 .f32 := m ((c : Thread nD τ).loc main_arg4)
abbrev a5 : Vec Ideal S1x1x1024 .f32 := m ((c : Thread nD τ).loc main_arg5)
abbrev a6 : Vec Ideal S2x1024x3072 .f32 := m ((c : Thread nD τ).loc main_arg6)

/-! ## The host's arrays -/

variable (W : Valuation τ sig (Elt Ideal))

theorem after_main_v0 : (StableHlo.after hostOps0 W (Proc.devRef .tc main_v0) : Vec Ideal S2x1024x3072 .bf16) = (truncf .bf16 (W (Proc.devRef .tc main_arg6) : FVec Ideal S2x1024x3072 .f32) bitsLt_bf16_f32 : FVec Ideal S2x1024x3072 .bf16) := by
  dsimp only [hostOps0]; after_results_simp <;> rfl

/-- The columns from `o` on of a projection, by heads. -/
abbrev heads (y : Vec Ideal S16x256x3072 .f32) : Vec Ideal S16x256x4x64 .f32 :=
  shapeCast S16x256x4x64 (extractStridedSlice S16x256x256 ![0, 0, 256] y slices_S16x256x3072_S16x256x256_0_0_256) shapeCasts_S16x256x256_S16x256x4x64
abbrev heads' (y : Vec Ideal S16x256x3072 .f32) : Vec Ideal S16x256x4x64 .f32 :=
  shapeCast S16x256x4x64 (extractStridedSlice S16x256x256 ![0, 0, 512] y slices_S16x256x3072_S16x256x256_0_0_512) shapeCasts_S16x256x256_S16x256x4x64
/-- Two layers' arrays one after another. -/
abbrev stacked (y z : Vec Ideal S16x256x4x64 .f32) : Vec Ideal S16x2x256x4x64 .f32 :=
  concatenate S16x2x256x4x64 1 [⟨S16x1x256x4x64, broadcastInDim S16x1x256x4x64 ![0, 2, 3, 4] bcast_S16x256x4x64_S16x1x256x4x64_0_2_3_4 y⟩,
    ⟨S16x1x256x4x64, broadcastInDim S16x1x256x4x64 ![0, 2, 3, 4] bcast_S16x256x4x64_S16x1x256x4x64_0_2_3_4 z⟩] concatenates_S16x1x256x4x64_S16x1x256x4x64_S16x2x256x4x64_d1

theorem after_main_v3 : (StableHlo.after hostOps1 W (Proc.devRef .tc main_v3) : Vec Ideal S16x256x4x64 .f32) = heads (W (Proc.devRef .tc main_v1) : Vec Ideal S16x256x3072 .f32) := by
  dsimp only [hostOps1]; after_results_simp <;> rfl
theorem after_main_v5 : (StableHlo.after hostOps1 W (Proc.devRef .tc main_v5) : Vec Ideal S16x256x4x64 .f32) = heads' (W (Proc.devRef .tc main_v1) : Vec Ideal S16x256x3072 .f32) := by
  dsimp only [hostOps1]; after_results_simp <;> rfl
theorem after_main_v13 : (StableHlo.after hostOps2 W (Proc.devRef .tc main_v13) : Vec Ideal S16x2x256x4x64 .f32)
    = stacked (W (Proc.devRef .tc main_v3) : Vec Ideal S16x256x4x64 .f32) (heads (W (Proc.devRef .tc main_v6) : Vec Ideal S16x256x3072 .f32)) := by
  dsimp only [hostOps2]; after_results_simp <;> rfl
theorem after_main_v16 : (StableHlo.after hostOps2 W (Proc.devRef .tc main_v16) : Vec Ideal S16x2x256x4x64 .f32)
    = stacked (W (Proc.devRef .tc main_v5) : Vec Ideal S16x256x4x64 .f32) (heads' (W (Proc.devRef .tc main_v6) : Vec Ideal S16x256x3072 .f32)) := by
  dsimp only [hostOps2]; after_results_simp <;> rfl

/-! ## What each region leaves -/

theorem V1_arg (r : Ref sig .tc) (h : r ∈ argRefs) : V1 m ρ c r = m ((c : Thread nD τ).loc r) := W1_args m ρ c r h
theorem V3_arg (r : Ref sig .tc) (h : r ∈ argRefs) : V3 m ρ c r = m ((c : Thread nD τ).loc r) := W3_args m ρ c r h

theorem weight_at (j : Fin 3072) (l : Fin 2) : (fun k => (V1 m ρ c main_v0 : Vec Ideal S2x1024x3072 .bf16) (ix3 l k j)) = fun k => a6 m c (ix3 l k j) :=
  funext fun k => congrFun (after_main_v0 (W0 m ρ c)) (ix3 l k j)

/-- The first call leaves the reference's first projection, -/
theorem proj0_eq : W2 m ρ c (Proc.devRef .tc main_v1) = val_main_v26 (F := Ideal) (a0 m c) (a2 m c) (a3 m c) (a6 m c) := by
  refine (W2_arr m ρ c 4).trans ?_
  refine arr0 (V1 m ρ) c _ fun n r j => ?_
  rw [weight_at, V1_arg m ρ c main_arg0 (by decide), V1_arg m ρ c main_arg2 (by decide), V1_arg m ρ c main_arg3 (by decide)]
  exact Cert.ProjRefIdeal.Rows.v26_at (a0 m c) (a2 m c) (a3 m c) (a6 m c) n r j

theorem weight_kept : V3 m ρ c main_v0 = V1 m ρ c main_v0 := (W3_of m ρ c main_v0 (by decide)).trans (W2_of m ρ c main_v0 (by decide))

/-- the second its second. -/
theorem proj1_eq : W4 m ρ c (Proc.devRef .tc main_v6) = val_main_v67 (F := Ideal) (a1 m c) (a4 m c) (a5 m c) (a6 m c) := by
  refine (W4_arr m ρ c 4).trans ?_
  refine arr1 (V3 m ρ) c _ fun n r j => ?_
  rw [weight_kept, weight_at, V3_arg m ρ c main_arg1 (by decide), V3_arg m ρ c main_arg4 (by decide), V3_arg m ρ c main_arg5 (by decide)]
  exact Cert.ProjRefIdeal.Rows.v67_at (a1 m c) (a4 m c) (a5 m c) (a6 m c) n r j

/-! ## The results -/

theorem result0_eq : W5 m ρ c (Proc.devRef .tc main_v6) = val_main_v67 (F := Ideal) (a1 m c) (a4 m c) (a5 m c) (a6 m c) :=
  (W5_of m ρ c main_v6 (by decide)).trans (proj1_eq m ρ c)

theorem keys0_eq : W4 m ρ c (Proc.devRef .tc main_v3) = heads (val_main_v26 (F := Ideal) (a0 m c) (a2 m c) (a3 m c) (a6 m c)) := by
  refine (W4_of m ρ c main_v3 (by decide)).trans ((after_main_v3 (W2 m ρ c)).trans ?_)
  rw [proj0_eq]
theorem vals0_eq : W4 m ρ c (Proc.devRef .tc main_v5) = heads' (val_main_v26 (F := Ideal) (a0 m c) (a2 m c) (a3 m c) (a6 m c)) := by
  refine (W4_of m ρ c main_v5 (by decide)).trans ((after_main_v5 (W2 m ρ c)).trans ?_)
  rw [proj0_eq]

/-- The keys of both layers, -/
theorem result1_eq : W5 m ρ c (Proc.devRef .tc main_v13) = val_main_v84 (F := Ideal) (a0 m c) (a1 m c) (a2 m c) (a3 m c) (a4 m c) (a5 m c) (a6 m c) := by
  refine (after_main_v13 (W4 m ρ c)).trans ?_
  rw [keys0_eq, proj1_eq]; rfl

/-- and the values. -/
theorem result2_eq : W5 m ρ c (Proc.devRef .tc main_v16) = val_main_v87 (F := Ideal) (a0 m c) (a1 m c) (a2 m c) (a3 m c) (a4 m c) (a5 m c) (a6 m c) := by
  refine (after_main_v16 (W4 m ρ c)).trans ?_
  rw [vals0_eq, proj1_eq]; rfl

end Cert.ProjIdeal.Rows
-- ==== Proof.ProjClaims.lean ====
/- The claims about the two input projections, assembled. -/
module

public import proofs.«01_k».proof.Defs
public import proofs.«01_k».proof.Proof.Gen.Proj.Frame
public import proofs.«01_k».proof.Proof.Gen.ProjRefIdeal.Run
public import proofs.«01_k».proof.Proof.ProjRun
public import proofs.«01_k».proof.Proof.ProjVal
public import Idealize.ShloMosaic.Lib.Quiescent
public import Idealize.ShloMosaic.Lib.Claim

@[expose] public section

set_option maxRecDepth 16384

noncomputable section

namespace Cert.Proj.Claims

open Idealize.ShloMosaic Idealize.SL.Sem Idealize.ShloMosaic.TcCoe

theorem frame_kernel : Cert.quiescent_Proj := fun m ρ _ => Cert.Proj.Gen.frame m ρ

theorem frame_ideal : Cert.quiescent_ProjIdeal := fun m ρ _ => Cert.ProjIdeal.Gen.frame m ρ

theorem frame_ref : Cert.quiescent_ProjRefIdeal := fun m ρ _ =>
  (θ_run Cert.ProjRefIdeal.defs _ _).mono (fun r h => ⟨fun c => (h c).2.2.2, sem_eq_zero_of_no_sems (by decide) r.2⟩) (Cert.ProjRefIdeal.Value.run m ρ)

theorem preserves : Cert.preserves_Proj_ProjIdeal := trivial

theorem algebraic : Cert.algebraic_ProjIdeal_ProjRefIdeal := by
  intro m g m' g' _ hargs
  refine ⟨fun c => Cert.ProjIdeal.Gen.W5 m g c (Proc.devRef .tc Cert.ProjIdeal.main_v6), fun c => Cert.ProjIdeal.Gen.W5 m g c (Proc.devRef .tc Cert.ProjIdeal.main_v13),
    fun c => Cert.ProjIdeal.Gen.W5 m g c (Proc.devRef .tc Cert.ProjIdeal.main_v16), ?_, ?_⟩
  · exact (θ_run Cert.ProjIdeal.defs _ _).mono (fun _ h c => ⟨(h.1 c).1, (h.1 c).2.1, (h.1 c).2.2, h.2.1 c⟩)
      (θ_run_and (Cert.ProjIdeal.Rows.run_result m g) (Cert.ProjIdeal.Gen.frame m g))
  · refine (θ_run Cert.ProjRefIdeal.defs _ _).mono (fun _ h c => ⟨(h c).1.trans ?_, (h c).2.1.trans ?_, (h c).2.2.1.trans ?_, (h c).2.2.2⟩) (Cert.ProjRefIdeal.Value.run m' g')
    all_goals
      obtain ⟨e0, e1, e2, e3, e4, e5, e6⟩ := hargs c
      have f0 : StableHlo.launchContents m' c (Proc.devRef .tc Cert.ProjRefIdeal.main_arg0) = Cert.ProjIdeal.Rows.a0 m c := e0
      have f1 : StableHlo.launchContents m' c (Proc.devRef .tc Cert.ProjRefIdeal.main_arg1) = Cert.ProjIdeal.Rows.a1 m c := e1
      have f2 : StableHlo.launchContents m' c (Proc.devRef .tc Cert.ProjRefIdeal.main_arg2) = Cert.ProjIdeal.Rows.a2 m c := e2
      have f3 : StableHlo.launchContents m' c (Proc.devRef .tc Cert.ProjRefIdeal.main_arg3) = Cert.ProjIdeal.Rows.a3 m c := e3
      have f4 : StableHlo.launchContents m' c (Proc.devRef .tc Cert.ProjRefIdeal.main_arg4) = Cert.ProjIdeal.Rows.a4 m c := e4
      have f5 : StableHlo.launchContents m' c (Proc.devRef .tc Cert.ProjRefIdeal.main_arg5) = Cert.ProjIdeal.Rows.a5 m c := e5
      have f6 : StableHlo.launchContents m' c (Proc.devRef .tc Cert.ProjRefIdeal.main_arg6) = Cert.ProjIdeal.Rows.a6 m c := e6
    · rw [Cert.ProjRefIdeal.Read.val_main_v67_eq, e1, e4, e5, e6]
      exact (Cert.ProjIdeal.Rows.result0_eq m g c).symm
    · rw [Cert.ProjRefIdeal.Read.val_main_v84_eq, e0, e1, e2, e3, e4, e5, e6]
      exact (Cert.ProjIdeal.Rows.result1_eq m g c).symm
    · rw [Cert.ProjRefIdeal.Read.val_main_v87_eq, e0, e1, e2, e3, e4, e5, e6]
      exact (Cert.ProjIdeal.Rows.result2_eq m g c).symm

end Cert.Proj.Claims
-- ==== Proof.PromptRun.lean ====
/- The run of the layer's last three calls on the prompt batch, with what its result array ends holding. -/
module

public import proofs.«01_k».proof.Proof.Gen.PromptIdeal.Frame

@[expose] public section

set_option maxRecDepth 16384

noncomputable section

namespace Cert.PromptIdeal.Rows

open Cert.PromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run ends with the result array at what the last region leaves: the launch is the frame's, over the same segments. -/
theorem run_result : θ_run defs (onTc (τ := τ) (main (F := F))) ⟨m, fun _ => 0, ρ⟩ (fun r => ∀ c : Dev nD,
      r.2.mem ((c.tc : Thread nD τ).loc main_v25) = W6 m ρ c (Proc.devRef .tc main_v25)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => fun c => h c _ (mem_uc main_v25 (by decide)))

end Cert.PromptIdeal.Rows
-- ==== Proof.PromptPay.lean ====
/- What each of the layer's last three kernels on the prompt batch stores, at an index. -/
module

public import proofs.«01_k».proof.Proof.Gen.PromptIdeal.Frame
public import proofs.«01_k».proof.Proof.LayerRows
public import Idealize.ShloMosaic.PureOps.Ideal
public import Idealize.ShloMosaic.Lib.Pointwise
public import Idealize.ShloMosaic.Lib.ValueIdx
public import Idealize.ShloMosaic.Lib.Pipeline.ValueKit.Basic

@[expose] public section

set_option maxRecDepth 16384

noncomputable section

namespace Cert.PromptIdeal.Rows

open Cert.PromptIdeal.Gen Cert.Layer
open Idealize.ShloMosaic Idealize.ShloMosaic.TcCoe Idealize.ShloMosaic.Tactic

/-- The row a block of one batch holds. -/
abbrev row {n : ℕ} (x : (⟨3, ![4, 256, n]⟩ : Shape).Idx → EReal) (b : Fin 4) (r : Fin 256) : Fin n → EReal := fun k => x (ix3 b r k)

/-- The mixers' outputs side by side, at an index. -/
theorem cat_at (x1 x2 x3 x4 : FVec Ideal S1024x256 .bf16) (r k : Fin 1024) :
    concatenate S1024x1024 1 [⟨S1024x256, x1⟩, ⟨S1024x256, x2⟩, ⟨S1024x256, x3⟩, ⟨S1024x256, x4⟩]
      concatenates_S1024x256_S1024x256_S1024x256_S1024x256_S1024x1024_d1 (ix2 r k)
      = cat (fun x => x1 (ix2 r x)) (fun x => x2 (ix2 r x)) (fun x => x3 (ix2 r x)) (fun x => x4 (ix2 r x)) k := by
  unfold cat
  pointwise

/-- The first kernel's centred residual. -/
theorem centre_at (v0 v2 v4 v6 : Vec Ideal S4x256x256 .bf16) (v9 : Vec Ideal S1x1024x1024 .bf16) (v12 : Vec Ideal S4x256x1024 .f32) (v16 : Vec Ideal S1x1x1024 .f32) (n : Fin 4) (r : Fin 256) (d : Fin 1024) :
    k0_pay2 v0 v2 v4 v6 v9 v12 v16 (ix2 (⟨n.val * 256 + r.val, by omega⟩ : Fin 1024) d)
      = centre (resid (row v12 n r) (fun d => v16 (ix3 0 0 d)) (cat (row v0 n r) (row v2 n r) (row v4 n r) (row v6 n r)) (fun k d => v9 (ix3 0 k d))) d := by
  have hc := fun k => cat_at (shapeCast S1024x256 v0 shapeCasts_S4x256x256_S1024x256) (shapeCast S1024x256 v2 shapeCasts_S4x256x256_S1024x256)
    (shapeCast S1024x256 v4 shapeCasts_S4x256x256_S1024x256) (shapeCast S1024x256 v6 shapeCasts_S4x256x256_S1024x256) (⟨n.val * 256 + r.val, by omega⟩ : Fin 1024) k
  unfold k0_pay2; dsimp only
  revert hc
  generalize concatenate S1024x1024 1 _ _ = y
  intro hc
  pointwise
  simp only [hc]
  unfold centre resid
  pointwise

/-- The first kernel's store. -/
theorem pay0_at (v0 v2 v4 v6 : Vec Ideal S4x256x256 .bf16) (v9 : Vec Ideal S1x1024x1024 .bf16) (v12 : Vec Ideal S4x256x1024 .f32) (v16 : Vec Ideal S1x1x1024 .f32)
    (v37 v41 : Vec Ideal S1x1024 .f32) (n : Fin 4) (r : Fin 256) (d : Fin 1024) :
    k0_pay1 (k0_pay2 v0 v2 v4 v6 v9 v12 v16) (k0_pay3 v0 v2 v4 v6 v9 v12 v16) k0_pay4 v37 v41 (ix3 n r d)
      = residNorm (row v12 n r) (fun d => v16 (ix3 0 0 d)) (cat (row v0 n r) (row v2 n r) (row v4 n r) (row v6 n r)) (fun k d => v9 (ix3 0 k d))
          (fun d => v37 (ix2 0 d)) (fun d => v41 (ix2 0 d)) d := by
  have hc := centre_at v0 v2 v4 v6 v9 v12 v16 n r
  unfold k0_pay1 k0_pay3 k0_pay4
  generalize k0_pay2 v0 v2 v4 v6 v9 v12 v16 = y at hc ⊢
  pointwise
  simp only [hc]
  rfl

/-- The second kernel's modulated layer norm, -/
theorem mod_at (v0 : Vec Ideal S4x256x1024 .f32) (v19 v25 : Vec Ideal S1x1x1024 .f32) (n : Fin 4) (r : Fin 256) (d : Fin 1024) :
    k1_pay2 v0 v19 v25 (ix2 (⟨n.val * 256 + r.val, by omega⟩ : Fin 1024) d) = modNorm (row v0 n r) (fun d => v19 (ix3 0 0 d)) (fun d => v25 (ix3 0 0 d)) d := by
  unfold k1_pay2; pointwise
  rfl

/-- and its store. -/
theorem pay1_at (v0 : Vec Ideal S4x256x1024 .f32) (v19 v25 : Vec Ideal S1x1x1024 .f32) (v30 v33 : Vec Ideal S1x1024x1408 .bf16) (n : Fin 4) (r : Fin 256) (d : Fin 1408) :
    k1_pay1 (k1_pay2 v0 v19 v25) (k1_pay3 v0 v19 v25 v30) (k1_pay4 v33) (ix3 n r d)
      = gated (modNorm (row v0 n r) (fun d => v19 (ix3 0 0 d)) (fun d => v25 (ix3 0 0 d))) (fun k => v30 (ix3 0 k d)) (fun k => v33 (ix3 0 k d)) := by
  have hc := mod_at v0 v19 v25 n r
  unfold k1_pay1 k1_pay3 k1_pay4
  generalize k1_pay2 v0 v19 v25 = y at hc ⊢
  pointwise
  simp only [hc]
  rfl

/-- The third kernel's store. -/
theorem pay2_at (v0 : Vec Ideal S4x256x2816 .bf16) (v3 : Vec Ideal S1x2816x1024 .bf16) (v6 : Vec Ideal S4x256x1024 .f32) (v11 : Vec Ideal S1x1x1024 .f32)
    (v32 v36 : Vec Ideal S1x1024 .f32) (n : Fin 4) (r : Fin 256) (d : Fin 1024) :
    k2_pay1 (k2_pay2 v0 v3 v6 v11 v32) v36 (ix3 n r d)
      = residNorm (row v6 n r) (fun d => v11 (ix3 0 0 d)) (row v0 n r) (fun k d => v3 (ix3 0 k d)) (fun d => v32 (ix2 0 d)) (fun d => v36 (ix2 0 d)) d := by
  unfold k2_pay1 k2_pay2; pointwise
  rfl

end Cert.PromptIdeal.Rows
-- ==== Proof.PromptWin.lean ====
/- What each window of the layer's last three kernels on the prompt batch reads of its array. -/
module

public import proofs.«01_k».proof.Proof.PromptPay
public import Idealize.ShloMosaic.Lib.Pipeline.Value

@[expose] public section

set_option maxRecDepth 16384

noncomputable section

namespace Cert.PromptIdeal.Rows

open Cert.PromptIdeal.Gen
open Idealize.ShloMosaic Idealize.ShloMosaic.TcCoe Idealize.ShloMosaic.Tactic
open Idealize.ShloMosaic.Pipeline (Dat Cfg Window)

variable (V : (c : Dev nD) → (b : Ref sig .tc) → Buf (Elt Ideal) ((c : Thread nD τ).loc b)) (c : Dev nD)

theorem word0_0 (t : Fin grid0.N) : (BitVec.ofNat 32 (grid0.coords t 0).val).toNat = t.val := by
  have ht : t.val < 4 := Nat.lt_of_lt_of_eq t.isLt N_0
  have e : (grid0.coords t 0).val = t.val / 1 % 4 := Pipeline.Grid.coords_val t 0 (by decide) rfl
  rw [e, BitVec.toNat_ofNat]; omega

theorem word0_1 (t : Fin grid0.N) : (BitVec.ofNat 32 (grid0.coords t 1).val).toNat = 0 := by
  have ht : t.val < 4 := Nat.lt_of_lt_of_eq t.isLt N_0
  have e : (grid0.coords t 1).val = t.val / 1 % 1 := Pipeline.Grid.coords_val t 1 (by decide) rfl
  rw [e, BitVec.toNat_ofNat]; omega

theorem word2_0 (t : Fin grid2.N) : (BitVec.ofNat 32 (grid2.coords t 0).val).toNat = t.val := by
  have ht : t.val < 4 := Nat.lt_of_lt_of_eq t.isLt N_2
  have e : (grid2.coords t 0).val = t.val / 1 % 4 := Pipeline.Grid.coords_val t 0 (by decide) rfl
  rw [e, BitVec.toNat_ofNat]; omega

theorem word2_1 (t : Fin grid2.N) : (BitVec.ofNat 32 (grid2.coords t 1).val).toNat = 0 := by
  have ht : t.val < 4 := Nat.lt_of_lt_of_eq t.isLt N_2
  have e : (grid2.coords t 1).val = t.val / 1 % 1 := Pipeline.Grid.coords_val t 1 (by decide) rfl
  rw [e, BitVec.toNat_ofNat]; omega

theorem word1_0 (t : Fin grid1.N) : (BitVec.ofNat 32 (grid1.coords t 0).val).toNat = t.val / 4 := by
  have ht : t.val < 8 := Nat.lt_of_lt_of_eq t.isLt N_1
  have e : (grid1.coords t 0).val = t.val / 4 % 2 := Pipeline.Grid.coords_val t 0 (by decide) rfl
  rw [e, BitVec.toNat_ofNat]; omega

theorem word1_1 (t : Fin grid1.N) : (BitVec.ofNat 32 (grid1.coords t 1).val).toNat = t.val % 4 := by
  have ht : t.val < 8 := Nat.lt_of_lt_of_eq t.isLt N_1
  have e : (grid1.coords t 1).val = t.val / 1 % 4 := Pipeline.Grid.coords_val t 1 (by decide) rfl
  rw [e, BitVec.toNat_ofNat]; omega

theorem word1_2 (t : Fin grid1.N) : (BitVec.ofNat 32 (grid1.coords t 2).val).toNat = 0 := by
  have ht : t.val < 8 := Nat.lt_of_lt_of_eq t.isLt N_1
  have e : (grid1.coords t 2).val = t.val / 1 % 1 := Pipeline.Grid.coords_val t 2 (by decide) rfl
  rw [e, BitVec.toNat_ofNat]; omega

theorem word1_up (t : Fin grid1.N) : (Scalar.addi (BitVec.ofNat 32 (grid1.coords t 0).val) 2#32).toNat = t.val / 4 + 2 := by
  have ht : t.val < 8 := Nat.lt_of_lt_of_eq t.isLt N_1
  have e := word1_0 t
  show (BitVec.ofNat 32 (grid1.coords t 0).val + 2#32).toNat = _
  rw [BitVec.toNat_add, e, BitVec.toNat_ofNat]; omega

theorem blk0_0 (t : Fin cfg0.N) (a : Fin 4) (r : Fin 256) (d : Fin 256) (n : Fin 16) (q : Fin 256) (g : Fin 256)
    (h0 : n.val = 4 * t.val + a.val) (h1 : q.val = 256 * 0 + r.val) (h2 : g.val = 256 * 0 + d.val) :
    (iblk0 V c 0 t : Vec Ideal S4x256x256 .bf16) (ix3 a r d) = (V c main_arg1 : Vec Ideal S16x256x256 .bf16) (ix3 n q g) := by
  have e : (iblk0 V c 0 t : Vec Ideal S4x256x256 .bf16) (ix3 a r d) = (V c main_arg1 : Vec Ideal S16x256x256 .bf16) ((win0_0.rect t).emb (ix3 a r d)) := rfl
  rw [e]
  congr 1; funext x; apply Fin.ext; rw [win0_0.rect_emb_val t (ix3 a r d) x]
  fin_cases x
  · show (BitVec.ofNat 32 (grid0.coords t 0).val).toNat * 4 + a.val = n.val; rw [word0_0]; omega
  · show (BitVec.ofNat 32 (grid0.coords t 1).val).toNat * 256 + r.val = q.val; rw [word0_1]; omega
  · show 0 * 256 + d.val = g.val; omega

theorem blk0_1 (t : Fin cfg0.N) (a : Fin 4) (r : Fin 256) (d : Fin 256) (n : Fin 16) (q : Fin 256) (g : Fin 256)
    (h0 : n.val = 4 * t.val + a.val) (h1 : q.val = 256 * 0 + r.val) (h2 : g.val = 256 * 0 + d.val) :
    (iblk0 V c 1 t : Vec Ideal S4x256x256 .bf16) (ix3 a r d) = (V c main_arg2 : Vec Ideal S16x256x256 .bf16) (ix3 n q g) := by
  have e : (iblk0 V c 1 t : Vec Ideal S4x256x256 .bf16) (ix3 a r d) = (V c main_arg2 : Vec Ideal S16x256x256 .bf16) ((win0_1.rect t).emb (ix3 a r d)) := rfl
  rw [e]
  congr 1; funext x; apply Fin.ext; rw [win0_1.rect_emb_val t (ix3 a r d) x]
  fin_cases x
  · show (BitVec.ofNat 32 (grid0.coords t 0).val).toNat * 4 + a.val = n.val; rw [word0_0]; omega
  · show (BitVec.ofNat 32 (grid0.coords t 1).val).toNat * 256 + r.val = q.val; rw [word0_1]; omega
  · show 0 * 256 + d.val = g.val; omega

theorem blk0_2 (t : Fin cfg0.N) (a : Fin 4) (r : Fin 256) (d : Fin 256) (n : Fin 16) (q : Fin 256) (g : Fin 256)
    (h0 : n.val = 4 * t.val + a.val) (h1 : q.val = 256 * 0 + r.val) (h2 : g.val = 256 * 0 + d.val) :
    (iblk0 V c 2 t : Vec Ideal S4x256x256 .bf16) (ix3 a r d) = (V c main_arg3 : Vec Ideal S16x256x256 .bf16) (ix3 n q g) := by
  have e : (iblk0 V c 2 t : Vec Ideal S4x256x256 .bf16) (ix3 a r d) = (V c main_arg3 : Vec Ideal S16x256x256 .bf16) ((win0_2.rect t).emb (ix3 a r d)) := rfl
  rw [e]
  congr 1; funext x; apply Fin.ext; rw [win0_2.rect_emb_val t (ix3 a r d) x]
  fin_cases x
  · show (BitVec.ofNat 32 (grid0.coords t 0).val).toNat * 4 + a.val = n.val; rw [word0_0]; omega
  · show (BitVec.ofNat 32 (grid0.coords t 1).val).toNat * 256 + r.val = q.val; rw [word0_1]; omega
  · show 0 * 256 + d.val = g.val; omega

theorem blk0_3 (t : Fin cfg0.N) (a : Fin 4) (r : Fin 256) (d : Fin 256) (n : Fin 16) (q : Fin 256) (g : Fin 256)
    (h0 : n.val = 4 * t.val + a.val) (h1 : q.val = 256 * 0 + r.val) (h2 : g.val = 256 * 0 + d.val) :
    (iblk0 V c 3 t : Vec Ideal S4x256x256 .bf16) (ix3 a r d) = (V c main_arg4 : Vec Ideal S16x256x256 .bf16) (ix3 n q g) := by
  have e : (iblk0 V c 3 t : Vec Ideal S4x256x256 .bf16) (ix3 a r d) = (V c main_arg4 : Vec Ideal S16x256x256 .bf16) ((win0_3.rect t).emb (ix3 a r d)) := rfl
  rw [e]
  congr 1; funext x; apply Fin.ext; rw [win0_3.rect_emb_val t (ix3 a r d) x]
  fin_cases x
  · show (BitVec.ofNat 32 (grid0.coords t 0).val).toNat * 4 + a.val = n.val; rw [word0_0]; omega
  · show (BitVec.ofNat 32 (grid0.coords t 1).val).toNat * 256 + r.val = q.val; rw [word0_1]; omega
  · show 0 * 256 + d.val = g.val; omega

theorem blk0_4 (t : Fin cfg0.N) (a : Fin 1) (r : Fin 1024) (d : Fin 1024) (n : Fin 2) (q : Fin 1024) (g : Fin 1024)
    (h0 : n.val = 1 * 1 + a.val) (h1 : q.val = 1024 * 0 + r.val) (h2 : g.val = 1024 * 0 + d.val) :
    (iblk0 V c 4 t : Vec Ideal S1x1024x1024 .bf16) (ix3 a r d) = (V c main_v0 : Vec Ideal S2x1024x1024 .bf16) (ix3 n q g) := by
  have e : (iblk0 V c 4 t : Vec Ideal S1x1024x1024 .bf16) (ix3 a r d) = (V c main_v0 : Vec Ideal S2x1024x1024 .bf16) ((win0_4.rect t).emb (ix3 a r d)) := rfl
  rw [e]
  congr 1; funext x; apply Fin.ext; rw [win0_4.rect_emb_val t (ix3 a r d) x]
  fin_cases x
  · show 1 * 1 + a.val = n.val; omega
  · show 0 * 1024 + r.val = q.val; omega
  · show 0 * 1024 + d.val = g.val; omega

theorem blk0_5 (t : Fin cfg0.N) (a : Fin 4) (r : Fin 256) (d : Fin 1024) (n : Fin 16) (q : Fin 256) (g : Fin 1024)
    (h0 : n.val = 4 * t.val + a.val) (h1 : q.val = 256 * 0 + r.val) (h2 : g.val = 1024 * 0 + d.val) :
    (iblk0 V c 5 t : Vec Ideal S4x256x1024 .f32) (ix3 a r d) = (V c main_arg0 : Vec Ideal S16x256x1024 .f32) (ix3 n q g) := by
  have e : (iblk0 V c 5 t : Vec Ideal S4x256x1024 .f32) (ix3 a r d) = (V c main_arg0 : Vec Ideal S16x256x1024 .f32) ((win0_5.rect t).emb (ix3 a r d)) := rfl
  rw [e]
  congr 1; funext x; apply Fin.ext; rw [win0_5.rect_emb_val t (ix3 a r d) x]
  fin_cases x
  · show (BitVec.ofNat 32 (grid0.coords t 0).val).toNat * 4 + a.val = n.val; rw [word0_0]; omega
  · show (BitVec.ofNat 32 (grid0.coords t 1).val).toNat * 256 + r.val = q.val; rw [word0_1]; omega
  · show 0 * 1024 + d.val = g.val; omega

theorem blk0_6 (t : Fin cfg0.N) (a : Fin 1) (r : Fin 1) (d : Fin 1024) (n : Fin 1) (q : Fin 1) (g : Fin 1024)
    (h0 : n.val = 1 * 0 + a.val) (h1 : q.val = 1 * 0 + r.val) (h2 : g.val = 1024 * 0 + d.val) :
    (iblk0 V c 6 t : Vec Ideal S1x1x1024 .f32) (ix3 a r d) = (V c main_arg5 : Vec Ideal S1x1x1024 .f32) (ix3 n q g) := by
  have e : (iblk0 V c 6 t : Vec Ideal S1x1x1024 .f32) (ix3 a r d) = (V c main_arg5 : Vec Ideal S1x1x1024 .f32) ((win0_6.rect t).emb (ix3 a r d)) := rfl
  rw [e]
  congr 1; funext x; apply Fin.ext; rw [win0_6.rect_emb_val t (ix3 a r d) x]
  fin_cases x
  · show 0 * 1 + a.val = n.val; omega
  · show 0 * 1 + r.val = q.val; omega
  · show 0 * 1024 + d.val = g.val; omega

theorem blk0_7 (t : Fin cfg0.N) (a : Fin 1) (d : Fin 1024) (n : Fin 1) (g : Fin 1024)
    (h0 : n.val = 1 * 0 + a.val) (h1 : g.val = 1024 * 0 + d.val) :
    (iblk0 V c 7 t : Vec Ideal S1x1024 .f32) (ix2 a d) = (V c main_v9 : Vec Ideal S1x1024 .f32) (ix2 n g) := by
  have e : (iblk0 V c 7 t : Vec Ideal S1x1024 .f32) (ix2 a d) = (V c main_v9 : Vec Ideal S1x1024 .f32) ((win0_7.rect t).emb (ix2 a d)) := rfl
  rw [e]
  congr 1; funext x; apply Fin.ext; rw [win0_7.rect_emb_val t (ix2 a d) x]
  fin_cases x
  · show 0 * 1 + a.val = n.val; omega
  · show 0 * 1024 + d.val = g.val; omega

theorem blk0_8 (t : Fin cfg0.N) (a : Fin 1) (d : Fin 1024) (n : Fin 1) (g : Fin 1024)
    (h0 : n.val = 1 * 0 + a.val) (h1 : g.val = 1024 * 0 + d.val) :
    (iblk0 V c 8 t : Vec Ideal S1x1024 .f32) (ix2 a d) = (V c main_v10 : Vec Ideal S1x1024 .f32) (ix2 n g) := by
  have e : (iblk0 V c 8 t : Vec Ideal S1x1024 .f32) (ix2 a d) = (V c main_v10 : Vec Ideal S1x1024 .f32) ((win0_8.rect t).emb (ix2 a d)) := rfl
  rw [e]
  congr 1; funext x; apply Fin.ext; rw [win0_8.rect_emb_val t (ix2 a d) x]
  fin_cases x
  · show 0 * 1 + a.val = n.val; omega
  · show 0 * 1024 + d.val = g.val; omega

theorem blk1_0 (t : Fin cfg1.N) (a : Fin 4) (r : Fin 256) (d : Fin 1024) (n : Fin 16) (q : Fin 256) (g : Fin 1024)
    (h0 : n.val = 4 * (t.val % 4) + a.val) (h1 : q.val = 256 * 0 + r.val) (h2 : g.val = 1024 * 0 + d.val) :
    (iblk1 V c 0 t : Vec Ideal S4x256x1024 .f32) (ix3 a r d) = (V c main_v11 : Vec Ideal S16x256x1024 .f32) (ix3 n q g) := by
  have e : (iblk1 V c 0 t : Vec Ideal S4x256x1024 .f32) (ix3 a r d) = (V c main_v11 : Vec Ideal S16x256x1024 .f32) ((win1_0.rect t).emb (ix3 a r d)) := rfl
  rw [e]
  congr 1; funext x; apply Fin.ext; rw [win1_0.rect_emb_val t (ix3 a r d) x]
  fin_cases x
  · show (BitVec.ofNat 32 (grid1.coords t 1).val).toNat * 4 + a.val = n.val; rw [word1_1]; omega
  · show (BitVec.ofNat 32 (grid1.coords t 2).val).toNat * 256 + r.val = q.val; rw [word1_2]; omega
  · show 0 * 1024 + d.val = g.val; omega

theorem blk1_1 (t : Fin cfg1.N) (a : Fin 1) (r : Fin 1) (d : Fin 1024) (n : Fin 1) (q : Fin 1) (g : Fin 1024)
    (h0 : n.val = 1 * 0 + a.val) (h1 : q.val = 1 * 0 + r.val) (h2 : g.val = 1024 * 0 + d.val) :
    (iblk1 V c 1 t : Vec Ideal S1x1x1024 .f32) (ix3 a r d) = (V c main_arg7 : Vec Ideal S1x1x1024 .f32) (ix3 n q g) := by
  have e : (iblk1 V c 1 t : Vec Ideal S1x1x1024 .f32) (ix3 a r d) = (V c main_arg7 : Vec Ideal S1x1x1024 .f32) ((win1_1.rect t).emb (ix3 a r d)) := rfl
  rw [e]
  congr 1; funext x; apply Fin.ext; rw [win1_1.rect_emb_val t (ix3 a r d) x]
  fin_cases x
  · show 0 * 1 + a.val = n.val; omega
  · show 0 * 1 + r.val = q.val; omega
  · show 0 * 1024 + d.val = g.val; omega

theorem blk1_2 (t : Fin cfg1.N) (a : Fin 1) (r : Fin 1) (d : Fin 1024) (n : Fin 1) (q : Fin 1) (g : Fin 1024)
    (h0 : n.val = 1 * 0 + a.val) (h1 : q.val = 1 * 0 + r.val) (h2 : g.val = 1024 * 0 + d.val) :
    (iblk1 V c 2 t : Vec Ideal S1x1x1024 .f32) (ix3 a r d) = (V c main_arg6 : Vec Ideal S1x1x1024 .f32) (ix3 n q g) := by
  have e : (iblk1 V c 2 t : Vec Ideal S1x1x1024 .f32) (ix3 a r d) = (V c main_arg6 : Vec Ideal S1x1x1024 .f32) ((win1_2.rect t).emb (ix3 a r d)) := rfl
  rw [e]
  congr 1; funext x; apply Fin.ext; rw [win1_2.rect_emb_val t (ix3 a r d) x]
  fin_cases x
  · show 0 * 1 + a.val = n.val; omega
  · show 0 * 1 + r.val = q.val; omega
  · show 0 * 1024 + d.val = g.val; omega

theorem blk1_3 (t : Fin cfg1.N) (a : Fin 1) (r : Fin 1024) (d : Fin 1408) (n : Fin 2) (q : Fin 1024) (g : Fin 5632)
    (h0 : n.val = 1 * 1 + a.val) (h1 : q.val = 1024 * 0 + r.val) (h2 : g.val = 1408 * (t.val / 4) + d.val) :
    (iblk1 V c 3 t : Vec Ideal S1x1024x1408 .bf16) (ix3 a r d) = (V c main_v12 : Vec Ideal S2x1024x5632 .bf16) (ix3 n q g) := by
  have e : (iblk1 V c 3 t : Vec Ideal S1x1024x1408 .bf16) (ix3 a r d) = (V c main_v12 : Vec Ideal S2x1024x5632 .bf16) ((win1_3.rect t).emb (ix3 a r d)) := rfl
  rw [e]
  congr 1; funext x; apply Fin.ext; rw [win1_3.rect_emb_val t (ix3 a r d) x]
  fin_cases x
  · show 1 * 1 + a.val = n.val; omega
  · show 0 * 1024 + r.val = q.val; omega
  · show (BitVec.ofNat 32 (grid1.coords t 0).val).toNat * 1408 + d.val = g.val; rw [word1_0]; omega

theorem blk1_4 (t : Fin cfg1.N) (a : Fin 1) (r : Fin 1024) (d : Fin 1408) (n : Fin 2) (q : Fin 1024) (g : Fin 5632)
    (h0 : n.val = 1 * 1 + a.val) (h1 : q.val = 1024 * 0 + r.val) (h2 : g.val = 1408 * (t.val / 4 + 2) + d.val) :
    (iblk1 V c 4 t : Vec Ideal S1x1024x1408 .bf16) (ix3 a r d) = (V c main_v12 : Vec Ideal S2x1024x5632 .bf16) (ix3 n q g) := by
  have e : (iblk1 V c 4 t : Vec Ideal S1x1024x1408 .bf16) (ix3 a r d) = (V c main_v12 : Vec Ideal S2x1024x5632 .bf16) ((win1_4.rect t).emb (ix3 a r d)) := rfl
  rw [e]
  congr 1; funext x; apply Fin.ext; rw [win1_4.rect_emb_val t (ix3 a r d) x]
  fin_cases x
  · show 1 * 1 + a.val = n.val; omega
  · show 0 * 1024 + r.val = q.val; omega
  · show (Scalar.addi (BitVec.ofNat 32 (grid1.coords t 0).val) 2#32).toNat * 1408 + d.val = g.val; rw [word1_up]; omega

theorem blk2_0 (t : Fin cfg2.N) (a : Fin 4) (r : Fin 256) (d : Fin 2816) (n : Fin 16) (q : Fin 256) (g : Fin 2816)
    (h0 : n.val = 4 * t.val + a.val) (h1 : q.val = 256 * 0 + r.val) (h2 : g.val = 2816 * 0 + d.val) :
    (iblk2 V c 0 t : Vec Ideal S4x256x2816 .bf16) (ix3 a r d) = (V c main_v13 : Vec Ideal S16x256x2816 .bf16) (ix3 n q g) := by
  have e : (iblk2 V c 0 t : Vec Ideal S4x256x2816 .bf16) (ix3 a r d) = (V c main_v13 : Vec Ideal S16x256x2816 .bf16) ((win2_0.rect t).emb (ix3 a r d)) := rfl
  rw [e]
  congr 1; funext x; apply Fin.ext; rw [win2_0.rect_emb_val t (ix3 a r d) x]
  fin_cases x
  · show (BitVec.ofNat 32 (grid2.coords t 0).val).toNat * 4 + a.val = n.val; rw [word2_0]; omega
  · show (BitVec.ofNat 32 (grid2.coords t 1).val).toNat * 256 + r.val = q.val; rw [word2_1]; omega
  · show 0 * 2816 + d.val = g.val; omega

theorem blk2_1 (t : Fin cfg2.N) (a : Fin 1) (r : Fin 2816) (d : Fin 1024) (n : Fin 2) (q : Fin 2816) (g : Fin 1024)
    (h0 : n.val = 1 * 1 + a.val) (h1 : q.val = 2816 * 0 + r.val) (h2 : g.val = 1024 * 0 + d.val) :
    (iblk2 V c 1 t : Vec Ideal S1x2816x1024 .bf16) (ix3 a r d) = (V c main_v14 : Vec Ideal S2x2816x1024 .bf16) (ix3 n q g) := by
  have e : (iblk2 V c 1 t : Vec Ideal S1x2816x1024 .bf16) (ix3 a r d) = (V c main_v14 : Vec Ideal S2x2816x1024 .bf16) ((win2_1.rect t).emb (ix3 a r d)) := rfl
  rw [e]
  congr 1; funext x; apply Fin.ext; rw [win2_1.rect_emb_val t (ix3 a r d) x]
  fin_cases x
  · show 1 * 1 + a.val = n.val; omega
  · show 0 * 2816 + r.val = q.val; omega
  · show 0 * 1024 + d.val = g.val; omega

theorem blk2_2 (t : Fin cfg2.N) (a : Fin 4) (r : Fin 256) (d : Fin 1024) (n : Fin 16) (q : Fin 256) (g : Fin 1024)
    (h0 : n.val = 4 * t.val + a.val) (h1 : q.val = 256 * 0 + r.val) (h2 : g.val = 1024 * 0 + d.val) :
    (iblk2 V c 2 t : Vec Ideal S4x256x1024 .f32) (ix3 a r d) = (V c main_v11 : Vec Ideal S16x256x1024 .f32) (ix3 n q g) := by
  have e : (iblk2 V c 2 t : Vec Ideal S4x256x1024 .f32) (ix3 a r d) = (V c main_v11 : Vec Ideal S16x256x1024 .f32) ((win2_2.rect t).emb (ix3 a r d)) := rfl
  rw [e]
  congr 1; funext x; apply Fin.ext; rw [win2_2.rect_emb_val t (ix3 a r d) x]
  fin_cases x
  · show (BitVec.ofNat 32 (grid2.coords t 0).val).toNat * 4 + a.val = n.val; rw [word2_0]; omega
  · show (BitVec.ofNat 32 (grid2.coords t 1).val).toNat * 256 + r.val = q.val; rw [word2_1]; omega
  · show 0 * 1024 + d.val = g.val; omega

theorem blk2_3 (t : Fin cfg2.N) (a : Fin 1) (r : Fin 1) (d : Fin 1024) (n : Fin 1) (q : Fin 1) (g : Fin 1024)
    (h0 : n.val = 1 * 0 + a.val) (h1 : q.val = 1 * 0 + r.val) (h2 : g.val = 1024 * 0 + d.val) :
    (iblk2 V c 3 t : Vec Ideal S1x1x1024 .f32) (ix3 a r d) = (V c main_arg8 : Vec Ideal S1x1x1024 .f32) (ix3 n q g) := by
  have e : (iblk2 V c 3 t : Vec Ideal S1x1x1024 .f32) (ix3 a r d) = (V c main_arg8 : Vec Ideal S1x1x1024 .f32) ((win2_3.rect t).emb (ix3 a r d)) := rfl
  rw [e]
  congr 1; funext x; apply Fin.ext; rw [win2_3.rect_emb_val t (ix3 a r d) x]
  fin_cases x
  · show 0 * 1 + a.val = n.val; omega
  · show 0 * 1 + r.val = q.val; omega
  · show 0 * 1024 + d.val = g.val; omega

theorem blk2_4 (t : Fin cfg2.N) (a : Fin 1) (d : Fin 1024) (n : Fin 1) (g : Fin 1024)
    (h0 : n.val = 1 * 0 + a.val) (h1 : g.val = 1024 * 0 + d.val) :
    (iblk2 V c 4 t : Vec Ideal S1x1024 .f32) (ix2 a d) = (V c main_v23 : Vec Ideal S1x1024 .f32) (ix2 n g) := by
  have e : (iblk2 V c 4 t : Vec Ideal S1x1024 .f32) (ix2 a d) = (V c main_v23 : Vec Ideal S1x1024 .f32) ((win2_4.rect t).emb (ix2 a d)) := rfl
  rw [e]
  congr 1; funext x; apply Fin.ext; rw [win2_4.rect_emb_val t (ix2 a d) x]
  fin_cases x
  · show 0 * 1 + a.val = n.val; omega
  · show 0 * 1024 + d.val = g.val; omega

theorem blk2_5 (t : Fin cfg2.N) (a : Fin 1) (d : Fin 1024) (n : Fin 1) (g : Fin 1024)
    (h0 : n.val = 1 * 0 + a.val) (h1 : g.val = 1024 * 0 + d.val) :
    (iblk2 V c 5 t : Vec Ideal S1x1024 .f32) (ix2 a d) = (V c main_v24 : Vec Ideal S1x1024 .f32) (ix2 n g) := by
  have e : (iblk2 V c 5 t : Vec Ideal S1x1024 .f32) (ix2 a d) = (V c main_v24 : Vec Ideal S1x1024 .f32) ((win2_5.rect t).emb (ix2 a d)) := rfl
  rw [e]
  congr 1; funext x; apply Fin.ext; rw [win2_5.rect_emb_val t (ix2 a d) x]
  fin_cases x
  · show 0 * 1 + a.val = n.val; omega
  · show 0 * 1024 + d.val = g.val; omega

end Cert.PromptIdeal.Rows
-- ==== Proof.PromptArr.lean ====
/- What each of the layer's last three kernels on the prompt batch leaves in its output array, for any contents of its inputs. -/
module

public import proofs.«01_k».proof.Proof.PromptWin
public import proofs.«01_k».proof.Proof.Gen.PromptIdeal.Points

@[expose] public section

set_option maxRecDepth 16384

noncomputable section

namespace Cert.PromptIdeal.Rows

open Cert.PromptIdeal.Gen Cert.Layer
open Idealize.ShloMosaic Idealize.ShloMosaic.TcCoe Idealize.ShloMosaic.Tactic
open Idealize.ShloMosaic.Pipeline (Dat Cfg Window)

variable (V : (c : Dev nD) → (b : Ref sig .tc) → Buf (Elt Ideal) ((c : Thread nD τ).loc b)) (c : Dev nD)

theorem out0_at (x0 x1 x2 x3 : Vec Ideal S4x256x256 .bf16) (x4 : Vec Ideal S1x1024x1024 .bf16) (x5 : Vec Ideal S4x256x1024 .f32) (x6 : Vec Ideal S1x1x1024 .f32)
    (x7 x8 : Vec Ideal S1x1024 .f32) (n : Fin 4) (r : Fin 256) (d : Fin 1024) :
    out0_9 x0 x1 x2 x3 x4 x5 x6 x7 x8 (ix3 n r d)
      = residNorm (row x5 n r) (fun d => x6 (ix3 0 0 d)) (cat (row x0 n r) (row x1 n r) (row x2 n r) (row x3 n r)) (fun k d => x4 (ix3 0 k d))
          (fun d => x7 (ix2 0 d)) (fun d => x8 (ix2 0 d)) d := by
  unfold out0_9
  rw [View.canon_cons_unit_lit _ _ _ (by decide)]
  rw [View.ld_unit_lit _ x0 (by decide), View.ld_unit_lit _ x1 (by decide), View.ld_unit_lit _ x2 (by decide), View.ld_unit_lit _ x3 (by decide),
    View.ld_unit_lit _ x4 (by decide), View.ld_unit_lit _ x5 (by decide), View.ld_unit_lit _ x6 (by decide), View.ld_unit_lit _ x7 (by decide), View.ld_unit_lit _ x8 (by decide)]
  exact pay0_at x0 x1 x2 x3 x4 x5 x6 x7 x8 n r d

theorem out1_at (x0 : Vec Ideal S4x256x1024 .f32) (x1 x2 : Vec Ideal S1x1x1024 .f32) (x3 x4 : Vec Ideal S1x1024x1408 .bf16) (n : Fin 4) (r : Fin 256) (d : Fin 1408) :
    out1_5 x0 x1 x2 x3 x4 (ix3 n r d)
      = gated (modNorm (row x0 n r) (fun d => x1 (ix3 0 0 d)) (fun d => x2 (ix3 0 0 d))) (fun k => x3 (ix3 0 k d)) (fun k => x4 (ix3 0 k d)) := by
  unfold out1_5
  rw [View.canon_cons_unit_lit _ _ _ (by decide)]
  rw [View.ld_unit_lit _ x0 (by decide), View.ld_unit_lit _ x1 (by decide), View.ld_unit_lit _ x2 (by decide), View.ld_unit_lit _ x3 (by decide), View.ld_unit_lit _ x4 (by decide)]
  exact pay1_at x0 x1 x2 x3 x4 n r d

theorem out2_at (x0 : Vec Ideal S4x256x2816 .bf16) (x1 : Vec Ideal S1x2816x1024 .bf16) (x2 : Vec Ideal S4x256x1024 .f32) (x3 : Vec Ideal S1x1x1024 .f32)
    (x4 x5 : Vec Ideal S1x1024 .f32) (n : Fin 4) (r : Fin 256) (d : Fin 1024) :
    out2_6 x0 x1 x2 x3 x4 x5 (ix3 n r d)
      = residNorm (row x2 n r) (fun d => x3 (ix3 0 0 d)) (row x0 n r) (fun k d => x1 (ix3 0 k d)) (fun d => x4 (ix2 0 d)) (fun d => x5 (ix2 0 d)) d := by
  unfold out2_6
  rw [View.canon_cons_unit_lit _ _ _ (by decide)]
  rw [View.ld_unit_lit _ x0 (by decide), View.ld_unit_lit _ x1 (by decide), View.ld_unit_lit _ x2 (by decide), View.ld_unit_lit _ x3 (by decide), View.ld_unit_lit _ x4 (by decide), View.ld_unit_lit _ x5 (by decide)]
  exact pay2_at x0 x1 x2 x3 x4 x5 n r d

/-- Every element of each output lies in the block of some point. -/
theorem cover0 (i : S16x256x1024.Idx) : ∃ t : Fin cfg0.N, (cfg0.win 9).flush t = true ∧ i ∈ ((cfg0.win 9).blk t).view.set := by
  have b0 : (i 0).val < 16 := (i 0).isLt
  have b1 : (i 1).val < 256 := (i 1).isLt
  have b2 : (i 2).val < 1024 := (i 2).isLt
  have ht : (i 0).val / 4 < cfg0.N := by rw [show cfg0.N = 4 from N_0]; omega
  refine ⟨⟨(i 0).val / 4, ht⟩, flush0_9 _, ?_⟩
  show i ∈ ((View.whole main_v11).slice (win0_9.rect ⟨(i 0).val / 4, ht⟩)).set
  rw [View.set_slice_whole, Rect.mem_set_unit]
  have w0 := word0_0 ⟨(i 0).val / 4, ht⟩
  have w1 := word0_1 ⟨(i 0).val / 4, ht⟩
  intro a
  fin_cases a
  · show (BitVec.ofNat 32 (grid0.coords _ 0).val).toNat * 4 ≤ (i 0).val ∧ (i 0).val < (BitVec.ofNat 32 (grid0.coords _ 0).val).toNat * 4 + 4
    rw [w0]; simp only []; omega
  · show (BitVec.ofNat 32 (grid0.coords _ 1).val).toNat * 256 ≤ (i 1).val ∧ (i 1).val < (BitVec.ofNat 32 (grid0.coords _ 1).val).toNat * 256 + 256
    rw [w1]; simp only []; omega
  · show 0 * 1024 ≤ (i 2).val ∧ (i 2).val < 0 * 1024 + 1024
    omega

theorem cover2 (i : S16x256x1024.Idx) : ∃ t : Fin cfg2.N, (cfg2.win 6).flush t = true ∧ i ∈ ((cfg2.win 6).blk t).view.set := by
  have b0 : (i 0).val < 16 := (i 0).isLt
  have b1 : (i 1).val < 256 := (i 1).isLt
  have b2 : (i 2).val < 1024 := (i 2).isLt
  have ht : (i 0).val / 4 < cfg2.N := by rw [show cfg2.N = 4 from N_2]; omega
  refine ⟨⟨(i 0).val / 4, ht⟩, flush2_6 _, ?_⟩
  show i ∈ ((View.whole main_v25).slice (win2_6.rect ⟨(i 0).val / 4, ht⟩)).set
  rw [View.set_slice_whole, Rect.mem_set_unit]
  have w0 := word2_0 ⟨(i 0).val / 4, ht⟩
  have w1 := word2_1 ⟨(i 0).val / 4, ht⟩
  intro a
  fin_cases a
  · show (BitVec.ofNat 32 (grid2.coords _ 0).val).toNat * 4 ≤ (i 0).val ∧ (i 0).val < (BitVec.ofNat 32 (grid2.coords _ 0).val).toNat * 4 + 4
    rw [w0]; simp only []; omega
  · show (BitVec.ofNat 32 (grid2.coords _ 1).val).toNat * 256 ≤ (i 1).val ∧ (i 1).val < (BitVec.ofNat 32 (grid2.coords _ 1).val).toNat * 256 + 256
    rw [w1]; simp only []; omega
  · show 0 * 1024 ≤ (i 2).val ∧ (i 2).val < 0 * 1024 + 1024
    omega

theorem cover1 (i : S16x256x2816.Idx) : ∃ t : Fin cfg1.N, (cfg1.win 5).flush t = true ∧ i ∈ ((cfg1.win 5).blk t).view.set := by
  have b0 : (i 0).val < 16 := (i 0).isLt
  have b1 : (i 1).val < 256 := (i 1).isLt
  have b2 : (i 2).val < 2816 := (i 2).isLt
  have ht : 4 * ((i 2).val / 1408) + (i 0).val / 4 < cfg1.N := by rw [show cfg1.N = 8 from N_1]; omega
  refine ⟨⟨4 * ((i 2).val / 1408) + (i 0).val / 4, ht⟩, flush1_5 _, ?_⟩
  show i ∈ ((View.whole main_v13).slice (win1_5.rect ⟨4 * ((i 2).val / 1408) + (i 0).val / 4, ht⟩)).set
  rw [View.set_slice_whole, Rect.mem_set_unit]
  have w0 := word1_0 ⟨4 * ((i 2).val / 1408) + (i 0).val / 4, ht⟩
  have w1 := word1_1 ⟨4 * ((i 2).val / 1408) + (i 0).val / 4, ht⟩
  have w2 := word1_2 ⟨4 * ((i 2).val / 1408) + (i 0).val / 4, ht⟩
  intro a
  fin_cases a
  · show (BitVec.ofNat 32 (grid1.coords _ 1).val).toNat * 4 ≤ (i 0).val ∧ (i 0).val < (BitVec.ofNat 32 (grid1.coords _ 1).val).toNat * 4 + 4
    rw [w1]; simp only []; omega
  · show (BitVec.ofNat 32 (grid1.coords _ 2).val).toNat * 256 ≤ (i 1).val ∧ (i 1).val < (BitVec.ofNat 32 (grid1.coords _ 2).val).toNat * 256 + 256
    rw [w2]; simp only []; omega
  · show (BitVec.ofNat 32 (grid1.coords _ 0).val).toNat * 1408 ≤ (i 2).val ∧ (i 2).val < (BitVec.ofNat 32 (grid1.coords _ 0).val).toNat * 1408 + 1408
    rw [w0]; simp only []; omega

/-- The row of one point of one batch, in an array. -/
abbrev at3 {a b n : ℕ} (x : (⟨3, ![a, b, n]⟩ : Shape).Idx → EReal) (i : Fin a) (r : Fin b) : Fin n → EReal := fun k => x (ix3 i r k)

/-- The residual after the mixers: any array that agrees with the formula everywhere is what the first kernel leaves. -/
theorem arr0 (G : Vec Ideal S16x256x1024 .f32)
    (hG : ∀ (n : Fin 16) (r : Fin 256) (d : Fin 1024), G (ix3 n r d)
      = residNorm (at3 (V c main_arg0 : Vec Ideal S16x256x1024 .f32) n r) (at3 (V c main_arg5 : Vec Ideal S1x1x1024 .f32) 0 0)
          (cat (at3 (V c main_arg1 : Vec Ideal S16x256x256 .bf16) n r) (at3 (V c main_arg2 : Vec Ideal S16x256x256 .bf16) n r)
            (at3 (V c main_arg3 : Vec Ideal S16x256x256 .bf16) n r) (at3 (V c main_arg4 : Vec Ideal S16x256x256 .bf16) n r))
          (at3 (V c main_v0 : Vec Ideal S2x1024x1024 .bf16) 1) (fun d => (V c main_v9 : Vec Ideal S1x1024 .f32) (ix2 0 d)) (fun d => (V c main_v10 : Vec Ideal S1x1024 .f32) (ix2 0 d)) d) :
    (dat0 V c).arrAt 9 cfg0.N = G := by
  refine (dat0 V c).arrAt_eq_of_cover 9 G (fun t _ => ?_) cover0
  have ht : t.val < 4 := Nat.lt_of_lt_of_eq t.isLt N_0
  funext y
  obtain ⟨o, b, x, rfl⟩ : ∃ o b x, y = ix3 (n0 := 4) (n1 := 256) (n2 := 1024) o b x := ⟨_, _, _, eq_ix3 y⟩
  have el : (dat0 V c).flushed 9 t (ix3 o b x) = out0_9 (iblk0 V c 0 t) (iblk0 V c 1 t) (iblk0 V c 2 t) (iblk0 V c 3 t) (iblk0 V c 4 t) (iblk0 V c 5 t) (iblk0 V c 6 t) (iblk0 V c 7 t) (iblk0 V c 8 t) (ix3 o b x) := by
    show (dat0 V c).after 9 t _ = _
    rw [after0_9]; rfl
  have ei : (win0_9.rect t).emb (ix3 o b x) = ix3 (⟨4 * t.val + o.val, by omega⟩ : Fin 16) b x := by
    funext a; apply Fin.ext; rw [win0_9.rect_emb_val t (ix3 o b x) a]
    fin_cases a
    · show (BitVec.ofNat 32 (grid0.coords t 0).val).toNat * 4 + o.val = 4 * t.val + o.val; rw [word0_0]; omega
    · show (BitVec.ofNat 32 (grid0.coords t 1).val).toNat * 256 + b.val = b.val; rw [word0_1]; omega
    · show 0 * 1024 + x.val = x.val; omega
  have er : ((cfg0.win 9).blk t).view.read (Elt Ideal) G (ix3 o b x) = G ((win0_9.rect t).emb (ix3 o b x)) := rfl
  refine el.trans (Eq.trans ?_ er.symm)
  rw [ei, hG, out0_at]
  have e0 : row (iblk0 V c 0 t : Vec Ideal S4x256x256 .bf16) o b = at3 (V c main_arg1 : Vec Ideal S16x256x256 .bf16) (⟨4 * t.val + o.val, by omega⟩ : Fin 16) b :=
    funext fun d => blk0_0 V c t o b d _ _ _ rfl (by omega) (by omega)
  have e1 : row (iblk0 V c 1 t : Vec Ideal S4x256x256 .bf16) o b = at3 (V c main_arg2 : Vec Ideal S16x256x256 .bf16) (⟨4 * t.val + o.val, by omega⟩ : Fin 16) b :=
    funext fun d => blk0_1 V c t o b d _ _ _ rfl (by omega) (by omega)
  have e2 : row (iblk0 V c 2 t : Vec Ideal S4x256x256 .bf16) o b = at3 (V c main_arg3 : Vec Ideal S16x256x256 .bf16) (⟨4 * t.val + o.val, by omega⟩ : Fin 16) b :=
    funext fun d => blk0_2 V c t o b d _ _ _ rfl (by omega) (by omega)
  have e3 : row (iblk0 V c 3 t : Vec Ideal S4x256x256 .bf16) o b = at3 (V c main_arg4 : Vec Ideal S16x256x256 .bf16) (⟨4 * t.val + o.val, by omega⟩ : Fin 16) b :=
    funext fun d => blk0_3 V c t o b d _ _ _ rfl (by omega) (by omega)
  have e4 : (fun k d => (iblk0 V c 4 t : Vec Ideal S1x1024x1024 .bf16) (ix3 0 k d)) = at3 (V c main_v0 : Vec Ideal S2x1024x1024 .bf16) 1 :=
    funext fun k => funext fun d => blk0_4 V c t 0 k d _ _ _ (by decide) (by omega) (by omega)
  have e5 : row (iblk0 V c 5 t : Vec Ideal S4x256x1024 .f32) o b = at3 (V c main_arg0 : Vec Ideal S16x256x1024 .f32) (⟨4 * t.val + o.val, by omega⟩ : Fin 16) b :=
    funext fun d => blk0_5 V c t o b d _ _ _ rfl (by omega) (by omega)
  have e6 : (fun d => (iblk0 V c 6 t : Vec Ideal S1x1x1024 .f32) (ix3 0 0 d)) = at3 (V c main_arg5 : Vec Ideal S1x1x1024 .f32) 0 0 :=
    funext fun d => blk0_6 V c t 0 0 d _ _ _ (by decide) (by decide) (by omega)
  have e7 : (fun d => (iblk0 V c 7 t : Vec Ideal S1x1024 .f32) (ix2 0 d)) = fun d => (V c main_v9 : Vec Ideal S1x1024 .f32) (ix2 0 d) :=
    funext fun d => blk0_7 V c t 0 d _ _ (by decide) (by omega)
  have e8 : (fun d => (iblk0 V c 8 t : Vec Ideal S1x1024 .f32) (ix2 0 d)) = fun d => (V c main_v10 : Vec Ideal S1x1024 .f32) (ix2 0 d) :=
    funext fun d => blk0_8 V c t 0 d _ _ (by decide) (by omega)
  rw [e0, e1, e2, e3, e4, e5, e6, e7, e8]

/-- The feed-forward network's hidden units. -/
theorem arr1 (G : Vec Ideal S16x256x2816 .bf16)
    (hG : ∀ (n : Fin 16) (r : Fin 256) (j : Fin 2816), G (ix3 n r j)
      = gated (modNorm (at3 (V c main_v11 : Vec Ideal S16x256x1024 .f32) n r) (at3 (V c main_arg7 : Vec Ideal S1x1x1024 .f32) 0 0) (at3 (V c main_arg6 : Vec Ideal S1x1x1024 .f32) 0 0))
          (fun k => (V c main_v12 : Vec Ideal S2x1024x5632 .bf16) (ix3 1 k (⟨j.val, by omega⟩ : Fin 5632)))
          (fun k => (V c main_v12 : Vec Ideal S2x1024x5632 .bf16) (ix3 1 k (⟨2816 + j.val, by omega⟩ : Fin 5632)))) :
    (dat1 V c).arrAt 5 cfg1.N = G := by
  refine (dat1 V c).arrAt_eq_of_cover 5 G (fun t _ => ?_) cover1
  have ht : t.val < 8 := Nat.lt_of_lt_of_eq t.isLt N_1
  funext y
  obtain ⟨o, b, x, rfl⟩ : ∃ o b x, y = ix3 (n0 := 4) (n1 := 256) (n2 := 1408) o b x := ⟨_, _, _, eq_ix3 y⟩
  have el : (dat1 V c).flushed 5 t (ix3 o b x) = out1_5 (iblk1 V c 0 t) (iblk1 V c 1 t) (iblk1 V c 2 t) (iblk1 V c 3 t) (iblk1 V c 4 t) (ix3 o b x) := by
    show (dat1 V c).after 5 t _ = _
    rw [after1_5]; rfl
  have ei : (win1_5.rect t).emb (ix3 o b x) = ix3 (⟨4 * (t.val % 4) + o.val, by omega⟩ : Fin 16) b (⟨1408 * (t.val / 4) + x.val, by omega⟩ : Fin 2816) := by
    funext a; apply Fin.ext; rw [win1_5.rect_emb_val t (ix3 o b x) a]
    fin_cases a
    · show (BitVec.ofNat 32 (grid1.coords t 1).val).toNat * 4 + o.val = 4 * (t.val % 4) + o.val; rw [word1_1]; omega
    · show (BitVec.ofNat 32 (grid1.coords t 2).val).toNat * 256 + b.val = b.val; rw [word1_2]; omega
    · show (BitVec.ofNat 32 (grid1.coords t 0).val).toNat * 1408 + x.val = 1408 * (t.val / 4) + x.val; rw [word1_0]; omega
  have er : ((cfg1.win 5).blk t).view.read (Elt Ideal) G (ix3 o b x) = G ((win1_5.rect t).emb (ix3 o b x)) := rfl
  refine el.trans (Eq.trans ?_ er.symm)
  rw [ei, hG, out1_at]
  have e0 : row (iblk1 V c 0 t : Vec Ideal S4x256x1024 .f32) o b = at3 (V c main_v11 : Vec Ideal S16x256x1024 .f32) (⟨4 * (t.val % 4) + o.val, by omega⟩ : Fin 16) b :=
    funext fun d => blk1_0 V c t o b d _ _ _ rfl (by omega) (by omega)
  have e1 : (fun d => (iblk1 V c 1 t : Vec Ideal S1x1x1024 .f32) (ix3 0 0 d)) = at3 (V c main_arg7 : Vec Ideal S1x1x1024 .f32) 0 0 :=
    funext fun d => blk1_1 V c t 0 0 d _ _ _ (by decide) (by decide) (by omega)
  have e2 : (fun d => (iblk1 V c 2 t : Vec Ideal S1x1x1024 .f32) (ix3 0 0 d)) = at3 (V c main_arg6 : Vec Ideal S1x1x1024 .f32) 0 0 :=
    funext fun d => blk1_2 V c t 0 0 d _ _ _ (by decide) (by decide) (by omega)
  have e3 : (fun k => (iblk1 V c 3 t : Vec Ideal S1x1024x1408 .bf16) (ix3 0 k x)) = fun k => (V c main_v12 : Vec Ideal S2x1024x5632 .bf16) (ix3 1 k (⟨1408 * (t.val / 4) + x.val, by omega⟩ : Fin 5632)) :=
    funext fun k => blk1_3 V c t 0 k x _ _ _ (by decide) (by omega) rfl
  have e4 : (fun k => (iblk1 V c 4 t : Vec Ideal S1x1024x1408 .bf16) (ix3 0 k x)) = fun k => (V c main_v12 : Vec Ideal S2x1024x5632 .bf16) (ix3 1 k (⟨2816 + (1408 * (t.val / 4) + x.val), by omega⟩ : Fin 5632)) :=
    funext fun k => blk1_4 V c t 0 k x _ _ _ (by decide) (by omega) (by show 2816 + (1408 * (t.val / 4) + x.val) = _; omega)
  rw [e0, e1, e2, e3, e4]

/-- The layer's result. -/
theorem arr2 (G : Vec Ideal S16x256x1024 .f32)
    (hG : ∀ (n : Fin 16) (r : Fin 256) (d : Fin 1024), G (ix3 n r d)
      = residNorm (at3 (V c main_v11 : Vec Ideal S16x256x1024 .f32) n r) (at3 (V c main_arg8 : Vec Ideal S1x1x1024 .f32) 0 0)
          (at3 (V c main_v13 : Vec Ideal S16x256x2816 .bf16) n r)
          (at3 (V c main_v14 : Vec Ideal S2x2816x1024 .bf16) 1) (fun d => (V c main_v23 : Vec Ideal S1x1024 .f32) (ix2 0 d)) (fun d => (V c main_v24 : Vec Ideal S1x1024 .f32) (ix2 0 d)) d) :
    (dat2 V c).arrAt 6 cfg2.N = G := by
  refine (dat2 V c).arrAt_eq_of_cover 6 G (fun t _ => ?_) cover2
  have ht : t.val < 4 := Nat.lt_of_lt_of_eq t.isLt N_2
  funext y
  obtain ⟨o, b, x, rfl⟩ : ∃ o b x, y = ix3 (n0 := 4) (n1 := 256) (n2 := 1024) o b x := ⟨_, _, _, eq_ix3 y⟩
  have el : (dat2 V c).flushed 6 t (ix3 o b x) = out2_6 (iblk2 V c 0 t) (iblk2 V c 1 t) (iblk2 V c 2 t) (iblk2 V c 3 t) (iblk2 V c 4 t) (iblk2 V c 5 t) (ix3 o b x) := by
    show (dat2 V c).after 6 t _ = _
    rw [after2_6]; rfl
  have ei : (win2_6.rect t).emb (ix3 o b x) = ix3 (⟨4 * t.val + o.val, by omega⟩ : Fin 16) b x := by
    funext a; apply Fin.ext; rw [win2_6.rect_emb_val t (ix3 o b x) a]
    fin_cases a
    · show (BitVec.ofNat 32 (grid2.coords t 0).val).toNat * 4 + o.val = 4 * t.val + o.val; rw [word2_0]; omega
    · show (BitVec.ofNat 32 (grid2.coords t 1).val).toNat * 256 + b.val = b.val; rw [word2_1]; omega
    · show 0 * 1024 + x.val = x.val; omega
  have er : ((cfg2.win 6).blk t).view.read (Elt Ideal) G (ix3 o b x) = G ((win2_6.rect t).emb (ix3 o b x)) := rfl
  refine el.trans (Eq.trans ?_ er.symm)
  rw [ei, hG, out2_at]
  have e0 : row (iblk2 V c 0 t : Vec Ideal S4x256x2816 .bf16) o b = at3 (V c main_v13 : Vec Ideal S16x256x2816 .bf16) (⟨4 * t.val + o.val, by omega⟩ : Fin 16) b :=
    funext fun d => blk2_0 V c t o b d _ _ _ rfl (by omega) (by omega)
  have e1 : (fun k d => (iblk2 V c 1 t : Vec Ideal S1x2816x1024 .bf16) (ix3 0 k d)) = at3 (V c main_v14 : Vec Ideal S2x2816x1024 .bf16) 1 :=
    funext fun k => funext fun d => blk2_1 V c t 0 k d _ _ _ (by decide) (by omega) (by omega)
  have e2 : row (iblk2 V c 2 t : Vec Ideal S4x256x1024 .f32) o b = at3 (V c main_v11 : Vec Ideal S16x256x1024 .f32) (⟨4 * t.val + o.val, by omega⟩ : Fin 16) b :=
    funext fun d => blk2_2 V c t o b d _ _ _ rfl (by omega) (by omega)
  have e3 : (fun d => (iblk2 V c 3 t : Vec Ideal S1x1x1024 .f32) (ix3 0 0 d)) = at3 (V c main_arg8 : Vec Ideal S1x1x1024 .f32) 0 0 :=
    funext fun d => blk2_3 V c t 0 0 d _ _ _ (by decide) (by decide) (by omega)
  have e4 : (fun d => (iblk2 V c 4 t : Vec Ideal S1x1024 .f32) (ix2 0 d)) = fun d => (V c main_v23 : Vec Ideal S1x1024 .f32) (ix2 0 d) :=
    funext fun d => blk2_4 V c t 0 d _ _ (by decide) (by omega)
  have e5 : (fun d => (iblk2 V c 5 t : Vec Ideal S1x1024 .f32) (ix2 0 d)) = fun d => (V c main_v24 : Vec Ideal S1x1024 .f32) (ix2 0 d) :=
    funext fun d => blk2_5 V c t 0 d _ _ (by decide) (by omega)
  rw [e0, e1, e2, e3, e4, e5]

end Cert.PromptIdeal.Rows
-- ==== Proof.PromptRef.lean ====
/- The plain reference of a layer's last steps, at an index. -/
module

public import proofs.«01_k».proof.Proof.Gen.PromptRefIdeal.Read
public import proofs.«01_k».proof.Proof.LayerRows
public import Idealize.ShloMosaic.PureOps.Ideal
public import Idealize.ShloMosaic.Lib.Pointwise
public import Idealize.ShloMosaic.Lib.ValueIdx

@[expose] public section

set_option maxRecDepth 16384

noncomputable section

namespace Cert.PromptRefIdeal.Rows

open Cert.PromptRefIdeal.Read Cert.Layer
open Idealize.ShloMosaic Idealize.ShloMosaic.TcCoe Idealize.ShloMosaic.Tactic

variable (x0 : FVec Ideal S16x256x1024 .f32) (x1 x2 x3 x4 : FVec Ideal S16x256x256 .bf16) (x5 x6 x7 x8 : FVec Ideal S1x1x1024 .f32)
  (x9 : FVec Ideal S2x1024x1024 .f32) (x10 x11 : FVec Ideal S2x2x1024 .f32) (x12 : FVec Ideal S2x1024x5632 .f32) (x13 : FVec Ideal S2x2816x1024 .f32)

theorem zeroWord : Ideal.ofBits FTy.f32 0x00000000#32 = 0 := by simp [Ideal.ofBits, Ideal.ieee]
theorem oneWord : Ideal.ofBits FTy.f32 0x3F800000#32 = 1 := by
  simp [Ideal.ofBits, Ideal.ieee, -EReal.coe_mul]; norm_num

/-- The row of one point of one batch. -/
abbrev at3 {a b n : ℕ} (x : (⟨3, ![a, b, n]⟩ : Shape).Idx → EReal) (i : Fin a) (r : Fin b) : Fin n → EReal := fun k => x (ix3 i r k)

/-- The mixers' outputs side by side. -/
theorem v4_at (n : Fin 16) (r : Fin 256) (k : Fin 1024) :
    val_main_v4 (F := Ideal) x1 x2 x3 x4 (ix3 n r k) = cat (at3 x1 n r) (at3 x2 n r) (at3 x3 n r) (at3 x4 n r) k := by
  unfold val_main_v4 val_main_v3 val_main_v2 val_main_v1 val_main_v0 cat; pointwise

/-- The residual before its norm. -/
theorem v12_at (n : Fin 16) (r : Fin 256) (d : Fin 1024) :
    val_main_v12 (F := Ideal) x0 x1 x2 x3 x4 x5 x9 (ix3 n r d)
      = resid (at3 x0 n r) (at3 x5 0 0) (cat (at3 x1 n r) (at3 x2 n r) (at3 x3 n r) (at3 x4 n r)) (at3 x9 1) d := by
  have hc := v4_at x1 x2 x3 x4 n r
  unfold val_main_v12 val_main_v11 val_main_v10 val_main_v9 val_main_v8 val_main_v7 val_main_v6 val_main_v5
  generalize val_main_v4 (F := Ideal) x1 x2 x3 x4 = y at hc ⊢
  pointwise
  simp only [hc, val_main_cst_apply, Scalar.ofBits, FloatOps.ofBits]
  rfl

/-- The layer norm of any row, as the reference takes it. -/
theorem v30_at (n : Fin 16) (r : Fin 256) (d : Fin 1024) (z : Fin 1024 → EReal) (hc : ∀ d, val_main_v12 (F := Ideal) x0 x1 x2 x3 x4 x5 x9 (ix3 n r d) = z d) :
    val_main_v30 (F := Ideal) x0 x1 x2 x3 x4 x5 x9 (ix3 n r d) = norm z d := by
  unfold val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13
  generalize val_main_v12 (F := Ideal) x0 x1 x2 x3 x4 x5 x9 = y at hc ⊢
  pointwise
  simp only [hc, val_main_cst_0_apply, val_main_cst_1_apply, val_main_cst_2_apply, val_main_cst_3_apply, val_main_cst_4_apply, Scalar.ofBits, FloatOps.ofBits, zeroWord, zero_add]
  rfl

theorem v40_at (n : Fin 16) (r : Fin 256) (d : Fin 1024) :
    val_main_v40 (F := Ideal) x0 x1 x2 x3 x4 x5 x9 x10 x11 (ix3 n r d)
      = residNorm (at3 x0 n r) (at3 x5 0 0) (cat (at3 x1 n r) (at3 x2 n r) (at3 x3 n r) (at3 x4 n r)) (at3 x9 1) (at3 x10 1 0) (at3 x11 1 0) d := by
  have hc := v30_at x0 x1 x2 x3 x4 x5 x9 n r d _ (v12_at x0 x1 x2 x3 x4 x5 x9 n r)
  unfold val_main_v40 val_main_v39 val_main_v38 val_main_v37 val_main_v36 val_main_v35 val_main_v34 val_main_v33 val_main_v32 val_main_v31
  generalize val_main_v30 (F := Ideal) x0 x1 x2 x3 x4 x5 x9 = y at hc ⊢
  pointwise
  simp only [hc]
  rfl

/-- The modulated norm of any row. -/
theorem v64_at (n : Fin 16) (r : Fin 256) (d : Fin 1024) (z : Fin 1024 → EReal) (hc : ∀ d, val_main_v40 (F := Ideal) x0 x1 x2 x3 x4 x5 x9 x10 x11 (ix3 n r d) = z d) :
    val_main_v64 (F := Ideal) x0 x1 x2 x3 x4 x5 x6 x7 x9 x10 x11 (ix3 n r d) = modNorm z (at3 x7 0 0) (at3 x6 0 0) d := by
  unfold val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41
  generalize val_main_v40 (F := Ideal) x0 x1 x2 x3 x4 x5 x9 x10 x11 = y at hc ⊢
  pointwise
  simp only [hc, val_main_cst_5_apply, val_main_cst_6_apply, val_main_cst_7_apply, val_main_cst_8_apply, val_main_cst_9_apply, val_main_cst_10_apply, Scalar.ofBits, FloatOps.ofBits, zeroWord, oneWord, zero_add]
  rfl

/-- The hidden units. -/
theorem v71_at (n : Fin 16) (r : Fin 256) (j : Fin 2816) (h : Fin 1024 → EReal)
    (hc : ∀ d, val_main_v64 (F := Ideal) x0 x1 x2 x3 x4 x5 x6 x7 x9 x10 x11 (ix3 n r d) = h d) :
    val_main_v71 (F := Ideal) x0 x1 x2 x3 x4 x5 x6 x7 x9 x10 x11 x12 (ix3 n r j)
      = gated h (fun k => x12 (ix3 1 k (⟨j.val, by omega⟩ : Fin 5632))) (fun k => x12 (ix3 1 k (⟨2816 + j.val, by omega⟩ : Fin 5632))) := by
  unfold val_main_v71 val_main_v70 val_main_call0_v5 val_main_call0_v4 val_main_call0_v3 val_main_call0_v2 val_main_call0_v1 val_main_call0_v0 val_main_v69 val_main_v68 val_main_v67 val_main_v66 val_main_v65
  generalize val_main_v64 (F := Ideal) x0 x1 x2 x3 x4 x5 x6 x7 x9 x10 x11 = y at hc ⊢
  pointwise
  have hn : ∀ x : EReal, -x = 0 - x := fun x => by rw [sub_eq_add_neg, zero_add]
  simp only [hc, hn, val_main_call0_cst_apply, val_main_call0_cst_0_apply, Scalar.ofBits, FloatOps.ofBits, oneWord]
  rfl

/-- The second residual before its norm. -/
theorem v79_at (n : Fin 16) (r : Fin 256) (d : Fin 1024) (z : Fin 1024 → EReal) (o : Fin 2816 → EReal)
    (hc : ∀ d, val_main_v40 (F := Ideal) x0 x1 x2 x3 x4 x5 x9 x10 x11 (ix3 n r d) = z d)
    (ho : ∀ j, val_main_v71 (F := Ideal) x0 x1 x2 x3 x4 x5 x6 x7 x9 x10 x11 x12 (ix3 n r j) = o j) :
    val_main_v79 (F := Ideal) x0 x1 x2 x3 x4 x5 x6 x7 x8 x9 x10 x11 x12 x13 (ix3 n r d)
      = resid z (at3 x8 0 0) o (at3 x13 1) d := by
  unfold val_main_v79 val_main_v78 val_main_v77 val_main_v76 val_main_v75 val_main_v74 val_main_v73 val_main_v72
  generalize val_main_v40 (F := Ideal) x0 x1 x2 x3 x4 x5 x9 x10 x11 = y at hc ⊢
  generalize val_main_v71 (F := Ideal) x0 x1 x2 x3 x4 x5 x6 x7 x9 x10 x11 x12 = w at ho ⊢
  pointwise
  simp only [hc, ho, val_main_cst_11_apply, Scalar.ofBits, FloatOps.ofBits]
  rfl

theorem v107_at (n : Fin 16) (r : Fin 256) (d : Fin 1024) (z : Fin 1024 → EReal)
    (hc : ∀ d, val_main_v79 (F := Ideal) x0 x1 x2 x3 x4 x5 x6 x7 x8 x9 x10 x11 x12 x13 (ix3 n r d) = z d) :
    val_main_v107 (F := Ideal) x0 x1 x2 x3 x4 x5 x6 x7 x8 x9 x10 x11 x12 x13 (ix3 n r d) = norm z d * x10 (ix3 1 1 d) + x11 (ix3 1 1 d) := by
  unfold val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80
  generalize val_main_v79 (F := Ideal) x0 x1 x2 x3 x4 x5 x6 x7 x8 x9 x10 x11 x12 x13 = y at hc ⊢
  pointwise
  simp only [hc, val_main_cst_12_apply, val_main_cst_13_apply, val_main_cst_14_apply, val_main_cst_15_apply, val_main_cst_16_apply, Scalar.ofBits, FloatOps.ofBits, zeroWord, zero_add]
  rfl

end Cert.PromptRefIdeal.Rows
-- ==== Proof.PromptVal.lean ====
/- The layer's last three calls on the prompt batch together: the result array is the plain reference's. -/
module

public import proofs.«01_k».proof.Proof.PromptArr
public import proofs.«01_k».proof.Proof.PromptRef
public import Idealize.ShloMosaic.Lib.StableHlo.RunClose

@[expose] public section

set_option maxRecDepth 16384

noncomputable section

namespace Cert.PromptIdeal.Rows

open Cert.PromptIdeal.Gen Cert.Layer
open Cert.PromptRefIdeal.Read (val_main_v40 val_main_v64 val_main_v71 val_main_v79 val_main_v107)
open Idealize.ShloMosaic Idealize.ShloMosaic.TcCoe Idealize.ShloMosaic.Tactic
open Idealize.ShloMosaic.Pipeline (Dat Cfg Window)

variable (m : (ℓ : Loc nD τ sig) → Buf (Elt Ideal) ℓ) (ρ : Dev nD → PrngReg) (c : Dev nD)

/-- The argument arrays. -/
abbrev a0 : Vec Ideal S16x256x1024 .f32 := m ((c : Thread nD τ).loc main_arg0)
abbrev a1 : Vec Ideal S16x256x256 .bf16 := m ((c : Thread nD τ).loc main_arg1)
abbrev a2 : Vec Ideal S16x256x256 .bf16 := m ((c : Thread nD τ).loc main_arg2)
abbrev a3 : Vec Ideal S16x256x256 .bf16 := m ((c : Thread nD τ).loc main_arg3)
abbrev a4 : Vec Ideal S16x256x256 .bf16 := m ((c : Thread nD τ).loc main_arg4)
abbrev a5 : Vec Ideal S1x1x1024 .f32 := m ((c : Thread nD τ).loc main_arg5)
abbrev a6 : Vec Ideal S1x1x1024 .f32 := m ((c : Thread nD τ).loc main_arg6)
abbrev a7 : Vec Ideal S1x1x1024 .f32 := m ((c : Thread nD τ).loc main_arg7)
abbrev a8 : Vec Ideal S1x1x1024 .f32 := m ((c : Thread nD τ).loc main_arg8)
abbrev a9 : Vec Ideal S2x1024x1024 .f32 := m ((c : Thread nD τ).loc main_arg9)
abbrev a10 : Vec Ideal S2x2x1024 .f32 := m ((c : Thread nD τ).loc main_arg10)
abbrev a11 : Vec Ideal S2x2x1024 .f32 := m ((c : Thread nD τ).loc main_arg11)
abbrev a12 : Vec Ideal S2x1024x5632 .f32 := m ((c : Thread nD τ).loc main_arg12)
abbrev a13 : Vec Ideal S2x2816x1024 .f32 := m ((c : Thread nD τ).loc main_arg13)

/-! ## The host's arrays -/

variable (W : Valuation τ sig (Elt Ideal))

theorem after_main_v0 : (StableHlo.after hostOps0 W (Proc.devRef .tc main_v0) : Vec Ideal S2x1024x1024 .bf16) = (truncf .bf16 (W (Proc.devRef .tc main_arg9) : FVec Ideal S2x1024x1024 .f32) bitsLt_bf16_f32 : FVec Ideal S2x1024x1024 .bf16) := by
  dsimp only [hostOps0]; after_results_simp <;> rfl

theorem after_main_v12 : (StableHlo.after hostOps1 W (Proc.devRef .tc main_v12) : Vec Ideal S2x1024x5632 .bf16) = (truncf .bf16 (W (Proc.devRef .tc main_arg12) : FVec Ideal S2x1024x5632 .f32) bitsLt_bf16_f32 : FVec Ideal S2x1024x5632 .bf16) := by
  dsimp only [hostOps1]; after_results_simp <;> rfl

theorem after_main_v14 : (StableHlo.after hostOps2 W (Proc.devRef .tc main_v14) : Vec Ideal S2x2816x1024 .bf16) = (truncf .bf16 (W (Proc.devRef .tc main_arg13) : FVec Ideal S2x2816x1024 .f32) bitsLt_bf16_f32 : FVec Ideal S2x2816x1024 .bf16) := by
  dsimp only [hostOps2]; after_results_simp <;> rfl

theorem after_main_v9 : (StableHlo.after hostOps0 W (Proc.devRef .tc main_v9) : Vec Ideal S1x1024 .f32)
    = shapeCast S1x1024 (shapeCast S1024 (extractStridedSlice S1x1024 ![0, 0] (shapeCast S2x1024 (extractStridedSlice S1x2x1024 ![1, 0, 0]
        (W (Proc.devRef .tc main_arg10) : Vec Ideal S2x2x1024 .f32) slices_S2x2x1024_S1x2x1024_1_0_0) shapeCasts_S1x2x1024_S2x1024) slices_S2x1024_S1x1024_0_0) shapeCasts_S1x1024_S1024) shapeCasts_S1024_S1x1024 := by
  dsimp only [hostOps0]; after_results_simp <;> rfl

theorem at_main_v9 (d : Fin 1024) : (StableHlo.after hostOps0 W (Proc.devRef .tc main_v9) : Vec Ideal S1x1024 .f32) (ix2 0 d) = (W (Proc.devRef .tc main_arg10) : Vec Ideal S2x2x1024 .f32) (ix3 1 0 d) := by
  rw [after_main_v9]; generalize (W (Proc.devRef .tc main_arg10) : Vec Ideal S2x2x1024 .f32) = y
  pointwise

theorem after_main_v10 : (StableHlo.after hostOps0 W (Proc.devRef .tc main_v10) : Vec Ideal S1x1024 .f32)
    = shapeCast S1x1024 (shapeCast S1024 (extractStridedSlice S1x1024 ![0, 0] (shapeCast S2x1024 (extractStridedSlice S1x2x1024 ![1, 0, 0]
        (W (Proc.devRef .tc main_arg11) : Vec Ideal S2x2x1024 .f32) slices_S2x2x1024_S1x2x1024_1_0_0) shapeCasts_S1x2x1024_S2x1024) slices_S2x1024_S1x1024_0_0) shapeCasts_S1x1024_S1024) shapeCasts_S1024_S1x1024 := by
  dsimp only [hostOps0]; after_results_simp <;> rfl

theorem at_main_v10 (d : Fin 1024) : (StableHlo.after hostOps0 W (Proc.devRef .tc main_v10) : Vec Ideal S1x1024 .f32) (ix2 0 d) = (W (Proc.devRef .tc main_arg11) : Vec Ideal S2x2x1024 .f32) (ix3 1 0 d) := by
  rw [after_main_v10]; generalize (W (Proc.devRef .tc main_arg11) : Vec Ideal S2x2x1024 .f32) = y
  pointwise

theorem after_main_v23 : (StableHlo.after hostOps2 W (Proc.devRef .tc main_v23) : Vec Ideal S1x1024 .f32)
    = shapeCast S1x1024 (shapeCast S1024 (extractStridedSlice S1x1024 ![1, 0] (shapeCast S2x1024 (extractStridedSlice S1x2x1024 ![1, 0, 0]
        (W (Proc.devRef .tc main_arg10) : Vec Ideal S2x2x1024 .f32) slices_S2x2x1024_S1x2x1024_1_0_0) shapeCasts_S1x2x1024_S2x1024) slices_S2x1024_S1x1024_1_0) shapeCasts_S1x1024_S1024) shapeCasts_S1024_S1x1024 := by
  dsimp only [hostOps2]; after_results_simp <;> rfl

theorem at_main_v23 (d : Fin 1024) : (StableHlo.after hostOps2 W (Proc.devRef .tc main_v23) : Vec Ideal S1x1024 .f32) (ix2 0 d) = (W (Proc.devRef .tc main_arg10) : Vec Ideal S2x2x1024 .f32) (ix3 1 1 d) := by
  rw [after_main_v23]; generalize (W (Proc.devRef .tc main_arg10) : Vec Ideal S2x2x1024 .f32) = y
  pointwise

theorem after_main_v24 : (StableHlo.after hostOps2 W (Proc.devRef .tc main_v24) : Vec Ideal S1x1024 .f32)
    = shapeCast S1x1024 (shapeCast S1024 (extractStridedSlice S1x1024 ![1, 0] (shapeCast S2x1024 (extractStridedSlice S1x2x1024 ![1, 0, 0]
        (W (Proc.devRef .tc main_arg11) : Vec Ideal S2x2x1024 .f32) slices_S2x2x1024_S1x2x1024_1_0_0) shapeCasts_S1x2x1024_S2x1024) slices_S2x1024_S1x1024_1_0) shapeCasts_S1x1024_S1024) shapeCasts_S1024_S1x1024 := by
  dsimp only [hostOps2]; after_results_simp <;> rfl

theorem at_main_v24 (d : Fin 1024) : (StableHlo.after hostOps2 W (Proc.devRef .tc main_v24) : Vec Ideal S1x1024 .f32) (ix2 0 d) = (W (Proc.devRef .tc main_arg11) : Vec Ideal S2x2x1024 .f32) (ix3 1 1 d) := by
  rw [after_main_v24]; generalize (W (Proc.devRef .tc main_arg11) : Vec Ideal S2x2x1024 .f32) = y
  pointwise

/-! ## What each region finds -/

theorem V1_arg (r : Ref sig .tc) (h : r ∈ argRefs) : V1 m ρ c r = m ((c : Thread nD τ).loc r) := W1_args m ρ c r h
theorem V3_arg (r : Ref sig .tc) (h : r ∈ argRefs) : V3 m ρ c r = m ((c : Thread nD τ).loc r) := W3_args m ρ c r h
theorem V5_arg (r : Ref sig .tc) (h : r ∈ argRefs) : V5 m ρ c r = m ((c : Thread nD τ).loc r) := W5_args m ρ c r h

/-- The first kernel leaves the reference's residual stream, -/
theorem resid_eq : V3 m ρ c main_v11 = val_main_v40 (F := Ideal) (a0 m c) (a1 m c) (a2 m c) (a3 m c) (a4 m c) (a5 m c) (a9 m c) (a10 m c) (a11 m c) := by
  refine ((W3_of m ρ c main_v11 (by decide)).trans (W2_arr m ρ c 9)).trans ?_
  refine arr0 (V1 m ρ) c _ fun n r d => ?_
  have e9 : (fun d => (V1 m ρ c main_v9 : Vec Ideal S1x1024 .f32) (ix2 0 d)) = at3 (a10 m c) 1 0 := funext fun d => at_main_v9 (W0 m ρ c) d
  have e10 : (fun d => (V1 m ρ c main_v10 : Vec Ideal S1x1024 .f32) (ix2 0 d)) = at3 (a11 m c) 1 0 := funext fun d => at_main_v10 (W0 m ρ c) d
  have e0 : at3 (V1 m ρ c main_v0 : Vec Ideal S2x1024x1024 .bf16) 1 = at3 (a9 m c) 1 :=
    funext fun k => funext fun d => congrFun (after_main_v0 (W0 m ρ c)) (ix3 1 k d)
  rw [e9, e10, e0, V1_arg m ρ c main_arg0 (by decide), V1_arg m ρ c main_arg1 (by decide), V1_arg m ρ c main_arg2 (by decide), V1_arg m ρ c main_arg3 (by decide),
    V1_arg m ρ c main_arg4 (by decide), V1_arg m ρ c main_arg5 (by decide)]
  exact Cert.PromptRefIdeal.Rows.v40_at (a0 m c) (a1 m c) (a2 m c) (a3 m c) (a4 m c) (a5 m c) (a9 m c) (a10 m c) (a11 m c) n r d

/-- the second its hidden units, -/
theorem hidden_eq : V5 m ρ c main_v13 = val_main_v71 (F := Ideal) (a0 m c) (a1 m c) (a2 m c) (a3 m c) (a4 m c) (a5 m c) (a6 m c) (a7 m c) (a9 m c) (a10 m c) (a11 m c) (a12 m c) := by
  refine ((W5_of m ρ c main_v13 (by decide)).trans (W4_arr m ρ c 5)).trans ?_
  refine arr1 (V3 m ρ) c _ fun n r j => ?_
  have e12 : (V3 m ρ c main_v12 : Vec Ideal S2x1024x5632 .bf16) = a12 m c :=
    (after_main_v12 (W2 m ρ c)).trans (congrArg (fun y : FVec Ideal S2x1024x5632 .f32 => (truncf .bf16 y bitsLt_bf16_f32 : FVec Ideal S2x1024x5632 .bf16)) (W2_args m ρ c main_arg12 (by decide)))
  rw [e12, resid_eq, V3_arg m ρ c main_arg6 (by decide), V3_arg m ρ c main_arg7 (by decide)]
  exact Cert.PromptRefIdeal.Rows.v71_at (a0 m c) (a1 m c) (a2 m c) (a3 m c) (a4 m c) (a5 m c) (a6 m c) (a7 m c) (a9 m c) (a10 m c) (a11 m c) (a12 m c) n r j _
    (fun d => Cert.PromptRefIdeal.Rows.v64_at (a0 m c) (a1 m c) (a2 m c) (a3 m c) (a4 m c) (a5 m c) (a6 m c) (a7 m c) (a9 m c) (a10 m c) (a11 m c) n r d _ fun _ => rfl)

theorem resid_eq' : V5 m ρ c main_v11 = V3 m ρ c main_v11 :=
  (W5_of m ρ c main_v11 (by decide)).trans (W4_of m ρ c main_v11 (by decide))

/-- and the third its result. -/
theorem result_eq : W6 m ρ c (Proc.devRef .tc main_v25) = val_main_v107 (F := Ideal) (a0 m c) (a1 m c) (a2 m c) (a3 m c) (a4 m c) (a5 m c) (a6 m c) (a7 m c) (a8 m c) (a9 m c) (a10 m c) (a11 m c) (a12 m c) (a13 m c) := by
  refine (W6_arr m ρ c 6).trans ?_
  refine arr2 (V5 m ρ) c _ fun n r d => ?_
  have e23 : (fun d => (V5 m ρ c main_v23 : Vec Ideal S1x1024 .f32) (ix2 0 d)) = at3 (a10 m c) 1 1 :=
    funext fun d => (at_main_v23 (W4 m ρ c) d).trans (congrFun (W4_args m ρ c main_arg10 (by decide)) _)
  have e24 : (fun d => (V5 m ρ c main_v24 : Vec Ideal S1x1024 .f32) (ix2 0 d)) = at3 (a11 m c) 1 1 :=
    funext fun d => (at_main_v24 (W4 m ρ c) d).trans (congrFun (W4_args m ρ c main_arg11 (by decide)) _)
  have e14 : (V5 m ρ c main_v14 : Vec Ideal S2x2816x1024 .bf16) = a13 m c :=
    (after_main_v14 (W4 m ρ c)).trans (congrArg (fun y : FVec Ideal S2x2816x1024 .f32 => (truncf .bf16 y bitsLt_bf16_f32 : FVec Ideal S2x2816x1024 .bf16)) (W4_args m ρ c main_arg13 (by decide)))
  rw [e23, e24, e14, hidden_eq, resid_eq', resid_eq, V5_arg m ρ c main_arg8 (by decide)]
  exact Cert.PromptRefIdeal.Rows.v107_at (a0 m c) (a1 m c) (a2 m c) (a3 m c) (a4 m c) (a5 m c) (a6 m c) (a7 m c) (a8 m c) (a9 m c) (a10 m c) (a11 m c) (a12 m c) (a13 m c) n r d _
    (fun d => Cert.PromptRefIdeal.Rows.v79_at (a0 m c) (a1 m c) (a2 m c) (a3 m c) (a4 m c) (a5 m c) (a6 m c) (a7 m c) (a8 m c) (a9 m c) (a10 m c) (a11 m c) (a12 m c) (a13 m c) n r d _ _ (fun _ => rfl) (fun _ => rfl))

end Cert.PromptIdeal.Rows
-- ==== Proof.PromptClaims.lean ====
/- The claims about the layer's last three calls on the prompt batch, assembled. -/
module

public import proofs.«01_k».proof.Defs
public import proofs.«01_k».proof.Proof.Gen.Prompt.Frame
public import proofs.«01_k».proof.Proof.Gen.PromptRefIdeal.Run
public import proofs.«01_k».proof.Proof.PromptRun
public import proofs.«01_k».proof.Proof.PromptVal
public import Idealize.ShloMosaic.Lib.Quiescent
public import Idealize.ShloMosaic.Lib.Claim

@[expose] public section

set_option maxRecDepth 16384

noncomputable section

namespace Cert.Prompt.Claims

open Idealize.ShloMosaic Idealize.SL.Sem Idealize.ShloMosaic.TcCoe

theorem frame_kernel : Cert.quiescent_Prompt := fun m ρ _ => Cert.Prompt.Gen.frame m ρ

theorem frame_ideal : Cert.quiescent_PromptIdeal := fun m ρ _ => Cert.PromptIdeal.Gen.frame m ρ

theorem frame_ref : Cert.quiescent_PromptRefIdeal := fun m ρ _ =>
  (θ_run Cert.PromptRefIdeal.defs _ _).mono (fun r h => ⟨fun c => (h c).2, sem_eq_zero_of_no_sems (by decide) r.2⟩) (Cert.PromptRefIdeal.Value.run m ρ)

theorem preserves : Cert.preserves_Prompt_PromptIdeal := trivial

theorem algebraic : Cert.algebraic_PromptIdeal_PromptRefIdeal := by
  intro m g m' g' _ hargs
  refine ⟨fun c => Cert.PromptIdeal.Gen.W6 m g c (Proc.devRef .tc Cert.PromptIdeal.main_v25), ?_, ?_⟩
  · exact (θ_run Cert.PromptIdeal.defs _ _).mono (fun _ h c => ⟨h.1 c, h.2.1 c⟩)
      (θ_run_and (Cert.PromptIdeal.Rows.run_result m g) (Cert.PromptIdeal.Gen.frame m g))
  · refine (θ_run Cert.PromptRefIdeal.defs _ _).mono (fun _ h c => ⟨(h c).1.trans ?_, (h c).2⟩) (Cert.PromptRefIdeal.Value.run m' g')
    rw [Cert.PromptRefIdeal.Read.val_main_v107_eq]
    obtain ⟨e0, e1, e2, e3, e4, e5, e6, e7, e8, e9, e10, e11, e12, e13⟩ := hargs c
    have f0 : StableHlo.launchContents m' c (Proc.devRef .tc Cert.PromptRefIdeal.main_arg0) = Cert.PromptIdeal.Rows.a0 m c := e0
    have f1 : StableHlo.launchContents m' c (Proc.devRef .tc Cert.PromptRefIdeal.main_arg1) = Cert.PromptIdeal.Rows.a1 m c := e1
    have f2 : StableHlo.launchContents m' c (Proc.devRef .tc Cert.PromptRefIdeal.main_arg2) = Cert.PromptIdeal.Rows.a2 m c := e2
    have f3 : StableHlo.launchContents m' c (Proc.devRef .tc Cert.PromptRefIdeal.main_arg3) = Cert.PromptIdeal.Rows.a3 m c := e3
    have f4 : StableHlo.launchContents m' c (Proc.devRef .tc Cert.PromptRefIdeal.main_arg4) = Cert.PromptIdeal.Rows.a4 m c := e4
    have f5 : StableHlo.launchContents m' c (Proc.devRef .tc Cert.PromptRefIdeal.main_arg5) = Cert.PromptIdeal.Rows.a5 m c := e5
    have f6 : StableHlo.launchContents m' c (Proc.devRef .tc Cert.PromptRefIdeal.main_arg6) = Cert.PromptIdeal.Rows.a6 m c := e6
    have f7 : StableHlo.launchContents m' c (Proc.devRef .tc Cert.PromptRefIdeal.main_arg7) = Cert.PromptIdeal.Rows.a7 m c := e7
    have f8 : StableHlo.launchContents m' c (Proc.devRef .tc Cert.PromptRefIdeal.main_arg8) = Cert.PromptIdeal.Rows.a8 m c := e8
    have f9 : StableHlo.launchContents m' c (Proc.devRef .tc Cert.PromptRefIdeal.main_arg9) = Cert.PromptIdeal.Rows.a9 m c := e9
    have f10 : StableHlo.launchContents m' c (Proc.devRef .tc Cert.PromptRefIdeal.main_arg10) = Cert.PromptIdeal.Rows.a10 m c := e10
    have f11 : StableHlo.launchContents m' c (Proc.devRef .tc Cert.PromptRefIdeal.main_arg11) = Cert.PromptIdeal.Rows.a11 m c := e11
    have f12 : StableHlo.launchContents m' c (Proc.devRef .tc Cert.PromptRefIdeal.main_arg12) = Cert.PromptIdeal.Rows.a12 m c := e12
    have f13 : StableHlo.launchContents m' c (Proc.devRef .tc Cert.PromptRefIdeal.main_arg13) = Cert.PromptIdeal.Rows.a13 m c := e13
    rw [f0, f1, f2, f3, f4, f5, f6, f7, f8, f9, f10, f11, f12, f13]
    exact (Cert.PromptIdeal.Rows.result_eq m g c).symm

end Cert.Prompt.Claims
-- ==== Proof.RopeRows.lean ====
/- The axial rotary embedding of one point of the sequence, as formulas over the extended reals. -/
module

public import Idealize.ShloMosaic.PureOps.Ideal
public import Idealize.ShloMosaic.Lib.ValueIdx

@[expose] public section

noncomputable section

namespace Cert.Layer

open Idealize.ShloMosaic

/-- The `f`th frequency: 10000 to the power of minus `2 f / 16`. -/
def frequency (f : ℕ) : EReal :=
  Ideal.pow (Ideal.ofBits FTy.f32 0x461C4000#32)
    (Ideal.div (-(Ideal.ofBits FTy.f32 0x40000000#32 * FloatOps.sitofp (F := Ideal) FTy.f32 (BitVec.ofNat 32 f))) (Ideal.ofBits FTy.f32 0x41800000#32))

/-- The place of the point `r` on an axis of the grid of 64 columns: its row (axis 0) or its column. -/
def place (a r : ℕ) : EReal := FloatOps.sitofp (F := Ideal) FTy.f32 (BitVec.ofNat 32 (if a < 1 then r / 64 else r % 64))

/-- The angle that the pair `f` of an axis turns by. -/
def angle (a r f : ℕ) : EReal := place a r * frequency f

/-- A row of projected columns with its queries and keys (the first 512) turned: in each sixteen columns of an axis, the
    first eight are the first coordinates of the pairs and the last eight the second ones. -/
def rotated (y : Fin 3072 → EReal) (r : ℕ) (j : Fin 3072) : EReal :=
  if h : j.val < 512 then
    if h' : j.val % 16 < 8 then
      y j * Ideal.cos (angle (j.val / 16 % 2) r (j.val % 8)) - y ⟨j.val + 8, by omega⟩ * Ideal.sin (angle (j.val / 16 % 2) r (j.val % 8))
    else
      y j * Ideal.cos (angle (j.val / 16 % 2) r (j.val % 8)) + y ⟨j.val - 8, by omega⟩ * Ideal.sin (angle (j.val / 16 % 2) r (j.val % 8))
  else y j

/-- The three tables: the cosine of a column's angle, -/
def cosTable (r j : ℕ) : EReal := Ideal.cos (angle (j / 16 % 2) r (j % 8))
/-- minus its sine on first coordinates, -/
def leftTable (r j : ℕ) : EReal := if j % 16 < 8 then -Ideal.sin (angle (j / 16 % 2) r (j % 8)) else 0
/-- and its sine on second ones. -/
def rightTable (r j : ℕ) : EReal := if j % 16 < 8 then 0 else Ideal.sin (angle (j / 16 % 2) r (j % 8))

/-- A turned column by the tables: the column itself, the one eight to its right and the one eight to its left, around the
    512 columns. One of the last two always has weight 0. -/
theorem rotated_eq (y : Fin 3072 → EReal) (r : ℕ) (j : Fin 3072) (h : j.val < 512) (p q : Fin 3072) (hp : p.val = (j.val + 8) % 512) (hq : q.val = (j.val + 504) % 512) :
    y j * cosTable r j.val + y p * leftTable r j.val + y q * rightTable r j.val = rotated y r j := by
  unfold rotated cosTable leftTable rightTable
  rw [dif_pos h]
  split_ifs with h'
  · rw [mul_zero, add_zero, mul_neg, ← sub_eq_add_neg]
    rw [show p = ⟨j.val + 8, by omega⟩ from Fin.ext (by show p.val = j.val + 8; omega)]
  · rw [mul_zero, add_zero]
    rw [show q = ⟨j.val - 8, by omega⟩ from Fin.ext (by show q.val = j.val - 8; omega)]

end Cert.Layer
-- ==== Proof.RopePay.lean ====
/- What the rotated input projection stores, at an index. -/
module

public import proofs.«01_k».proof.Proof.Gen.RopeIdeal.Frame
public import proofs.«01_k».proof.Proof.LayerRows
public import proofs.«01_k».proof.Proof.RopeRows
public import Idealize.ShloMosaic.PureOps.Ideal
public import Idealize.ShloMosaic.Lib.Pointwise
public import Idealize.ShloMosaic.Lib.ValueIdx
public import Idealize.ShloMosaic.Lib.Pipeline.ValueKit.Basic

@[expose] public section

set_option maxRecDepth 16384

noncomputable section

namespace Cert.RopeIdeal.Rows

open Cert.RopeIdeal.Gen Cert.Layer
open Idealize.ShloMosaic Idealize.ShloMosaic.TcCoe Idealize.ShloMosaic.Tactic

/-- The row a block holds. -/
abbrev row {n : ℕ} (x : (⟨3, ![1, 512, n]⟩ : Shape).Idx → EReal) (r : Fin 512) : Fin n → EReal := fun k => x (ix3 (0 : Fin 1) r k)

variable (v0 : Vec Ideal S1x512x1024 .f32) (v18 v24 : Vec Ideal S1x1x1024 .f32) (v29 : Vec Ideal S1x1024x3072 .bf16) (v33 v37 v42 : Vec Ideal S512x512 .f32)

/-- The projection. -/
theorem proj_at (r : Fin 512) (j : Fin 3072) :
    k0_pay3 v0 v18 v24 v29 (ix2 r j)
      = projected (row v0 r) (fun d => v18 (ix3 0 0 d)) (fun d => v24 (ix3 0 0 d)) (fun k => v29 (ix3 0 k j)) := by
  unfold k0_pay3; pointwise
  rfl

/-- The first 512 columns: the column itself, the one eight to its right and the one eight to its left, weighed by the three tables. -/
theorem turned_at (b : Fin 1) (r j : Fin 512) :
    k0_pay1 (k0_pay4 v0 v18 v24 v29) (k0_pay5 v0 v18 v24 v29 v33) 504#32 v37 v42 (ix3 b r j)
      = k0_pay3 v0 v18 v24 v29 (ix2 r (⟨j.val, by omega⟩ : Fin 3072)) * v33 (ix2 r j)
        + k0_pay3 v0 v18 v24 v29 (ix2 r (⟨(j.val + 512 - 504) % 512, by omega⟩ : Fin 3072)) * v37 (ix2 r j)
        + k0_pay3 v0 v18 v24 v29 (ix2 r (⟨(j.val + 512 - 8) % 512, by omega⟩ : Fin 3072)) * v42 (ix2 r j) := by
  unfold k0_pay1 k0_pay5 k0_pay4
  pointwise

/-- The other columns. -/
theorem rest_at (b : Fin 1) (r : Fin 512) (j : Fin 2560) :
    k0_pay2 (k0_pay3 v0 v18 v24 v29) (ix3 b r j) = k0_pay3 v0 v18 v24 v29 (ix2 r (⟨512 + j.val, by omega⟩ : Fin 3072)) := by
  unfold k0_pay2
  pointwise

end Cert.RopeIdeal.Rows
-- ==== Proof.RopeArr.lean ====
/- What each window of the rotated input projection reads of its array, and what the call leaves in its output array. -/
module
public import proofs.«01_k».proof.Proof.RopePay
public import proofs.«01_k».proof.Proof.Gen.RopeIdeal.Points
public import Idealize.ShloMosaic.Lib.Pipeline.Value
public import Idealize.ShloMosaic.Lib.WritesUnit
@[expose] public section
set_option maxRecDepth 16384
noncomputable section
namespace Cert.RopeIdeal.Rows
open Cert.RopeIdeal.Gen Cert.Layer
open Idealize.ShloMosaic Idealize.ShloMosaic.TcCoe Idealize.ShloMosaic.Tactic
open Idealize.ShloMosaic.Pipeline (Dat Cfg Window)
variable (m : (ℓ : Loc nD τ sig) → Buf (Elt Ideal) ℓ) (c : Dev nD)
/-- Reading the output block at one of the first 512 columns gives what the earlier of its two stores put there. -/
theorem read_low (w1 : Vec Ideal S1x512x2560 .f32) (w2 : Vec Ideal S1x512x512 .f32) (r j : Fin 512) :
    View.read (Elt Ideal) VO0_7 (VO0_7.writes (Elt Ideal) VO0_7.junk
      [⟨Rect.unit ![0, 0, 512] ![1, 512, 2560] inb_S1x512x3072_S1x512x2560_0_0_512, w1⟩,
        ⟨Rect.unit ![0, 0, 0] ![1, 512, 512] inb_S1x512x3072_S1x512x512_0_0_0, w2⟩]) (ix3 0 r (⟨j.val, by omega⟩ : Fin 3072)) = w2 (ix3 0 r j) := by
  refine (View.read_writes_cons_unit_of_not_mem (off' := ![0, 0, 512]) VO0_7 _ _ w1 _ (ix3 0 r (⟨j.val, by omega⟩ : Fin 3072)) rfl (2 : Fin 3) (Or.inl ?_)).trans
    (View.read_writes_cons_unit_of_mem (off' := ![0, 0, 0]) VO0_7 _ _ w2 _ (ix3 0 r (⟨j.val, by omega⟩ : Fin 3072)) (ix3 0 r j) rfl (fun a => ?_))
  · show j.val < 512; omega
  · fin_cases a
    · rfl
    · show r.val = 0 + r.val; omega
    · show j.val = 0 + j.val; omega

/-- At a later column, what the later store put there. -/
theorem read_high (w1 : Vec Ideal S1x512x2560 .f32) (w2 : Vec Ideal S1x512x512 .f32) (r : Fin 512) (j : Fin 2560) :
    View.read (Elt Ideal) VO0_7 (VO0_7.writes (Elt Ideal) VO0_7.junk
      [⟨Rect.unit ![0, 0, 512] ![1, 512, 2560] inb_S1x512x3072_S1x512x2560_0_0_512, w1⟩,
        ⟨Rect.unit ![0, 0, 0] ![1, 512, 512] inb_S1x512x3072_S1x512x512_0_0_0, w2⟩]) (ix3 0 r (⟨512 + j.val, by omega⟩ : Fin 3072)) = w1 (ix3 0 r j) := by
  refine View.read_writes_cons_unit_of_mem (off' := ![0, 0, 512]) VO0_7 _ _ w1 _ (ix3 0 r (⟨512 + j.val, by omega⟩ : Fin 3072)) (ix3 0 r j) rfl (fun a => ?_)
  fin_cases a
  · rfl
  · show r.val = 0 + r.val; omega
  · rfl

/-- One point's block of the projection. -/
abbrev proj (t : Fin cfg0.N) : Vec Ideal S512x3072 .f32 := k0_pay3 (iblk m c 0 t) (iblk m c 1 t) (iblk m c 2 t) (iblk m c 3 t)

/-- The first 512 columns of the block a point leaves. -/
theorem out_low (t : Fin cfg0.N) (r j : Fin 512) :
    (outsAt0 m c t : Vec Ideal S1x512x3072 .f32) (ix3 0 r (⟨j.val, by omega⟩ : Fin 3072))
      = proj m c t (ix2 r (⟨j.val, by omega⟩ : Fin 3072)) * (iblk m c 4 t : Vec Ideal S512x512 .f32) (ix2 r j)
        + proj m c t (ix2 r (⟨(j.val + 512 - 504) % 512, by omega⟩ : Fin 3072)) * (iblk m c 5 t : Vec Ideal S512x512 .f32) (ix2 r j)
        + proj m c t (ix2 r (⟨(j.val + 512 - 8) % 512, by omega⟩ : Fin 3072)) * (iblk m c 6 t : Vec Ideal S512x512 .f32) (ix2 r j) := by
  unfold outsAt0 out0_A_7 kernelRun0_A
  dsimp only
  refine (read_low _ _ r j).trans ?_
  unfold kernelRun0_A.sl.r_1 kernelRun0_A.sl.r_2
  simp only [View.readAt_eq_ld, Memref.IsWhole.read_unread]
  rw [View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide)]
  exact turned_at _ _ _ _ _ _ _ 0 r j

/-- The other columns of the block a point leaves. -/
theorem out_high (t : Fin cfg0.N) (r : Fin 512) (j : Fin 2560) :
    (outsAt0 m c t : Vec Ideal S1x512x3072 .f32) (ix3 0 r (⟨512 + j.val, by omega⟩ : Fin 3072)) = proj m c t (ix2 r (⟨512 + j.val, by omega⟩ : Fin 3072)) := by
  unfold outsAt0 out0_A_7 kernelRun0_A
  dsimp only
  refine (read_high _ _ r j).trans ?_
  unfold kernelRun0_A.sl.r
  simp only [View.readAt_eq_ld, Memref.IsWhole.read_unread]
  rw [View.ld_unit_lit _ _ (by decide), View.ld_unit_lit _ _ (by decide), View.ld_unit_lit _ _ (by decide), View.ld_unit_lit _ _ (by decide)]
  exact rest_at _ _ _ _ 0 r j

/-- The row of one point of one batch element, in an array. -/
abbrev at3 {a b n : ℕ} (x : (⟨3, ![a, b, n]⟩ : Shape).Idx → EReal) (i : Fin a) (r : Fin b) : Fin n → EReal := fun k => x (ix3 i r k)

theorem word_0 (t : Fin grid0.N) : (BitVec.ofNat 32 (grid0.coords t 0).val).toNat = t.val / 8 := by
  have ht : t.val < 32 := Nat.lt_of_lt_of_eq t.isLt N_0
  have e : (grid0.coords t 0).val = t.val / 8 % 4 := Pipeline.Grid.coords_val t 0 (by decide) rfl
  rw [e, BitVec.toNat_ofNat]; omega

theorem word_1 (t : Fin grid0.N) : (BitVec.ofNat 32 (grid0.coords t 1).val).toNat = t.val % 8 := by
  have e : (grid0.coords t 1).val = t.val / 1 % 8 := Pipeline.Grid.coords_val t 1 (by decide) rfl
  rw [e, BitVec.toNat_ofNat]; omega

theorem blk_0 (t : Fin cfg0.N) (a : Fin 1) (r : Fin 512) (d : Fin 1024) (n : Fin 4) (q : Fin 4096) (g : Fin 1024)
    (h0 : n.val = 1 * (t.val / 8) + a.val) (h1 : q.val = 512 * (t.val % 8) + r.val) (h2 : g.val = 1024 * 0 + d.val) :
    (iblk m c 0 t : Vec Ideal S1x512x1024 .f32) (ix3 a r d) = (V m c main_arg0 : Vec Ideal S4x4096x1024 .f32) (ix3 n q g) := by
  have e : (iblk m c 0 t : Vec Ideal S1x512x1024 .f32) (ix3 a r d) = (V m c main_arg0 : Vec Ideal S4x4096x1024 .f32) ((win0_0.rect t).emb (ix3 a r d)) := rfl
  rw [e]
  congr 1; funext x; apply Fin.ext; rw [win0_0.rect_emb_val t (ix3 a r d) x]
  fin_cases x
  · show (BitVec.ofNat 32 (grid0.coords t 0).val).toNat * 1 + a.val = n.val; rw [word_0]; omega
  · show (BitVec.ofNat 32 (grid0.coords t 1).val).toNat * 512 + r.val = q.val; rw [word_1]; omega
  · show 0 * 1024 + d.val = g.val; omega

theorem blk_1 (t : Fin cfg0.N) (a : Fin 1) (r : Fin 1) (d : Fin 1024) (n : Fin 4) (q : Fin 1) (g : Fin 1024)
    (h0 : n.val = 1 * (t.val / 8) + a.val) (h1 : q.val = 1 * 0 + r.val) (h2 : g.val = 1024 * 0 + d.val) :
    (iblk m c 1 t : Vec Ideal S1x1x1024 .f32) (ix3 a r d) = (V m c main_arg1 : Vec Ideal S4x1x1024 .f32) (ix3 n q g) := by
  have e : (iblk m c 1 t : Vec Ideal S1x1x1024 .f32) (ix3 a r d) = (V m c main_arg1 : Vec Ideal S4x1x1024 .f32) ((win0_1.rect t).emb (ix3 a r d)) := rfl
  rw [e]
  congr 1; funext x; apply Fin.ext; rw [win0_1.rect_emb_val t (ix3 a r d) x]
  fin_cases x
  · show (BitVec.ofNat 32 (grid0.coords t 0).val).toNat * 1 + a.val = n.val; rw [word_0]; omega
  · show 0 * 1 + r.val = q.val; omega
  · show 0 * 1024 + d.val = g.val; omega

theorem blk_2 (t : Fin cfg0.N) (a : Fin 1) (r : Fin 1) (d : Fin 1024) (n : Fin 4) (q : Fin 1) (g : Fin 1024)
    (h0 : n.val = 1 * (t.val / 8) + a.val) (h1 : q.val = 1 * 0 + r.val) (h2 : g.val = 1024 * 0 + d.val) :
    (iblk m c 2 t : Vec Ideal S1x1x1024 .f32) (ix3 a r d) = (V m c main_arg2 : Vec Ideal S4x1x1024 .f32) (ix3 n q g) := by
  have e : (iblk m c 2 t : Vec Ideal S1x1x1024 .f32) (ix3 a r d) = (V m c main_arg2 : Vec Ideal S4x1x1024 .f32) ((win0_2.rect t).emb (ix3 a r d)) := rfl
  rw [e]
  congr 1; funext x; apply Fin.ext; rw [win0_2.rect_emb_val t (ix3 a r d) x]
  fin_cases x
  · show (BitVec.ofNat 32 (grid0.coords t 0).val).toNat * 1 + a.val = n.val; rw [word_0]; omega
  · show 0 * 1 + r.val = q.val; omega
  · show 0 * 1024 + d.val = g.val; omega

theorem blk_3 (t : Fin cfg0.N) (a : Fin 1) (r : Fin 1024) (d : Fin 3072) (n : Fin 2) (q : Fin 1024) (g : Fin 3072)
    (h0 : n.val = 1 * 0 + a.val) (h1 : q.val = 1024 * 0 + r.val) (h2 : g.val = 3072 * 0 + d.val) :
    (iblk m c 3 t : Vec Ideal S1x1024x3072 .bf16) (ix3 a r d) = (V m c main_v0 : Vec Ideal S2x1024x3072 .bf16) (ix3 n q g) := by
  have e : (iblk m c 3 t : Vec Ideal S1x1024x3072 .bf16) (ix3 a r d) = (V m c main_v0 : Vec Ideal S2x1024x3072 .bf16) ((win0_3.rect t).emb (ix3 a r d)) := rfl
  rw [e]
  congr 1; funext x; apply Fin.ext; rw [win0_3.rect_emb_val t (ix3 a r d) x]
  fin_cases x
  · show 0 * 1 + a.val = n.val; omega
  · show 0 * 1024 + r.val = q.val; omega
  · show 0 * 3072 + d.val = g.val; omega

theorem blk_4 (t : Fin cfg0.N) (r d : Fin 512) (q : Fin 4096) (h : q.val = 512 * (t.val % 8) + r.val) :
    (iblk m c 4 t : Vec Ideal S512x512 .f32) (ix2 r d) = (V m c main_v38 : Vec Ideal S4096x512 .f32) (ix2 q d) := by
  have e : (iblk m c 4 t : Vec Ideal S512x512 .f32) (ix2 r d) = (V m c main_v38 : Vec Ideal S4096x512 .f32) ((win0_4.rect t).emb (ix2 r d)) := rfl
  rw [e]
  congr 1; funext x; apply Fin.ext; rw [win0_4.rect_emb_val t (ix2 r d) x]
  fin_cases x
  · show (BitVec.ofNat 32 (grid0.coords t 1).val).toNat * 512 + r.val = q.val; rw [word_1]; omega
  · show 0 * 512 + d.val = d.val; omega

theorem blk_5 (t : Fin cfg0.N) (r d : Fin 512) (q : Fin 4096) (h : q.val = 512 * (t.val % 8) + r.val) :
    (iblk m c 5 t : Vec Ideal S512x512 .f32) (ix2 r d) = (V m c main_v46 : Vec Ideal S4096x512 .f32) (ix2 q d) := by
  have e : (iblk m c 5 t : Vec Ideal S512x512 .f32) (ix2 r d) = (V m c main_v46 : Vec Ideal S4096x512 .f32) ((win0_5.rect t).emb (ix2 r d)) := rfl
  rw [e]
  congr 1; funext x; apply Fin.ext; rw [win0_5.rect_emb_val t (ix2 r d) x]
  fin_cases x
  · show (BitVec.ofNat 32 (grid0.coords t 1).val).toNat * 512 + r.val = q.val; rw [word_1]; omega
  · show 0 * 512 + d.val = d.val; omega

theorem blk_6 (t : Fin cfg0.N) (r d : Fin 512) (q : Fin 4096) (h : q.val = 512 * (t.val % 8) + r.val) :
    (iblk m c 6 t : Vec Ideal S512x512 .f32) (ix2 r d) = (V m c main_v52 : Vec Ideal S4096x512 .f32) (ix2 q d) := by
  have e : (iblk m c 6 t : Vec Ideal S512x512 .f32) (ix2 r d) = (V m c main_v52 : Vec Ideal S4096x512 .f32) ((win0_6.rect t).emb (ix2 r d)) := rfl
  rw [e]
  congr 1; funext x; apply Fin.ext; rw [win0_6.rect_emb_val t (ix2 r d) x]
  fin_cases x
  · show (BitVec.ofNat 32 (grid0.coords t 1).val).toNat * 512 + r.val = q.val; rw [word_1]; omega
  · show 0 * 512 + d.val = d.val; omega

/-- Every element of the output lies in the block of some point. -/
theorem covered (i : S4x4096x3072.Idx) : ∃ t : Fin cfg0.N, (cfg0.win 7).flush t = true ∧ i ∈ ((cfg0.win 7).blk t).view.set := by
  have b0 : (i 0).val < 4 := (i 0).isLt
  have b1 : (i 1).val < 4096 := (i 1).isLt
  have b2 : (i 2).val < 3072 := (i 2).isLt
  have ht : 8 * (i 0).val + (i 1).val / 512 < cfg0.N := by rw [show cfg0.N = 32 from N_0]; omega
  refine ⟨⟨8 * (i 0).val + (i 1).val / 512, ht⟩, flush0_7 _, ?_⟩
  show i ∈ ((View.whole main_v53).slice (win0_7.rect ⟨8 * (i 0).val + (i 1).val / 512, ht⟩)).set
  rw [View.set_slice_whole, Rect.mem_set_unit]
  have w0 := word_0 ⟨8 * (i 0).val + (i 1).val / 512, ht⟩
  have w1 := word_1 ⟨8 * (i 0).val + (i 1).val / 512, ht⟩
  intro a
  fin_cases a
  · show (BitVec.ofNat 32 (grid0.coords _ 0).val).toNat * 1 ≤ (i 0).val ∧ (i 0).val < (BitVec.ofNat 32 (grid0.coords _ 0).val).toNat * 1 + 1
    rw [w0]; simp only []; omega
  · show (BitVec.ofNat 32 (grid0.coords _ 1).val).toNat * 512 ≤ (i 1).val ∧ (i 1).val < (BitVec.ofNat 32 (grid0.coords _ 1).val).toNat * 512 + 512
    rw [w1]; simp only []; omega
  · show 0 * 3072 ≤ (i 2).val ∧ (i 2).val < 0 * 3072 + 3072
    omega

/-- The projection of a point of the sequence, from the arrays the call reads. -/
abbrev full (n : Fin 4) (r : Fin 4096) (j : Fin 3072) : EReal :=
  projected (at3 (V m c main_arg0 : Vec Ideal S4x4096x1024 .f32) n r) (at3 (V m c main_arg1 : Vec Ideal S4x1x1024 .f32) n 0) (at3 (V m c main_arg2 : Vec Ideal S4x1x1024 .f32) n 0)
    (fun k => (V m c main_v0 : Vec Ideal S2x1024x3072 .bf16) (ix3 0 k j))

theorem proj_full (t : Fin cfg0.N) (r : Fin 512) (j : Fin 3072) (n : Fin 4) (q : Fin 4096) (hn : n.val = t.val / 8) (hq : q.val = 512 * (t.val % 8) + r.val) :
    proj m c t (ix2 r j) = full m c n q j := by
  refine (proj_at _ _ _ _ r j).trans ?_
  have e0 : row (iblk m c 0 t : Vec Ideal S1x512x1024 .f32) r = at3 (V m c main_arg0 : Vec Ideal S4x4096x1024 .f32) n q :=
    funext fun d => blk_0 m c t 0 r d n q d (by rw [hn]; show _ = 1 * (t.val / 8) + 0; omega) hq (by omega)
  have e1 : (fun d => (iblk m c 1 t : Vec Ideal S1x1x1024 .f32) (ix3 0 0 d)) = at3 (V m c main_arg1 : Vec Ideal S4x1x1024 .f32) n 0 :=
    funext fun d => blk_1 m c t 0 0 d n 0 d (by rw [hn]; show _ = 1 * (t.val / 8) + 0; omega) (by decide) (by omega)
  have e2 : (fun d => (iblk m c 2 t : Vec Ideal S1x1x1024 .f32) (ix3 0 0 d)) = at3 (V m c main_arg2 : Vec Ideal S4x1x1024 .f32) n 0 :=
    funext fun d => blk_2 m c t 0 0 d n 0 d (by rw [hn]; show _ = 1 * (t.val / 8) + 0; omega) (by decide) (by omega)
  have e3 : (fun k => (iblk m c 3 t : Vec Ideal S1x1024x3072 .bf16) (ix3 0 k j)) = fun k => (V m c main_v0 : Vec Ideal S2x1024x3072 .bf16) (ix3 0 k j) :=
    funext fun k => blk_3 m c t 0 k j 0 k j (by decide) (by omega) (by omega)
  rw [e0, e1, e2, e3]

/-- Any array that agrees with the two formulas everywhere is what the call leaves. -/
theorem arr (G : Vec Ideal S4x4096x3072 .f32)
    (hlow : ∀ (n : Fin 4) (r : Fin 4096) (j : Fin 512), G (ix3 n r (⟨j.val, by omega⟩ : Fin 3072))
      = full m c n r (⟨j.val, by omega⟩ : Fin 3072) * (V m c main_v38 : Vec Ideal S4096x512 .f32) (ix2 r j)
        + full m c n r (⟨(j.val + 512 - 504) % 512, by omega⟩ : Fin 3072) * (V m c main_v46 : Vec Ideal S4096x512 .f32) (ix2 r j)
        + full m c n r (⟨(j.val + 512 - 8) % 512, by omega⟩ : Fin 3072) * (V m c main_v52 : Vec Ideal S4096x512 .f32) (ix2 r j))
    (hhigh : ∀ (n : Fin 4) (r : Fin 4096) (j : Fin 2560), G (ix3 n r (⟨512 + j.val, by omega⟩ : Fin 3072)) = full m c n r (⟨512 + j.val, by omega⟩ : Fin 3072)) :
    (dats m 0 c).arrAt 7 cfg0.N = G := by
  refine (dats m 0 c).arrAt_eq_of_cover 7 G (fun t _ => ?_) covered
  have ht : t.val < 32 := Nat.lt_of_lt_of_eq t.isLt N_0
  funext y
  obtain ⟨o, b, x, rfl⟩ : ∃ o b x, y = ix3 (n0 := 1) (n1 := 512) (n2 := 3072) o b x := ⟨_, _, _, eq_ix3 y⟩
  obtain rfl : o = 0 := Subsingleton.elim _ _
  have el : (dats m 0 c).flushed 7 t (ix3 0 b x) = (outsAt0 m c t : Vec Ideal S1x512x3072 .f32) (ix3 0 b x) := by
    show (dats m 0 c).after 7 t _ = _
    rw [after0_7]; rfl
  have ei : (win0_7.rect t).emb (ix3 0 b x) = ix3 (⟨t.val / 8, by omega⟩ : Fin 4) (⟨512 * (t.val % 8) + b.val, by omega⟩ : Fin 4096) x := by
    funext a; apply Fin.ext; rw [win0_7.rect_emb_val t (ix3 0 b x) a]
    fin_cases a
    · show (BitVec.ofNat 32 (grid0.coords t 0).val).toNat * 1 + 0 = t.val / 8; rw [word_0]; omega
    · show (BitVec.ofNat 32 (grid0.coords t 1).val).toNat * 512 + b.val = 512 * (t.val % 8) + b.val; rw [word_1]; omega
    · show 0 * 3072 + x.val = x.val; omega
  have er : ((cfg0.win 7).blk t).view.read (Elt Ideal) G (ix3 0 b x) = G ((win0_7.rect t).emb (ix3 0 b x)) := rfl
  refine el.trans (Eq.trans ?_ er.symm)
  rw [ei]
  have P := fun j => proj_full m c t b j (⟨t.val / 8, by omega⟩ : Fin 4) (⟨512 * (t.val % 8) + b.val, by omega⟩ : Fin 4096) rfl rfl
  by_cases h : x.val < 512
  · obtain ⟨j, hj⟩ : ∃ j : Fin 512, x = (⟨j.val, by omega⟩ : Fin 3072) := ⟨⟨x.val, h⟩, rfl⟩
    rw [hj, hlow]
    refine (out_low m c t b j).trans ?_
    rw [P, P, P, blk_4 m c t b j (⟨512 * (t.val % 8) + b.val, by omega⟩ : Fin 4096) rfl, blk_5 m c t b j (⟨512 * (t.val % 8) + b.val, by omega⟩ : Fin 4096) rfl, blk_6 m c t b j (⟨512 * (t.val % 8) + b.val, by omega⟩ : Fin 4096) rfl]
  · obtain ⟨j, hj⟩ : ∃ j : Fin 2560, x = (⟨512 + j.val, by omega⟩ : Fin 3072) := ⟨⟨x.val - 512, by omega⟩, Fin.ext (show x.val = 512 + (x.val - 512) by omega)⟩
    rw [hj, hhigh]
    exact (out_high m c t b j).trans (P _)

end Cert.RopeIdeal.Rows
-- ==== Proof.RopeTab.lean ====
/- The three tables of the rotary embedding that the host makes for the rotated input projection, at an index. -/
module

public import proofs.«01_k».proof.Proof.RopePay
public import Idealize.ShloMosaic.Lib.StableHlo.RunClose

@[expose] public section

set_option maxRecDepth 16384

noncomputable section

namespace Cert.RopeIdeal.Rows

open Cert.RopeIdeal.Gen Cert.Layer
open Idealize.ShloMosaic Idealize.ShloMosaic.TcCoe Idealize.ShloMosaic.Tactic

theorem zeroWord : Ideal.ofBits FTy.f32 0x00000000#32 = 0 := by simp [Ideal.ofBits, Ideal.ieee]

/-- The eight frequencies. -/
def freqs : FVec Ideal S8 .f32 :=
  Host.powf (broadcastInDim S8 ![] bcast_S_S8 (constant S_ .f32 0x461C4000#32 : FVec Ideal S_ .f32))
    (Host.divf (Host.negf (addf (broadcastInDim S8 ![] bcast_S_S8 (constant S_ .f32 0x00000000#32 : FVec Ideal S_ .f32))
        (mulf (broadcastInDim S8 ![] bcast_S_S8 (constant S_ .f32 0x40000000#32 : FVec Ideal S_ .f32)) (sitofp .f32 (iotaInDim S8 32 0)))))
      (broadcastInDim S8 ![] bcast_S_S8 (constant S_ .f32 0x41800000#32 : FVec Ideal S_ .f32)))

/-- The points' rows and columns in the grid. -/
def rows : FVec Ideal S4096 .f32 :=
  sitofp .f32 (shapeCast S4096 (broadcastInDim S64x64 ![0] bcast_S64_S64x64_0 (iotaInDim S64 32 0)) shapeCasts_S64x64_S4096 : S4096.Idx → BitVec 32)
def cols : FVec Ideal S4096 .f32 :=
  sitofp .f32 (shapeCast S4096 (broadcastInDim S64x64 ![0, 1] bcast_S1x64_S64x64_0_1 (shapeCast S1x64 (iotaInDim S64 32 0) shapeCasts_S64_S1x64)) shapeCasts_S64x64_S4096 : S4096.Idx → BitVec 32)

/-- The angles of an axis. -/
def angles (x : FVec Ideal S4096 .f32) : FVec Ideal S4096x8 .f32 :=
  mulf (broadcastInDim S4096x8 ![0, 1] bcast_S4096x1_S4096x8_0_1 (broadcastInDim S4096x1 ![0] bcast_S4096_S4096x1_0 x))
    (broadcastInDim S4096x8 ![0, 1] bcast_S1x8_S4096x8_0_1 (broadcastInDim S1x8 ![1] bcast_S8_S1x8_1 freqs))

def zeros : FVec Ideal S4096x8 .f32 := broadcastInDim S4096x8 ![] bcast_S_S4096x8 (constant S_ .f32 0x00000000#32 : FVec Ideal S_ .f32)

/-- Four groups of eight columns side by side, sixteen times over. -/
def spread (a b d e : FVec Ideal S4096x8 .f32) : FVec Ideal S4096x512 .f32 :=
  shapeCast S4096x512 (broadcastInDim S1x4096x16x32 ![0, 1, 2, 3] bcast_S1x4096x1x32_S1x4096x16x32_0_1_2_3
    (shapeCast S1x4096x1x32 (concatenate S4096x32 1 [⟨S4096x8, a⟩, ⟨S4096x8, b⟩, ⟨S4096x8, d⟩, ⟨S4096x8, e⟩] concatenates_S4096x8_S4096x8_S4096x8_S4096x8_S4096x32_d1)
      shapeCasts_S4096x32_S1x4096x1x32)) shapeCasts_S1x4096x16x32_S4096x512

variable (W : Valuation τ sig (Elt Ideal))

theorem after_main_v0 : (StableHlo.after hostOps0 W (Proc.devRef .tc main_v0) : Vec Ideal S2x1024x3072 .bf16) = (truncf .bf16 (W (Proc.devRef .tc main_arg3) : FVec Ideal S2x1024x3072 .f32) bitsLt_bf16_f32 : FVec Ideal S2x1024x3072 .bf16) := by
  dsimp only [hostOps0]; after_results_simp <;> rfl

theorem after_main_v38 : (StableHlo.after hostOps0 W (Proc.devRef .tc main_v38) : Vec Ideal S4096x512 .f32)
    = spread (Host.cos (angles rows)) (Host.cos (angles rows)) (Host.cos (angles cols)) (Host.cos (angles cols)) := by
  dsimp only [hostOps0]; after_results_simp <;> rfl

theorem after_main_v46 : (StableHlo.after hostOps0 W (Proc.devRef .tc main_v46) : Vec Ideal S4096x512 .f32)
    = spread (Host.negf (Host.sin (angles rows))) zeros (Host.negf (Host.sin (angles cols))) zeros := by
  dsimp only [hostOps0]; after_results_simp <;> rfl

theorem after_main_v52 : (StableHlo.after hostOps0 W (Proc.devRef .tc main_v52) : Vec Ideal S4096x512 .f32)
    = spread zeros (Host.sin (angles rows)) zeros (Host.sin (angles cols)) := by
  dsimp only [hostOps0]; after_results_simp <;> rfl

theorem freqs_at (f : Fin 8) : freqs (ix1 f) = frequency f.val := by
  unfold freqs
  pointwise
  rfl

theorem rows_at (r : Fin 4096) : rows (ix1 r) = place 0 r.val := by
  unfold rows
  pointwise
  rfl

theorem cols_at (r : Fin 4096) : cols (ix1 r) = place 1 r.val := by
  unfold cols
  pointwise
  rfl

theorem angles_at (x : FVec Ideal S4096 .f32) (r : Fin 4096) (f : Fin 8) : angles x (ix2 r f) = x (ix1 r) * frequency f.val := by
  have h := freqs_at f
  unfold angles
  generalize freqs = z at h ⊢
  pointwise
  rw [h]

theorem row_angle (r : Fin 4096) (f : Fin 8) : angles rows (ix2 r f) = angle 0 r.val f.val := by
  rw [angles_at, rows_at]; rfl

theorem col_angle (r : Fin 4096) (f : Fin 8) : angles cols (ix2 r f) = angle 1 r.val f.val := by
  rw [angles_at, cols_at]; rfl

theorem zeros_at (r : Fin 4096) (f : Fin 8) : zeros (ix2 r f) = 0 := by
  unfold zeros
  pointwise

/-- Each of the 512 columns is one of the eight of the group its place in its 32 falls in. -/
theorem spread_at (a b d e : FVec Ideal S4096x8 .f32) (r : Fin 4096) (j : Fin 512) :
    spread a b d e (ix2 r j)
      = if j.val / 16 % 2 = 0 then (if j.val % 16 < 8 then a (ix2 r ⟨j.val % 8, by omega⟩) else b (ix2 r ⟨j.val % 8, by omega⟩))
        else (if j.val % 16 < 8 then d (ix2 r ⟨j.val % 8, by omega⟩) else e (ix2 r ⟨j.val % 8, by omega⟩)) := by
  unfold spread
  pointwise
  have hj := j.isLt
  by_cases h1 : j.val % 32 < 8
  · rw [dif_pos h1, if_pos (show j.val / 16 % 2 = 0 by omega), if_pos (show j.val % 16 < 8 by omega)]
    exact congrArg (fun f => a (ix2 r f)) (Fin.ext (by show j.val % 32 = j.val % 8; omega))
  rw [dif_neg h1]
  by_cases h2 : j.val % 32 - 8 < 8
  · rw [dif_pos h2, if_pos (show j.val / 16 % 2 = 0 by omega), if_neg (show ¬(j.val % 16 < 8) by omega)]
    exact congrArg (fun f => b (ix2 r f)) (Fin.ext (by show j.val % 32 - 8 = j.val % 8; omega))
  rw [dif_neg h2, if_neg (show ¬(j.val / 16 % 2 = 0) by omega)]
  by_cases h3 : j.val % 32 - 8 - 8 < 8
  · rw [dif_pos h3, if_pos (show j.val % 16 < 8 by omega)]
    exact congrArg (fun f => d (ix2 r f)) (Fin.ext (by show j.val % 32 - 8 - 8 = j.val % 8; omega))
  · rw [dif_neg h3, if_neg (show ¬(j.val % 16 < 8) by omega)]
    exact congrArg (fun f => e (ix2 r f)) (Fin.ext (by show j.val % 32 - 8 - 8 - 8 = j.val % 8; omega))

/-- The three tables are the embedding's. -/
theorem cos_at (r : Fin 4096) (j : Fin 512) :
    (StableHlo.after hostOps0 W (Proc.devRef .tc main_v38) : Vec Ideal S4096x512 .f32) (ix2 r j) = cosTable r.val j.val := by
  have ha := fun f => congrArg Ideal.cos (row_angle r f)
  have hb := fun f => congrArg Ideal.cos (col_angle r f)
  rw [after_main_v38, spread_at]
  unfold cosTable
  split_ifs with h h'
  · rw [h]; exact ha _
  · rw [h]; exact ha _
  · rw [show j.val / 16 % 2 = 1 by omega]; exact hb _
  · rw [show j.val / 16 % 2 = 1 by omega]; exact hb _

theorem left_at (r : Fin 4096) (j : Fin 512) :
    (StableHlo.after hostOps0 W (Proc.devRef .tc main_v46) : Vec Ideal S4096x512 .f32) (ix2 r j) = leftTable r.val j.val := by
  have ha := fun f => congrArg (fun z => -Ideal.sin z) (row_angle r f)
  have hb := fun f => congrArg (fun z => -Ideal.sin z) (col_angle r f)
  rw [after_main_v46, spread_at]
  unfold leftTable
  split_ifs with h h'
  · rw [h]; exact ha _
  · exact zeros_at r _
  · rw [show j.val / 16 % 2 = 1 by omega]; exact hb _
  · exact zeros_at r _

theorem right_at (r : Fin 4096) (j : Fin 512) :
    (StableHlo.after hostOps0 W (Proc.devRef .tc main_v52) : Vec Ideal S4096x512 .f32) (ix2 r j) = rightTable r.val j.val := by
  have ha := fun f => congrArg Ideal.sin (row_angle r f)
  have hb := fun f => congrArg Ideal.sin (col_angle r f)
  rw [after_main_v52, spread_at]
  unfold rightTable
  split_ifs with h h'
  · exact zeros_at r _
  · rw [h]; exact ha _
  · exact zeros_at r _
  · rw [show j.val / 16 % 2 = 1 by omega]; exact hb _

end Cert.RopeIdeal.Rows
-- ==== Proof.RopeRef.lean ====
/- The plain reference of the rotated input projection, at an index. -/
module

public import proofs.«01_k».proof.Proof.Gen.RopeRefIdeal.Read
public import proofs.«01_k».proof.Proof.LayerRows
public import proofs.«01_k».proof.Proof.RopeRows
public import Idealize.ShloMosaic.PureOps.Ideal
public import Idealize.ShloMosaic.Lib.Pointwise
public import Idealize.ShloMosaic.Lib.ValueIdx

@[expose] public section

set_option maxRecDepth 16384

noncomputable section

namespace Cert.RopeRefIdeal.Rows

open Cert.RopeRefIdeal.Read Cert.Layer
open Idealize.ShloMosaic Idealize.ShloMosaic.TcCoe Idealize.ShloMosaic.Tactic

variable (x0 : FVec Ideal S4x4096x1024 .f32) (x1 x2 : FVec Ideal S4x1x1024 .f32) (x3 : FVec Ideal S2x1024x3072 .f32)

theorem zeroWord : Ideal.ofBits FTy.f32 0x00000000#32 = 0 := by simp [Ideal.ofBits, Ideal.ieee]
theorem oneWord : Ideal.ofBits FTy.f32 0x3F800000#32 = 1 := by
  simp [Ideal.ofBits, Ideal.ieee, -EReal.coe_mul]; norm_num

/-- The row of one point of one batch element. -/
abbrev at3 {a b n : ℕ} (x : (⟨3, ![a, b, n]⟩ : Shape).Idx → EReal) (i : Fin a) (r : Fin b) : Fin n → EReal := fun k => x (ix3 i r k)

/-- The modulated norm, -/
theorem v23_at (n : Fin 4) (r : Fin 4096) (d : Fin 1024) :
    val_main_v23 (F := Ideal) x0 x1 x2 (ix3 n r d) = modNorm (at3 x0 n r) (at3 x1 n 0) (at3 x2 n 0) d := by
  unfold val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0
  pointwise
  simp only [val_main_cst_apply, val_main_cst_0_apply, val_main_cst_1_apply, val_main_cst_2_apply, val_main_cst_3_apply, val_main_cst_4_apply, Scalar.ofBits, FloatOps.ofBits, zeroWord, oneWord, zero_add]
  rfl

/-- its projection, -/
theorem v26_at (n : Fin 4) (r : Fin 4096) (j : Fin 3072) :
    val_main_v26 (F := Ideal) x0 x1 x2 x3 (ix3 n r j) = projected (at3 x0 n r) (at3 x1 n 0) (at3 x2 n 0) (fun k => x3 (ix3 0 k j)) := by
  have hc := v23_at x0 x1 x2 n r
  unfold val_main_v26 val_main_v25 val_main_v24
  generalize val_main_v23 (F := Ideal) x0 x1 x2 = y at hc ⊢
  pointwise
  simp only [hc]
  rfl

/-- the frequencies, -/
theorem v44_at (f : Fin 8) : val_main_v44 (F := Ideal) (ix1 f) = frequency f.val := by
  unfold val_main_v44 val_main_v43 val_main_v42 val_main_v41 val_main_v40 val_main_v39 val_main_v38 val_main_v37 val_main_v36 val_main_v35
  pointwise
  simp only [val_main_cst_5_apply, val_main_cst_6_apply, val_main_cst_7_apply, val_main_cst_8_apply, Scalar.ofBits, FloatOps.ofBits, zeroWord, zero_add]
  rfl

/-- the points' rows and columns, -/
theorem v32_at (r : Fin 4096) : val_main_v32 (F := Ideal) (ix1 r) = place 0 r.val := by
  unfold val_main_v32 val_main_v31 val_main_v29 val_main_v27
  pointwise
  rfl
theorem v34_at (r : Fin 4096) : val_main_v34 (F := Ideal) (ix1 r) = place 1 r.val := by
  unfold val_main_v34 val_main_v33 val_main_v30 val_main_v28
  pointwise
  rfl

/-- and the angles. -/
theorem v57_at (r : Fin 4096) (a : Fin 2) (f : Fin 8) : val_main_v57 (F := Ideal) (ix3 r a f) = angle a.val r.val f.val := by
  have h44 := v44_at f
  have h32 := v32_at r
  have h34 := v34_at r
  unfold val_main_v57 val_main_v56 val_main_v55 val_main_v54 val_main_v53 val_main_v52 val_main_v51 val_main_v50 val_main_v49 val_main_v48 val_main_v47 val_main_v46 val_main_v45
  generalize val_main_v44 (F := Ideal) = z at h44 ⊢
  generalize val_main_v34 (F := Ideal) = c at h34 ⊢
  generalize val_main_v32 (F := Ideal) = w at h32 ⊢
  pointwise
  rw [h44, h32, h34]
  split_ifs with h
  · rw [show a.val = 0 by omega]; rfl
  · rw [show a.val = 1 by omega]; rfl

/-- The turned queries: the projection's first 256 columns. -/
theorem v114_at (n : Fin 4) (r : Fin 4096) (j : Fin 256) :
    val_main_v114 (F := Ideal) x0 x1 x2 x3 (ix3 n r j) = rotated (at3 (val_main_v26 (F := Ideal) x0 x1 x2 x3) n r) r.val (⟨j.val, by omega⟩ : Fin 3072) := by
  have hz := v57_at r
  unfold val_main_v114 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60
  generalize val_main_v26 (F := Ideal) x0 x1 x2 x3 = y
  unfold val_main_v59 val_main_v58
  generalize val_main_v57 (F := Ideal) = z at hz ⊢
  pointwise
  simp only [hz]
  unfold rotated
  rw [dif_pos (show j.val < 512 by omega)]
  dsimp only
  split_ifs with h h' h'
  · congr 3 <;> (congr 1; ext; simp; omega)
  · exact absurd h (by omega)
  · exact absurd h' (by omega)
  · congr 3 <;> (congr 1; ext; simp; omega)

/-- The turned keys: the next 256. -/
theorem v115_at (n : Fin 4) (r : Fin 4096) (j : Fin 256) :
    val_main_v115 (F := Ideal) x0 x1 x2 x3 (ix3 n r j) = rotated (at3 (val_main_v26 (F := Ideal) x0 x1 x2 x3) n r) r.val (⟨256 + j.val, by omega⟩ : Fin 3072) := by
  have hz := v57_at r
  unfold val_main_v115 val_main_v113 val_main_v112 val_main_v111 val_main_v110 val_main_v109 val_main_v108 val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87
  generalize val_main_v26 (F := Ideal) x0 x1 x2 x3 = y
  unfold val_main_v59 val_main_v58
  generalize val_main_v57 (F := Ideal) = z at hz ⊢
  pointwise
  simp only [hz]
  unfold rotated
  rw [dif_pos (show 256 + j.val < 512 by omega)]
  dsimp only
  rw [show (256 + j.val) / 16 % 2 = j.val / 16 % 2 by omega, show (256 + j.val) % 8 = j.val % 8 by omega]
  split_ifs with h h' h'
  · congr 3 <;> (congr 1; ext; simp; omega)
  · exact absurd h (by omega)
  · exact absurd h' (by omega)
  · congr 3 <;> (congr 1; ext; simp; omega)

/-- The whole result. -/
theorem v117_at (n : Fin 4) (r : Fin 4096) (j : Fin 3072) :
    val_main_v117 (F := Ideal) x0 x1 x2 x3 (ix3 n r j) = rotated (at3 (val_main_v26 (F := Ideal) x0 x1 x2 x3) n r) r.val j := by
  have hq := v114_at x0 x1 x2 x3 n r
  have hk := v115_at x0 x1 x2 x3 n r
  unfold val_main_v117 val_main_v116
  generalize val_main_v114 (F := Ideal) x0 x1 x2 x3 = q at hq ⊢
  generalize val_main_v115 (F := Ideal) x0 x1 x2 x3 = k at hk ⊢
  generalize val_main_v26 (F := Ideal) x0 x1 x2 x3 = y at hq hk ⊢
  pointwise
  simp only [hq, hk]
  by_cases h : j.val < 256
  · rw [dif_pos h]
  rw [dif_neg h]
  by_cases h' : j.val - 256 < 256
  · rw [dif_pos h']
    exact congrArg _ (Fin.ext (by show 256 + (j.val - 256) = j.val; omega))
  rw [dif_neg h']
  unfold rotated
  rw [dif_neg (show ¬ j.val < 512 by omega)]
  exact congrArg (fun k => y (ix3 n r k)) (Fin.ext (by show 512 + (j.val - 256 - 256) = j.val; omega))

end Cert.RopeRefIdeal.Rows
-- ==== Proof.RopeVal.lean ====
/- The rotated input projection: the array the call leaves is the plain reference's. -/
module

public import proofs.«01_k».proof.Proof.RopeArr
public import proofs.«01_k».proof.Proof.RopeTab
public import proofs.«01_k».proof.Proof.RopeRef

@[expose] public section

set_option maxRecDepth 16384

noncomputable section

namespace Cert.RopeIdeal.Rows

open Cert.RopeIdeal.Gen Cert.Layer
open Idealize.ShloMosaic Idealize.ShloMosaic.TcCoe Idealize.ShloMosaic.Tactic

open Cert.RopeRefIdeal.Read (val_main_v26 val_main_v117)

variable (m : (ℓ : Loc nD τ sig) → Buf (Elt Ideal) ℓ) (c : Dev nD)

/-- The argument arrays. -/
abbrev a0 : Vec Ideal S4x4096x1024 .f32 := m ((c : Thread nD τ).loc main_arg0)
abbrev a1 : Vec Ideal S4x1x1024 .f32 := m ((c : Thread nD τ).loc main_arg1)
abbrev a2 : Vec Ideal S4x1x1024 .f32 := m ((c : Thread nD τ).loc main_arg2)
abbrev a3 : Vec Ideal S2x1024x3072 .f32 := m ((c : Thread nD τ).loc main_arg3)

/-- The projection the call computes is the reference's, -/
theorem full_eq (n : Fin 4) (r : Fin 4096) (j : Fin 3072) :
    full m c n r j = val_main_v26 (F := Ideal) (a0 m c) (a1 m c) (a2 m c) (a3 m c) (ix3 n r j) := by
  have e3 : (fun k => (V m c main_v0 : Vec Ideal S2x1024x3072 .bf16) (ix3 0 k j)) = fun k => a3 m c (ix3 0 k j) :=
    funext fun k => congrFun (after_main_v0 (fun b => m (c, b))) (ix3 0 k j)
  unfold full
  rw [e3, V_main_arg0 m c, V_main_arg1 m c, V_main_arg2 m c]
  exact (Cert.RopeRefIdeal.Rows.v26_at (a0 m c) (a1 m c) (a2 m c) (a3 m c) n r j).symm

/-- and so is its result. -/
theorem result_eq : (dats m 0 c).arrAt 7 cfg0.N = val_main_v117 (F := Ideal) (a0 m c) (a1 m c) (a2 m c) (a3 m c) := by
  refine arr m c _ (fun n r j => ?_) (fun n r j => ?_)
  · have e4 : (V m c main_v38 : Vec Ideal S4096x512 .f32) (ix2 r j) = cosTable r.val j.val := cos_at (fun b => m (c, b)) r j
    have e5 : (V m c main_v46 : Vec Ideal S4096x512 .f32) (ix2 r j) = leftTable r.val j.val := left_at (fun b => m (c, b)) r j
    have e6 : (V m c main_v52 : Vec Ideal S4096x512 .f32) (ix2 r j) = rightTable r.val j.val := right_at (fun b => m (c, b)) r j
    rw [full_eq, full_eq, full_eq, e4, e5, e6]
    refine (Cert.RopeRefIdeal.Rows.v117_at (a0 m c) (a1 m c) (a2 m c) (a3 m c) n r _).trans ?_
    refine (rotated_eq _ r.val (⟨j.val, by omega⟩ : Fin 3072) j.isLt _ _ ?_ ?_).symm
    · show (j.val + 512 - 504) % 512 = (j.val + 8) % 512; omega
    · show (j.val + 512 - 8) % 512 = (j.val + 504) % 512; omega
  · rw [full_eq]
    refine (Cert.RopeRefIdeal.Rows.v117_at (a0 m c) (a1 m c) (a2 m c) (a3 m c) n r _).trans ?_
    unfold rotated
    rw [dif_neg (show ¬(512 + j.val < 512) by omega)]

end Cert.RopeIdeal.Rows
-- ==== Proof.RopeClaims.lean ====
/- The claims about the rotated input projection, assembled. -/
module

public import proofs.«01_k».proof.Defs
public import proofs.«01_k».proof.Proof.Gen.Rope.Frame
public import proofs.«01_k».proof.Proof.Gen.RopeIdeal.Value
public import proofs.«01_k».proof.Proof.Gen.RopeRefIdeal.Run
public import proofs.«01_k».proof.Proof.RopeVal
public import Idealize.ShloMosaic.Lib.Quiescent
public import Idealize.ShloMosaic.Lib.Claim

@[expose] public section

set_option maxRecDepth 16384

noncomputable section

namespace Cert.Rope.Claims

open Idealize.ShloMosaic Idealize.SL.Sem Idealize.ShloMosaic.TcCoe

theorem frame_kernel : Cert.quiescent_Rope := fun m ρ _ => Cert.Rope.Gen.frame m ρ

theorem frame_ideal : Cert.quiescent_RopeIdeal := fun m ρ _ => Cert.RopeIdeal.Gen.frame m ρ

theorem frame_ref : Cert.quiescent_RopeRefIdeal := fun m ρ _ =>
  (θ_run Cert.RopeRefIdeal.defs _ _).mono (fun r h => ⟨fun c => (h c).2, sem_eq_zero_of_no_sems (by decide) r.2⟩) (Cert.RopeRefIdeal.Value.run m ρ)

theorem preserves : Cert.preserves_Rope_RopeIdeal := trivial

theorem algebraic : Cert.algebraic_RopeIdeal_RopeRefIdeal := by
  intro m g m' g' _ hargs
  refine ⟨fun c => (Cert.RopeIdeal.Gen.dats m 0 c).arrAt 7 Cert.RopeIdeal.cfg0.N, ?_, ?_⟩
  · exact Cert.RopeIdeal.Value.run_blocks m g
  · refine (θ_run Cert.RopeRefIdeal.defs _ _).mono (fun _ h c => ⟨(h c).1.trans ?_, (h c).2⟩) (Cert.RopeRefIdeal.Value.run m' g')
    obtain ⟨e0, e1, e2, e3⟩ := hargs c
    rw [Cert.RopeRefIdeal.Read.val_main_v117_eq, e0, e1, e2, e3]
    exact (Cert.RopeIdeal.Rows.result_eq m c).symm

end Cert.Rope.Claims
-- ==== Proof.ModRows.lean ====
/- One entry of a modulation: a conditioning vector passed through the sigmoid gate, its inner product with a column of the weights, and the bias. -/
module

public import Idealize.ShloMosaic.PureOps.Ideal
public import Idealize.ShloMosaic.Lib.Pointwise
public import Idealize.ShloMosaic.Lib.ValueIdx

@[expose] public section

noncomputable section

namespace Cert.Layer

open Idealize.ShloMosaic

theorem zeroWord : Ideal.ofBits FTy.f32 0x00000000#32 = 0 := by simp [Ideal.ofBits, Ideal.ieee]
theorem oneWord : Ideal.ofBits FTy.f32 0x3F800000#32 = 1 := by
  simp [Ideal.ofBits, Ideal.ieee, -EReal.coe_mul]; norm_num

/-- The column of the weights that one part's feature is read from. -/
def col (i : Fin 6) (d : Fin 1024) : Fin 6144 := ⟨i.val * 1024 + d.val, by omega⟩

/-- An entry times its logistic. -/
def shaped (z : EReal) : EReal := z * Ideal.div 1 (1 + Ideal.exp (0 - z))

/-- One entry of the modulation of one conditioning vector. -/
def modulated (z w : Fin 1024 → EReal) (b : EReal) : EReal := (∑ k, shaped (z k) * w k) + b

end Cert.Layer
-- ==== Proof.ModPay.lean ====
/- What one point of the modulation call stores, at an index. -/
module

public import proofs.«01_k».proof.Proof.Gen.ModIdeal.Frame
public import proofs.«01_k».proof.Proof.ModRows
public import Idealize.ShloMosaic.PureOps.Ideal
public import Idealize.ShloMosaic.Lib.Pointwise
public import Idealize.ShloMosaic.Lib.ValueIdx
public import Idealize.ShloMosaic.Lib.Pipeline.ValueKit.Basic

@[expose] public section

set_option maxRecDepth 16384

noncomputable section

namespace Cert.ModIdeal.Rows

open Cert.ModIdeal.Gen Cert.Layer
open Idealize.ShloMosaic Idealize.ShloMosaic.TcCoe Idealize.ShloMosaic.Tactic

theorem pay_at (v0 : Vec Ideal S8x1024 .f32) (v11 : Vec Ideal S1x1024x1536 .f32) (v15 : Vec Ideal S1x1x1536 .f32) (a : Fin 1) (r : Fin 8) (j : Fin 1536) :
    k0_pay1 v0 v11 v15 (ix3 a r j) = modulated (fun k => v0 (ix2 r k)) (fun k => v11 (ix3 0 k j)) (v15 (ix3 0 0 j)) := by
  unfold k0_pay1; pointwise
  rfl

theorem out_at (x0 : Vec Ideal S8x1024 .f32) (x1 : Vec Ideal S1x1024x1536 .f32) (x2 : Vec Ideal S1x1x1536 .f32) (a : Fin 1) (r : Fin 8) (j : Fin 1536) :
    out0_3 x0 x1 x2 (ix3 a r j) = modulated (fun k => x0 (ix2 r k)) (fun k => x1 (ix3 0 k j)) (x2 (ix3 0 0 j)) := by
  unfold out0_3
  rw [View.canon_cons_unit_lit _ _ _ (by decide), View.ld_unit_lit _ x0 (by decide), View.ld_unit_lit _ x1 (by decide), View.ld_unit_lit _ x2 (by decide)]
  exact pay_at _ _ _ a r j

end Cert.ModIdeal.Rows
-- ==== Proof.ModArr.lean ====
/- What each window of the modulation call reads of its array, and what the call leaves in its output array. -/
module

public import proofs.«01_k».proof.Proof.ModPay
public import proofs.«01_k».proof.Proof.Gen.ModIdeal.Points
public import Idealize.ShloMosaic.Lib.Pipeline.Value
public import Idealize.ShloMosaic.Lib.WritesUnit

@[expose] public section

set_option maxRecDepth 16384

noncomputable section

namespace Cert.ModIdeal.Rows

open Cert.ModIdeal.Gen Cert.Layer
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem word_0 (t : Fin grid0.N) : (BitVec.ofNat 32 (grid0.coords t 0).val).toNat = t.val / 4 := by
  have ht : t.val < 8 := Nat.lt_of_lt_of_eq t.isLt N_0
  have e : (grid0.coords t 0).val = t.val / 4 % 2 := Pipeline.Grid.coords_val t 0 (by decide) rfl
  rw [e, BitVec.toNat_ofNat]; omega

theorem word_1 (t : Fin grid0.N) : (BitVec.ofNat 32 (grid0.coords t 1).val).toNat = t.val % 4 := by
  have e : (grid0.coords t 1).val = t.val / 1 % 4 := Pipeline.Grid.coords_val t 1 (by decide) rfl
  rw [e, BitVec.toNat_ofNat]; omega

theorem blk_0 (t : Fin cfg0.N) (r : Fin 8) (d : Fin 1024) :
    (iblk m c 0 t : Vec Ideal S8x1024 .f32) (ix2 r d) = (V m c main_v4 : Vec Ideal S8x1024 .f32) (ix2 r d) := by
  have e : (iblk m c 0 t : Vec Ideal S8x1024 .f32) (ix2 r d) = (V m c main_v4 : Vec Ideal S8x1024 .f32) ((win0_0.rect t).emb (ix2 r d)) := rfl
  rw [e]
  congr 1; funext x; apply Fin.ext; rw [win0_0.rect_emb_val t (ix2 r d) x]
  fin_cases x
  · show 0 * 8 + r.val = r.val; omega
  · show 0 * 1024 + d.val = d.val; omega

theorem blk_1 (t : Fin cfg0.N) (k : Fin 1024) (j : Fin 1536) (n : Fin 2) (g : Fin 6144) (h0 : n.val = t.val / 4) (h2 : g.val = 1536 * (t.val % 4) + j.val) :
    (iblk m c 1 t : Vec Ideal S1x1024x1536 .f32) (ix3 0 k j) = (V m c main_arg2 : Vec Ideal S2x1024x6144 .f32) (ix3 n k g) := by
  have e : (iblk m c 1 t : Vec Ideal S1x1024x1536 .f32) (ix3 0 k j) = (V m c main_arg2 : Vec Ideal S2x1024x6144 .f32) ((win0_1.rect t).emb (ix3 0 k j)) := rfl
  rw [e]
  congr 1; funext x; apply Fin.ext; rw [win0_1.rect_emb_val t (ix3 0 k j) x]
  fin_cases x
  · show (BitVec.ofNat 32 (grid0.coords t 0).val).toNat * 1 + 0 = n.val; rw [word_0]; omega
  · show 0 * 1024 + k.val = k.val; omega
  · show (BitVec.ofNat 32 (grid0.coords t 1).val).toNat * 1536 + j.val = g.val; rw [word_1]; omega

theorem blk_2 (t : Fin cfg0.N) (j : Fin 1536) (n : Fin 2) (g : Fin 6144) (h0 : n.val = t.val / 4) (h2 : g.val = 1536 * (t.val % 4) + j.val) :
    (iblk m c 2 t : Vec Ideal S1x1x1536 .f32) (ix3 0 0 j) = (V m c main_v5 : Vec Ideal S2x1x6144 .f32) (ix3 n 0 g) := by
  have e : (iblk m c 2 t : Vec Ideal S1x1x1536 .f32) (ix3 0 0 j) = (V m c main_v5 : Vec Ideal S2x1x6144 .f32) ((win0_2.rect t).emb (ix3 0 0 j)) := rfl
  rw [e]
  congr 1; funext x; apply Fin.ext; rw [win0_2.rect_emb_val t (ix3 0 0 j) x]
  fin_cases x
  · show (BitVec.ofNat 32 (grid0.coords t 0).val).toNat * 1 + 0 = n.val; rw [word_0]; omega
  · show 0 * 1 + 0 = 0; omega
  · show (BitVec.ofNat 32 (grid0.coords t 1).val).toNat * 1536 + j.val = g.val; rw [word_1]; omega

/-- Every element of the output lies in the block of some point. -/
theorem covered (i : S2x8x6144.Idx) : ∃ t : Fin cfg0.N, (cfg0.win 3).flush t = true ∧ i ∈ ((cfg0.win 3).blk t).view.set := by
  have b0 : (i 0).val < 2 := (i 0).isLt
  have b1 : (i 1).val < 8 := (i 1).isLt
  have b2 : (i 2).val < 6144 := (i 2).isLt
  have ht : 4 * (i 0).val + (i 2).val / 1536 < cfg0.N := by rw [show cfg0.N = 8 from N_0]; omega
  refine ⟨⟨4 * (i 0).val + (i 2).val / 1536, ht⟩, flush0_3 _, ?_⟩
  show i ∈ ((View.whole main_v6).slice (win0_3.rect ⟨4 * (i 0).val + (i 2).val / 1536, ht⟩)).set
  rw [View.set_slice_whole, Rect.mem_set_unit]
  have w0 := word_0 ⟨4 * (i 0).val + (i 2).val / 1536, ht⟩
  have w1 := word_1 ⟨4 * (i 0).val + (i 2).val / 1536, ht⟩
  intro a
  fin_cases a
  · show (BitVec.ofNat 32 (grid0.coords _ 0).val).toNat * 1 ≤ (i 0).val ∧ (i 0).val < (BitVec.ofNat 32 (grid0.coords _ 0).val).toNat * 1 + 1
    rw [w0]; simp only []; omega
  · show 0 * 8 ≤ (i 1).val ∧ (i 1).val < 0 * 8 + 8
    omega
  · show (BitVec.ofNat 32 (grid0.coords _ 1).val).toNat * 1536 ≤ (i 2).val ∧ (i 2).val < (BitVec.ofNat 32 (grid0.coords _ 1).val).toNat * 1536 + 1536
    rw [w1]; simp only []; omega

/-- What the call leaves: at each layer, row and column, the modulation of the row. -/
def left : Vec Ideal S2x8x6144 .f32 := fun i =>
  modulated (fun k => (V m c main_v4 : Vec Ideal S8x1024 .f32) (ix2 (i 1 : Fin 8) k))
    (fun k => (V m c main_arg2 : Vec Ideal S2x1024x6144 .f32) (ix3 (i 0 : Fin 2) k (i 2 : Fin 6144)))
    ((V m c main_v5 : Vec Ideal S2x1x6144 .f32) (ix3 (i 0 : Fin 2) 0 (i 2 : Fin 6144)))

theorem arr : (dats m 0 c).arrAt 3 cfg0.N = left m c := by
  refine (dats m 0 c).arrAt_eq_of_cover 3 (left m c) (fun t _ => ?_) covered
  have ht : t.val < 8 := Nat.lt_of_lt_of_eq t.isLt N_0
  funext y
  obtain ⟨o, b, x, rfl⟩ : ∃ o b x, y = ix3 (n0 := 1) (n1 := 8) (n2 := 1536) o b x := ⟨_, _, _, eq_ix3 y⟩
  obtain rfl : o = 0 := Subsingleton.elim _ _
  have el : (dats m 0 c).flushed 3 t (ix3 0 b x) = out0_3 (iblk m c 0 t) (iblk m c 1 t) (iblk m c 2 t) (ix3 0 b x) := by
    show (dats m 0 c).after 3 t _ = _
    rw [after0_3]; rfl
  have ei : (win0_3.rect t).emb (ix3 0 b x) = ix3 (⟨t.val / 4, by omega⟩ : Fin 2) b (⟨1536 * (t.val % 4) + x.val, by omega⟩ : Fin 6144) := by
    funext a; apply Fin.ext; rw [win0_3.rect_emb_val t (ix3 0 b x) a]
    fin_cases a
    · show (BitVec.ofNat 32 (grid0.coords t 0).val).toNat * 1 + 0 = t.val / 4; rw [word_0]; omega
    · show 0 * 8 + b.val = b.val; omega
    · show (BitVec.ofNat 32 (grid0.coords t 1).val).toNat * 1536 + x.val = 1536 * (t.val % 4) + x.val; rw [word_1]; omega
  have er : ((cfg0.win 3).blk t).view.read (Elt Ideal) (left m c) (ix3 0 b x) = left m c ((win0_3.rect t).emb (ix3 0 b x)) := rfl
  refine el.trans (Eq.trans ?_ er.symm)
  rw [ei]
  refine (out_at _ _ _ 0 b x).trans ?_
  have e0 : (fun k => (iblk m c 0 t : Vec Ideal S8x1024 .f32) (ix2 b k)) = fun k => (V m c main_v4 : Vec Ideal S8x1024 .f32) (ix2 b k) :=
    funext fun k => blk_0 m c t b k
  have e1 : (fun k => (iblk m c 1 t : Vec Ideal S1x1024x1536 .f32) (ix3 0 k x))
      = fun k => (V m c main_arg2 : Vec Ideal S2x1024x6144 .f32) (ix3 (⟨t.val / 4, by omega⟩ : Fin 2) k (⟨1536 * (t.val % 4) + x.val, by omega⟩ : Fin 6144)) :=
    funext fun k => blk_1 m c t k x _ _ rfl rfl
  rw [e0, e1, blk_2 m c t x (⟨t.val / 4, by omega⟩ : Fin 2) (⟨1536 * (t.val % 4) + x.val, by omega⟩ : Fin 6144) rfl rfl]
  rfl

end Cert.ModIdeal.Rows
-- ==== Proof.ModTab.lean ====
/- The arrays the modulation call is prepared: the conditioning vectors gathered into eight rows, the context's first, and the bias given a middle axis. -/
module

public import proofs.«01_k».proof.Proof.Gen.ModIdeal.Frame
public import Idealize.ShloMosaic.Lib.StableHlo.RunClose
public import Idealize.ShloMosaic.Lib.Routing.OpsOne
public import Idealize.ShloMosaic.Lib.Routing.OpsPair
public import Idealize.ShloMosaic.Lib.Pointwise
public import Idealize.ShloMosaic.Lib.ValueIdx

@[expose] public section

set_option maxRecDepth 16384

noncomputable section

namespace Cert.ModIdeal.Rows

open Cert.ModIdeal.Gen
open Idealize.ShloMosaic Idealize.ShloMosaic.TcCoe Idealize.ShloMosaic.Tactic

/-- One row written at row 0: update `e'` lands at `(r, e)` exactly when `r` is 0 and `e` is `e'`. -/
theorem lands_first (idx : IVec S1 32) (hidx : (idx (ix1 0)).toInt = 0) (e' : Fin 1024) (r : Fin 8) (e : Fin 1024) :
    scatter_S8x1024_S1_S1024_0_0_0_0.resultIdx? (ix1 e') idx = some (ix2 r e) ↔ r.val = 0 ∧ e' = e := by
  have hw0 : scatter_S8x1024_S1_S1024_0_0_0_0.window (ix1 e') 0 = 0 := by
    unfold ScatterDims.window
    rw [dif_neg (by decide)]
  have hw1 : scatter_S8x1024_S1_S1024_0_0_0_0.window (ix1 e') 1 = e'.val := by
    unfold ScatterDims.window
    rw [dif_pos (by decide)]
    rfl
  have hs1 : scatter_S8x1024_S1_S1024_0_0_0_0.start (ix1 e') idx 1 = 0 := by
    unfold ScatterDims.start
    rw [dif_neg (by decide)]
  have hs0 : scatter_S8x1024_S1_S1024_0_0_0_0.start (ix1 e') idx 0 = 0 := by
    unfold ScatterDims.start
    rw [dif_pos (show (0 : Fin S8x1024.rank) ∈ scatter_S8x1024_S1_S1024_0_0_0_0.scatterDimsToOperandDims by decide)]
    refine Eq.trans (congrArg (fun i => (idx i).toInt) ?_) hidx
    funext b'
    match b' with
    | ⟨0, _⟩ => exact Subsingleton.elim (α := Fin 1) _ _
  refine (Routing.resultIdx?_ix2 (R := 8) (C := 1024) _ _ _ _ _).trans ?_
  rw [hs0, hs1, hw0, hw1, Fin.ext_iff]
  omega

/-- Four rows written from row 1 on: update `(a, e')` lands at `(r, e)` exactly when `r` is `a + 1` and `e` is `e'`. -/
theorem lands_rest (idx : IVec S1 32) (hidx : (idx (ix1 0)).toInt = 1) (a : Fin 4) (e' : Fin 1024) (r : Fin 8) (e : Fin 1024) :
    scatter_S8x1024_S1_S4x1024_01_n_0_0.resultIdx? (ix2 a e') idx = some (ix2 r e) ↔ r.val = 1 + a.val ∧ e' = e := by
  have hw0 : scatter_S8x1024_S1_S4x1024_01_n_0_0.window (ix2 a e') 0 = a.val := by
    unfold ScatterDims.window
    rw [dif_pos (by decide)]
    rfl
  have hw1 : scatter_S8x1024_S1_S4x1024_01_n_0_0.window (ix2 a e') 1 = e'.val := by
    unfold ScatterDims.window
    rw [dif_pos (by decide)]
    rfl
  have hs1 : scatter_S8x1024_S1_S4x1024_01_n_0_0.start (ix2 a e') idx 1 = 0 := by
    unfold ScatterDims.start
    rw [dif_neg (by decide)]
  have hs0 : scatter_S8x1024_S1_S4x1024_01_n_0_0.start (ix2 a e') idx 0 = 1 := by
    unfold ScatterDims.start
    rw [dif_pos (show (0 : Fin S8x1024.rank) ∈ scatter_S8x1024_S1_S4x1024_01_n_0_0.scatterDimsToOperandDims by decide)]
    refine Eq.trans (congrArg (fun i => (idx i).toInt) ?_) hidx
    funext b'
    match b' with
    | ⟨0, _⟩ => exact Subsingleton.elim (α := Fin 1) _ _
  refine (Routing.resultIdx?_ix2 (R := 8) (C := 1024) _ _ _ _ _).trans ?_
  rw [hs0, hs1, hw0, hw1, Fin.ext_iff]
  omega

/-- The row a write starts at. -/
def firstWord : IVec S1 32 := broadcastInDim S1 ![] bcast_S_S1 (constantI S_ 32 0#32)
def restWord : IVec S1 32 := broadcastInDim S1 ![] bcast_S_S1 (constantI S_ 32 1#32)
theorem firstWord_eq : (firstWord (ix1 0)).toInt = 0 := rfl
theorem restWord_eq : (restWord (ix1 0)).toInt = 1 := rfl

/-- The conditioning vectors' rows. -/
def gathered (c0 : FVec Ideal S4x1024 .f32) (c1 : FVec Ideal S1024 .f32) : FVec Ideal S8x1024 .f32 :=
  Host.scatter scatter_S8x1024_S1_S4x1024_01_n_0_0 (fun _ b => b)
    (Host.scatter scatter_S8x1024_S1_S1024_0_0_0_0 (fun _ b => b)
      (broadcastInDim S8x1024 ![] bcast_S_S8x1024 (constant (F := Ideal) S_ .f32 0x00000000#32))
      firstWord c1)
    restWord c0

/-- The context's is the first, -/
theorem gathered_first (c0 : FVec Ideal S4x1024 .f32) (c1 : FVec Ideal S1024 .f32) (e : Fin 1024) : gathered c0 c1 (ix2 0 e) = c1 (ix1 e) := by
  unfold gathered
  refine (Routing.scatter_set_miss _ _ _ _ _ fun k hk => ?_).trans (Routing.scatter_set_hit _ _ _ _ _ _ (fun k hk => ?_) (ix1 e) ?_)
  · obtain ⟨a, e', rfl⟩ : ∃ a e', k = ix2 (n0 := 4) (n1 := 1024) a e' := ⟨_, _, eq_ix2 k⟩
    have h := ((lands_rest restWord restWord_eq a e' 0 e).1 hk).1
    have h' : (0 : ℕ) = 1 + a.val := h
    omega
  · obtain ⟨e', rfl⟩ : ∃ e', k = ix1 (n0 := 1024) e' := ⟨_, eq_ix1 k⟩
    exact congrArg (fun x => c1 (ix1 x)) ((lands_first firstWord firstWord_eq e' 0 e).1 hk).2
  · exact (lands_first firstWord firstWord_eq e 0 e).2 ⟨rfl, rfl⟩

/-- and the batch elements' follow. -/
theorem gathered_rest (c0 : FVec Ideal S4x1024 .f32) (c1 : FVec Ideal S1024 .f32) (n : Fin 4) (e : Fin 1024) :
    gathered c0 c1 (ix2 (⟨1 + n.val, by omega⟩ : Fin 8) e) = c0 (ix2 n e) := by
  unfold gathered
  refine Routing.scatter_set_hit _ _ _ _ _ _ (fun k hk => ?_) (ix2 n e) ((lands_rest restWord restWord_eq n e _ e).2 ⟨rfl, rfl⟩)
  obtain ⟨a, e', rfl⟩ : ∃ a e', k = ix2 (n0 := 4) (n1 := 1024) a e' := ⟨_, _, eq_ix2 k⟩
  obtain ⟨h0, h1⟩ := (lands_rest restWord restWord_eq a e' _ e).1 hk
  have h0' : 1 + n.val = 1 + a.val := h0
  rw [h1, show a = n from Fin.ext (by omega)]

theorem after_main_v4 (W : Valuation τ sig (Elt Ideal)) :
    (StableHlo.after hostOps0 W (Proc.devRef .tc main_v4) : FVec Ideal S8x1024 .f32) = gathered (W (Proc.devRef .tc main_arg0)) (W (Proc.devRef .tc main_arg1)) := by
  dsimp only [hostOps0]; after_results_simp <;> rfl

theorem after_main_v5 (W : Valuation τ sig (Elt Ideal)) :
    (StableHlo.after hostOps0 W (Proc.devRef .tc main_v5) : FVec Ideal S2x1x6144 .f32)
      = shapeCast S2x1x6144 (W (Proc.devRef .tc main_arg3) : FVec Ideal S2x6144 .f32) shapeCasts_S2x6144_S2x1x6144 := by
  dsimp only [hostOps0]; after_results_simp <;> rfl

/-- The bias with its middle axis. -/
theorem bias_at (x : FVec Ideal S2x6144 .f32) (l : Fin 2) (a : Fin 1) (j : Fin 6144) :
    (shapeCast S2x1x6144 x shapeCasts_S2x6144_S2x1x6144) (ix3 l a j) = x (ix2 l j) := by
  pointwise

/-- The call's output, its columns split into parts. -/
def parts (x : FVec Ideal S2x8x6144 .f32) : FVec Ideal S2x8x6x1024 .f32 := shapeCast S2x8x6x1024 x shapeCasts_S2x8x6144_S2x8x6x1024

theorem after_main_v8 (W : Valuation τ sig (Elt Ideal)) :
    (StableHlo.after hostOps1 W (Proc.devRef .tc main_v8) : FVec Ideal S2x1x6x1024 .f32)
      = extractStridedSlice S2x1x6x1024 ![0, 0, 0, 0] (parts (W (Proc.devRef .tc main_v6))) slices_S2x8x6x1024_S2x1x6x1024_0_0_0_0 := by
  dsimp only [hostOps1]; after_results_simp <;> rfl

theorem after_main_v9 (W : Valuation τ sig (Elt Ideal)) :
    (StableHlo.after hostOps1 W (Proc.devRef .tc main_v9) : FVec Ideal S2x4x6x1024 .f32)
      = extractStridedSlice S2x4x6x1024 ![0, 1, 0, 0] (parts (W (Proc.devRef .tc main_v6))) slices_S2x8x6x1024_S2x4x6x1024_0_1_0_0 := by
  dsimp only [hostOps1]; after_results_simp <;> rfl

end Cert.ModIdeal.Rows
-- ==== Proof.ModRef.lean ====
/- The plain reference of the modulation, at an index. -/
module

public import proofs.«01_k».proof.Proof.Gen.ModRefIdeal.Read
public import proofs.«01_k».proof.Proof.ModRows
public import Idealize.ShloMosaic.PureOps.Ideal
public import Idealize.ShloMosaic.Lib.Pointwise
public import Idealize.ShloMosaic.Lib.ValueIdx

@[expose] public section

set_option maxRecDepth 16384

noncomputable section

namespace Cert.ModRefIdeal.Rows

open Cert.ModRefIdeal.Read Cert.Layer
open Idealize.ShloMosaic Idealize.ShloMosaic.TcCoe Idealize.ShloMosaic.Tactic

variable (x0 : FVec Ideal S4x1024 .f32) (x1 : FVec Ideal S1024 .f32) (x2 : FVec Ideal S2x1024x6144 .f32) (x3 : FVec Ideal S2x6144 .f32)

/-- Layer 0, the conditioning vector of the context, at a column. -/
theorem v8_at (n : Fin 1) (j : Fin 6144) :
    val_main_v8 (F := Ideal) x1 x2 x3 (ix2 n j) = modulated (fun k => x1 (ix1 k)) (fun k => x2 (ix3 0 k j)) (x3 (ix2 0 j)) := by
  unfold val_main_v8 val_main_v7 val_main_v6 val_main_v5 val_main_call0_v5 val_main_call0_v4 val_main_call0_v3 val_main_call0_v2 val_main_call0_v1 val_main_call0_v0 val_main_v4 val_main_v3 val_main_v2 val_main_v1 val_main_v0
  pointwise
  have hn : ∀ x : EReal, -x = 0 - x := fun x => by rw [sub_eq_add_neg, zero_add]
  simp only [hn, val_main_call0_cst_apply, val_main_call0_cst_0_apply, Scalar.ofBits, FloatOps.ofBits, oneWord]
  rfl

theorem v9_at (n : Fin 1) (i : Fin 6) (d : Fin 1024) :
    val_main_v9 (F := Ideal) x1 x2 x3 (ix3 n i d) = modulated (fun k => x1 (ix1 k)) (fun k => x2 (ix3 0 k (col i d))) (x3 (ix2 0 (col i d))) := by
  rw [val_main_v9_apply]
  have e : idx_main_v9 (ix3 n i d) = ix2 n (col i d) := by
    funext a; apply Fin.ext
    fin_cases a
    · show 0 = n.val; omega
    · show ((n.val * 6 + i.val) * 1024 + d.val) % 6144 = i.val * 1024 + d.val; omega
  rw [e, v8_at]

/-- Layer 0, the conditioning vector of the a batch element, at a column. -/
theorem v18_at (n : Fin 4) (j : Fin 6144) :
    val_main_v18 (F := Ideal) x0 x2 x3 (ix2 n j) = modulated (fun k => x0 (ix2 n k)) (fun k => x2 (ix3 0 k j)) (x3 (ix2 0 j)) := by
  unfold val_main_v18 val_main_v17 val_main_v16 val_main_v15 val_main_v14 val_main_call1_v5 val_main_call1_v4 val_main_call1_v3 val_main_call1_v2 val_main_call1_v1 val_main_call1_v0 val_main_v13 val_main_v12 val_main_v11 val_main_v10
  pointwise
  have hn : ∀ x : EReal, -x = 0 - x := fun x => by rw [sub_eq_add_neg, zero_add]
  simp only [hn, val_main_call1_cst_apply, val_main_call1_cst_0_apply, Scalar.ofBits, FloatOps.ofBits, oneWord]
  rfl

theorem v19_at (n : Fin 4) (i : Fin 6) (d : Fin 1024) :
    val_main_v19 (F := Ideal) x0 x2 x3 (ix3 n i d) = modulated (fun k => x0 (ix2 n k)) (fun k => x2 (ix3 0 k (col i d))) (x3 (ix2 0 (col i d))) := by
  rw [val_main_v19_apply]
  have e : idx_main_v19 (ix3 n i d) = ix2 n (col i d) := by
    funext a; apply Fin.ext
    fin_cases a
    · show ((n.val * 6 + i.val) * 1024 + d.val) / 6144 = n.val; omega
    · show ((n.val * 6 + i.val) * 1024 + d.val) % 6144 = i.val * 1024 + d.val; omega
  rw [e, v18_at]

/-- Layer 1, the conditioning vector of the context, at a column. -/
theorem v28_at (n : Fin 1) (j : Fin 6144) :
    val_main_v28 (F := Ideal) x1 x2 x3 (ix2 n j) = modulated (fun k => x1 (ix1 k)) (fun k => x2 (ix3 1 k j)) (x3 (ix2 1 j)) := by
  unfold val_main_v28 val_main_v27 val_main_v26 val_main_v25 val_main_call2_v5 val_main_call2_v4 val_main_call2_v3 val_main_call2_v2 val_main_call2_v1 val_main_call2_v0 val_main_v24 val_main_v23 val_main_v22 val_main_v21 val_main_v20
  pointwise
  have hn : ∀ x : EReal, -x = 0 - x := fun x => by rw [sub_eq_add_neg, zero_add]
  simp only [hn, val_main_call2_cst_apply, val_main_call2_cst_0_apply, Scalar.ofBits, FloatOps.ofBits, oneWord]
  rfl

theorem v29_at (n : Fin 1) (i : Fin 6) (d : Fin 1024) :
    val_main_v29 (F := Ideal) x1 x2 x3 (ix3 n i d) = modulated (fun k => x1 (ix1 k)) (fun k => x2 (ix3 1 k (col i d))) (x3 (ix2 1 (col i d))) := by
  rw [val_main_v29_apply]
  have e : idx_main_v29 (ix3 n i d) = ix2 n (col i d) := by
    funext a; apply Fin.ext
    fin_cases a
    · show 0 = n.val; omega
    · show ((n.val * 6 + i.val) * 1024 + d.val) % 6144 = i.val * 1024 + d.val; omega
  rw [e, v28_at]

/-- Layer 1, the conditioning vector of the a batch element, at a column. -/
theorem v38_at (n : Fin 4) (j : Fin 6144) :
    val_main_v38 (F := Ideal) x0 x2 x3 (ix2 n j) = modulated (fun k => x0 (ix2 n k)) (fun k => x2 (ix3 1 k j)) (x3 (ix2 1 j)) := by
  unfold val_main_v38 val_main_v37 val_main_v36 val_main_v35 val_main_v34 val_main_call3_v5 val_main_call3_v4 val_main_call3_v3 val_main_call3_v2 val_main_call3_v1 val_main_call3_v0 val_main_v33 val_main_v32 val_main_v31 val_main_v30
  pointwise
  have hn : ∀ x : EReal, -x = 0 - x := fun x => by rw [sub_eq_add_neg, zero_add]
  simp only [hn, val_main_call3_cst_apply, val_main_call3_cst_0_apply, Scalar.ofBits, FloatOps.ofBits, oneWord]
  rfl

theorem v39_at (n : Fin 4) (i : Fin 6) (d : Fin 1024) :
    val_main_v39 (F := Ideal) x0 x2 x3 (ix3 n i d) = modulated (fun k => x0 (ix2 n k)) (fun k => x2 (ix3 1 k (col i d))) (x3 (ix2 1 (col i d))) := by
  rw [val_main_v39_apply]
  have e : idx_main_v39 (ix3 n i d) = ix2 n (col i d) := by
    funext a; apply Fin.ext
    fin_cases a
    · show ((n.val * 6 + i.val) * 1024 + d.val) / 6144 = n.val; omega
    · show ((n.val * 6 + i.val) * 1024 + d.val) % 6144 = i.val * 1024 + d.val; omega
  rw [e, v38_at]

theorem v40_at (o : Fin 1) (n : Fin 1) (i : Fin 6) (d : Fin 1024) :
    val_main_v40 (F := Ideal) x1 x2 x3 (ix4 o n i d) = val_main_v9 (F := Ideal) x1 x2 x3 (ix3 n i d) := by
  obtain rfl : n = 0 := Subsingleton.elim _ _
  unfold val_main_v40; pointwise

theorem v41_at (o : Fin 1) (n : Fin 1) (i : Fin 6) (d : Fin 1024) :
    val_main_v41 (F := Ideal) x1 x2 x3 (ix4 o n i d) = val_main_v29 (F := Ideal) x1 x2 x3 (ix3 n i d) := by
  obtain rfl : n = 0 := Subsingleton.elim _ _
  unfold val_main_v41; pointwise

/-- The two layers stacked. -/
theorem v42_at (l : Fin 2) (n : Fin 1) (i : Fin 6) (d : Fin 1024) :
    val_main_v42 (F := Ideal) x1 x2 x3 (ix4 l n i d) = modulated (fun k => x1 (ix1 k)) (fun k => x2 (ix3 l k (col i d))) (x3 (ix2 l (col i d))) := by
  obtain rfl : n = 0 := Subsingleton.elim _ _
  unfold val_main_v42
  have h0 := v40_at x1 x2 x3 0 0 i d
  have h1 := v41_at x1 x2 x3 0 0 i d
  rw [v9_at] at h0
  rw [v29_at] at h1
  generalize val_main_v40 (F := Ideal) x1 x2 x3 = y at h0 ⊢
  generalize val_main_v41 (F := Ideal) x1 x2 x3 = w at h1 ⊢
  obtain rfl | rfl : l = 0 ∨ l = 1 := by omega
  · pointwise
    exact h0
  · pointwise
    exact h1

theorem v43_at (o : Fin 1) (n : Fin 4) (i : Fin 6) (d : Fin 1024) :
    val_main_v43 (F := Ideal) x0 x2 x3 (ix4 o n i d) = val_main_v19 (F := Ideal) x0 x2 x3 (ix3 n i d) := by
  unfold val_main_v43; pointwise

theorem v44_at (o : Fin 1) (n : Fin 4) (i : Fin 6) (d : Fin 1024) :
    val_main_v44 (F := Ideal) x0 x2 x3 (ix4 o n i d) = val_main_v39 (F := Ideal) x0 x2 x3 (ix3 n i d) := by
  unfold val_main_v44; pointwise

/-- The two layers stacked. -/
theorem v45_at (l : Fin 2) (n : Fin 4) (i : Fin 6) (d : Fin 1024) :
    val_main_v45 (F := Ideal) x0 x2 x3 (ix4 l n i d) = modulated (fun k => x0 (ix2 n k)) (fun k => x2 (ix3 l k (col i d))) (x3 (ix2 l (col i d))) := by
  unfold val_main_v45
  have h0 := v43_at x0 x2 x3 0 n i d
  have h1 := v44_at x0 x2 x3 0 n i d
  rw [v19_at] at h0
  rw [v39_at] at h1
  generalize val_main_v43 (F := Ideal) x0 x2 x3 = y at h0 ⊢
  generalize val_main_v44 (F := Ideal) x0 x2 x3 = w at h1 ⊢
  obtain rfl | rfl : l = 0 ∨ l = 1 := by omega
  · pointwise
    exact h0
  · pointwise
    exact h1

end Cert.ModRefIdeal.Rows
-- ==== Proof.ModVal.lean ====
/- The modulation: the two arrays the call's host code returns are the plain reference's. -/
module

public import proofs.«01_k».proof.Proof.ModArr
public import proofs.«01_k».proof.Proof.ModTab
public import proofs.«01_k».proof.Proof.ModRef

@[expose] public section

set_option maxRecDepth 16384

noncomputable section

namespace Cert.ModIdeal.Rows

open Cert.ModIdeal.Gen Cert.Layer
open Idealize.ShloMosaic Idealize.ShloMosaic.TcCoe Idealize.ShloMosaic.Tactic

open Cert.ModRefIdeal.Read (val_main_v42 val_main_v45)

/-- An entry of the split array. -/
theorem parts_at (x : FVec Ideal S2x8x6144 .f32) (l : Fin 2) (r : Fin 8) (i : Fin 6) (d : Fin 1024) : parts x (ix4 l r i d) = x (ix3 l r (col i d)) :=
  shapeCast_apply x shapeCasts_S2x8x6144_S2x8x6x1024 (ix4 l r i d) (ix3 l r (col i d)) (by
    rewrite [Shape.rowMajor_val_three, Shape.rowMajor_val_four]
    show (l.val * 8 + r.val) * 6144 + (i.val * 1024 + d.val) = ((l.val * 8 + r.val) * 6 + i.val) * 1024 + d.val
    omega)

variable (m : (ℓ : Loc nD τ sig) → Buf (Elt Ideal) ℓ) (c : Dev nD)

/-- The argument arrays. -/
abbrev a0 : FVec Ideal S4x1024 .f32 := m ((c : Thread nD τ).loc main_arg0)
abbrev a1 : FVec Ideal S1024 .f32 := m ((c : Thread nD τ).loc main_arg1)
abbrev a2 : FVec Ideal S2x1024x6144 .f32 := m ((c : Thread nD τ).loc main_arg2)
abbrev a3 : FVec Ideal S2x6144 .f32 := m ((c : Thread nD τ).loc main_arg3)

/-- What the call leaves, from the arguments. -/
theorem left_at (l : Fin 2) (r : Fin 8) (j : Fin 6144) :
    left m c (ix3 l r j) = modulated (fun k => gathered (a0 m c) (a1 m c) (ix2 r k)) (fun k => a2 m c (ix3 l k j)) (a3 m c (ix2 l j)) := by
  have e4 : (V m c main_v4 : FVec Ideal S8x1024 .f32) = gathered (a0 m c) (a1 m c) := after_main_v4 (fun b => m (c, b))
  have e5 : (V m c main_v5 : FVec Ideal S2x1x6144 .f32) (ix3 l 0 j) = a3 m c (ix2 l j) :=
    (congrFun (after_main_v5 (fun b => m (c, b))) (ix3 l 0 j)).trans (bias_at _ l 0 j)
  show modulated (fun k => (V m c main_v4 : FVec Ideal S8x1024 .f32) (ix2 r k)) (fun k => (V m c main_arg2 : FVec Ideal S2x1024x6144 .f32) (ix3 l k j))
    ((V m c main_v5 : FVec Ideal S2x1x6144 .f32) (ix3 l 0 j)) = _
  rw [e4, e5, V_main_arg2 m c]

/-- The context's modulation, -/
theorem first_eq : extractStridedSlice S2x1x6x1024 ![0, 0, 0, 0] (parts (left m c)) slices_S2x8x6x1024_S2x1x6x1024_0_0_0_0
    = val_main_v42 (F := Ideal) (a1 m c) (a2 m c) (a3 m c) := by
  funext y
  obtain ⟨l, n, i, d, rfl⟩ : ∃ l n i d, y = ix4 (n0 := 2) (n1 := 1) (n2 := 6) (n3 := 1024) l n i d := ⟨_, _, _, _, eq_ix4 y⟩
  obtain rfl : n = 0 := Subsingleton.elim _ _
  have e : extractStridedSlice S2x1x6x1024 ![0, 0, 0, 0] (parts (left m c)) slices_S2x8x6x1024_S2x1x6x1024_0_0_0_0 (ix4 l 0 i d) = parts (left m c) (ix4 l 0 i d) := by
    generalize parts (left m c) = y
    pointwise
  rw [e, parts_at, left_at, Cert.ModRefIdeal.Rows.v42_at]
  have g : (fun k => gathered (a0 m c) (a1 m c) (ix2 0 k)) = fun k => a1 m c (ix1 k) := funext fun k => gathered_first _ _ k
  rw [g]

/-- and the batch elements'. -/
theorem rest_eq : extractStridedSlice S2x4x6x1024 ![0, 1, 0, 0] (parts (left m c)) slices_S2x8x6x1024_S2x4x6x1024_0_1_0_0
    = val_main_v45 (F := Ideal) (a0 m c) (a2 m c) (a3 m c) := by
  funext y
  obtain ⟨l, n, i, d, rfl⟩ : ∃ l n i d, y = ix4 (n0 := 2) (n1 := 4) (n2 := 6) (n3 := 1024) l n i d := ⟨_, _, _, _, eq_ix4 y⟩
  have e : extractStridedSlice S2x4x6x1024 ![0, 1, 0, 0] (parts (left m c)) slices_S2x8x6x1024_S2x4x6x1024_0_1_0_0 (ix4 l n i d)
      = parts (left m c) (ix4 l (⟨1 + n.val, by omega⟩ : Fin 8) i d) := by
    generalize parts (left m c) = y
    pointwise
  rw [e, parts_at, left_at, Cert.ModRefIdeal.Rows.v45_at]
  have g : (fun k => gathered (a0 m c) (a1 m c) (ix2 (⟨1 + n.val, by omega⟩ : Fin 8) k)) = fun k => a0 m c (ix2 n k) := funext fun k => gathered_rest _ _ n k
  rw [g]

/-- What the operations after the call find: its arrays as it leaves them, everything else as it was. -/
def entry : Valuation τ sig (Elt Ideal) := Pipeline.withArrays spec0 c (V0 m c) (fun w => (dats m 0 c).arrAt w cfg0.N)

theorem entry_out : (entry m c (Proc.devRef .tc main_v6) : FVec Ideal S2x8x6144 .f32) = left m c :=
  (Pipeline.withArrays_arr spec0 (by decide) c (V0 m c) (fun w => (dats m 0 c).arrAt w cfg0.N) 3).trans (arr m c)

theorem after_entry (b : Ref sig .tc) :
    Pipeline.afterTail₀ cfgs (dats m) 0 (V0 m) [hostOps1] c b = StableHlo.after hostOps1 (entry m c) (Proc.devRef .tc b) := by
  unfold Pipeline.afterTail₀ entry
  simp only [List.flatten_cons, List.flatten_nil, List.append_nil]

/-- The two results. -/
theorem result_first : Pipeline.afterTail₀ cfgs (dats m) 0 (V0 m) [hostOps1] c main_v8 = val_main_v42 (F := Ideal) (a1 m c) (a2 m c) (a3 m c) := by
  have h := after_main_v8 (entry m c)
  rw [entry_out, first_eq] at h
  exact (after_entry m c main_v8).trans h

theorem result_rest : Pipeline.afterTail₀ cfgs (dats m) 0 (V0 m) [hostOps1] c main_v9 = val_main_v45 (F := Ideal) (a0 m c) (a2 m c) (a3 m c) := by
  have h := after_main_v9 (entry m c)
  rw [entry_out, rest_eq] at h
  exact (after_entry m c main_v9).trans h

end Cert.ModIdeal.Rows
-- ==== Proof.ModClaims.lean ====
/- The claims about the modulation, assembled. -/
module

public import proofs.«01_k».proof.Defs
public import proofs.«01_k».proof.Proof.Gen.Mod.Frame
public import proofs.«01_k».proof.Proof.Gen.ModIdeal.Frame
public import proofs.«01_k».proof.Proof.Gen.ModRefIdeal.Run
public import proofs.«01_k».proof.Proof.ModVal
public import Idealize.ShloMosaic.Lib.Quiescent
public import Idealize.ShloMosaic.Lib.Claim

@[expose] public section

set_option maxRecDepth 16384

noncomputable section

namespace Cert.Mod.Claims

open Idealize.ShloMosaic Idealize.SL.Sem Idealize.ShloMosaic.TcCoe

theorem frame_kernel : Cert.quiescent_Mod := fun m ρ _ => Cert.Mod.Gen.frame m ρ

theorem frame_ideal : Cert.quiescent_ModIdeal := fun m ρ _ => Cert.ModIdeal.Gen.frame m ρ

theorem frame_ref : Cert.quiescent_ModRefIdeal := fun m ρ _ =>
  (θ_run Cert.ModRefIdeal.defs _ _).mono (fun r h => ⟨fun c => (h.1 c).2.2, h.2⟩)
    (θ_run_and (Cert.ModRefIdeal.Value.run m ρ) ((θ_run Cert.ModRefIdeal.defs _ _).mono (fun r _ => sem_eq_zero_of_no_sems (by decide) r.2) (Cert.ModRefIdeal.Value.run m ρ)))

theorem preserves : Cert.preserves_Mod_ModIdeal := trivial

theorem algebraic : Cert.algebraic_ModIdeal_ModRefIdeal := by
  intro m g m' g' _ hargs
  refine ⟨fun c => Cert.ModRefIdeal.Read.val_main_v42 (F := Ideal) (Cert.ModIdeal.Rows.a1 m c) (Cert.ModIdeal.Rows.a2 m c) (Cert.ModIdeal.Rows.a3 m c),
    fun c => Cert.ModRefIdeal.Read.val_main_v45 (F := Ideal) (Cert.ModIdeal.Rows.a0 m c) (Cert.ModIdeal.Rows.a2 m c) (Cert.ModIdeal.Rows.a3 m c), ?_, ?_⟩
  · exact (θ_run Cert.ModIdeal.defs _ _).mono (fun _ h c =>
        ⟨((h.1 c).2 Cert.ModIdeal.main_v8 (Pipeline.mem_restRefs_of Cert.ModIdeal.main_v8 (by decide) (by decide))).trans (Cert.ModIdeal.Rows.result_first m c),
          ((h.1 c).2 Cert.ModIdeal.main_v9 (Pipeline.mem_restRefs_of Cert.ModIdeal.main_v9 (by decide) (by decide))).trans (Cert.ModIdeal.Rows.result_rest m c), h.2 c⟩)
      (θ_run_and (Cert.ModIdeal.Gen.run_main m g) (Cert.ModIdeal.Gen.unchanged m g))
  · refine (θ_run Cert.ModRefIdeal.defs _ _).mono (fun _ h c => ⟨(h c).1.trans ?_, (h c).2.1.trans ?_, (h c).2.2⟩) (Cert.ModRefIdeal.Value.run m' g')
    · obtain ⟨e0, e1, e2, e3⟩ := hargs c
      rw [Cert.ModRefIdeal.Read.val_main_v42_eq, e1, e2, e3]
    · obtain ⟨e0, e1, e2, e3⟩ := hargs c
      rw [Cert.ModRefIdeal.Read.val_main_v45_eq, e0, e2, e3]

end Cert.Mod.Claims
-- ==== Proof.ShortRows.lean ====
/- One entry of the short convolution: the three neighbouring entries of a column, each times its weight, and the bias. -/
module

public import Idealize.ShloMosaic.PureOps.Ideal
public import Idealize.ShloMosaic.Lib.Pointwise
public import Idealize.ShloMosaic.Lib.ValueIdx

@[expose] public section

noncomputable section

namespace Cert.Short

open Idealize.ShloMosaic

theorem zeroWord : Ideal.ofBits FTy.f32 0x00000000#32 = 0 := by simp [Ideal.ofBits, Ideal.ieee]

/-- The three entries times the three weights, and the bias. -/
def taps (p u s w0 w1 w2 b : EReal) : EReal := p * w0 + u * w1 + s * w2 + b

/-- The column the host puts one zero before and one zero after. -/
def padded (x : Fin 4096 → EReal) (i : ℕ) : EReal := if h : 1 ≤ i ∧ i ≤ 4096 then x ⟨i - 1, by omega⟩ else 0

/-- One entry of the convolution of a column. -/
def conv (x : Fin 4096 → EReal) (w : Fin 3 → EReal) (b : EReal) (i : Fin 4096) : EReal :=
  taps (padded x i.val) (padded x (i.val + 1)) (padded x (i.val + 2)) (w 0) (w 1) (w 2) b

end Cert.Short
-- ==== Proof.ShortPay.lean ====
/- What one point of the short convolution stores, at an index. -/
module

public import proofs.«01_k».proof.Proof.Gen.ShortIdeal.Frame
public import proofs.«01_k».proof.Proof.ShortRows
public import Idealize.ShloMosaic.PureOps.Ideal
public import Idealize.ShloMosaic.Lib.Pointwise
public import Idealize.ShloMosaic.Lib.ValueIdx
public import Idealize.ShloMosaic.Lib.Pipeline.ValueKit.Basic
public import Idealize.ShloMosaic.Lib.Pipeline.Value

@[expose] public section

set_option maxRecDepth 16384

noncomputable section

namespace Cert.ShortIdeal.Rows

open Cert.ShortIdeal.Gen Cert.Short
open Idealize.ShloMosaic Idealize.ShloMosaic.TcCoe Idealize.ShloMosaic.Tactic

/-- The entry before row `r`: within the block the row above, at the block's first row the last row of the block of eight before it, or zero at the start of the sequence. -/
def before (n : ℕ) (x : Vec Ideal S1x1024x768 .f32) (p : Fin 768 → EReal) (r : Fin 1024) (j : Fin 768) : EReal :=
  if h : r.val = 0 then (if n = 0 then 0 else p j) else x (ix3 0 (⟨r.val - 1, by omega⟩ : Fin 1024) j)

/-- The entry after row `r`. -/
def behind (n : ℕ) (x : Vec Ideal S1x1024x768 .f32) (p : Fin 768 → EReal) (r : Fin 1024) (j : Fin 768) : EReal :=
  if h : r.val = 1023 then (if n = 3 then 0 else p j) else x (ix3 0 (⟨r.val + 1, by omega⟩ : Fin 1024) j)

/-- Whether a block has one before it, as the kernel asks it, -/
theorem word_first : ∀ k : Fin 4, Scalar.cmpi .sgt (BitVec.ofNat 32 k.val) 0#32 = if k.val = 0 then 0#1 else 1#1 := by decide
/-- and whether it has one after it. -/
theorem word_last : ∀ k : Fin 4, Scalar.cmpi .slt (BitVec.ofNat 32 k.val) 3#32 = if k.val = 3 then 0#1 else 1#1 := by decide

/-- A row is the one asked for only where the numbers agree. -/
theorem word_row (r : Fin 1024) (k : ℕ) (hk : k < 1024) (h : r.val ≠ k) : IntOp.cmpi CmpIPredicate.eq (BitVec.ofNat 32 r.val) (BitVec.ofNat 32 k) = 0#1 := by
  have hne : BitVec.ofNat 32 r.val ≠ BitVec.ofNat 32 k := fun e => h (by
    have := congrArg BitVec.toNat e
    rw [BitVec.toNat_ofNat, BitVec.toNat_ofNat] at this; omega)
  show BitVec.ofBool (BitVec.ofNat 32 r.val == BitVec.ofNat 32 k) = 0#1
  rw [beq_eq_false_iff_ne.mpr hne]; rfl

theorem word_same (r : Fin 1024) (k : ℕ) (h : r.val = k) : IntOp.cmpi CmpIPredicate.eq (BitVec.ofNat 32 r.val) (BitVec.ofNat 32 k) = 1#1 := by
  rw [h]
  show BitVec.ofBool (BitVec.ofNat 32 k == BitVec.ofNat 32 k) = 1#1
  rw [beq_self_eq_true]; rfl

variable (i : grid0.Coords) (v0 : Vec Ideal S1x1024x768 .f32) (v4 : Vec Ideal S1x1x768 .f32) (w v : Vec Ideal S1x768 .f32)

theorem pay6_at (r : Fin 1024) (j : Fin 768) :
    k0_pay6 i v0 v4 w v (ix2 r j)
      = before (i 1).val v0 (fun d => v4 (ix3 0 0 d)) r j * w (ix2 0 j) + v0 (ix3 0 r j) * v (ix2 0 j) := by
  unfold k0_pay6 k0_pay5
  have hw : Scalar.cmpi .sgt (BitVec.ofNat 32 (i 1).val) 0#32 = if (i 1).val = 0 then 0#1 else 1#1 := word_first (i 1)
  simp only [hw]
  pointwise
  have hb : before (i 1).val v0 (fun d => v4 (ix3 0 0 d)) r j
      = Scalar.select (IntOp.cmpi CmpIPredicate.eq (BitVec.ofNat 32 r.val) 0#32)
          (Scalar.select (if (i 1).val = 0 then 0#1 else 1#1) (v4 (ix3 0 0 j)) 0)
          (v0 (ix3 0 (⟨(r.val + 1024 - 1) % 1024, by omega⟩ : Fin 1024) j)) := by
    unfold before
    by_cases h : r.val = 0
    · have he : IntOp.cmpi CmpIPredicate.eq (BitVec.ofNat 32 r.val) 0#32 = 1#1 := word_same r 0 h
      rw [dif_pos h, he]
      by_cases hi : (i 1).val = 0
      · rw [if_pos hi, if_pos hi]; rfl
      · rw [if_neg hi, if_neg hi]; rfl
    · have hne : IntOp.cmpi CmpIPredicate.eq (BitVec.ofNat 32 r.val) 0#32 = 0#1 := word_row r 0 (by omega) h
      have er : (⟨r.val - 1, by omega⟩ : Fin 1024) = ⟨(r.val + 1024 - 1) % 1024, by omega⟩ := Fin.ext (by show r.val - 1 = (r.val + 1024 - 1) % 1024; omega)
      rw [dif_neg h, hne, er]; rfl
  rw [hb]

theorem pay7_at (r : Fin 1024) (j : Fin 768) :
    k0_pay7 i v0 v4 w (ix2 r j) = behind (i 1).val v0 (fun d => v4 (ix3 0 0 d)) r j * w (ix2 0 j) := by
  unfold k0_pay7 k0_pay5
  have hw : Scalar.cmpi .slt (BitVec.ofNat 32 (i 1).val) 3#32 = if (i 1).val = 3 then 0#1 else 1#1 := word_last (i 1)
  simp only [hw]
  pointwise
  have hb : behind (i 1).val v0 (fun d => v4 (ix3 0 0 d)) r j
      = Scalar.select (IntOp.cmpi CmpIPredicate.eq (BitVec.ofNat 32 r.val) 1023#32)
          (Scalar.select (if (i 1).val = 3 then 0#1 else 1#1) (v4 (ix3 0 0 j)) 0)
          (v0 (ix3 0 (⟨(r.val + 1024 - 1023) % 1024, by omega⟩ : Fin 1024) j)) := by
    unfold behind
    by_cases h : r.val = 1023
    · have he : IntOp.cmpi CmpIPredicate.eq (BitVec.ofNat 32 r.val) 1023#32 = 1#1 := word_same r 1023 h
      rw [dif_pos h, he]
      by_cases hi : (i 1).val = 3
      · rw [if_pos hi, if_pos hi]; rfl
      · rw [if_neg hi, if_neg hi]; rfl
    · have hne : IntOp.cmpi CmpIPredicate.eq (BitVec.ofNat 32 r.val) 1023#32 = 0#1 := word_row r 1023 (by omega) h
      have er : (⟨r.val + 1, by omega⟩ : Fin 1024) = ⟨(r.val + 1024 - 1023) % 1024, by omega⟩ := Fin.ext (by show r.val + 1 = (r.val + 1024 - 1023) % 1024; omega)
      rw [dif_neg h, hne, er]; rfl
  rw [hb]

variable (p q : FVec Ideal S1024x768 .f32)

theorem pay1_at (r : Fin 1024) (j : Fin 768) : k0_pay1 p q w (ix2 r j) = p (ix2 r j) + q (ix2 r j) + w (ix2 0 j) := by
  unfold k0_pay1; pointwise

theorem pay2_at (a : Fin 1) (r : Fin 1024) (j : Fin 256) :
    k0_pay2 p q w (ix3 a r j) = k0_pay1 p q w (ix2 r (⟨j.val, by omega⟩ : Fin 768)) := by
  unfold k0_pay2; generalize k0_pay1 p q w = y; pointwise

theorem pay3_at (a : Fin 1) (r : Fin 1024) (j : Fin 256) :
    k0_pay3 p q w (ix3 a r j) = k0_pay1 p q w (ix2 r (⟨256 + j.val, by omega⟩ : Fin 768)) := by
  unfold k0_pay3; generalize k0_pay1 p q w = y; pointwise

theorem pay4_at (a : Fin 1) (r : Fin 1024) (j : Fin 256) :
    k0_pay4 p q w (ix3 a r j) = k0_pay1 p q w (ix2 r (⟨512 + j.val, by omega⟩ : Fin 768)) := by
  unfold k0_pay4; generalize k0_pay1 p q w = y; pointwise

variable (x1 x2 : Vec Ideal S1x8x768 .f32) (x3 : Vec Ideal S3x768 .f32) (x4 : Vec Ideal S1x768 .f32)

theorem ld_1 (a b : Fin 1) (j : Fin 768) : View.ld x1 r0_1 (ix3 a b j) = x1 (ix3 0 7 j) := by
  rw [View.ld_unit]; pointwise

theorem ld_2 (a b : Fin 1) (j : Fin 768) : View.ld x2 r0_2 (ix3 a b j) = x2 (ix3 0 0 j) := by
  rw [View.ld_unit]; pointwise

theorem ld_3 (a : Fin 1) (j : Fin 768) : View.ld x3 r0_3 (ix2 a j) = x3 (ix2 0 j) := by
  rw [View.ld_unit]; pointwise

theorem ld_4 (a : Fin 1) (j : Fin 768) : View.ld x3 r0_4 (ix2 a j) = x3 (ix2 1 j) := by
  rw [View.ld_unit]; pointwise

theorem ld_5 (a : Fin 1) (j : Fin 768) : View.ld x3 r0_5 (ix2 a j) = x3 (ix2 2 j) := by
  rw [View.ld_unit]; pointwise

/-- The convolution of a block's row, before it is split. -/
def rowOf (n : ℕ) (x0 : Vec Ideal S1x1024x768 .f32) (r : Fin 1024) (j : Fin 768) : EReal :=
  taps (before n x0 (fun d => x1 (ix3 0 7 d)) r j) (x0 (ix3 0 r j)) (behind n x0 (fun d => x2 (ix3 0 0 d)) r j)
    (x3 (ix2 0 j)) (x3 (ix2 1 j)) (x3 (ix2 2 j)) (x4 (ix2 0 j))

theorem whole_at (r : Fin 1024) (j : Fin 768) :
    k0_pay1 (k0_pay8 i v0 x1 x2 x3 x4) (k0_pay9 i v0 x1 x2 x3 x4) x4 (ix2 r j) = rowOf x1 x2 x3 x4 (i 1).val v0 r j := by
  rw [pay1_at]
  unfold k0_pay8 k0_pay9
  rw [View.ld_unit_lit _ v0 (by decide), pay6_at, pay7_at, ld_3, ld_4, ld_5]
  have e1 : (fun d => View.ld x1 r0_1 (ix3 (0 : Fin 1) (0 : Fin 1) d)) = fun d => x1 (ix3 0 7 d) := funext fun d => ld_1 x1 0 0 d
  have e2 : (fun d => View.ld x2 r0_2 (ix3 (0 : Fin 1) (0 : Fin 1) d)) = fun d => x2 (ix3 0 0 d) := funext fun d => ld_2 x2 0 0 d
  rw [e1, e2]
  rfl

theorem out5_at (a : Fin 1) (r : Fin 1024) (j : Fin 256) :
    out0_5 i v0 x1 x2 x3 x4 (ix3 a r j) = rowOf x1 x2 x3 x4 (i 1).val v0 r (⟨j.val, by omega⟩ : Fin 768) := by
  unfold out0_5
  rw [View.canon_cons_unit_lit _ _ _ (by decide), View.ld_unit_lit _ x4 (by decide)]
  exact (pay2_at _ _ _ a r j).trans (whole_at _ _ _ _ _ _ r _)

theorem out6_at (a : Fin 1) (r : Fin 1024) (j : Fin 256) :
    out0_6 i v0 x1 x2 x3 x4 (ix3 a r j) = rowOf x1 x2 x3 x4 (i 1).val v0 r (⟨256 + j.val, by omega⟩ : Fin 768) := by
  unfold out0_6
  rw [View.canon_cons_unit_lit _ _ _ (by decide), View.ld_unit_lit _ x4 (by decide)]
  exact (pay3_at _ _ _ a r j).trans (whole_at _ _ _ _ _ _ r _)

theorem out7_at (a : Fin 1) (r : Fin 1024) (j : Fin 256) :
    out0_7 i v0 x1 x2 x3 x4 (ix3 a r j) = rowOf x1 x2 x3 x4 (i 1).val v0 r (⟨512 + j.val, by omega⟩ : Fin 768) := by
  unfold out0_7
  rw [View.canon_cons_unit_lit _ _ _ (by decide), View.ld_unit_lit _ x4 (by decide)]
  exact (pay4_at _ _ _ a r j).trans (whole_at _ _ _ _ _ _ r _)

end Cert.ShortIdeal.Rows
-- ==== Proof.ShortArr.lean ====
/- What each window of the short convolution reads of its array, and what the call leaves in its three output arrays. -/
module

public import proofs.«01_k».proof.Proof.ShortPay
public import proofs.«01_k».proof.Proof.Gen.ShortIdeal.Points
public import Idealize.ShloMosaic.Lib.Pipeline.Value
public import Idealize.ShloMosaic.Lib.WritesUnit

@[expose] public section

set_option maxRecDepth 16384

noncomputable section

namespace Cert.ShortIdeal.Rows

open Cert.ShortIdeal.Gen Cert.Short
open Idealize.ShloMosaic Idealize.ShloMosaic.TcCoe Idealize.ShloMosaic.Tactic
open Idealize.ShloMosaic.Pipeline (Dat Cfg Window)

/-- The entry before a row of block `n` is the padded column's. -/
theorem before_at (x : Fin 4096 → EReal) (n : ℕ) (hn : n < 4) (v : Vec Ideal S1x1024x768 .f32) (p : Fin 768 → EReal) (r : Fin 1024) (j : Fin 768)
    (hv : ∀ r : Fin 1024, v (ix3 0 r j) = x (⟨1024 * n + r.val, by omega⟩ : Fin 4096))
    (hp : ∀ h : n ≠ 0, p j = x (⟨1024 * n - 1, by omega⟩ : Fin 4096)) :
    before n v p r j = padded x (1024 * n + r.val) := by
  unfold before padded
  by_cases h : r.val = 0
  · rw [dif_pos h]
    by_cases hz : n = 0
    · rw [if_pos hz, dif_neg (show ¬ (1 ≤ 1024 * n + r.val ∧ 1024 * n + r.val ≤ 4096) by omega)]
    · rw [if_neg hz, dif_pos (show 1 ≤ 1024 * n + r.val ∧ 1024 * n + r.val ≤ 4096 by omega), hp hz]
      exact congrArg x (Fin.ext (by show 1024 * n - 1 = 1024 * n + r.val - 1; omega))
  · rw [dif_neg h, dif_pos (show 1 ≤ 1024 * n + r.val ∧ 1024 * n + r.val ≤ 4096 by omega), hv]
    exact congrArg x (Fin.ext (by show 1024 * n + (r.val - 1) = 1024 * n + r.val - 1; omega))

/-- The entry itself, -/
theorem here_at (x : Fin 4096 → EReal) (n : ℕ) (hn : n < 4) (r : Fin 1024) :
    x (⟨1024 * n + r.val, by omega⟩ : Fin 4096) = padded x (1024 * n + r.val + 1) := by
  unfold padded
  rw [dif_pos (show 1 ≤ 1024 * n + r.val + 1 ∧ 1024 * n + r.val + 1 ≤ 4096 by omega)]
  exact congrArg x (Fin.ext (by show 1024 * n + r.val = 1024 * n + r.val + 1 - 1; omega))

/-- and the entry after it. -/
theorem behind_at (x : Fin 4096 → EReal) (n : ℕ) (hn : n < 4) (v : Vec Ideal S1x1024x768 .f32) (p : Fin 768 → EReal) (r : Fin 1024) (j : Fin 768)
    (hv : ∀ r : Fin 1024, v (ix3 0 r j) = x (⟨1024 * n + r.val, by omega⟩ : Fin 4096))
    (hp : ∀ h : n ≠ 3, p j = x (⟨1024 * (n + 1), by omega⟩ : Fin 4096)) :
    behind n v p r j = padded x (1024 * n + r.val + 2) := by
  unfold behind padded
  by_cases h : r.val = 1023
  · rw [dif_pos h]
    by_cases hz : n = 3
    · rw [if_pos hz, dif_neg (show ¬ (1 ≤ 1024 * n + r.val + 2 ∧ 1024 * n + r.val + 2 ≤ 4096) by omega)]
    · rw [if_neg hz, dif_pos (show 1 ≤ 1024 * n + r.val + 2 ∧ 1024 * n + r.val + 2 ≤ 4096 by omega), hp hz]
      exact congrArg x (Fin.ext (by show 1024 * (n + 1) = 1024 * n + r.val + 2 - 1; omega))
  · rw [dif_neg h, dif_pos (show 1 ≤ 1024 * n + r.val + 2 ∧ 1024 * n + r.val + 2 ≤ 4096 by omega), hv]
    exact congrArg x (Fin.ext (by show 1024 * n + (r.val + 1) = 1024 * n + r.val + 2 - 1; omega))

variable (m : (ℓ : Loc nD τ sig) → Buf (Elt Ideal) ℓ) (c : Dev nD)

theorem coord_1 (t : Fin grid0.N) : (grid0.coords t 1).val = t.val % 4 := by
  have e : (grid0.coords t 1).val = t.val / 1 % 4 := Pipeline.Grid.coords_val t 1 (by decide) rfl
  rw [e]; omega

theorem word_0 (t : Fin grid0.N) : (BitVec.ofNat 32 (grid0.coords t 0).val).toNat = t.val / 4 := by
  have ht : t.val < 16 := Nat.lt_of_lt_of_eq t.isLt N_0
  have e : (grid0.coords t 0).val = t.val / 4 % 4 := Pipeline.Grid.coords_val t 0 (by decide) rfl
  rw [e, BitVec.toNat_ofNat]; omega

theorem word_1 (t : Fin grid0.N) : (BitVec.ofNat 32 (grid0.coords t 1).val).toNat = t.val % 4 := by
  rw [coord_1, BitVec.toNat_ofNat]; omega

/-- The block of eight rows before a block of 1024 rows, -/
theorem eight_before : ∀ k : Fin 4, (Scalar.maxsi (Scalar.subi (Scalar.muli (BitVec.ofNat 32 k.val) 128#32) 1#32) 0#32).toNat = 128 * k.val - 1 := by decide
/-- and the one after it. -/
theorem eight_behind : ∀ k : Fin 4, (Scalar.minsi (Scalar.muli (Scalar.addi (BitVec.ofNat 32 k.val) 1#32) 128#32) 511#32).toNat = min (128 * (k.val + 1)) 511 := by decide

theorem word_2 (t : Fin grid0.N) : (Scalar.maxsi (Scalar.subi (Scalar.muli (BitVec.ofNat 32 (grid0.coords t 1).val) 128#32) 1#32) 0#32).toNat = 128 * (t.val % 4) - 1 :=
  (eight_before (grid0.coords t 1)).trans (by rw [coord_1])

theorem word_3 (t : Fin grid0.N) : (Scalar.minsi (Scalar.muli (Scalar.addi (BitVec.ofNat 32 (grid0.coords t 1).val) 1#32) 128#32) 511#32).toNat = min (128 * (t.val % 4 + 1)) 511 :=
  (eight_behind (grid0.coords t 1)).trans (by rw [coord_1])

/-- A column of the projection the convolution is applied to. -/
def column (x : Vec Ideal S4x4096x3072 .f32) (b : Fin 4) (j : Fin 768) : Fin 4096 → EReal := fun i => x (ix3 b i (⟨768 + j.val, by omega⟩ : Fin 3072))

theorem blk_0 (t : Fin cfg0.N) (r : Fin 1024) (j : Fin 768) (b : Fin 4) (g : Fin 4096) (h0 : b.val = t.val / 4) (h1 : g.val = 1024 * (t.val % 4) + r.val) :
    (iblk m c 0 t : Vec Ideal S1x1024x768 .f32) (ix3 0 r j) = column (V m c main_arg0) b j g := by
  have e : (iblk m c 0 t : Vec Ideal S1x1024x768 .f32) (ix3 0 r j) = (V m c main_arg0 : Vec Ideal S4x4096x3072 .f32) ((win0_0.rect t).emb (ix3 0 r j)) := rfl
  rw [e]; unfold column
  congr 1; funext x; apply Fin.ext; rw [win0_0.rect_emb_val t (ix3 0 r j) x]
  fin_cases x
  · show (BitVec.ofNat 32 (grid0.coords t 0).val).toNat * 1 + 0 = b.val; rw [word_0]; omega
  · show (BitVec.ofNat 32 (grid0.coords t 1).val).toNat * 1024 + r.val = g.val; rw [word_1]; omega
  · show 1 * 768 + j.val = 768 + j.val; omega

theorem blk_1 (t : Fin cfg0.N) (j : Fin 768) (b : Fin 4) (g : Fin 4096) (h0 : b.val = t.val / 4) (h1 : g.val = (128 * (t.val % 4) - 1) * 8 + 7) :
    (iblk m c 1 t : Vec Ideal S1x8x768 .f32) (ix3 0 7 j) = column (V m c main_arg0) b j g := by
  have e : (iblk m c 1 t : Vec Ideal S1x8x768 .f32) (ix3 0 7 j) = (V m c main_arg0 : Vec Ideal S4x4096x3072 .f32) ((win0_1.rect t).emb (ix3 0 7 j)) := rfl
  rw [e]; unfold column
  congr 1; funext x; apply Fin.ext; rw [win0_1.rect_emb_val t (ix3 0 7 j) x]
  fin_cases x
  · show (BitVec.ofNat 32 (grid0.coords t 0).val).toNat * 1 + 0 = b.val; rw [word_0]; omega
  · show (Scalar.maxsi (Scalar.subi (Scalar.muli (BitVec.ofNat 32 (grid0.coords t 1).val) 128#32) 1#32) 0#32).toNat * 8 + 7 = g.val; rw [word_2]; omega
  · show 1 * 768 + j.val = 768 + j.val; omega

theorem blk_2 (t : Fin cfg0.N) (j : Fin 768) (b : Fin 4) (g : Fin 4096) (h0 : b.val = t.val / 4) (h1 : g.val = min (128 * (t.val % 4 + 1)) 511 * 8) :
    (iblk m c 2 t : Vec Ideal S1x8x768 .f32) (ix3 0 0 j) = column (V m c main_arg0) b j g := by
  have e : (iblk m c 2 t : Vec Ideal S1x8x768 .f32) (ix3 0 0 j) = (V m c main_arg0 : Vec Ideal S4x4096x3072 .f32) ((win0_2.rect t).emb (ix3 0 0 j)) := rfl
  rw [e]; unfold column
  congr 1; funext x; apply Fin.ext; rw [win0_2.rect_emb_val t (ix3 0 0 j) x]
  fin_cases x
  · show (BitVec.ofNat 32 (grid0.coords t 0).val).toNat * 1 + 0 = b.val; rw [word_0]; omega
  · show (Scalar.minsi (Scalar.muli (Scalar.addi (BitVec.ofNat 32 (grid0.coords t 1).val) 1#32) 128#32) 511#32).toNat * 8 + 0 = g.val; rw [word_3]; omega
  · show 1 * 768 + j.val = 768 + j.val; omega

theorem blk_3 (t : Fin cfg0.N) (k : Fin 3) (j : Fin 768) :
    (iblk m c 3 t : Vec Ideal S3x768 .f32) (ix2 k j) = (V m c main_arg1 : Vec Ideal S3x768 .f32) (ix2 k j) := by
  have e : (iblk m c 3 t : Vec Ideal S3x768 .f32) (ix2 k j) = (V m c main_arg1 : Vec Ideal S3x768 .f32) ((win0_3.rect t).emb (ix2 k j)) := rfl
  rw [e]
  congr 1; funext x; apply Fin.ext; rw [win0_3.rect_emb_val t (ix2 k j) x]
  fin_cases x
  · show 0 * 3 + k.val = k.val; omega
  · show 0 * 768 + j.val = j.val; omega

theorem blk_4 (t : Fin cfg0.N) (j : Fin 768) :
    (iblk m c 4 t : Vec Ideal S1x768 .f32) (ix2 0 j) = (V m c main_v0 : Vec Ideal S1x768 .f32) (ix2 0 j) := by
  have e : (iblk m c 4 t : Vec Ideal S1x768 .f32) (ix2 0 j) = (V m c main_v0 : Vec Ideal S1x768 .f32) ((win0_4.rect t).emb (ix2 0 j)) := rfl
  rw [e]
  congr 1; funext x; apply Fin.ext; rw [win0_4.rect_emb_val t (ix2 0 j) x]
  fin_cases x
  · show 0 * 1 + 0 = 0; omega
  · show 0 * 768 + j.val = j.val; omega

/-- The convolution of a column of the projection, at a row. -/
def filtered (b : Fin 4) (i : Fin 4096) (j : Fin 768) : EReal :=
  conv (column (V m c main_arg0) b j) (fun k => (V m c main_arg1 : Vec Ideal S3x768 .f32) (ix2 k j)) ((V m c main_v0 : Vec Ideal S1x768 .f32) (ix2 0 j)) i

/-- What a point computes of a row is the convolution there. -/
theorem row_at (t : Fin cfg0.N) (r : Fin 1024) (j : Fin 768) (b : Fin 4) (i : Fin 4096) (h0 : b.val = t.val / 4) (h1 : i.val = 1024 * (t.val % 4) + r.val) :
    rowOf (iblk m c 1 t) (iblk m c 2 t) (iblk m c 3 t) (iblk m c 4 t) (grid0.coords t 1).val (iblk m c 0 t) r j = filtered m c b i j := by
  have hn : t.val % 4 < 4 := Nat.mod_lt _ (by decide)
  have hv : ∀ r : Fin 1024, (iblk m c 0 t : Vec Ideal S1x1024x768 .f32) (ix3 0 r j) = column (V m c main_arg0) b j (⟨1024 * (t.val % 4) + r.val, by omega⟩ : Fin 4096) :=
    fun r => blk_0 m c t r j b _ h0 rfl
  unfold rowOf filtered conv
  rw [coord_1, blk_3 m c t 0 j, blk_3 m c t 1 j, blk_3 m c t 2 j, blk_4 m c t j, hv r, here_at (column (V m c main_arg0) b j) (t.val % 4) hn r, h1,
    before_at (column (V m c main_arg0) b j) (t.val % 4) hn (iblk m c 0 t) (fun d => (iblk m c 1 t : Vec Ideal S1x8x768 .f32) (ix3 0 7 d)) r j hv
      (fun h => blk_1 m c t j b _ h0 (by show 1024 * (t.val % 4) - 1 = (128 * (t.val % 4) - 1) * 8 + 7; omega)),
    behind_at (column (V m c main_arg0) b j) (t.val % 4) hn (iblk m c 0 t) (fun d => (iblk m c 2 t : Vec Ideal S1x8x768 .f32) (ix3 0 0 d)) r j hv
      (fun h => blk_2 m c t j b _ h0 (by show 1024 * (t.val % 4 + 1) = min (128 * (t.val % 4 + 1)) 511 * 8; omega))]

/-- What the call leaves in an output: 256 columns of the convolution, from column `o` on. -/
def left (o : ℕ) (ho : o + 256 ≤ 768) : Vec Ideal S4x4096x256 .f32 := fun i =>
  filtered m c (i 0 : Fin 4) (i 1 : Fin 4096) (⟨o + (i 2 : Fin 256).val, by have h : (i 2).val < 256 := (i 2).isLt; have e : (i 2 : Fin 256).val = (i 2).val := rfl; omega⟩ : Fin 768)

/-- Every element of output 0 lies in the block of some point. -/
theorem covered_5 (i : S4x4096x256.Idx) : ∃ t : Fin cfg0.N, (cfg0.win 5).flush t = true ∧ i ∈ ((cfg0.win 5).blk t).view.set := by
  have b0 : (i 0).val < 4 := (i 0).isLt
  have b1 : (i 1).val < 4096 := (i 1).isLt
  have b2 : (i 2).val < 256 := (i 2).isLt
  have ht : 4 * (i 0).val + (i 1).val / 1024 < cfg0.N := by rw [show cfg0.N = 16 from N_0]; omega
  refine ⟨⟨4 * (i 0).val + (i 1).val / 1024, ht⟩, flush0_5 _, ?_⟩
  show i ∈ ((View.whole main_v1_0).slice (win0_5.rect ⟨4 * (i 0).val + (i 1).val / 1024, ht⟩)).set
  rw [View.set_slice_whole, Rect.mem_set_unit]
  have w0 := word_0 ⟨4 * (i 0).val + (i 1).val / 1024, ht⟩
  have w1 := word_1 ⟨4 * (i 0).val + (i 1).val / 1024, ht⟩
  intro a
  fin_cases a
  · show (BitVec.ofNat 32 (grid0.coords _ 0).val).toNat * 1 ≤ (i 0).val ∧ (i 0).val < (BitVec.ofNat 32 (grid0.coords _ 0).val).toNat * 1 + 1
    rw [w0]; simp only []; omega
  · show (BitVec.ofNat 32 (grid0.coords _ 1).val).toNat * 1024 ≤ (i 1).val ∧ (i 1).val < (BitVec.ofNat 32 (grid0.coords _ 1).val).toNat * 1024 + 1024
    rw [w1]; simp only []; omega
  · show 0 * 256 ≤ (i 2).val ∧ (i 2).val < 0 * 256 + 256
    omega

/-- What the call leaves in output 0. -/
theorem arr_5 : (dats m 0 c).arrAt 5 cfg0.N = left m c 0 (by decide) := by
  refine (dats m 0 c).arrAt_eq_of_cover 5 (left m c 0 (by decide)) (fun t _ => ?_) covered_5
  have ht : t.val < 16 := Nat.lt_of_lt_of_eq t.isLt N_0
  funext y
  obtain ⟨z, r, j, rfl⟩ : ∃ z r j, y = ix3 (n0 := 1) (n1 := 1024) (n2 := 256) z r j := ⟨_, _, _, eq_ix3 y⟩
  obtain rfl : z = 0 := Subsingleton.elim _ _
  have el : (dats m 0 c).flushed 5 t (ix3 0 r j)
      = out0_5 (grid0.coords t) (iblk m c 0 t) (iblk m c 1 t) (iblk m c 2 t) (iblk m c 3 t) (iblk m c 4 t) (ix3 0 r j) := by
    show (dats m 0 c).after 5 t _ = _
    rw [after0_5]; rfl
  have ei : (win0_5.rect t).emb (ix3 0 r j) = ix3 (⟨t.val / 4, by omega⟩ : Fin 4) (⟨1024 * (t.val % 4) + r.val, by omega⟩ : Fin 4096) j := by
    funext a; apply Fin.ext; rw [win0_5.rect_emb_val t (ix3 0 r j) a]
    fin_cases a
    · show (BitVec.ofNat 32 (grid0.coords t 0).val).toNat * 1 + 0 = t.val / 4; rw [word_0]; omega
    · show (BitVec.ofNat 32 (grid0.coords t 1).val).toNat * 1024 + r.val = 1024 * (t.val % 4) + r.val; rw [word_1]; omega
    · show 0 * 256 + j.val = j.val; omega
  have er : ((cfg0.win 5).blk t).view.read (Elt Ideal) (left m c 0 (by decide)) (ix3 0 r j) = left m c 0 (by decide) ((win0_5.rect t).emb (ix3 0 r j)) := rfl
  refine el.trans (Eq.trans ?_ er.symm)
  rw [ei]
  refine (out5_at (grid0.coords t) (iblk m c 0 t) (iblk m c 1 t) (iblk m c 2 t) (iblk m c 3 t) (iblk m c 4 t) 0 r j).trans ?_
  refine (row_at m c t r (⟨j.val, by omega⟩ : Fin 768) (⟨t.val / 4, by omega⟩ : Fin 4) (⟨1024 * (t.val % 4) + r.val, by omega⟩ : Fin 4096) rfl rfl).trans ?_
  exact congrArg (filtered m c _ _) (Fin.ext (by show j.val = 0 + j.val; omega))

/-- Every element of output 1 lies in the block of some point. -/
theorem covered_6 (i : S4x4096x256.Idx) : ∃ t : Fin cfg0.N, (cfg0.win 6).flush t = true ∧ i ∈ ((cfg0.win 6).blk t).view.set := by
  have b0 : (i 0).val < 4 := (i 0).isLt
  have b1 : (i 1).val < 4096 := (i 1).isLt
  have b2 : (i 2).val < 256 := (i 2).isLt
  have ht : 4 * (i 0).val + (i 1).val / 1024 < cfg0.N := by rw [show cfg0.N = 16 from N_0]; omega
  refine ⟨⟨4 * (i 0).val + (i 1).val / 1024, ht⟩, flush0_6 _, ?_⟩
  show i ∈ ((View.whole main_v1_1).slice (win0_6.rect ⟨4 * (i 0).val + (i 1).val / 1024, ht⟩)).set
  rw [View.set_slice_whole, Rect.mem_set_unit]
  have w0 := word_0 ⟨4 * (i 0).val + (i 1).val / 1024, ht⟩
  have w1 := word_1 ⟨4 * (i 0).val + (i 1).val / 1024, ht⟩
  intro a
  fin_cases a
  · show (BitVec.ofNat 32 (grid0.coords _ 0).val).toNat * 1 ≤ (i 0).val ∧ (i 0).val < (BitVec.ofNat 32 (grid0.coords _ 0).val).toNat * 1 + 1
    rw [w0]; simp only []; omega
  · show (BitVec.ofNat 32 (grid0.coords _ 1).val).toNat * 1024 ≤ (i 1).val ∧ (i 1).val < (BitVec.ofNat 32 (grid0.coords _ 1).val).toNat * 1024 + 1024
    rw [w1]; simp only []; omega
  · show 0 * 256 ≤ (i 2).val ∧ (i 2).val < 0 * 256 + 256
    omega

/-- What the call leaves in output 1. -/
theorem arr_6 : (dats m 0 c).arrAt 6 cfg0.N = left m c 256 (by decide) := by
  refine (dats m 0 c).arrAt_eq_of_cover 6 (left m c 256 (by decide)) (fun t _ => ?_) covered_6
  have ht : t.val < 16 := Nat.lt_of_lt_of_eq t.isLt N_0
  funext y
  obtain ⟨z, r, j, rfl⟩ : ∃ z r j, y = ix3 (n0 := 1) (n1 := 1024) (n2 := 256) z r j := ⟨_, _, _, eq_ix3 y⟩
  obtain rfl : z = 0 := Subsingleton.elim _ _
  have el : (dats m 0 c).flushed 6 t (ix3 0 r j)
      = out0_6 (grid0.coords t) (iblk m c 0 t) (iblk m c 1 t) (iblk m c 2 t) (iblk m c 3 t) (iblk m c 4 t) (ix3 0 r j) := by
    show (dats m 0 c).after 6 t _ = _
    rw [after0_6]; rfl
  have ei : (win0_6.rect t).emb (ix3 0 r j) = ix3 (⟨t.val / 4, by omega⟩ : Fin 4) (⟨1024 * (t.val % 4) + r.val, by omega⟩ : Fin 4096) j := by
    funext a; apply Fin.ext; rw [win0_6.rect_emb_val t (ix3 0 r j) a]
    fin_cases a
    · show (BitVec.ofNat 32 (grid0.coords t 0).val).toNat * 1 + 0 = t.val / 4; rw [word_0]; omega
    · show (BitVec.ofNat 32 (grid0.coords t 1).val).toNat * 1024 + r.val = 1024 * (t.val % 4) + r.val; rw [word_1]; omega
    · show 0 * 256 + j.val = j.val; omega
  have er : ((cfg0.win 6).blk t).view.read (Elt Ideal) (left m c 256 (by decide)) (ix3 0 r j) = left m c 256 (by decide) ((win0_6.rect t).emb (ix3 0 r j)) := rfl
  refine el.trans (Eq.trans ?_ er.symm)
  rw [ei]
  refine (out6_at (grid0.coords t) (iblk m c 0 t) (iblk m c 1 t) (iblk m c 2 t) (iblk m c 3 t) (iblk m c 4 t) 0 r j).trans ?_
  refine (row_at m c t r (⟨256 + j.val, by omega⟩ : Fin 768) (⟨t.val / 4, by omega⟩ : Fin 4) (⟨1024 * (t.val % 4) + r.val, by omega⟩ : Fin 4096) rfl rfl).trans ?_
  exact congrArg (filtered m c _ _) (Fin.ext (by show 256 + j.val = 256 + j.val; omega))

/-- Every element of output 2 lies in the block of some point. -/
theorem covered_7 (i : S4x4096x256.Idx) : ∃ t : Fin cfg0.N, (cfg0.win 7).flush t = true ∧ i ∈ ((cfg0.win 7).blk t).view.set := by
  have b0 : (i 0).val < 4 := (i 0).isLt
  have b1 : (i 1).val < 4096 := (i 1).isLt
  have b2 : (i 2).val < 256 := (i 2).isLt
  have ht : 4 * (i 0).val + (i 1).val / 1024 < cfg0.N := by rw [show cfg0.N = 16 from N_0]; omega
  refine ⟨⟨4 * (i 0).val + (i 1).val / 1024, ht⟩, flush0_7 _, ?_⟩
  show i ∈ ((View.whole main_v1_2).slice (win0_7.rect ⟨4 * (i 0).val + (i 1).val / 1024, ht⟩)).set
  rw [View.set_slice_whole, Rect.mem_set_unit]
  have w0 := word_0 ⟨4 * (i 0).val + (i 1).val / 1024, ht⟩
  have w1 := word_1 ⟨4 * (i 0).val + (i 1).val / 1024, ht⟩
  intro a
  fin_cases a
  · show (BitVec.ofNat 32 (grid0.coords _ 0).val).toNat * 1 ≤ (i 0).val ∧ (i 0).val < (BitVec.ofNat 32 (grid0.coords _ 0).val).toNat * 1 + 1
    rw [w0]; simp only []; omega
  · show (BitVec.ofNat 32 (grid0.coords _ 1).val).toNat * 1024 ≤ (i 1).val ∧ (i 1).val < (BitVec.ofNat 32 (grid0.coords _ 1).val).toNat * 1024 + 1024
    rw [w1]; simp only []; omega
  · show 0 * 256 ≤ (i 2).val ∧ (i 2).val < 0 * 256 + 256
    omega

/-- What the call leaves in output 2. -/
theorem arr_7 : (dats m 0 c).arrAt 7 cfg0.N = left m c 512 (by decide) := by
  refine (dats m 0 c).arrAt_eq_of_cover 7 (left m c 512 (by decide)) (fun t _ => ?_) covered_7
  have ht : t.val < 16 := Nat.lt_of_lt_of_eq t.isLt N_0
  funext y
  obtain ⟨z, r, j, rfl⟩ : ∃ z r j, y = ix3 (n0 := 1) (n1 := 1024) (n2 := 256) z r j := ⟨_, _, _, eq_ix3 y⟩
  obtain rfl : z = 0 := Subsingleton.elim _ _
  have el : (dats m 0 c).flushed 7 t (ix3 0 r j)
      = out0_7 (grid0.coords t) (iblk m c 0 t) (iblk m c 1 t) (iblk m c 2 t) (iblk m c 3 t) (iblk m c 4 t) (ix3 0 r j) := by
    show (dats m 0 c).after 7 t _ = _
    rw [after0_7]; rfl
  have ei : (win0_7.rect t).emb (ix3 0 r j) = ix3 (⟨t.val / 4, by omega⟩ : Fin 4) (⟨1024 * (t.val % 4) + r.val, by omega⟩ : Fin 4096) j := by
    funext a; apply Fin.ext; rw [win0_7.rect_emb_val t (ix3 0 r j) a]
    fin_cases a
    · show (BitVec.ofNat 32 (grid0.coords t 0).val).toNat * 1 + 0 = t.val / 4; rw [word_0]; omega
    · show (BitVec.ofNat 32 (grid0.coords t 1).val).toNat * 1024 + r.val = 1024 * (t.val % 4) + r.val; rw [word_1]; omega
    · show 0 * 256 + j.val = j.val; omega
  have er : ((cfg0.win 7).blk t).view.read (Elt Ideal) (left m c 512 (by decide)) (ix3 0 r j) = left m c 512 (by decide) ((win0_7.rect t).emb (ix3 0 r j)) := rfl
  refine el.trans (Eq.trans ?_ er.symm)
  rw [ei]
  refine (out7_at (grid0.coords t) (iblk m c 0 t) (iblk m c 1 t) (iblk m c 2 t) (iblk m c 3 t) (iblk m c 4 t) 0 r j).trans ?_
  refine (row_at m c t r (⟨512 + j.val, by omega⟩ : Fin 768) (⟨t.val / 4, by omega⟩ : Fin 4) (⟨1024 * (t.val % 4) + r.val, by omega⟩ : Fin 4096) rfl rfl).trans ?_
  exact congrArg (filtered m c _ _) (Fin.ext (by show 512 + j.val = 512 + j.val; omega))

end Cert.ShortIdeal.Rows
-- ==== Proof.ShortRef.lean ====
/- The plain reference of the short convolution, at an index. -/
module

public import proofs.«01_k».proof.Proof.Gen.ShortRefIdeal.Read
public import proofs.«01_k».proof.Proof.ShortRows
public import Idealize.ShloMosaic.PureOps.Ideal
public import Idealize.ShloMosaic.Lib.Pointwise
public import Idealize.ShloMosaic.Lib.ValueIdx
public import Idealize.ShloMosaic.Lib.KernelVsHost

@[expose] public section

set_option maxRecDepth 16384

noncomputable section

namespace Cert.ShortRefIdeal.Rows

open Cert.ShortRefIdeal.Read Cert.Short
open Idealize.ShloMosaic Idealize.ShloMosaic.TcCoe Idealize.ShloMosaic.Tactic

variable (x0 : FVec Ideal S4x4096x3072 .f32) (x1 : FVec Ideal S3x768 .f32) (x2 : FVec Ideal S768 .f32)

/-- A column of the projection the convolution is applied to. -/
abbrev column (x0 : FVec Ideal S4x4096x3072 .f32) (b : Fin 4) (j : Fin 768) : Fin 4096 → EReal := fun i => x0 (ix3 b i (⟨768 + j.val, by omega⟩ : Fin 3072))

theorem v0_at (b : Fin 4) (i : Fin 4096) (j : Fin 768) : val_main_v0 (F := Ideal) x0 (ix3 b i j) = column x0 b j i := by
  unfold val_main_v0; pointwise

/-- The padded projection. -/
theorem v1_at (b : Fin 4) (i : Fin 4098) (j : Fin 768) : val_main_v1 (F := Ideal) x0 (ix3 b i j) = padded (column x0 b j) i.val := by
  unfold val_main_v1 padded
  by_cases h : 1 ≤ i.val ∧ i.val ≤ 4096
  · rw [dif_pos h]
    refine (pad_apply_of_inside _ _ _ (val_main_v0 (F := Ideal) x0) _ _ _ (ix3 b i j) (ix3 b (⟨i.val - 1, by omega⟩ : Fin 4096) j) ?_).trans (v0_at x0 _ _ _)
    intro a
    fin_cases a
    · show b.val = 0 + b.val * 1; omega
    · show i.val = 1 + (i.val - 1) * 1; omega
    · show j.val = 0 + j.val * 1; omega
  · rw [dif_neg h]
    refine (pad_apply_of_not_inside _ _ _ (val_main_v0 (F := Ideal) x0) _ _ _ (ix3 b i j) 1 ?_).trans ?_
    · intro hc
      have h1 : 1 ≤ i.val := hc.1
      have h2 : (i.val - 1) / 1 < 4096 := hc.2.2
      omega
    · show ((((0#32 : BitVec 32).toInt : ℝ)) : EReal) = 0
      simp

/-- The convolution, before it is split. -/
theorem v26_at (b : Fin 4) (i : Fin 4096) (j : Fin 768) :
    val_main_v26 (F := Ideal) x0 x1 x2 (ix3 b i j) = conv (column x0 b j) (fun k => x1 (ix2 k j)) (x2 (ix1 j)) i := by
  have e0 : padded (column x0 b j) i.val = val_main_v1 (F := Ideal) x0 (ix3 b (⟨i.val, by omega⟩ : Fin 4098) j) := (v1_at x0 b (⟨i.val, by omega⟩ : Fin 4098) j).symm
  have e1 : padded (column x0 b j) (i.val + 1) = val_main_v1 (F := Ideal) x0 (ix3 b (⟨1 + i.val, by omega⟩ : Fin 4098) j) :=
    (congrArg (padded (column x0 b j)) (Nat.add_comm _ _)).trans (v1_at x0 b (⟨1 + i.val, by omega⟩ : Fin 4098) j).symm
  have e2 : padded (column x0 b j) (i.val + 2) = val_main_v1 (F := Ideal) x0 (ix3 b (⟨2 + i.val, by omega⟩ : Fin 4098) j) :=
    (congrArg (padded (column x0 b j)) (Nat.add_comm _ _)).trans (v1_at x0 b (⟨2 + i.val, by omega⟩ : Fin 4098) j).symm
  unfold conv
  rw [e0, e1, e2]
  unfold val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v7 val_main_v6 val_main_v5 val_main_v4 val_main_v3 val_main_v2
  generalize val_main_v1 (F := Ideal) x0 = y
  pointwise
  simp only [val_main_v8_apply, val_main_cst_apply, Scalar.ofBits, FloatOps.ofBits, zeroWord, zero_add]
  rfl

theorem v27_at (b : Fin 4) (i : Fin 4096) (j : Fin 256) :
    val_main_v27 (F := Ideal) x0 x1 x2 (ix3 b i j) = val_main_v26 (F := Ideal) x0 x1 x2 (ix3 b i (⟨j.val, by omega⟩ : Fin 768)) := by
  unfold val_main_v27; generalize val_main_v26 (F := Ideal) x0 x1 x2 = y; pointwise

theorem v28_at (b : Fin 4) (i : Fin 4096) (j : Fin 256) :
    val_main_v28 (F := Ideal) x0 x1 x2 (ix3 b i j) = val_main_v26 (F := Ideal) x0 x1 x2 (ix3 b i (⟨256 + j.val, by omega⟩ : Fin 768)) := by
  unfold val_main_v28; generalize val_main_v26 (F := Ideal) x0 x1 x2 = y; pointwise

theorem v29_at (b : Fin 4) (i : Fin 4096) (j : Fin 256) :
    val_main_v29 (F := Ideal) x0 x1 x2 (ix3 b i j) = val_main_v26 (F := Ideal) x0 x1 x2 (ix3 b i (⟨512 + j.val, by omega⟩ : Fin 768)) := by
  unfold val_main_v29; generalize val_main_v26 (F := Ideal) x0 x1 x2 = y; pointwise

end Cert.ShortRefIdeal.Rows
-- ==== Proof.ShortVal.lean ====
/- The short convolution: the three arrays the call returns are the plain reference's. -/
module

public import proofs.«01_k».proof.Proof.ShortArr
public import proofs.«01_k».proof.Proof.ShortRef
public import Idealize.ShloMosaic.Lib.StableHlo.RunClose

@[expose] public section

set_option maxRecDepth 16384

noncomputable section

namespace Cert.ShortIdeal.Rows

open Cert.ShortIdeal.Gen Cert.Short
open Idealize.ShloMosaic Idealize.ShloMosaic.TcCoe Idealize.ShloMosaic.Tactic

open Cert.ShortRefIdeal.Read (val_main_v26 val_main_v27 val_main_v28 val_main_v29)

/-- The bias as a row. -/
theorem after_main_v0 (W : Valuation τ sig (Elt Ideal)) :
    (StableHlo.after hostOps0 W (Proc.devRef .tc main_v0) : FVec Ideal S1x768 .f32)
      = shapeCast S1x768 (W (Proc.devRef .tc main_arg2) : FVec Ideal S768 .f32) shapeCasts_S768_S1x768 := by
  dsimp only [hostOps0]
  after_results_simp <;> rfl

theorem bias_at (x : FVec Ideal S768 .f32) (j : Fin 768) : shapeCast S1x768 x shapeCasts_S768_S1x768 (ix2 0 j) = x (ix1 j) :=
  shapeCast_apply x shapeCasts_S768_S1x768 (ix2 0 j) (ix1 j) (by
    rewrite [Shape.rowMajor_val_one, Shape.rowMajor_val_two]
    show j.val = 0 * 768 + j.val
    omega)

variable (m : (ℓ : Loc nD τ sig) → Buf (Elt Ideal) ℓ) (c : Dev nD)

/-- The argument arrays. -/
abbrev a0 : FVec Ideal S4x4096x3072 .f32 := m ((c : Thread nD τ).loc main_arg0)
abbrev a1 : FVec Ideal S3x768 .f32 := m ((c : Thread nD τ).loc main_arg1)
abbrev a2 : FVec Ideal S768 .f32 := m ((c : Thread nD τ).loc main_arg2)

/-- The convolution the call computes is the reference's. -/
theorem filtered_eq (b : Fin 4) (i : Fin 4096) (j : Fin 768) :
    filtered m c b i j = val_main_v26 (F := Ideal) (a0 m c) (a1 m c) (a2 m c) (ix3 b i j) := by
  have e0 : (V m c main_v0 : FVec Ideal S1x768 .f32) (ix2 0 j) = a2 m c (ix1 j) :=
    (congrFun (after_main_v0 (fun b => m (c, b))) (ix2 0 j)).trans (bias_at _ j)
  rw [Cert.ShortRefIdeal.Rows.v26_at]
  unfold filtered
  rw [e0, V_main_arg0 m c, V_main_arg1 m c]
  rfl

/-- The three results. -/
theorem result_0 : (dats m 0 c).arrAt 5 cfg0.N = val_main_v27 (F := Ideal) (a0 m c) (a1 m c) (a2 m c) := by
  rw [arr_5]
  funext y
  obtain ⟨b, i, j, rfl⟩ : ∃ b i j, y = ix3 (n0 := 4) (n1 := 4096) (n2 := 256) b i j := ⟨_, _, _, eq_ix3 y⟩
  rw [Cert.ShortRefIdeal.Rows.v27_at, ← filtered_eq]
  exact congrArg (filtered m c b i) (Fin.ext (Nat.zero_add _))

theorem result_1 : (dats m 0 c).arrAt 6 cfg0.N = val_main_v28 (F := Ideal) (a0 m c) (a1 m c) (a2 m c) := by
  rw [arr_6]
  funext y
  obtain ⟨b, i, j, rfl⟩ : ∃ b i j, y = ix3 (n0 := 4) (n1 := 4096) (n2 := 256) b i j := ⟨_, _, _, eq_ix3 y⟩
  rw [Cert.ShortRefIdeal.Rows.v28_at, ← filtered_eq]
  rfl

theorem result_2 : (dats m 0 c).arrAt 7 cfg0.N = val_main_v29 (F := Ideal) (a0 m c) (a1 m c) (a2 m c) := by
  rw [arr_7]
  funext y
  obtain ⟨b, i, j, rfl⟩ : ∃ b i j, y = ix3 (n0 := 4) (n1 := 4096) (n2 := 256) b i j := ⟨_, _, _, eq_ix3 y⟩
  rw [Cert.ShortRefIdeal.Rows.v29_at, ← filtered_eq]
  rfl

end Cert.ShortIdeal.Rows
-- ==== Proof.ShortClaims.lean ====
/- The claims about the short convolution, assembled. -/
module

public import proofs.«01_k».proof.Defs
public import proofs.«01_k».proof.Proof.Gen.Short.Frame
public import proofs.«01_k».proof.Proof.Gen.ShortIdeal.Frame
public import proofs.«01_k».proof.Proof.Gen.ShortRefIdeal.Run
public import proofs.«01_k».proof.Proof.ShortVal
public import proofs.«01_k».proof.Proof.Gen.ShortIdeal.Value
public import Idealize.ShloMosaic.Lib.Quiescent
public import Idealize.ShloMosaic.Lib.Claim

@[expose] public section

set_option maxRecDepth 16384

noncomputable section

namespace Cert.Short.Claims

open Idealize.ShloMosaic Idealize.SL.Sem Idealize.ShloMosaic.TcCoe

theorem frame_kernel : Cert.quiescent_Short := fun m ρ _ => Cert.Short.Gen.frame m ρ

theorem frame_ideal : Cert.quiescent_ShortIdeal := fun m ρ _ => Cert.ShortIdeal.Gen.frame m ρ

theorem frame_ref : Cert.quiescent_ShortRefIdeal := fun m ρ _ =>
  (θ_run Cert.ShortRefIdeal.defs _ _).mono (fun r h => ⟨fun c => (h.1 c).2.2.2, h.2⟩)
    (θ_run_and (Cert.ShortRefIdeal.Value.run m ρ) ((θ_run Cert.ShortRefIdeal.defs _ _).mono (fun r _ => sem_eq_zero_of_no_sems (by decide) r.2) (Cert.ShortRefIdeal.Value.run m ρ)))

theorem preserves : Cert.preserves_Short_ShortIdeal := trivial

theorem algebraic : Cert.algebraic_ShortIdeal_ShortRefIdeal := by
  intro m g m' g' _ hargs
  refine ⟨fun c => Cert.ShortRefIdeal.Read.val_main_v27 (F := Ideal) (Cert.ShortIdeal.Rows.a0 m c) (Cert.ShortIdeal.Rows.a1 m c) (Cert.ShortIdeal.Rows.a2 m c),
    fun c => Cert.ShortRefIdeal.Read.val_main_v28 (F := Ideal) (Cert.ShortIdeal.Rows.a0 m c) (Cert.ShortIdeal.Rows.a1 m c) (Cert.ShortIdeal.Rows.a2 m c),
    fun c => Cert.ShortRefIdeal.Read.val_main_v29 (F := Ideal) (Cert.ShortIdeal.Rows.a0 m c) (Cert.ShortIdeal.Rows.a1 m c) (Cert.ShortIdeal.Rows.a2 m c), ?_, ?_⟩
  · exact (θ_run Cert.ShortIdeal.defs _ _).mono (fun _ h c =>
        ⟨(h c).1.trans (Cert.ShortIdeal.Rows.result_0 m c), (h c).2.1.trans (Cert.ShortIdeal.Rows.result_1 m c),
          (h c).2.2.1.trans (Cert.ShortIdeal.Rows.result_2 m c), (h c).2.2.2⟩)
      (Cert.ShortIdeal.Value.run_blocks m g)
  · refine (θ_run Cert.ShortRefIdeal.defs _ _).mono (fun _ h c => ⟨(h c).1.trans ?_, (h c).2.1.trans ?_, (h c).2.2.1.trans ?_, (h c).2.2.2⟩) (Cert.ShortRefIdeal.Value.run m' g')
    · obtain ⟨e0, e1, e2⟩ := hargs c
      rw [Cert.ShortRefIdeal.Read.val_main_v27_eq, e0, e1, e2]
    · obtain ⟨e0, e1, e2⟩ := hargs c
      rw [Cert.ShortRefIdeal.Read.val_main_v28_eq, e0, e1, e2]
    · obtain ⟨e0, e1, e2⟩ := hargs c
      rw [Cert.ShortRefIdeal.Read.val_main_v29_eq, e0, e1, e2]

end Cert.Short.Claims
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Read
public import proofs.«01_k».proof.Proof.Gen.Pre_finite
public import proofs.«01_k».proof.Proof.Gen.KernelIdeal.Frame
public import proofs.«01_k».proof.Proof.Gen.Tail
public import proofs.«01_k».proof.Proof.Gen.Tail.Frame
public import proofs.«01_k».proof.Proof.Gen.TailIdeal
public import proofs.«01_k».proof.Proof.Gen.TailIdeal.Frame
public import proofs.«01_k».proof.Proof.Gen.TailRefIdeal
public import proofs.«01_k».proof.Proof.Gen.TailRefIdeal.Run
public import proofs.«01_k».proof.Proof.Gen.TailRefIdeal.Read
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Points
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Prompt
public import proofs.«01_k».proof.Proof.Gen.Prompt.Frame
public import proofs.«01_k».proof.Proof.Gen.PromptIdeal
public import proofs.«01_k».proof.Proof.Gen.PromptIdeal.Frame
public import proofs.«01_k».proof.Proof.Gen.PromptRefIdeal
public import proofs.«01_k».proof.Proof.Gen.PromptRefIdeal.Run
public import proofs.«01_k».proof.Proof.Gen.PromptRefIdeal.Read
public import proofs.«01_k».proof.Proof.Gen.PromptIdeal.Points
public import proofs.«01_k».proof.Proof.Gen.Rope
public import proofs.«01_k».proof.Proof.Gen.Rope.Frame
public import proofs.«01_k».proof.Proof.Gen.RopeIdeal
public import proofs.«01_k».proof.Proof.Gen.RopeIdeal.Frame
public import proofs.«01_k».proof.Proof.Gen.RopeIdeal.Points
public import proofs.«01_k».proof.Proof.Gen.RopeIdeal.Value
public import proofs.«01_k».proof.Proof.Gen.RopeRefIdeal
public import proofs.«01_k».proof.Proof.Gen.RopeRefIdeal.Run
public import proofs.«01_k».proof.Proof.Gen.RopeRefIdeal.Read
public import proofs.«01_k».proof.Proof.Gen.Mod
public import proofs.«01_k».proof.Proof.Gen.Mod.Frame
public import proofs.«01_k».proof.Proof.Gen.ModIdeal
public import proofs.«01_k».proof.Proof.Gen.ModIdeal.Frame
public import proofs.«01_k».proof.Proof.Gen.ModIdeal.Points
public import proofs.«01_k».proof.Proof.Gen.ModRefIdeal
public import proofs.«01_k».proof.Proof.Gen.ModRefIdeal.Run
public import proofs.«01_k».proof.Proof.Gen.ModRefIdeal.Read
public import proofs.«01_k».proof.Proof.Gen.Short
public import proofs.«01_k».proof.Proof.Gen.Short.Frame
public import proofs.«01_k».proof.Proof.Gen.ShortIdeal
public import proofs.«01_k».proof.Proof.Gen.ShortIdeal.Frame
public import proofs.«01_k».proof.Proof.Gen.ShortIdeal.Points
public import proofs.«01_k».proof.Proof.Gen.ShortIdeal.Value
public import proofs.«01_k».proof.Proof.Gen.ShortRefIdeal
public import proofs.«01_k».proof.Proof.Gen.ShortRefIdeal.Run
public import proofs.«01_k».proof.Proof.Gen.ShortRefIdeal.Read
public import proofs.«01_k».proof.Proof.Attention
public import proofs.«01_k».proof.Proof.TailClaims
public import proofs.«01_k».proof.Proof.ProjClaims
public import proofs.«01_k».proof.Proof.PromptClaims
public import proofs.«01_k».proof.Proof.RopeClaims
public import proofs.«01_k».proof.Proof.ModClaims
public import proofs.«01_k».proof.Proof.ShortClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Tail.Gen.facts,
  Cert.TailIdeal.Gen.facts, Cert.TailRefIdeal.Gen.facts, Cert.Proj.Gen.facts, Cert.ProjIdeal.Gen.facts, Cert.ProjRefIdeal.Gen.facts,
  Cert.Prompt.Gen.facts, Cert.PromptIdeal.Gen.facts, Cert.PromptRefIdeal.Gen.facts,
  Cert.Rope.Gen.facts, Cert.RopeIdeal.Gen.facts, Cert.RopeRefIdeal.Gen.facts,
  Cert.Mod.Gen.facts, Cert.ModIdeal.Gen.facts, Cert.ModRefIdeal.Gen.facts,
  Cert.Short.Gen.facts, Cert.ShortIdeal.Gen.facts, Cert.ShortRefIdeal.Gen.facts,
  Cert.Pre_finite.Gen.facts,
  Cert.Attn.frame_kernel, Cert.Attn.frame_ideal, Cert.Attn.frame_ideal_pre, Cert.Attn.frame_ref, Cert.Attn.frame_ref_pre,
  Cert.Tail.Claims.frame_kernel, Cert.Tail.Claims.frame_ideal, Cert.Tail.Claims.frame_ref,
  Cert.Proj.Claims.frame_kernel, Cert.Proj.Claims.frame_ideal, Cert.Proj.Claims.frame_ref,
  Cert.Prompt.Claims.frame_kernel, Cert.Prompt.Claims.frame_ideal, Cert.Prompt.Claims.frame_ref,
  Cert.Rope.Claims.frame_kernel, Cert.Rope.Claims.frame_ideal, Cert.Rope.Claims.frame_ref,
  Cert.Mod.Claims.frame_kernel, Cert.Mod.Claims.frame_ideal, Cert.Mod.Claims.frame_ref,
  Cert.Short.Claims.frame_kernel, Cert.Short.Claims.frame_ideal, Cert.Short.Claims.frame_ref,
  Cert.Attn.preserves, Cert.Attn.algebraic, Cert.Tail.Claims.preserves, Cert.Tail.Claims.algebraic,
  Cert.Proj.Claims.preserves, Cert.Proj.Claims.algebraic,
  Cert.Prompt.Claims.preserves, Cert.Prompt.Claims.algebraic,
  Cert.Rope.Claims.preserves, Cert.Rope.Claims.algebraic,
  Cert.Mod.Claims.preserves, Cert.Mod.Claims.algebraic,
  Cert.Short.Claims.preserves, Cert.Short.Claims.algebraic⟩

end Cert.Proof

end
